-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_RmsBwdKernel (m : (ℓ : Loc Cert.RmsBwdKernel.nD Cert.RmsBwdKernel.τ Cert.RmsBwdKernel.sig) → Buf (Elt Bits) ℓ) : Prop :=
  True

def Pre_RmsBwdKernelIdeal (m : (ℓ : Loc Cert.RmsBwdKernelIdeal.nD Cert.RmsBwdKernelIdeal.τ Cert.RmsBwdKernelIdeal.sig) → Buf (Elt Ideal) ℓ) : Prop :=
  True

def Pre_RmsBwdKernelIdeal_finite_rmsbwd [hPre_finite_rmsbwd : Cert.Pre_finite_rmsbwd.Facts] (m : (ℓ : Loc Cert.RmsBwdKernelIdeal.nD Cert.RmsBwdKernelIdeal.τ Cert.RmsBwdKernelIdeal.sig) → Buf (Elt Ideal) ℓ) : Prop :=
  ∀ c : Dev Cert.RmsBwdKernelIdeal.nD,
    (Cert.Pre_finite_rmsbwd.fn (F := Ideal) (m ((c.tc : Thread Cert.RmsBwdKernelIdeal.nD Cert.RmsBwdKernelIdeal.τ).loc Cert.RmsBwdKernelIdeal.main_arg0)) (m ((c.tc : Thread Cert.RmsBwdKernelIdeal.nD Cert.RmsBwdKernelIdeal.τ).loc Cert.RmsBwdKernelIdeal.main_arg1)) (m ((c.tc : Thread Cert.RmsBwdKernelIdeal.nD Cert.RmsBwdKernelIdeal.τ).loc Cert.RmsBwdKernelIdeal.main_arg2)) (m ((c.tc : Thread Cert.RmsBwdKernelIdeal.nD Cert.RmsBwdKernelIdeal.τ).loc Cert.RmsBwdKernelIdeal.main_arg3))) = (fun _ => 1#1)

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_RmsBwdReferenceIdeal_finite_rmsbwd [hPre_finite_rmsbwd : Cert.Pre_finite_rmsbwd.Facts] (m : (ℓ : Loc Cert.RmsBwdReferenceIdeal.nD Cert.RmsBwdReferenceIdeal.τ Cert.RmsBwdReferenceIdeal.sig) → Buf (Elt Ideal) ℓ) : Prop :=
  ∀ c : Dev Cert.RmsBwdReferenceIdeal.nD,
    (Cert.Pre_finite_rmsbwd.fn (F := Ideal) (m ((c.tc : Thread Cert.RmsBwdReferenceIdeal.nD Cert.RmsBwdReferenceIdeal.τ).loc Cert.RmsBwdReferenceIdeal.main_arg0)) (m ((c.tc : Thread Cert.RmsBwdReferenceIdeal.nD Cert.RmsBwdReferenceIdeal.τ).loc Cert.RmsBwdReferenceIdeal.main_arg1)) (m ((c.tc : Thread Cert.RmsBwdReferenceIdeal.nD Cert.RmsBwdReferenceIdeal.τ).loc Cert.RmsBwdReferenceIdeal.main_arg2)) (m ((c.tc : Thread Cert.RmsBwdReferenceIdeal.nD Cert.RmsBwdReferenceIdeal.τ).loc Cert.RmsBwdReferenceIdeal.main_arg3))) = (fun _ => 1#1)

def Pre_ConvFfnKernel (m : (ℓ : Loc Cert.ConvFfnKernel.nD Cert.ConvFfnKernel.τ Cert.ConvFfnKernel.sig) → Buf (Elt Bits) ℓ) : Prop :=
  True

def Pre_ConvFfnKernelIdeal (m : (ℓ : Loc Cert.ConvFfnKernelIdeal.nD Cert.ConvFfnKernelIdeal.τ Cert.ConvFfnKernelIdeal.sig) → Buf (Elt Ideal) ℓ) : Prop :=
  True

def Pre_ConvFfnReferenceIdeal (m : (ℓ : Loc Cert.ConvFfnReferenceIdeal.nD Cert.ConvFfnReferenceIdeal.τ Cert.ConvFfnReferenceIdeal.sig) → Buf (Elt Ideal) ℓ) : Prop :=
  True

def Pre_ConvQkvKernel (m : (ℓ : Loc Cert.ConvQkvKernel.nD Cert.ConvQkvKernel.τ Cert.ConvQkvKernel.sig) → Buf (Elt Bits) ℓ) : Prop :=
  True

def Pre_ConvQkvKernelIdeal (m : (ℓ : Loc Cert.ConvQkvKernelIdeal.nD Cert.ConvQkvKernelIdeal.τ Cert.ConvQkvKernelIdeal.sig) → Buf (Elt Ideal) ℓ) : Prop :=
  True

def Pre_ConvQkvReferenceIdeal (m : (ℓ : Loc Cert.ConvQkvReferenceIdeal.nD Cert.ConvQkvReferenceIdeal.τ Cert.ConvQkvReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalKernelIdeal_finite_final [hPre_finite_final : Cert.Pre_finite_final.Facts] (m : (ℓ : Loc Cert.FinalKernelIdeal.nD Cert.FinalKernelIdeal.τ Cert.FinalKernelIdeal.sig) → Buf (Elt Ideal) ℓ) : Prop :=
  ∀ c : Dev Cert.FinalKernelIdeal.nD,
    (Cert.Pre_finite_final.fn (F := Ideal) (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2))) = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_finite_final [hPre_finite_final : Cert.Pre_finite_final.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_finite_final.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2))) = (fun _ => 1#1)

def Pre_RmsFwdKernel (m : (ℓ : Loc Cert.RmsFwdKernel.nD Cert.RmsFwdKernel.τ Cert.RmsFwdKernel.sig) → Buf (Elt Bits) ℓ) : Prop :=
  True

def Pre_RmsFwdKernelIdeal (m : (ℓ : Loc Cert.RmsFwdKernelIdeal.nD Cert.RmsFwdKernelIdeal.τ Cert.RmsFwdKernelIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_MixerPostKernel (m : (ℓ : Loc Cert.MixerPostKernel.nD Cert.MixerPostKernel.τ Cert.MixerPostKernel.sig) → Buf (Elt Bits) ℓ) : Prop :=
  True

def Pre_MixerPostKernelIdeal (m : (ℓ : Loc Cert.MixerPostKernelIdeal.nD Cert.MixerPostKernelIdeal.τ Cert.MixerPostKernelIdeal.sig) → Buf (Elt Ideal) ℓ) : Prop :=
  True

def Pre_MixerPostReferenceIdeal (m : (ℓ : Loc Cert.MixerPostReferenceIdeal.nD Cert.MixerPostReferenceIdeal.τ Cert.MixerPostReferenceIdeal.sig) → Buf (Elt Ideal) ℓ) : Prop :=
  True

def Pre_PoolTKernel (m : (ℓ : Loc Cert.PoolTKernel.nD Cert.PoolTKernel.τ Cert.PoolTKernel.sig) → Buf (Elt Bits) ℓ) : Prop :=
  True

def Pre_PoolTKernelIdeal (m : (ℓ : Loc Cert.PoolTKernelIdeal.nD Cert.PoolTKernelIdeal.τ Cert.PoolTKernelIdeal.sig) → Buf (Elt Ideal) ℓ) : Prop :=
  True

def Pre_PoolTReferenceIdeal (m : (ℓ : Loc Cert.PoolTReferenceIdeal.nD Cert.PoolTReferenceIdeal.τ Cert.PoolTReferenceIdeal.sig) → Buf (Elt Ideal) ℓ) : Prop :=
  True

def Pre_FfnActKernel (m : (ℓ : Loc Cert.FfnActKernel.nD Cert.FfnActKernel.τ Cert.FfnActKernel.sig) → Buf (Elt Bits) ℓ) : Prop :=
  True

def Pre_FfnActKernelIdeal (m : (ℓ : Loc Cert.FfnActKernelIdeal.nD Cert.FfnActKernelIdeal.τ Cert.FfnActKernelIdeal.sig) → Buf (Elt Ideal) ℓ) : Prop :=
  True

def Pre_FfnActReferenceIdeal (m : (ℓ : Loc Cert.FfnActReferenceIdeal.nD Cert.FfnActReferenceIdeal.τ Cert.FfnActReferenceIdeal.sig) → Buf (Elt Ideal) ℓ) : Prop :=
  True

def Pre_FfnActBwdKernel (m : (ℓ : Loc Cert.FfnActBwdKernel.nD Cert.FfnActBwdKernel.τ Cert.FfnActBwdKernel.sig) → Buf (Elt Bits) ℓ) : Prop :=
  True

def Pre_FfnActBwdKernelIdeal (m : (ℓ : Loc Cert.FfnActBwdKernelIdeal.nD Cert.FfnActBwdKernelIdeal.τ Cert.FfnActBwdKernelIdeal.sig) → Buf (Elt Ideal) ℓ) : Prop :=
  True

def Pre_FfnActBwdKernelIdeal_finite_ffnactbwd [hPre_finite_ffnactbwd : Cert.Pre_finite_ffnactbwd.Facts] (m : (ℓ : Loc Cert.FfnActBwdKernelIdeal.nD Cert.FfnActBwdKernelIdeal.τ Cert.FfnActBwdKernelIdeal.sig) → Buf (Elt Ideal) ℓ) : Prop :=
  ∀ c : Dev Cert.FfnActBwdKernelIdeal.nD,
    (Cert.Pre_finite_ffnactbwd.fn (F := Ideal) (m ((c.tc : Thread Cert.FfnActBwdKernelIdeal.nD Cert.FfnActBwdKernelIdeal.τ).loc Cert.FfnActBwdKernelIdeal.main_arg0)) (m ((c.tc : Thread Cert.FfnActBwdKernelIdeal.nD Cert.FfnActBwdKernelIdeal.τ).loc Cert.FfnActBwdKernelIdeal.main_arg1)) (m ((c.tc : Thread Cert.FfnActBwdKernelIdeal.nD Cert.FfnActBwdKernelIdeal.τ).loc Cert.FfnActBwdKernelIdeal.main_arg2))) = (fun _ => 1#1)

def Pre_FfnActBwdReferenceIdeal (m : (ℓ : Loc Cert.FfnActBwdReferenceIdeal.nD Cert.FfnActBwdReferenceIdeal.τ Cert.FfnActBwdReferenceIdeal.sig) → Buf (Elt Ideal) ℓ) : Prop :=
  True

def Pre_FfnActBwdReferenceIdeal_finite_ffnactbwd [hPre_finite_ffnactbwd : Cert.Pre_finite_ffnactbwd.Facts] (m : (ℓ : Loc Cert.FfnActBwdReferenceIdeal.nD Cert.FfnActBwdReferenceIdeal.τ Cert.FfnActBwdReferenceIdeal.sig) → Buf (Elt Ideal) ℓ) : Prop :=
  ∀ c : Dev Cert.FfnActBwdReferenceIdeal.nD,
    (Cert.Pre_finite_ffnactbwd.fn (F := Ideal) (m ((c.tc : Thread Cert.FfnActBwdReferenceIdeal.nD Cert.FfnActBwdReferenceIdeal.τ).loc Cert.FfnActBwdReferenceIdeal.main_arg0)) (m ((c.tc : Thread Cert.FfnActBwdReferenceIdeal.nD Cert.FfnActBwdReferenceIdeal.τ).loc Cert.FfnActBwdReferenceIdeal.main_arg1)) (m ((c.tc : Thread Cert.FfnActBwdReferenceIdeal.nD Cert.FfnActBwdReferenceIdeal.τ).loc Cert.FfnActBwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_RmsBwdKernel [hRmsBwdKernel : Cert.RmsBwdKernel.Facts] : Prop :=
  ∀ (m : (ℓ : Loc Cert.RmsBwdKernel.nD Cert.RmsBwdKernel.τ Cert.RmsBwdKernel.sig) → Buf (Elt Bits) ℓ) (g : Dev Cert.RmsBwdKernel.nD → PrngReg), Pre_RmsBwdKernel m →
    θ_run (Cert.RmsBwdKernel.defs (F := Bits)) (onTc (τ := Cert.RmsBwdKernel.τ) (Cert.RmsBwdKernel.main (F := Bits))) ⟨m, fun _ => 0, g⟩ (fun r => (∀ c : Dev Cert.RmsBwdKernel.nD,
      r.2.mem ((c.tc : Thread Cert.RmsBwdKernel.nD Cert.RmsBwdKernel.τ).loc Cert.RmsBwdKernel.main_arg0) = m ((c.tc : Thread Cert.RmsBwdKernel.nD Cert.RmsBwdKernel.τ).loc Cert.RmsBwdKernel.main_arg0)
      ∧ r.2.mem ((c.tc : Thread Cert.RmsBwdKernel.nD Cert.RmsBwdKernel.τ).loc Cert.RmsBwdKernel.main_arg1) = m ((c.tc : Thread Cert.RmsBwdKernel.nD Cert.RmsBwdKernel.τ).loc Cert.RmsBwdKernel.main_arg1)
      ∧ r.2.mem ((c.tc : Thread Cert.RmsBwdKernel.nD Cert.RmsBwdKernel.τ).loc Cert.RmsBwdKernel.main_arg2) = m ((c.tc : Thread Cert.RmsBwdKernel.nD Cert.RmsBwdKernel.τ).loc Cert.RmsBwdKernel.main_arg2)
      ∧ r.2.mem ((c.tc : Thread Cert.RmsBwdKernel.nD Cert.RmsBwdKernel.τ).loc Cert.RmsBwdKernel.main_arg3) = m ((c.tc : Thread Cert.RmsBwdKernel.nD Cert.RmsBwdKernel.τ).loc Cert.RmsBwdKernel.main_arg3))
      ∧ r.2.sem = fun _ => 0)

def quiescent_RmsBwdKernelIdeal [hRmsBwdKernelIdeal : Cert.RmsBwdKernelIdeal.Facts] : Prop :=
  ∀ (m : (ℓ : Loc Cert.RmsBwdKernelIdeal.nD Cert.RmsBwdKernelIdeal.τ Cert.RmsBwdKernelIdeal.sig) → Buf (Elt Ideal) ℓ) (g : Dev Cert.RmsBwdKernelIdeal.nD → PrngReg), Pre_RmsBwdKernelIdeal m →
    θ_run (Cert.RmsBwdKernelIdeal.defs (F := Ideal)) (onTc (τ := Cert.RmsBwdKernelIdeal.τ) (Cert.RmsBwdKernelIdeal.main (F := Ideal))) ⟨m, fun _ => 0, g⟩ (fun r => (∀ c : Dev Cert.RmsBwdKernelIdeal.nD,
      r.2.mem ((c.tc : Thread Cert.RmsBwdKernelIdeal.nD Cert.RmsBwdKernelIdeal.τ).loc Cert.RmsBwdKernelIdeal.main_arg0) = m ((c.tc : Thread Cert.RmsBwdKernelIdeal.nD Cert.RmsBwdKernelIdeal.τ).loc Cert.RmsBwdKernelIdeal.main_arg0)
      ∧ r.2.mem ((c.tc : Thread Cert.RmsBwdKernelIdeal.nD Cert.RmsBwdKernelIdeal.τ).loc Cert.RmsBwdKernelIdeal.main_arg1) = m ((c.tc : Thread Cert.RmsBwdKernelIdeal.nD Cert.RmsBwdKernelIdeal.τ).loc Cert.RmsBwdKernelIdeal.main_arg1)
      ∧ r.2.mem ((c.tc : Thread Cert.RmsBwdKernelIdeal.nD Cert.RmsBwdKernelIdeal.τ).loc Cert.RmsBwdKernelIdeal.main_arg2) = m ((c.tc : Thread Cert.RmsBwdKernelIdeal.nD Cert.RmsBwdKernelIdeal.τ).loc Cert.RmsBwdKernelIdeal.main_arg2)
      ∧ r.2.mem ((c.tc : Thread Cert.RmsBwdKernelIdeal.nD Cert.RmsBwdKernelIdeal.τ).loc Cert.RmsBwdKernelIdeal.main_arg3) = m ((c.tc : Thread Cert.RmsBwdKernelIdeal.nD Cert.RmsBwdKernelIdeal.τ).loc Cert.RmsBwdKernelIdeal.main_arg3))
      ∧ r.2.sem = fun _ => 0)

def quiescent_RmsBwdKernelIdeal_pre_finite_rmsbwd [hRmsBwdKernelIdeal : Cert.RmsBwdKernelIdeal.Facts] [hPre_finite_rmsbwd : Cert.Pre_finite_rmsbwd.Facts] : Prop :=
  ∀ (m : (ℓ : Loc Cert.RmsBwdKernelIdeal.nD Cert.RmsBwdKernelIdeal.τ Cert.RmsBwdKernelIdeal.sig) → Buf (Elt Ideal) ℓ) (g : Dev Cert.RmsBwdKernelIdeal.nD → PrngReg), Pre_RmsBwdKernelIdeal_finite_rmsbwd m →
    θ_run (Cert.RmsBwdKernelIdeal.defs (F := Ideal)) (onTc (τ := Cert.RmsBwdKernelIdeal.τ) (Cert.RmsBwdKernelIdeal.main (F := Ideal))) ⟨m, fun _ => 0, g⟩ (fun r => (∀ c : Dev Cert.RmsBwdKernelIdeal.nD,
      r.2.mem ((c.tc : Thread Cert.RmsBwdKernelIdeal.nD Cert.RmsBwdKernelIdeal.τ).loc Cert.RmsBwdKernelIdeal.main_arg0) = m ((c.tc : Thread Cert.RmsBwdKernelIdeal.nD Cert.RmsBwdKernelIdeal.τ).loc Cert.RmsBwdKernelIdeal.main_arg0)
      ∧ r.2.mem ((c.tc : Thread Cert.RmsBwdKernelIdeal.nD Cert.RmsBwdKernelIdeal.τ).loc Cert.RmsBwdKernelIdeal.main_arg1) = m ((c.tc : Thread Cert.RmsBwdKernelIdeal.nD Cert.RmsBwdKernelIdeal.τ).loc Cert.RmsBwdKernelIdeal.main_arg1)
      ∧ r.2.mem ((c.tc : Thread Cert.RmsBwdKernelIdeal.nD Cert.RmsBwdKernelIdeal.τ).loc Cert.RmsBwdKernelIdeal.main_arg2) = m ((c.tc : Thread Cert.RmsBwdKernelIdeal.nD Cert.RmsBwdKernelIdeal.τ).loc Cert.RmsBwdKernelIdeal.main_arg2)
      ∧ r.2.mem ((c.tc : Thread Cert.RmsBwdKernelIdeal.nD Cert.RmsBwdKernelIdeal.τ).loc Cert.RmsBwdKernelIdeal.main_arg3) = m ((c.tc : Thread Cert.RmsBwdKernelIdeal.nD Cert.RmsBwdKernelIdeal.τ).loc Cert.RmsBwdKernelIdeal.main_arg3))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_RmsBwdReferenceIdeal_pre_finite_rmsbwd [hRmsBwdReferenceIdeal : Cert.RmsBwdReferenceIdeal.Facts] [hPre_finite_rmsbwd : Cert.Pre_finite_rmsbwd.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal_finite_rmsbwd m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_ConvFfnKernel [hConvFfnKernel : Cert.ConvFfnKernel.Facts] : Prop :=
  ∀ (m : (ℓ : Loc Cert.ConvFfnKernel.nD Cert.ConvFfnKernel.τ Cert.ConvFfnKernel.sig) → Buf (Elt Bits) ℓ) (g : Dev Cert.ConvFfnKernel.nD → PrngReg), Pre_ConvFfnKernel m →
    θ_run (Cert.ConvFfnKernel.defs (F := Bits)) (onTc (τ := Cert.ConvFfnKernel.τ) (Cert.ConvFfnKernel.main (F := Bits))) ⟨m, fun _ => 0, g⟩ (fun r => (∀ c : Dev Cert.ConvFfnKernel.nD,
      r.2.mem ((c.tc : Thread Cert.ConvFfnKernel.nD Cert.ConvFfnKernel.τ).loc Cert.ConvFfnKernel.main_arg0) = m ((c.tc : Thread Cert.ConvFfnKernel.nD Cert.ConvFfnKernel.τ).loc Cert.ConvFfnKernel.main_arg0)
      ∧ r.2.mem ((c.tc : Thread Cert.ConvFfnKernel.nD Cert.ConvFfnKernel.τ).loc Cert.ConvFfnKernel.main_arg1) = m ((c.tc : Thread Cert.ConvFfnKernel.nD Cert.ConvFfnKernel.τ).loc Cert.ConvFfnKernel.main_arg1))
      ∧ r.2.sem = fun _ => 0)

def quiescent_ConvFfnKernelIdeal [hConvFfnKernelIdeal : Cert.ConvFfnKernelIdeal.Facts] : Prop :=
  ∀ (m : (ℓ : Loc Cert.ConvFfnKernelIdeal.nD Cert.ConvFfnKernelIdeal.τ Cert.ConvFfnKernelIdeal.sig) → Buf (Elt Ideal) ℓ) (g : Dev Cert.ConvFfnKernelIdeal.nD → PrngReg), Pre_ConvFfnKernelIdeal m →
    θ_run (Cert.ConvFfnKernelIdeal.defs (F := Ideal)) (onTc (τ := Cert.ConvFfnKernelIdeal.τ) (Cert.ConvFfnKernelIdeal.main (F := Ideal))) ⟨m, fun _ => 0, g⟩ (fun r => (∀ c : Dev Cert.ConvFfnKernelIdeal.nD,
      r.2.mem ((c.tc : Thread Cert.ConvFfnKernelIdeal.nD Cert.ConvFfnKernelIdeal.τ).loc Cert.ConvFfnKernelIdeal.main_arg0) = m ((c.tc : Thread Cert.ConvFfnKernelIdeal.nD Cert.ConvFfnKernelIdeal.τ).loc Cert.ConvFfnKernelIdeal.main_arg0)
      ∧ r.2.mem ((c.tc : Thread Cert.ConvFfnKernelIdeal.nD Cert.ConvFfnKernelIdeal.τ).loc Cert.ConvFfnKernelIdeal.main_arg1) = m ((c.tc : Thread Cert.ConvFfnKernelIdeal.nD Cert.ConvFfnKernelIdeal.τ).loc Cert.ConvFfnKernelIdeal.main_arg1))
      ∧ r.2.sem = fun _ => 0)

def quiescent_ConvFfnReferenceIdeal [hConvFfnReferenceIdeal : Cert.ConvFfnReferenceIdeal.Facts] : Prop :=
  ∀ (m : (ℓ : Loc Cert.ConvFfnReferenceIdeal.nD Cert.ConvFfnReferenceIdeal.τ Cert.ConvFfnReferenceIdeal.sig) → Buf (Elt Ideal) ℓ) (g : Dev Cert.ConvFfnReferenceIdeal.nD → PrngReg), Pre_ConvFfnReferenceIdeal m →
    θ_run (Cert.ConvFfnReferenceIdeal.defs (F := Ideal)) (onTc (τ := Cert.ConvFfnReferenceIdeal.τ) (Cert.ConvFfnReferenceIdeal.main (F := Ideal))) ⟨m, fun _ => 0, g⟩ (fun r => (∀ c : Dev Cert.ConvFfnReferenceIdeal.nD,
      r.2.mem ((c.tc : Thread Cert.ConvFfnReferenceIdeal.nD Cert.ConvFfnReferenceIdeal.τ).loc Cert.ConvFfnReferenceIdeal.main_arg0) = m ((c.tc : Thread Cert.ConvFfnReferenceIdeal.nD Cert.ConvFfnReferenceIdeal.τ).loc Cert.ConvFfnReferenceIdeal.main_arg0)
      ∧ r.2.mem ((c.tc : Thread Cert.ConvFfnReferenceIdeal.nD Cert.ConvFfnReferenceIdeal.τ).loc Cert.ConvFfnReferenceIdeal.main_arg1) = m ((c.tc : Thread Cert.ConvFfnReferenceIdeal.nD Cert.ConvFfnReferenceIdeal.τ).loc Cert.ConvFfnReferenceIdeal.main_arg1))
      ∧ r.2.sem = fun _ => 0)

def quiescent_ConvQkvKernel [hConvQkvKernel : Cert.ConvQkvKernel.Facts] : Prop :=
  ∀ (m : (ℓ : Loc Cert.ConvQkvKernel.nD Cert.ConvQkvKernel.τ Cert.ConvQkvKernel.sig) → Buf (Elt Bits) ℓ) (g : Dev Cert.ConvQkvKernel.nD → PrngReg), Pre_ConvQkvKernel m →
    θ_run (Cert.ConvQkvKernel.defs (F := Bits)) (onTc (τ := Cert.ConvQkvKernel.τ) (Cert.ConvQkvKernel.main (F := Bits))) ⟨m, fun _ => 0, g⟩ (fun r => (∀ c : Dev Cert.ConvQkvKernel.nD,
      r.2.mem ((c.tc : Thread Cert.ConvQkvKernel.nD Cert.ConvQkvKernel.τ).loc Cert.ConvQkvKernel.main_arg0) = m ((c.tc : Thread Cert.ConvQkvKernel.nD Cert.ConvQkvKernel.τ).loc Cert.ConvQkvKernel.main_arg0)
      ∧ r.2.mem ((c.tc : Thread Cert.ConvQkvKernel.nD Cert.ConvQkvKernel.τ).loc Cert.ConvQkvKernel.main_arg1) = m ((c.tc : Thread Cert.ConvQkvKernel.nD Cert.ConvQkvKernel.τ).loc Cert.ConvQkvKernel.main_arg1))
      ∧ r.2.sem = fun _ => 0)

def quiescent_ConvQkvKernelIdeal [hConvQkvKernelIdeal : Cert.ConvQkvKernelIdeal.Facts] : Prop :=
  ∀ (m : (ℓ : Loc Cert.ConvQkvKernelIdeal.nD Cert.ConvQkvKernelIdeal.τ Cert.ConvQkvKernelIdeal.sig) → Buf (Elt Ideal) ℓ) (g : Dev Cert.ConvQkvKernelIdeal.nD → PrngReg), Pre_ConvQkvKernelIdeal m →
    θ_run (Cert.ConvQkvKernelIdeal.defs (F := Ideal)) (onTc (τ := Cert.ConvQkvKernelIdeal.τ) (Cert.ConvQkvKernelIdeal.main (F := Ideal))) ⟨m, fun _ => 0, g⟩ (fun r => (∀ c : Dev Cert.ConvQkvKernelIdeal.nD,
      r.2.mem ((c.tc : Thread Cert.ConvQkvKernelIdeal.nD Cert.ConvQkvKernelIdeal.τ).loc Cert.ConvQkvKernelIdeal.main_arg0) = m ((c.tc : Thread Cert.ConvQkvKernelIdeal.nD Cert.ConvQkvKernelIdeal.τ).loc Cert.ConvQkvKernelIdeal.main_arg0)
      ∧ r.2.mem ((c.tc : Thread Cert.ConvQkvKernelIdeal.nD Cert.ConvQkvKernelIdeal.τ).loc Cert.ConvQkvKernelIdeal.main_arg1) = m ((c.tc : Thread Cert.ConvQkvKernelIdeal.nD Cert.ConvQkvKernelIdeal.τ).loc Cert.ConvQkvKernelIdeal.main_arg1))
      ∧ r.2.sem = fun _ => 0)

def quiescent_ConvQkvReferenceIdeal [hConvQkvReferenceIdeal : Cert.ConvQkvReferenceIdeal.Facts] : Prop :=
  ∀ (m : (ℓ : Loc Cert.ConvQkvReferenceIdeal.nD Cert.ConvQkvReferenceIdeal.τ Cert.ConvQkvReferenceIdeal.sig) → Buf (Elt Ideal) ℓ) (g : Dev Cert.ConvQkvReferenceIdeal.nD → PrngReg), Pre_ConvQkvReferenceIdeal m →
    θ_run (Cert.ConvQkvReferenceIdeal.defs (F := Ideal)) (onTc (τ := Cert.ConvQkvReferenceIdeal.τ) (Cert.ConvQkvReferenceIdeal.main (F := Ideal))) ⟨m, fun _ => 0, g⟩ (fun r => (∀ c : Dev Cert.ConvQkvReferenceIdeal.nD,
      r.2.mem ((c.tc : Thread Cert.ConvQkvReferenceIdeal.nD Cert.ConvQkvReferenceIdeal.τ).loc Cert.ConvQkvReferenceIdeal.main_arg0) = m ((c.tc : Thread Cert.ConvQkvReferenceIdeal.nD Cert.ConvQkvReferenceIdeal.τ).loc Cert.ConvQkvReferenceIdeal.main_arg0)
      ∧ r.2.mem ((c.tc : Thread Cert.ConvQkvReferenceIdeal.nD Cert.ConvQkvReferenceIdeal.τ).loc Cert.ConvQkvReferenceIdeal.main_arg1) = m ((c.tc : Thread Cert.ConvQkvReferenceIdeal.nD Cert.ConvQkvReferenceIdeal.τ).loc Cert.ConvQkvReferenceIdeal.main_arg1))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ r.2.sem = fun _ => 0)

def quiescent_FinalKernelIdeal_pre_finite_final [hFinalKernelIdeal : Cert.FinalKernelIdeal.Facts] [hPre_finite_final : Cert.Pre_finite_final.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal_finite_final m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_FinalReferenceIdeal_pre_finite_final [hFinalReferenceIdeal : Cert.FinalReferenceIdeal.Facts] [hPre_finite_final : Cert.Pre_finite_final.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_finite_final m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_RmsFwdKernel [hRmsFwdKernel : Cert.RmsFwdKernel.Facts] : Prop :=
  ∀ (m : (ℓ : Loc Cert.RmsFwdKernel.nD Cert.RmsFwdKernel.τ Cert.RmsFwdKernel.sig) → Buf (Elt Bits) ℓ) (g : Dev Cert.RmsFwdKernel.nD → PrngReg), Pre_RmsFwdKernel m →
    θ_run (Cert.RmsFwdKernel.defs (F := Bits)) (onTc (τ := Cert.RmsFwdKernel.τ) (Cert.RmsFwdKernel.main (F := Bits))) ⟨m, fun _ => 0, g⟩ (fun r => (∀ c : Dev Cert.RmsFwdKernel.nD,
      r.2.mem ((c.tc : Thread Cert.RmsFwdKernel.nD Cert.RmsFwdKernel.τ).loc Cert.RmsFwdKernel.main_arg0) = m ((c.tc : Thread Cert.RmsFwdKernel.nD Cert.RmsFwdKernel.τ).loc Cert.RmsFwdKernel.main_arg0)
      ∧ r.2.mem ((c.tc : Thread Cert.RmsFwdKernel.nD Cert.RmsFwdKernel.τ).loc Cert.RmsFwdKernel.main_arg1) = m ((c.tc : Thread Cert.RmsFwdKernel.nD Cert.RmsFwdKernel.τ).loc Cert.RmsFwdKernel.main_arg1))
      ∧ r.2.sem = fun _ => 0)

def quiescent_RmsFwdKernelIdeal [hRmsFwdKernelIdeal : Cert.RmsFwdKernelIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg), Pre_RmsFwdKernelIdeal m →
    θ_run (Cert.RmsFwdKernelIdeal.defs (F := Ideal)) (onTc (τ := Cert.RmsFwdKernelIdeal.τ) (Cert.RmsFwdKernelIdeal.main (F := Ideal))) ⟨m, fun _ => 0, g⟩ (fun r => (∀ c : Dev Cert.RmsFwdKernelIdeal.nD,
      r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
      ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_MixerPostKernel [hMixerPostKernel : Cert.MixerPostKernel.Facts] : Prop :=
  ∀ (m : (ℓ : Loc Cert.MixerPostKernel.nD Cert.MixerPostKernel.τ Cert.MixerPostKernel.sig) → Buf (Elt Bits) ℓ) (g : Dev Cert.MixerPostKernel.nD → PrngReg), Pre_MixerPostKernel m →
    θ_run (Cert.MixerPostKernel.defs (F := Bits)) (onTc (τ := Cert.MixerPostKernel.τ) (Cert.MixerPostKernel.main (F := Bits))) ⟨m, fun _ => 0, g⟩ (fun r => (∀ c : Dev Cert.MixerPostKernel.nD,
      r.2.mem ((c.tc : Thread Cert.MixerPostKernel.nD Cert.MixerPostKernel.τ).loc Cert.MixerPostKernel.main_arg0) = m ((c.tc : Thread Cert.MixerPostKernel.nD Cert.MixerPostKernel.τ).loc Cert.MixerPostKernel.main_arg0)
      ∧ r.2.mem ((c.tc : Thread Cert.MixerPostKernel.nD Cert.MixerPostKernel.τ).loc Cert.MixerPostKernel.main_arg1) = m ((c.tc : Thread Cert.MixerPostKernel.nD Cert.MixerPostKernel.τ).loc Cert.MixerPostKernel.main_arg1)
      ∧ r.2.mem ((c.tc : Thread Cert.MixerPostKernel.nD Cert.MixerPostKernel.τ).loc Cert.MixerPostKernel.main_arg2) = m ((c.tc : Thread Cert.MixerPostKernel.nD Cert.MixerPostKernel.τ).loc Cert.MixerPostKernel.main_arg2)
      ∧ r.2.mem ((c.tc : Thread Cert.MixerPostKernel.nD Cert.MixerPostKernel.τ).loc Cert.MixerPostKernel.main_arg3) = m ((c.tc : Thread Cert.MixerPostKernel.nD Cert.MixerPostKernel.τ).loc Cert.MixerPostKernel.main_arg3)
      ∧ r.2.mem ((c.tc : Thread Cert.MixerPostKernel.nD Cert.MixerPostKernel.τ).loc Cert.MixerPostKernel.main_arg4) = m ((c.tc : Thread Cert.MixerPostKernel.nD Cert.MixerPostKernel.τ).loc Cert.MixerPostKernel.main_arg4)
      ∧ r.2.mem ((c.tc : Thread Cert.MixerPostKernel.nD Cert.MixerPostKernel.τ).loc Cert.MixerPostKernel.main_arg5) = m ((c.tc : Thread Cert.MixerPostKernel.nD Cert.MixerPostKernel.τ).loc Cert.MixerPostKernel.main_arg5)
      ∧ r.2.mem ((c.tc : Thread Cert.MixerPostKernel.nD Cert.MixerPostKernel.τ).loc Cert.MixerPostKernel.main_arg6) = m ((c.tc : Thread Cert.MixerPostKernel.nD Cert.MixerPostKernel.τ).loc Cert.MixerPostKernel.main_arg6))
      ∧ r.2.sem = fun _ => 0)

def quiescent_MixerPostKernelIdeal [hMixerPostKernelIdeal : Cert.MixerPostKernelIdeal.Facts] : Prop :=
  ∀ (m : (ℓ : Loc Cert.MixerPostKernelIdeal.nD Cert.MixerPostKernelIdeal.τ Cert.MixerPostKernelIdeal.sig) → Buf (Elt Ideal) ℓ) (g : Dev Cert.MixerPostKernelIdeal.nD → PrngReg), Pre_MixerPostKernelIdeal m →
    θ_run (Cert.MixerPostKernelIdeal.defs (F := Ideal)) (onTc (τ := Cert.MixerPostKernelIdeal.τ) (Cert.MixerPostKernelIdeal.main (F := Ideal))) ⟨m, fun _ => 0, g⟩ (fun r => (∀ c : Dev Cert.MixerPostKernelIdeal.nD,
      r.2.mem ((c.tc : Thread Cert.MixerPostKernelIdeal.nD Cert.MixerPostKernelIdeal.τ).loc Cert.MixerPostKernelIdeal.main_arg0) = m ((c.tc : Thread Cert.MixerPostKernelIdeal.nD Cert.MixerPostKernelIdeal.τ).loc Cert.MixerPostKernelIdeal.main_arg0)
      ∧ r.2.mem ((c.tc : Thread Cert.MixerPostKernelIdeal.nD Cert.MixerPostKernelIdeal.τ).loc Cert.MixerPostKernelIdeal.main_arg1) = m ((c.tc : Thread Cert.MixerPostKernelIdeal.nD Cert.MixerPostKernelIdeal.τ).loc Cert.MixerPostKernelIdeal.main_arg1)
      ∧ r.2.mem ((c.tc : Thread Cert.MixerPostKernelIdeal.nD Cert.MixerPostKernelIdeal.τ).loc Cert.MixerPostKernelIdeal.main_arg2) = m ((c.tc : Thread Cert.MixerPostKernelIdeal.nD Cert.MixerPostKernelIdeal.τ).loc Cert.MixerPostKernelIdeal.main_arg2)
      ∧ r.2.mem ((c.tc : Thread Cert.MixerPostKernelIdeal.nD Cert.MixerPostKernelIdeal.τ).loc Cert.MixerPostKernelIdeal.main_arg3) = m ((c.tc : Thread Cert.MixerPostKernelIdeal.nD Cert.MixerPostKernelIdeal.τ).loc Cert.MixerPostKernelIdeal.main_arg3)
      ∧ r.2.mem ((c.tc : Thread Cert.MixerPostKernelIdeal.nD Cert.MixerPostKernelIdeal.τ).loc Cert.MixerPostKernelIdeal.main_arg4) = m ((c.tc : Thread Cert.MixerPostKernelIdeal.nD Cert.MixerPostKernelIdeal.τ).loc Cert.MixerPostKernelIdeal.main_arg4)
      ∧ r.2.mem ((c.tc : Thread Cert.MixerPostKernelIdeal.nD Cert.MixerPostKernelIdeal.τ).loc Cert.MixerPostKernelIdeal.main_arg5) = m ((c.tc : Thread Cert.MixerPostKernelIdeal.nD Cert.MixerPostKernelIdeal.τ).loc Cert.MixerPostKernelIdeal.main_arg5)
      ∧ r.2.mem ((c.tc : Thread Cert.MixerPostKernelIdeal.nD Cert.MixerPostKernelIdeal.τ).loc Cert.MixerPostKernelIdeal.main_arg6) = m ((c.tc : Thread Cert.MixerPostKernelIdeal.nD Cert.MixerPostKernelIdeal.τ).loc Cert.MixerPostKernelIdeal.main_arg6))
      ∧ r.2.sem = fun _ => 0)

def quiescent_MixerPostReferenceIdeal [hMixerPostReferenceIdeal : Cert.MixerPostReferenceIdeal.Facts] : Prop :=
  ∀ (m : (ℓ : Loc Cert.MixerPostReferenceIdeal.nD Cert.MixerPostReferenceIdeal.τ Cert.MixerPostReferenceIdeal.sig) → Buf (Elt Ideal) ℓ) (g : Dev Cert.MixerPostReferenceIdeal.nD → PrngReg), Pre_MixerPostReferenceIdeal m →
    θ_run (Cert.MixerPostReferenceIdeal.defs (F := Ideal)) (onTc (τ := Cert.MixerPostReferenceIdeal.τ) (Cert.MixerPostReferenceIdeal.main (F := Ideal))) ⟨m, fun _ => 0, g⟩ (fun r => (∀ c : Dev Cert.MixerPostReferenceIdeal.nD,
      r.2.mem ((c.tc : Thread Cert.MixerPostReferenceIdeal.nD Cert.MixerPostReferenceIdeal.τ).loc Cert.MixerPostReferenceIdeal.main_arg0) = m ((c.tc : Thread Cert.MixerPostReferenceIdeal.nD Cert.MixerPostReferenceIdeal.τ).loc Cert.MixerPostReferenceIdeal.main_arg0)
      ∧ r.2.mem ((c.tc : Thread Cert.MixerPostReferenceIdeal.nD Cert.MixerPostReferenceIdeal.τ).loc Cert.MixerPostReferenceIdeal.main_arg1) = m ((c.tc : Thread Cert.MixerPostReferenceIdeal.nD Cert.MixerPostReferenceIdeal.τ).loc Cert.MixerPostReferenceIdeal.main_arg1)
      ∧ r.2.mem ((c.tc : Thread Cert.MixerPostReferenceIdeal.nD Cert.MixerPostReferenceIdeal.τ).loc Cert.MixerPostReferenceIdeal.main_arg2) = m ((c.tc : Thread Cert.MixerPostReferenceIdeal.nD Cert.MixerPostReferenceIdeal.τ).loc Cert.MixerPostReferenceIdeal.main_arg2)
      ∧ r.2.mem ((c.tc : Thread Cert.MixerPostReferenceIdeal.nD Cert.MixerPostReferenceIdeal.τ).loc Cert.MixerPostReferenceIdeal.main_arg3) = m ((c.tc : Thread Cert.MixerPostReferenceIdeal.nD Cert.MixerPostReferenceIdeal.τ).loc Cert.MixerPostReferenceIdeal.main_arg3)
      ∧ r.2.mem ((c.tc : Thread Cert.MixerPostReferenceIdeal.nD Cert.MixerPostReferenceIdeal.τ).loc Cert.MixerPostReferenceIdeal.main_arg4) = m ((c.tc : Thread Cert.MixerPostReferenceIdeal.nD Cert.MixerPostReferenceIdeal.τ).loc Cert.MixerPostReferenceIdeal.main_arg4)
      ∧ r.2.mem ((c.tc : Thread Cert.MixerPostReferenceIdeal.nD Cert.MixerPostReferenceIdeal.τ).loc Cert.MixerPostReferenceIdeal.main_arg5) = m ((c.tc : Thread Cert.MixerPostReferenceIdeal.nD Cert.MixerPostReferenceIdeal.τ).loc Cert.MixerPostReferenceIdeal.main_arg5)
      ∧ r.2.mem ((c.tc : Thread Cert.MixerPostReferenceIdeal.nD Cert.MixerPostReferenceIdeal.τ).loc Cert.MixerPostReferenceIdeal.main_arg6) = m ((c.tc : Thread Cert.MixerPostReferenceIdeal.nD Cert.MixerPostReferenceIdeal.τ).loc Cert.MixerPostReferenceIdeal.main_arg6))
      ∧ r.2.sem = fun _ => 0)

def quiescent_PoolTKernel [hPoolTKernel : Cert.PoolTKernel.Facts] : Prop :=
  ∀ (m : (ℓ : Loc Cert.PoolTKernel.nD Cert.PoolTKernel.τ Cert.PoolTKernel.sig) → Buf (Elt Bits) ℓ) (g : Dev Cert.PoolTKernel.nD → PrngReg), Pre_PoolTKernel m →
    θ_run (Cert.PoolTKernel.defs (F := Bits)) (onTc (τ := Cert.PoolTKernel.τ) (Cert.PoolTKernel.main (F := Bits))) ⟨m, fun _ => 0, g⟩ (fun r => (∀ c : Dev Cert.PoolTKernel.nD,
      r.2.mem ((c.tc : Thread Cert.PoolTKernel.nD Cert.PoolTKernel.τ).loc Cert.PoolTKernel.main_arg0) = m ((c.tc : Thread Cert.PoolTKernel.nD Cert.PoolTKernel.τ).loc Cert.PoolTKernel.main_arg0))
      ∧ r.2.sem = fun _ => 0)

def quiescent_PoolTKernelIdeal [hPoolTKernelIdeal : Cert.PoolTKernelIdeal.Facts] : Prop :=
  ∀ (m : (ℓ : Loc Cert.PoolTKernelIdeal.nD Cert.PoolTKernelIdeal.τ Cert.PoolTKernelIdeal.sig) → Buf (Elt Ideal) ℓ) (g : Dev Cert.PoolTKernelIdeal.nD → PrngReg), Pre_PoolTKernelIdeal m →
    θ_run (Cert.PoolTKernelIdeal.defs (F := Ideal)) (onTc (τ := Cert.PoolTKernelIdeal.τ) (Cert.PoolTKernelIdeal.main (F := Ideal))) ⟨m, fun _ => 0, g⟩ (fun r => (∀ c : Dev Cert.PoolTKernelIdeal.nD,
      r.2.mem ((c.tc : Thread Cert.PoolTKernelIdeal.nD Cert.PoolTKernelIdeal.τ).loc Cert.PoolTKernelIdeal.main_arg0) = m ((c.tc : Thread Cert.PoolTKernelIdeal.nD Cert.PoolTKernelIdeal.τ).loc Cert.PoolTKernelIdeal.main_arg0))
      ∧ r.2.sem = fun _ => 0)

def quiescent_PoolTReferenceIdeal [hPoolTReferenceIdeal : Cert.PoolTReferenceIdeal.Facts] : Prop :=
  ∀ (m : (ℓ : Loc Cert.PoolTReferenceIdeal.nD Cert.PoolTReferenceIdeal.τ Cert.PoolTReferenceIdeal.sig) → Buf (Elt Ideal) ℓ) (g : Dev Cert.PoolTReferenceIdeal.nD → PrngReg), Pre_PoolTReferenceIdeal m →
    θ_run (Cert.PoolTReferenceIdeal.defs (F := Ideal)) (onTc (τ := Cert.PoolTReferenceIdeal.τ) (Cert.PoolTReferenceIdeal.main (F := Ideal))) ⟨m, fun _ => 0, g⟩ (fun r => (∀ c : Dev Cert.PoolTReferenceIdeal.nD,
      r.2.mem ((c.tc : Thread Cert.PoolTReferenceIdeal.nD Cert.PoolTReferenceIdeal.τ).loc Cert.PoolTReferenceIdeal.main_arg0) = m ((c.tc : Thread Cert.PoolTReferenceIdeal.nD Cert.PoolTReferenceIdeal.τ).loc Cert.PoolTReferenceIdeal.main_arg0))
      ∧ r.2.sem = fun _ => 0)

def quiescent_FfnActKernel [hFfnActKernel : Cert.FfnActKernel.Facts] : Prop :=
  ∀ (m : (ℓ : Loc Cert.FfnActKernel.nD Cert.FfnActKernel.τ Cert.FfnActKernel.sig) → Buf (Elt Bits) ℓ) (g : Dev Cert.FfnActKernel.nD → PrngReg), Pre_FfnActKernel m →
    θ_run (Cert.FfnActKernel.defs (F := Bits)) (onTc (τ := Cert.FfnActKernel.τ) (Cert.FfnActKernel.main (F := Bits))) ⟨m, fun _ => 0, g⟩ (fun r => (∀ c : Dev Cert.FfnActKernel.nD,
      r.2.mem ((c.tc : Thread Cert.FfnActKernel.nD Cert.FfnActKernel.τ).loc Cert.FfnActKernel.main_arg0) = m ((c.tc : Thread Cert.FfnActKernel.nD Cert.FfnActKernel.τ).loc Cert.FfnActKernel.main_arg0)
      ∧ r.2.mem ((c.tc : Thread Cert.FfnActKernel.nD Cert.FfnActKernel.τ).loc Cert.FfnActKernel.main_arg1) = m ((c.tc : Thread Cert.FfnActKernel.nD Cert.FfnActKernel.τ).loc Cert.FfnActKernel.main_arg1))
      ∧ r.2.sem = fun _ => 0)

def quiescent_FfnActKernelIdeal [hFfnActKernelIdeal : Cert.FfnActKernelIdeal.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg), Pre_FfnActKernelIdeal m →
    θ_run (Cert.FfnActKernelIdeal.defs (F := Ideal)) (onTc (τ := Cert.FfnActKernelIdeal.τ) (Cert.FfnActKernelIdeal.main (F := Ideal))) ⟨m, fun _ => 0, g⟩ (fun r => (∀ c : Dev Cert.FfnActKernelIdeal.nD,
      r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
      ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1))
      ∧ r.2.sem = fun _ => 0)

def quiescent_FfnActBwdKernel [hFfnActBwdKernel : Cert.FfnActBwdKernel.Facts] : Prop :=
  ∀ (m : (ℓ : Loc Cert.FfnActBwdKernel.nD Cert.FfnActBwdKernel.τ Cert.FfnActBwdKernel.sig) → Buf (Elt Bits) ℓ) (g : Dev Cert.FfnActBwdKernel.nD → PrngReg), Pre_FfnActBwdKernel m →
    θ_run (Cert.FfnActBwdKernel.defs (F := Bits)) (onTc (τ := Cert.FfnActBwdKernel.τ) (Cert.FfnActBwdKernel.main (F := Bits))) ⟨m, fun _ => 0, g⟩ (fun r => (∀ c : Dev Cert.FfnActBwdKernel.nD,
      r.2.mem ((c.tc : Thread Cert.FfnActBwdKernel.nD Cert.FfnActBwdKernel.τ).loc Cert.FfnActBwdKernel.main_arg0) = m ((c.tc : Thread Cert.FfnActBwdKernel.nD Cert.FfnActBwdKernel.τ).loc Cert.FfnActBwdKernel.main_arg0)
      ∧ r.2.mem ((c.tc : Thread Cert.FfnActBwdKernel.nD Cert.FfnActBwdKernel.τ).loc Cert.FfnActBwdKernel.main_arg1) = m ((c.tc : Thread Cert.FfnActBwdKernel.nD Cert.FfnActBwdKernel.τ).loc Cert.FfnActBwdKernel.main_arg1)
      ∧ r.2.mem ((c.tc : Thread Cert.FfnActBwdKernel.nD Cert.FfnActBwdKernel.τ).loc Cert.FfnActBwdKernel.main_arg2) = m ((c.tc : Thread Cert.FfnActBwdKernel.nD Cert.FfnActBwdKernel.τ).loc Cert.FfnActBwdKernel.main_arg2))
      ∧ r.2.sem = fun _ => 0)

def quiescent_FfnActBwdKernelIdeal [hFfnActBwdKernelIdeal : Cert.FfnActBwdKernelIdeal.Facts] : Prop :=
  ∀ (m : (ℓ : Loc Cert.FfnActBwdKernelIdeal.nD Cert.FfnActBwdKernelIdeal.τ Cert.FfnActBwdKernelIdeal.sig) → Buf (Elt Ideal) ℓ) (g : Dev Cert.FfnActBwdKernelIdeal.nD → PrngReg), Pre_FfnActBwdKernelIdeal m →
    θ_run (Cert.FfnActBwdKernelIdeal.defs (F := Ideal)) (onTc (τ := Cert.FfnActBwdKernelIdeal.τ) (Cert.FfnActBwdKernelIdeal.main (F := Ideal))) ⟨m, fun _ => 0, g⟩ (fun r => (∀ c : Dev Cert.FfnActBwdKernelIdeal.nD,
      r.2.mem ((c.tc : Thread Cert.FfnActBwdKernelIdeal.nD Cert.FfnActBwdKernelIdeal.τ).loc Cert.FfnActBwdKernelIdeal.main_arg0) = m ((c.tc : Thread Cert.FfnActBwdKernelIdeal.nD Cert.FfnActBwdKernelIdeal.τ).loc Cert.FfnActBwdKernelIdeal.main_arg0)
      ∧ r.2.mem ((c.tc : Thread Cert.FfnActBwdKernelIdeal.nD Cert.FfnActBwdKernelIdeal.τ).loc Cert.FfnActBwdKernelIdeal.main_arg1) = m ((c.tc : Thread Cert.FfnActBwdKernelIdeal.nD Cert.FfnActBwdKernelIdeal.τ).loc Cert.FfnActBwdKernelIdeal.main_arg1)
      ∧ r.2.mem ((c.tc : Thread Cert.FfnActBwdKernelIdeal.nD Cert.FfnActBwdKernelIdeal.τ).loc Cert.FfnActBwdKernelIdeal.main_arg2) = m ((c.tc : Thread Cert.FfnActBwdKernelIdeal.nD Cert.FfnActBwdKernelIdeal.τ).loc Cert.FfnActBwdKernelIdeal.main_arg2))
      ∧ r.2.sem = fun _ => 0)

def quiescent_FfnActBwdKernelIdeal_pre_finite_ffnactbwd [hFfnActBwdKernelIdeal : Cert.FfnActBwdKernelIdeal.Facts] [hPre_finite_ffnactbwd : Cert.Pre_finite_ffnactbwd.Facts] : Prop :=
  ∀ (m : (ℓ : Loc Cert.FfnActBwdKernelIdeal.nD Cert.FfnActBwdKernelIdeal.τ Cert.FfnActBwdKernelIdeal.sig) → Buf (Elt Ideal) ℓ) (g : Dev Cert.FfnActBwdKernelIdeal.nD → PrngReg), Pre_FfnActBwdKernelIdeal_finite_ffnactbwd m →
    θ_run (Cert.FfnActBwdKernelIdeal.defs (F := Ideal)) (onTc (τ := Cert.FfnActBwdKernelIdeal.τ) (Cert.FfnActBwdKernelIdeal.main (F := Ideal))) ⟨m, fun _ => 0, g⟩ (fun r => (∀ c : Dev Cert.FfnActBwdKernelIdeal.nD,
      r.2.mem ((c.tc : Thread Cert.FfnActBwdKernelIdeal.nD Cert.FfnActBwdKernelIdeal.τ).loc Cert.FfnActBwdKernelIdeal.main_arg0) = m ((c.tc : Thread Cert.FfnActBwdKernelIdeal.nD Cert.FfnActBwdKernelIdeal.τ).loc Cert.FfnActBwdKernelIdeal.main_arg0)
      ∧ r.2.mem ((c.tc : Thread Cert.FfnActBwdKernelIdeal.nD Cert.FfnActBwdKernelIdeal.τ).loc Cert.FfnActBwdKernelIdeal.main_arg1) = m ((c.tc : Thread Cert.FfnActBwdKernelIdeal.nD Cert.FfnActBwdKernelIdeal.τ).loc Cert.FfnActBwdKernelIdeal.main_arg1)
      ∧ r.2.mem ((c.tc : Thread Cert.FfnActBwdKernelIdeal.nD Cert.FfnActBwdKernelIdeal.τ).loc Cert.FfnActBwdKernelIdeal.main_arg2) = m ((c.tc : Thread Cert.FfnActBwdKernelIdeal.nD Cert.FfnActBwdKernelIdeal.τ).loc Cert.FfnActBwdKernelIdeal.main_arg2))
      ∧ r.2.sem = fun _ => 0)

def quiescent_FfnActBwdReferenceIdeal [hFfnActBwdReferenceIdeal : Cert.FfnActBwdReferenceIdeal.Facts] : Prop :=
  ∀ (m : (ℓ : Loc Cert.FfnActBwdReferenceIdeal.nD Cert.FfnActBwdReferenceIdeal.τ Cert.FfnActBwdReferenceIdeal.sig) → Buf (Elt Ideal) ℓ) (g : Dev Cert.FfnActBwdReferenceIdeal.nD → PrngReg), Pre_FfnActBwdReferenceIdeal m →
    θ_run (Cert.FfnActBwdReferenceIdeal.defs (F := Ideal)) (onTc (τ := Cert.FfnActBwdReferenceIdeal.τ) (Cert.FfnActBwdReferenceIdeal.main (F := Ideal))) ⟨m, fun _ => 0, g⟩ (fun r => (∀ c : Dev Cert.FfnActBwdReferenceIdeal.nD,
      r.2.mem ((c.tc : Thread Cert.FfnActBwdReferenceIdeal.nD Cert.FfnActBwdReferenceIdeal.τ).loc Cert.FfnActBwdReferenceIdeal.main_arg0) = m ((c.tc : Thread Cert.FfnActBwdReferenceIdeal.nD Cert.FfnActBwdReferenceIdeal.τ).loc Cert.FfnActBwdReferenceIdeal.main_arg0)
      ∧ r.2.mem ((c.tc : Thread Cert.FfnActBwdReferenceIdeal.nD Cert.FfnActBwdReferenceIdeal.τ).loc Cert.FfnActBwdReferenceIdeal.main_arg1) = m ((c.tc : Thread Cert.FfnActBwdReferenceIdeal.nD Cert.FfnActBwdReferenceIdeal.τ).loc Cert.FfnActBwdReferenceIdeal.main_arg1)
      ∧ r.2.mem ((c.tc : Thread Cert.FfnActBwdReferenceIdeal.nD Cert.FfnActBwdReferenceIdeal.τ).loc Cert.FfnActBwdReferenceIdeal.main_arg2) = m ((c.tc : Thread Cert.FfnActBwdReferenceIdeal.nD Cert.FfnActBwdReferenceIdeal.τ).loc Cert.FfnActBwdReferenceIdeal.main_arg2))
      ∧ r.2.sem = fun _ => 0)

def quiescent_FfnActBwdReferenceIdeal_pre_finite_ffnactbwd [hFfnActBwdReferenceIdeal : Cert.FfnActBwdReferenceIdeal.Facts] [hPre_finite_ffnactbwd : Cert.Pre_finite_ffnactbwd.Facts] : Prop :=
  ∀ (m : (ℓ : Loc Cert.FfnActBwdReferenceIdeal.nD Cert.FfnActBwdReferenceIdeal.τ Cert.FfnActBwdReferenceIdeal.sig) → Buf (Elt Ideal) ℓ) (g : Dev Cert.FfnActBwdReferenceIdeal.nD → PrngReg), Pre_FfnActBwdReferenceIdeal_finite_ffnactbwd m →
    θ_run (Cert.FfnActBwdReferenceIdeal.defs (F := Ideal)) (onTc (τ := Cert.FfnActBwdReferenceIdeal.τ) (Cert.FfnActBwdReferenceIdeal.main (F := Ideal))) ⟨m, fun _ => 0, g⟩ (fun r => (∀ c : Dev Cert.FfnActBwdReferenceIdeal.nD,
      r.2.mem ((c.tc : Thread Cert.FfnActBwdReferenceIdeal.nD Cert.FfnActBwdReferenceIdeal.τ).loc Cert.FfnActBwdReferenceIdeal.main_arg0) = m ((c.tc : Thread Cert.FfnActBwdReferenceIdeal.nD Cert.FfnActBwdReferenceIdeal.τ).loc Cert.FfnActBwdReferenceIdeal.main_arg0)
      ∧ r.2.mem ((c.tc : Thread Cert.FfnActBwdReferenceIdeal.nD Cert.FfnActBwdReferenceIdeal.τ).loc Cert.FfnActBwdReferenceIdeal.main_arg1) = m ((c.tc : Thread Cert.FfnActBwdReferenceIdeal.nD Cert.FfnActBwdReferenceIdeal.τ).loc Cert.FfnActBwdReferenceIdeal.main_arg1)
      ∧ r.2.mem ((c.tc : Thread Cert.FfnActBwdReferenceIdeal.nD Cert.FfnActBwdReferenceIdeal.τ).loc Cert.FfnActBwdReferenceIdeal.main_arg2) = m ((c.tc : Thread Cert.FfnActBwdReferenceIdeal.nD Cert.FfnActBwdReferenceIdeal.τ).loc Cert.FfnActBwdReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)) →
    ∃ (v0 : (c : Dev Cert.UpDxKernelIdeal.nD) → Buf (Elt Ideal) ((c.tc : Thread Cert.UpDxKernelIdeal.nD Cert.UpDxKernelIdeal.τ).loc Cert.UpDxKernelIdeal.main_v0)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v4) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v6) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_InDxKernel_InDxKernelIdeal : Prop :=
  True

def algebraic_InDxKernelIdeal_InDxReferenceIdeal [hInDxKernelIdeal : Cert.InDxKernelIdeal.Facts] [hInDxReferenceIdeal : Cert.InDxReferenceIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)) →
    ∃ (v0 : (c : Dev Cert.InDxKernelIdeal.nD) → Buf (Elt Ideal) ((c.tc : Thread Cert.InDxKernelIdeal.nD Cert.InDxKernelIdeal.τ).loc Cert.InDxKernelIdeal.main_v0)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v0) = v0 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v4) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m' ((c.tc : Thread Cert.InDwReferenceIdeal.nD Cert.InDwReferenceIdeal.τ).loc Cert.InDwReferenceIdeal.main_arg0) = m ((c.tc : Thread Cert.InDwKernelIdeal.nD Cert.InDwKernelIdeal.τ).loc Cert.InDwKernelIdeal.main_arg0)
      ∧ m' ((c.tc : Thread Cert.InDwReferenceIdeal.nD Cert.InDwReferenceIdeal.τ).loc Cert.InDwReferenceIdeal.main_arg1) = m ((c.tc : Thread Cert.InDwKernelIdeal.nD Cert.InDwKernelIdeal.τ).loc Cert.InDwKernelIdeal.main_arg1)) →
    ∃ (v0 : (c : Dev Cert.InDwKernelIdeal.nD) → Buf (Elt Ideal) ((c.tc : Thread Cert.InDwKernelIdeal.nD Cert.InDwKernelIdeal.τ).loc Cert.InDwKernelIdeal.main_v0)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v0) = v0 c
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v6) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v3) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v5) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v0)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v0) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v5) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_RmsBwdKernel_RmsBwdKernelIdeal : Prop :=
  True

def algebraic_RmsBwdKernelIdeal_RmsBwdReferenceIdeal_pre_finite_rmsbwd [hRmsBwdKernelIdeal : Cert.RmsBwdKernelIdeal.Facts] [hRmsBwdReferenceIdeal : Cert.RmsBwdReferenceIdeal.Facts] [hPre_finite_rmsbwd : Cert.Pre_finite_rmsbwd.Facts] : Prop :=
  ∀ (m : (ℓ : Loc Cert.RmsBwdKernelIdeal.nD Cert.RmsBwdKernelIdeal.τ Cert.RmsBwdKernelIdeal.sig) → Buf (Elt Ideal) ℓ) (g : Dev Cert.RmsBwdKernelIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdKernelIdeal_finite_rmsbwd m →
    (∀ c : Dev Cert.RmsBwdKernelIdeal.nD,
      m' ((c.tc : Thread Cert.RmsBwdReferenceIdeal.nD Cert.RmsBwdReferenceIdeal.τ).loc Cert.RmsBwdReferenceIdeal.main_arg0) = m ((c.tc : Thread Cert.RmsBwdKernelIdeal.nD Cert.RmsBwdKernelIdeal.τ).loc Cert.RmsBwdKernelIdeal.main_arg0)
      ∧ m' ((c.tc : Thread Cert.RmsBwdReferenceIdeal.nD Cert.RmsBwdReferenceIdeal.τ).loc Cert.RmsBwdReferenceIdeal.main_arg1) = m ((c.tc : Thread Cert.RmsBwdKernelIdeal.nD Cert.RmsBwdKernelIdeal.τ).loc Cert.RmsBwdKernelIdeal.main_arg1)
      ∧ m' ((c.tc : Thread Cert.RmsBwdReferenceIdeal.nD Cert.RmsBwdReferenceIdeal.τ).loc Cert.RmsBwdReferenceIdeal.main_arg2) = m ((c.tc : Thread Cert.RmsBwdKernelIdeal.nD Cert.RmsBwdKernelIdeal.τ).loc Cert.RmsBwdKernelIdeal.main_arg2)
      ∧ m' ((c.tc : Thread Cert.RmsBwdReferenceIdeal.nD Cert.RmsBwdReferenceIdeal.τ).loc Cert.RmsBwdReferenceIdeal.main_arg3) = m ((c.tc : Thread Cert.RmsBwdKernelIdeal.nD Cert.RmsBwdKernelIdeal.τ).loc Cert.RmsBwdKernelIdeal.main_arg3)) →
    ∃ (v0 : (c : Dev Cert.RmsBwdKernelIdeal.nD) → Buf (Elt Ideal) ((c.tc : Thread Cert.RmsBwdKernelIdeal.nD Cert.RmsBwdKernelIdeal.τ).loc Cert.RmsBwdKernelIdeal.main_v0_0)) (v1 : (c : Dev Cert.RmsBwdKernelIdeal.nD) → Buf (Elt Ideal) ((c.tc : Thread Cert.RmsBwdKernelIdeal.nD Cert.RmsBwdKernelIdeal.τ).loc Cert.RmsBwdKernelIdeal.main_v0_1)),
      θ_run (Cert.RmsBwdKernelIdeal.defs (F := Ideal)) (onTc (τ := Cert.RmsBwdKernelIdeal.τ) (Cert.RmsBwdKernelIdeal.main (F := Ideal))) ⟨m, fun _ => 0, g⟩ (fun r => ∀ c : Dev Cert.RmsBwdKernelIdeal.nD,
          r.2.mem ((c.tc : Thread Cert.RmsBwdKernelIdeal.nD Cert.RmsBwdKernelIdeal.τ).loc Cert.RmsBwdKernelIdeal.main_v0_0) = v0 c
          ∧ r.2.mem ((c.tc : Thread Cert.RmsBwdKernelIdeal.nD Cert.RmsBwdKernelIdeal.τ).loc Cert.RmsBwdKernelIdeal.main_v0_1) = v1 c
          ∧ r.2.mem ((c.tc : Thread Cert.RmsBwdKernelIdeal.nD Cert.RmsBwdKernelIdeal.τ).loc Cert.RmsBwdKernelIdeal.main_arg0) = m ((c.tc : Thread Cert.RmsBwdKernelIdeal.nD Cert.RmsBwdKernelIdeal.τ).loc Cert.RmsBwdKernelIdeal.main_arg0)
          ∧ r.2.mem ((c.tc : Thread Cert.RmsBwdKernelIdeal.nD Cert.RmsBwdKernelIdeal.τ).loc Cert.RmsBwdKernelIdeal.main_arg1) = m ((c.tc : Thread Cert.RmsBwdKernelIdeal.nD Cert.RmsBwdKernelIdeal.τ).loc Cert.RmsBwdKernelIdeal.main_arg1)
          ∧ r.2.mem ((c.tc : Thread Cert.RmsBwdKernelIdeal.nD Cert.RmsBwdKernelIdeal.τ).loc Cert.RmsBwdKernelIdeal.main_arg2) = m ((c.tc : Thread Cert.RmsBwdKernelIdeal.nD Cert.RmsBwdKernelIdeal.τ).loc Cert.RmsBwdKernelIdeal.main_arg2)
          ∧ r.2.mem ((c.tc : Thread Cert.RmsBwdKernelIdeal.nD Cert.RmsBwdKernelIdeal.τ).loc Cert.RmsBwdKernelIdeal.main_arg3) = m ((c.tc : Thread Cert.RmsBwdKernelIdeal.nD Cert.RmsBwdKernelIdeal.τ).loc Cert.RmsBwdKernelIdeal.main_arg3))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v39) = v0 c
          ∧ r.2.mem ((c.tc : Thread Cert.RmsBwdReferenceIdeal.nD Cert.RmsBwdReferenceIdeal.τ).loc Cert.RmsBwdReferenceIdeal.main_v40) = v1 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3))

def preserves_ConvFfnKernel_ConvFfnKernelIdeal : Prop :=
  True

def algebraic_ConvFfnKernelIdeal_ConvFfnReferenceIdeal [hConvFfnKernelIdeal : Cert.ConvFfnKernelIdeal.Facts] [hConvFfnReferenceIdeal : Cert.ConvFfnReferenceIdeal.Facts] : Prop :=
  ∀ (m : (ℓ : Loc Cert.ConvFfnKernelIdeal.nD Cert.ConvFfnKernelIdeal.τ Cert.ConvFfnKernelIdeal.sig) → Buf (Elt Ideal) ℓ) (g : Dev Cert.ConvFfnKernelIdeal.nD → PrngReg)
    (m' : (ℓ : Loc Cert.ConvFfnReferenceIdeal.nD Cert.ConvFfnReferenceIdeal.τ Cert.ConvFfnReferenceIdeal.sig) → Buf (Elt Ideal) ℓ) (g' : Dev Cert.ConvFfnReferenceIdeal.nD → PrngReg), Pre_ConvFfnKernelIdeal m →
    (∀ c : Dev Cert.ConvFfnKernelIdeal.nD,
      m' ((c.tc : Thread Cert.ConvFfnReferenceIdeal.nD Cert.ConvFfnReferenceIdeal.τ).loc Cert.ConvFfnReferenceIdeal.main_arg0) = m ((c.tc : Thread Cert.ConvFfnKernelIdeal.nD Cert.ConvFfnKernelIdeal.τ).loc Cert.ConvFfnKernelIdeal.main_arg0)
      ∧ m' ((c.tc : Thread Cert.ConvFfnReferenceIdeal.nD Cert.ConvFfnReferenceIdeal.τ).loc Cert.ConvFfnReferenceIdeal.main_arg1) = m ((c.tc : Thread Cert.ConvFfnKernelIdeal.nD Cert.ConvFfnKernelIdeal.τ).loc Cert.ConvFfnKernelIdeal.main_arg1)) →
    ∃ (v0 : (c : Dev Cert.ConvFfnKernelIdeal.nD) → Buf (Elt Ideal) ((c.tc : Thread Cert.ConvFfnKernelIdeal.nD Cert.ConvFfnKernelIdeal.τ).loc Cert.ConvFfnKernelIdeal.main_v0)),
      θ_run (Cert.ConvFfnKernelIdeal.defs (F := Ideal)) (onTc (τ := Cert.ConvFfnKernelIdeal.τ) (Cert.ConvFfnKernelIdeal.main (F := Ideal))) ⟨m, fun _ => 0, g⟩ (fun r => ∀ c : Dev Cert.ConvFfnKernelIdeal.nD,
          r.2.mem ((c.tc : Thread Cert.ConvFfnKernelIdeal.nD Cert.ConvFfnKernelIdeal.τ).loc Cert.ConvFfnKernelIdeal.main_v0) = v0 c
          ∧ r.2.mem ((c.tc : Thread Cert.ConvFfnKernelIdeal.nD Cert.ConvFfnKernelIdeal.τ).loc Cert.ConvFfnKernelIdeal.main_arg0) = m ((c.tc : Thread Cert.ConvFfnKernelIdeal.nD Cert.ConvFfnKernelIdeal.τ).loc Cert.ConvFfnKernelIdeal.main_arg0)
          ∧ r.2.mem ((c.tc : Thread Cert.ConvFfnKernelIdeal.nD Cert.ConvFfnKernelIdeal.τ).loc Cert.ConvFfnKernelIdeal.main_arg1) = m ((c.tc : Thread Cert.ConvFfnKernelIdeal.nD Cert.ConvFfnKernelIdeal.τ).loc Cert.ConvFfnKernelIdeal.main_arg1))
      ∧ θ_run (Cert.ConvFfnReferenceIdeal.defs (F := Ideal)) (onTc (τ := Cert.ConvFfnReferenceIdeal.τ) (Cert.ConvFfnReferenceIdeal.main (F := Ideal))) ⟨m', fun _ => 0, g'⟩ (fun r => ∀ c : Dev Cert.ConvFfnReferenceIdeal.nD,
          r.2.mem ((c.tc : Thread Cert.ConvFfnReferenceIdeal.nD Cert.ConvFfnReferenceIdeal.τ).loc Cert.ConvFfnReferenceIdeal.main_v39) = v0 c
          ∧ r.2.mem ((c.tc : Thread Cert.ConvFfnReferenceIdeal.nD Cert.ConvFfnReferenceIdeal.τ).loc Cert.ConvFfnReferenceIdeal.main_arg0) = m' ((c.tc : Thread Cert.ConvFfnReferenceIdeal.nD Cert.ConvFfnReferenceIdeal.τ).loc Cert.ConvFfnReferenceIdeal.main_arg0)
          ∧ r.2.mem ((c.tc : Thread Cert.ConvFfnReferenceIdeal.nD Cert.ConvFfnReferenceIdeal.τ).loc Cert.ConvFfnReferenceIdeal.main_arg1) = m' ((c.tc : Thread Cert.ConvFfnReferenceIdeal.nD Cert.ConvFfnReferenceIdeal.τ).loc Cert.ConvFfnReferenceIdeal.main_arg1))

def preserves_ConvQkvKernel_ConvQkvKernelIdeal : Prop :=
  True

def algebraic_ConvQkvKernelIdeal_ConvQkvReferenceIdeal [hConvQkvKernelIdeal : Cert.ConvQkvKernelIdeal.Facts] [hConvQkvReferenceIdeal : Cert.ConvQkvReferenceIdeal.Facts] : Prop :=
  ∀ (m : (ℓ : Loc Cert.ConvQkvKernelIdeal.nD Cert.ConvQkvKernelIdeal.τ Cert.ConvQkvKernelIdeal.sig) → Buf (Elt Ideal) ℓ) (g : Dev Cert.ConvQkvKernelIdeal.nD → PrngReg)
    (m' : (ℓ : Loc Cert.ConvQkvReferenceIdeal.nD Cert.ConvQkvReferenceIdeal.τ Cert.ConvQkvReferenceIdeal.sig) → Buf (Elt Ideal) ℓ) (g' : Dev Cert.ConvQkvReferenceIdeal.nD → PrngReg), Pre_ConvQkvKernelIdeal m →
    (∀ c : Dev Cert.ConvQkvKernelIdeal.nD,
      m' ((c.tc : Thread Cert.ConvQkvReferenceIdeal.nD Cert.ConvQkvReferenceIdeal.τ).loc Cert.ConvQkvReferenceIdeal.main_arg0) = m ((c.tc : Thread Cert.ConvQkvKernelIdeal.nD Cert.ConvQkvKernelIdeal.τ).loc Cert.ConvQkvKernelIdeal.main_arg0)
      ∧ m' ((c.tc : Thread Cert.ConvQkvReferenceIdeal.nD Cert.ConvQkvReferenceIdeal.τ).loc Cert.ConvQkvReferenceIdeal.main_arg1) = m ((c.tc : Thread Cert.ConvQkvKernelIdeal.nD Cert.ConvQkvKernelIdeal.τ).loc Cert.ConvQkvKernelIdeal.main_arg1)) →
    ∃ (v0 : (c : Dev Cert.ConvQkvKernelIdeal.nD) → Buf (Elt Ideal) ((c.tc : Thread Cert.ConvQkvKernelIdeal.nD Cert.ConvQkvKernelIdeal.τ).loc Cert.ConvQkvKernelIdeal.main_v0)),
      θ_run (Cert.ConvQkvKernelIdeal.defs (F := Ideal)) (onTc (τ := Cert.ConvQkvKernelIdeal.τ) (Cert.ConvQkvKernelIdeal.main (F := Ideal))) ⟨m, fun _ => 0, g⟩ (fun r => ∀ c : Dev Cert.ConvQkvKernelIdeal.nD,
          r.2.mem ((c.tc : Thread Cert.ConvQkvKernelIdeal.nD Cert.ConvQkvKernelIdeal.τ).loc Cert.ConvQkvKernelIdeal.main_v0) = v0 c
          ∧ r.2.mem ((c.tc : Thread Cert.ConvQkvKernelIdeal.nD Cert.ConvQkvKernelIdeal.τ).loc Cert.ConvQkvKernelIdeal.main_arg0) = m ((c.tc : Thread Cert.ConvQkvKernelIdeal.nD Cert.ConvQkvKernelIdeal.τ).loc Cert.ConvQkvKernelIdeal.main_arg0)
          ∧ r.2.mem ((c.tc : Thread Cert.ConvQkvKernelIdeal.nD Cert.ConvQkvKernelIdeal.τ).loc Cert.ConvQkvKernelIdeal.main_arg1) = m ((c.tc : Thread Cert.ConvQkvKernelIdeal.nD Cert.ConvQkvKernelIdeal.τ).loc Cert.ConvQkvKernelIdeal.main_arg1))
      ∧ θ_run (Cert.ConvQkvReferenceIdeal.defs (F := Ideal)) (onTc (τ := Cert.ConvQkvReferenceIdeal.τ) (Cert.ConvQkvReferenceIdeal.main (F := Ideal))) ⟨m', fun _ => 0, g'⟩ (fun r => ∀ c : Dev Cert.ConvQkvReferenceIdeal.nD,
          r.2.mem ((c.tc : Thread Cert.ConvQkvReferenceIdeal.nD Cert.ConvQkvReferenceIdeal.τ).loc Cert.ConvQkvReferenceIdeal.main_v50) = v0 c
          ∧ r.2.mem ((c.tc : Thread Cert.ConvQkvReferenceIdeal.nD Cert.ConvQkvReferenceIdeal.τ).loc Cert.ConvQkvReferenceIdeal.main_arg0) = m' ((c.tc : Thread Cert.ConvQkvReferenceIdeal.nD Cert.ConvQkvReferenceIdeal.τ).loc Cert.ConvQkvReferenceIdeal.main_arg0)
          ∧ r.2.mem ((c.tc : Thread Cert.ConvQkvReferenceIdeal.nD Cert.ConvQkvReferenceIdeal.τ).loc Cert.ConvQkvReferenceIdeal.main_arg1) = m' ((c.tc : Thread Cert.ConvQkvReferenceIdeal.nD Cert.ConvQkvReferenceIdeal.τ).loc Cert.ConvQkvReferenceIdeal.main_arg1))

def preserves_AdamInKernel_AdamInKernelIdeal : Prop :=
  IdealRules.named_const.Statement Cert.AdamInKernelIdeal.κ "c1" .f32 0x3FC48605#32 (((5463681 / 8388608)⁻¹ : ℝ) : EReal)
  ∧ IdealRules.named_const.Statement Cert.AdamInKernelIdeal.κ "c2" .f32 0x42C8E6D3#32 (((2672307 / 268435456)⁻¹ : ℝ) : EReal)

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v6) = v2 c
          ∧ r.2.mem ((c.tc : Thread Cert.AdamInReferenceIdeal.nD Cert.AdamInReferenceIdeal.τ).loc Cert.AdamInReferenceIdeal.main_v12) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamUpKernel_AdamUpKernelIdeal : Prop :=
  IdealRules.named_const.Statement Cert.AdamUpKernelIdeal.κ "c1" .f32 0x3FC48605#32 (((5463681 / 8388608)⁻¹ : ℝ) : EReal)
  ∧ IdealRules.named_const.Statement Cert.AdamUpKernelIdeal.κ "c2" .f32 0x42C8E6D3#32 (((2672307 / 268435456)⁻¹ : ℝ) : EReal)

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)) →
    ∃ (v0 : (c : Dev Cert.AdamUpKernelIdeal.nD) → Buf (Elt Ideal) ((c.tc : Thread Cert.AdamUpKernelIdeal.nD Cert.AdamUpKernelIdeal.τ).loc Cert.AdamUpKernelIdeal.main_v0_0)) (v1 : (c : Dev Cert.AdamUpKernelIdeal.nD) → Buf (Elt Ideal) ((c.tc : Thread Cert.AdamUpKernelIdeal.nD Cert.AdamUpKernelIdeal.τ).loc Cert.AdamUpKernelIdeal.main_v0_1)) (v2 : (c : Dev Cert.AdamUpKernelIdeal.nD) → Buf (Elt Ideal) ((c.tc : Thread Cert.AdamUpKernelIdeal.nD Cert.AdamUpKernelIdeal.τ).loc Cert.AdamUpKernelIdeal.main_v0_2)) (v3 : (c : Dev Cert.AdamUpKernelIdeal.nD) → Buf (Elt Ideal) ((c.tc : Thread Cert.AdamUpKernelIdeal.nD Cert.AdamUpKernelIdeal.τ).loc Cert.AdamUpKernelIdeal.main_v0_3)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v0_0) = v0 c
          ∧ r.2.mem ((c.tc : Thread Cert.AdamUpKernelIdeal.nD Cert.AdamUpKernelIdeal.τ).loc Cert.AdamUpKernelIdeal.main_v0_1) = v1 c
          ∧ r.2.mem ((c.tc : Thread Cert.AdamUpKernelIdeal.nD Cert.AdamUpKernelIdeal.τ).loc Cert.AdamUpKernelIdeal.main_v0_2) = v2 c
          ∧ r.2.mem ((c.tc : Thread Cert.AdamUpKernelIdeal.nD Cert.AdamUpKernelIdeal.τ).loc Cert.AdamUpKernelIdeal.main_v0_3) = v3 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v1) = v0 c
          ∧ r.2.mem ((c.tc : Thread Cert.AdamUpReferenceIdeal.nD Cert.AdamUpReferenceIdeal.τ).loc Cert.AdamUpReferenceIdeal.main_v25) = v1 c
          ∧ r.2.mem ((c.tc : Thread Cert.AdamUpReferenceIdeal.nD Cert.AdamUpReferenceIdeal.τ).loc Cert.AdamUpReferenceIdeal.main_v6) = v2 c
          ∧ r.2.mem ((c.tc : Thread Cert.AdamUpReferenceIdeal.nD Cert.AdamUpReferenceIdeal.τ).loc Cert.AdamUpReferenceIdeal.main_v12) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamOutKernel_AdamOutKernelIdeal : Prop :=
  IdealRules.named_const.Statement Cert.AdamOutKernelIdeal.κ "c1" .f32 0x3FC48605#32 (((5463681 / 8388608)⁻¹ : ℝ) : EReal)
  ∧ IdealRules.named_const.Statement Cert.AdamOutKernelIdeal.κ "c2" .f32 0x42C8E6D3#32 (((2672307 / 268435456)⁻¹ : ℝ) : EReal)

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v2) = v0 c
          ∧ r.2.mem ((c.tc : Thread Cert.AdamOutReferenceIdeal.nD Cert.AdamOutReferenceIdeal.τ).loc Cert.AdamOutReferenceIdeal.main_v26) = v1 c
          ∧ r.2.mem ((c.tc : Thread Cert.AdamOutReferenceIdeal.nD Cert.AdamOutReferenceIdeal.τ).loc Cert.AdamOutReferenceIdeal.main_v7) = v2 c
          ∧ r.2.mem ((c.tc : Thread Cert.AdamOutReferenceIdeal.nD Cert.AdamOutReferenceIdeal.τ).loc Cert.AdamOutReferenceIdeal.main_v13) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamDownKernel_AdamDownKernelIdeal : Prop :=
  IdealRules.named_const.Statement Cert.AdamDownKernelIdeal.κ "c1" .f32 0x3FC48605#32 (((5463681 / 8388608)⁻¹ : ℝ) : EReal)
  ∧ IdealRules.named_const.Statement Cert.AdamDownKernelIdeal.κ "c2" .f32 0x42C8E6D3#32 (((2672307 / 268435456)⁻¹ : ℝ) : EReal)

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)) →
    ∃ (v0 : (c : Dev Cert.AdamDownKernelIdeal.nD) → Buf (Elt Ideal) ((c.tc : Thread Cert.AdamDownKernelIdeal.nD Cert.AdamDownKernelIdeal.τ).loc Cert.AdamDownKernelIdeal.main_v0_0)) (v1 : (c : Dev Cert.AdamDownKernelIdeal.nD) → Buf (Elt Ideal) ((c.tc : Thread Cert.AdamDownKernelIdeal.nD Cert.AdamDownKernelIdeal.τ).loc Cert.AdamDownKernelIdeal.main_v0_1)) (v2 : (c : Dev Cert.AdamDownKernelIdeal.nD) → Buf (Elt Ideal) ((c.tc : Thread Cert.AdamDownKernelIdeal.nD Cert.AdamDownKernelIdeal.τ).loc Cert.AdamDownKernelIdeal.main_v0_2)) (v3 : (c : Dev Cert.AdamDownKernelIdeal.nD) → Buf (Elt Ideal) ((c.tc : Thread Cert.AdamDownKernelIdeal.nD Cert.AdamDownKernelIdeal.τ).loc Cert.AdamDownKernelIdeal.main_v0_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v0_0) = v0 c
          ∧ r.2.mem ((c.tc : Thread Cert.AdamDownKernelIdeal.nD Cert.AdamDownKernelIdeal.τ).loc Cert.AdamDownKernelIdeal.main_v0_1) = v1 c
          ∧ r.2.mem ((c.tc : Thread Cert.AdamDownKernelIdeal.nD Cert.AdamDownKernelIdeal.τ).loc Cert.AdamDownKernelIdeal.main_v0_2) = v2 c
          ∧ r.2.mem ((c.tc : Thread Cert.AdamDownKernelIdeal.nD Cert.AdamDownKernelIdeal.τ).loc Cert.AdamDownKernelIdeal.main_v0_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v2) = v0 c
          ∧ r.2.mem ((c.tc : Thread Cert.AdamDownReferenceIdeal.nD Cert.AdamDownReferenceIdeal.τ).loc Cert.AdamDownReferenceIdeal.main_v26) = v1 c
          ∧ r.2.mem ((c.tc : Thread Cert.AdamDownReferenceIdeal.nD Cert.AdamDownReferenceIdeal.τ).loc Cert.AdamDownReferenceIdeal.main_v7) = v2 c
          ∧ r.2.mem ((c.tc : Thread Cert.AdamDownReferenceIdeal.nD Cert.AdamDownReferenceIdeal.τ).loc Cert.AdamDownReferenceIdeal.main_v13) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_FinalKernel_FinalKernelIdeal : Prop :=
  True

def algebraic_FinalKernelIdeal_FinalReferenceIdeal_pre_finite_final [hFinalKernelIdeal : Cert.FinalKernelIdeal.Facts] [hFinalReferenceIdeal : Cert.FinalReferenceIdeal.Facts] [hPre_finite_final : Cert.Pre_finite_final.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal_finite_final m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)) →
    ∃ (v0 : (c : Dev Cert.FinalKernelIdeal.nD) → Buf (Elt Ideal) ((c.tc : Thread Cert.FinalKernelIdeal.nD Cert.FinalKernelIdeal.τ).loc Cert.FinalKernelIdeal.main_v0_0)) (v1 : (c : Dev Cert.FinalKernelIdeal.nD) → Buf (Elt Ideal) ((c.tc : Thread Cert.FinalKernelIdeal.nD Cert.FinalKernelIdeal.τ).loc Cert.FinalKernelIdeal.main_v0_1)) (v2 : (c : Dev Cert.FinalKernelIdeal.nD) → Buf (Elt Ideal) ((c.tc : Thread Cert.FinalKernelIdeal.nD Cert.FinalKernelIdeal.τ).loc Cert.FinalKernelIdeal.main_v0_2)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v0_0) = v0 c
          ∧ r.2.mem ((c.tc : Thread Cert.FinalKernelIdeal.nD Cert.FinalKernelIdeal.τ).loc Cert.FinalKernelIdeal.main_v0_1) = v1 c
          ∧ r.2.mem ((c.tc : Thread Cert.FinalKernelIdeal.nD Cert.FinalKernelIdeal.τ).loc Cert.FinalKernelIdeal.main_v0_2) = v2 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v51) = v0 c
          ∧ r.2.mem ((c.tc : Thread Cert.FinalReferenceIdeal.nD Cert.FinalReferenceIdeal.τ).loc Cert.FinalReferenceIdeal.main_v52) = v1 c
          ∧ r.2.mem ((c.tc : Thread Cert.FinalReferenceIdeal.nD Cert.FinalReferenceIdeal.τ).loc Cert.FinalReferenceIdeal.main_v70) = v2 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_RmsFwdKernel_RmsFwdKernelIdeal : Prop :=
  True

def algebraic_RmsFwdKernelIdeal_RmsFwdReferenceIdeal [hRmsFwdKernelIdeal : Cert.RmsFwdKernelIdeal.Facts] [hRmsFwdReferenceIdeal : Cert.RmsFwdReferenceIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdKernelIdeal m →
    (∀ c : Dev Cert.RmsFwdKernelIdeal.nD,
      m' ((c.tc : Thread Cert.RmsFwdReferenceIdeal.nD Cert.RmsFwdReferenceIdeal.τ).loc Cert.RmsFwdReferenceIdeal.main_arg0) = m ((c.tc : Thread Cert.RmsFwdKernelIdeal.nD Cert.RmsFwdKernelIdeal.τ).loc Cert.RmsFwdKernelIdeal.main_arg0)
      ∧ m' ((c.tc : Thread Cert.RmsFwdReferenceIdeal.nD Cert.RmsFwdReferenceIdeal.τ).loc Cert.RmsFwdReferenceIdeal.main_arg1) = m ((c.tc : Thread Cert.RmsFwdKernelIdeal.nD Cert.RmsFwdKernelIdeal.τ).loc Cert.RmsFwdKernelIdeal.main_arg1)) →
    ∃ (v0 : (c : Dev Cert.RmsFwdKernelIdeal.nD) → Buf (Elt Ideal) ((c.tc : Thread Cert.RmsFwdKernelIdeal.nD Cert.RmsFwdKernelIdeal.τ).loc Cert.RmsFwdKernelIdeal.main_v0)),
      θ_run (Cert.RmsFwdKernelIdeal.defs (F := Ideal)) (onTc (τ := Cert.RmsFwdKernelIdeal.τ) (Cert.RmsFwdKernelIdeal.main (F := Ideal))) ⟨m, fun _ => 0, g⟩ (fun r => ∀ c : Dev Cert.RmsFwdKernelIdeal.nD,
          r.2.mem ((c.tc : Thread Cert.RmsFwdKernelIdeal.nD Cert.RmsFwdKernelIdeal.τ).loc Cert.RmsFwdKernelIdeal.main_v0) = v0 c
          ∧ r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
          ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v12) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_MixerPostKernel_MixerPostKernelIdeal : Prop :=
  True

def algebraic_MixerPostKernelIdeal_MixerPostReferenceIdeal [hMixerPostKernelIdeal : Cert.MixerPostKernelIdeal.Facts] [hMixerPostReferenceIdeal : Cert.MixerPostReferenceIdeal.Facts] : Prop :=
  ∀ (m : (ℓ : Loc Cert.MixerPostKernelIdeal.nD Cert.MixerPostKernelIdeal.τ Cert.MixerPostKernelIdeal.sig) → Buf (Elt Ideal) ℓ) (g : Dev Cert.MixerPostKernelIdeal.nD → PrngReg)
    (m' : (ℓ : Loc Cert.MixerPostReferenceIdeal.nD Cert.MixerPostReferenceIdeal.τ Cert.MixerPostReferenceIdeal.sig) → Buf (Elt Ideal) ℓ) (g' : Dev Cert.MixerPostReferenceIdeal.nD → PrngReg), Pre_MixerPostKernelIdeal m →
    (∀ c : Dev Cert.MixerPostKernelIdeal.nD,
      m' ((c.tc : Thread Cert.MixerPostReferenceIdeal.nD Cert.MixerPostReferenceIdeal.τ).loc Cert.MixerPostReferenceIdeal.main_arg0) = m ((c.tc : Thread Cert.MixerPostKernelIdeal.nD Cert.MixerPostKernelIdeal.τ).loc Cert.MixerPostKernelIdeal.main_arg0)
      ∧ m' ((c.tc : Thread Cert.MixerPostReferenceIdeal.nD Cert.MixerPostReferenceIdeal.τ).loc Cert.MixerPostReferenceIdeal.main_arg1) = m ((c.tc : Thread Cert.MixerPostKernelIdeal.nD Cert.MixerPostKernelIdeal.τ).loc Cert.MixerPostKernelIdeal.main_arg1)
      ∧ m' ((c.tc : Thread Cert.MixerPostReferenceIdeal.nD Cert.MixerPostReferenceIdeal.τ).loc Cert.MixerPostReferenceIdeal.main_arg2) = m ((c.tc : Thread Cert.MixerPostKernelIdeal.nD Cert.MixerPostKernelIdeal.τ).loc Cert.MixerPostKernelIdeal.main_arg2)
      ∧ m' ((c.tc : Thread Cert.MixerPostReferenceIdeal.nD Cert.MixerPostReferenceIdeal.τ).loc Cert.MixerPostReferenceIdeal.main_arg3) = m ((c.tc : Thread Cert.MixerPostKernelIdeal.nD Cert.MixerPostKernelIdeal.τ).loc Cert.MixerPostKernelIdeal.main_arg3)
      ∧ m' ((c.tc : Thread Cert.MixerPostReferenceIdeal.nD Cert.MixerPostReferenceIdeal.τ).loc Cert.MixerPostReferenceIdeal.main_arg4) = m ((c.tc : Thread Cert.MixerPostKernelIdeal.nD Cert.MixerPostKernelIdeal.τ).loc Cert.MixerPostKernelIdeal.main_arg4)
      ∧ m' ((c.tc : Thread Cert.MixerPostReferenceIdeal.nD Cert.MixerPostReferenceIdeal.τ).loc Cert.MixerPostReferenceIdeal.main_arg5) = m ((c.tc : Thread Cert.MixerPostKernelIdeal.nD Cert.MixerPostKernelIdeal.τ).loc Cert.MixerPostKernelIdeal.main_arg5)
      ∧ m' ((c.tc : Thread Cert.MixerPostReferenceIdeal.nD Cert.MixerPostReferenceIdeal.τ).loc Cert.MixerPostReferenceIdeal.main_arg6) = m ((c.tc : Thread Cert.MixerPostKernelIdeal.nD Cert.MixerPostKernelIdeal.τ).loc Cert.MixerPostKernelIdeal.main_arg6)) →
    ∃ (v0 : (c : Dev Cert.MixerPostKernelIdeal.nD) → Buf (Elt Ideal) ((c.tc : Thread Cert.MixerPostKernelIdeal.nD Cert.MixerPostKernelIdeal.τ).loc Cert.MixerPostKernelIdeal.main_v0_0)) (v1 : (c : Dev Cert.MixerPostKernelIdeal.nD) → Buf (Elt Ideal) ((c.tc : Thread Cert.MixerPostKernelIdeal.nD Cert.MixerPostKernelIdeal.τ).loc Cert.MixerPostKernelIdeal.main_v0_1)),
      θ_run (Cert.MixerPostKernelIdeal.defs (F := Ideal)) (onTc (τ := Cert.MixerPostKernelIdeal.τ) (Cert.MixerPostKernelIdeal.main (F := Ideal))) ⟨m, fun _ => 0, g⟩ (fun r => ∀ c : Dev Cert.MixerPostKernelIdeal.nD,
          r.2.mem ((c.tc : Thread Cert.MixerPostKernelIdeal.nD Cert.MixerPostKernelIdeal.τ).loc Cert.MixerPostKernelIdeal.main_v0_0) = v0 c
          ∧ r.2.mem ((c.tc : Thread Cert.MixerPostKernelIdeal.nD Cert.MixerPostKernelIdeal.τ).loc Cert.MixerPostKernelIdeal.main_v0_1) = v1 c
          ∧ r.2.mem ((c.tc : Thread Cert.MixerPostKernelIdeal.nD Cert.MixerPostKernelIdeal.τ).loc Cert.MixerPostKernelIdeal.main_arg0) = m ((c.tc : Thread Cert.MixerPostKernelIdeal.nD Cert.MixerPostKernelIdeal.τ).loc Cert.MixerPostKernelIdeal.main_arg0)
          ∧ r.2.mem ((c.tc : Thread Cert.MixerPostKernelIdeal.nD Cert.MixerPostKernelIdeal.τ).loc Cert.MixerPostKernelIdeal.main_arg1) = m ((c.tc : Thread Cert.MixerPostKernelIdeal.nD Cert.MixerPostKernelIdeal.τ).loc Cert.MixerPostKernelIdeal.main_arg1)
          ∧ r.2.mem ((c.tc : Thread Cert.MixerPostKernelIdeal.nD Cert.MixerPostKernelIdeal.τ).loc Cert.MixerPostKernelIdeal.main_arg2) = m ((c.tc : Thread Cert.MixerPostKernelIdeal.nD Cert.MixerPostKernelIdeal.τ).loc Cert.MixerPostKernelIdeal.main_arg2)
          ∧ r.2.mem ((c.tc : Thread Cert.MixerPostKernelIdeal.nD Cert.MixerPostKernelIdeal.τ).loc Cert.MixerPostKernelIdeal.main_arg3) = m ((c.tc : Thread Cert.MixerPostKernelIdeal.nD Cert.MixerPostKernelIdeal.τ).loc Cert.MixerPostKernelIdeal.main_arg3)
          ∧ r.2.mem ((c.tc : Thread Cert.MixerPostKernelIdeal.nD Cert.MixerPostKernelIdeal.τ).loc Cert.MixerPostKernelIdeal.main_arg4) = m ((c.tc : Thread Cert.MixerPostKernelIdeal.nD Cert.MixerPostKernelIdeal.τ).loc Cert.MixerPostKernelIdeal.main_arg4)
          ∧ r.2.mem ((c.tc : Thread Cert.MixerPostKernelIdeal.nD Cert.MixerPostKernelIdeal.τ).loc Cert.MixerPostKernelIdeal.main_arg5) = m ((c.tc : Thread Cert.MixerPostKernelIdeal.nD Cert.MixerPostKernelIdeal.τ).loc Cert.MixerPostKernelIdeal.main_arg5)
          ∧ r.2.mem ((c.tc : Thread Cert.MixerPostKernelIdeal.nD Cert.MixerPostKernelIdeal.τ).loc Cert.MixerPostKernelIdeal.main_arg6) = m ((c.tc : Thread Cert.MixerPostKernelIdeal.nD Cert.MixerPostKernelIdeal.τ).loc Cert.MixerPostKernelIdeal.main_arg6))
      ∧ θ_run (Cert.MixerPostReferenceIdeal.defs (F := Ideal)) (onTc (τ := Cert.MixerPostReferenceIdeal.τ) (Cert.MixerPostReferenceIdeal.main (F := Ideal))) ⟨m', fun _ => 0, g'⟩ (fun r => ∀ c : Dev Cert.MixerPostReferenceIdeal.nD,
          r.2.mem ((c.tc : Thread Cert.MixerPostReferenceIdeal.nD Cert.MixerPostReferenceIdeal.τ).loc Cert.MixerPostReferenceIdeal.main_v162) = v0 c
          ∧ r.2.mem ((c.tc : Thread Cert.MixerPostReferenceIdeal.nD Cert.MixerPostReferenceIdeal.τ).loc Cert.MixerPostReferenceIdeal.main_v158) = v1 c
          ∧ r.2.mem ((c.tc : Thread Cert.MixerPostReferenceIdeal.nD Cert.MixerPostReferenceIdeal.τ).loc Cert.MixerPostReferenceIdeal.main_arg0) = m' ((c.tc : Thread Cert.MixerPostReferenceIdeal.nD Cert.MixerPostReferenceIdeal.τ).loc Cert.MixerPostReferenceIdeal.main_arg0)
          ∧ r.2.mem ((c.tc : Thread Cert.MixerPostReferenceIdeal.nD Cert.MixerPostReferenceIdeal.τ).loc Cert.MixerPostReferenceIdeal.main_arg1) = m' ((c.tc : Thread Cert.MixerPostReferenceIdeal.nD Cert.MixerPostReferenceIdeal.τ).loc Cert.MixerPostReferenceIdeal.main_arg1)
          ∧ r.2.mem ((c.tc : Thread Cert.MixerPostReferenceIdeal.nD Cert.MixerPostReferenceIdeal.τ).loc Cert.MixerPostReferenceIdeal.main_arg2) = m' ((c.tc : Thread Cert.MixerPostReferenceIdeal.nD Cert.MixerPostReferenceIdeal.τ).loc Cert.MixerPostReferenceIdeal.main_arg2)
          ∧ r.2.mem ((c.tc : Thread Cert.MixerPostReferenceIdeal.nD Cert.MixerPostReferenceIdeal.τ).loc Cert.MixerPostReferenceIdeal.main_arg3) = m' ((c.tc : Thread Cert.MixerPostReferenceIdeal.nD Cert.MixerPostReferenceIdeal.τ).loc Cert.MixerPostReferenceIdeal.main_arg3)
          ∧ r.2.mem ((c.tc : Thread Cert.MixerPostReferenceIdeal.nD Cert.MixerPostReferenceIdeal.τ).loc Cert.MixerPostReferenceIdeal.main_arg4) = m' ((c.tc : Thread Cert.MixerPostReferenceIdeal.nD Cert.MixerPostReferenceIdeal.τ).loc Cert.MixerPostReferenceIdeal.main_arg4)
          ∧ r.2.mem ((c.tc : Thread Cert.MixerPostReferenceIdeal.nD Cert.MixerPostReferenceIdeal.τ).loc Cert.MixerPostReferenceIdeal.main_arg5) = m' ((c.tc : Thread Cert.MixerPostReferenceIdeal.nD Cert.MixerPostReferenceIdeal.τ).loc Cert.MixerPostReferenceIdeal.main_arg5)
          ∧ r.2.mem ((c.tc : Thread Cert.MixerPostReferenceIdeal.nD Cert.MixerPostReferenceIdeal.τ).loc Cert.MixerPostReferenceIdeal.main_arg6) = m' ((c.tc : Thread Cert.MixerPostReferenceIdeal.nD Cert.MixerPostReferenceIdeal.τ).loc Cert.MixerPostReferenceIdeal.main_arg6))

def preserves_PoolTKernel_PoolTKernelIdeal : Prop :=
  True

def algebraic_PoolTKernelIdeal_PoolTReferenceIdeal [hPoolTKernelIdeal : Cert.PoolTKernelIdeal.Facts] [hPoolTReferenceIdeal : Cert.PoolTReferenceIdeal.Facts] : Prop :=
  ∀ (m : (ℓ : Loc Cert.PoolTKernelIdeal.nD Cert.PoolTKernelIdeal.τ Cert.PoolTKernelIdeal.sig) → Buf (Elt Ideal) ℓ) (g : Dev Cert.PoolTKernelIdeal.nD → PrngReg)
    (m' : (ℓ : Loc Cert.PoolTReferenceIdeal.nD Cert.PoolTReferenceIdeal.τ Cert.PoolTReferenceIdeal.sig) → Buf (Elt Ideal) ℓ) (g' : Dev Cert.PoolTReferenceIdeal.nD → PrngReg), Pre_PoolTKernelIdeal m →
    (∀ c : Dev Cert.PoolTKernelIdeal.nD,
      m' ((c.tc : Thread Cert.PoolTReferenceIdeal.nD Cert.PoolTReferenceIdeal.τ).loc Cert.PoolTReferenceIdeal.main_arg0) = m ((c.tc : Thread Cert.PoolTKernelIdeal.nD Cert.PoolTKernelIdeal.τ).loc Cert.PoolTKernelIdeal.main_arg0)) →
    ∃ (v0 : (c : Dev Cert.PoolTKernelIdeal.nD) → Buf (Elt Ideal) ((c.tc : Thread Cert.PoolTKernelIdeal.nD Cert.PoolTKernelIdeal.τ).loc Cert.PoolTKernelIdeal.main_v0)),
      θ_run (Cert.PoolTKernelIdeal.defs (F := Ideal)) (onTc (τ := Cert.PoolTKernelIdeal.τ) (Cert.PoolTKernelIdeal.main (F := Ideal))) ⟨m, fun _ => 0, g⟩ (fun r => ∀ c : Dev Cert.PoolTKernelIdeal.nD,
          r.2.mem ((c.tc : Thread Cert.PoolTKernelIdeal.nD Cert.PoolTKernelIdeal.τ).loc Cert.PoolTKernelIdeal.main_v0) = v0 c
          ∧ r.2.mem ((c.tc : Thread Cert.PoolTKernelIdeal.nD Cert.PoolTKernelIdeal.τ).loc Cert.PoolTKernelIdeal.main_arg0) = m ((c.tc : Thread Cert.PoolTKernelIdeal.nD Cert.PoolTKernelIdeal.τ).loc Cert.PoolTKernelIdeal.main_arg0))
      ∧ θ_run (Cert.PoolTReferenceIdeal.defs (F := Ideal)) (onTc (τ := Cert.PoolTReferenceIdeal.τ) (Cert.PoolTReferenceIdeal.main (F := Ideal))) ⟨m', fun _ => 0, g'⟩ (fun r => ∀ c : Dev Cert.PoolTReferenceIdeal.nD,
          r.2.mem ((c.tc : Thread Cert.PoolTReferenceIdeal.nD Cert.PoolTReferenceIdeal.τ).loc Cert.PoolTReferenceIdeal.main_v234) = v0 c
          ∧ r.2.mem ((c.tc : Thread Cert.PoolTReferenceIdeal.nD Cert.PoolTReferenceIdeal.τ).loc Cert.PoolTReferenceIdeal.main_arg0) = m' ((c.tc : Thread Cert.PoolTReferenceIdeal.nD Cert.PoolTReferenceIdeal.τ).loc Cert.PoolTReferenceIdeal.main_arg0))

def preserves_FfnActKernel_FfnActKernelIdeal : Prop :=
  True

def algebraic_FfnActKernelIdeal_FfnActReferenceIdeal [hFfnActKernelIdeal : Cert.FfnActKernelIdeal.Facts] [hFfnActReferenceIdeal : Cert.FfnActReferenceIdeal.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActKernelIdeal m →
    (∀ c : Dev Cert.FfnActKernelIdeal.nD,
      m' ((c.tc : Thread Cert.FfnActReferenceIdeal.nD Cert.FfnActReferenceIdeal.τ).loc Cert.FfnActReferenceIdeal.main_arg0) = m ((c.tc : Thread Cert.FfnActKernelIdeal.nD Cert.FfnActKernelIdeal.τ).loc Cert.FfnActKernelIdeal.main_arg0)
      ∧ m' ((c.tc : Thread Cert.FfnActReferenceIdeal.nD Cert.FfnActReferenceIdeal.τ).loc Cert.FfnActReferenceIdeal.main_arg1) = m ((c.tc : Thread Cert.FfnActKernelIdeal.nD Cert.FfnActKernelIdeal.τ).loc Cert.FfnActKernelIdeal.main_arg1)) →
    ∃ (v0 : (c : Dev Cert.FfnActKernelIdeal.nD) → Buf (Elt Ideal) ((c.tc : Thread Cert.FfnActKernelIdeal.nD Cert.FfnActKernelIdeal.τ).loc Cert.FfnActKernelIdeal.main_v0)),
      θ_run (Cert.FfnActKernelIdeal.defs (F := Ideal)) (onTc (τ := Cert.FfnActKernelIdeal.τ) (Cert.FfnActKernelIdeal.main (F := Ideal))) ⟨m, fun _ => 0, g⟩ (fun r => ∀ c : Dev Cert.FfnActKernelIdeal.nD,
          r.2.mem ((c.tc : Thread Cert.FfnActKernelIdeal.nD Cert.FfnActKernelIdeal.τ).loc Cert.FfnActKernelIdeal.main_v0) = v0 c
          ∧ r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
          ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v27) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1))

def preserves_FfnActBwdKernel_FfnActBwdKernelIdeal : Prop :=
  True

def algebraic_FfnActBwdKernelIdeal_FfnActBwdReferenceIdeal_pre_finite_ffnactbwd [hFfnActBwdKernelIdeal : Cert.FfnActBwdKernelIdeal.Facts] [hFfnActBwdReferenceIdeal : Cert.FfnActBwdReferenceIdeal.Facts] [hPre_finite_ffnactbwd : Cert.Pre_finite_ffnactbwd.Facts] : Prop :=
  ∀ (m : (ℓ : Loc Cert.FfnActBwdKernelIdeal.nD Cert.FfnActBwdKernelIdeal.τ Cert.FfnActBwdKernelIdeal.sig) → Buf (Elt Ideal) ℓ) (g : Dev Cert.FfnActBwdKernelIdeal.nD → PrngReg)
    (m' : (ℓ : Loc Cert.FfnActBwdReferenceIdeal.nD Cert.FfnActBwdReferenceIdeal.τ Cert.FfnActBwdReferenceIdeal.sig) → Buf (Elt Ideal) ℓ) (g' : Dev Cert.FfnActBwdReferenceIdeal.nD → PrngReg), Pre_FfnActBwdKernelIdeal_finite_ffnactbwd m →
    (∀ c : Dev Cert.FfnActBwdKernelIdeal.nD,
      m' ((c.tc : Thread Cert.FfnActBwdReferenceIdeal.nD Cert.FfnActBwdReferenceIdeal.τ).loc Cert.FfnActBwdReferenceIdeal.main_arg0) = m ((c.tc : Thread Cert.FfnActBwdKernelIdeal.nD Cert.FfnActBwdKernelIdeal.τ).loc Cert.FfnActBwdKernelIdeal.main_arg0)
      ∧ m' ((c.tc : Thread Cert.FfnActBwdReferenceIdeal.nD Cert.FfnActBwdReferenceIdeal.τ).loc Cert.FfnActBwdReferenceIdeal.main_arg1) = m ((c.tc : Thread Cert.FfnActBwdKernelIdeal.nD Cert.FfnActBwdKernelIdeal.τ).loc Cert.FfnActBwdKernelIdeal.main_arg1)
      ∧ m' ((c.tc : Thread Cert.FfnActBwdReferenceIdeal.nD Cert.FfnActBwdReferenceIdeal.τ).loc Cert.FfnActBwdReferenceIdeal.main_arg2) = m ((c.tc : Thread Cert.FfnActBwdKernelIdeal.nD Cert.FfnActBwdKernelIdeal.τ).loc Cert.FfnActBwdKernelIdeal.main_arg2)) →
    ∃ (v0 : (c : Dev Cert.FfnActBwdKernelIdeal.nD) → Buf (Elt Ideal) ((c.tc : Thread Cert.FfnActBwdKernelIdeal.nD Cert.FfnActBwdKernelIdeal.τ).loc Cert.FfnActBwdKernelIdeal.main_v0_0)),
      θ_run (Cert.FfnActBwdKernelIdeal.defs (F := Ideal)) (onTc (τ := Cert.FfnActBwdKernelIdeal.τ) (Cert.FfnActBwdKernelIdeal.main (F := Ideal))) ⟨m, fun _ => 0, g⟩ (fun r => ∀ c : Dev Cert.FfnActBwdKernelIdeal.nD,
          r.2.mem ((c.tc : Thread Cert.FfnActBwdKernelIdeal.nD Cert.FfnActBwdKernelIdeal.τ).loc Cert.FfnActBwdKernelIdeal.main_v0_0) = v0 c
          ∧ r.2.mem ((c.tc : Thread Cert.FfnActBwdKernelIdeal.nD Cert.FfnActBwdKernelIdeal.τ).loc Cert.FfnActBwdKernelIdeal.main_arg0) = m ((c.tc : Thread Cert.FfnActBwdKernelIdeal.nD Cert.FfnActBwdKernelIdeal.τ).loc Cert.FfnActBwdKernelIdeal.main_arg0)
          ∧ r.2.mem ((c.tc : Thread Cert.FfnActBwdKernelIdeal.nD Cert.FfnActBwdKernelIdeal.τ).loc Cert.FfnActBwdKernelIdeal.main_arg1) = m ((c.tc : Thread Cert.FfnActBwdKernelIdeal.nD Cert.FfnActBwdKernelIdeal.τ).loc Cert.FfnActBwdKernelIdeal.main_arg1)
          ∧ r.2.mem ((c.tc : Thread Cert.FfnActBwdKernelIdeal.nD Cert.FfnActBwdKernelIdeal.τ).loc Cert.FfnActBwdKernelIdeal.main_arg2) = m ((c.tc : Thread Cert.FfnActBwdKernelIdeal.nD Cert.FfnActBwdKernelIdeal.τ).loc Cert.FfnActBwdKernelIdeal.main_arg2))
      ∧ θ_run (Cert.FfnActBwdReferenceIdeal.defs (F := Ideal)) (onTc (τ := Cert.FfnActBwdReferenceIdeal.τ) (Cert.FfnActBwdReferenceIdeal.main (F := Ideal))) ⟨m', fun _ => 0, g'⟩ (fun r => ∀ c : Dev Cert.FfnActBwdReferenceIdeal.nD,
          r.2.mem ((c.tc : Thread Cert.FfnActBwdReferenceIdeal.nD Cert.FfnActBwdReferenceIdeal.τ).loc Cert.FfnActBwdReferenceIdeal.main_v31) = v0 c
          ∧ r.2.mem ((c.tc : Thread Cert.FfnActBwdReferenceIdeal.nD Cert.FfnActBwdReferenceIdeal.τ).loc Cert.FfnActBwdReferenceIdeal.main_arg0) = m' ((c.tc : Thread Cert.FfnActBwdReferenceIdeal.nD Cert.FfnActBwdReferenceIdeal.τ).loc Cert.FfnActBwdReferenceIdeal.main_arg0)
          ∧ r.2.mem ((c.tc : Thread Cert.FfnActBwdReferenceIdeal.nD Cert.FfnActBwdReferenceIdeal.τ).loc Cert.FfnActBwdReferenceIdeal.main_arg1) = m' ((c.tc : Thread Cert.FfnActBwdReferenceIdeal.nD Cert.FfnActBwdReferenceIdeal.τ).loc Cert.FfnActBwdReferenceIdeal.main_arg1)
          ∧ r.2.mem ((c.tc : Thread Cert.FfnActBwdReferenceIdeal.nD Cert.FfnActBwdReferenceIdeal.τ).loc Cert.FfnActBwdReferenceIdeal.main_arg2) = m' ((c.tc : Thread Cert.FfnActBwdReferenceIdeal.nD Cert.FfnActBwdReferenceIdeal.τ).loc Cert.FfnActBwdReferenceIdeal.main_arg2))

def Claim : Prop :=
  ∃ (hKernel : Cert.Kernel.Facts) (hKernelIdeal : Cert.KernelIdeal.Facts) (hReferenceIdeal : Cert.ReferenceIdeal.Facts) (hUpDxKernel : Cert.UpDxKernel.Facts) (hUpDxKernelIdeal : Cert.UpDxKernelIdeal.Facts) (hUpDxReferenceIdeal : Cert.UpDxReferenceIdeal.Facts) (hUpDwKernel : Cert.UpDwKernel.Facts) (hUpDwKernelIdeal : Cert.UpDwKernelIdeal.Facts) (hUpDwReferenceIdeal : Cert.UpDwReferenceIdeal.Facts) (hInDxKernel : Cert.InDxKernel.Facts) (hInDxKernelIdeal : Cert.InDxKernelIdeal.Facts) (hInDxReferenceIdeal : Cert.InDxReferenceIdeal.Facts) (hInDwKernel : Cert.InDwKernel.Facts) (hInDwKernelIdeal : Cert.InDwKernelIdeal.Facts) (hInDwReferenceIdeal : Cert.InDwReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hOutDxKernel : Cert.OutDxKernel.Facts) (hOutDxKernelIdeal : Cert.OutDxKernelIdeal.Facts) (hOutDxReferenceIdeal : Cert.OutDxReferenceIdeal.Facts) (hOutDwKernel : Cert.OutDwKernel.Facts) (hOutDwKernelIdeal : Cert.OutDwKernelIdeal.Facts) (hOutDwReferenceIdeal : Cert.OutDwReferenceIdeal.Facts) (hInKernel : Cert.InKernel.Facts) (hInKernelIdeal : Cert.InKernelIdeal.Facts) (hInReferenceIdeal : Cert.InReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hRmsBwdKernel : Cert.RmsBwdKernel.Facts) (hRmsBwdKernelIdeal : Cert.RmsBwdKernelIdeal.Facts) (hRmsBwdReferenceIdeal : Cert.RmsBwdReferenceIdeal.Facts) (hConvFfnKernel : Cert.ConvFfnKernel.Facts) (hConvFfnKernelIdeal : Cert.ConvFfnKernelIdeal.Facts) (hConvFfnReferenceIdeal : Cert.ConvFfnReferenceIdeal.Facts) (hConvQkvKernel : Cert.ConvQkvKernel.Facts) (hConvQkvKernelIdeal : Cert.ConvQkvKernelIdeal.Facts) (hConvQkvReferenceIdeal : Cert.ConvQkvReferenceIdeal.Facts) (hAdamInKernel : Cert.AdamInKernel.Facts) (hAdamInKernelIdeal : Cert.AdamInKernelIdeal.Facts) (hAdamInReferenceIdeal : Cert.AdamInReferenceIdeal.Facts) (hAdamUpKernel : Cert.AdamUpKernel.Facts) (hAdamUpKernelIdeal : Cert.AdamUpKernelIdeal.Facts) (hAdamUpReferenceIdeal : Cert.AdamUpReferenceIdeal.Facts) (hAdamOutKernel : Cert.AdamOutKernel.Facts) (hAdamOutKernelIdeal : Cert.AdamOutKernelIdeal.Facts) (hAdamOutReferenceIdeal : Cert.AdamOutReferenceIdeal.Facts) (hAdamDownKernel : Cert.AdamDownKernel.Facts) (hAdamDownKernelIdeal : Cert.AdamDownKernelIdeal.Facts) (hAdamDownReferenceIdeal : Cert.AdamDownReferenceIdeal.Facts) (hFinalKernel : Cert.FinalKernel.Facts) (hFinalKernelIdeal : Cert.FinalKernelIdeal.Facts) (hFinalReferenceIdeal : Cert.FinalReferenceIdeal.Facts) (hRmsFwdKernel : Cert.RmsFwdKernel.Facts) (hRmsFwdKernelIdeal : Cert.RmsFwdKernelIdeal.Facts) (hRmsFwdReferenceIdeal : Cert.RmsFwdReferenceIdeal.Facts) (hMixerPostKernel : Cert.MixerPostKernel.Facts) (hMixerPostKernelIdeal : Cert.MixerPostKernelIdeal.Facts) (hMixerPostReferenceIdeal : Cert.MixerPostReferenceIdeal.Facts) (hPoolTKernel : Cert.PoolTKernel.Facts) (hPoolTKernelIdeal : Cert.PoolTKernelIdeal.Facts) (hPoolTReferenceIdeal : Cert.PoolTReferenceIdeal.Facts) (hFfnActKernel : Cert.FfnActKernel.Facts) (hFfnActKernelIdeal : Cert.FfnActKernelIdeal.Facts) (hFfnActReferenceIdeal : Cert.FfnActReferenceIdeal.Facts) (hFfnActBwdKernel : Cert.FfnActBwdKernel.Facts) (hFfnActBwdKernelIdeal : Cert.FfnActBwdKernelIdeal.Facts) (hFfnActBwdReferenceIdeal : Cert.FfnActBwdReferenceIdeal.Facts) (hPre_finite : Cert.Pre_finite.Facts) (hPre_finite_rmsbwd : Cert.Pre_finite_rmsbwd.Facts) (hPre_finite_final : Cert.Pre_finite_final.Facts) (hPre_finite_ffnactbwd : Cert.Pre_finite_ffnactbwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_InDxKernel (hInDxKernel := hInDxKernel)
    ∧ quiescent_InDxKernelIdeal (hInDxKernelIdeal := hInDxKernelIdeal)
    ∧ quiescent_InDxReferenceIdeal (hInDxReferenceIdeal := hInDxReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_RmsBwdKernel (hRmsBwdKernel := hRmsBwdKernel)
    ∧ quiescent_RmsBwdKernelIdeal (hRmsBwdKernelIdeal := hRmsBwdKernelIdeal)
    ∧ quiescent_RmsBwdKernelIdeal_pre_finite_rmsbwd (hRmsBwdKernelIdeal := hRmsBwdKernelIdeal) (hPre_finite_rmsbwd := hPre_finite_rmsbwd)
    ∧ quiescent_RmsBwdReferenceIdeal (hRmsBwdReferenceIdeal := hRmsBwdReferenceIdeal)
    ∧ quiescent_RmsBwdReferenceIdeal_pre_finite_rmsbwd (hRmsBwdReferenceIdeal := hRmsBwdReferenceIdeal) (hPre_finite_rmsbwd := hPre_finite_rmsbwd)
    ∧ quiescent_ConvFfnKernel (hConvFfnKernel := hConvFfnKernel)
    ∧ quiescent_ConvFfnKernelIdeal (hConvFfnKernelIdeal := hConvFfnKernelIdeal)
    ∧ quiescent_ConvFfnReferenceIdeal (hConvFfnReferenceIdeal := hConvFfnReferenceIdeal)
    ∧ quiescent_ConvQkvKernel (hConvQkvKernel := hConvQkvKernel)
    ∧ quiescent_ConvQkvKernelIdeal (hConvQkvKernelIdeal := hConvQkvKernelIdeal)
    ∧ quiescent_ConvQkvReferenceIdeal (hConvQkvReferenceIdeal := hConvQkvReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_FinalKernel (hFinalKernel := hFinalKernel)
    ∧ quiescent_FinalKernelIdeal (hFinalKernelIdeal := hFinalKernelIdeal)
    ∧ quiescent_FinalKernelIdeal_pre_finite_final (hFinalKernelIdeal := hFinalKernelIdeal) (hPre_finite_final := hPre_finite_final)
    ∧ quiescent_FinalReferenceIdeal (hFinalReferenceIdeal := hFinalReferenceIdeal)
    ∧ quiescent_FinalReferenceIdeal_pre_finite_final (hFinalReferenceIdeal := hFinalReferenceIdeal) (hPre_finite_final := hPre_finite_final)
    ∧ quiescent_RmsFwdKernel (hRmsFwdKernel := hRmsFwdKernel)
    ∧ quiescent_RmsFwdKernelIdeal (hRmsFwdKernelIdeal := hRmsFwdKernelIdeal)
    ∧ quiescent_RmsFwdReferenceIdeal (hRmsFwdReferenceIdeal := hRmsFwdReferenceIdeal)
    ∧ quiescent_MixerPostKernel (hMixerPostKernel := hMixerPostKernel)
    ∧ quiescent_MixerPostKernelIdeal (hMixerPostKernelIdeal := hMixerPostKernelIdeal)
    ∧ quiescent_MixerPostReferenceIdeal (hMixerPostReferenceIdeal := hMixerPostReferenceIdeal)
    ∧ quiescent_PoolTKernel (hPoolTKernel := hPoolTKernel)
    ∧ quiescent_PoolTKernelIdeal (hPoolTKernelIdeal := hPoolTKernelIdeal)
    ∧ quiescent_PoolTReferenceIdeal (hPoolTReferenceIdeal := hPoolTReferenceIdeal)
    ∧ quiescent_FfnActKernel (hFfnActKernel := hFfnActKernel)
    ∧ quiescent_FfnActKernelIdeal (hFfnActKernelIdeal := hFfnActKernelIdeal)
    ∧ quiescent_FfnActReferenceIdeal (hFfnActReferenceIdeal := hFfnActReferenceIdeal)
    ∧ quiescent_FfnActBwdKernel (hFfnActBwdKernel := hFfnActBwdKernel)
    ∧ quiescent_FfnActBwdKernelIdeal (hFfnActBwdKernelIdeal := hFfnActBwdKernelIdeal)
    ∧ quiescent_FfnActBwdKernelIdeal_pre_finite_ffnactbwd (hFfnActBwdKernelIdeal := hFfnActBwdKernelIdeal) (hPre_finite_ffnactbwd := hPre_finite_ffnactbwd)
    ∧ quiescent_FfnActBwdReferenceIdeal (hFfnActBwdReferenceIdeal := hFfnActBwdReferenceIdeal)
    ∧ quiescent_FfnActBwdReferenceIdeal_pre_finite_ffnactbwd (hFfnActBwdReferenceIdeal := hFfnActBwdReferenceIdeal) (hPre_finite_ffnactbwd := hPre_finite_ffnactbwd)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_InDxKernel_InDxKernelIdeal
    ∧ algebraic_InDxKernelIdeal_InDxReferenceIdeal (hInDxKernelIdeal := hInDxKernelIdeal) (hInDxReferenceIdeal := hInDxReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_InKernel_InKernelIdeal
    ∧ algebraic_InKernelIdeal_InReferenceIdeal (hInKernelIdeal := hInKernelIdeal) (hInReferenceIdeal := hInReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_RmsBwdKernel_RmsBwdKernelIdeal
    ∧ algebraic_RmsBwdKernelIdeal_RmsBwdReferenceIdeal_pre_finite_rmsbwd (hRmsBwdKernelIdeal := hRmsBwdKernelIdeal) (hRmsBwdReferenceIdeal := hRmsBwdReferenceIdeal) (hPre_finite_rmsbwd := hPre_finite_rmsbwd)
    ∧ preserves_ConvFfnKernel_ConvFfnKernelIdeal
    ∧ algebraic_ConvFfnKernelIdeal_ConvFfnReferenceIdeal (hConvFfnKernelIdeal := hConvFfnKernelIdeal) (hConvFfnReferenceIdeal := hConvFfnReferenceIdeal)
    ∧ preserves_ConvQkvKernel_ConvQkvKernelIdeal
    ∧ algebraic_ConvQkvKernelIdeal_ConvQkvReferenceIdeal (hConvQkvKernelIdeal := hConvQkvKernelIdeal) (hConvQkvReferenceIdeal := hConvQkvReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_FinalKernel_FinalKernelIdeal
    ∧ algebraic_FinalKernelIdeal_FinalReferenceIdeal_pre_finite_final (hFinalKernelIdeal := hFinalKernelIdeal) (hFinalReferenceIdeal := hFinalReferenceIdeal) (hPre_finite_final := hPre_finite_final)
    ∧ preserves_RmsFwdKernel_RmsFwdKernelIdeal
    ∧ algebraic_RmsFwdKernelIdeal_RmsFwdReferenceIdeal (hRmsFwdKernelIdeal := hRmsFwdKernelIdeal) (hRmsFwdReferenceIdeal := hRmsFwdReferenceIdeal)
    ∧ preserves_MixerPostKernel_MixerPostKernelIdeal
    ∧ algebraic_MixerPostKernelIdeal_MixerPostReferenceIdeal (hMixerPostKernelIdeal := hMixerPostKernelIdeal) (hMixerPostReferenceIdeal := hMixerPostReferenceIdeal)
    ∧ preserves_PoolTKernel_PoolTKernelIdeal
    ∧ algebraic_PoolTKernelIdeal_PoolTReferenceIdeal (hPoolTKernelIdeal := hPoolTKernelIdeal) (hPoolTReferenceIdeal := hPoolTReferenceIdeal)
    ∧ preserves_FfnActKernel_FfnActKernelIdeal
    ∧ algebraic_FfnActKernelIdeal_FfnActReferenceIdeal (hFfnActKernelIdeal := hFfnActKernelIdeal) (hFfnActReferenceIdeal := hFfnActReferenceIdeal)
    ∧ preserves_FfnActBwdKernel_FfnActBwdKernelIdeal
    ∧ algebraic_FfnActBwdKernelIdeal_FfnActBwdReferenceIdeal_pre_finite_ffnactbwd (hFfnActBwdKernelIdeal := hFfnActBwdKernelIdeal) (hFfnActBwdReferenceIdeal := hFfnActBwdReferenceIdeal) (hPre_finite_ffnactbwd := hPre_finite_ffnactbwd)
-- ==== Pre_finite.lean ====
abbrev S8x8256x128 : Shape := ⟨3, ![8, 8256, 128]⟩
abbrev S8256x128 : Shape := ⟨2, ![8256, 128]⟩
abbrev S129x8x128x128 : Shape := ⟨4, ![129, 8, 128, 128]⟩
abbrev S129x8x64x64 : Shape := ⟨4, ![129, 8, 64, 64]⟩
abbrev S_ : Shape := ⟨0, ![]⟩

class Facts : Prop where
  bcast_S_S8x8256x128 : S_.BroadcastsInDim S8x8256x128 (![] : Fin 0 → Fin S8x8256x128.rank)
  reducesTo_S8x8256x128_S_d0_1_2 : S8x8256x128.ReducesTo [0, 1, 2] S_
  h_S_ : 0 < S_.numel
  bcast_S_S8256x128 : S_.BroadcastsInDim S8256x128 (![] : Fin 0 → Fin S8256x128.rank)
  reducesTo_S8256x128_S_d0_1 : S8256x128.ReducesTo [0, 1] S_
  bcast_S_S129x8x128x128 : S_.BroadcastsInDim S129x8x128x128 (![] : Fin 0 → Fin S129x8x128x128.rank)
  reducesTo_S129x8x128x128_S_d0_1_2_3 : S129x8x128x128.ReducesTo [0, 1, 2, 3] S_
  bcast_S_S129x8x64x64 : S_.BroadcastsInDim S129x8x64x64 (![] : Fin 0 → Fin S129x8x64x64.rank)
  reducesTo_S129x8x64x64_S_d0_1_2_3 : S129x8x64x64.ReducesTo [0, 1, 2, 3] S_

variable [Facts]

def fn_part1 {F : FTy → Type} [FloatOps F] (main_arg4 : FVec F S8x8256x128 .f32) (main_arg5 : FVec F S129x8x128x128 .f32) (main_arg6 : FVec F S129x8x64x64 .f32) (main_v13 : IVec S_ 1) (main_v16 : IVec S8256x128 1) : IVec S_ 1 :=
  let main_c_5 : IVec S_ 1 := constantI S_ 1 1#1
  let main_v17 : IVec S_ 1 := (fun x v => Host.reduce IntOp.andi x v reducesTo_S8256x128_S_d0_1 h_S_) main_v16 main_c_5
  let main_v18 : IVec S_ 1 := andi main_v13 main_v17
  let main_v19 : FVec F S8x8256x128 .f32 := Host.absf main_arg4
  let main_cst_6 : FVec F S_ .f32 := constant S_ .f32 0x7F800000#32
  let main_v20 : FVec F S8x8256x128 .f32 := broadcastInDim S8x8256x128 ![] bcast_S_S8x8256x128 main_cst_6
  let main_v21 : IVec S8x8256x128 1 := cmpf .olt main_v19 main_v20
  let main_c_7 : IVec S_ 1 := constantI S_ 1 1#1
  let main_v22 : IVec S_ 1 := (fun x v => Host.reduce IntOp.andi x v reducesTo_S8x8256x128_S_d0_1_2 h_S_) main_v21 main_c_7
  let main_v23 : IVec S_ 1 := andi main_v18 main_v22
  let main_v24 : FVec F S129x8x128x128 .f32 := Host.absf main_arg5
  let main_cst_8 : FVec F S_ .f32 := constant S_ .f32 0x7F800000#32
  let main_v25 : FVec F S129x8x128x128 .f32 := broadcastInDim S129x8x128x128 ![] bcast_S_S129x8x128x128 main_cst_8
  let main_v26 : IVec S129x8x128x128 1 := cmpf .olt main_v24 main_v25
  let main_c_9 : IVec S_ 1 := constantI S_ 1 1#1
  let main_v27 : IVec S_ 1 := (fun x v => Host.reduce IntOp.andi x v reducesTo_S129x8x128x128_S_d0_1_2_3 h_S_) main_v26 main_c_9
  let main_v28 : IVec S_ 1 := andi main_v23 main_v27
  let main_v29 : FVec F S129x8x64x64 .f32 := Host.absf main_arg6
  let main_cst_10 : FVec F S_ .f32 := constant S_ .f32 0x7F800000#32
  let main_v30 : FVec F S129x8x64x64 .f32 := broadcastInDim S129x8x64x64 ![] bcast_S_S129x8x64x64 main_cst_10
  let main_v31 : IVec S129x8x64x64 1 := cmpf .olt main_v29 main_v30
  let main_c_11 : IVec S_ 1 := constantI S_ 1 1#1
  let main_v32 : IVec S_ 1 := (fun x v => Host.reduce IntOp.andi x v reducesTo_S129x8x64x64_S_d0_1_2_3 h_S_) main_v31 main_c_11
  let main_v33 : IVec S_ 1 := andi main_v28 main_v32
  main_v33

def fn {F : FTy → Type} [FloatOps F] (main_arg0 : FVec F S8x8256x128 .f32) (main_arg1 : FVec F S8x8256x128 .f32) (main_arg2 : FVec F S8x8256x128 .f32) (main_arg3 : FVec F S8256x128 .f32) (main_arg4 : FVec F S8x8256x128 .f32) (main_arg5 : FVec F S129x8x128x128 .f32) (main_arg6 : FVec F S129x8x64x64 .f32) : IVec S_ 1 :=
  let main_v0 : FVec F S8x8256x128 .f32 := Host.absf main_arg0
  let main_cst : FVec F S_ .f32 := constant S_ .f32 0x7F800000#32
  let main_v1 : FVec F S8x8256x128 .f32 := broadcastInDim S8x8256x128 ![] bcast_S_S8x8256x128 main_cst
  let main_v2 : IVec S8x8256x128 1 := cmpf .olt main_v0 main_v1
  let main_c : IVec S_ 1 := constantI S_ 1 1#1
  let main_v3 : IVec S_ 1 := (fun x v => Host.reduce IntOp.andi x v reducesTo_S8x8256x128_S_d0_1_2 h_S_) main_v2 main_c
  let main_v4 : FVec F S8x8256x128 .f32 := Host.absf main_arg1
  let main_cst_0 : FVec F S_ .f32 := constant S_ .f32 0x7F800000#32
  let main_v5 : FVec F S8x8256x128 .f32 := broadcastInDim S8x8256x128 ![] bcast_S_S8x8256x128 main_cst_0
  let main_v6 : IVec S8x8256x128 1 := cmpf .olt main_v4 main_v5
  let main_c_1 : IVec S_ 1 := constantI S_ 1 1#1
  let main_v7 : IVec S_ 1 := (fun x v => Host.reduce IntOp.andi x v reducesTo_S8x8256x128_S_d0_1_2 h_S_) main_v6 main_c_1
  let main_v8 : IVec S_ 1 := andi main_v3 main_v7
  let main_v9 : FVec F S8x8256x128 .f32 := Host.absf main_arg2
  let main_cst_2 : FVec F S_ .f32 := constant S_ .f32 0x7F800000#32
  let main_v10 : FVec F S8x8256x128 .f32 := broadcastInDim S8x8256x128 ![] bcast_S_S8x8256x128 main_cst_2
  let main_v11 : IVec S8x8256x128 1 := cmpf .olt main_v9 main_v10
  let main_c_3 : IVec S_ 1 := constantI S_ 1 1#1
  let main_v12 : IVec S_ 1 := (fun x v => Host.reduce IntOp.andi x v reducesTo_S8x8256x128_S_d0_1_2 h_S_) main_v11 main_c_3
  let main_v13 : IVec S_ 1 := andi main_v8 main_v12
  let main_v14 : FVec F S8256x128 .f32 := Host.absf main_arg3
  let main_cst_4 : FVec F S_ .f32 := constant S_ .f32 0x7F800000#32
  let main_v15 : FVec F S8256x128 .f32 := broadcastInDim S8256x128 ![] bcast_S_S8256x128 main_cst_4
  let main_v16 : IVec S8256x128 1 := cmpf .olt main_v14 main_v15
  fn_part1 (F := F) main_arg4 main_arg5 main_arg6 main_v13 main_v16
-- ==== Pre_finite_ffnactbwd.lean ====
abbrev S8256x5632 : Shape := ⟨2, ![8256, 5632]⟩
abbrev S8x5632 : Shape := ⟨2, ![8, 5632]⟩
abbrev S8256x2816 : Shape := ⟨2, ![8256, 2816]⟩
abbrev S_ : Shape := ⟨0, ![]⟩

class Facts : Prop where
  bcast_S_S8256x5632 : S_.BroadcastsInDim S8256x5632 (![] : Fin 0 → Fin S8256x5632.rank)
  reducesTo_S8256x5632_S_d0_1 : S8256x5632.ReducesTo [0, 1] S_
  h_S_ : 0 < S_.numel
  bcast_S_S8x5632 : S_.BroadcastsInDim S8x5632 (![] : Fin 0 → Fin S8x5632.rank)
  reducesTo_S8x5632_S_d0_1 : S8x5632.ReducesTo [0, 1] S_
  bcast_S_S8256x2816 : S_.BroadcastsInDim S8256x2816 (![] : Fin 0 → Fin S8256x2816.rank)
  reducesTo_S8256x2816_S_d0_1 : S8256x2816.ReducesTo [0, 1] S_

variable [Facts]

def fn {F : FTy → Type} [FloatOps F] (main_arg0 : FVec F S8256x5632 .f32) (main_arg1 : FVec F S8x5632 .f32) (main_arg2 : FVec F S8256x2816 .f32) : IVec S_ 1 :=
  let main_v0 : FVec F S8256x5632 .f32 := Host.absf main_arg0
  let main_cst : FVec F S_ .f32 := constant S_ .f32 0x7F800000#32
  let main_v1 : FVec F S8256x5632 .f32 := broadcastInDim S8256x5632 ![] bcast_S_S8256x5632 main_cst
  let main_v2 : IVec S8256x5632 1 := cmpf .olt main_v0 main_v1
  let main_c : IVec S_ 1 := constantI S_ 1 1#1
  let main_v3 : IVec S_ 1 := (fun x v => Host.reduce IntOp.andi x v reducesTo_S8256x5632_S_d0_1 h_S_) main_v2 main_c
  let main_v4 : FVec F S8x5632 .f32 := Host.absf main_arg1
  let main_cst_0 : FVec F S_ .f32 := constant S_ .f32 0x7F800000#32
  let main_v5 : FVec F S8x5632 .f32 := broadcastInDim S8x5632 ![] bcast_S_S8x5632 main_cst_0
  let main_v6 : IVec S8x5632 1 := cmpf .olt main_v4 main_v5
  let main_c_1 : IVec S_ 1 := constantI S_ 1 1#1
  let main_v7 : IVec S_ 1 := (fun x v => Host.reduce IntOp.andi x v reducesTo_S8x5632_S_d0_1 h_S_) main_v6 main_c_1
  let main_v8 : IVec S_ 1 := andi main_v3 main_v7
  let main_v9 : FVec F S8256x2816 .f32 := Host.absf main_arg2
  let main_cst_2 : FVec F S_ .f32 := constant S_ .f32 0x7F800000#32
  let main_v10 : FVec F S8256x2816 .f32 := broadcastInDim S8256x2816 ![] bcast_S_S8256x2816 main_cst_2
  let main_v11 : IVec S8256x2816 1 := cmpf .olt main_v9 main_v10
  let main_c_3 : IVec S_ 1 := constantI S_ 1 1#1
  let main_v12 : IVec S_ 1 := (fun x v => Host.reduce IntOp.andi x v reducesTo_S8256x2816_S_d0_1 h_S_) main_v11 main_c_3
  let main_v13 : IVec S_ 1 := andi main_v8 main_v12
  main_v13
-- ==== Pre_finite_final.lean ====
abbrev S8256x1024 : Shape := ⟨2, ![8256, 1024]⟩
abbrev S1x1024 : Shape := ⟨2, ![1, 1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8256x1024 .f32) (main_arg1 : FVec F S1x1024 .f32) (main_arg2 : FVec F S8256x1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8256x1024 .f32 := Host.absf main_arg2
  let main_cst_2 : FVec F S_ .f32 := constant S_ .f32 0x7F800000#32
  let main_v10 : FVec F S8256x1024 .f32 := broadcastInDim S8256x1024 ![] bcast_S_S8256x1024 main_cst_2
  let main_v11 : IVec S8256x1024 1 := cmpf .olt main_v9 main_v10
  let main_c_3 : IVec S_ 1 := constantI S_ 1 1#1
  let main_v12 : IVec S_ 1 := (fun x v => Host.reduce IntOp.andi x v reducesTo_S8256x1024_S_d0_1 h_S_) main_v11 main_c_3
  let main_v13 : IVec S_ 1 := andi main_v8 main_v12
  main_v13
-- ==== Pre_finite_rmsbwd.lean ====
abbrev S8256x1024 : Shape := ⟨2, ![8256, 1024]⟩
abbrev S1x1024 : Shape := ⟨2, ![1, 1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8256x1024 .f32) (main_arg1 : FVec F S1x1024 .f32) (main_arg2 : FVec F S8256x1024 .f32) (main_arg3 : FVec F S8256x1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8256x1024 .f32 := Host.absf main_arg2
  let main_cst_2 : FVec F S_ .f32 := constant S_ .f32 0x7F800000#32
  let main_v10 : FVec F S8256x1024 .f32 := broadcastInDim S8256x1024 ![] bcast_S_S8256x1024 main_cst_2
  let main_v11 : IVec S8256x1024 1 := cmpf .olt main_v9 main_v10
  let main_c_3 : IVec S_ 1 := constantI S_ 1 1#1
  let main_v12 : IVec S_ 1 := (fun x v => Host.reduce IntOp.andi x v reducesTo_S8256x1024_S_d0_1 h_S_) main_v11 main_c_3
  let main_v13 : IVec S_ 1 := andi main_v8 main_v12
  main_v13
-- ==== Kernel.lean ====
abbrev S8x8256x128 : Shape := ⟨3, ![8, 8256, 128]⟩
abbrev S8256x128 : Shape := ⟨2, ![8256, 128]⟩
abbrev S129x8x128x128 : Shape := ⟨4, ![129, 8, 128, 128]⟩
abbrev S129x8x64x64 : Shape := ⟨4, ![129, 8, 64, 64]⟩
abbrev S8x64x128 : Shape := ⟨3, ![8, 64, 128]⟩
abbrev S64x128 : Shape := ⟨2, ![64, 128]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S8x64x64 : Shape := ⟨3, ![8, 64, 64]⟩
abbrev S64x64 : Shape := ⟨2, ![64, 64]⟩
abbrev S128x64 : Shape := ⟨2, ![128, 64]⟩
abbrev S1x64 : Shape := ⟨2, ![1, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x1 : Shape := ⟨3, ![1, 64, 1]⟩
abbrev S8x64x1 : Shape := ⟨3, ![8, 64, 1]⟩
abbrev S1x1x64 : Shape := ⟨3, ![1, 1, 64]⟩
abbrev S8x1x64 : Shape := ⟨3, ![8, 1, 64]⟩
abbrev S1x1x1 : Shape := ⟨3, ![1, 1, 1]⟩
abbrev S8x1x1 : Shape := ⟨3, ![8, 1, 1]⟩
abbrev S8x64x256 : Shape := ⟨3, ![8, 64, 256]⟩
abbrev S8x128 : Shape := ⟨2, ![8, 128]⟩
abbrev S8x128x1 : Shape := ⟨3, ![8, 128, 1]⟩
abbrev S8x1 : Shape := ⟨2, ![8, 1]⟩
abbrev S8x64 : Shape := ⟨2, ![8, 64]⟩

abbrev nBuf : Space → Nat
  | .hbm => 11
  | .vmem => 23
  | .smem => 0
  | _ => 0

abbrev bufTy : (tb : Table) → Fin (tcTables nBuf tb) → BufTy
  | .hbm, ⟨0, _⟩ => ⟨S8x8256x128, .f32⟩
  | .hbm, ⟨1, _⟩ => ⟨S8x8256x128, .f32⟩
  | .hbm, ⟨2, _⟩ => ⟨S8x8256x128, .f32⟩
  | .hbm, ⟨3, _⟩ => ⟨S8256x128, .f32⟩
  | .hbm, ⟨4, _⟩ => ⟨S8x8256x128, .f32⟩
  | .hbm, ⟨5, _⟩ => ⟨S129x8x128x128, .f32⟩
  | .hbm, ⟨6, _⟩ => ⟨S129x8x64x64, .f32⟩
  | .hbm, ⟨7, _⟩ => ⟨S8x8256x128, .f32⟩
  | .hbm, ⟨8, _⟩ => ⟨S8x8256x128, .f32⟩
  | .hbm, ⟨9, _⟩ => ⟨S8x8256x128, .f32⟩
  | .hbm, ⟨10, _⟩ => ⟨S8256x128, .f32⟩
  | .local _ .vmem, ⟨0, _⟩ => ⟨S8x64x128, .f32⟩
  | .local _ .vmem, ⟨1, _⟩ => ⟨S8x64x128, .f32⟩
  | .local _ .vmem, ⟨2, _⟩ => ⟨S8x64x128, .f32⟩
  | .local _ .vmem, ⟨3, _⟩ => ⟨S8x64x128, .f32⟩
  | .local _ .vmem, ⟨4, _⟩ => ⟨S8x64x128, .f32⟩
  | .local _ .vmem, ⟨5, _⟩ => ⟨S8x64x128, .f32⟩
  | .local _ .vmem, ⟨6, _⟩ => ⟨S64x128, .f32⟩
  | .local _ .vmem, ⟨7, _⟩ => ⟨S64x128, .f32⟩
  | .local _ .vmem, ⟨8, _⟩ => ⟨S8x64x128, .f32⟩
  | .local _ .vmem, ⟨9, _⟩ => ⟨S8x64x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x8x64x64, .f32⟩
  | .local _ .vmem, ⟨13, _⟩ => ⟨S1x8x64x64, .f32⟩
  | .local _ .vmem, ⟨14, _⟩ => ⟨S8x64x128, .f32⟩
  | .local _ .vmem, ⟨15, _⟩ => ⟨S8x64x128, .f32⟩
  | .local _ .vmem, ⟨16, _⟩ => ⟨S8x64x128, .f32⟩
  | .local _ .vmem, ⟨17, _⟩ => ⟨S8x64x128, .f32⟩
  | .local _ .vmem, ⟨18, _⟩ => ⟨S8x64x128, .f32⟩
  | .local _ .vmem, ⟨19, _⟩ => ⟨S8x64x128, .f32⟩
  | .local _ .vmem, ⟨20, _⟩ => ⟨S64x128, .f32⟩
  | .local _ .vmem, ⟨21, _⟩ => ⟨S64x128, .f32⟩
  | .local _ .vmem, ⟨22, _⟩ => ⟨S8x128x128, .f32⟩
  | _, _ => ⟨S8x8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x8256x128 : Shape := ⟨3, ![8, 8256, 128]⟩
abbrev S8256x128 : Shape := ⟨2, ![8256, 128]⟩
abbrev S129x8x128x128 : Shape := ⟨4, ![129, 8, 128, 128]⟩
abbrev S129x8x64x64 : Shape := ⟨4, ![129, 8, 64, 64]⟩
abbrev S8x129x64x128 : Shape := ⟨4, ![8, 129, 64, 128]⟩
abbrev S129x8x64x128 : Shape := ⟨4, ![129, 8, 64, 128]⟩
abbrev S129x64x128 : Shape := ⟨3, ![129, 64, 128]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x64x128 : Shape := ⟨3, ![1, 64, 128]⟩
abbrev S64x128 : Shape := ⟨2, ![64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S64x8 : Shape := ⟨2, ![64, 8]⟩
abbrev S8x64 : Shape := ⟨2, ![8, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩

abbrev nBuf : Space → Nat
  | .hbm => 341
  | .vmem => 0
  | .smem => 0
  | _ => 0

abbrev hbmTy0_0 (i : Nat) : BufTy := match i % 128 with
  | 0 => ⟨S8x8256x128, .f32⟩
  | 1 => ⟨S8x8256x128, .f32⟩
  | 2 => ⟨S8x8256x128, .f32⟩
  | 3 => ⟨S8256x128, .f32⟩
  | 4 => ⟨S8x8256x128, .f32⟩
  | 5 => ⟨S129x8x128x128, .f32⟩
  | 6 => ⟨S129x8x64x64, .f32⟩
  | 7 => ⟨S8x129x64x128, .f32⟩
  | 8 => ⟨S129x8x64x128, .f32⟩
  | 9 => ⟨S8x129x64x128, .f32⟩
  | 10 => ⟨S129x8x64x128, .f32⟩
  | 11 => ⟨S8x129x64x128, .f32⟩
  | 12 => ⟨S129x8x64x128, .f32⟩
  | 13 => ⟨S129x64x128, .f32⟩
  | 14 => ⟨S8x129x64x128, .f32⟩
  | 15 => ⟨S129x8x64x128, .f32⟩
  | 16 => ⟨S_, .f32⟩
  | 17 => ⟨S8x128x128, .f32⟩
  | 18 => ⟨S_, .f32⟩
  | 19 => ⟨S129x8x64x128, .f32⟩
  | 20 => ⟨S_, .f32⟩
  | 21 => ⟨S129x8x64x128, .f32⟩
  | 22 => ⟨S_, .f32⟩
  | 23 => ⟨S129x8x64x128, .f32⟩
  | 24 => ⟨S_, .f32⟩
  | 25 => ⟨S129x64x128, .f32⟩
  | 26 => ⟨S_, .i32⟩
  | 27 => ⟨S129x8x64x128, .f32⟩
  | 28 => ⟨S129x8x64x128, .f32⟩
  | 29 => ⟨S129x8x64x128, .f32⟩
  | 30 => ⟨S129x64x128, .f32⟩
  | 31 => ⟨S129x8x64x128, .f32⟩
  | 32 => ⟨S129x8x128x128, .f32⟩
  | 33 => ⟨S129x8x64x64, .f32⟩
  | 34 => ⟨S_, .i32⟩
  | 35 => ⟨S8x128x128, .f32⟩
  | 36 => ⟨S129x8x64x128, .f32⟩
  | 37 => ⟨S129x8x64x128, .f32⟩
  | 38 => ⟨S129x8x64x128, .f32⟩
  | 39 => ⟨S129x64x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S1x64x128, .f32⟩
  | 64 => ⟨S64x128, .f32⟩
  | 65 => ⟨S_, .i32⟩
  | 66 => ⟨S_, .i32⟩
  | 67 => ⟨S_, .i32⟩
  | 68 => ⟨S1x8x64x128, .f32⟩
  | 69 => ⟨S8x64x128, .f32⟩
  | 70 => ⟨S_, .i32⟩
  | 71 => ⟨S_, .i32⟩
  | 72 => ⟨S_, .i32⟩
  | 73 => ⟨S1x8x128x128, .f32⟩
  | 74 => ⟨S8x128x128, .f32⟩
  | 75 => ⟨S_, .i32⟩
  | 76 => ⟨S_, .i32⟩
  | 77 => ⟨S_, .i32⟩
  | 78 => ⟨S1x8x64x64, .f32⟩
  | 79 => ⟨S8x64x64, .f32⟩
  | 80 => ⟨S_, .f32⟩
  | 81 => ⟨S8x64x128, .f32⟩
  | 82 => ⟨S8x64x128, .f32⟩
  | 83 => ⟨S64x8, .f32⟩
  | 84 => ⟨S8x64, .f32⟩
  | 85 => ⟨S64x8, .f32⟩
  | 86 => ⟨S8x64, .f32⟩
  | 87 => ⟨S_, .f32⟩
  | 88 => ⟨S_, .f32⟩
  | 89 => ⟨S8x64, .f32⟩
  | 90 => ⟨S64, .i32⟩
  | 91 => ⟨S64x1, .i32⟩
  | 92 => ⟨S1x64, .i32⟩
  | 93 => ⟨S64x64, .i32⟩
  | 94 => ⟨S64x64, .i32⟩
  | 95 => ⟨S64x64, .i1⟩
  | 96 => ⟨S64x1, .i32⟩
  | 97 => ⟨S1x64, .i32⟩
  | 98 => ⟨S64x64, .i32⟩
  | 99 => ⟨S64x64, .i32⟩
  | 100 => ⟨S64x64, .i1⟩
  | 101 => ⟨S8x64x1, .f32⟩
  | 102 => ⟨S8x1x64, .f32⟩
  | 103 => ⟨S8x64x64, .f32⟩
  | 104 => ⟨S8x64x64, .f32⟩
  | 105 => ⟨S8x64x64, .f32⟩
  | 106 => ⟨S_, .f32⟩
  | 107 => ⟨S_, .f32⟩
  | 108 => ⟨S8x64x64, .i1⟩
  | 109 => ⟨S8x64x64, .f32⟩
  | 110 => ⟨S8x64x64, .f32⟩
  | 111 => ⟨S_, .f32⟩
  | 112 => ⟨S8x64x64, .f32⟩
  | 113 => ⟨S8x64x64, .f32⟩
  | 114 => ⟨S8x64x1, .f32⟩
  | 115 => ⟨S8x64x128, .f32⟩
  | 116 => ⟨S8x64x128, .f32⟩
  | 117 => ⟨S8x64x64, .f32⟩
  | 118 => ⟨S8x64x64, .f32⟩
  | 119 => ⟨S_, .f32⟩
  | 120 => ⟨S_, .f32⟩
  | 121 => ⟨S8x64x64, .i1⟩
  | 122 => ⟨S8x64x64, .f32⟩
  | 123 => ⟨S8x64x64, .f32⟩
  | 124 => ⟨S_, .f32⟩
  | 125 => ⟨S8x64x64, .f32⟩
  | 126 => ⟨S8x64x1, .f32⟩
  | 127 => ⟨S8x64x128, .f32⟩
  | _ => ⟨S8x8256x128, .f32⟩

abbrev hbmTy0_1 (i : Nat) : BufTy := match i % 128 with
  | 0 => ⟨S8x64x128, .f32⟩
  | 1 => ⟨S8x64x128, .f32⟩
  | 2 => ⟨S8x64, .f32⟩
  | 3 => ⟨S8x64x1, .f32⟩
  | 4 => ⟨S8x64x128, .f32⟩
  | 5 => ⟨S8x64x128, .f32⟩
  | 6 => ⟨S8x64x128, .f32⟩
  | 7 => ⟨S8x64x64, .f32⟩
  | 8 => ⟨S8x64x64, .f32⟩
  | 9 => ⟨S_, .f32⟩
  | 10 => ⟨S_, .f32⟩
  | 11 => ⟨S8x64x64, .i1⟩
  | 12 => ⟨S8x64x64, .f32⟩
  | 13 => ⟨S8x64x64, .f32⟩
  | 14 => ⟨S_, .f32⟩
  | 15 => ⟨S8x64x64, .f32⟩
  | 16 => ⟨S8x64, .f32⟩
  | 17 => ⟨S8x64x1, .f32⟩
  | 18 => ⟨S8x64x128, .f32⟩
  | 19 => ⟨S8x64x128, .f32⟩
  | 20 => ⟨S8x1, .f32⟩
  | 21 => ⟨S8x64, .f32⟩
  | 22 => ⟨S8x64, .f32⟩
  | 23 => ⟨S8x64, .f32⟩
  | 24 => ⟨S8x64x1, .f32⟩
  | 25 => ⟨S8x64x128, .f32⟩
  | 26 => ⟨S8x64x128, .f32⟩
  | 27 => ⟨S8x1, .f32⟩
  | 28 => ⟨S8, .f32⟩
  | 29 => ⟨S8, .f32⟩
  | 30 => ⟨S8x64x128, .f32⟩
  | 31 => ⟨S8x64x128, .f32⟩
  | 32 => ⟨S8x64x128, .f32⟩
  | 33 => ⟨S8x64x128, .f32⟩
  | 34 => ⟨S8x64x128, .f32⟩
  | 35 => ⟨S8x1x1, .f32⟩
  | 36 => ⟨S8x128x128, .f32⟩
  | 37 => ⟨S8x128x128, .f32⟩
  | 38 => ⟨S8x128x128, .f32⟩
  | 39 => ⟨S8x128x128, .f32⟩
  | 40 => ⟨S8x128x64, .f32⟩
  | 41 => ⟨S8x64x128, .f32⟩
  | 42 => ⟨S8x128x64, .f32⟩
  | 43 => ⟨S8x64x128, .f32⟩
  | 44 => ⟨S8x128x128, .f32⟩
  | 45 => ⟨S_, .f32⟩
  | 46 => ⟨S8, .f32⟩
  | 47 => ⟨S8x1x1, .f32⟩
  | 48 => ⟨S8x128x128, .f32⟩
  | 49 => ⟨S8x128x128, .f32⟩
  | 50 => ⟨S_, .f32⟩
  | 51 => ⟨S8, .f32⟩
  | 52 => ⟨S8x128x64, .f32⟩
  | 53 => ⟨S8x64x128, .f32⟩
  | 54 => ⟨S8x64x128, .f32⟩
  | 55 => ⟨S8x64x64, .f32⟩
  | 56 => ⟨S8x128x128, .f32⟩
  | 57 => ⟨S8x128x128, .f32⟩
  | 58 => ⟨S8x128x128, .f32⟩
  | 59 => ⟨S8x64x128, .f32⟩
  | 60 => ⟨S8x64x128, .f32⟩
  | 61 => ⟨S8x128x128, .f32⟩
  | 62 => ⟨S8x128x128, .f32⟩
  | 63 => ⟨S8x128x128, .f32⟩
  | 64 => ⟨S8x64x128, .f32⟩
  | 65 => ⟨S8, .f32⟩
  | 66 => ⟨S8x1, .f32⟩
  | 67 => ⟨S_, .f32⟩
  | 68 => ⟨S8x64, .f32⟩
  | 69 => ⟨S8x64x128, .f32⟩
  | 70 => ⟨S_, .f32⟩
  | 71 => ⟨S8x64, .f32⟩
  | 72 => ⟨S8x64x1, .f32⟩
  | 73 => ⟨S8x64x128, .f32⟩
  | 74 => ⟨S8x64x128, .f32⟩
  | 75 => ⟨S_, .f32⟩
  | 76 => ⟨S8x64, .f32⟩
  | 77 => ⟨S8x64, .f32⟩
  | 78 => ⟨S_, .f32⟩
  | 79 => ⟨S8, .f32⟩
  | 80 => ⟨S8x1, .f32⟩
  | 81 => ⟨S8x64, .f32⟩
  | 82 => ⟨S8x64, .f32⟩
  | 83 => ⟨S_, .f32⟩
  | 84 => ⟨S8x64, .f32⟩
  | 85 => ⟨S8x64, .f32⟩
  | 86 => ⟨S8x64x128, .f32⟩
  | 87 => ⟨S_, .f32⟩
  | 88 => ⟨S8x64, .f32⟩
  | 89 => ⟨S8x64x1, .f32⟩
  | 90 => ⟨S8x64x128, .f32⟩
  | 91 => ⟨S8x64x128, .f32⟩
  | 92 => ⟨S_, .f32⟩
  | 93 => ⟨S8x64, .f32⟩
  | 94 => ⟨S8x64, .f32⟩
  | 95 => ⟨S8x64, .f32⟩
  | 96 => ⟨S_, .f32⟩
  | 97 => ⟨S8x64x64, .f32⟩
  | 98 => ⟨S8x64x64, .f32⟩
  | 99 => ⟨S8x64x64, .f32⟩
  | 100 => ⟨S8x64x64, .f32⟩
  | 101 => ⟨S8x64x128, .f32⟩
  | 102 => ⟨S8x64x128, .f32⟩
  | 103 => ⟨S8x64x128, .f32⟩
  | 104 => ⟨S8x64x128, .f32⟩
  | 105 => ⟨S8x128x64, .f32⟩
  | 106 => ⟨S8x64x128, .f32⟩
  | 107 => ⟨S8x64x64, .f32⟩
  | 108 => ⟨S8x64x128, .f32⟩
  | 109 => ⟨S_, .f32⟩
  | 110 => ⟨S8x64, .f32⟩
  | 111 => ⟨S8x64x1, .f32⟩
  | 112 => ⟨S8x64x128, .f32⟩
  | 113 => ⟨S8x64x128, .f32⟩
  | 114 => ⟨S_, .f32⟩
  | 115 => ⟨S8x64, .f32⟩
  | 116 => ⟨S8x64, .f32⟩
  | 117 => ⟨S8x64, .f32⟩
  | 118 => ⟨S8x128x64, .f32⟩
  | 119 => ⟨S8x64x128, .f32⟩
  | 120 => ⟨S8x64x64, .f32⟩
  | 121 => ⟨S8x64x64, .f32⟩
  | 122 => ⟨S8x64x128, .f32⟩
  | 123 => ⟨S_, .f32⟩
  | 124 => ⟨S8x64, .f32⟩
  | 125 => ⟨S8x64x1, .f32⟩
  | 126 => ⟨S8x64x128, .f32⟩
  | 127 => ⟨S8x64x128, .f32⟩
  | _ => ⟨S8x8256x128, .f32⟩

abbrev hbmTy0_2 (i : Nat) : BufTy := match i % 128 with
  | 0 => ⟨S_, .f32⟩
  | 1 => ⟨S8x64, .f32⟩
  | 2 => ⟨S8x64x64, .f32⟩
  | 3 => ⟨S8x64x64, .f32⟩
  | 4 => ⟨S8x64x64, .f32⟩
  | 5 => ⟨S_, .f32⟩
  | 6 => ⟨S8x64x64, .f32⟩
  | 7 => ⟨S_, .f32⟩
  | 8 => ⟨S8x64x64, .f32⟩
  | 9 => ⟨S8x64x64, .f32⟩
  | 10 => ⟨S8x64x64, .f32⟩
  | 11 => ⟨S8x64x64, .f32⟩
  | 12 => ⟨S8x64x64, .f32⟩
  | 13 => ⟨S8x64x128, .f32⟩
  | 14 => ⟨S8x64x128, .f32⟩
  | 15 => ⟨S8x64x128, .f32⟩
  | 16 => ⟨S8x64x128, .f32⟩
  | 17 => ⟨S8x64x128, .f32⟩
  | 18 => ⟨S_, .f32⟩
  | 19 => ⟨S8x64, .f32⟩
  | 20 => ⟨S8x64x1, .f32⟩
  | 21 => ⟨S8x64x128, .f32⟩
  | 22 => ⟨S8x64x128, .f32⟩
  | 23 => ⟨S8x64x128, .f32⟩
  | 24 => ⟨S_, .f32⟩
  | 25 => ⟨S8x64, .f32⟩
  | 26 => ⟨S8x64, .f32⟩
  | 27 => ⟨S8x64x64, .f32⟩
  | 28 => ⟨S_, .f32⟩
  | 29 => ⟨S8x64x64, .f32⟩
  | 30 => ⟨S8x64x64, .f32⟩
  | 31 => ⟨S_, .f32⟩
  | 32 => ⟨S8x64, .f32⟩
  | 33 => ⟨S8x64x1, .f32⟩
  | 34 => ⟨S8x64x64, .f32⟩
  | 35 => ⟨S_, .f32⟩
  | 36 => ⟨S8x64, .f32⟩
  | 37 => ⟨S8x1x64, .f32⟩
  | 38 => ⟨S_, .f32⟩
  | 39 => ⟨S8x64, .f32⟩
  | 40 => ⟨S8x64, .f32⟩
  | 41 => ⟨S_, .f32⟩
  | 42 => ⟨S8x64, .f32⟩
  | 43 => ⟨S8x64, .f32⟩
  | 44 => ⟨S_, .f32⟩
  | 45 => ⟨S_, .f32⟩
  | 46 => ⟨S8x64, .f32⟩
  | 47 => ⟨S64x8, .f32⟩
  | 48 => ⟨S_, .f32⟩
  | 49 => ⟨S64x128, .f32⟩
  | 50 => ⟨S64x8, .f32⟩
  | 51 => ⟨S_, .f32⟩
  | 52 => ⟨S64x128, .f32⟩
  | 53 => ⟨S64x128, .f32⟩
  | 54 => ⟨S_, .f32⟩
  | 55 => ⟨S8x64x128, .f32⟩
  | 56 => ⟨S8x64x128, .f32⟩
  | 57 => ⟨S1x8x64x128, .f32⟩
  | 58 => ⟨S_, .i32⟩
  | 59 => ⟨S_, .i32⟩
  | 60 => ⟨S_, .i32⟩
  | 61 => ⟨S129x8x64x128, .f32⟩
  | 62 => ⟨S1x8x64x128, .f32⟩
  | 63 => ⟨S_, .i32⟩
  | 64 => ⟨S_, .i32⟩
  | 65 => ⟨S_, .i32⟩
  | 66 => ⟨S129x8x64x128, .f32⟩
  | 67 => ⟨S1x8x64x128, .f32⟩
  | 68 => ⟨S_, .i32⟩
  | 69 => ⟨S_, .i32⟩
  | 70 => ⟨S_, .i32⟩
  | 71 => ⟨S129x8x64x128, .f32⟩
  | 72 => ⟨S1x64x128, .f32⟩
  | 73 => ⟨S_, .i32⟩
  | 74 => ⟨S_, .i32⟩
  | 75 => ⟨S129x64x128, .f32⟩
  | 76 => ⟨S_, .i32⟩
  | 77 => ⟨S_, .i32⟩
  | 78 => ⟨S8x129x64x128, .f32⟩
  | 79 => ⟨S8x8256x128, .f32⟩
  | 80 => ⟨S8x129x64x128, .f32⟩
  | 81 => ⟨S8x8256x128, .f32⟩
  | 82 => ⟨S8x129x64x128, .f32⟩
  | 83 => ⟨S8x8256x128, .f32⟩
  | 84 => ⟨S8256x128, .f32⟩
  | _ => ⟨S8x8256x128, .f32⟩

abbrev hbmTy (i : Nat) : BufTy := match i / 128 with
  | 0 => hbmTy0_0 i
  | 1 => hbmTy0_1 i
  | 2 => hbmTy0_2 i
  | _ => ⟨S8x8256x128, .f32⟩

abbrev bufTy : (tb : Table) → Fin (tcTables nBuf tb) → BufTy
  | .hbm, ⟨i, _⟩ => hbmTy i
  | _, _ => ⟨S8x8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_c : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev main_v14_8 : Ref sig .tc := ⟨.hbm, 35, rfl⟩
abbrev main_v14_9 : Ref sig .tc := ⟨.hbm, 36, rfl⟩
abbrev main_v14_10 : Ref sig .tc := ⟨.hbm, 37, rfl⟩
abbrev main_v14_11 : Ref sig .tc := ⟨.hbm, 38, rfl⟩
abbrev main_v14_12 : Ref sig .tc := ⟨.hbm, 39, rfl⟩
abbrev main_while0c_c_16 : Ref sig .tc := ⟨.hbm, 40, rfl⟩
abbrev main_while0c_v22 : Ref sig .tc := ⟨.hbm, 41, rfl⟩
abbrev main_while0b_c_16 : Ref sig .tc := ⟨.hbm, 42, rfl⟩
abbrev main_while0b_v22 : Ref sig .tc := ⟨.hbm, 43, rfl⟩
abbrev main_while0b_c_17 : Ref sig .tc := ⟨.hbm, 44, rfl⟩
abbrev main_while0b_v23 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v24 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v25 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v26 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_v0 : Ref sig .tc := ⟨.hbm, 63, rfl⟩
abbrev main_while0b_v27 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v28 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_v0 : Ref sig .tc := ⟨.hbm, 73, rfl⟩
abbrev main_while0b_v29 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_call6_c_1 : Ref sig .tc := ⟨.hbm, 77, rfl⟩
abbrev main_while0b_call6_v0 : Ref sig .tc := ⟨.hbm, 78, rfl⟩
abbrev main_while0b_v30 : Ref sig .tc := ⟨.hbm, 79, rfl⟩
abbrev main_while0b_cst_18 : Ref sig .tc := ⟨.hbm, 80, rfl⟩
abbrev main_while0b_v31 : Ref sig .tc := ⟨.hbm, 81, rfl⟩
abbrev main_while0b_v32 : Ref sig .tc := ⟨.hbm, 82, rfl⟩
abbrev main_while0b_v33 : Ref sig .tc := ⟨.hbm, 83, rfl⟩
abbrev main_while0b_v34 : Ref sig .tc := ⟨.hbm, 84, rfl⟩
abbrev main_while0b_v35 : Ref sig .tc := ⟨.hbm, 85, rfl⟩
abbrev main_while0b_v36 : Ref sig .tc := ⟨.hbm, 86, rfl⟩
abbrev main_while0b_call7_cst : Ref sig .tc := ⟨.hbm, 87, rfl⟩
abbrev main_while0b_call7_v0 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_cst_19 : Ref sig .tc := ⟨.hbm, 106, rfl⟩
abbrev main_while0b_call8_v0 : Ref sig .tc := ⟨.hbm, 107, rfl⟩
abbrev main_while0b_v54_1 : Ref sig .tc := ⟨.hbm, 108, rfl⟩
abbrev main_while0b_call8_v2 : Ref sig .tc := ⟨.hbm, 109, rfl⟩
abbrev main_while0b_v54_0 : Ref sig .tc := ⟨.hbm, 110, rfl⟩
abbrev main_while0b_call8_cst : Ref sig .tc := ⟨.hbm, 111, rfl⟩
abbrev main_while0b_v54_2 : Ref sig .tc := ⟨.hbm, 112, rfl⟩
abbrev main_while0b_v55 : Ref sig .tc := ⟨.hbm, 113, rfl⟩
abbrev main_while0b_v56 : Ref sig .tc := ⟨.hbm, 114, rfl⟩
abbrev main_while0b_v57 : Ref sig .tc := ⟨.hbm, 115, rfl⟩
abbrev main_while0b_v58 : Ref sig .tc := ⟨.hbm, 116, rfl⟩
abbrev main_while0b_v59 : Ref sig .tc := ⟨.hbm, 117, rfl⟩
abbrev main_while0b_v60 : Ref sig .tc := ⟨.hbm, 118, rfl⟩
abbrev main_while0b_cst_20 : Ref sig .tc := ⟨.hbm, 119, rfl⟩
abbrev main_while0b_call9_v0 : Ref sig .tc := ⟨.hbm, 120, rfl⟩
abbrev main_while0b_v61_1 : Ref sig .tc := ⟨.hbm, 121, rfl⟩
abbrev main_while0b_call9_v2 : Ref sig .tc := ⟨.hbm, 122, rfl⟩
abbrev main_while0b_v61_0 : Ref sig .tc := ⟨.hbm, 123, rfl⟩
abbrev main_while0b_call9_cst : Ref sig .tc := ⟨.hbm, 124, rfl⟩
abbrev main_while0b_v61_2 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_cst_21 : Ref sig .tc := ⟨.hbm, 137, rfl⟩
abbrev main_while0b_call10_v0 : Ref sig .tc := ⟨.hbm, 138, rfl⟩
abbrev main_while0b_v73_1 : Ref sig .tc := ⟨.hbm, 139, rfl⟩
abbrev main_while0b_call10_v2 : Ref sig .tc := ⟨.hbm, 140, rfl⟩
abbrev main_while0b_v73_0 : Ref sig .tc := ⟨.hbm, 141, rfl⟩
abbrev main_while0b_call10_cst : Ref sig .tc := ⟨.hbm, 142, rfl⟩
abbrev main_while0b_v73_2 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_v87 : Ref sig .tc := ⟨.hbm, 157, rfl⟩
abbrev main_while0b_v88 : Ref sig .tc := ⟨.hbm, 158, rfl⟩
abbrev main_while0b_v89 : Ref sig .tc := ⟨.hbm, 159, rfl⟩
abbrev main_while0b_v90 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_v96 : Ref sig .tc := ⟨.hbm, 166, rfl⟩
abbrev main_while0b_v97 : Ref sig .tc := ⟨.hbm, 167, rfl⟩
abbrev main_while0b_v98 : Ref sig .tc := ⟨.hbm, 168, rfl⟩
abbrev main_while0b_v99 : Ref sig .tc := ⟨.hbm, 169, rfl⟩
abbrev main_while0b_v100 : Ref sig .tc := ⟨.hbm, 170, rfl⟩
abbrev main_while0b_v101 : Ref sig .tc := ⟨.hbm, 171, rfl⟩
abbrev main_while0b_v102 : Ref sig .tc := ⟨.hbm, 172, rfl⟩
abbrev main_while0b_cst_22 : Ref sig .tc := ⟨.hbm, 173, rfl⟩
abbrev main_while0b_v103 : Ref sig .tc := ⟨.hbm, 174, rfl⟩
abbrev main_while0b_v104 : Ref sig .tc := ⟨.hbm, 175, rfl⟩
abbrev main_while0b_v105 : Ref sig .tc := ⟨.hbm, 176, rfl⟩
abbrev main_while0b_v106 : Ref sig .tc := ⟨.hbm, 177, rfl⟩
abbrev main_while0b_cst_23 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_v119 : Ref sig .tc := ⟨.hbm, 191, rfl⟩
abbrev main_while0b_v120 : Ref sig .tc := ⟨.hbm, 192, rfl⟩
abbrev main_while0b_v121 : Ref sig .tc := ⟨.hbm, 193, rfl⟩
abbrev main_while0b_v122 : Ref sig .tc := ⟨.hbm, 194, rfl⟩
abbrev main_while0b_cst_24 : Ref sig .tc := ⟨.hbm, 195, rfl⟩
abbrev main_while0b_v123 : Ref sig .tc := ⟨.hbm, 196, rfl⟩
abbrev main_while0b_v124 : Ref sig .tc := ⟨.hbm, 197, rfl⟩
abbrev main_while0b_cst_25 : Ref sig .tc := ⟨.hbm, 198, rfl⟩
abbrev main_while0b_v125 : Ref sig .tc := ⟨.hbm, 199, rfl⟩
abbrev main_while0b_v126 : Ref sig .tc := ⟨.hbm, 200, rfl⟩
abbrev main_while0b_v127 : Ref sig .tc := ⟨.hbm, 201, rfl⟩
abbrev main_while0b_v128 : Ref sig .tc := ⟨.hbm, 202, rfl⟩
abbrev main_while0b_cst_26 : Ref sig .tc := ⟨.hbm, 203, rfl⟩
abbrev main_while0b_v129 : Ref sig .tc := ⟨.hbm, 204, rfl⟩
abbrev main_while0b_v130 : Ref sig .tc := ⟨.hbm, 205, rfl⟩
abbrev main_while0b_cst_27 : Ref sig .tc := ⟨.hbm, 206, rfl⟩
abbrev main_while0b_v131 : Ref sig .tc := ⟨.hbm, 207, rfl⟩
abbrev main_while0b_v132 : Ref sig .tc := ⟨.hbm, 208, rfl⟩
abbrev main_while0b_v133 : Ref sig .tc := ⟨.hbm, 209, rfl⟩
abbrev main_while0b_v134 : Ref sig .tc := ⟨.hbm, 210, rfl⟩
abbrev main_while0b_cst_28 : Ref sig .tc := ⟨.hbm, 211, rfl⟩
abbrev main_while0b_v135 : Ref sig .tc := ⟨.hbm, 212, rfl⟩
abbrev main_while0b_v136 : Ref sig .tc := ⟨.hbm, 213, rfl⟩
abbrev main_while0b_v137 : Ref sig .tc := ⟨.hbm, 214, rfl⟩
abbrev main_while0b_cst_29 : Ref sig .tc := ⟨.hbm, 215, rfl⟩
abbrev main_while0b_v138 : Ref sig .tc := ⟨.hbm, 216, rfl⟩
abbrev main_while0b_v139 : Ref sig .tc := ⟨.hbm, 217, rfl⟩
abbrev main_while0b_v140 : Ref sig .tc := ⟨.hbm, 218, rfl⟩
abbrev main_while0b_v141 : Ref sig .tc := ⟨.hbm, 219, rfl⟩
abbrev main_while0b_cst_30 : Ref sig .tc := ⟨.hbm, 220, rfl⟩
abbrev main_while0b_v142 : Ref sig .tc := ⟨.hbm, 221, rfl⟩
abbrev main_while0b_v143 : Ref sig .tc := ⟨.hbm, 222, rfl⟩
abbrev main_while0b_v144 : Ref sig .tc := ⟨.hbm, 223, rfl⟩
abbrev main_while0b_call11_cst : Ref sig .tc := ⟨.hbm, 224, rfl⟩
abbrev main_while0b_call11_v0 : Ref sig .tc := ⟨.hbm, 225, rfl⟩
abbrev main_while0b_v145 : Ref sig .tc := ⟨.hbm, 226, rfl⟩
abbrev main_while0b_v146 : Ref sig .tc := ⟨.hbm, 227, rfl⟩
abbrev main_while0b_v147 : Ref sig .tc := ⟨.hbm, 228, rfl⟩
abbrev main_while0b_v148 : Ref sig .tc := ⟨.hbm, 229, rfl⟩
abbrev main_while0b_v149 : Ref sig .tc := ⟨.hbm, 230, rfl⟩
abbrev main_while0b_v150 : Ref sig .tc := ⟨.hbm, 231, rfl⟩
abbrev main_while0b_v151 : Ref sig .tc := ⟨.hbm, 232, rfl⟩
abbrev main_while0b_v152 : Ref sig .tc := ⟨.hbm, 233, rfl⟩
abbrev main_while0b_v153 : Ref sig .tc := ⟨.hbm, 234, rfl⟩
abbrev main_while0b_v154 : Ref sig .tc := ⟨.hbm, 235, rfl⟩
abbrev main_while0b_v155 : Ref sig .tc := ⟨.hbm, 236, rfl⟩
abbrev main_while0b_cst_31 : Ref sig .tc := ⟨.hbm, 237, rfl⟩
abbrev main_while0b_v156 : Ref sig .tc := ⟨.hbm, 238, rfl⟩
abbrev main_while0b_v157 : Ref sig .tc := ⟨.hbm, 239, rfl⟩
abbrev main_while0b_v158 : Ref sig .tc := ⟨.hbm, 240, rfl⟩
abbrev main_while0b_v159 : Ref sig .tc := ⟨.hbm, 241, rfl⟩
abbrev main_while0b_cst_32 : Ref sig .tc := ⟨.hbm, 242, rfl⟩
abbrev main_while0b_v160 : Ref sig .tc := ⟨.hbm, 243, rfl⟩
abbrev main_while0b_v161 : Ref sig .tc := ⟨.hbm, 244, rfl⟩
abbrev main_while0b_v162 : Ref sig .tc := ⟨.hbm, 245, rfl⟩
abbrev main_while0b_v163 : Ref sig .tc := ⟨.hbm, 246, rfl⟩
abbrev main_while0b_v164 : Ref sig .tc := ⟨.hbm, 247, rfl⟩
abbrev main_while0b_v165 : Ref sig .tc := ⟨.hbm, 248, rfl⟩
abbrev main_while0b_v166 : Ref sig .tc := ⟨.hbm, 249, rfl⟩
abbrev main_while0b_v167 : Ref sig .tc := ⟨.hbm, 250, rfl⟩
abbrev main_while0b_cst_33 : Ref sig .tc := ⟨.hbm, 251, rfl⟩
abbrev main_while0b_v168 : Ref sig .tc := ⟨.hbm, 252, rfl⟩
abbrev main_while0b_v169 : Ref sig .tc := ⟨.hbm, 253, rfl⟩
abbrev main_while0b_v170 : Ref sig .tc := ⟨.hbm, 254, rfl⟩
abbrev main_while0b_v171 : Ref sig .tc := ⟨.hbm, 255, rfl⟩
abbrev main_while0b_cst_34 : Ref sig .tc := ⟨.hbm, 256, rfl⟩
abbrev main_while0b_v172 : Ref sig .tc := ⟨.hbm, 257, rfl⟩
abbrev main_while0b_v173 : Ref sig .tc := ⟨.hbm, 258, rfl⟩
abbrev main_while0b_v174 : Ref sig .tc := ⟨.hbm, 259, rfl⟩
abbrev main_while0b_v175 : Ref sig .tc := ⟨.hbm, 260, rfl⟩
abbrev main_while0b_cst_35 : Ref sig .tc := ⟨.hbm, 261, rfl⟩
abbrev main_while0b_v176 : Ref sig .tc := ⟨.hbm, 262, rfl⟩
abbrev main_while0b_call12_cst : Ref sig .tc := ⟨.hbm, 263, rfl⟩
abbrev main_while0b_call12_v0 : Ref sig .tc := ⟨.hbm, 264, rfl⟩
abbrev main_while0b_v177 : Ref sig .tc := ⟨.hbm, 265, rfl⟩
abbrev main_while0b_v178 : Ref sig .tc := ⟨.hbm, 266, rfl⟩
abbrev main_while0b_v179 : Ref sig .tc := ⟨.hbm, 267, rfl⟩
abbrev main_while0b_v180 : Ref sig .tc := ⟨.hbm, 268, rfl⟩
abbrev main_while0b_v181 : Ref sig .tc := ⟨.hbm, 269, rfl⟩
abbrev main_while0b_v182 : Ref sig .tc := ⟨.hbm, 270, rfl⟩
abbrev main_while0b_v183 : Ref sig .tc := ⟨.hbm, 271, rfl⟩
abbrev main_while0b_v184 : Ref sig .tc := ⟨.hbm, 272, rfl⟩
abbrev main_while0b_v185 : Ref sig .tc := ⟨.hbm, 273, rfl⟩
abbrev main_while0b_cst_36 : Ref sig .tc := ⟨.hbm, 274, rfl⟩
abbrev main_while0b_v186 : Ref sig .tc := ⟨.hbm, 275, rfl⟩
abbrev main_while0b_v187 : Ref sig .tc := ⟨.hbm, 276, rfl⟩
abbrev main_while0b_v188 : Ref sig .tc := ⟨.hbm, 277, rfl⟩
abbrev main_while0b_v189 : Ref sig .tc := ⟨.hbm, 278, rfl⟩
abbrev main_while0b_v190 : Ref sig .tc := ⟨.hbm, 279, rfl⟩
abbrev main_while0b_cst_37 : Ref sig .tc := ⟨.hbm, 280, rfl⟩
abbrev main_while0b_v191 : Ref sig .tc := ⟨.hbm, 281, rfl⟩
abbrev main_while0b_v192 : Ref sig .tc := ⟨.hbm, 282, rfl⟩
abbrev main_while0b_v193 : Ref sig .tc := ⟨.hbm, 283, rfl⟩
abbrev main_while0b_call13_cst : Ref sig .tc := ⟨.hbm, 284, rfl⟩
abbrev main_while0b_call13_v0 : Ref sig .tc := ⟨.hbm, 285, rfl⟩
abbrev main_while0b_v194 : Ref sig .tc := ⟨.hbm, 286, rfl⟩
abbrev main_while0b_cst_38 : Ref sig .tc := ⟨.hbm, 287, rfl⟩
abbrev main_while0b_v195 : Ref sig .tc := ⟨.hbm, 288, rfl⟩
abbrev main_while0b_v196 : Ref sig .tc := ⟨.hbm, 289, rfl⟩
abbrev main_while0b_v197 : Ref sig .tc := ⟨.hbm, 290, rfl⟩
abbrev main_while0b_cst_39 : Ref sig .tc := ⟨.hbm, 291, rfl⟩
abbrev main_while0b_v198 : Ref sig .tc := ⟨.hbm, 292, rfl⟩
abbrev main_while0b_v199 : Ref sig .tc := ⟨.hbm, 293, rfl⟩
abbrev main_while0b_cst_40 : Ref sig .tc := ⟨.hbm, 294, rfl⟩
abbrev main_while0b_v200 : Ref sig .tc := ⟨.hbm, 295, rfl⟩
abbrev main_while0b_v201 : Ref sig .tc := ⟨.hbm, 296, rfl⟩
abbrev main_while0b_cst_41 : Ref sig .tc := ⟨.hbm, 297, rfl⟩
abbrev main_while0b_v202 : Ref sig .tc := ⟨.hbm, 298, rfl⟩
abbrev main_while0b_v203 : Ref sig .tc := ⟨.hbm, 299, rfl⟩
abbrev main_while0b_call14_cst : Ref sig .tc := ⟨.hbm, 300, rfl⟩
abbrev main_while0b_call14_v0 : Ref sig .tc := ⟨.hbm, 301, rfl⟩
abbrev main_while0b_v204 : Ref sig .tc := ⟨.hbm, 302, rfl⟩
abbrev main_while0b_v205 : Ref sig .tc := ⟨.hbm, 303, rfl⟩
abbrev main_while0b_cst_42 : Ref sig .tc := ⟨.hbm, 304, rfl⟩
abbrev main_while0b_v206 : Ref sig .tc := ⟨.hbm, 305, rfl⟩
abbrev main_while0b_v207 : Ref sig .tc := ⟨.hbm, 306, rfl⟩
abbrev main_while0b_cst_43 : Ref sig .tc := ⟨.hbm, 307, rfl⟩
abbrev main_while0b_v208 : Ref sig .tc := ⟨.hbm, 308, rfl⟩
abbrev main_while0b_v209 : Ref sig .tc := ⟨.hbm, 309, rfl⟩
abbrev main_while0b_cst_44 : Ref sig .tc := ⟨.hbm, 310, rfl⟩
abbrev main_while0b_v210 : Ref sig .tc := ⟨.hbm, 311, rfl⟩
abbrev main_while0b_v211 : Ref sig .tc := ⟨.hbm, 312, rfl⟩
abbrev main_while0b_call15_v0 : Ref sig .tc := ⟨.hbm, 313, rfl⟩
abbrev main_while0b_call15_c : Ref sig .tc := ⟨.hbm, 314, rfl⟩
abbrev main_while0b_call15_c_0 : Ref sig .tc := ⟨.hbm, 315, rfl⟩
abbrev main_while0b_call15_c_1 : Ref sig .tc := ⟨.hbm, 316, rfl⟩
abbrev main_while0b_v212 : Ref sig .tc := ⟨.hbm, 317, rfl⟩
abbrev main_while0b_call16_v0 : Ref sig .tc := ⟨.hbm, 318, rfl⟩
abbrev main_while0b_call16_c : Ref sig .tc := ⟨.hbm, 319, rfl⟩
abbrev main_while0b_call16_c_0 : Ref sig .tc := ⟨.hbm, 320, rfl⟩
abbrev main_while0b_call16_c_1 : Ref sig .tc := ⟨.hbm, 321, rfl⟩
abbrev main_while0b_v213 : Ref sig .tc := ⟨.hbm, 322, rfl⟩
abbrev main_while0b_call17_v0 : Ref sig .tc := ⟨.hbm, 323, rfl⟩
abbrev main_while0b_call17_c : Ref sig .tc := ⟨.hbm, 324, rfl⟩
abbrev main_while0b_call17_c_0 : Ref sig .tc := ⟨.hbm, 325, rfl⟩
abbrev main_while0b_call17_c_1 : Ref sig .tc := ⟨.hbm, 326, rfl⟩
abbrev main_while0b_v214 : Ref sig .tc := ⟨.hbm, 327, rfl⟩
abbrev main_while0b_call18_v0 : Ref sig .tc := ⟨.hbm, 328, rfl⟩
abbrev main_while0b_call18_c : Ref sig .tc := ⟨.hbm, 329, rfl⟩
abbrev main_while0b_call18_c_0 : Ref sig .tc := ⟨.hbm, 330, rfl⟩
abbrev main_while0b_v215 : Ref sig .tc := ⟨.hbm, 331, rfl⟩
abbrev main_while0b_c_45 : Ref sig .tc := ⟨.hbm, 332, rfl⟩
abbrev main_while0b_v216 : Ref sig .tc := ⟨.hbm, 333, rfl⟩
abbrev main_v15 : Ref sig .tc := ⟨.hbm, 334, rfl⟩
abbrev main_v16 : Ref sig .tc := ⟨.hbm, 335, rfl⟩
abbrev main_v17 : Ref sig .tc := ⟨.hbm, 336, rfl⟩
abbrev main_v18 : Ref sig .tc := ⟨.hbm, 337, rfl⟩
abbrev main_v19 : Ref sig .tc := ⟨.hbm, 338, rfl⟩
abbrev main_v20 : Ref sig .tc := ⟨.hbm, 339, rfl⟩
abbrev main_v21 : Ref sig .tc := ⟨.hbm, 340, rfl⟩

abbrev nD : Nat := 1
abbrev τ : Topo := Topo.v7x

variable {F : FTy → Type} [FloatOps F]

abbrev main_while0_count : Scf.Loop 32 := ⟨0#32, 129#32, 1#32⟩
-- ==== UpDxKernel.lean ====
abbrev S1024x5632 : Shape := ⟨2, ![1024, 5632]⟩
abbrev S8256x5632 : Shape := ⟨2, ![8256, 5632]⟩
abbrev S8256x1024 : Shape := ⟨2, ![8256, 1024]⟩
abbrev S688x2816 : Shape := ⟨2, ![688, 2816]⟩
abbrev S1024x2816 : Shape := ⟨2, ![1024, 2816]⟩
abbrev S688x1024 : Shape := ⟨2, ![688, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x5632, .bf16⟩
  | .hbm, ⟨1, _⟩ => ⟨S8256x5632, .bf16⟩
  | .hbm, ⟨2, _⟩ => ⟨S8256x1024, .f32⟩
  | .local _ .vmem, ⟨0, _⟩ => ⟨S688x2816, .bf16⟩
  | .local _ .vmem, ⟨1, _⟩ => ⟨S688x2816, .bf16⟩
  | .local _ .vmem, ⟨2, _⟩ => ⟨S1024x2816, .bf16⟩
  | .local _ .vmem, ⟨3, _⟩ => ⟨S1024x2816, .bf16⟩
  | .local _ .vmem, ⟨4, _⟩ => ⟨S688x1024, .f32⟩
  | .local _ .vmem, ⟨5, _⟩ => ⟨S688x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S1024x5632 : Shape := ⟨2, ![1024, 5632]⟩
abbrev S8256x5632 : Shape := ⟨2, ![8256, 5632]⟩
abbrev S_ : Shape := ⟨0, ![]⟩
abbrev S8256x1024 : Shape := ⟨2, ![8256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8256x5632, .bf16⟩
  | .hbm, ⟨2, _⟩ => ⟨S_, .f32⟩
  | .hbm, ⟨3, _⟩ => ⟨S8256x1024, .f32⟩
  | .hbm, ⟨4, _⟩ => ⟨S1024x5632, .f32⟩
  | .hbm, ⟨5, _⟩ => ⟨S8256x5632, .f32⟩
  | .hbm, ⟨6, _⟩ => ⟨S8256x5632, .f32⟩
  | .hbm, ⟨7, _⟩ => ⟨S8256x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDwKernel.lean ====
abbrev S8256x1024 : Shape := ⟨2, ![8256, 1024]⟩
abbrev S8256x5632 : Shape := ⟨2, ![8256, 5632]⟩
abbrev S1024x5632 : Shape := ⟨2, ![1024, 5632]⟩
abbrev S688x1024 : Shape := ⟨2, ![688, 1024]⟩
abbrev S688x1408 : Shape := ⟨2, ![688, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S1024x5632, .bf16⟩
  | .local _ .vmem, ⟨0, _⟩ => ⟨S688x1024, .bf16⟩
  | .local _ .vmem, ⟨1, _⟩ => ⟨S688x1024, .bf16⟩
  | .local _ .vmem, ⟨2, _⟩ => ⟨S688x1408, .bf16⟩
  | .local _ .vmem, ⟨3, _⟩ => ⟨S688x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8256x1024 : Shape := ⟨2, ![8256, 1024]⟩
abbrev S8256x5632 : Shape := ⟨2, ![8256, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S_, .f32⟩
  | .hbm, ⟨3, _⟩ => ⟨S1024x5632, .f32⟩
  | .hbm, ⟨4, _⟩ => ⟨S8256x1024, .f32⟩
  | .hbm, ⟨5, _⟩ => ⟨S8256x5632, .f32⟩
  | .hbm, ⟨6, _⟩ => ⟨S8256x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDxKernel.lean ====
abbrev S1024x6912 : Shape := ⟨2, ![1024, 6912]⟩
abbrev S8256x6912 : Shape := ⟨2, ![8256, 6912]⟩
abbrev S8256x1024 : Shape := ⟨2, ![8256, 1024]⟩
abbrev S688x2304 : Shape := ⟨2, ![688, 2304]⟩
abbrev S1024x2304 : Shape := ⟨2, ![1024, 2304]⟩
abbrev S688x1024 : Shape := ⟨2, ![688, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x6912, .bf16⟩
  | .hbm, ⟨1, _⟩ => ⟨S8256x6912, .bf16⟩
  | .hbm, ⟨2, _⟩ => ⟨S8256x1024, .f32⟩
  | .local _ .vmem, ⟨0, _⟩ => ⟨S688x2304, .bf16⟩
  | .local _ .vmem, ⟨1, _⟩ => ⟨S688x2304, .bf16⟩
  | .local _ .vmem, ⟨2, _⟩ => ⟨S1024x2304, .bf16⟩
  | .local _ .vmem, ⟨3, _⟩ => ⟨S1024x2304, .bf16⟩
  | .local _ .vmem, ⟨4, _⟩ => ⟨S688x1024, .f32⟩
  | .local _ .vmem, ⟨5, _⟩ => ⟨S688x1024, .f32⟩
  | _, _ => ⟨S1024x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S1024x6912 : Shape := ⟨2, ![1024, 6912]⟩
abbrev S8256x6912 : Shape := ⟨2, ![8256, 6912]⟩
abbrev S_ : Shape := ⟨0, ![]⟩
abbrev S8256x1024 : Shape := ⟨2, ![8256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x6912, .bf16⟩
  | .hbm, ⟨1, _⟩ => ⟨S8256x6912, .bf16⟩
  | .hbm, ⟨2, _⟩ => ⟨S_, .f32⟩
  | .hbm, ⟨3, _⟩ => ⟨S8256x1024, .f32⟩
  | .hbm, ⟨4, _⟩ => ⟨S1024x6912, .f32⟩
  | .hbm, ⟨5, _⟩ => ⟨S8256x6912, .f32⟩
  | .hbm, ⟨6, _⟩ => ⟨S8256x6912, .f32⟩
  | .hbm, ⟨7, _⟩ => ⟨S8256x1024, .f32⟩
  | _, _ => ⟨S1024x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDwKernel.lean ====
abbrev S8256x1024 : Shape := ⟨2, ![8256, 1024]⟩
abbrev S8256x6912 : Shape := ⟨2, ![8256, 6912]⟩
abbrev S1024x6912 : Shape := ⟨2, ![1024, 6912]⟩
abbrev S688x1024 : Shape := ⟨2, ![688, 1024]⟩
abbrev S688x1152 : Shape := ⟨2, ![688, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S8256x6912, .bf16⟩
  | .hbm, ⟨2, _⟩ => ⟨S1024x6912, .bf16⟩
  | .local _ .vmem, ⟨0, _⟩ => ⟨S688x1024, .bf16⟩
  | .local _ .vmem, ⟨1, _⟩ => ⟨S688x1024, .bf16⟩
  | .local _ .vmem, ⟨2, _⟩ => ⟨S688x1152, .bf16⟩
  | .local _ .vmem, ⟨3, _⟩ => ⟨S688x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S8256x1024 : Shape := ⟨2, ![8256, 1024]⟩
abbrev S8256x6912 : Shape := ⟨2, ![8256, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x6912, .bf16⟩
  | .hbm, ⟨2, _⟩ => ⟨S_, .f32⟩
  | .hbm, ⟨3, _⟩ => ⟨S1024x6912, .f32⟩
  | .hbm, ⟨4, _⟩ => ⟨S8256x1024, .f32⟩
  | .hbm, ⟨5, _⟩ => ⟨S8256x6912, .f32⟩
  | .hbm, ⟨6, _⟩ => ⟨S8256x6912, .f32⟩
  | .hbm, ⟨7, _⟩ => ⟨S6912x1024, .f32⟩
  | .hbm, ⟨8, _⟩ => ⟨S1024x6912, .f32⟩
  | .hbm, ⟨9, _⟩ => ⟨S1024x6912, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDxKernel.lean ====
abbrev S2816x1024 : Shape := ⟨2, ![2816, 1024]⟩
abbrev S8256x1024 : Shape := ⟨2, ![8256, 1024]⟩
abbrev S8256x2816 : Shape := ⟨2, ![8256, 2816]⟩
abbrev S688x1024 : Shape := ⟨2, ![688, 1024]⟩
abbrev S1408x1024 : Shape := ⟨2, ![1408, 1024]⟩
abbrev S688x1408 : Shape := ⟨2, ![688, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8256x1024, .f32⟩
  | .hbm, ⟨2, _⟩ => ⟨S8256x2816, .f32⟩
  | .local _ .vmem, ⟨0, _⟩ => ⟨S688x1024, .f32⟩
  | .local _ .vmem, ⟨1, _⟩ => ⟨S688x1024, .f32⟩
  | .local _ .vmem, ⟨2, _⟩ => ⟨S1408x1024, .bf16⟩
  | .local _ .vmem, ⟨3, _⟩ => ⟨S1408x1024, .bf16⟩
  | .local _ .vmem, ⟨4, _⟩ => ⟨S688x1408, .f32⟩
  | .local _ .vmem, ⟨5, _⟩ => ⟨S688x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S2816x1024 : Shape := ⟨2, ![2816, 1024]⟩
abbrev S8256x1024 : Shape := ⟨2, ![8256, 1024]⟩
abbrev S_ : Shape := ⟨0, ![]⟩
abbrev S8256x2816 : Shape := ⟨2, ![8256, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8256x1024, .f32⟩
  | .hbm, ⟨2, _⟩ => ⟨S_, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDwKernel.lean ====
abbrev S8256x2816 : Shape := ⟨2, ![8256, 2816]⟩
abbrev S8256x1024 : Shape := ⟨2, ![8256, 1024]⟩
abbrev S2816x1024 : Shape := ⟨2, ![2816, 1024]⟩
abbrev S688x1408 : Shape := ⟨2, ![688, 1408]⟩
abbrev S688x1024 : Shape := ⟨2, ![688, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .f32⟩
  | .hbm, ⟨2, _⟩ => ⟨S2816x1024, .bf16⟩
  | .local _ .vmem, ⟨0, _⟩ => ⟨S688x1408, .bf16⟩
  | .local _ .vmem, ⟨1, _⟩ => ⟨S688x1408, .bf16⟩
  | .local _ .vmem, ⟨2, _⟩ => ⟨S688x1024, .f32⟩
  | .local _ .vmem, ⟨3, _⟩ => ⟨S688x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .f32⟩
  | .hbm, ⟨2, _⟩ => ⟨S_, .f32⟩
  | .hbm, ⟨3, _⟩ => ⟨S2816x1024, .f32⟩
  | .hbm, ⟨4, _⟩ => ⟨S8256x2816, .f32⟩
  | .hbm, ⟨5, _⟩ => ⟨S8256x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDxKernel.lean ====
abbrev S1024x1024 : Shape := ⟨2, ![1024, 1024]⟩
abbrev S8256x1024 : Shape := ⟨2, ![8256, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8256x1024, .f32⟩
  | .hbm, ⟨2, _⟩ => ⟨S8256x1024, .f32⟩
  | .local _ .vmem, ⟨0, _⟩ => ⟨S688x1024, .f32⟩
  | .local _ .vmem, ⟨1, _⟩ => ⟨S688x1024, .f32⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S1024x1024 : Shape := ⟨2, ![1024, 1024]⟩
abbrev S8256x1024 : Shape := ⟨2, ![8256, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8256x1024, .f32⟩
  | .hbm, ⟨2, _⟩ => ⟨S_, .f32⟩
  | .hbm, ⟨3, _⟩ => ⟨S8256x1024, .f32⟩
  | .hbm, ⟨4, _⟩ => ⟨S1024x1024, .f32⟩
  | .hbm, ⟨5, _⟩ => ⟨S8256x1024, .f32⟩
  | .hbm, ⟨6, _⟩ => ⟨S8256x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDwKernel.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S1024x1024, .bf16⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1024x1024, .bf16⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InKernel.lean ====
abbrev S8256x1024 : Shape := ⟨2, ![8256, 1024]⟩
abbrev S1024x6912 : Shape := ⟨2, ![1024, 6912]⟩
abbrev S8256x6912 : Shape := ⟨2, ![8256, 6912]⟩
abbrev S1376x1024 : Shape := ⟨2, ![1376, 1024]⟩
abbrev S1024x1152 : Shape := ⟨2, ![1024, 1152]⟩
abbrev S1376x1152 : Shape := ⟨2, ![1376, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x6912, .bf16⟩
  | .hbm, ⟨2, _⟩ => ⟨S8256x6912, .f32⟩
  | .local _ .vmem, ⟨0, _⟩ => ⟨S1376x1024, .bf16⟩
  | .local _ .vmem, ⟨1, _⟩ => ⟨S1376x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1376x1152, .f32⟩
  | .local _ .vmem, ⟨5, _⟩ => ⟨S1376x1152, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8256x1024 : Shape := ⟨2, ![8256, 1024]⟩
abbrev S1024x6912 : Shape := ⟨2, ![1024, 6912]⟩
abbrev S8256x6912 : Shape := ⟨2, ![8256, 6912]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x6912, .bf16⟩
  | .hbm, ⟨2, _⟩ => ⟨S8256x1024, .f32⟩
  | .hbm, ⟨3, _⟩ => ⟨S1024x6912, .f32⟩
  | .hbm, ⟨4, _⟩ => ⟨S8256x6912, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpKernel.lean ====
abbrev S8256x1024 : Shape := ⟨2, ![8256, 1024]⟩
abbrev S1024x5632 : Shape := ⟨2, ![1024, 5632]⟩
abbrev S8256x5632 : Shape := ⟨2, ![8256, 5632]⟩
abbrev S1376x1024 : Shape := ⟨2, ![1376, 1024]⟩
abbrev S1024x1408 : Shape := ⟨2, ![1024, 1408]⟩
abbrev S1376x1408 : Shape := ⟨2, ![1376, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x5632, .f32⟩
  | .local _ .vmem, ⟨0, _⟩ => ⟨S1376x1024, .bf16⟩
  | .local _ .vmem, ⟨1, _⟩ => ⟨S1376x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1376x1408, .f32⟩
  | .local _ .vmem, ⟨5, _⟩ => ⟨S1376x1408, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8256x1024 : Shape := ⟨2, ![8256, 1024]⟩
abbrev S1024x5632 : Shape := ⟨2, ![1024, 5632]⟩
abbrev S8256x5632 : Shape := ⟨2, ![8256, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x1024, .f32⟩
  | .hbm, ⟨3, _⟩ => ⟨S1024x5632, .f32⟩
  | .hbm, ⟨4, _⟩ => ⟨S8256x5632, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownKernel.lean ====
abbrev S8256x2816 : Shape := ⟨2, ![8256, 2816]⟩
abbrev S2816x1024 : Shape := ⟨2, ![2816, 1024]⟩
abbrev S8256x1024 : Shape := ⟨2, ![8256, 1024]⟩
abbrev S688x2816 : Shape := ⟨2, ![688, 2816]⟩
abbrev S688x1024 : Shape := ⟨2, ![688, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8256x2816 : Shape := ⟨2, ![8256, 2816]⟩
abbrev S2816x1024 : Shape := ⟨2, ![2816, 1024]⟩
abbrev S8256x1024 : Shape := ⟨2, ![8256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsBwdKernel.lean ====
abbrev S8256x1024 : Shape := ⟨2, ![8256, 1024]⟩
abbrev S1x1024 : Shape := ⟨2, ![1, 1024]⟩
abbrev S8x1024 : Shape := ⟨2, ![8, 1024]⟩
abbrev S192x1024 : Shape := ⟨2, ![192, 1024]⟩
abbrev S192 : Shape := ⟨1, ![192]⟩
abbrev S192x1 : Shape := ⟨2, ![192, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S8256x1024, .f32⟩
  | .hbm, ⟨4, _⟩ => ⟨S8256x1024, .f32⟩
  | .hbm, ⟨5, _⟩ => ⟨S8x1024, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S8x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdReferenceIdeal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S8256x1024, .f32⟩
  | .hbm, ⟨4, _⟩ => ⟨S8256x1024, .f32⟩
  | .hbm, ⟨5, _⟩ => ⟨S_, .f32⟩
  | .hbm, ⟨6, _⟩ => ⟨S8256, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S_, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8256x1024, .f32⟩
  | .hbm, ⟨28, _⟩ => ⟨S8256x1024, .f32⟩
  | .hbm, ⟨29, _⟩ => ⟨S8256x1024, .f32⟩
  | .hbm, ⟨30, _⟩ => ⟨S_, .f32⟩
  | .hbm, ⟨31, _⟩ => ⟨S8256, .f32⟩
  | .hbm, ⟨32, _⟩ => ⟨S8256x1, .f32⟩
  | .hbm, ⟨33, _⟩ => ⟨S8256x1024, .f32⟩
  | .hbm, ⟨34, _⟩ => ⟨S8256x1024, .f32⟩
  | .hbm, ⟨35, _⟩ => ⟨S8256x1, .f32⟩
  | .hbm, ⟨36, _⟩ => ⟨S_, .f32⟩
  | .hbm, ⟨37, _⟩ => ⟨S8256x1, .f32⟩
  | .hbm, ⟨38, _⟩ => ⟨S8256x1, .f32⟩
  | .hbm, ⟨39, _⟩ => ⟨S_, .f32⟩
  | .hbm, ⟨40, _⟩ => ⟨S8256, .f32⟩
  | .hbm, ⟨41, _⟩ => ⟨S8256x1024, .f32⟩
  | .hbm, ⟨42, _⟩ => ⟨S8256x1024, .f32⟩
  | .hbm, ⟨43, _⟩ => ⟨S8256x1024, .f32⟩
  | .hbm, ⟨44, _⟩ => ⟨S8256x1024, .f32⟩
  | .hbm, ⟨45, _⟩ => ⟨S8256x1024, .f32⟩
  | .hbm, ⟨46, _⟩ => ⟨S8256, .i32⟩
  | .hbm, ⟨47, _⟩ => ⟨S8256x1, .i32⟩
  | .hbm, ⟨48, _⟩ => ⟨S_, .i32⟩
  | .hbm, ⟨49, _⟩ => ⟨S8256x1, .i32⟩
  | .hbm, ⟨50, _⟩ => ⟨S8256x1, .i1⟩
  | .hbm, ⟨51, _⟩ => ⟨S8256x1024, .f32⟩
  | .hbm, ⟨52, _⟩ => ⟨S_, .f32⟩
  | .hbm, ⟨53, _⟩ => ⟨S_, .f32⟩
  | .hbm, ⟨54, _⟩ => ⟨S8256x1024, .i1⟩
  | .hbm, ⟨55, _⟩ => ⟨S8256x1024, .f32⟩
  | .hbm, ⟨56, _⟩ => ⟨S8256x1024, .f32⟩
  | .hbm, ⟨57, _⟩ => ⟨S8x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== ConvFfnKernel.lean ====
abbrev S8256x5632 : Shape := ⟨2, ![8256, 5632]⟩
abbrev S8x5632 : Shape := ⟨2, ![8, 5632]⟩
abbrev S192x5632 : Shape := ⟨2, ![192, 5632]⟩
abbrev S16x5632 : Shape := ⟨2, ![16, 5632]⟩
abbrev S208x5632 : Shape := ⟨2, ![208, 5632]⟩
abbrev S192x128 : Shape := ⟨2, ![192, 128]⟩
abbrev S1x128 : Shape := ⟨2, ![1, 128]⟩

abbrev nBuf : Space → Nat
  | .hbm => 3
  | .vmem => 8
  | .smem => 0
  | _ => 0

abbrev bufTy : (tb : Table) → Fin (tcTables nBuf tb) → BufTy
  | .hbm, ⟨0, _⟩ => ⟨S8256x5632, .bf16⟩
  | .hbm, ⟨1, _⟩ => ⟨S8x5632, .f32⟩
  | .hbm, ⟨2, _⟩ => ⟨S8256x5632, .bf16⟩
  | .local _ .vmem, ⟨0, _⟩ => ⟨S192x5632, .bf16⟩
  | .local _ .vmem, ⟨1, _⟩ => ⟨S192x5632, .bf16⟩
  | .local _ .vmem, ⟨2, _⟩ => ⟨S16x5632, .bf16⟩
  | .local _ .vmem, ⟨3, _⟩ => ⟨S16x5632, .bf16⟩
  | .local _ .vmem, ⟨4, _⟩ => ⟨S8x5632, .f32⟩
  | .local _ .vmem, ⟨5, _⟩ => ⟨S192x5632, .bf16⟩
  | .local _ .vmem, ⟨6, _⟩ => ⟨S192x5632, .bf16⟩
  | .local _ .vmem, ⟨7, _⟩ => ⟨S208x5632, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let v1 : BitVec 32 := Scalar.muli v0 c12_i32
  let c515_i32 : BitVec 32 := 515#32
  let v2 : BitVec 32 := Scalar.minsi v1 c515_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFfnReferenceIdeal.lean ====
abbrev S8256x5632 : Shape := ⟨2, ![8256, 5632]⟩
abbrev S8x5632 : Shape := ⟨2, ![8, 5632]⟩
abbrev S_ : Shape := ⟨0, ![]⟩
abbrev S3x5632 : Shape := ⟨2, ![3, 5632]⟩
abbrev S2x5632 : Shape := ⟨2, ![2, 5632]⟩
abbrev S8258x5632 : Shape := ⟨2, ![8258, 5632]⟩
abbrev S1x5632 : Shape := ⟨2, ![1, 5632]⟩
abbrev S5632 : Shape := ⟨1, ![5632]⟩

abbrev nBuf : Space → Nat
  | .hbm => 48
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S8x5632, .f32⟩
  | .hbm, ⟨2, _⟩ => ⟨S_, .f32⟩
  | .hbm, ⟨3, _⟩ => ⟨S8256x5632, .f32⟩
  | .hbm, ⟨4, _⟩ => ⟨S3x5632, .f32⟩
  | .hbm, ⟨5, _⟩ => ⟨S_, .f32⟩
  | .hbm, ⟨6, _⟩ => ⟨S2x5632, .f32⟩
  | .hbm, ⟨7, _⟩ => ⟨S8258x5632, .f32⟩
  | .hbm, ⟨8, _⟩ => ⟨S_, .f32⟩
  | .hbm, ⟨9, _⟩ => ⟨S2x5632, .f32⟩
  | .hbm, ⟨10, _⟩ => ⟨S8256x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8256x5632, .f32⟩
  | .hbm, ⟨15, _⟩ => ⟨S8256x5632, .f32⟩
  | .hbm, ⟨16, _⟩ => ⟨S8256x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8256x5632, .f32⟩
  | .hbm, ⟨21, _⟩ => ⟨S8256x5632, .f32⟩
  | .hbm, ⟨22, _⟩ => ⟨S8256x5632, .f32⟩
  | .hbm, ⟨23, _⟩ => ⟨S8256x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S8256x5632, .f32⟩
  | .hbm, ⟨32, _⟩ => ⟨S8256x5632, .f32⟩
  | .hbm, ⟨33, _⟩ => ⟨S_, .f32⟩
  | .hbm, ⟨34, _⟩ => ⟨S8258x5632, .f32⟩
  | .hbm, ⟨35, _⟩ => ⟨S8256x5632, .f32⟩
  | .hbm, ⟨36, _⟩ => ⟨S8256x5632, .f32⟩
  | .hbm, ⟨37, _⟩ => ⟨S_, .f32⟩
  | .hbm, ⟨38, _⟩ => ⟨S8258x5632, .f32⟩
  | .hbm, ⟨39, _⟩ => ⟨S8258x5632, .f32⟩
  | .hbm, ⟨40, _⟩ => ⟨S8256x5632, .f32⟩
  | .hbm, ⟨41, _⟩ => ⟨S8256x5632, .f32⟩
  | .hbm, ⟨42, _⟩ => ⟨S_, .f32⟩
  | .hbm, ⟨43, _⟩ => ⟨S8258x5632, .f32⟩
  | .hbm, ⟨44, _⟩ => ⟨S8258x5632, .f32⟩
  | .hbm, ⟨45, _⟩ => ⟨S2x5632, .f32⟩
  | .hbm, ⟨46, _⟩ => ⟨S8256x5632, .f32⟩
  | .hbm, ⟨47, _⟩ => ⟨S8256x5632, .bf16⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== ConvQkvKernel.lean ====
abbrev S8256x3072 : Shape := ⟨2, ![8256, 3072]⟩
abbrev S8x3072 : Shape := ⟨2, ![8, 3072]⟩
abbrev S192x3072 : Shape := ⟨2, ![192, 3072]⟩
abbrev S16x3072 : Shape := ⟨2, ![16, 3072]⟩
abbrev S208x3072 : Shape := ⟨2, ![208, 3072]⟩
abbrev S192x128 : Shape := ⟨2, ![192, 128]⟩
abbrev S1x128 : Shape := ⟨2, ![1, 128]⟩

abbrev nBuf : Space → Nat
  | .hbm => 3
  | .vmem => 8
  | .smem => 0
  | _ => 0

abbrev bufTy : (tb : Table) → Fin (tcTables nBuf tb) → BufTy
  | .hbm, ⟨0, _⟩ => ⟨S8256x3072, .bf16⟩
  | .hbm, ⟨1, _⟩ => ⟨S8x3072, .f32⟩
  | .hbm, ⟨2, _⟩ => ⟨S8256x3072, .bf16⟩
  | .local _ .vmem, ⟨0, _⟩ => ⟨S192x3072, .bf16⟩
  | .local _ .vmem, ⟨1, _⟩ => ⟨S192x3072, .bf16⟩
  | .local _ .vmem, ⟨2, _⟩ => ⟨S16x3072, .bf16⟩
  | .local _ .vmem, ⟨3, _⟩ => ⟨S16x3072, .bf16⟩
  | .local _ .vmem, ⟨4, _⟩ => ⟨S8x3072, .f32⟩
  | .local _ .vmem, ⟨5, _⟩ => ⟨S192x3072, .bf16⟩
  | .local _ .vmem, ⟨6, _⟩ => ⟨S192x3072, .bf16⟩
  | .local _ .vmem, ⟨7, _⟩ => ⟨S208x3072, .f32⟩
  | _, _ => ⟨S8256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let v1 : BitVec 32 := Scalar.muli v0 c12_i32
  let c515_i32 : BitVec 32 := 515#32
  let v2 : BitVec 32 := Scalar.minsi v1 c515_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvQkvReferenceIdeal.lean ====
abbrev S8256x3072 : Shape := ⟨2, ![8256, 3072]⟩
abbrev S8x3072 : Shape := ⟨2, ![8, 3072]⟩
abbrev S_ : Shape := ⟨0, ![]⟩
abbrev S4x3072 : Shape := ⟨2, ![4, 3072]⟩
abbrev S3x3072 : Shape := ⟨2, ![3, 3072]⟩
abbrev S8259x3072 : Shape := ⟨2, ![8259, 3072]⟩
abbrev S1x3072 : Shape := ⟨2, ![1, 3072]⟩
abbrev S3072 : Shape := ⟨1, ![3072]⟩

abbrev nBuf : Space → Nat
  | .hbm => 60
  | .vmem => 0
  | .smem => 0
  | _ => 0

abbrev bufTy : (tb : Table) → Fin (tcTables nBuf tb) → BufTy
  | .hbm, ⟨0, _⟩ => ⟨S8256x3072, .bf16⟩
  | .hbm, ⟨1, _⟩ => ⟨S8x3072, .f32⟩
  | .hbm, ⟨2, _⟩ => ⟨S_, .f32⟩
  | .hbm, ⟨3, _⟩ => ⟨S8256x3072, .f32⟩
  | .hbm, ⟨4, _⟩ => ⟨S4x3072, .f32⟩
  | .hbm, ⟨5, _⟩ => ⟨S_, .f32⟩
  | .hbm, ⟨6, _⟩ => ⟨S3x3072, .f32⟩
  | .hbm, ⟨7, _⟩ => ⟨S8259x3072, .f32⟩
  | .hbm, ⟨8, _⟩ => ⟨S_, .f32⟩
  | .hbm, ⟨9, _⟩ => ⟨S3x3072, .f32⟩
  | .hbm, ⟨10, _⟩ => ⟨S8256x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S8256x3072, .f32⟩
  | .hbm, ⟨15, _⟩ => ⟨S8256x3072, .f32⟩
  | .hbm, ⟨16, _⟩ => ⟨S8256x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S8256x3072, .f32⟩
  | .hbm, ⟨21, _⟩ => ⟨S8256x3072, .f32⟩
  | .hbm, ⟨22, _⟩ => ⟨S8256x3072, .f32⟩
  | .hbm, ⟨23, _⟩ => ⟨S8256x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S8256x3072, .f32⟩
  | .hbm, ⟨28, _⟩ => ⟨S8256x3072, .f32⟩
  | .hbm, ⟨29, _⟩ => ⟨S8256x3072, .f32⟩
  | .hbm, ⟨30, _⟩ => ⟨S8256x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S8256x3072, .f32⟩
  | .hbm, ⟨35, _⟩ => ⟨S8256x3072, .f32⟩
  | .hbm, ⟨36, _⟩ => ⟨S8256x3072, .f32⟩
  | .hbm, ⟨37, _⟩ => ⟨S8256x3072, .f32⟩
  | .hbm, ⟨38, _⟩ => ⟨S8256x3072, .f32⟩
  | .hbm, ⟨39, _⟩ => ⟨S8256x3072, .f32⟩
  | .hbm, ⟨40, _⟩ => ⟨S_, .f32⟩
  | .hbm, ⟨41, _⟩ => ⟨S8259x3072, .f32⟩
  | .hbm, ⟨42, _⟩ => ⟨S8256x3072, .f32⟩
  | .hbm, ⟨43, _⟩ => ⟨S8256x3072, .f32⟩
  | .hbm, ⟨44, _⟩ => ⟨S_, .f32⟩
  | .hbm, ⟨45, _⟩ => ⟨S8259x3072, .f32⟩
  | .hbm, ⟨46, _⟩ => ⟨S8259x3072, .f32⟩
  | .hbm, ⟨47, _⟩ => ⟨S8256x3072, .f32⟩
  | .hbm, ⟨48, _⟩ => ⟨S8256x3072, .f32⟩
  | .hbm, ⟨49, _⟩ => ⟨S_, .f32⟩
  | .hbm, ⟨50, _⟩ => ⟨S8259x3072, .f32⟩
  | .hbm, ⟨51, _⟩ => ⟨S8259x3072, .f32⟩
  | .hbm, ⟨52, _⟩ => ⟨S8256x3072, .f32⟩
  | .hbm, ⟨53, _⟩ => ⟨S8256x3072, .f32⟩
  | .hbm, ⟨54, _⟩ => ⟨S_, .f32⟩
  | .hbm, ⟨55, _⟩ => ⟨S8259x3072, .f32⟩
  | .hbm, ⟨56, _⟩ => ⟨S8259x3072, .f32⟩
  | .hbm, ⟨57, _⟩ => ⟨S3x3072, .f32⟩
  | .hbm, ⟨58, _⟩ => ⟨S8256x3072, .f32⟩
  | .hbm, ⟨59, _⟩ => ⟨S8256x3072, .bf16⟩
  | _, _ => ⟨S8256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== AdamInKernel.lean ====
abbrev S8x1024x834 : Shape := ⟨3, ![8, 1024, 834]⟩
abbrev S1024x834 : Shape := ⟨2, ![1024, 834]⟩
abbrev S8x256x834 : Shape := ⟨3, ![8, 256, 834]⟩
abbrev S256x834 : Shape := ⟨2, ![256, 834]⟩
abbrev S1x256x834 : Shape := ⟨3, ![1, 256, 834]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x834, .bf16⟩
  | .hbm, ⟨1, _⟩ => ⟨S1024x834, .f32⟩
  | .hbm, ⟨2, _⟩ => ⟨S1024x834, .f32⟩
  | .hbm, ⟨3, _⟩ => ⟨S1024x834, .f32⟩
  | .hbm, ⟨4, _⟩ => ⟨S1024x834, .f32⟩
  | .hbm, ⟨5, _⟩ => ⟨S1024x834, .f32⟩
  | .hbm, ⟨6, _⟩ => ⟨S1024x834, .f32⟩
  | .hbm, ⟨7, _⟩ => ⟨S1024x834, .f32⟩
  | .local _ .vmem, ⟨0, _⟩ => ⟨S8x256x834, .bf16⟩
  | .local _ .vmem, ⟨1, _⟩ => ⟨S8x256x834, .bf16⟩
  | .local _ .vmem, ⟨2, _⟩ => ⟨S256x834, .f32⟩
  | .local _ .vmem, ⟨3, _⟩ => ⟨S256x834, .f32⟩
  | .local _ .vmem, ⟨4, _⟩ => ⟨S256x834, .f32⟩
  | .local _ .vmem, ⟨5, _⟩ => ⟨S256x834, .f32⟩
  | .local _ .vmem, ⟨6, _⟩ => ⟨S256x834, .f32⟩
  | .local _ .vmem, ⟨7, _⟩ => ⟨S256x834, .f32⟩
  | .local _ .vmem, ⟨8, _⟩ => ⟨S256x834, .f32⟩
  | .local _ .vmem, ⟨9, _⟩ => ⟨S256x834, .f32⟩
  | .local _ .vmem, ⟨10, _⟩ => ⟨S256x834, .f32⟩
  | .local _ .vmem, ⟨11, _⟩ => ⟨S256x834, .f32⟩
  | .local _ .vmem, ⟨12, _⟩ => ⟨S256x834, .f32⟩
  | .local _ .vmem, ⟨13, _⟩ => ⟨S256x834, .f32⟩
  | .local _ .vmem, ⟨14, _⟩ => ⟨S256x834, .f32⟩
  | .local _ .vmem, ⟨15, _⟩ => ⟨S256x834, .f32⟩
  | _, _ => ⟨S8x1024x834, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x834 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x834 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x834 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x834 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x834 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x834 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x834 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamInReferenceIdeal.lean ====
abbrev S8x1024x834 : Shape := ⟨3, ![8, 1024, 834]⟩
abbrev S1024x834 : Shape := ⟨2, ![1024, 834]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x834, .bf16⟩
  | .hbm, ⟨1, _⟩ => ⟨S1024x834, .f32⟩
  | .hbm, ⟨2, _⟩ => ⟨S1024x834, .f32⟩
  | .hbm, ⟨3, _⟩ => ⟨S1024x834, .f32⟩
  | .hbm, ⟨4, _⟩ => ⟨S8x1024x834, .f32⟩
  | .hbm, ⟨5, _⟩ => ⟨S_, .f32⟩
  | .hbm, ⟨6, _⟩ => ⟨S1024x834, .f32⟩
  | .hbm, ⟨7, _⟩ => ⟨S_, .f32⟩
  | .hbm, ⟨8, _⟩ => ⟨S1024x834, .f32⟩
  | .hbm, ⟨9, _⟩ => ⟨S1024x834, .f32⟩
  | .hbm, ⟨10, _⟩ => ⟨S_, .f32⟩
  | .hbm, ⟨11, _⟩ => ⟨S1024x834, .f32⟩
  | .hbm, ⟨12, _⟩ => ⟨S1024x834, .f32⟩
  | .hbm, ⟨13, _⟩ => ⟨S1024x834, .f32⟩
  | .hbm, ⟨14, _⟩ => ⟨S_, .f32⟩
  | .hbm, ⟨15, _⟩ => ⟨S1024x834, .f32⟩
  | .hbm, ⟨16, _⟩ => ⟨S1024x834, .f32⟩
  | .hbm, ⟨17, _⟩ => ⟨S1024x834, .f32⟩
  | .hbm, ⟨18, _⟩ => ⟨S_, .f32⟩
  | .hbm, ⟨19, _⟩ => ⟨S1024x834, .f32⟩
  | .hbm, ⟨20, _⟩ => ⟨S1024x834, .f32⟩
  | .hbm, ⟨21, _⟩ => ⟨S1024x834, .f32⟩
  | .hbm, ⟨22, _⟩ => ⟨S_, .f32⟩
  | .hbm, ⟨23, _⟩ => ⟨S1024x834, .f32⟩
  | .hbm, ⟨24, _⟩ => ⟨S1024x834, .f32⟩
  | .hbm, ⟨25, _⟩ => ⟨S_, .f32⟩
  | .hbm, ⟨26, _⟩ => ⟨S1024x834, .f32⟩
  | .hbm, ⟨27, _⟩ => ⟨S1024x834, .f32⟩
  | .hbm, ⟨28, _⟩ => ⟨S1024x834, .f32⟩
  | .hbm, ⟨29, _⟩ => ⟨S_, .f32⟩
  | .hbm, ⟨30, _⟩ => ⟨S1024x834, .f32⟩
  | .hbm, ⟨31, _⟩ => ⟨S1024x834, .f32⟩
  | .hbm, ⟨32, _⟩ => ⟨S1024x834, .f32⟩
  | .hbm, ⟨33, _⟩ => ⟨S_, .f32⟩
  | .hbm, ⟨34, _⟩ => ⟨S1024x834, .f32⟩
  | .hbm, ⟨35, _⟩ => ⟨S1024x834, .f32⟩
  | .hbm, ⟨36, _⟩ => ⟨S1024x834, .f32⟩
  | .hbm, ⟨37, _⟩ => ⟨S_, .f32⟩
  | .hbm, ⟨38, _⟩ => ⟨S1024x834, .f32⟩
  | .hbm, ⟨39, _⟩ => ⟨S1024x834, .f32⟩
  | _, _ => ⟨S8x1024x834, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUpKernel.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamUpReferenceIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOutKernel.lean ====
abbrev S8x480x1024 : Shape := ⟨3, ![8, 480, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x480x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamOutReferenceIdeal.lean ====
abbrev S8x480x1024 : Shape := ⟨3, ![8, 480, 1024]⟩
abbrev S128x1024 : Shape := ⟨2, ![128, 1024]⟩
abbrev S8x128x1024 : Shape := ⟨3, ![8, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDownKernel.lean ====
abbrev S8x480x1024 : Shape := ⟨3, ![8, 480, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x480x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamDownReferenceIdeal.lean ====
abbrev S8x480x1024 : Shape := ⟨3, ![8, 480, 1024]⟩
abbrev S352x1024 : Shape := ⟨2, ![352, 1024]⟩
abbrev S8x352x1024 : Shape := ⟨3, ![8, 352, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== FinalKernel.lean ====
abbrev S8256x1024 : Shape := ⟨2, ![8256, 1024]⟩
abbrev S1x1024 : Shape := ⟨2, ![1, 1024]⟩
abbrev S8x1024 : Shape := ⟨2, ![8, 1024]⟩
abbrev S8x128 : Shape := ⟨2, ![8, 128]⟩
abbrev S192x1024 : Shape := ⟨2, ![192, 1024]⟩
abbrev S192 : Shape := ⟨1, ![192]⟩
abbrev S192x1 : Shape := ⟨2, ![192, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S8256x1024, .f32⟩
  | .hbm, ⟨4, _⟩ => ⟨S8x1024, .f32⟩
  | .hbm, ⟨5, _⟩ => ⟨S8x128, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S8x1024, .f32⟩
  | .local _ .vmem, ⟨8, _⟩ => ⟨S8x128, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalReferenceIdeal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S8192x1024 : Shape := ⟨2, ![8192, 1024]⟩
abbrev S8192 : Shape := ⟨1, ![8192]⟩
abbrev S1024 : Shape := ⟨1, ![1024]⟩
abbrev S8x1024 : Shape := ⟨2, ![8, 1024]⟩
abbrev S8x128 : Shape := ⟨2, ![8, 128]⟩

abbrev nBuf : Space → Nat
  | .hbm => 94
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8256x1024, .f32⟩
  | .hbm, ⟨48, _⟩ => ⟨S8256x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S_, .f32⟩
  | .hbm, ⟨56, _⟩ => ⟨S8256, .f32⟩
  | .hbm, ⟨57, _⟩ => ⟨S8256x1, .f32⟩
  | .hbm, ⟨58, _⟩ => ⟨S8256x1024, .f32⟩
  | .hbm, ⟨59, _⟩ => ⟨S8256x1024, .f32⟩
  | .hbm, ⟨60, _⟩ => ⟨S8256x1, .f32⟩
  | .hbm, ⟨61, _⟩ => ⟨S_, .f32⟩
  | .hbm, ⟨62, _⟩ => ⟨S8256x1, .f32⟩
  | .hbm, ⟨63, _⟩ => ⟨S8256x1, .f32⟩
  | .hbm, ⟨64, _⟩ => ⟨S_, .f32⟩
  | .hbm, ⟨65, _⟩ => ⟨S8256, .f32⟩
  | .hbm, ⟨66, _⟩ => ⟨S8256x1024, .f32⟩
  | .hbm, ⟨67, _⟩ => ⟨S8256x1024, .f32⟩
  | .hbm, ⟨68, _⟩ => ⟨S8256x1024, .f32⟩
  | .hbm, ⟨69, _⟩ => ⟨S8256x1024, .f32⟩
  | .hbm, ⟨70, _⟩ => ⟨S8256x1024, .f32⟩
  | .hbm, ⟨71, _⟩ => ⟨S8x1024, .f32⟩
  | .hbm, ⟨72, _⟩ => ⟨S8256x1024, .f32⟩
  | .hbm, ⟨73, _⟩ => ⟨S_, .f32⟩
  | .hbm, ⟨74, _⟩ => ⟨S8256, .f32⟩
  | .hbm, ⟨75, _⟩ => ⟨S8256x1, .f32⟩
  | .hbm, ⟨76, _⟩ => ⟨S_, .f32⟩
  | .hbm, ⟨77, _⟩ => ⟨S8256x1, .f32⟩
  | .hbm, ⟨78, _⟩ => ⟨S8256x1, .f32⟩
  | .hbm, ⟨79, _⟩ => ⟨S_, .f32⟩
  | .hbm, ⟨80, _⟩ => ⟨S8256x1, .f32⟩
  | .hbm, ⟨81, _⟩ => ⟨S8256x1, .f32⟩
  | .hbm, ⟨82, _⟩ => ⟨S8256x1, .f32⟩
  | .hbm, ⟨83, _⟩ => ⟨S8256x1024, .f32⟩
  | .hbm, ⟨84, _⟩ => ⟨S8256x1024, .f32⟩
  | .hbm, ⟨85, _⟩ => ⟨S8256x1024, .f32⟩
  | .hbm, ⟨86, _⟩ => ⟨S8256x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S_, .f32⟩
  | .hbm, ⟨93, _⟩ => ⟨S8x128, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_18 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== RmsFwdKernel.lean ====
abbrev S8256x1024 : Shape := ⟨2, ![8256, 1024]⟩
abbrev S1x1024 : Shape := ⟨2, ![1, 1024]⟩
abbrev S192x1024 : Shape := ⟨2, ![192, 1024]⟩
abbrev S192 : Shape := ⟨1, ![192]⟩
abbrev S192x1 : Shape := ⟨2, ![192, 1]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .bf16⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S192x1024, .bf16⟩
  | .local _ .vmem, ⟨4, _⟩ => ⟨S192x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 18
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MixerPostKernel.lean ====
abbrev S8256x1024 : Shape := ⟨2, ![8256, 1024]⟩
abbrev S8x8256x128 : Shape := ⟨3, ![8, 8256, 128]⟩
abbrev S8256x6912 : Shape := ⟨2, ![8256, 6912]⟩
abbrev S1x128 : Shape := ⟨2, ![1, 128]⟩
abbrev S4x128x256 : Shape := ⟨3, ![4, 128, 256]⟩
abbrev S1x1024 : Shape := ⟨2, ![1, 1024]⟩
abbrev S1024x1024 : Shape := ⟨2, ![1024, 1024]⟩
abbrev S192x1024 : Shape := ⟨2, ![192, 1024]⟩
abbrev S8x192x128 : Shape := ⟨3, ![8, 192, 128]⟩
abbrev S192x512 : Shape := ⟨2, ![192, 512]⟩
abbrev S16x512 : Shape := ⟨2, ![16, 512]⟩
abbrev S208x512 : Shape := ⟨2, ![208, 512]⟩
abbrev S192x128 : Shape := ⟨2, ![192, 128]⟩
abbrev S1x128x256 : Shape := ⟨3, ![1, 128, 256]⟩
abbrev S128x256 : Shape := ⟨2, ![128, 256]⟩
abbrev S192x256 : Shape := ⟨2, ![192, 256]⟩
abbrev S1x192x128 : Shape := ⟨3, ![1, 192, 128]⟩
abbrev S192 : Shape := ⟨1, ![192]⟩
abbrev S192x1 : Shape := ⟨2, ![192, 1]⟩

abbrev nBuf : Space → Nat
  | .hbm => 9
  | .vmem => 24
  | .smem => 0
  | _ => 0

abbrev bufTy : (tb : Table) → Fin (tcTables nBuf tb) → BufTy
  | .hbm, ⟨0, _⟩ => ⟨S8256x1024, .f32⟩
  | .hbm, ⟨1, _⟩ => ⟨S8x8256x128, .f32⟩
  | .hbm, ⟨2, _⟩ => ⟨S8256x6912, .f32⟩
  | .hbm, ⟨3, _⟩ => ⟨S1x128, .f32⟩
  | .hbm, ⟨4, _⟩ => ⟨S4x128x256, .bf16⟩
  | .hbm, ⟨5, _⟩ => ⟨S1x1024, .f32⟩
  | .hbm, ⟨6, _⟩ => ⟨S1024x1024, .bf16⟩
  | .hbm, ⟨7, _⟩ => ⟨S8256x1024, .f32⟩
  | .hbm, ⟨8, _⟩ => ⟨S8256x1024, .bf16⟩
  | .local _ .vmem, ⟨0, _⟩ => ⟨S192x1024, .f32⟩
  | .local _ .vmem, ⟨1, _⟩ => ⟨S192x1024, .f32⟩
  | .local _ .vmem, ⟨2, _⟩ => ⟨S8x192x128, .f32⟩
  | .local _ .vmem, ⟨3, _⟩ => ⟨S8x192x128, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x512, .f32⟩
  | .local _ .vmem, ⟨11, _⟩ => ⟨S192x512, .f32⟩
  | .local _ .vmem, ⟨12, _⟩ => ⟨S16x512, .f32⟩
  | .local _ .vmem, ⟨13, _⟩ => ⟨S16x512, .f32⟩
  | .local _ .vmem, ⟨14, _⟩ => ⟨S1x128, .f32⟩
  | .local _ .vmem, ⟨15, _⟩ => ⟨S4x128x256, .bf16⟩
  | .local _ .vmem, ⟨16, _⟩ => ⟨S1x1024, .f32⟩
  | .local _ .vmem, ⟨17, _⟩ => ⟨S1024x1024, .bf16⟩
  | .local _ .vmem, ⟨18, _⟩ => ⟨S192x1024, .f32⟩
  | .local _ .vmem, ⟨19, _⟩ => ⟨S192x1024, .f32⟩
  | .local _ .vmem, ⟨20, _⟩ => ⟨S192x1024, .bf16⟩
  | .local _ .vmem, ⟨21, _⟩ => ⟨S192x1024, .bf16⟩
  | .local _ .vmem, ⟨22, _⟩ => ⟨S208x512, .f32⟩
  | .local _ .vmem, ⟨23, _⟩ => ⟨S192x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c12_i32 : BitVec 32 := 12#32
  let v0 : BitVec 32 := Scalar.muli arg0 c12_i32
  let c1_i32 : BitVec 32 := 1#32
  let v1 : BitVec 32 := Scalar.subi v0 c1_i32
  let c0_i32 : BitVec 32 := 0#32
  let v2 : BitVec 32 := Scalar.maxsi v1 c0_i32
  let c12_i32_0 : BitVec 32 := 12#32
  let c0_i32_1 : BitVec 32 := 0#32
  ![v2.toNat, c12_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S192x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerPostReferenceIdeal.lean ====
abbrev S8256x1024 : Shape := ⟨2, ![8256, 1024]⟩
abbrev S8x8256x128 : Shape := ⟨3, ![8, 8256, 128]⟩
abbrev S8256x6912 : Shape := ⟨2, ![8256, 6912]⟩
abbrev S1x128 : Shape := ⟨2, ![1, 128]⟩
abbrev S4x128x256 : Shape := ⟨3, ![4, 128, 256]⟩
abbrev S1x1024 : Shape := ⟨2, ![1, 1024]⟩
abbrev S1024x1024 : Shape := ⟨2, ![1024, 1024]⟩
abbrev S8256x3072 : Shape := ⟨2, ![8256, 3072]⟩
abbrev S8256x512 : Shape := ⟨2, ![8256, 512]⟩
abbrev S8256x256 : Shape := ⟨2, ![8256, 256]⟩
abbrev S8256x8x128 : Shape := ⟨3, ![8256, 8, 128]⟩
abbrev S_ : Shape := ⟨0, ![]⟩
abbrev S8256x8 : Shape := ⟨2, ![8256, 8]⟩
abbrev S8256x8x1 : Shape := ⟨3, ![8256, 8, 1]⟩
abbrev S1x1x128 : Shape := ⟨3, ![1, 1, 128]⟩
abbrev S8256x128 : Shape := ⟨2, ![8256, 128]⟩
abbrev S8257x128 : Shape := ⟨2, ![8257, 128]⟩
abbrev S8256 : Shape := ⟨1, ![8256]⟩
abbrev S8256x1 : Shape := ⟨2, ![8256, 1]⟩
abbrev S3x128 : Shape := ⟨2, ![3, 128]⟩
abbrev S8259x128 : Shape := ⟨2, ![8259, 128]⟩
abbrev S7x128 : Shape := ⟨2, ![7, 128]⟩
abbrev S8263x128 : Shape := ⟨2, ![8263, 128]⟩
abbrev S15x128 : Shape := ⟨2, ![15, 128]⟩
abbrev S8271x128 : Shape := ⟨2, ![8271, 128]⟩
abbrev S1x8256x128 : Shape := ⟨3, ![1, 8256, 128]⟩
abbrev S4x8256x128 : Shape := ⟨3, ![4, 8256, 128]⟩
abbrev S4x256x8256 : Shape := ⟨3, ![4, 256, 8256]⟩
abbrev S8256x4x256 : Shape := ⟨3, ![8256, 4, 256]⟩

abbrev nBuf : Space → Nat
  | .hbm => 225
  | .vmem => 0
  | .smem => 0
  | _ => 0

abbrev hbmTy0_0 (i : Nat) : BufTy := match i % 128 with
  | 0 => ⟨S8256x1024, .f32⟩
  | 1 => ⟨S8x8256x128, .f32⟩
  | 2 => ⟨S8256x6912, .f32⟩
  | 3 => ⟨S1x128, .f32⟩
  | 4 => ⟨S4x128x256, .bf16⟩
  | 5 => ⟨S1x1024, .f32⟩
  | 6 => ⟨S1024x1024, .bf16⟩
  | 7 => ⟨S8256x3072, .f32⟩
  | 8 => ⟨S8256x1024, .f32⟩
  | 9 => ⟨S8256x1024, .f32⟩
  | 10 => ⟨S8256x1024, .f32⟩
  | 11 => ⟨S8256x512, .f32⟩
  | 12 => ⟨S8256x256, .f32⟩
  | 13 => ⟨S8256x8x128, .f32⟩
  | 14 => ⟨S8256x8x128, .f32⟩
  | 15 => ⟨S_, .f32⟩
  | 16 => ⟨S8256x8, .f32⟩
  | 17 => ⟨S8256x8x1, .f32⟩
  | 18 => ⟨S_, .f32⟩
  | 19 => ⟨S8256x8x1, .f32⟩
  | 20 => ⟨S8256x8x1, .f32⟩
  | 21 => ⟨S_, .f32⟩
  | 22 => ⟨S8256x8x1, .f32⟩
  | 23 => ⟨S8256x8x1, .f32⟩
  | 24 => ⟨S8256x8x1, .f32⟩
  | 25 => ⟨S8256x8x128, .f32⟩
  | 26 => ⟨S8256x8x128, .f32⟩
  | 27 => ⟨S1x1x128, .f32⟩
  | 28 => ⟨S8256x8x128, .f32⟩
  | 29 => ⟨S8256x8x128, .f32⟩
  | 30 => ⟨S8256x8x128, .f32⟩
  | 31 => ⟨S8256x8x128, .f32⟩
  | 32 => ⟨S8256x8x128, .f32⟩
  | 33 => ⟨S_, .f32⟩
  | 34 => ⟨S8256x8x128, .f32⟩
  | 35 => ⟨S8256x8x128, .f32⟩
  | 36 => ⟨S_, .f32⟩
  | 37 => ⟨S8256x8x128, .f32⟩
  | 38 => ⟨S8256x8x128, .f32⟩
  | 39 => ⟨S8256x8x128, .f32⟩
  | 40 => ⟨S8256x8x128, .f32⟩
  | 41 => ⟨S8256x1024, .f32⟩
  | 42 => ⟨S8256x128, .f32⟩
  | 43 => ⟨S8256x128, .f32⟩
  | 44 => ⟨S8256x128, .f32⟩
  | 45 => ⟨S8256x128, .f32⟩
  | 46 => ⟨S_, .f32⟩
  | 47 => ⟨S1x128, .f32⟩
  | 48 => ⟨S8257x128, .f32⟩
  | 49 => ⟨S8256x128, .f32⟩
  | 50 => ⟨S8256x128, .f32⟩
  | 51 => ⟨S8256, .i32⟩
  | 52 => ⟨S_, .i32⟩
  | 53 => ⟨S8256, .i32⟩
  | 54 => ⟨S8256, .i32⟩
  | 55 => ⟨S_, .i32⟩
  | 56 => ⟨S8256, .i32⟩
  | 57 => ⟨S8256, .i32⟩
  | 58 => ⟨S_, .i32⟩
  | 59 => ⟨S_, .i32⟩
  | 60 => ⟨S_, .i32⟩
  | 61 => ⟨S8256, .i32⟩
  | 62 => ⟨S8256, .i32⟩
  | 63 => ⟨S_, .i32⟩
  | 64 => ⟨S8256, .i32⟩
  | 65 => ⟨S8256, .i32⟩
  | 66 => ⟨S8256, .f32⟩
  | 67 => ⟨S8256x1, .f32⟩
  | 68 => ⟨S8256x128, .f32⟩
  | 69 => ⟨S8256x128, .f32⟩
  | 70 => ⟨S8256x128, .f32⟩
  | 71 => ⟨S_, .f32⟩
  | 72 => ⟨S3x128, .f32⟩
  | 73 => ⟨S8259x128, .f32⟩
  | 74 => ⟨S8256x128, .f32⟩
  | 75 => ⟨S8256x128, .f32⟩
  | 76 => ⟨S8256x128, .f32⟩
  | 77 => ⟨S8256x128, .f32⟩
  | 78 => ⟨S8256x128, .f32⟩
  | 79 => ⟨S8256x128, .f32⟩
  | 80 => ⟨S8256, .i32⟩
  | 81 => ⟨S_, .i32⟩
  | 82 => ⟨S8256, .i32⟩
  | 83 => ⟨S8256, .i32⟩
  | 84 => ⟨S_, .i32⟩
  | 85 => ⟨S8256, .i32⟩
  | 86 => ⟨S8256, .i32⟩
  | 87 => ⟨S_, .i32⟩
  | 88 => ⟨S_, .i32⟩
  | 89 => ⟨S_, .i32⟩
  | 90 => ⟨S8256, .i32⟩
  | 91 => ⟨S8256, .i32⟩
  | 92 => ⟨S_, .i32⟩
  | 93 => ⟨S8256, .i32⟩
  | 94 => ⟨S8256, .i32⟩
  | 95 => ⟨S8256, .f32⟩
  | 96 => ⟨S8256x1, .f32⟩
  | 97 => ⟨S8256x128, .f32⟩
  | 98 => ⟨S8256x128, .f32⟩
  | 99 => ⟨S8256x128, .f32⟩
  | 100 => ⟨S_, .f32⟩
  | 101 => ⟨S7x128, .f32⟩
  | 102 => ⟨S8263x128, .f32⟩
  | 103 => ⟨S8256x128, .f32⟩
  | 104 => ⟨S8256x128, .f32⟩
  | 105 => ⟨S8256x128, .f32⟩
  | 106 => ⟨S8256x128, .f32⟩
  | 107 => ⟨S8256x128, .f32⟩
  | 108 => ⟨S8256x128, .f32⟩
  | 109 => ⟨S8256x128, .f32⟩
  | 110 => ⟨S8256x128, .f32⟩
  | 111 => ⟨S8256x128, .f32⟩
  | 112 => ⟨S8256x128, .f32⟩
  | 113 => ⟨S8256x128, .f32⟩
  | 114 => ⟨S8256x128, .f32⟩
  | 115 => ⟨S8256x128, .f32⟩
  | 116 => ⟨S8256x128, .f32⟩
  | 117 => ⟨S8256, .i32⟩
  | 118 => ⟨S_, .i32⟩
  | 119 => ⟨S8256, .i32⟩
  | 120 => ⟨S8256, .i32⟩
  | 121 => ⟨S_, .i32⟩
  | 122 => ⟨S8256, .i32⟩
  | 123 => ⟨S8256, .i32⟩
  | 124 => ⟨S_, .i32⟩
  | 125 => ⟨S_, .i32⟩
  | 126 => ⟨S_, .i32⟩
  | 127 => ⟨S8256, .i32⟩
  | _ => ⟨S8256x1024, .f32⟩

abbrev hbmTy0_1 (i : Nat) : BufTy := match i % 128 with
  | 0 => ⟨S8256, .i32⟩
  | 1 => ⟨S_, .i32⟩
  | 2 => ⟨S8256, .i32⟩
  | 3 => ⟨S8256, .i32⟩
  | 4 => ⟨S8256, .f32⟩
  | 5 => ⟨S8256x1, .f32⟩
  | 6 => ⟨S8256x128, .f32⟩
  | 7 => ⟨S8256x128, .f32⟩
  | 8 => ⟨S8256x128, .f32⟩
  | 9 => ⟨S_, .f32⟩
  | 10 => ⟨S15x128, .f32⟩
  | 11 => ⟨S8271x128, .f32⟩
  | 12 => ⟨S8256x128, .f32⟩
  | 13 => ⟨S8256x128, .f32⟩
  | 14 => ⟨S8256x128, .f32⟩
  | 15 => ⟨S8256x128, .f32⟩
  | 16 => ⟨S8256x128, .f32⟩
  | 17 => ⟨S8256x128, .f32⟩
  | 18 => ⟨S8256x128, .f32⟩
  | 19 => ⟨S8256x128, .f32⟩
  | 20 => ⟨S8256x128, .f32⟩
  | 21 => ⟨S8256x128, .f32⟩
  | 22 => ⟨S8256x128, .f32⟩
  | 23 => ⟨S8256x128, .f32⟩
  | 24 => ⟨S8256x128, .f32⟩
  | 25 => ⟨S8256x128, .f32⟩
  | 26 => ⟨S8256x128, .f32⟩
  | 27 => ⟨S8256x128, .f32⟩
  | 28 => ⟨S8256x128, .f32⟩
  | 29 => ⟨S8256x128, .f32⟩
  | 30 => ⟨S8256x128, .f32⟩
  | 31 => ⟨S8256x128, .f32⟩
  | 32 => ⟨S8256x128, .f32⟩
  | 33 => ⟨S8256x128, .f32⟩
  | 34 => ⟨S8256x128, .f32⟩
  | 35 => ⟨S8256x128, .f32⟩
  | 36 => ⟨S8256x128, .f32⟩
  | 37 => ⟨S8256x128, .f32⟩
  | 38 => ⟨S8256x128, .f32⟩
  | 39 => ⟨S8256x128, .f32⟩
  | 40 => ⟨S8256x128, .f32⟩
  | 41 => ⟨S8256x128, .f32⟩
  | 42 => ⟨S8256, .i32⟩
  | 43 => ⟨S_, .i32⟩
  | 44 => ⟨S8256, .i32⟩
  | 45 => ⟨S8256, .i32⟩
  | 46 => ⟨S_, .i32⟩
  | 47 => ⟨S8256, .i32⟩
  | 48 => ⟨S8256, .i32⟩
  | 49 => ⟨S_, .i32⟩
  | 50 => ⟨S_, .i32⟩
  | 51 => ⟨S_, .i32⟩
  | 52 => ⟨S8256, .i32⟩
  | 53 => ⟨S8256, .i32⟩
  | 54 => ⟨S_, .i32⟩
  | 55 => ⟨S8256, .i32⟩
  | 56 => ⟨S8256, .i32⟩
  | 57 => ⟨S8256, .f32⟩
  | 58 => ⟨S8256x1, .f32⟩
  | 59 => ⟨S8256x128, .f32⟩
  | 60 => ⟨S8256x128, .f32⟩
  | 61 => ⟨S8256x128, .f32⟩
  | 62 => ⟨S1x8256x128, .f32⟩
  | 63 => ⟨S1x8256x128, .f32⟩
  | 64 => ⟨S1x8256x128, .f32⟩
  | 65 => ⟨S1x8256x128, .f32⟩
  | 66 => ⟨S4x8256x128, .f32⟩
  | 67 => ⟨S4x128x256, .f32⟩
  | 68 => ⟨S4x256x8256, .f32⟩
  | 69 => ⟨S8256x4x256, .f32⟩
  | 70 => ⟨S8256x1024, .f32⟩
  | 71 => ⟨S8256x1024, .f32⟩
  | 72 => ⟨S8256x1024, .f32⟩
  | 73 => ⟨S8256x1024, .f32⟩
  | 74 => ⟨S8256x1024, .f32⟩
  | 75 => ⟨S_, .f32⟩
  | 76 => ⟨S8256x1024, .f32⟩
  | 77 => ⟨S8256x1024, .f32⟩
  | 78 => ⟨S_, .f32⟩
  | 79 => ⟨S8256x1024, .f32⟩
  | 80 => ⟨S8256x1024, .f32⟩
  | 81 => ⟨S8256x1024, .f32⟩
  | 82 => ⟨S8256x1024, .f32⟩
  | 83 => ⟨S8256x1024, .f32⟩
  | 84 => ⟨S_, .f32⟩
  | 85 => ⟨S8256x1024, .f32⟩
  | 86 => ⟨S8256x1024, .f32⟩
  | 87 => ⟨S_, .f32⟩
  | 88 => ⟨S8256x1024, .f32⟩
  | 89 => ⟨S8256x1024, .f32⟩
  | 90 => ⟨S8256x1024, .f32⟩
  | 91 => ⟨S8256x1024, .f32⟩
  | 92 => ⟨S8256x1024, .bf16⟩
  | 93 => ⟨S8256x1024, .f32⟩
  | 94 => ⟨S1024x1024, .f32⟩
  | 95 => ⟨S8256x1024, .f32⟩
  | 96 => ⟨S8256x1024, .f32⟩
  | _ => ⟨S8256x1024, .f32⟩

abbrev hbmTy (i : Nat) : BufTy := match i / 128 with
  | 0 => hbmTy0_0 i
  | 1 => hbmTy0_1 i
  | _ => ⟨S8256x1024, .f32⟩

abbrev bufTy : (tb : Table) → Fin (tcTables nBuf tb) → BufTy
  | .hbm, ⟨i, _⟩ => hbmTy i
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_c_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_7 : Ref sig .tc := ⟨.hbm, 81, rfl⟩
abbrev main_v52 : Ref sig .tc := ⟨.hbm, 82, rfl⟩
abbrev main_v53 : Ref sig .tc := ⟨.hbm, 83, rfl⟩
abbrev main_c_8 : Ref sig .tc := ⟨.hbm, 84, rfl⟩
abbrev main_v54 : Ref sig .tc := ⟨.hbm, 85, rfl⟩
abbrev main_v55 : Ref sig .tc := ⟨.hbm, 86, rfl⟩
abbrev main_c_9 : Ref sig .tc := ⟨.hbm, 87, rfl⟩
abbrev main_c_10 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_12 : Ref sig .tc := ⟨.hbm, 118, rfl⟩
abbrev main_v79 : Ref sig .tc := ⟨.hbm, 119, rfl⟩
abbrev main_v80 : Ref sig .tc := ⟨.hbm, 120, rfl⟩
abbrev main_c_13 : Ref sig .tc := ⟨.hbm, 121, rfl⟩
abbrev main_v81 : Ref sig .tc := ⟨.hbm, 122, rfl⟩
abbrev main_v82 : Ref sig .tc := ⟨.hbm, 123, rfl⟩
abbrev main_c_14 : Ref sig .tc := ⟨.hbm, 124, rfl⟩
abbrev main_c_15 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_16 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_17 : Ref sig .tc := ⟨.hbm, 171, rfl⟩
abbrev main_v122 : Ref sig .tc := ⟨.hbm, 172, rfl⟩
abbrev main_v123 : Ref sig .tc := ⟨.hbm, 173, rfl⟩
abbrev main_c_18 : Ref sig .tc := ⟨.hbm, 174, rfl⟩
abbrev main_v124 : Ref sig .tc := ⟨.hbm, 175, rfl⟩
abbrev main_v125 : Ref sig .tc := ⟨.hbm, 176, rfl⟩
abbrev main_c_19 : Ref sig .tc := ⟨.hbm, 177, rfl⟩
abbrev main_c_20 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_21 : Ref sig .tc := ⟨.hbm, 203, rfl⟩
abbrev main_v145 : Ref sig .tc := ⟨.hbm, 204, rfl⟩
abbrev main_v146 : Ref sig .tc := ⟨.hbm, 205, rfl⟩
abbrev main_cst_22 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_23 : Ref sig .tc := ⟨.hbm, 212, rfl⟩
abbrev main_v152 : Ref sig .tc := ⟨.hbm, 213, rfl⟩
abbrev main_v153 : Ref sig .tc := ⟨.hbm, 214, rfl⟩
abbrev main_cst_24 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩

abbrev nD : Nat := 1
abbrev τ : Topo := Topo.v7x

variable {F : FTy → Type} [FloatOps F]
-- ==== PoolTKernel.lean ====
abbrev S8256x512 : Shape := ⟨2, ![8256, 512]⟩
abbrev S192x512 : Shape := ⟨2, ![192, 512]⟩
abbrev S16x512 : Shape := ⟨2, ![16, 512]⟩
abbrev S208x512 : Shape := ⟨2, ![208, 512]⟩
abbrev S192x128 : Shape := ⟨2, ![192, 128]⟩

abbrev nBuf : Space → Nat
  | .hbm => 2
  | .vmem => 7
  | .smem => 0
  | _ => 0

abbrev bufTy : (tb : Table) → Fin (tcTables nBuf tb) → BufTy
  | .hbm, ⟨0, _⟩ => ⟨S8256x512, .f32⟩
  | .hbm, ⟨1, _⟩ => ⟨S8256x512, .bf16⟩
  | .local _ .vmem, ⟨0, _⟩ => ⟨S192x512, .f32⟩
  | .local _ .vmem, ⟨1, _⟩ => ⟨S192x512, .f32⟩
  | .local _ .vmem, ⟨2, _⟩ => ⟨S16x512, .f32⟩
  | .local _ .vmem, ⟨3, _⟩ => ⟨S16x512, .f32⟩
  | .local _ .vmem, ⟨4, _⟩ => ⟨S192x512, .bf16⟩
  | .local _ .vmem, ⟨5, _⟩ => ⟨S192x512, .bf16⟩
  | .local _ .vmem, ⟨6, _⟩ => ⟨S208x512, .f32⟩
  | _, _ => ⟨S8256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let v1 : BitVec 32 := Scalar.muli v0 c12_i32
  let c515_i32 : BitVec 32 := 515#32
  let v2 : BitVec 32 := Scalar.minsi v1 c515_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolTReferenceIdeal.lean ====
abbrev S8256x512 : Shape := ⟨2, ![8256, 512]⟩
abbrev S_ : Shape := ⟨0, ![]⟩
abbrev S8256 : Shape := ⟨1, ![8256]⟩
abbrev S8256x1 : Shape := ⟨2, ![8256, 1]⟩
abbrev S8256x128 : Shape := ⟨2, ![8256, 128]⟩
abbrev S1x128 : Shape := ⟨2, ![1, 128]⟩
abbrev S8257x128 : Shape := ⟨2, ![8257, 128]⟩
abbrev S3x128 : Shape := ⟨2, ![3, 128]⟩
abbrev S8259x128 : Shape := ⟨2, ![8259, 128]⟩
abbrev S7x128 : Shape := ⟨2, ![7, 128]⟩
abbrev S8263x128 : Shape := ⟨2, ![8263, 128]⟩
abbrev S15x128 : Shape := ⟨2, ![15, 128]⟩
abbrev S8271x128 : Shape := ⟨2, ![8271, 128]⟩

abbrev nBuf : Space → Nat
  | .hbm => 343
  | .vmem => 0
  | .smem => 0
  | _ => 0

abbrev hbmTy0_0 (i : Nat) : BufTy := match i % 128 with
  | 0 => ⟨S8256x512, .f32⟩
  | 1 => ⟨S_, .f32⟩
  | 2 => ⟨S8256x512, .f32⟩
  | 3 => ⟨S8256, .i32⟩
  | 4 => ⟨S_, .i32⟩
  | 5 => ⟨S8256, .i32⟩
  | 6 => ⟨S8256, .i32⟩
  | 7 => ⟨S_, .i32⟩
  | 8 => ⟨S8256, .i32⟩
  | 9 => ⟨S8256, .i32⟩
  | 10 => ⟨S_, .i32⟩
  | 11 => ⟨S_, .i32⟩
  | 12 => ⟨S_, .i32⟩
  | 13 => ⟨S8256, .i32⟩
  | 14 => ⟨S8256, .i32⟩
  | 15 => ⟨S_, .i32⟩
  | 16 => ⟨S8256, .i32⟩
  | 17 => ⟨S8256, .i32⟩
  | 18 => ⟨S8256, .f32⟩
  | 19 => ⟨S8256x1, .f32⟩
  | 20 => ⟨S8256, .i32⟩
  | 21 => ⟨S_, .i32⟩
  | 22 => ⟨S8256, .i32⟩
  | 23 => ⟨S8256, .i32⟩
  | 24 => ⟨S_, .i32⟩
  | 25 => ⟨S8256, .i32⟩
  | 26 => ⟨S8256, .i32⟩
  | 27 => ⟨S_, .i32⟩
  | 28 => ⟨S_, .i32⟩
  | 29 => ⟨S_, .i32⟩
  | 30 => ⟨S8256, .i32⟩
  | 31 => ⟨S8256, .i32⟩
  | 32 => ⟨S_, .i32⟩
  | 33 => ⟨S8256, .i32⟩
  | 34 => ⟨S8256, .i32⟩
  | 35 => ⟨S8256, .f32⟩
  | 36 => ⟨S8256x1, .f32⟩
  | 37 => ⟨S8256, .i32⟩
  | 38 => ⟨S_, .i32⟩
  | 39 => ⟨S8256, .i32⟩
  | 40 => ⟨S8256, .i32⟩
  | 41 => ⟨S_, .i32⟩
  | 42 => ⟨S8256, .i32⟩
  | 43 => ⟨S8256, .i32⟩
  | 44 => ⟨S_, .i32⟩
  | 45 => ⟨S_, .i32⟩
  | 46 => ⟨S_, .i32⟩
  | 47 => ⟨S8256, .i32⟩
  | 48 => ⟨S8256, .i32⟩
  | 49 => ⟨S_, .i32⟩
  | 50 => ⟨S8256, .i32⟩
  | 51 => ⟨S8256, .i32⟩
  | 52 => ⟨S8256, .f32⟩
  | 53 => ⟨S8256x1, .f32⟩
  | 54 => ⟨S8256, .i32⟩
  | 55 => ⟨S_, .i32⟩
  | 56 => ⟨S8256, .i32⟩
  | 57 => ⟨S8256, .i32⟩
  | 58 => ⟨S_, .i32⟩
  | 59 => ⟨S8256, .i32⟩
  | 60 => ⟨S8256, .i32⟩
  | 61 => ⟨S_, .i32⟩
  | 62 => ⟨S_, .i32⟩
  | 63 => ⟨S_, .i32⟩
  | 64 => ⟨S8256, .i32⟩
  | 65 => ⟨S8256, .i32⟩
  | 66 => ⟨S_, .i32⟩
  | 67 => ⟨S8256, .i32⟩
  | 68 => ⟨S8256, .i32⟩
  | 69 => ⟨S8256, .f32⟩
  | 70 => ⟨S8256x1, .f32⟩
  | 71 => ⟨S8256x128, .f32⟩
  | 72 => ⟨S8256x128, .f32⟩
  | 73 => ⟨S8256x128, .f32⟩
  | 74 => ⟨S8256x128, .f32⟩
  | 75 => ⟨S8256x128, .f32⟩
  | 76 => ⟨S8256x128, .f32⟩
  | 77 => ⟨S8256x128, .f32⟩
  | 78 => ⟨S8256x128, .f32⟩
  | 79 => ⟨S8256x128, .f32⟩
  | 80 => ⟨S8256x128, .f32⟩
  | 81 => ⟨S8256x128, .f32⟩
  | 82 => ⟨S8256x128, .f32⟩
  | 83 => ⟨S8256x128, .f32⟩
  | 84 => ⟨S8256x128, .f32⟩
  | 85 => ⟨S8256x128, .f32⟩
  | 86 => ⟨S8256x128, .f32⟩
  | 87 => ⟨S_, .f32⟩
  | 88 => ⟨S1x128, .f32⟩
  | 89 => ⟨S8257x128, .f32⟩
  | 90 => ⟨S_, .f32⟩
  | 91 => ⟨S1x128, .f32⟩
  | 92 => ⟨S8256x128, .f32⟩
  | 93 => ⟨S8256x128, .f32⟩
  | 94 => ⟨S8256, .i32⟩
  | 95 => ⟨S_, .i32⟩
  | 96 => ⟨S8256, .i32⟩
  | 97 => ⟨S8256, .i32⟩
  | 98 => ⟨S_, .i32⟩
  | 99 => ⟨S8256, .i32⟩
  | 100 => ⟨S8256, .i32⟩
  | 101 => ⟨S_, .i32⟩
  | 102 => ⟨S_, .i32⟩
  | 103 => ⟨S_, .i32⟩
  | 104 => ⟨S8256, .i32⟩
  | 105 => ⟨S8256, .i32⟩
  | 106 => ⟨S_, .i32⟩
  | 107 => ⟨S8256, .i32⟩
  | 108 => ⟨S8256, .i32⟩
  | 109 => ⟨S8256, .f32⟩
  | 110 => ⟨S8256x1, .f32⟩
  | 111 => ⟨S8256x128, .f32⟩
  | 112 => ⟨S8256x128, .f32⟩
  | 113 => ⟨S8256x128, .f32⟩
  | 114 => ⟨S_, .f32⟩
  | 115 => ⟨S3x128, .f32⟩
  | 116 => ⟨S8259x128, .f32⟩
  | 117 => ⟨S_, .f32⟩
  | 118 => ⟨S3x128, .f32⟩
  | 119 => ⟨S8256x128, .f32⟩
  | 120 => ⟨S8256x128, .f32⟩
  | 121 => ⟨S8256x128, .f32⟩
  | 122 => ⟨S8256x128, .f32⟩
  | 123 => ⟨S8256x128, .f32⟩
  | 124 => ⟨S8256x128, .f32⟩
  | 125 => ⟨S8256, .i32⟩
  | 126 => ⟨S_, .i32⟩
  | 127 => ⟨S8256, .i32⟩
  | _ => ⟨S8256x512, .f32⟩

abbrev hbmTy0_1 (i : Nat) : BufTy := match i % 128 with
  | 0 => ⟨S8256, .i32⟩
  | 1 => ⟨S_, .i32⟩
  | 2 => ⟨S8256, .i32⟩
  | 3 => ⟨S8256, .i32⟩
  | 4 => ⟨S_, .i32⟩
  | 5 => ⟨S_, .i32⟩
  | 6 => ⟨S_, .i32⟩
  | 7 => ⟨S8256, .i32⟩
  | 8 => ⟨S8256, .i32⟩
  | 9 => ⟨S_, .i32⟩
  | 10 => ⟨S8256, .i32⟩
  | 11 => ⟨S8256, .i32⟩
  | 12 => ⟨S8256, .f32⟩
  | 13 => ⟨S8256x1, .f32⟩
  | 14 => ⟨S8256x128, .f32⟩
  | 15 => ⟨S8256x128, .f32⟩
  | 16 => ⟨S8256x128, .f32⟩
  | 17 => ⟨S_, .f32⟩
  | 18 => ⟨S7x128, .f32⟩
  | 19 => ⟨S8263x128, .f32⟩
  | 20 => ⟨S_, .f32⟩
  | 21 => ⟨S7x128, .f32⟩
  | 22 => ⟨S8256x128, .f32⟩
  | 23 => ⟨S8256x128, .f32⟩
  | 24 => ⟨S8256x128, .f32⟩
  | 25 => ⟨S8256x128, .f32⟩
  | 26 => ⟨S8256x128, .f32⟩
  | 27 => ⟨S8256x128, .f32⟩
  | 28 => ⟨S8256x128, .f32⟩
  | 29 => ⟨S8256x128, .f32⟩
  | 30 => ⟨S8256x128, .f32⟩
  | 31 => ⟨S8256x128, .f32⟩
  | 32 => ⟨S8256x128, .f32⟩
  | 33 => ⟨S8256x128, .f32⟩
  | 34 => ⟨S8256x128, .f32⟩
  | 35 => ⟨S8256x128, .f32⟩
  | 36 => ⟨S8256, .i32⟩
  | 37 => ⟨S_, .i32⟩
  | 38 => ⟨S8256, .i32⟩
  | 39 => ⟨S8256, .i32⟩
  | 40 => ⟨S_, .i32⟩
  | 41 => ⟨S8256, .i32⟩
  | 42 => ⟨S8256, .i32⟩
  | 43 => ⟨S_, .i32⟩
  | 44 => ⟨S_, .i32⟩
  | 45 => ⟨S_, .i32⟩
  | 46 => ⟨S8256, .i32⟩
  | 47 => ⟨S8256, .i32⟩
  | 48 => ⟨S_, .i32⟩
  | 49 => ⟨S8256, .i32⟩
  | 50 => ⟨S8256, .i32⟩
  | 51 => ⟨S8256, .f32⟩
  | 52 => ⟨S8256x1, .f32⟩
  | 53 => ⟨S8256x128, .f32⟩
  | 54 => ⟨S8256x128, .f32⟩
  | 55 => ⟨S8256x128, .f32⟩
  | 56 => ⟨S_, .f32⟩
  | 57 => ⟨S15x128, .f32⟩
  | 58 => ⟨S8271x128, .f32⟩
  | 59 => ⟨S_, .f32⟩
  | 60 => ⟨S15x128, .f32⟩
  | 61 => ⟨S8256x128, .f32⟩
  | 62 => ⟨S8256x128, .f32⟩
  | 63 => ⟨S8256x128, .f32⟩
  | 64 => ⟨S8256x128, .f32⟩
  | 65 => ⟨S8256x128, .f32⟩
  | 66 => ⟨S8256x128, .f32⟩
  | 67 => ⟨S8256x128, .f32⟩
  | 68 => ⟨S8256x128, .f32⟩
  | 69 => ⟨S8256x128, .f32⟩
  | 70 => ⟨S8256x128, .f32⟩
  | 71 => ⟨S8256x128, .f32⟩
  | 72 => ⟨S8256x128, .f32⟩
  | 73 => ⟨S8256x128, .f32⟩
  | 74 => ⟨S8256x128, .f32⟩
  | 75 => ⟨S8256x128, .f32⟩
  | 76 => ⟨S8256x128, .f32⟩
  | 77 => ⟨S8256x128, .f32⟩
  | 78 => ⟨S8256x128, .f32⟩
  | 79 => ⟨S8256x128, .f32⟩
  | 80 => ⟨S8256x128, .f32⟩
  | 81 => ⟨S8256x128, .f32⟩
  | 82 => ⟨S8256x128, .f32⟩
  | 83 => ⟨S8256x128, .f32⟩
  | 84 => ⟨S8256x128, .f32⟩
  | 85 => ⟨S8256x128, .f32⟩
  | 86 => ⟨S8256x128, .f32⟩
  | 87 => ⟨S8256x128, .f32⟩
  | 88 => ⟨S8256x128, .f32⟩
  | 89 => ⟨S8256x128, .f32⟩
  | 90 => ⟨S8256x128, .f32⟩
  | 91 => ⟨S8256, .i32⟩
  | 92 => ⟨S_, .i32⟩
  | 93 => ⟨S8256, .i32⟩
  | 94 => ⟨S8256, .i32⟩
  | 95 => ⟨S_, .i32⟩
  | 96 => ⟨S8256, .i32⟩
  | 97 => ⟨S8256, .i32⟩
  | 98 => ⟨S_, .i32⟩
  | 99 => ⟨S_, .i32⟩
  | 100 => ⟨S_, .i32⟩
  | 101 => ⟨S8256, .i32⟩
  | 102 => ⟨S8256, .i32⟩
  | 103 => ⟨S_, .i32⟩
  | 104 => ⟨S8256, .i32⟩
  | 105 => ⟨S8256, .i32⟩
  | 106 => ⟨S8256, .f32⟩
  | 107 => ⟨S8256x1, .f32⟩
  | 108 => ⟨S8256x128, .f32⟩
  | 109 => ⟨S8256x128, .f32⟩
  | 110 => ⟨S8256x128, .f32⟩
  | 111 => ⟨S8256x128, .f32⟩
  | 112 => ⟨S8256x128, .f32⟩
  | 113 => ⟨S8256x128, .f32⟩
  | 114 => ⟨S_, .f32⟩
  | 115 => ⟨S8271x128, .f32⟩
  | 116 => ⟨S_, .f32⟩
  | 117 => ⟨S8271x128, .f32⟩
  | 118 => ⟨S8271x128, .f32⟩
  | 119 => ⟨S_, .f32⟩
  | 120 => ⟨S8271x128, .f32⟩
  | 121 => ⟨S8271x128, .f32⟩
  | 122 => ⟨S_, .f32⟩
  | 123 => ⟨S8271x128, .f32⟩
  | 124 => ⟨S8271x128, .f32⟩
  | 125 => ⟨S_, .f32⟩
  | 126 => ⟨S8271x128, .f32⟩
  | 127 => ⟨S8271x128, .f32⟩
  | _ => ⟨S8256x512, .f32⟩

abbrev hbmTy0_2 (i : Nat) : BufTy := match i % 128 with
  | 0 => ⟨S_, .f32⟩
  | 1 => ⟨S8271x128, .f32⟩
  | 2 => ⟨S8271x128, .f32⟩
  | 3 => ⟨S_, .f32⟩
  | 4 => ⟨S8271x128, .f32⟩
  | 5 => ⟨S8271x128, .f32⟩
  | 6 => ⟨S_, .f32⟩
  | 7 => ⟨S8271x128, .f32⟩
  | 8 => ⟨S8271x128, .f32⟩
  | 9 => ⟨S_, .f32⟩
  | 10 => ⟨S8271x128, .f32⟩
  | 11 => ⟨S8271x128, .f32⟩
  | 12 => ⟨S_, .f32⟩
  | 13 => ⟨S8271x128, .f32⟩
  | 14 => ⟨S8271x128, .f32⟩
  | 15 => ⟨S_, .f32⟩
  | 16 => ⟨S8271x128, .f32⟩
  | 17 => ⟨S8271x128, .f32⟩
  | 18 => ⟨S_, .f32⟩
  | 19 => ⟨S8271x128, .f32⟩
  | 20 => ⟨S8271x128, .f32⟩
  | 21 => ⟨S_, .f32⟩
  | 22 => ⟨S8271x128, .f32⟩
  | 23 => ⟨S8271x128, .f32⟩
  | 24 => ⟨S_, .f32⟩
  | 25 => ⟨S8271x128, .f32⟩
  | 26 => ⟨S8271x128, .f32⟩
  | 27 => ⟨S8256x128, .f32⟩
  | 28 => ⟨S_, .f32⟩
  | 29 => ⟨S8271x128, .f32⟩
  | 30 => ⟨S8271x128, .f32⟩
  | 31 => ⟨S15x128, .f32⟩
  | 32 => ⟨S8256x128, .f32⟩
  | 33 => ⟨S8256x128, .f32⟩
  | 34 => ⟨S8256x128, .f32⟩
  | 35 => ⟨S8256x128, .f32⟩
  | 36 => ⟨S8256x128, .f32⟩
  | 37 => ⟨S_, .f32⟩
  | 38 => ⟨S8263x128, .f32⟩
  | 39 => ⟨S_, .f32⟩
  | 40 => ⟨S8263x128, .f32⟩
  | 41 => ⟨S8263x128, .f32⟩
  | 42 => ⟨S_, .f32⟩
  | 43 => ⟨S8263x128, .f32⟩
  | 44 => ⟨S8263x128, .f32⟩
  | 45 => ⟨S_, .f32⟩
  | 46 => ⟨S8263x128, .f32⟩
  | 47 => ⟨S8263x128, .f32⟩
  | 48 => ⟨S_, .f32⟩
  | 49 => ⟨S8263x128, .f32⟩
  | 50 => ⟨S8263x128, .f32⟩
  | 51 => ⟨S_, .f32⟩
  | 52 => ⟨S8263x128, .f32⟩
  | 53 => ⟨S8263x128, .f32⟩
  | 54 => ⟨S8256x128, .f32⟩
  | 55 => ⟨S_, .f32⟩
  | 56 => ⟨S8263x128, .f32⟩
  | 57 => ⟨S8263x128, .f32⟩
  | 58 => ⟨S7x128, .f32⟩
  | 59 => ⟨S8256x128, .f32⟩
  | 60 => ⟨S8256x128, .f32⟩
  | 61 => ⟨S8256x128, .f32⟩
  | 62 => ⟨S8256x128, .f32⟩
  | 63 => ⟨S8256x128, .f32⟩
  | 64 => ⟨S_, .f32⟩
  | 65 => ⟨S8259x128, .f32⟩
  | 66 => ⟨S_, .f32⟩
  | 67 => ⟨S8259x128, .f32⟩
  | 68 => ⟨S8259x128, .f32⟩
  | 69 => ⟨S8256x128, .f32⟩
  | 70 => ⟨S_, .f32⟩
  | 71 => ⟨S8259x128, .f32⟩
  | 72 => ⟨S8259x128, .f32⟩
  | 73 => ⟨S3x128, .f32⟩
  | 74 => ⟨S8256x128, .f32⟩
  | 75 => ⟨S8256x128, .f32⟩
  | 76 => ⟨S8256x128, .f32⟩
  | 77 => ⟨S8256x128, .f32⟩
  | 78 => ⟨S8256x128, .f32⟩
  | 79 => ⟨S8256x128, .f32⟩
  | 80 => ⟨S_, .f32⟩
  | 81 => ⟨S8257x128, .f32⟩
  | 82 => ⟨S1x128, .f32⟩
  | 83 => ⟨S8256x128, .f32⟩
  | 84 => ⟨S8256x128, .f32⟩
  | 85 => ⟨S8256x512, .f32⟩
  | 86 => ⟨S8256x512, .bf16⟩
  | _ => ⟨S8256x512, .f32⟩

abbrev hbmTy (i : Nat) : BufTy := match i / 128 with
  | 0 => hbmTy0_0 i
  | 1 => hbmTy0_1 i
  | 2 => hbmTy0_2 i
  | _ => ⟨S8256x512, .f32⟩

abbrev bufTy : (tb : Table) → Fin (tcTables nBuf tb) → BufTy
  | .hbm, ⟨i, _⟩ => hbmTy i
  | _, _ => ⟨S8256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_c_6 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_7 : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_c_9 : Ref sig .tc := ⟨.hbm, 44, rfl⟩
abbrev main_c_10 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_11 : Ref sig .tc := ⟨.hbm, 55, rfl⟩
abbrev main_v26 : Ref sig .tc := ⟨.hbm, 56, rfl⟩
abbrev main_v27 : Ref sig .tc := ⟨.hbm, 57, rfl⟩
abbrev main_c_12 : Ref sig .tc := ⟨.hbm, 58, rfl⟩
abbrev main_v28 : Ref sig .tc := ⟨.hbm, 59, rfl⟩
abbrev main_v29 : Ref sig .tc := ⟨.hbm, 60, rfl⟩
abbrev main_c_13 : Ref sig .tc := ⟨.hbm, 61, rfl⟩
abbrev main_c_14 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_v50 : Ref sig .tc := ⟨.hbm, 89, rfl⟩
abbrev main_cst_16 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_17 : Ref sig .tc := ⟨.hbm, 95, rfl⟩
abbrev main_v55 : Ref sig .tc := ⟨.hbm, 96, rfl⟩
abbrev main_v56 : Ref sig .tc := ⟨.hbm, 97, rfl⟩
abbrev main_c_18 : Ref sig .tc := ⟨.hbm, 98, rfl⟩
abbrev main_v57 : Ref sig .tc := ⟨.hbm, 99, rfl⟩
abbrev main_v58 : Ref sig .tc := ⟨.hbm, 100, rfl⟩
abbrev main_c_19 : Ref sig .tc := ⟨.hbm, 101, rfl⟩
abbrev main_c_20 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_21 : Ref sig .tc := ⟨.hbm, 114, rfl⟩
abbrev main_v65 : Ref sig .tc := ⟨.hbm, 115, rfl⟩
abbrev main_v66 : Ref sig .tc := ⟨.hbm, 116, rfl⟩
abbrev main_cst_22 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_23 : Ref sig .tc := ⟨.hbm, 126, rfl⟩
abbrev main_v75 : Ref sig .tc := ⟨.hbm, 127, rfl⟩
abbrev main_v76 : Ref sig .tc := ⟨.hbm, 128, rfl⟩
abbrev main_c_24 : Ref sig .tc := ⟨.hbm, 129, rfl⟩
abbrev main_v77 : Ref sig .tc := ⟨.hbm, 130, rfl⟩
abbrev main_v78 : Ref sig .tc := ⟨.hbm, 131, rfl⟩
abbrev main_c_25 : Ref sig .tc := ⟨.hbm, 132, rfl⟩
abbrev main_c_26 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_27 : Ref sig .tc := ⟨.hbm, 145, rfl⟩
abbrev main_v85 : Ref sig .tc := ⟨.hbm, 146, rfl⟩
abbrev main_v86 : Ref sig .tc := ⟨.hbm, 147, rfl⟩
abbrev main_cst_28 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_c_29 : Ref sig .tc := ⟨.hbm, 165, rfl⟩
abbrev main_v103 : Ref sig .tc := ⟨.hbm, 166, rfl⟩
abbrev main_v104 : Ref sig .tc := ⟨.hbm, 167, rfl⟩
abbrev main_c_30 : Ref sig .tc := ⟨.hbm, 168, rfl⟩
abbrev main_v105 : Ref sig .tc := ⟨.hbm, 169, rfl⟩
abbrev main_v106 : Ref sig .tc := ⟨.hbm, 170, rfl⟩
abbrev main_c_31 : Ref sig .tc := ⟨.hbm, 171, rfl⟩
abbrev main_c_32 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_33 : Ref sig .tc := ⟨.hbm, 184, rfl⟩
abbrev main_v113 : Ref sig .tc := ⟨.hbm, 185, rfl⟩
abbrev main_v114 : Ref sig .tc := ⟨.hbm, 186, rfl⟩
abbrev main_cst_34 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_c_35 : Ref sig .tc := ⟨.hbm, 220, rfl⟩
abbrev main_v147 : Ref sig .tc := ⟨.hbm, 221, rfl⟩
abbrev main_v148 : Ref sig .tc := ⟨.hbm, 222, rfl⟩
abbrev main_c_36 : Ref sig .tc := ⟨.hbm, 223, rfl⟩
abbrev main_v149 : Ref sig .tc := ⟨.hbm, 224, rfl⟩
abbrev main_v150 : Ref sig .tc := ⟨.hbm, 225, rfl⟩
abbrev main_c_37 : Ref sig .tc := ⟨.hbm, 226, rfl⟩
abbrev main_c_38 : Ref sig .tc := ⟨.hbm, 227, rfl⟩
abbrev main_call7_v0 : Ref sig .tc := ⟨.hbm, 228, rfl⟩
abbrev main_call7_v1 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_cst_39 : Ref sig .tc := ⟨.hbm, 242, rfl⟩
abbrev main_v160 : Ref sig .tc := ⟨.hbm, 243, rfl⟩
abbrev main_cst_40 : Ref sig .tc := ⟨.hbm, 244, rfl⟩
abbrev main_v161 : Ref sig .tc := ⟨.hbm, 245, rfl⟩
abbrev main_v162 : Ref sig .tc := ⟨.hbm, 246, rfl⟩
abbrev main_cst_41 : Ref sig .tc := ⟨.hbm, 247, rfl⟩
abbrev main_v163 : Ref sig .tc := ⟨.hbm, 248, rfl⟩
abbrev main_v164 : Ref sig .tc := ⟨.hbm, 249, rfl⟩
abbrev main_cst_42 : Ref sig .tc := ⟨.hbm, 250, rfl⟩
abbrev main_v165 : Ref sig .tc := ⟨.hbm, 251, rfl⟩
abbrev main_v166 : Ref sig .tc := ⟨.hbm, 252, rfl⟩
abbrev main_cst_43 : Ref sig .tc := ⟨.hbm, 253, rfl⟩
abbrev main_v167 : Ref sig .tc := ⟨.hbm, 254, rfl⟩
abbrev main_v168 : Ref sig .tc := ⟨.hbm, 255, rfl⟩
abbrev main_cst_44 : Ref sig .tc := ⟨.hbm, 256, rfl⟩
abbrev main_v169 : Ref sig .tc := ⟨.hbm, 257, rfl⟩
abbrev main_v170 : Ref sig .tc := ⟨.hbm, 258, rfl⟩
abbrev main_cst_45 : Ref sig .tc := ⟨.hbm, 259, rfl⟩
abbrev main_v171 : Ref sig .tc := ⟨.hbm, 260, rfl⟩
abbrev main_v172 : Ref sig .tc := ⟨.hbm, 261, rfl⟩
abbrev main_cst_46 : Ref sig .tc := ⟨.hbm, 262, rfl⟩
abbrev main_v173 : Ref sig .tc := ⟨.hbm, 263, rfl⟩
abbrev main_v174 : Ref sig .tc := ⟨.hbm, 264, rfl⟩
abbrev main_cst_47 : Ref sig .tc := ⟨.hbm, 265, rfl⟩
abbrev main_v175 : Ref sig .tc := ⟨.hbm, 266, rfl⟩
abbrev main_v176 : Ref sig .tc := ⟨.hbm, 267, rfl⟩
abbrev main_cst_48 : Ref sig .tc := ⟨.hbm, 268, rfl⟩
abbrev main_v177 : Ref sig .tc := ⟨.hbm, 269, rfl⟩
abbrev main_v178 : Ref sig .tc := ⟨.hbm, 270, rfl⟩
abbrev main_cst_49 : Ref sig .tc := ⟨.hbm, 271, rfl⟩
abbrev main_v179 : Ref sig .tc := ⟨.hbm, 272, rfl⟩
abbrev main_v180 : Ref sig .tc := ⟨.hbm, 273, rfl⟩
abbrev main_cst_50 : Ref sig .tc := ⟨.hbm, 274, rfl⟩
abbrev main_v181 : Ref sig .tc := ⟨.hbm, 275, rfl⟩
abbrev main_v182 : Ref sig .tc := ⟨.hbm, 276, rfl⟩
abbrev main_cst_51 : Ref sig .tc := ⟨.hbm, 277, rfl⟩
abbrev main_v183 : Ref sig .tc := ⟨.hbm, 278, rfl⟩
abbrev main_v184 : Ref sig .tc := ⟨.hbm, 279, rfl⟩
abbrev main_cst_52 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_cst_53 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_cst_54 : Ref sig .tc := ⟨.hbm, 293, rfl⟩
abbrev main_v196 : Ref sig .tc := ⟨.hbm, 294, rfl⟩
abbrev main_cst_55 : Ref sig .tc := ⟨.hbm, 295, rfl⟩
abbrev main_v197 : Ref sig .tc := ⟨.hbm, 296, rfl⟩
abbrev main_v198 : Ref sig .tc := ⟨.hbm, 297, rfl⟩
abbrev main_cst_56 : Ref sig .tc := ⟨.hbm, 298, rfl⟩
abbrev main_v199 : Ref sig .tc := ⟨.hbm, 299, rfl⟩
abbrev main_v200 : Ref sig .tc := ⟨.hbm, 300, rfl⟩
abbrev main_cst_57 : Ref sig .tc := ⟨.hbm, 301, rfl⟩
abbrev main_v201 : Ref sig .tc := ⟨.hbm, 302, rfl⟩
abbrev main_v202 : Ref sig .tc := ⟨.hbm, 303, rfl⟩
abbrev main_cst_58 : Ref sig .tc := ⟨.hbm, 304, rfl⟩
abbrev main_v203 : Ref sig .tc := ⟨.hbm, 305, rfl⟩
abbrev main_v204 : Ref sig .tc := ⟨.hbm, 306, rfl⟩
abbrev main_cst_59 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_cst_60 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_cst_61 : Ref sig .tc := ⟨.hbm, 320, rfl⟩
abbrev main_v216 : Ref sig .tc := ⟨.hbm, 321, rfl⟩
abbrev main_cst_62 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_cst_63 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_cst_64 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩

abbrev nD : Nat := 1
abbrev τ : Topo := Topo.v7x

variable {F : FTy → Type} [FloatOps F]
-- ==== FfnActKernel.lean ====
abbrev S8256x5632 : Shape := ⟨2, ![8256, 5632]⟩
abbrev S8x5632 : Shape := ⟨2, ![8, 5632]⟩
abbrev S8256x2816 : Shape := ⟨2, ![8256, 2816]⟩
abbrev S192x5632 : Shape := ⟨2, ![192, 5632]⟩
abbrev S192x2816 : Shape := ⟨2, ![192, 2816]⟩
abbrev S200x5632 : Shape := ⟨2, ![200, 5632]⟩
abbrev S192x128 : Shape := ⟨2, ![192, 128]⟩
abbrev S1x128 : Shape := ⟨2, ![1, 128]⟩

abbrev nBuf : Space → Nat
  | .hbm => 3
  | .vmem => 8
  | .smem => 0
  | _ => 0

abbrev bufTy : (tb : Table) → Fin (tcTables nBuf tb) → BufTy
  | .hbm, ⟨0, _⟩ => ⟨S8256x5632, .f32⟩
  | .hbm, ⟨1, _⟩ => ⟨S8x5632, .f32⟩
  | .hbm, ⟨2, _⟩ => ⟨S8256x2816, .bf16⟩
  | .local _ .vmem, ⟨0, _⟩ => ⟨S192x5632, .f32⟩
  | .local _ .vmem, ⟨1, _⟩ => ⟨S192x5632, .f32⟩
  | .local _ .vmem, ⟨2, _⟩ => ⟨S8x5632, .f32⟩
  | .local _ .vmem, ⟨3, _⟩ => ⟨S8x5632, .f32⟩
  | .local _ .vmem, ⟨4, _⟩ => ⟨S8x5632, .f32⟩
  | .local _ .vmem, ⟨5, _⟩ => ⟨S192x2816, .bf16⟩
  | .local _ .vmem, ⟨6, _⟩ => ⟨S192x2816, .bf16⟩
  | .local _ .vmem, ⟨7, _⟩ => ⟨S200x5632, .f32⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnActReferenceIdeal.lean ====
abbrev S8256x5632 : Shape := ⟨2, ![8256, 5632]⟩
abbrev S8x5632 : Shape := ⟨2, ![8, 5632]⟩
abbrev S3x5632 : Shape := ⟨2, ![3, 5632]⟩
abbrev S_ : Shape := ⟨0, ![]⟩
abbrev S2x5632 : Shape := ⟨2, ![2, 5632]⟩
abbrev S8258x5632 : Shape := ⟨2, ![8258, 5632]⟩
abbrev S1x5632 : Shape := ⟨2, ![1, 5632]⟩
abbrev S5632 : Shape := ⟨1, ![5632]⟩
abbrev S8256x2816 : Shape := ⟨2, ![8256, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8256x5632, .f32⟩
  | .hbm, ⟨1, _⟩ => ⟨S8x5632, .f32⟩
  | .hbm, ⟨2, _⟩ => ⟨S3x5632, .f32⟩
  | .hbm, ⟨3, _⟩ => ⟨S_, .f32⟩
  | .hbm, ⟨4, _⟩ => ⟨S2x5632, .f32⟩
  | .hbm, ⟨5, _⟩ => ⟨S8258x5632, .f32⟩
  | .hbm, ⟨6, _⟩ => ⟨S8256x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8256x5632, .f32⟩
  | .hbm, ⟨11, _⟩ => ⟨S8256x5632, .f32⟩
  | .hbm, ⟨12, _⟩ => ⟨S8256x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8256x5632, .f32⟩
  | .hbm, ⟨17, _⟩ => ⟨S8256x5632, .f32⟩
  | .hbm, ⟨18, _⟩ => ⟨S8256x5632, .f32⟩
  | .hbm, ⟨19, _⟩ => ⟨S8256x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8256x5632, .f32⟩
  | .hbm, ⟨24, _⟩ => ⟨S8256x5632, .f32⟩
  | .hbm, ⟨25, _⟩ => ⟨S8256x5632, .f32⟩
  | .hbm, ⟨26, _⟩ => ⟨S8256x2816, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S_, .f32⟩
  | .hbm, ⟨31, _⟩ => ⟨S8256x2816, .f32⟩
  | .hbm, ⟨32, _⟩ => ⟨S8256x2816, .f32⟩
  | .hbm, ⟨33, _⟩ => ⟨S_, .f32⟩
  | .hbm, ⟨34, _⟩ => ⟨S8256x2816, .f32⟩
  | .hbm, ⟨35, _⟩ => ⟨S8256x2816, .f32⟩
  | .hbm, ⟨36, _⟩ => ⟨S8256x2816, .f32⟩
  | .hbm, ⟨37, _⟩ => ⟨S8256x2816, .f32⟩
  | .hbm, ⟨38, _⟩ => ⟨S8256x2816, .bf16⟩
  | _, _ => ⟨S8256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== FfnActBwdKernel.lean ====
abbrev S8256x5632 : Shape := ⟨2, ![8256, 5632]⟩
abbrev S8x5632 : Shape := ⟨2, ![8, 5632]⟩
abbrev S8256x2816 : Shape := ⟨2, ![8256, 2816]⟩
abbrev S192x5632 : Shape := ⟨2, ![192, 5632]⟩
abbrev S192x2816 : Shape := ⟨2, ![192, 2816]⟩
abbrev S200x5632 : Shape := ⟨2, ![200, 5632]⟩
abbrev S192x128 : Shape := ⟨2, ![192, 128]⟩
abbrev S1x128 : Shape := ⟨2, ![1, 128]⟩
abbrev S128 : Shape := ⟨1, ![128]⟩

abbrev nBuf : Space → Nat
  | .hbm => 5
  | .vmem => 11
  | .smem => 0
  | _ => 0

abbrev bufTy : (tb : Table) → Fin (tcTables nBuf tb) → BufTy
  | .hbm, ⟨0, _⟩ => ⟨S8256x5632, .f32⟩
  | .hbm, ⟨1, _⟩ => ⟨S8x5632, .f32⟩
  | .hbm, ⟨2, _⟩ => ⟨S8256x2816, .f32⟩
  | .hbm, ⟨3, _⟩ => ⟨S8256x5632, .bf16⟩
  | .hbm, ⟨4, _⟩ => ⟨S8x5632, .f32⟩
  | .local _ .vmem, ⟨0, _⟩ => ⟨S192x5632, .f32⟩
  | .local _ .vmem, ⟨1, _⟩ => ⟨S192x5632, .f32⟩
  | .local _ .vmem, ⟨2, _⟩ => ⟨S8x5632, .f32⟩
  | .local _ .vmem, ⟨3, _⟩ => ⟨S8x5632, .f32⟩
  | .local _ .vmem, ⟨4, _⟩ => ⟨S8x5632, .f32⟩
  | .local _ .vmem, ⟨5, _⟩ => ⟨S192x2816, .f32⟩
  | .local _ .vmem, ⟨6, _⟩ => ⟨S192x2816, .f32⟩
  | .local _ .vmem, ⟨7, _⟩ => ⟨S192x5632, .bf16⟩
  | .local _ .vmem, ⟨8, _⟩ => ⟨S192x5632, .bf16⟩
  | .local _ .vmem, ⟨9, _⟩ => ⟨S8x5632, .f32⟩
  | .local _ .vmem, ⟨10, _⟩ => ⟨S200x5632, .f32⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnActBwdReferenceIdeal.lean ====
abbrev S8256x5632 : Shape := ⟨2, ![8256, 5632]⟩
abbrev S8x5632 : Shape := ⟨2, ![8, 5632]⟩
abbrev S8256x2816 : Shape := ⟨2, ![8256, 2816]⟩
abbrev S3x5632 : Shape := ⟨2, ![3, 5632]⟩
abbrev S_ : Shape := ⟨0, ![]⟩
abbrev S2x5632 : Shape := ⟨2, ![2, 5632]⟩
abbrev S8258x5632 : Shape := ⟨2, ![8258, 5632]⟩
abbrev S1x5632 : Shape := ⟨2, ![1, 5632]⟩
abbrev S5632 : Shape := ⟨1, ![5632]⟩

abbrev nBuf : Space → Nat
  | .hbm => 51
  | .vmem => 0
  | .smem => 0
  | _ => 0

abbrev bufTy : (tb : Table) → Fin (tcTables nBuf tb) → BufTy
  | .hbm, ⟨0, _⟩ => ⟨S8256x5632, .f32⟩
  | .hbm, ⟨1, _⟩ => ⟨S8x5632, .f32⟩
  | .hbm, ⟨2, _⟩ => ⟨S8256x2816, .f32⟩
  | .hbm, ⟨3, _⟩ => ⟨S3x5632, .f32⟩
  | .hbm, ⟨4, _⟩ => ⟨S_, .f32⟩
  | .hbm, ⟨5, _⟩ => ⟨S2x5632, .f32⟩
  | .hbm, ⟨6, _⟩ => ⟨S8258x5632, .f32⟩
  | .hbm, ⟨7, _⟩ => ⟨S8256x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S8256x5632, .f32⟩
  | .hbm, ⟨12, _⟩ => ⟨S8256x5632, .f32⟩
  | .hbm, ⟨13, _⟩ => ⟨S8256x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S8256x5632, .f32⟩
  | .hbm, ⟨18, _⟩ => ⟨S8256x5632, .f32⟩
  | .hbm, ⟨19, _⟩ => ⟨S8256x5632, .f32⟩
  | .hbm, ⟨20, _⟩ => ⟨S8256x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8256x5632, .f32⟩
  | .hbm, ⟨25, _⟩ => ⟨S8256x5632, .f32⟩
  | .hbm, ⟨26, _⟩ => ⟨S8256x5632, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S8256x2816, .f32⟩
  | .hbm, ⟨31, _⟩ => ⟨S_, .f32⟩
  | .hbm, ⟨32, _⟩ => ⟨S8256x2816, .f32⟩
  | .hbm, ⟨33, _⟩ => ⟨S8256x2816, .f32⟩
  | .hbm, ⟨34, _⟩ => ⟨S_, .f32⟩
  | .hbm, ⟨35, _⟩ => ⟨S8256x2816, .f32⟩
  | .hbm, ⟨36, _⟩ => ⟨S8256x2816, .f32⟩
  | .hbm, ⟨37, _⟩ => ⟨S_, .f32⟩
  | .hbm, ⟨38, _⟩ => ⟨S8256x2816, .f32⟩
  | .hbm, ⟨39, _⟩ => ⟨S8256x2816, .f32⟩
  | .hbm, ⟨40, _⟩ => ⟨S8256x2816, .f32⟩
  | .hbm, ⟨41, _⟩ => ⟨S8256x2816, .f32⟩
  | .hbm, ⟨42, _⟩ => ⟨S8256x2816, .f32⟩
  | .hbm, ⟨43, _⟩ => ⟨S8256x2816, .f32⟩
  | .hbm, ⟨44, _⟩ => ⟨S8256x2816, .f32⟩
  | .hbm, ⟨45, _⟩ => ⟨S8256x2816, .f32⟩
  | .hbm, ⟨46, _⟩ => ⟨S8256x2816, .f32⟩
  | .hbm, ⟨47, _⟩ => ⟨S8256x2816, .f32⟩
  | .hbm, ⟨48, _⟩ => ⟨S8256x2816, .f32⟩
  | .hbm, ⟨49, _⟩ => ⟨S8256x5632, .f32⟩
  | .hbm, ⟨50, _⟩ => ⟨S8256x5632, .bf16⟩
  | _, _ => ⟨S8256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v25_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v25_1 : Ref sig .tc := ⟨.hbm, 40, rfl⟩
abbrev main_v25_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.Chunk.lean ====
/-
  The gradient of one chunk of the gated delta rule, over the reals.

  A chunk has 64 rows of 8 heads, each head 128 wide. `Chunk` holds what the gradient of one chunk reads: the rows of the
  queries, keys, values and of the incoming gradient, the packed gates (`gb`: β of head `h` in column `h`, the log decay of
  head `h` in column `8 + h`), the state `S` that entered the chunk, the gradient `dS` of the state that left it, and the
  inverse `T` of the chunk's unit lower triangular matrix. Everything below is a sum of products of those reals; nothing
  mentions a program.
-/
module

public import Mathlib.Analysis.SpecialFunctions.Exp
public import Mathlib.Algebra.BigOperators.Fin

@[expose] public section

noncomputable section

namespace Cert.Delta

open scoped BigOperators

/-- What the gradient of one chunk reads. -/
structure Chunk where
  /-- queries -/
  q : Fin 8 → Fin 64 → Fin 128 → ℝ
  /-- keys -/
  k : Fin 8 → Fin 64 → Fin 128 → ℝ
  /-- values -/
  v : Fin 8 → Fin 64 → Fin 128 → ℝ
  /-- the packed gates -/
  gb : Fin 64 → Fin 128 → ℝ
  /-- the gradient of the chunk's output -/
  dO : Fin 8 → Fin 64 → Fin 128 → ℝ
  /-- the state that entered the chunk -/
  S : Fin 8 → Fin 128 → Fin 128 → ℝ
  /-- the inverse of the chunk's unit lower triangular matrix -/
  T : Fin 8 → Fin 64 → Fin 64 → ℝ
  /-- the gradient of the state that left the chunk -/
  dS : Fin 8 → Fin 128 → Fin 128 → ℝ

/-- The column of `gb` that holds head `h`'s β. -/
def betaCol (h : Fin 8) : Fin 128 := ⟨h.val, by omega⟩
/-- The column of `gb` that holds head `h`'s log decay. -/
def gateCol (h : Fin 8) : Fin 128 := ⟨8 + h.val, by omega⟩

/-- The factor by which the queries are scaled: the float nearest `1/√128`. -/
def scale : ℝ := 11863283 / 134217728

namespace Chunk

variable (x : Chunk)

/-! ### The chunk's forward values -/

/-- β -/
def beta (h : Fin 8) (i : Fin 64) : ℝ := x.gb i (betaCol h)
/-- the running log decay within the chunk -/
def gam (h : Fin 8) (i : Fin 64) : ℝ := ∑ l : Fin 64, if l ≤ i then x.gb l (gateCol h) else 0
/-- the decay from row `j` to row `i`, nothing above the diagonal -/
def dec (h : Fin 8) (i j : Fin 64) : ℝ := if j ≤ i then Real.exp (x.gam h i - x.gam h j) else 0
/-- the decay from the chunk's beginning to row `i` -/
def eg (h : Fin 8) (i : Fin 64) : ℝ := Real.exp (x.gam h i)
/-- the decay from row `i` to the chunk's end -/
def ek (h : Fin 8) (i : Fin 64) : ℝ := Real.exp (x.gam h 63 - x.gam h i)
/-- the decay of the whole chunk -/
def gt (h : Fin 8) : ℝ := Real.exp (x.gam h 63)
/-- scaled queries -/
def qs (h : Fin 8) (i : Fin 64) (d : Fin 128) : ℝ := x.q h i d * scale
/-- keys times β -/
def kb (h : Fin 8) (i : Fin 64) (d : Fin 128) : ℝ := x.k h i d * x.beta h i
/-- keys times β, decayed from the chunk's beginning -/
def kbg (h : Fin 8) (i : Fin 64) (d : Fin 128) : ℝ := x.kb h i d * x.eg h i
/-- values times β -/
def vb (h : Fin 8) (i : Fin 64) (d : Fin 128) : ℝ := x.v h i d * x.beta h i
/-- `(β k) kᵀ` -/
def kk (h : Fin 8) (i j : Fin 64) : ℝ := ∑ d, x.kb h i d * x.k h j d
/-- `q kᵀ` -/
def qk (h : Fin 8) (i j : Fin 64) : ℝ := ∑ d, x.qs h i d * x.k h j d
/-- the decayed attention `q kᵀ` -/
def att (h : Fin 8) (i j : Fin 64) : ℝ := x.qk h i j * x.dec h i j
/-- `T (β v)` -/
def u (h : Fin 8) (i : Fin 64) (d : Fin 128) : ℝ := ∑ l, x.T h i l * x.vb h l d
/-- `T (β k)`, decayed -/
def w (h : Fin 8) (i : Fin 64) (d : Fin 128) : ℝ := ∑ l, x.T h i l * x.kbg h l d
/-- the values the chunk adds to the state -/
def vn (h : Fin 8) (i : Fin 64) (d : Fin 128) : ℝ := x.u h i d - ∑ e, x.w h i e * x.S h e d
/-- queries decayed from the chunk's beginning -/
def qd (h : Fin 8) (i : Fin 64) (d : Fin 128) : ℝ := x.qs h i d * x.eg h i
/-- keys decayed to the chunk's end -/
def kd (h : Fin 8) (i : Fin 64) (d : Fin 128) : ℝ := x.k h i d * x.ek h i

/-! ### Their gradients -/

/-- of `vn` -/
def dvn (h : Fin 8) (i : Fin 64) (d : Fin 128) : ℝ :=
  (∑ e, x.kd h i e * x.dS h e d) + ∑ l, x.att h l i * x.dO h l d
/-- of `kd` -/
def dkd (h : Fin 8) (i : Fin 64) (d : Fin 128) : ℝ := ∑ e, x.vn h i e * x.dS h d e
/-- of the whole chunk's decay -/
def dgt (h : Fin 8) : ℝ := ∑ d, ∑ e, x.dS h d e * x.S h d e
/-- of `qd` -/
def dqd (h : Fin 8) (i : Fin 64) (d : Fin 128) : ℝ := ∑ e, x.dO h i e * x.S h d e
/-- of `att`, nothing above the diagonal -/
def datt (h : Fin 8) (i j : Fin 64) : ℝ := if j ≤ i then ∑ d, x.dO h i d * x.vn h j d else 0
/-- of `w` -/
def dw (h : Fin 8) (i : Fin 64) (d : Fin 128) : ℝ := -∑ e, x.dvn h i e * x.S h d e
/-- of the state that entered the chunk -/
def dSin (h : Fin 8) (d e : Fin 128) : ℝ :=
  x.dS h d e * x.gt h + (∑ i, x.qd h i d * x.dO h i e) - ∑ i, x.w h i d * x.dvn h i e
/-- of `T` -/
def dT (h : Fin 8) (i j : Fin 64) : ℝ := (∑ d, x.dvn h i d * x.vb h j d) + ∑ d, x.dw h i d * x.kbg h j d
/-- of `vb` -/
def dvb (h : Fin 8) (i : Fin 64) (d : Fin 128) : ℝ := ∑ l, x.T h l i * x.dvn h l d
/-- of `kbg` -/
def dkbg (h : Fin 8) (i : Fin 64) (d : Fin 128) : ℝ := ∑ l, x.T h l i * x.dw h l d
/-- of the strictly lower triangular matrix whose inverse `T` is -/
def dA (h : Fin 8) (i j : Fin 64) : ℝ :=
  if j < i then -∑ a, (∑ b, x.T h b i * x.dT h b a) * x.T h j a else 0
/-- of `kk` -/
def dkk (h : Fin 8) (i j : Fin 64) : ℝ := x.dA h i j * x.dec h i j
/-- of `qk` -/
def dqk (h : Fin 8) (i j : Fin 64) : ℝ := x.datt h i j * x.dec h i j
/-- of `kb` -/
def dkb (h : Fin 8) (i : Fin 64) (d : Fin 128) : ℝ := (∑ j, x.dkk h i j * x.k h j d) + x.dkbg h i d * x.eg h i
/-- of the exponent of the decay from row `j` to row `i` -/
def ddec (h : Fin 8) (i j : Fin 64) : ℝ := x.dA h i j * (x.kk h i j * x.dec h i j) + x.datt h i j * x.att h i j

/-! ### The chunk's results -/

/-- of the keys -/
def dk (h : Fin 8) (i : Fin 64) (d : Fin 128) : ℝ :=
  (∑ l, x.dkk h l i * x.kb h l d) + (∑ l, x.dqk h l i * x.qs h l d) + x.dkd h i d * x.ek h i + x.dkb h i d * x.beta h i
/-- of the queries -/
def dq (h : Fin 8) (i : Fin 64) (d : Fin 128) : ℝ :=
  ((∑ j, x.dqk h i j * x.k h j d) + x.dqd h i d * x.eg h i) * scale
/-- of the values -/
def dv (h : Fin 8) (i : Fin 64) (d : Fin 128) : ℝ := x.dvb h i d * x.beta h i
/-- of the running log decay -/
def dgam (h : Fin 8) (i : Fin 64) : ℝ :=
  (∑ j, x.ddec h i j) - (∑ l, x.ddec h l i)
    + (∑ d, (x.dqd h i d * x.qd h i d - x.dkd h i d * x.kd h i d + x.dkbg h i d * x.kbg h i d))
    + if i = 63 then (∑ l, ∑ d, x.dkd h l d * x.kd h l d) + x.dgt h * x.gt h else 0
/-- of β -/
def dbeta (h : Fin 8) (i : Fin 64) : ℝ := ∑ d, (x.dkb h i d * x.k h i d + x.dvb h i d * x.v h i d)
/-- of the packed gates: β in columns 0 … 7, the log decay (whose running sum `gam` is) in columns 8 … 15 -/
def dgb (i : Fin 64) (c : Fin 128) : ℝ :=
  if hb : c.val < 8 then x.dbeta ⟨c.val, hb⟩ i
  else if hg : c.val < 16 then ∑ l : Fin 64, if i ≤ l then x.dgam ⟨c.val - 8, by omega⟩ l else 0
  else 0

end Chunk

end Cert.Delta

end
-- ==== Proof.Seq.lean ====
/-
  The whole sequence: its chunks, taken from the last to the first, and the gradient of the state handed from one to the next.
-/
module

public import proofs.«01_k».proof.Proof.Chunk

@[expose] public section

noncomputable section

namespace Cert.Delta

/-- The arrays, every entry a real. -/
structure Inp where
  /-- queries -/
  q : Fin 8 → Fin 8256 → Fin 128 → ℝ
  /-- keys -/
  k : Fin 8 → Fin 8256 → Fin 128 → ℝ
  /-- values -/
  v : Fin 8 → Fin 8256 → Fin 128 → ℝ
  /-- the packed gates -/
  gb : Fin 8256 → Fin 128 → ℝ
  /-- the gradient of the output -/
  dO : Fin 8 → Fin 8256 → Fin 128 → ℝ
  /-- the state that entered each chunk -/
  S : Fin 129 → Fin 8 → Fin 128 → Fin 128 → ℝ
  /-- each chunk's triangular inverse -/
  T : Fin 129 → Fin 8 → Fin 64 → Fin 64 → ℝ

/-- Row `i` of chunk `n`, among all rows. -/
def row (n : Fin 129) (i : Fin 64) : Fin 8256 := ⟨64 * n.val + i.val, by omega⟩

/-- The chunk that trip `t` works on: the last one first. -/
def trip (t : ℕ) : Fin 129 := ⟨128 - t, by omega⟩

/-- Chunk `n`, with the gradient of the state that left it. -/
def Inp.chunk (I : Inp) (n : Fin 129) (dS : Fin 8 → Fin 128 → Fin 128 → ℝ) : Chunk where
  q h i d := I.q h (row n i) d
  k h i d := I.k h (row n i) d
  v h i d := I.v h (row n i) d
  gb i c := I.gb (row n i) c
  dO h i d := I.dO h (row n i) d
  S := I.S n
  T := I.T n
  dS := dS

/-- The gradient of the state before trip `t`: nothing after the last chunk, then what each trip hands on. -/
def Inp.dS (I : Inp) : ℕ → Fin 8 → Fin 128 → Fin 128 → ℝ
  | 0 => fun _ _ _ => 0
  | t + 1 => (I.chunk (trip t) (I.dS t)).dSin

/-- What trip `t` works on. -/
def Inp.tripOf (I : Inp) (t : ℕ) : Chunk := I.chunk (trip t) (I.dS t)

/-- A row's chunk. -/
def chunkOf (r : Fin 8256) : Fin 129 := ⟨r.val / 64, by omega⟩
/-- A row's place in its chunk. -/
def placeOf (r : Fin 8256) : Fin 64 := ⟨r.val % 64, Nat.mod_lt _ (by decide)⟩
/-- The trip that works on chunk `n`. -/
def tripTo (n : Fin 129) : ℕ := 128 - n.val

/-- The gradient of the queries. -/
def Inp.dq (I : Inp) (h : Fin 8) (r : Fin 8256) (d : Fin 128) : ℝ := (I.tripOf (tripTo (chunkOf r))).dq h (placeOf r) d
/-- The gradient of the keys. -/
def Inp.dk (I : Inp) (h : Fin 8) (r : Fin 8256) (d : Fin 128) : ℝ := (I.tripOf (tripTo (chunkOf r))).dk h (placeOf r) d
/-- The gradient of the values. -/
def Inp.dv (I : Inp) (h : Fin 8) (r : Fin 8256) (d : Fin 128) : ℝ := (I.tripOf (tripTo (chunkOf r))).dv h (placeOf r) d
/-- The gradient of the packed gates. -/
def Inp.dgb (I : Inp) (r : Fin 8256) (c : Fin 128) : ℝ := (I.tripOf (tripTo (chunkOf r))).dgb (placeOf r) c

theorem chunkOf_row (n : Fin 129) (i : Fin 64) : chunkOf (row n i) = n := by
  apply Fin.ext; show (64 * n.val + i.val) / 64 = n.val; omega
theorem placeOf_row (n : Fin 129) (i : Fin 64) : placeOf (row n i) = i := by
  apply Fin.ext; show (64 * n.val + i.val) % 64 = i.val; omega
theorem tripTo_trip (t : ℕ) (ht : t < 129) : tripTo (trip t) = t := by
  show 128 - (128 - t) = t; omega
theorem Inp.dq_row (I : Inp) (t : ℕ) (ht : t < 129) (h : Fin 8) (i : Fin 64) (d : Fin 128) :
    I.dq h (row (trip t) i) d = (I.tripOf t).dq h i d := by
  unfold Inp.dq
  rw [chunkOf_row, placeOf_row, tripTo_trip t ht]
theorem Inp.dk_row (I : Inp) (t : ℕ) (ht : t < 129) (h : Fin 8) (i : Fin 64) (d : Fin 128) :
    I.dk h (row (trip t) i) d = (I.tripOf t).dk h i d := by
  unfold Inp.dk
  rw [chunkOf_row, placeOf_row, tripTo_trip t ht]
theorem Inp.dv_row (I : Inp) (t : ℕ) (ht : t < 129) (h : Fin 8) (i : Fin 64) (d : Fin 128) :
    I.dv h (row (trip t) i) d = (I.tripOf t).dv h i d := by
  unfold Inp.dv
  rw [chunkOf_row, placeOf_row, tripTo_trip t ht]
theorem Inp.dgb_row (I : Inp) (t : ℕ) (ht : t < 129) (i : Fin 64) (d : Fin 128) :
    I.dgb (row (trip t) i) d = (I.tripOf t).dgb i d := by
  unfold Inp.dgb
  rw [chunkOf_row, placeOf_row, tripTo_trip t ht]

end Cert.Delta

end
-- ==== Proof.Lift.lean ====
/-
  Reals among the extended reals: what is needed to read a vector term whose entries are all real.
-/
module

public import Idealize.ShloMosaic.Lib.Pointwise

@[expose] public section

noncomputable section

namespace Cert.Delta

open Idealize.ShloMosaic
open scoped BigOperators

/-- A finite sum of reals, read among the extended reals. -/
@[norm_cast] theorem coe_sum {n : ℕ} (f : Fin n → ℝ) : ((∑ i, f i : ℝ) : EReal) = ∑ i, (f i : EReal) := by
  let c : ℝ →+ EReal := ⟨⟨fun r => (r : EReal), rfl⟩, EReal.coe_add⟩
  exact map_sum c f Finset.univ

/-- A choice between reals, read among the extended reals. -/
@[norm_cast] theorem coe_ite (p : Prop) [Decidable p] (a b : ℝ) : ((if p then a else b : ℝ) : EReal) = if p then (a : EReal) else (b : EReal) := by
  split <;> rfl

/-- A choice between a real and zero is a real. -/
theorem ite_zero (p : Prop) [Decidable p] (a : ℝ) : (if p then (a : EReal) else 0) = ((if p then a else 0 : ℝ) : EReal) := by
  split <;> rfl

/-- Choosing by a signed comparison `≥` of two row numbers. -/
theorem select_sge {α : Type} (i j : Fin 64) (a b : α) :
    Scalar.select (IntOp.cmpi .sge (BitVec.ofNat 32 i.val) (BitVec.ofNat 32 j.val)) a b = if j ≤ i then a else b := by
  have h : ∀ i j : Fin 64, IntOp.cmpi .sge (BitVec.ofNat 32 i.val) (BitVec.ofNat 32 j.val) = if j ≤ i then 1#1 else 0#1 := by
    decide +kernel
  rw [h]
  by_cases hij : j ≤ i <;> simp [hij, Scalar.select]

/-- Choosing by a signed comparison `>` of two row numbers. -/
theorem select_sgt {α : Type} (i j : Fin 64) (a b : α) :
    Scalar.select (IntOp.cmpi .sgt (BitVec.ofNat 32 i.val) (BitVec.ofNat 32 j.val)) a b = if j < i then a else b := by
  have h : ∀ i j : Fin 64, IntOp.cmpi .sgt (BitVec.ofNat 32 i.val) (BitVec.ofNat 32 j.val) = if j < i then 1#1 else 0#1 := by
    decide +kernel
  rw [h]
  by_cases hij : j < i <;> simp [hij, Scalar.select]

/-- A branch guarded by a condition, under an exponential that vanishes at −∞. -/
theorem exp_ite_bot (p : Prop) [Decidable p] (a : ℝ) :
    Ideal.exp (if p then (a : EReal) else ⊥) = ((if p then Real.exp a else 0 : ℝ) : EReal) := by
  split
  · exact Ideal.exp_coe a
  · rfl

/-- The float that scales the queries. -/
theorem scale_bits : Ideal.ofBits .f32 0x3DB504F3#32 = ((11863283 / 134217728 : ℝ) : EReal) := by
  simp [Ideal.ofBits, Ideal.ieee, -EReal.coe_mul]
  try norm_num

/-- The float −∞. -/
theorem neg_inf_bits : Ideal.ofBits .f32 0xFF800000#32 = (⊥ : EReal) := by
  simp [Ideal.ofBits, Ideal.ieee, -EReal.coe_mul]
  try norm_num

/-- Two counters below the word size are the same word just when they are the same number. -/
theorem select_eq_nat {α : Type} (m n : ℕ) (hm : m < 2 ^ 32) (hn : n < 2 ^ 32) (a b : α) :
    Scalar.select (IntOp.cmpi .eq (BitVec.ofNat 32 m) (BitVec.ofNat 32 n)) a b = if m = n then a else b := by
  have h : (BitVec.ofNat 32 m = BitVec.ofNat 32 n) ↔ m = n := by
    constructor
    · intro e
      have e' := congrArg BitVec.toNat e
      rw [BitVec.toNat_ofNat, BitVec.toNat_ofNat, Nat.mod_eq_of_lt hm, Nat.mod_eq_of_lt hn] at e'
      exact e'
    · rintro rfl; rfl
  by_cases hmn : m = n
  · rw [if_pos hmn, hmn]; simp [IntOp.cmpi, Scalar.select]
  · rw [if_neg hmn]
    have h' : ¬ BitVec.ofNat 32 m = BitVec.ofNat 32 n := fun e => hmn (h.mp e)
    have hb : (BitVec.ofNat 32 m == BitVec.ofNat 32 n) = false := beq_eq_false_iff_ne.mpr h'
    simp only [IntOp.cmpi, Scalar.select, hb]
    rfl

/-- A sum that keeps one lane, chosen by its number. -/
theorem sum_select {N : ℕ} (n : ℕ) (hn : n < N) (hN : N ≤ 2 ^ 32) (f : Fin N → EReal) :
    ∑ x : Fin N, Scalar.select (IntOp.cmpi .eq (BitVec.ofNat 32 x.val) (BitVec.ofNat 32 n)) (f x) 0 = f ⟨n, hn⟩ := by
  have h : ∀ x : Fin N, Scalar.select (IntOp.cmpi .eq (BitVec.ofNat 32 x.val) (BitVec.ofNat 32 n)) (f x) 0
      = if x = ⟨n, hn⟩ then f x else 0 := by
    intro x
    rw [select_eq_nat _ _ (by omega) (by omega)]
    simp only [Fin.ext_iff]
  simp only [h, Finset.sum_ite_eq', Finset.mem_univ, if_true]

/-- The triangle of ones, on and below the diagonal. -/
theorem tri_ge (i j : Fin 64) :
    FloatOps.sitofp (F := Ideal) FTy.f32 (BitVec.setWidth 32 (IntOp.cmpi .sge (BitVec.ofNat 32 i.val) (BitVec.ofNat 32 j.val)))
      = ((if j ≤ i then 1 else 0 : ℝ) : EReal) := by
  have h : ∀ i j : Fin 64, IntOp.cmpi .sge (BitVec.ofNat 32 i.val) (BitVec.ofNat 32 j.val) = if j ≤ i then 1#1 else 0#1 := by
    decide +kernel
  rw [h]
  by_cases hij : j ≤ i <;> simp [hij, FloatOps.sitofp]

/-- The triangle of ones, on and above the diagonal. -/
theorem tri_le (i j : Fin 64) :
    FloatOps.sitofp (F := Ideal) FTy.f32 (BitVec.setWidth 32 (IntOp.cmpi .sle (BitVec.ofNat 32 i.val) (BitVec.ofNat 32 j.val)))
      = ((if i ≤ j then 1 else 0 : ℝ) : EReal) := by
  have h : ∀ i j : Fin 64, IntOp.cmpi .sle (BitVec.ofNat 32 i.val) (BitVec.ofNat 32 j.val) = if i ≤ j then 1#1 else 0#1 := by
    decide +kernel
  rw [h]
  by_cases hij : i ≤ j <;> simp [hij, FloatOps.sitofp]

end Cert.Delta

end
-- ==== Proof.Finite.lean ====
/-
  The precondition, read: where every entry of an argument array is finite, every entry is a real.
-/
module

public import proofs.«01_k».proof.Proof.Seq
public import proofs.«01_k».proof.Proof.Lift
public import proofs.«01_k».proof.Pre_finite
public import Idealize.ShloMosaic.Lib.ReduceAll
public import Idealize.ShloMosaic.Lib.Affine

@[expose] public section

set_option maxRecDepth 16384

noncomputable section

namespace Cert.Delta.Finite

open Idealize.ShloMosaic Cert.Pre_finite

/-- An extended real whose magnitude is below infinity is a real. -/
theorem real_of_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  rcases eq_or_ne (x : EReal) ⊤ with e | e
  · exfalso; rw [e] at h'; revert h'; simp [Ideal.cmp]
  · rcases eq_or_ne (x : EReal) ⊥ with e' | e'
    · exfalso; rw [e'] at h'; revert h'; simp [Ideal.cmp]
    · exact ⟨EReal.toReal x, (EReal.coe_toReal e e').symm⟩

/-- A whole array of them: its entries are reals. -/
theorem reals {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : x i = ((x i : EReal).toReal : EReal) := by
  haveI : Subsingleton S_.Idx := ⟨fun a b => funext fun e => e.elim0⟩
  obtain ⟨r, h⟩ := real_of_lt (x i) (Host.reduce_andi_all _ _ hr hu ix0 e i)
  rw [h]
  rfl

variable [Facts]
open Facts

/-- The seven argument arrays as reals. -/
def inp (a0 a1 a2 : FVec Ideal S8x8256x128 .f32) (a3 : FVec Ideal S8256x128 .f32) (a4 : FVec Ideal S8x8256x128 .f32)
    (a5 : FVec Ideal S129x8x128x128 .f32) (a6 : FVec Ideal S129x8x64x64 .f32) : Inp where
  q h r d := (a0 (ix3 h r d) : EReal).toReal
  k h r d := (a1 (ix3 h r d) : EReal).toReal
  v h r d := (a2 (ix3 h r d) : EReal).toReal
  gb r d := (a3 (ix2 r d) : EReal).toReal
  dO h r d := (a4 (ix3 h r d) : EReal).toReal
  S n h d e := (a5 (ix4 n h d e) : EReal).toReal
  T n h i l := (a6 (ix4 n h i l) : EReal).toReal

/-- Under the precondition every entry of the seven arrays is a real. -/
theorem of_pre {a0 a1 a2 : FVec Ideal S8x8256x128 .f32} {a3 : FVec Ideal S8256x128 .f32} {a4 : FVec Ideal S8x8256x128 .f32}
    {a5 : FVec Ideal S129x8x128x128 .f32} {a6 : FVec Ideal S129x8x64x64 .f32}
    (h : fn (F := Ideal) a0 a1 a2 a3 a4 a5 a6 = fun _ => 1#1) :
    (∀ i, a0 i = ((a0 i : EReal).toReal : EReal)) ∧ (∀ i, a1 i = ((a1 i : EReal).toReal : EReal))
    ∧ (∀ i, a2 i = ((a2 i : EReal).toReal : EReal)) ∧ (∀ i, a3 i = ((a3 i : EReal).toReal : EReal))
    ∧ (∀ i, a4 i = ((a4 i : EReal).toReal : EReal)) ∧ (∀ i, a5 i = ((a5 i : EReal).toReal : EReal))
    ∧ (∀ i, a6 i = ((a6 i : EReal).toReal : EReal)) := by
  have e := congrFun h ix0
  unfold fn fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨reals a0 _ _ _ h0, reals a1 _ _ _ h1, reals a2 _ _ _ h2, reals a3 _ _ _ h3, reals a4 _ _ _ h4, reals a5 _ _ _ h5,
    reals a6 _ _ _ h6⟩

end Cert.Delta.Finite

end
-- ==== Proof.KerBody.lean ====
/-
  The values of the kernel's body, each as a function of the blocks that the body reads.
-/
module

public import proofs.«01_k».proof.Proof.Lift
public import proofs.«01_k».proof.Proof.Gen.KernelIdeal.Frame

@[expose] public section

noncomputable section

namespace Cert.Delta.Ker

open Idealize.ShloMosaic Cert.KernelIdeal Cert.KernelIdeal.Gen

/-- The blocks that one grid point of the kernel reads. -/
structure Blk where
  /-- queries -/
  q : Vec Ideal S8x64x128 .f32
  /-- keys -/
  k : Vec Ideal S8x64x128 .f32
  /-- values -/
  v : Vec Ideal S8x64x128 .f32
  /-- the packed gates -/
  gb : Vec Ideal S64x128 .f32
  /-- the gradient of the output -/
  dO : Vec Ideal S8x64x128 .f32
  /-- the state that entered the chunk -/
  S : Vec Ideal S1x8x128x128 .f32
  /-- the inverse of the chunk's triangular matrix -/
  T : Vec Ideal S1x8x64x64 .f32
  /-- the gradient of the state that left the chunk, out of the scratch buffer -/
  dS : Vec Ideal S8x128x128 .f32

def v3 : IVec S8x64x64 32 := iota .tc S8x64x64 32 [1] iota_S8x64x64_d1_w32
def v4 : IVec S8x64x64 32 := iota .tc S8x64x64 32 [2] iota_S8x64x64_d2_w32
def v16 : IVec S64x128 32 := iota .tc S64x128 32 [1] iota_S64x128_d1_w32
def v17 : IVec S128x64 32 := iota .tc S128x64 32 [0] iota_S128x64_d0_w32
def v20 : IVec S1x64 1 := k0_pay5
def v160 : IVec S64x128 1 := k0_pay33 v16
def v472 : IVec S64x128 1 := k0_pay95
/-- the zero that a product accumulates into -/
def cst122 : FVec Ideal S8x64x256 .f32 := constant S8x64x256 .f32 0x00000000#32

variable (B : Blk)

def v11 : FVec Ideal S64x128 .f32 := k0_pay3 B.gb
def v15 : FVec Ideal S128x64 .f32 := k0_pay4 B.gb
def v26 : FVec Ideal S64x1 .f32 := k0_pay6 B.gb
def v32 : FVec Ideal S64x1 .f32 := k0_pay7 B.gb
def v38 : FVec Ideal S1x64 .f32 := k0_pay8 B.gb
def v40 : FVec Ideal S1x64 .f32 := k0_pay9 B.gb
def v42 : FVec Ideal S1x1 .f32 := k0_pay10 (v40 B)
def v48 : FVec Ideal S64x1 .f32 := k0_pay11 B.gb v16
def v54 : FVec Ideal S64x1 .f32 := k0_pay12 (v11 B) v16
def v60 : FVec Ideal S1x64 .f32 := k0_pay13 (v15 B) v17
def v64 : FVec Ideal S1x1 .f32 := k0_pay14 (v15 B) v17 v20
def v70 : FVec Ideal S64x1 .f32 := k0_pay15 B.gb v16
def v76 : FVec Ideal S64x1 .f32 := k0_pay16 (v11 B) v16
def v80 : FVec Ideal S128x64 .f32 := k0_pay17 (v15 B) v17
def v82 : FVec Ideal S1x64 .f32 := k0_pay18 (v80 B)
def v86 : FVec Ideal S1x1 .f32 := k0_pay19 v20 (v80 B)
def v92 : FVec Ideal S64x1 .f32 := k0_pay20 B.gb v16
def v98 : FVec Ideal S64x1 .f32 := k0_pay21 (v11 B) v16
def v104 : FVec Ideal S1x64 .f32 := k0_pay22 (v15 B) v17
def v108 : FVec Ideal S1x1 .f32 := k0_pay23 (v15 B) v17 v20
def v114 : FVec Ideal S64x1 .f32 := k0_pay24 B.gb v16
def v120 : FVec Ideal S64x1 .f32 := k0_pay25 (v11 B) v16
def v126 : FVec Ideal S1x64 .f32 := k0_pay26 (v15 B) v17
def v130 : FVec Ideal S1x1 .f32 := k0_pay27 (v15 B) v17 v20
def v136 : FVec Ideal S64x1 .f32 := k0_pay28 B.gb v16
def v142 : FVec Ideal S64x1 .f32 := k0_pay29 (v11 B) v16
def v148 : FVec Ideal S1x64 .f32 := k0_pay30 (v15 B) v17
def v152 : FVec Ideal S1x1 .f32 := k0_pay31 (v15 B) v17 v20
def v158 : FVec Ideal S64x1 .f32 := k0_pay32 B.gb v16
def v164 : FVec Ideal S64x1 .f32 := k0_pay34 (v11 B) v160
def v170 : FVec Ideal S1x64 .f32 := k0_pay35 (v15 B) v17
def v174 : FVec Ideal S1x1 .f32 := k0_pay36 (v15 B) v17 v20
def v180 : FVec Ideal S64x1 .f32 := k0_pay37 B.gb v16
def v186 : FVec Ideal S64x1 .f32 := k0_pay38 (v11 B) v16
def v192 : FVec Ideal S1x64 .f32 := k0_pay39 (v15 B) v17
def v196 : FVec Ideal S1x1 .f32 := k0_pay40 (v15 B) v17 v20
def v197 : FVec Ideal S1x64x1 .f32 := k0_pay41 (v26 B)
def v198 : FVec Ideal S1x64x1 .f32 := k0_pay42 (v48 B)
def v199 : FVec Ideal S1x64x1 .f32 := k0_pay43 (v70 B)
def v200 : FVec Ideal S1x64x1 .f32 := k0_pay44 (v92 B)
def v201 : FVec Ideal S1x64x1 .f32 := k0_pay45 (v114 B)
def v202 : FVec Ideal S1x64x1 .f32 := k0_pay46 (v136 B)
def v205 : FVec Ideal S8x64x1 .f32 := k0_pay47 (v158 B) (v180 B) (v197 B) (v198 B) (v199 B) (v200 B) (v201 B) (v202 B)
def v214 : FVec Ideal S8x64x1 .f32 := k0_pay48 (v32 B) (v54 B) (v76 B) (v98 B) (v120 B) (v142 B) (v164 B) (v186 B)
def v232 : FVec Ideal S8x1x1 .f32 := k0_pay49 (v42 B) (v64 B) (v86 B) (v108 B) (v130 B) (v152 B) (v174 B) (v196 B)
def v239 : FVec Ideal S8x64x64 .f32 := k0_pay50 v3 v4 (v32 B) (v38 B) (v54 B) (v60 B) (v76 B) (v82 B) (v98 B) (v104 B) (v120 B) (v126 B) (v142 B) (v148 B) (v164 B) (v170 B) (v186 B) (v192 B)
def v240 : FVec Ideal S8x64x1 .f32 := k0_pay51 (v32 B) (v54 B) (v76 B) (v98 B) (v120 B) (v142 B) (v164 B) (v186 B)
def v243 : FVec Ideal S8x64x1 .f32 := k0_pay52 (v32 B) (v42 B) (v54 B) (v64 B) (v76 B) (v86 B) (v98 B) (v108 B) (v120 B) (v130 B) (v142 B) (v152 B) (v164 B) (v174 B) (v186 B) (v196 B)
def v244 : FVec Ideal S8x1x1 .f32 := k0_pay53 (v42 B) (v64 B) (v86 B) (v108 B) (v130 B) (v152 B) (v174 B) (v196 B)
def v247 : FVec Ideal S8x64x128 .f32 := k0_pay54 B.q
def v252 : FVec Ideal S8x64x128 .f32 := k0_pay55 (v205 B) B.k
def v254 : FVec Ideal S8x64x128 .f32 := k0_pay56 (v205 B) (v240 B) B.k
def v261 : FVec Ideal S8x64x64 .f32 := k0_pay57 v3 v4 (v205 B) (v239 B) B.k
def v263 : FVec Ideal S8x64x64 .f32 := k0_pay58 B.T
def v266 : FVec Ideal S8x64x256 .f32 := k0_pay59 (v205 B) (v240 B) B.k B.v
def v269 : FVec Ideal S8x64x256 .f32 := k0_pay60 (v205 B) (v240 B) B.k B.v B.T
def v271 : FVec Ideal S8x64x128 .f32 := k0_pay61 (v205 B) (v240 B) B.k B.v B.T
def v275 : FVec Ideal S8x64x64 .f32 := k0_pay62 (v239 B) (v247 B) B.k
def v277 : FVec Ideal S8x128x128 .f32 := k0_pay63 B.S
def v280 : FVec Ideal S8x64x128 .f32 := k0_pay64 (v240 B) (v247 B)
def v282 : FVec Ideal S8x64x128 .f32 := k0_pay65 (v243 B) B.k
def v286 : FVec Ideal S8x64x128 .f32 := k0_pay66 (v205 B) (v240 B) B.k B.v B.T B.S
def v289 : FVec Ideal S8x64x128 .f32 := k0_pay67 (v243 B) B.k B.dS
def v290 : FVec Ideal S8x64x64 .bf16 := k0_pay68 (v239 B) (v247 B) B.k
def v291 : FVec Ideal S8x64x128 .bf16 := k0_pay69 B.dO
def v293 : FVec Ideal S8x64x128 .f32 := k0_pay70 (v289 B) (v290 B) (v291 B)
def v296 : FVec Ideal S8x64x128 .f32 := k0_pay71 B.dS (v286 B)
def v301 : FVec Ideal S8x1x1 .f32 := k0_pay72 (v277 B) B.dS
def v304 : FVec Ideal S8x64x128 .f32 := k0_pay73 B.dO (v277 B)
def v310 : FVec Ideal S8x64x64 .f32 := k0_pay74 v3 v4 B.dO (v286 B)
def v328 : FVec Ideal S8x128x128 .f32 := k0_pay75 (v244 B) B.dO (v271 B) B.dS (v280 B) (v289 B) (v290 B) (v291 B)
def v329 : FVec Ideal S8x64x256 .f32 := k0_pay76 (v277 B) (v289 B) (v290 B) (v291 B)
def v332 : FVec Ideal S8x64x64 .f32 := k0_pay77 (v266 B) (v277 B) (v289 B) (v290 B) (v291 B)
def v333 : FVec Ideal S8x64x64 .bf16 := k0_pay78 (v263 B)
def v334 : FVec Ideal S8x64x256 .bf16 := k0_pay79 (v277 B) (v289 B) (v290 B) (v291 B)
def v335 : FVec Ideal S8x64x256 .f32 := k0_pay80 (v333 B) (v334 B) cst122
def v336 : FVec Ideal S8x64x128 .f32 := k0_pay81 (v333 B) (v334 B) cst122
def v337 : FVec Ideal S8x64x128 .f32 := k0_pay82 (v333 B) (v334 B) cst122
def v348 : FVec Ideal S8x64x64 .f32 := k0_pay83 v3 v4 (v263 B) (v332 B)
def v349 : FVec Ideal S8x64x64 .f32 := k0_pay84 v3 v4 (v239 B) (v263 B) (v332 B)
def v350 : FVec Ideal S8x64x64 .f32 := k0_pay85 (v239 B) (v310 B)
def v356 : FVec Ideal S8x64x128 .f32 := k0_pay86 v3 v4 (v239 B) (v240 B) B.k (v263 B) (v332 B) (v333 B) (v334 B) cst122
def v369 : FVec Ideal S8x64x128 .f32 := k0_pay87 v3 v4 (v205 B) (v239 B) (v240 B) (v243 B) (v247 B) B.k (v252 B) (v263 B) (v296 B) (v310 B) (v332 B) (v333 B) (v334 B) cst122
def v378 : FVec Ideal S8x64x128 .f32 := k0_pay88 (v239 B) (v240 B) B.k (v304 B) (v310 B)
def v381 : FVec Ideal S8x64x128 .f32 := k0_pay89 (v205 B) (v336 B)
def v420 : FVec Ideal S8x64x1 .f32 := k0_pay90 v3 v4 (v244 B) (v254 B) (v261 B) (v275 B) (v280 B) (v282 B) (v296 B) (v301 B) (v304 B) (v310 B) (v337 B) (v348 B)
def v423 : FVec Ideal S8x64x128 .f32 := k0_pay91 B.k B.v (v336 B) (v356 B)
def v425 : FVec Ideal S8x64x1 .f32 := k0_pay92 (v423 B)
def v463 : FVec Ideal S64x128 .f32 := k0_pay93 (v420 B)
def v470 : FVec Ideal S64x128 .f32 := k0_pay94 (v423 B)
def v474 : FVec Ideal S64x1 .f32 := k0_pay96 (v420 B)
def v519 : FVec Ideal S64x128 .f32 := k0_pay97 (v420 B) v16 (v463 B) v472 (v474 B)
def v526 : FVec Ideal S64x128 .f32 := k0_pay98 (v425 B) v16 (v470 B)
def v547 : FVec Ideal S64x128 .f32 := k0_pay1 (v420 B) (v425 B) v16 (v519 B) (v526 B) 15#32

end Cert.Delta.Ker

end
-- ==== Proof.KerOuts.lean ====
/-
  What one grid point leaves in each output and in the scratch buffer, as a value of the body.
-/
module

public import proofs.«01_k».proof.Proof.KerBody

@[expose] public section

set_option maxRecDepth 16384

noncomputable section

namespace Cert.Delta.Ker

open Idealize.ShloMosaic Cert.KernelIdeal Cert.KernelIdeal.Gen

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

theorem out0_A_7_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = v378 ⟨x0, x1, x2, x3, x4, x5, x6, k0_pay2 (F := Ideal)⟩ := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_A_8_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = v369 ⟨x0, x1, x2, x3, x4, x5, x6, k0_pay2 (F := Ideal)⟩ := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_A_9_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = v381 ⟨x0, x1, x2, x3, x4, x5, x6, k0_pay2 (F := Ideal)⟩ := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_A_10_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = v547 ⟨x0, x1, x2, x3, x4, x5, x6, k0_pay2 (F := Ideal)⟩ := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem sout0_A_0_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = v328 ⟨x0, x1, x2, x3, x4, x5, x6, k0_pay2 (F := Ideal)⟩ := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_B_7_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : ¬cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) (xs0 : Vec Ideal S8x128x128 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = v378 ⟨x0, x1, x2, x3, x4, x5, x6, xs0⟩ := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)]
  unfold kernelRun0_B
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_B_8_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : ¬cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) (xs0 : Vec Ideal S8x128x128 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = v369 ⟨x0, x1, x2, x3, x4, x5, x6, xs0⟩ := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)]
  unfold kernelRun0_B
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_B_9_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : ¬cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) (xs0 : Vec Ideal S8x128x128 .f32) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = v381 ⟨x0, x1, x2, x3, x4, x5, x6, xs0⟩ := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)]
  unfold kernelRun0_B
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem out0_B_10_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : ¬cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) (xs0 : Vec Ideal S8x128x128 .f32) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = v547 ⟨x0, x1, x2, x3, x4, x5, x6, xs0⟩ := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)]
  unfold kernelRun0_B
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

theorem sout0_B_0_eq (c : Dev nD) (i : grid0.Coords) (arg1 : Memref sig .tc .vmem S8x64x128 .f32) (harg1 : arg1.IsWhole) (arg2 : Memref sig .tc .vmem S8x64x128 .f32) (harg2 : arg2.IsWhole) (arg3 : Memref sig .tc .vmem S8x64x128 .f32) (harg3 : arg3.IsWhole) (arg4 : Memref sig .tc .vmem S64x128 .f32) (harg4 : arg4.IsWhole) (arg5 : Memref sig .tc .vmem S8x64x128 .f32) (harg5 : arg5.IsWhole) (arg6 : Memref sig .tc .vmem S1x8x128x128 .f32) (harg6 : arg6.IsWhole) (arg7 : Memref sig .tc .vmem S1x8x64x64 .f32) (harg7 : arg7.IsWhole) (arg8 : Memref sig .tc .vmem S8x64x128 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S64x128 .f32) (harg11 : arg11.IsWhole) (arg12 : Memref sig .tc .vmem S8x128x128 .f32) (harg12 : arg12.IsWhole) (hc0 : ¬cond0_0 i)
    (x0 : Vec Ideal S8x64x128 .f32) (x1 : Vec Ideal S8x64x128 .f32) (x2 : Vec Ideal S8x64x128 .f32) (x3 : Vec Ideal S64x128 .f32) (x4 : Vec Ideal S8x64x128 .f32) (x5 : Vec Ideal S1x8x128x128 .f32) (x6 : Vec Ideal S1x8x64x64 .f32) (xs0 : Vec Ideal S8x128x128 .f32) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = v328 ⟨x0, x1, x2, x3, x4, x5, x6, xs0⟩ := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)]
  unfold kernelRun0_B
  dsimp only
  sl_unfold_words
  simp only [View.readAt_eq_ld, View.canon_unit_zero (S := S8x64x128) z3, View.canon_unit_zero (S := S64x128) z2, View.canon_cons_unit_zero (S := S8x128x128) z3, View.ld_unit_zero (S := S8x64x128) z3, View.ld_unit_zero (S := S64x128) z2, View.ld_unit_zero (S := S1x8x128x128) z4, View.ld_unit_zero (S := S1x8x64x64) z4, View.ld_unit_zero (S := S8x128x128) z3, View.readCov_unit_zero (S := S8x128x128) _ z3, Memref.IsWhole.read_unread]
  rfl

end Cert.Delta.Ker

end
-- ==== Proof.KerChunk.lean ====
/-
  What one grid point of the kernel computes, at an index: every value of the body is a real of `Chunk`, when the blocks that
  the point reads are reals.
-/
module

public import proofs.«01_k».proof.Proof.Chunk
public import proofs.«01_k».proof.Proof.KerBody

@[expose] public section

set_option maxRecDepth 16384

noncomputable section

namespace Cert.Delta

open scoped BigOperators

/-- The gradients' factors side by side: values times β, then keys times β decayed from the chunk's beginning. -/
def Chunk.vk (x : Chunk) (h : Fin 8) (i : Fin 64) (d : Fin 256) : ℝ :=
  if hd : d.val < 128 then x.vb h i ⟨d.val, hd⟩ else x.kbg h i ⟨d.val - 128, by omega⟩
/-- The gradients of `vn` and of `w` side by side. -/
def Chunk.dvw (x : Chunk) (h : Fin 8) (i : Fin 64) (d : Fin 256) : ℝ :=
  if hd : d.val < 128 then x.dvn h i ⟨d.val, hd⟩ else x.dw h i ⟨d.val - 128, by omega⟩

/-- A sum over 256 lanes is the sums over its two halves. -/
theorem sum_halves (f : Fin 256 → ℝ) :
    ∑ d, f d = (∑ d : Fin 128, f ⟨d.val, by omega⟩) + ∑ d : Fin 128, f ⟨128 + d.val, by omega⟩ :=
  Fin.sum_univ_add (a := 128) (b := 128) f

/-- Eight choices by a lane's number are one choice of the lane's entry. -/
theorem lanes_eq (o n : ℕ) (f : Fin 8 → ℝ) :
    (if n = o + 7 then f 7 else if n = o + 6 then f 6 else if n = o + 5 then f 5 else if n = o + 4 then f 4
      else if n = o + 3 then f 3 else if n = o + 2 then f 2 else if n = o + 1 then f 1 else if n = o then f 0 else 0)
    = if h : o ≤ n ∧ n < o + 8 then f ⟨n - o, by omega⟩ else 0 := by
  by_cases h : o ≤ n ∧ n < o + 8
  · rw [dif_pos h]
    obtain ⟨k, rfl⟩ := Nat.exists_eq_add_of_le h.1
    have hk : k < 8 := by omega
    interval_cases k <;> simp
  · rw [dif_neg h]
    repeat rw [if_neg (by omega)]

namespace Ker

open Idealize.ShloMosaic Cert.KernelIdeal Cert.KernelIdeal.Gen

/-- The blocks are the chunk `x`, every entry a real. -/
structure Reads (B : Blk) (x : Chunk) : Prop where
  q : ∀ h i d, B.q (ix3 h i d) = (x.q h i d : EReal)
  k : ∀ h i d, B.k (ix3 h i d) = (x.k h i d : EReal)
  v : ∀ h i d, B.v (ix3 h i d) = (x.v h i d : EReal)
  gb : ∀ i c, B.gb (ix2 i c) = (x.gb i c : EReal)
  dO : ∀ h i d, B.dO (ix3 h i d) = (x.dO h i d : EReal)
  S : ∀ h d e, B.S (ix4 0 h d e) = (x.S h d e : EReal)
  T : ∀ h i l, B.T (ix4 0 h i l) = (x.T h i l : EReal)
  dS : ∀ h d e, B.dS (ix3 h d e) = (x.dS h d e : EReal)

/-- Choosing by a lane's number. -/
theorem select_lane {α : Type} (c : Fin 128) (n : ℕ) (hn : n < 2 ^ 32) (a b : α) :
    Scalar.select (IntOp.cmpi .eq (BitVec.ofNat 32 c.val) (BitVec.ofNat 32 n)) a b = if c.val = n then a else b :=
  select_eq_nat _ _ (by omega) hn a b

/-- Choosing on the diagonal. -/
theorem select_diag {α : Type} (i j : Fin 64) (a b : α) :
    Scalar.select (IntOp.cmpi .eq (BitVec.ofNat 32 i.val) (BitVec.ofNat 32 j.val)) a b = if i = j then a else b := by
  rw [select_eq_nat _ _ (by omega) (by omega)]
  simp only [Fin.ext_iff]

/-- Choosing the last row. -/
theorem select_last {α : Type} (i : Fin 64) (a b : α) :
    Scalar.select (IntOp.cmpi .eq (BitVec.ofNat 32 i.val) 63#32) a b = if i = 63 then a else b :=
  select_diag i 63 a b

variable {B : Blk} {x : Chunk}

theorem v11_at (H : Reads B x) (i : Fin 64) (c : Fin 128) : v11 B (ix2 i c) = ((∑ l, if l ≤ i then x.gb l c else 0 : ℝ) : EReal) := by
  pointwise [v11, k0_pay3, H.gb, v3, v4, v16, v17, cst122]
  simp only [tri_ge]
  simp only [← EReal.coe_mul, ← coe_sum]
  refine congrArg Real.toEReal ?_
  exact Finset.sum_congr rfl fun l _ => by split <;> simp

theorem f11 : k0_pay3 B.gb = v11 B := rfl

theorem v15_at (H : Reads B x) (c : Fin 128) (i : Fin 64) : v15 B (ix2 c i) = ((∑ l, if l ≤ i then x.gb l c else 0 : ℝ) : EReal) := by
  pointwise [v15, k0_pay4, H.gb, v3, v4, v16, v17, cst122]
  simp only [tri_le]
  simp only [← EReal.coe_mul, ← coe_sum]
  refine congrArg Real.toEReal ?_
  exact Finset.sum_congr rfl fun l _ => by split <;> simp

theorem f15 : k0_pay4 B.gb = v15 B := rfl

theorem v26_at (H : Reads B x) (i : Fin 64) : v26 B (ix2 i 0) = ((x.beta 0 i : ℝ) : EReal) := by
  pointwise [v26, k0_pay6, H.gb, v3, v4, v16, v17, cst122]
  rw [sum_select 0 (by norm_num) (by norm_num)]
  rfl

theorem f26 : k0_pay6 B.gb = v26 B := rfl

theorem v32_at (H : Reads B x) (i : Fin 64) : v32 B (ix2 i 0) = ((x.gam 0 i : ℝ) : EReal) := by
  pointwise [v32, k0_pay7, H.gb, f11, v11_at H, v3, v4, v16, v17, cst122]
  rw [sum_select 8 (by norm_num) (by norm_num)]
  rfl

theorem f32 : k0_pay7 B.gb = v32 B := rfl

theorem v38_at (H : Reads B x) (i : Fin 64) : v38 B (ix2 0 i) = ((x.gam 0 i : ℝ) : EReal) := by
  pointwise [v38, k0_pay8, H.gb, f15, v15_at H, v3, v4, v16, v17, cst122]
  rw [sum_select 8 (by norm_num) (by norm_num)]
  rfl

theorem f38 : k0_pay8 B.gb = v38 B := rfl

theorem v40_at (H : Reads B x) (i : Fin 64) : v40 B (ix2 0 i) = Scalar.select (IntOp.cmpi .eq (BitVec.ofNat 32 i.val) (BitVec.ofNat 32 63)) ((x.gam 0 i : ℝ) : EReal) 0 := by
  pointwise [v40, k0_pay9, k0_pay5, f38, v38_at H]

theorem v42_at (H : Reads B x)  : v42 B (ix2 0 0) = ((x.gam 0 63 : ℝ) : EReal) := by
  pointwise [v42, k0_pay10, v40_at H, v3, v4, v16, v17, cst122]
  rw [sum_select 63 (by norm_num) (by norm_num)]
  rfl

theorem f42 : k0_pay10 (v40 B) = v42 B := rfl

theorem v48_at (H : Reads B x) (i : Fin 64) : v48 B (ix2 i 0) = ((x.beta 1 i : ℝ) : EReal) := by
  pointwise [v48, k0_pay11, H.gb, v3, v4, v16, v17, cst122]
  rw [sum_select 1 (by norm_num) (by norm_num)]
  rfl

theorem f48 : k0_pay11 B.gb v16 = v48 B := rfl

theorem v54_at (H : Reads B x) (i : Fin 64) : v54 B (ix2 i 0) = ((x.gam 1 i : ℝ) : EReal) := by
  pointwise [v54, k0_pay12, v11_at H, v3, v4, v16, v17, cst122]
  rw [sum_select 9 (by norm_num) (by norm_num)]
  rfl

theorem f54 : k0_pay12 (v11 B) v16 = v54 B := rfl

theorem v60_at (H : Reads B x) (i : Fin 64) : v60 B (ix2 0 i) = ((x.gam 1 i : ℝ) : EReal) := by
  pointwise [v60, k0_pay13, v15_at H, v3, v4, v16, v17, cst122]
  rw [sum_select 9 (by norm_num) (by norm_num)]
  rfl

theorem f60 : k0_pay13 (v15 B) v17 = v60 B := rfl

theorem v64_at (H : Reads B x)  : v64 B (ix2 0 0) = ((x.gam 1 63 : ℝ) : EReal) := by
  pointwise [v64, k0_pay14, v15_at H, v20, k0_pay5, f60, v60_at H, v3, v4, v16, cst122]
  rw [sum_select 63 (by norm_num) (by norm_num)]
  rfl

theorem f64 : k0_pay14 (v15 B) v17 v20 = v64 B := rfl

theorem v70_at (H : Reads B x) (i : Fin 64) : v70 B (ix2 i 0) = ((x.beta 2 i : ℝ) : EReal) := by
  pointwise [v70, k0_pay15, H.gb, v3, v4, v16, v17, cst122]
  rw [sum_select 2 (by norm_num) (by norm_num)]
  rfl

theorem f70 : k0_pay15 B.gb v16 = v70 B := rfl

theorem v80_at (H : Reads B x) (c : Fin 128) (i : Fin 64) : v80 B (ix2 c i) = Scalar.select (IntOp.cmpi .eq (BitVec.ofNat 32 c.val) (BitVec.ofNat 32 10)) ((∑ l, if l ≤ i then x.gb l c else 0 : ℝ) : EReal) 0 := by
  pointwise [v80, k0_pay17, v17, v15_at H]

theorem v76_at (H : Reads B x) (i : Fin 64) : v76 B (ix2 i 0) = ((x.gam 2 i : ℝ) : EReal) := by
  pointwise [v76, k0_pay16, v11_at H, v3, v4, v16, v17, cst122]
  rw [sum_select 10 (by norm_num) (by norm_num)]
  rfl

theorem f76 : k0_pay16 (v11 B) v16 = v76 B := rfl

theorem v82_at (H : Reads B x) (i : Fin 64) : v82 B (ix2 0 i) = ((x.gam 2 i : ℝ) : EReal) := by
  pointwise [v82, k0_pay18, v80_at H, v3, v4, v16, v17, cst122]
  rw [sum_select 10 (by norm_num) (by norm_num)]
  rfl

theorem f82 : k0_pay18 (v80 B) = v82 B := rfl

theorem v86_at (H : Reads B x)  : v86 B (ix2 0 0) = ((x.gam 2 63 : ℝ) : EReal) := by
  pointwise [v86, k0_pay19, v20, k0_pay5, v80_at H, f82, v82_at H, v3, v4, v16, v17, cst122]
  rw [sum_select 63 (by norm_num) (by norm_num)]
  rfl

theorem f86 : k0_pay19 v20 (v80 B) = v86 B := rfl

theorem v92_at (H : Reads B x) (i : Fin 64) : v92 B (ix2 i 0) = ((x.beta 3 i : ℝ) : EReal) := by
  pointwise [v92, k0_pay20, H.gb, v3, v4, v16, v17, cst122]
  rw [sum_select 3 (by norm_num) (by norm_num)]
  rfl

theorem f92 : k0_pay20 B.gb v16 = v92 B := rfl

theorem v98_at (H : Reads B x) (i : Fin 64) : v98 B (ix2 i 0) = ((x.gam 3 i : ℝ) : EReal) := by
  pointwise [v98, k0_pay21, v11_at H, v3, v4, v16, v17, cst122]
  rw [sum_select 11 (by norm_num) (by norm_num)]
  rfl

theorem f98 : k0_pay21 (v11 B) v16 = v98 B := rfl

theorem v104_at (H : Reads B x) (i : Fin 64) : v104 B (ix2 0 i) = ((x.gam 3 i : ℝ) : EReal) := by
  pointwise [v104, k0_pay22, v15_at H, v3, v4, v16, v17, cst122]
  rw [sum_select 11 (by norm_num) (by norm_num)]
  rfl

theorem f104 : k0_pay22 (v15 B) v17 = v104 B := rfl

theorem v108_at (H : Reads B x)  : v108 B (ix2 0 0) = ((x.gam 3 63 : ℝ) : EReal) := by
  pointwise [v108, k0_pay23, v15_at H, v20, k0_pay5, f104, v104_at H, v3, v4, v16, cst122]
  rw [sum_select 63 (by norm_num) (by norm_num)]
  rfl

theorem f108 : k0_pay23 (v15 B) v17 v20 = v108 B := rfl

theorem v114_at (H : Reads B x) (i : Fin 64) : v114 B (ix2 i 0) = ((x.beta 4 i : ℝ) : EReal) := by
  pointwise [v114, k0_pay24, H.gb, v3, v4, v16, v17, cst122]
  rw [sum_select 4 (by norm_num) (by norm_num)]
  rfl

theorem f114 : k0_pay24 B.gb v16 = v114 B := rfl

theorem v120_at (H : Reads B x) (i : Fin 64) : v120 B (ix2 i 0) = ((x.gam 4 i : ℝ) : EReal) := by
  pointwise [v120, k0_pay25, v11_at H, v3, v4, v16, v17, cst122]
  rw [sum_select 12 (by norm_num) (by norm_num)]
  rfl

theorem f120 : k0_pay25 (v11 B) v16 = v120 B := rfl

theorem v126_at (H : Reads B x) (i : Fin 64) : v126 B (ix2 0 i) = ((x.gam 4 i : ℝ) : EReal) := by
  pointwise [v126, k0_pay26, v15_at H, v3, v4, v16, v17, cst122]
  rw [sum_select 12 (by norm_num) (by norm_num)]
  rfl

theorem f126 : k0_pay26 (v15 B) v17 = v126 B := rfl

theorem v130_at (H : Reads B x)  : v130 B (ix2 0 0) = ((x.gam 4 63 : ℝ) : EReal) := by
  pointwise [v130, k0_pay27, v15_at H, v20, k0_pay5, f126, v126_at H, v3, v4, v16, cst122]
  rw [sum_select 63 (by norm_num) (by norm_num)]
  rfl

theorem f130 : k0_pay27 (v15 B) v17 v20 = v130 B := rfl

theorem v136_at (H : Reads B x) (i : Fin 64) : v136 B (ix2 i 0) = ((x.beta 5 i : ℝ) : EReal) := by
  pointwise [v136, k0_pay28, H.gb, v3, v4, v16, v17, cst122]
  rw [sum_select 5 (by norm_num) (by norm_num)]
  rfl

theorem f136 : k0_pay28 B.gb v16 = v136 B := rfl

theorem v142_at (H : Reads B x) (i : Fin 64) : v142 B (ix2 i 0) = ((x.gam 5 i : ℝ) : EReal) := by
  pointwise [v142, k0_pay29, v11_at H, v3, v4, v16, v17, cst122]
  rw [sum_select 13 (by norm_num) (by norm_num)]
  rfl

theorem f142 : k0_pay29 (v11 B) v16 = v142 B := rfl

theorem v148_at (H : Reads B x) (i : Fin 64) : v148 B (ix2 0 i) = ((x.gam 5 i : ℝ) : EReal) := by
  pointwise [v148, k0_pay30, v15_at H, v3, v4, v16, v17, cst122]
  rw [sum_select 13 (by norm_num) (by norm_num)]
  rfl

theorem f148 : k0_pay30 (v15 B) v17 = v148 B := rfl

theorem v152_at (H : Reads B x)  : v152 B (ix2 0 0) = ((x.gam 5 63 : ℝ) : EReal) := by
  pointwise [v152, k0_pay31, v15_at H, v20, k0_pay5, f148, v148_at H, v3, v4, v16, cst122]
  rw [sum_select 63 (by norm_num) (by norm_num)]
  rfl

theorem f152 : k0_pay31 (v15 B) v17 v20 = v152 B := rfl

theorem v158_at (H : Reads B x) (i : Fin 64) : v158 B (ix2 i 0) = ((x.beta 6 i : ℝ) : EReal) := by
  pointwise [v158, k0_pay32, H.gb, v3, v4, v16, v17, cst122]
  rw [sum_select 6 (by norm_num) (by norm_num)]
  rfl

theorem f158 : k0_pay32 B.gb v16 = v158 B := rfl

theorem v164_at (H : Reads B x) (i : Fin 64) : v164 B (ix2 i 0) = ((x.gam 6 i : ℝ) : EReal) := by
  pointwise [v164, k0_pay34, v11_at H, v160, k0_pay33, v3, v4, v16, v17, cst122]
  rw [sum_select 14 (by norm_num) (by norm_num)]
  rfl

theorem f164 : k0_pay34 (v11 B) v160 = v164 B := rfl

theorem v170_at (H : Reads B x) (i : Fin 64) : v170 B (ix2 0 i) = ((x.gam 6 i : ℝ) : EReal) := by
  pointwise [v170, k0_pay35, v15_at H, v3, v4, v16, v17, cst122]
  rw [sum_select 14 (by norm_num) (by norm_num)]
  rfl

theorem f170 : k0_pay35 (v15 B) v17 = v170 B := rfl

theorem v174_at (H : Reads B x)  : v174 B (ix2 0 0) = ((x.gam 6 63 : ℝ) : EReal) := by
  pointwise [v174, k0_pay36, v15_at H, v20, k0_pay5, f170, v170_at H, v3, v4, v16, cst122]
  rw [sum_select 63 (by norm_num) (by norm_num)]
  rfl

theorem f174 : k0_pay36 (v15 B) v17 v20 = v174 B := rfl

theorem v180_at (H : Reads B x) (i : Fin 64) : v180 B (ix2 i 0) = ((x.beta 7 i : ℝ) : EReal) := by
  pointwise [v180, k0_pay37, H.gb, v3, v4, v16, v17, cst122]
  rw [sum_select 7 (by norm_num) (by norm_num)]
  rfl

theorem f180 : k0_pay37 B.gb v16 = v180 B := rfl

theorem v186_at (H : Reads B x) (i : Fin 64) : v186 B (ix2 i 0) = ((x.gam 7 i : ℝ) : EReal) := by
  pointwise [v186, k0_pay38, v11_at H, v3, v4, v16, v17, cst122]
  rw [sum_select 15 (by norm_num) (by norm_num)]
  rfl

theorem f186 : k0_pay38 (v11 B) v16 = v186 B := rfl

theorem v192_at (H : Reads B x) (i : Fin 64) : v192 B (ix2 0 i) = ((x.gam 7 i : ℝ) : EReal) := by
  pointwise [v192, k0_pay39, v15_at H, v3, v4, v16, v17, cst122]
  rw [sum_select 15 (by norm_num) (by norm_num)]
  rfl

theorem f192 : k0_pay39 (v15 B) v17 = v192 B := rfl

theorem v196_at (H : Reads B x)  : v196 B (ix2 0 0) = ((x.gam 7 63 : ℝ) : EReal) := by
  pointwise [v196, k0_pay40, v15_at H, v20, k0_pay5, f192, v192_at H, v3, v4, v16, cst122]
  rw [sum_select 63 (by norm_num) (by norm_num)]
  rfl

theorem f196 : k0_pay40 (v15 B) v17 v20 = v196 B := rfl

theorem v197_at (H : Reads B x) (z : Fin 1) (i : Fin 64) : v197 B (ix3 z i 0) = ((x.beta 0 i : ℝ) : EReal) := by
  pointwise [v197, k0_pay41, v26_at H, v3, v4, v16, v17, cst122]

theorem f197 : k0_pay41 (v26 B) = v197 B := rfl

theorem v198_at (H : Reads B x) (z : Fin 1) (i : Fin 64) : v198 B (ix3 z i 0) = ((x.beta 1 i : ℝ) : EReal) := by
  pointwise [v198, k0_pay42, v48_at H, v3, v4, v16, v17, cst122]

theorem f198 : k0_pay42 (v48 B) = v198 B := rfl

theorem v199_at (H : Reads B x) (z : Fin 1) (i : Fin 64) : v199 B (ix3 z i 0) = ((x.beta 2 i : ℝ) : EReal) := by
  pointwise [v199, k0_pay43, v70_at H, v3, v4, v16, v17, cst122]

theorem f199 : k0_pay43 (v70 B) = v199 B := rfl

theorem v200_at (H : Reads B x) (z : Fin 1) (i : Fin 64) : v200 B (ix3 z i 0) = ((x.beta 3 i : ℝ) : EReal) := by
  pointwise [v200, k0_pay44, v92_at H, v3, v4, v16, v17, cst122]

theorem f200 : k0_pay44 (v92 B) = v200 B := rfl

theorem v201_at (H : Reads B x) (z : Fin 1) (i : Fin 64) : v201 B (ix3 z i 0) = ((x.beta 4 i : ℝ) : EReal) := by
  pointwise [v201, k0_pay45, v114_at H, v3, v4, v16, v17, cst122]

theorem f201 : k0_pay45 (v114 B) = v201 B := rfl

theorem v202_at (H : Reads B x) (z : Fin 1) (i : Fin 64) : v202 B (ix3 z i 0) = ((x.beta 5 i : ℝ) : EReal) := by
  pointwise [v202, k0_pay46, v136_at H, v3, v4, v16, v17, cst122]

theorem f202 : k0_pay46 (v136 B) = v202 B := rfl

theorem v205_at (H : Reads B x) (h : Fin 8) (i : Fin 64) : v205 B (ix3 h i 0) = ((x.beta h i : ℝ) : EReal) := by
  fin_cases h <;> pointwise [v205, k0_pay47, v197_at H, v198_at H, v199_at H, v200_at H, v201_at H, v202_at H, v158_at H, v180_at H]

theorem f205 : k0_pay47 (v158 B) (v180 B) (v197 B) (v198 B) (v199 B) (v200 B) (v201 B) (v202 B) = v205 B := rfl

theorem v214_at (H : Reads B x) (h : Fin 8) (i : Fin 64) : v214 B (ix3 h i 0) = ((x.gam h i : ℝ) : EReal) := by
  fin_cases h <;> pointwise [v214, k0_pay48, v32_at H, v54_at H, v76_at H, v98_at H, v120_at H, v142_at H, v164_at H, v186_at H]

theorem f214 : k0_pay48 (v32 B) (v54 B) (v76 B) (v98 B) (v120 B) (v142 B) (v164 B) (v186 B) = v214 B := rfl

theorem v232_at (H : Reads B x) (h : Fin 8) : v232 B (ix3 h 0 0) = ((x.gam h 63 : ℝ) : EReal) := by
  fin_cases h <;> pointwise [v232, k0_pay49, v42_at H, v64_at H, v86_at H, v108_at H, v130_at H, v152_at H, v174_at H, v196_at H]

theorem f232 : k0_pay49 (v42 B) (v64 B) (v86 B) (v108 B) (v130 B) (v152 B) (v174 B) (v196 B) = v232 B := rfl

theorem v239_at (H : Reads B x) (h : Fin 8) (i l : Fin 64) : v239 B (ix3 h i l) = ((x.dec h i l : ℝ) : EReal) := by
  have e : v239 B (ix3 h i l) = Ideal.exp (Scalar.select (IntOp.cmpi .sge (BitVec.ofNat 32 i.val) (BitVec.ofNat 32 l.val))
      ((x.gam h i : EReal) - (x.gam h l : EReal)) (Ideal.ofBits .f32 0xFF800000#32)) := by
    fin_cases h <;> pointwise [v239, k0_pay50, v3, v4, f214, v214_at H, v38_at H, v60_at H, v82_at H, v104_at H, v126_at H, v148_at H, v170_at H, v192_at H]
  rw [e, select_sge, neg_inf_bits, ← EReal.coe_sub, exp_ite_bot]
  rfl

theorem v240_at (H : Reads B x) (h : Fin 8) (i : Fin 64) : v240 B (ix3 h i 0) = ((x.eg h i : ℝ) : EReal) := by
  pointwise [v240, k0_pay51, v32_at H, v54_at H, v76_at H, v98_at H, v120_at H, v142_at H, v164_at H, v186_at H, f214, v214_at H, v3, v4, v16, v17, cst122]
  norm_cast

theorem f240 : k0_pay51 (v32 B) (v54 B) (v76 B) (v98 B) (v120 B) (v142 B) (v164 B) (v186 B) = v240 B := rfl

theorem v243_at (H : Reads B x) (h : Fin 8) (i : Fin 64) : v243 B (ix3 h i 0) = ((x.ek h i : ℝ) : EReal) := by
  pointwise [v243, k0_pay52, v32_at H, v42_at H, v54_at H, v64_at H, v76_at H, v86_at H, v98_at H, v108_at H, v120_at H, v130_at H, v142_at H, v152_at H, v164_at H, v174_at H, v186_at H, v196_at H, f232, v232_at H, f214, v214_at H, v3, v4, v16, v17, cst122]
  norm_cast

theorem f243 : k0_pay52 (v32 B) (v42 B) (v54 B) (v64 B) (v76 B) (v86 B) (v98 B) (v108 B) (v120 B) (v130 B) (v142 B) (v152 B) (v164 B) (v174 B) (v186 B) (v196 B) = v243 B := rfl

theorem v244_at (H : Reads B x) (h : Fin 8) : v244 B (ix3 h 0 0) = ((x.gt h : ℝ) : EReal) := by
  pointwise [v244, k0_pay53, v42_at H, v64_at H, v86_at H, v108_at H, v130_at H, v152_at H, v174_at H, v196_at H, f232, v232_at H, v3, v4, v16, v17, cst122]
  norm_cast

theorem f244 : k0_pay53 (v42 B) (v64 B) (v86 B) (v108 B) (v130 B) (v152 B) (v174 B) (v196 B) = v244 B := rfl

theorem v247_at (H : Reads B x) (h : Fin 8) (i : Fin 64) (d : Fin 128) : v247 B (ix3 h i d) = ((x.qs h i d : ℝ) : EReal) := by
  pointwise [v247, k0_pay54, H.q, v3, v4, v16, v17, cst122]
  rw [scale_bits]
  rfl

theorem f247 : k0_pay54 B.q = v247 B := rfl

theorem v252_at (H : Reads B x) (h : Fin 8) (i : Fin 64) (d : Fin 128) : v252 B (ix3 h i d) = ((x.kb h i d : ℝ) : EReal) := by
  pointwise [v252, k0_pay55, v205_at H, H.k, v3, v4, v16, v17, cst122]
  norm_cast

theorem f252 : k0_pay55 (v205 B) B.k = v252 B := rfl

theorem v254_at (H : Reads B x) (h : Fin 8) (i : Fin 64) (d : Fin 128) : v254 B (ix3 h i d) = ((x.kbg h i d : ℝ) : EReal) := by
  pointwise [v254, k0_pay56, v205_at H, v240_at H, H.k, f252, v252_at H, v3, v4, v16, v17, cst122]
  norm_cast

theorem f254 : k0_pay56 (v205 B) (v240 B) B.k = v254 B := rfl

theorem v261_at (H : Reads B x) (h : Fin 8) (i l : Fin 64) : v261 B (ix3 h i l) = ((if l < i then x.kk h i l * x.dec h i l else 0 : ℝ) : EReal) := by
  pointwise [v261, k0_pay57, v205_at H, v239_at H, H.k, f252, v252_at H, v3, v4, v16, v17, cst122]
  rw [select_sgt]
  norm_cast

theorem f261 : k0_pay57 v3 v4 (v205 B) (v239 B) B.k = v261 B := rfl

theorem v263_at (H : Reads B x) (h : Fin 8) (i l : Fin 64) : v263 B (ix3 h i l) = ((x.T h i l : ℝ) : EReal) := by
  pointwise [v263, k0_pay58, H.T, v3, v4, v16, v17, cst122]

theorem f263 : k0_pay58 B.T = v263 B := rfl

theorem v266_at (H : Reads B x) (h : Fin 8) (i : Fin 64) (d : Fin 256) : v266 B (ix3 h i d) = ((x.vk h i d : ℝ) : EReal) := by
  pointwise [v266, k0_pay59, v205_at H, v240_at H, H.k, H.v, f254, v254_at H, v3, v4, v16, v17, cst122]
  simp only [Chunk.vk]
  split <;> norm_cast

theorem f266 : k0_pay59 (v205 B) (v240 B) B.k B.v = v266 B := rfl

theorem v269_at (H : Reads B x) (h : Fin 8) (i : Fin 64) (d : Fin 256) : v269 B (ix3 h i d) = ((∑ l, x.T h i l * x.vk h l d : ℝ) : EReal) := by
  pointwise [v269, k0_pay60, v205_at H, v240_at H, H.k, H.v, H.T, f263, v263_at H, f266, v266_at H, v3, v4, v16, v17, cst122]
  norm_cast

theorem f269 : k0_pay60 (v205 B) (v240 B) B.k B.v B.T = v269 B := rfl

theorem v271_at (H : Reads B x) (h : Fin 8) (i : Fin 64) (d : Fin 128) : v271 B (ix3 h i d) = ((x.w h i d : ℝ) : EReal) := by
  pointwise [v271, k0_pay61, v205_at H, v240_at H, H.k, H.v, H.T, f269, v269_at H, v3, v4, v16, v17, cst122]
  refine congrArg Real.toEReal ?_
  simp only [Chunk.w, Chunk.vk]
  exact Finset.sum_congr rfl fun _ _ => by simp

theorem f271 : k0_pay61 (v205 B) (v240 B) B.k B.v B.T = v271 B := rfl

theorem v275_at (H : Reads B x) (h : Fin 8) (i l : Fin 64) : v275 B (ix3 h i l) = ((x.att h i l : ℝ) : EReal) := by
  pointwise [v275, k0_pay62, v239_at H, v247_at H, H.k, v3, v4, v16, v17, cst122]
  norm_cast

theorem f275 : k0_pay62 (v239 B) (v247 B) B.k = v275 B := rfl

theorem v277_at (H : Reads B x) (h : Fin 8) (d e : Fin 128) : v277 B (ix3 h d e) = ((x.S h d e : ℝ) : EReal) := by
  pointwise [v277, k0_pay63, H.S, v3, v4, v16, v17, cst122]

theorem f277 : k0_pay63 B.S = v277 B := rfl

theorem v280_at (H : Reads B x) (h : Fin 8) (i : Fin 64) (d : Fin 128) : v280 B (ix3 h i d) = ((x.qd h i d : ℝ) : EReal) := by
  pointwise [v280, k0_pay64, v240_at H, v247_at H, v3, v4, v16, v17, cst122]
  norm_cast

theorem f280 : k0_pay64 (v240 B) (v247 B) = v280 B := rfl

theorem v282_at (H : Reads B x) (h : Fin 8) (i : Fin 64) (d : Fin 128) : v282 B (ix3 h i d) = ((x.kd h i d : ℝ) : EReal) := by
  pointwise [v282, k0_pay65, v243_at H, H.k, v3, v4, v16, v17, cst122]
  norm_cast

theorem f282 : k0_pay65 (v243 B) B.k = v282 B := rfl

theorem v286_at (H : Reads B x) (h : Fin 8) (i : Fin 64) (d : Fin 128) : v286 B (ix3 h i d) = ((x.vn h i d : ℝ) : EReal) := by
  pointwise [v286, k0_pay66, v205_at H, v240_at H, H.k, H.v, H.T, H.S, f269, v269_at H, f271, v271_at H, f277, v277_at H, v3, v4, v16, v17, cst122]
  norm_cast
  simp only [Chunk.vn, Chunk.u, Chunk.vk]
  simp

theorem f286 : k0_pay66 (v205 B) (v240 B) B.k B.v B.T B.S = v286 B := rfl

theorem v289_at (H : Reads B x) (h : Fin 8) (i : Fin 64) (d : Fin 128) : v289 B (ix3 h i d) = ((∑ e, x.kd h i e * x.dS h e d : ℝ) : EReal) := by
  pointwise [v289, k0_pay67, v243_at H, H.k, H.dS, f282, v282_at H, v3, v4, v16, v17, cst122]
  norm_cast

theorem f289 : k0_pay67 (v243 B) B.k B.dS = v289 B := rfl

theorem v290_at (H : Reads B x) (h : Fin 8) (i l : Fin 64) : v290 B (ix3 h i l) = ((x.att h i l : ℝ) : EReal) := by
  pointwise [v290, k0_pay68, v239_at H, v247_at H, H.k, f275, v275_at H, v3, v4, v16, v17, cst122]

theorem f290 : k0_pay68 (v239 B) (v247 B) B.k = v290 B := rfl

theorem v291_at (H : Reads B x) (h : Fin 8) (i : Fin 64) (d : Fin 128) : v291 B (ix3 h i d) = ((x.dO h i d : ℝ) : EReal) := by
  pointwise [v291, k0_pay69, H.dO, v3, v4, v16, v17, cst122]

theorem f291 : k0_pay69 B.dO = v291 B := rfl

theorem v293_at (H : Reads B x) (h : Fin 8) (i : Fin 64) (d : Fin 128) : v293 B (ix3 h i d) = ((x.dvn h i d : ℝ) : EReal) := by
  pointwise [v293, k0_pay70, v289_at H, v290_at H, v291_at H, v3, v4, v16, v17, cst122]
  norm_cast

theorem f293 : k0_pay70 (v289 B) (v290 B) (v291 B) = v293 B := rfl

theorem v296_at (H : Reads B x) (h : Fin 8) (i : Fin 64) (d : Fin 128) : v296 B (ix3 h i d) = ((x.dkd h i d : ℝ) : EReal) := by
  pointwise [v296, k0_pay71, H.dS, v286_at H, v3, v4, v16, v17, cst122]
  norm_cast

theorem f296 : k0_pay71 B.dS (v286 B) = v296 B := rfl

theorem v301_at (H : Reads B x) (h : Fin 8) : v301 B (ix3 h 0 0) = ((x.dgt h : ℝ) : EReal) := by
  pointwise [v301, k0_pay72, v277_at H, H.dS, v3, v4, v16, v17, cst122]
  norm_cast

theorem f301 : k0_pay72 (v277 B) B.dS = v301 B := rfl

theorem v304_at (H : Reads B x) (h : Fin 8) (i : Fin 64) (d : Fin 128) : v304 B (ix3 h i d) = ((x.dqd h i d : ℝ) : EReal) := by
  pointwise [v304, k0_pay73, H.dO, v277_at H, v3, v4, v16, v17, cst122]
  norm_cast

theorem f304 : k0_pay73 B.dO (v277 B) = v304 B := rfl

theorem v310_at (H : Reads B x) (h : Fin 8) (i l : Fin 64) : v310 B (ix3 h i l) = ((x.datt h i l : ℝ) : EReal) := by
  pointwise [v310, k0_pay74, H.dO, v286_at H, v3, v4, v16, v17, cst122]
  rw [select_sge]
  norm_cast

theorem f310 : k0_pay74 v3 v4 B.dO (v286 B) = v310 B := rfl

theorem v328_at (H : Reads B x) (h : Fin 8) (d e : Fin 128) : v328 B (ix3 h d e) = ((x.dSin h d e : ℝ) : EReal) := by
  pointwise [v328, k0_pay75, v244_at H, H.dO, v271_at H, H.dS, v280_at H, v289_at H, v290_at H, v291_at H, f293, v293_at H, v3, v4, v16, v17, cst122]
  norm_cast

theorem f328 : k0_pay75 (v244 B) B.dO (v271 B) B.dS (v280 B) (v289 B) (v290 B) (v291 B) = v328 B := rfl

theorem v329_at (H : Reads B x) (h : Fin 8) (i : Fin 64) (d : Fin 256) : v329 B (ix3 h i d) = ((x.dvw h i d : ℝ) : EReal) := by
  pointwise [v329, k0_pay76, v277_at H, v289_at H, v290_at H, v291_at H, f293, v293_at H, v3, v4, v16, v17, cst122]
  simp only [Chunk.dvw, Chunk.dw]
  split
  · rfl
  · norm_cast
    simp

theorem f329 : k0_pay76 (v277 B) (v289 B) (v290 B) (v291 B) = v329 B := rfl

theorem v332_at (H : Reads B x) (h : Fin 8) (i l : Fin 64) : v332 B (ix3 h i l) = ((x.dT h i l : ℝ) : EReal) := by
  pointwise [v332, k0_pay77, v266_at H, v277_at H, v289_at H, v290_at H, v291_at H, f329, v329_at H, v3, v4, v16, v17, cst122]
  norm_cast
  simp only [Chunk.dT, sum_halves, Chunk.dvw, Chunk.vk]
  simp

theorem f332 : k0_pay77 (v266 B) (v277 B) (v289 B) (v290 B) (v291 B) = v332 B := rfl

theorem v333_at (H : Reads B x) (h : Fin 8) (i l : Fin 64) : v333 B (ix3 h i l) = ((x.T h i l : ℝ) : EReal) := by
  pointwise [v333, k0_pay78, v263_at H, v3, v4, v16, v17, cst122]

theorem f333 : k0_pay78 (v263 B) = v333 B := rfl

theorem v334_at (H : Reads B x) (h : Fin 8) (i : Fin 64) (d : Fin 256) : v334 B (ix3 h i d) = ((x.dvw h i d : ℝ) : EReal) := by
  pointwise [v334, k0_pay79, v277_at H, v289_at H, v290_at H, v291_at H, f329, v329_at H, v3, v4, v16, v17, cst122]

theorem f334 : k0_pay79 (v277 B) (v289 B) (v290 B) (v291 B) = v334 B := rfl

theorem v335_at (H : Reads B x) (h : Fin 8) (i : Fin 64) (d : Fin 256) : v335 B (ix3 h i d) = ((∑ l, x.T h l i * x.dvw h l d : ℝ) : EReal) := by
  pointwise [v335, k0_pay80, v333_at H, v334_at H, v3, v4, v16, v17, cst122]
  norm_cast

theorem f335 : k0_pay80 (v333 B) (v334 B) cst122 = v335 B := rfl

theorem v336_at (H : Reads B x) (h : Fin 8) (i : Fin 64) (d : Fin 128) : v336 B (ix3 h i d) = ((x.dvb h i d : ℝ) : EReal) := by
  pointwise [v336, k0_pay81, v333_at H, v334_at H, f335, v335_at H, v3, v4, v16, v17]
  refine congrArg Real.toEReal ?_
  simp only [Chunk.dvb, Chunk.dvw]
  simp

theorem f336 : k0_pay81 (v333 B) (v334 B) cst122 = v336 B := rfl

theorem v337_at (H : Reads B x) (h : Fin 8) (i : Fin 64) (d : Fin 128) : v337 B (ix3 h i d) = ((x.dkbg h i d : ℝ) : EReal) := by
  pointwise [v337, k0_pay82, v333_at H, v334_at H, f335, v335_at H, v3, v4, v16, v17]
  refine congrArg Real.toEReal ?_
  simp only [Chunk.dkbg, Chunk.dvw]
  simp

theorem f337 : k0_pay82 (v333 B) (v334 B) cst122 = v337 B := rfl

theorem v348_at (H : Reads B x) (h : Fin 8) (i l : Fin 64) : v348 B (ix3 h i l) = ((x.dA h i l : ℝ) : EReal) := by
  pointwise [v348, k0_pay83, v263_at H, v332_at H, v3, v4, v16, v17, cst122]
  rw [select_sgt]
  norm_cast
  simp only [Chunk.dA]
  simp

theorem f348 : k0_pay83 v3 v4 (v263 B) (v332 B) = v348 B := rfl

theorem v349_at (H : Reads B x) (h : Fin 8) (i l : Fin 64) : v349 B (ix3 h i l) = ((x.dkk h i l : ℝ) : EReal) := by
  pointwise [v349, k0_pay84, v239_at H, v263_at H, v332_at H, f348, v348_at H, v16, v17, cst122]
  norm_cast

theorem f349 : k0_pay84 v3 v4 (v239 B) (v263 B) (v332 B) = v349 B := rfl

theorem v350_at (H : Reads B x) (h : Fin 8) (i l : Fin 64) : v350 B (ix3 h i l) = ((x.dqk h i l : ℝ) : EReal) := by
  pointwise [v350, k0_pay85, v239_at H, v310_at H, v3, v4, v16, v17, cst122]
  norm_cast

theorem f350 : k0_pay85 (v239 B) (v310 B) = v350 B := rfl

theorem v356_at (H : Reads B x) (h : Fin 8) (i : Fin 64) (d : Fin 128) : v356 B (ix3 h i d) = ((x.dkb h i d : ℝ) : EReal) := by
  pointwise [v356, k0_pay86, v239_at H, v240_at H, H.k, v263_at H, v332_at H, v333_at H, v334_at H, f349, v349_at H, f337, v337_at H, v16, v17]
  norm_cast

theorem f356 : k0_pay86 v3 v4 (v239 B) (v240 B) B.k (v263 B) (v332 B) (v333 B) (v334 B) cst122 = v356 B := rfl

theorem v369_at (H : Reads B x) (h : Fin 8) (i : Fin 64) (d : Fin 128) : v369 B (ix3 h i d) = ((x.dk h i d : ℝ) : EReal) := by
  pointwise [v369, k0_pay87, v205_at H, v239_at H, v240_at H, v243_at H, v247_at H, H.k, v252_at H, v263_at H, v296_at H, v310_at H, v332_at H, v333_at H, v334_at H, f349, v349_at H, f350, v350_at H, f356, v356_at H, v16, v17]
  norm_cast

theorem f369 : k0_pay87 v3 v4 (v205 B) (v239 B) (v240 B) (v243 B) (v247 B) B.k (v252 B) (v263 B) (v296 B) (v310 B) (v332 B) (v333 B) (v334 B) cst122 = v369 B := rfl

theorem v378_at (H : Reads B x) (h : Fin 8) (i : Fin 64) (d : Fin 128) : v378 B (ix3 h i d) = ((x.dq h i d : ℝ) : EReal) := by
  pointwise [v378, k0_pay88, v239_at H, v240_at H, H.k, v304_at H, v310_at H, f350, v350_at H, v3, v4, v16, v17, cst122]
  rw [scale_bits]
  norm_cast

theorem f378 : k0_pay88 (v239 B) (v240 B) B.k (v304 B) (v310 B) = v378 B := rfl

theorem v381_at (H : Reads B x) (h : Fin 8) (i : Fin 64) (d : Fin 128) : v381 B (ix3 h i d) = ((x.dv h i d : ℝ) : EReal) := by
  pointwise [v381, k0_pay89, v205_at H, v336_at H, v3, v4, v16, v17, cst122]
  norm_cast

theorem f381 : k0_pay89 (v205 B) (v336 B) = v381 B := rfl

theorem v420_at (H : Reads B x) (h : Fin 8) (i : Fin 64) : v420 B (ix3 h i 0) = ((x.dgam h i : ℝ) : EReal) := by
  pointwise [v420, k0_pay90, v244_at H, v254_at H, v261_at H, v275_at H, v280_at H, v282_at H, v296_at H, v301_at H, v304_at H, v310_at H, v337_at H, v348_at H, v3, v4, v16, v17, cst122]
  simp only [select_diag, select_last, Finset.sum_ite_eq, Finset.mem_univ, if_true]
  norm_cast
  have hA : ∀ (i l : Fin 64) (a : ℝ), x.dA h i l * (if l < i then a else 0) = x.dA h i l * a := by
    intro i l a
    simp only [Chunk.dA]
    split <;> simp
  simp only [hA]
  rfl

theorem f420 : k0_pay90 v3 v4 (v244 B) (v254 B) (v261 B) (v275 B) (v280 B) (v282 B) (v296 B) (v301 B) (v304 B) (v310 B) (v337 B) (v348 B) = v420 B := rfl

theorem v423_at (H : Reads B x) (h : Fin 8) (i : Fin 64) (d : Fin 128) : v423 B (ix3 h i d) = ((x.dkb h i d * x.k h i d + x.dvb h i d * x.v h i d : ℝ) : EReal) := by
  pointwise [v423, k0_pay91, H.k, H.v, v336_at H, v356_at H, v3, v4, v16, v17, cst122]
  norm_cast

theorem f423 : k0_pay91 B.k B.v (v336 B) (v356 B) = v423 B := rfl

theorem v425_at (H : Reads B x) (h : Fin 8) (i : Fin 64) : v425 B (ix3 h i 0) = ((x.dbeta h i : ℝ) : EReal) := by
  pointwise [v425, k0_pay92, v423_at H, v3, v4, v16, v17, cst122]
  norm_cast

theorem f425 : k0_pay92 (v423 B) = v425 B := rfl

theorem v463_at (H : Reads B x) (i : Fin 64) (c : Fin 128) : v463 B (ix2 i c) = ((if c.val = 10 then x.dgam 2 i else if c.val = 9 then x.dgam 1 i else if c.val = 8 then x.dgam 0 i else 0 : ℝ) : EReal) := by
  pointwise [v463, k0_pay93, v420_at H, v3, v4, v16, v17, cst122]
  simp (disch := norm_num) only [select_lane]
  norm_cast
  try simp only [ite_zero, coe_ite]

theorem f463 : k0_pay93 (v420 B) = v463 B := rfl

theorem v470_at (H : Reads B x) (i : Fin 64) (c : Fin 128) : v470 B (ix2 i c) = ((if c.val = 2 then x.dbeta 2 i else if c.val = 1 then x.dbeta 1 i else if c.val = 0 then x.dbeta 0 i else 0 : ℝ) : EReal) := by
  pointwise [v470, k0_pay94, v423_at H, f425, v425_at H, v3, v4, v16, v17, cst122]
  simp (disch := norm_num) only [select_lane]
  norm_cast
  try simp only [ite_zero, coe_ite]

theorem f470 : k0_pay94 (v423 B) = v470 B := rfl

theorem v474_at (H : Reads B x) (i : Fin 64) : v474 B (ix2 i 0) = ((x.dgam 3 i : ℝ) : EReal) := by
  pointwise [v474, k0_pay96, v420_at H, v3, v4, v16, v17, cst122]

theorem f474 : k0_pay96 (v420 B) = v474 B := rfl

theorem v519_at (H : Reads B x) (i : Fin 64) (c : Fin 128) : v519 B (ix2 i c) = ((if c.val = 14 then x.dgam 6 i else if c.val = 13 then x.dgam 5 i else if c.val = 12 then x.dgam 4 i else if c.val = 11 then x.dgam 3 i else if c.val = 10 then x.dgam 2 i else if c.val = 9 then x.dgam 1 i else if c.val = 8 then x.dgam 0 i else 0 : ℝ) : EReal) := by
  pointwise [v519, k0_pay97, v420_at H, v463_at H, v472, k0_pay95, v474_at H, v3, v4, v16, v17, cst122]
  simp (disch := norm_num) only [select_lane]
  norm_cast
  try simp only [ite_zero, coe_ite]

theorem f519 : k0_pay97 (v420 B) v16 (v463 B) v472 (v474 B) = v519 B := rfl

theorem v526_at (H : Reads B x) (i : Fin 64) (c : Fin 128) : v526 B (ix2 i c) = ((if c.val = 6 then x.dbeta 6 i else if c.val = 5 then x.dbeta 5 i else if c.val = 4 then x.dbeta 4 i else if c.val = 3 then x.dbeta 3 i else if c.val = 2 then x.dbeta 2 i else if c.val = 1 then x.dbeta 1 i else if c.val = 0 then x.dbeta 0 i else 0 : ℝ) : EReal) := by
  pointwise [v526, k0_pay98, v425_at H, v470_at H, v3, v4, v16, v17, cst122]
  simp (disch := norm_num) only [select_lane]
  norm_cast
  try simp only [ite_zero, coe_ite]

theorem f526 : k0_pay98 (v425 B) v16 (v470 B) = v526 B := rfl

theorem v547_at (H : Reads B x) (i : Fin 64) (c : Fin 128) : v547 B (ix2 i c) = ((x.dgb i c : ℝ) : EReal) := by
  pointwise [v547, k0_pay1, v420_at H, v425_at H, v519_at H, v526_at H, v3, v4, v16, v17, cst122]
  simp (disch := norm_num) only [select_lane, tri_ge]
  simp only [← coe_ite, ← EReal.coe_mul, ← coe_sum, ← EReal.coe_add]
  refine congrArg Real.toEReal ?_
  have e1 := fun l => lanes_eq 8 c.val (fun h => x.dgam h l)
  have e2 := lanes_eq 0 c.val (fun h => x.dbeta h i)
  simp only [Nat.reduceAdd, zero_add] at e1 e2
  simp only [e1, e2, Chunk.dgb]
  by_cases h8 : c.val < 8
  · have h : ¬ (8 ≤ c.val ∧ c.val < 16) := by omega
    simp [h8, h]
  · by_cases h16 : c.val < 16
    · have h : 8 ≤ c.val ∧ c.val < 16 := by omega
      simp [h8, h16, h]
    · simp [h8, h16]

theorem f547 : k0_pay1 (v420 B) (v425 B) v16 (v519 B) (v526 B) 15#32 = v547 B := rfl

end Ker

end Cert.Delta

end
-- ==== Proof.KerRun.lean ====
/-
  What the kernel leaves in its four results: by induction on the grid point, the gradient of the state that the scratch buffer
  carries; then each result block by block.
-/
module

public import proofs.«01_k».proof.Proof.Seq
public import proofs.«01_k».proof.Proof.KerOuts
public import proofs.«01_k».proof.Proof.KerChunk
public import proofs.«01_k».proof.Proof.Gen.KernelIdeal.Value
public import Idealize.ShloMosaic.Lib.Pipeline.ValueKit

@[expose] public section

set_option maxRecDepth 16384

noncomputable section

namespace Cert.Delta.Ker

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The argument arrays are `I`, every entry a real. -/
structure Gives (I : Inp) : Prop where
  q : ∀ h r d, m ((c : Thread nD τ).loc main_arg0) (ix3 h r d) = (I.q h r d : EReal)
  k : ∀ h r d, m ((c : Thread nD τ).loc main_arg1) (ix3 h r d) = (I.k h r d : EReal)
  v : ∀ h r d, m ((c : Thread nD τ).loc main_arg2) (ix3 h r d) = (I.v h r d : EReal)
  gb : ∀ r d, m ((c : Thread nD τ).loc main_arg3) (ix2 r d) = (I.gb r d : EReal)
  dO : ∀ h r d, m ((c : Thread nD τ).loc main_arg4) (ix3 h r d) = (I.dO h r d : EReal)
  S : ∀ n h d e, m ((c : Thread nD τ).loc main_arg5) (ix4 n h d e) = (I.S n h d e : EReal)
  T : ∀ n h i l, m ((c : Thread nD τ).loc main_arg6) (ix4 n h i l) = (I.T n h i l : EReal)

theorem idx : ∀ t : Fin cfg0.N, win0_0.index t = ![0, 128 - t.val, 0] ∧ win0_1.index t = ![0, 128 - t.val, 0]
    ∧ win0_2.index t = ![0, 128 - t.val, 0] ∧ win0_3.index t = ![128 - t.val, 0] ∧ win0_4.index t = ![0, 128 - t.val, 0]
    ∧ win0_5.index t = ![128 - t.val, 0, 0, 0] ∧ win0_6.index t = ![128 - t.val, 0, 0, 0]
    ∧ win0_7.index t = ![0, 128 - t.val, 0] ∧ win0_8.index t = ![0, 128 - t.val, 0]
    ∧ win0_9.index t = ![0, 128 - t.val, 0] ∧ win0_10.index t = ![128 - t.val, 0] :=
  (by decide +kernel : ∀ t : Fin grid0.N, win0_0.index t = ![0, 128 - t.val, 0] ∧ win0_1.index t = ![0, 128 - t.val, 0]
    ∧ win0_2.index t = ![0, 128 - t.val, 0] ∧ win0_3.index t = ![128 - t.val, 0] ∧ win0_4.index t = ![0, 128 - t.val, 0]
    ∧ win0_5.index t = ![128 - t.val, 0, 0, 0] ∧ win0_6.index t = ![128 - t.val, 0, 0, 0]
    ∧ win0_7.index t = ![0, 128 - t.val, 0] ∧ win0_8.index t = ![0, 128 - t.val, 0]
    ∧ win0_9.index t = ![0, 128 - t.val, 0] ∧ win0_10.index t = ![128 - t.val, 0])

variable {m c} {I : Inp} (G : Gives m c I)
include G

theorem blk0_at (t : Fin cfg0.N) (h : Fin 8) (i : Fin 64) (d : Fin 128) :
    iblk m c 0 t (ix3 h i d) = (I.q h (row (trip t.val) i) d : EReal) := by
  rw [← G.q]
  blk_ext! [iblk, V, idx t, row, trip]

theorem blk1_at (t : Fin cfg0.N) (h : Fin 8) (i : Fin 64) (d : Fin 128) :
    iblk m c 1 t (ix3 h i d) = (I.k h (row (trip t.val) i) d : EReal) := by
  rw [← G.k]
  blk_ext! [iblk, V, idx t, row, trip]

theorem blk2_at (t : Fin cfg0.N) (h : Fin 8) (i : Fin 64) (d : Fin 128) :
    iblk m c 2 t (ix3 h i d) = (I.v h (row (trip t.val) i) d : EReal) := by
  rw [← G.v]
  blk_ext! [iblk, V, idx t, row, trip]

theorem blk3_at (t : Fin cfg0.N) (i : Fin 64) (d : Fin 128) :
    iblk m c 3 t (ix2 i d) = (I.gb (row (trip t.val) i) d : EReal) := by
  rw [← G.gb]
  blk_ext! [iblk, V, idx t, row, trip]

theorem blk4_at (t : Fin cfg0.N) (h : Fin 8) (i : Fin 64) (d : Fin 128) :
    iblk m c 4 t (ix3 h i d) = (I.dO h (row (trip t.val) i) d : EReal) := by
  rw [← G.dO]
  blk_ext! [iblk, V, idx t, row, trip]

theorem blk5_at (t : Fin cfg0.N) (h : Fin 8) (d e : Fin 128) :
    iblk m c 5 t (ix4 0 h d e) = (I.S (trip t.val) h d e : EReal) := by
  rw [← G.S]
  blk_ext! [iblk, V, idx t, row, trip]

theorem blk6_at (t : Fin cfg0.N) (h : Fin 8) (i l : Fin 64) :
    iblk m c 6 t (ix4 0 h i l) = (I.T (trip t.val) h i l : EReal) := by
  rw [← G.T]
  blk_ext! [iblk, V, idx t, row, trip]

/-- The blocks of grid point `t`, with the scratch buffer's contents. -/
def blkAt (m : (ℓ : Loc nD τ sig) → Buf (Elt Ideal) ℓ) (c : Dev nD) (t : Fin cfg0.N) (ds : Vec Ideal S8x128x128 .f32) : Blk :=
  ⟨iblk m c 0 t, iblk m c 1 t, iblk m c 2 t, iblk m c 3 t, iblk m c 4 t, iblk m c 5 t, iblk m c 6 t, ds⟩

theorem reads_at (t : Fin cfg0.N) (ds : Vec Ideal S8x128x128 .f32)
    (hds : ∀ h d e, ds (ix3 h d e) = (I.dS t.val h d e : EReal)) : Reads (blkAt m c t ds) (I.tripOf t.val) where
  q := blk0_at G t
  k := blk1_at G t
  v := blk2_at G t
  gb := blk3_at G t
  dO := blk4_at G t
  S := blk5_at G t
  T := blk6_at G t
  dS := hds

omit G in
theorem zero_at (I : Inp) (h : Fin 8) (d e : Fin 128) : k0_pay2 (F := Ideal) (ix3 h d e) = (I.dS 0 h d e : EReal) := by
  pointwise [k0_pay2]
  rfl

/-- After point `n` the scratch buffer holds the gradient of the state that entered the point's chunk. -/
theorem scratch_at : ∀ (n : ℕ) (hn : n < cfg0.N) (h : Fin 8) (d e : Fin 128),
    (outsAt0 m c n hn).2.2.2.2 (ix3 h d e) = (I.dS (n + 1) h d e : EReal)
  | 0, hn, h, d, e => by
    rw [outsAt0_A m c ⟨0, hn⟩ rfl]
    dsimp only
    rw [sout0_A_0_eq]
    exact v328_at (reads_at G ⟨0, hn⟩ _ (zero_at I)) h d e
  | n + 1, hn, h, d, e => by
    have hN : cfg0.N = 129 := N_0
    have hB : ¬(⟨n + 1, hn⟩ : Fin cfg0.N).val % 129 = 0 := by dsimp only; omega
    rw [outsAt0_B m c ⟨n + 1, hn⟩ hB]
    dsimp only
    rw [sout0_B_0_eq]
    exact v328_at (reads_at G ⟨n + 1, hn⟩ _ (scratch_at n (Nat.lt_of_succ_lt hn))) h d e

/-- What point `t` leaves in its block of `dq`. -/
theorem dq_at (t : Fin cfg0.N) (h : Fin 8) (i : Fin 64) (d : Fin 128) :
    (outsAt0 m c t.val t.isLt).1 (ix3 h i d) = ((I.tripOf t.val).dq h i d : EReal) := by
  obtain ⟨n, hn⟩ := t
  cases n with
  | zero =>
    rw [outsAt0_A m c ⟨0, hn⟩ rfl]
    dsimp only
    rw [out0_A_7_eq]
    exact v378_at (reads_at G ⟨0, hn⟩ _ (zero_at I)) h i d
  | succ n =>
    have hN : cfg0.N = 129 := N_0
    have hB : ¬(⟨n + 1, hn⟩ : Fin cfg0.N).val % 129 = 0 := by dsimp only; omega
    rw [outsAt0_B m c ⟨n + 1, hn⟩ hB]
    dsimp only
    rw [out0_B_7_eq]
    exact v378_at (reads_at G ⟨n + 1, hn⟩ _ (scratch_at G n (Nat.lt_of_succ_lt hn))) h i d

/-- What point `t` leaves in its block of `dk`. -/
theorem dk_at (t : Fin cfg0.N) (h : Fin 8) (i : Fin 64) (d : Fin 128) :
    (outsAt0 m c t.val t.isLt).2.1 (ix3 h i d) = ((I.tripOf t.val).dk h i d : EReal) := by
  obtain ⟨n, hn⟩ := t
  cases n with
  | zero =>
    rw [outsAt0_A m c ⟨0, hn⟩ rfl]
    dsimp only
    rw [out0_A_8_eq]
    exact v369_at (reads_at G ⟨0, hn⟩ _ (zero_at I)) h i d
  | succ n =>
    have hN : cfg0.N = 129 := N_0
    have hB : ¬(⟨n + 1, hn⟩ : Fin cfg0.N).val % 129 = 0 := by dsimp only; omega
    rw [outsAt0_B m c ⟨n + 1, hn⟩ hB]
    dsimp only
    rw [out0_B_8_eq]
    exact v369_at (reads_at G ⟨n + 1, hn⟩ _ (scratch_at G n (Nat.lt_of_succ_lt hn))) h i d

/-- What point `t` leaves in its block of `dv`. -/
theorem dv_at (t : Fin cfg0.N) (h : Fin 8) (i : Fin 64) (d : Fin 128) :
    (outsAt0 m c t.val t.isLt).2.2.1 (ix3 h i d) = ((I.tripOf t.val).dv h i d : EReal) := by
  obtain ⟨n, hn⟩ := t
  cases n with
  | zero =>
    rw [outsAt0_A m c ⟨0, hn⟩ rfl]
    dsimp only
    rw [out0_A_9_eq]
    exact v381_at (reads_at G ⟨0, hn⟩ _ (zero_at I)) h i d
  | succ n =>
    have hN : cfg0.N = 129 := N_0
    have hB : ¬(⟨n + 1, hn⟩ : Fin cfg0.N).val % 129 = 0 := by dsimp only; omega
    rw [outsAt0_B m c ⟨n + 1, hn⟩ hB]
    dsimp only
    rw [out0_B_9_eq]
    exact v381_at (reads_at G ⟨n + 1, hn⟩ _ (scratch_at G n (Nat.lt_of_succ_lt hn))) h i d

/-- What point `t` leaves in its block of `dgb`. -/
theorem dgb_at (t : Fin cfg0.N) (i : Fin 64) (d : Fin 128) :
    (outsAt0 m c t.val t.isLt).2.2.2.1 (ix2 i d) = ((I.tripOf t.val).dgb i d : EReal) := by
  obtain ⟨n, hn⟩ := t
  cases n with
  | zero =>
    rw [outsAt0_A m c ⟨0, hn⟩ rfl]
    dsimp only
    rw [out0_A_10_eq]
    exact v547_at (reads_at G ⟨0, hn⟩ _ (zero_at I)) i d
  | succ n =>
    have hN : cfg0.N = 129 := N_0
    have hB : ¬(⟨n + 1, hn⟩ : Fin cfg0.N).val % 129 = 0 := by dsimp only; omega
    rw [outsAt0_B m c ⟨n + 1, hn⟩ hB]
    dsimp only
    rw [out0_B_10_eq]
    exact v547_at (reads_at G ⟨n + 1, hn⟩ _ (scratch_at G n (Nat.lt_of_succ_lt hn))) i d

/-- The gradient of the queries, whole. -/
theorem arr7 : (dats m 0 c).arrAt 7 cfg0.N = fun i : S8x8256x128.Idx => (I.dq (i 0) (i 1) (i 2) : EReal) := by
  refine (dats m 0 c).arrAt_eq_of_covers 7 _ (by decide +kernel) fun t hf y => ?_
  have ht : t.val < 129 := lt_of_lt_of_eq t.isLt N_0
  blk_simp
  rw [after0_7]
  have e0 : (win0_7.blk t).view.emb y 0 = (y 0 : Fin 8) := by apply Fin.ext; blk_simp [idx t]
  have e1 : (win0_7.blk t).view.emb y 1 = row (trip t.val) (y 1 : Fin 64) := by
    apply Fin.ext; blk_simp [idx t]; simp only [row, trip]; show _ = 64 * (128 - t.val) + _; omega
  have e2 : (win0_7.blk t).view.emb y 2 = (y 2 : Fin 128) := by apply Fin.ext; blk_simp [idx t]
  rw [e0, e1, e2]
  exact ((congrArg _ (eq_ix3 (n0 := 8) (n1 := 64) (n2 := 128) y)).trans (dq_at G t _ _ _)).trans
    (congrArg Real.toEReal (I.dq_row t.val ht _ _ _).symm)

/-- The gradient of the keys, whole. -/
theorem arr8 : (dats m 0 c).arrAt 8 cfg0.N = fun i : S8x8256x128.Idx => (I.dk (i 0) (i 1) (i 2) : EReal) := by
  refine (dats m 0 c).arrAt_eq_of_covers 8 _ (by decide +kernel) fun t hf y => ?_
  have ht : t.val < 129 := lt_of_lt_of_eq t.isLt N_0
  blk_simp
  rw [after0_8]
  have e0 : (win0_8.blk t).view.emb y 0 = (y 0 : Fin 8) := by apply Fin.ext; blk_simp [idx t]
  have e1 : (win0_8.blk t).view.emb y 1 = row (trip t.val) (y 1 : Fin 64) := by
    apply Fin.ext; blk_simp [idx t]; simp only [row, trip]; show _ = 64 * (128 - t.val) + _; omega
  have e2 : (win0_8.blk t).view.emb y 2 = (y 2 : Fin 128) := by apply Fin.ext; blk_simp [idx t]
  rw [e0, e1, e2]
  exact ((congrArg _ (eq_ix3 (n0 := 8) (n1 := 64) (n2 := 128) y)).trans (dk_at G t _ _ _)).trans
    (congrArg Real.toEReal (I.dk_row t.val ht _ _ _).symm)

/-- The gradient of the values, whole. -/
theorem arr9 : (dats m 0 c).arrAt 9 cfg0.N = fun i : S8x8256x128.Idx => (I.dv (i 0) (i 1) (i 2) : EReal) := by
  refine (dats m 0 c).arrAt_eq_of_covers 9 _ (by decide +kernel) fun t hf y => ?_
  have ht : t.val < 129 := lt_of_lt_of_eq t.isLt N_0
  blk_simp
  rw [after0_9]
  have e0 : (win0_9.blk t).view.emb y 0 = (y 0 : Fin 8) := by apply Fin.ext; blk_simp [idx t]
  have e1 : (win0_9.blk t).view.emb y 1 = row (trip t.val) (y 1 : Fin 64) := by
    apply Fin.ext; blk_simp [idx t]; simp only [row, trip]; show _ = 64 * (128 - t.val) + _; omega
  have e2 : (win0_9.blk t).view.emb y 2 = (y 2 : Fin 128) := by apply Fin.ext; blk_simp [idx t]
  rw [e0, e1, e2]
  exact ((congrArg _ (eq_ix3 (n0 := 8) (n1 := 64) (n2 := 128) y)).trans (dv_at G t _ _ _)).trans
    (congrArg Real.toEReal (I.dv_row t.val ht _ _ _).symm)

/-- The gradient of the gates, whole. -/
theorem arr10 : (dats m 0 c).arrAt 10 cfg0.N = fun i : S8256x128.Idx => (I.dgb (i 0) (i 1) : EReal) := by
  refine (dats m 0 c).arrAt_eq_of_covers 10 _ (by decide +kernel) fun t hf y => ?_
  have ht : t.val < 129 := lt_of_lt_of_eq t.isLt N_0
  blk_simp
  rw [after0_10]
  have e0 : (win0_10.blk t).view.emb y 0 = row (trip t.val) (y 0 : Fin 64) := by
    apply Fin.ext; blk_simp [idx t]; simp only [row, trip]; show _ = 64 * (128 - t.val) + _; omega
  have e1 : (win0_10.blk t).view.emb y 1 = (y 1 : Fin 128) := by apply Fin.ext; blk_simp [idx t]
  rw [e0, e1]
  exact ((congrArg _ (eq_ix2 (n0 := 64) (n1 := 128) y)).trans (dgb_at G t _ _)).trans
    (congrArg Real.toEReal (I.dgb_row t.val ht _ _).symm)

end Cert.Delta.Ker

end
-- ==== Proof.Window.lean ====
/-
  A running sum along the rows of a matrix, as a sum over a window that is padded on one side: padded low it is the sum of
  a prefix of the row, padded high the sum of a suffix.
-/
module

public import Idealize.ShloMosaic.Lib.Pointwise

@[expose] public section

set_option maxRecDepth 16384

noncomputable section

namespace Cert.Delta

open Idealize.ShloMosaic
open scoped BigOperators

/-- A sum over a window, as a sum over the window's positions. -/
theorem window_sum {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  rw [← Equiv.sum_comp (⟨s.rank, window⟩ : Shape).rowMajor.symm, Fin.sum_univ_def, List.sum_eq_foldl, List.foldl_map]
  unfold Ideal.hostReduceWindowAdd Host.reduceWindow
  dsimp only
  congr!

/-- The window padded low sums a prefix. -/
theorem window_prefix (x : FVec Ideal ⟨2, ![8, 64]⟩ .f32) (init : FVec Ideal ⟨0, ![]⟩ .f32)
    (h : (⟨2, ![8, 64]⟩ : Shape).ReduceWindows ![1, 64] ![1, 1] ![0, 63] ![0, 0] ⟨2, ![8, 64]⟩) (hu : 0 < (⟨0, ![]⟩ : Shape).numel)
    (hi : init ix0 = 0) (a : Fin 8) (i : Fin 64) :
    Host.reduceWindowAdd ![1, 64] ![1, 1] ![0, 63] ![0, 0] x init h hu (ix2 a i)
      = ∑ l : Fin 64, if l ≤ i then x (ix2 a l) else 0 := by
  have h0 : init (Shape.Idx.first hu) = 0 := by rw [← hi]; congr 1; funext k; exact k.elim0
  unfold Host.reduceWindowAdd
  rw [h0]
  dsimp only [FloatOps.hostReduceWindowAdd]
  rw [window_sum]
  refine (sum_idx2 (n0 := 1) (n1 := 64) _).trans ?_
  rw [Fin.sum_univ_one]
  rw [← Equiv.sum_comp (Equiv.addRight (i + 1)) (fun l : Fin 64 => if l ≤ i then x (ix2 a l) else 0)]
  refine Finset.sum_congr rfl fun p _ => ?_
  have hp := p.isLt
  have hi' := i.isLt
  have ha := a.isLt
  have hv : (((Equiv.addRight (i + 1)) p : Fin 64) : ℕ) = if i.val + p.val < 63 then p.val + i.val + 1 else p.val + i.val - 63 := by
    simp [Fin.val_add]; split <;> omega
  dsimp only
  by_cases hc : i.val + p.val < 63
  · rw [if_neg (show ¬ ((Equiv.addRight (i + 1)) p ≤ i) by rw [Fin.le_def, hv]; split <;> omega), dif_neg]
    intro hin
    have := hin 1
    simp [ix2] at this
    omega
  · rw [if_pos (show (Equiv.addRight (i + 1)) p ≤ i by rw [Fin.le_def, hv]; split <;> omega), dif_pos]
    · congr 1
      funext b
      fin_cases b
      · apply Fin.ext; simp [ix2]
      · apply Fin.ext; simp only [ix2]; simp [hv]; omega
    · intro b
      fin_cases b
      · simp [ix2]
      · simp [ix2]; omega

/-- The window padded high sums a suffix. -/
theorem window_suffix (x : FVec Ideal ⟨2, ![8, 64]⟩ .f32) (init : FVec Ideal ⟨0, ![]⟩ .f32)
    (h : (⟨2, ![8, 64]⟩ : Shape).ReduceWindows ![1, 64] ![1, 1] ![0, 0] ![0, 63] ⟨2, ![8, 64]⟩) (hu : 0 < (⟨0, ![]⟩ : Shape).numel)
    (hi : init ix0 = 0) (a : Fin 8) (i : Fin 64) :
    Host.reduceWindowAdd ![1, 64] ![1, 1] ![0, 0] ![0, 63] x init h hu (ix2 a i)
      = ∑ l : Fin 64, if i ≤ l then x (ix2 a l) else 0 := by
  have h0 : init (Shape.Idx.first hu) = 0 := by rw [← hi]; congr 1; funext k; exact k.elim0
  unfold Host.reduceWindowAdd
  rw [h0]
  dsimp only [FloatOps.hostReduceWindowAdd]
  rw [window_sum]
  refine (sum_idx2 (n0 := 1) (n1 := 64) _).trans ?_
  rw [Fin.sum_univ_one]
  rw [← Equiv.sum_comp (Equiv.addRight (i)) (fun l : Fin 64 => if i ≤ l then x (ix2 a l) else 0)]
  refine Finset.sum_congr rfl fun p _ => ?_
  have hp := p.isLt
  have hi' := i.isLt
  have ha := a.isLt
  have hv : (((Equiv.addRight (i)) p : Fin 64) : ℕ) = if i.val + p.val < 64 then p.val + i.val else p.val + i.val - 64 := by
    simp [Fin.val_add]; split <;> omega
  dsimp only
  by_cases hc : ¬ i.val + p.val < 64
  · rw [if_neg (show ¬ (i ≤ (Equiv.addRight i) p) by rw [Fin.le_def, hv]; split <;> omega), dif_neg]
    intro hin
    have := hin 1
    simp [ix2] at this
    omega
  · rw [if_pos (show i ≤ (Equiv.addRight i) p by rw [Fin.le_def, hv]; split <;> omega), dif_pos]
    · congr 1
      funext b
      fin_cases b
      · apply Fin.ext; simp [ix2]
      · apply Fin.ext; simp only [ix2]; simp [hv]; omega
    · intro b
      fin_cases b
      · simp [ix2]
      · simp [ix2]; omega

end Cert.Delta

end
-- ==== Proof.RefChunk.lean ====
/-
  What one trip of the reference's loop computes, at an index: every value of the trip is a real of `Chunk`, when the chunk
  that the trip reads and the gradient it carries are reals.
-/
module

public import proofs.«01_k».proof.Proof.Chunk
public import proofs.«01_k».proof.Proof.Lift
public import proofs.«01_k».proof.Proof.Window
public import proofs.«01_k».proof.Proof.Gen.ReferenceIdeal.Step

@[expose] public section

set_option maxRecDepth 16384

noncomputable section

namespace Cert.Delta.Ref

open Idealize.ShloMosaic Cert.ReferenceIdeal Cert.ReferenceIdeal.Gen Cert.ReferenceIdeal.Step
open scoped BigOperators

/-- The chunk that trip `j` reads is `x`, every entry a real. -/
structure Reads (j : ℕ) (s : State Ideal) (x : Chunk) : Prop where
  q : ∀ h i d, b8 j s (ix3 h i d) = (x.q h i d : EReal)
  k : ∀ h i d, b13 j s (ix3 h i d) = (x.k h i d : EReal)
  v : ∀ h i d, b18 j s (ix3 h i d) = (x.v h i d : EReal)
  gb : ∀ i c, b22 j s (ix2 i c) = (x.gb i c : EReal)
  dO : ∀ h i d, b27 j s (ix3 h i d) = (x.dO h i d : EReal)
  S : ∀ h d e, b32 j s (ix3 h d e) = (x.S h d e : EReal)
  T : ∀ h i l, b37 j s (ix3 h i l) = (x.T h i l : EReal)
  dS : ∀ h d e, s.main_v14_8 (ix3 h d e) = (x.dS h d e : EReal)

variable {j : ℕ} {s : State Ideal} {x : Chunk} (H : Reads j s x)
include H

theorem b40_at (h : Fin 8) (i : Fin 64) (d : Fin 128) : b40 j s (ix3 h i d) = ((x.qs h i d : ℝ) : EReal) := by
  pointwise [b40, b39, b38, H.q]
  rw [scale_bits]
  rfl

theorem b42_at (h : Fin 8) (i : Fin 64) : b42 j s (ix2 h i) = ((x.beta h i : ℝ) : EReal) := by
  pointwise [b42, b41, H.gb]
  rfl

theorem b44_at (h : Fin 8) (i : Fin 64) : b44 j s (ix2 h i) = ((x.gb i (gateCol h) : ℝ) : EReal) := by
  pointwise [b44, b43, H.gb]
  rfl

theorem b47_at (h : Fin 8) (i : Fin 64) : b47 j s (ix2 h i) = ((x.gam h i : ℝ) : EReal) := by
  have hi : (b46 j s) ix0 = 0 := by pointwise [b46, b45]
  refine (window_prefix (b44 j s) (b46 j s) _ _ hi h i).trans ?_
  simp only [b44_at H, Chunk.gam, coe_sum, coe_ite]
  rfl

theorem b71_at (h : Fin 8) (i l : Fin 64) : b71 j s (ix3 h i l) = ((x.dec h i l : ℝ) : EReal) := by
  pointwise [b71, b68, b66, b67, b65, b64, b53, b51, b52, b50, b49, b48, b63, b61, b62, b60, b59, b47_at H]
  rw [select_sge, neg_inf_bits, ← EReal.coe_sub, exp_ite_bot]
  rfl

theorem b74_at (h : Fin 8) (i : Fin 64) (d : Fin 128) : b74 j s (ix3 h i d) = ((x.kb h i d : ℝ) : EReal) := by
  pointwise [b74, b73, b72, b42_at H, H.k]
  norm_cast

theorem b75_at (h : Fin 8) (i l : Fin 64) : b75 j s (ix3 h i l) = ((x.kk h i l : ℝ) : EReal) := by
  pointwise [b75, b74_at H, H.k]
  norm_cast

theorem b86_at (h : Fin 8) (i : Fin 64) (d : Fin 128) : b86 j s (ix3 h i d) = ((x.vb h i d : ℝ) : EReal) := by
  pointwise [b86, b85, b84, b42_at H, H.v]
  norm_cast

theorem b87_at (h : Fin 8) (i : Fin 64) (d : Fin 128) : b87 j s (ix3 h i d) = ((x.u h i d : ℝ) : EReal) := by
  pointwise [b87, b86_at H, H.T]
  norm_cast

theorem b88_at (h : Fin 8) (i : Fin 64) : b88 j s (ix2 h i) = ((x.eg h i : ℝ) : EReal) := by
  pointwise [b88, b47_at H]
  norm_cast

theorem b91_at (h : Fin 8) (i : Fin 64) (d : Fin 128) : b91 j s (ix3 h i d) = ((x.kbg h i d : ℝ) : EReal) := by
  pointwise [b91, b90, b89, b88_at H, b74_at H]
  norm_cast

theorem b92_at (h : Fin 8) (i : Fin 64) (d : Fin 128) : b92 j s (ix3 h i d) = ((x.w h i d : ℝ) : EReal) := by
  pointwise [b92, b91_at H, H.T]
  norm_cast

theorem b93_at (h : Fin 8) (i l : Fin 64) : b93 j s (ix3 h i l) = ((x.qk h i l : ℝ) : EReal) := by
  pointwise [b93, b40_at H, H.k]
  norm_cast

theorem b99_at (h : Fin 8) (i l : Fin 64) : b99 j s (ix3 h i l) = ((x.att h i l : ℝ) : EReal) := by
  pointwise [b99, b97, b98, b96, b95, b94, b53, b51, b52, b50, b49, b48, b93_at H, b71_at H]
  rw [select_sge]
  norm_cast
  rw [ite_zero]
  refine congrArg Real.toEReal ?_
  simp only [Chunk.att, Chunk.dec]
  split <;> simp

theorem b102_at (h : Fin 8) (i : Fin 64) : b102 j s (ix2 h i) = ((x.eg h i : ℝ) : EReal) := by
  pointwise [b102, b47_at H]
  norm_cast

theorem b105_at (h : Fin 8) (i : Fin 64) (d : Fin 128) : b105 j s (ix3 h i d) = ((x.qd h i d : ℝ) : EReal) := by
  pointwise [b105, b104, b103, b102_at H, b40_at H]
  norm_cast

theorem b109_at (h : Fin 8) (i : Fin 64) : b109 j s (ix2 h i) = ((x.ek h i : ℝ) : EReal) := by
  pointwise [b109, b108, b107, b106, b47_at H]
  norm_cast

theorem b112_at (h : Fin 8) (i : Fin 64) (d : Fin 128) : b112 j s (ix3 h i d) = ((x.kd h i d : ℝ) : EReal) := by
  pointwise [b112, b111, b110, b109_at H, H.k]
  norm_cast

theorem b115_at (h : Fin 8) : b115 j s (ix1 h) = ((x.gt h : ℝ) : EReal) := by
  pointwise [b115, b114, b113, b47_at H]
  norm_cast

theorem b117_at (h : Fin 8) (i : Fin 64) (d : Fin 128) : b117 j s (ix3 h i d) = ((x.vn h i d : ℝ) : EReal) := by
  pointwise [b117, b116, b87_at H, b92_at H, H.S]
  norm_cast

theorem b129_at (h : Fin 8) (i : Fin 64) (d : Fin 128) : b129 j s (ix3 h i d) = ((x.dkd h i d : ℝ) : EReal) := by
  pointwise [b129, b128, b117_at H, H.dS]
  norm_cast
  refine congrArg Real.toEReal ?_
  simp only [Chunk.dkd]
  exact Finset.sum_congr rfl fun _ _ => mul_comm _ _

theorem b137_at (h : Fin 8) : b137 j s (ix1 h) = ((x.dgt h : ℝ) : EReal) := by
  pointwise [b137, b133, b132, b130, b131, b136, H.dS, H.S]
  norm_cast
  refine congrArg Real.toEReal ?_
  simp only [Chunk.dgt, Fin.sum_univ_one]
  exact Finset.sum_congr rfl fun _ _ => Finset.sum_congr rfl fun _ _ => mul_comm _ _

theorem b140_at (h : Fin 8) (i : Fin 64) (d : Fin 128) : b140 j s (ix3 h i d) = ((x.dvn h i d : ℝ) : EReal) := by
  pointwise [b140, b127, b126, b139, b138, b112_at H, b99_at H, H.dS, H.dO]
  norm_cast
  refine congrArg Real.toEReal ?_
  simp only [Chunk.dvn]
  exact congrArg₂ _ (Finset.sum_congr rfl fun _ _ => mul_comm _ _) (Finset.sum_congr rfl fun _ _ => mul_comm _ _)

theorem b145_at (h : Fin 8) (i : Fin 64) (d : Fin 128) : b145 j s (ix3 h i d) = ((x.dqd h i d : ℝ) : EReal) := by
  pointwise [b145, H.S, H.dO]
  norm_cast

theorem b149_at (h : Fin 8) (d e : Fin 128) : b149 j s (ix3 h d e) = ((x.dSin h d e : ℝ) : EReal) := by
  pointwise [b149, b148, b147, b146, b144, b143, b142, b135, b134, b121, b115_at H, b140_at H, b92_at H, b105_at H, H.dS, H.dO]
  norm_cast
  refine congrArg Real.toEReal ?_
  simp only [Chunk.dSin, neg_mul, Finset.sum_neg_distrib, sub_eq_add_neg]
  refine congrArg₂ _ (congrArg₂ _ rfl ?_) (congrArg _ ?_) <;> exact Finset.sum_congr rfl fun _ _ => mul_comm _ _

theorem b150_at (h : Fin 8) (i : Fin 64) (d : Fin 128) : b150 j s (ix3 h i d) = ((x.dw h i d : ℝ) : EReal) := by
  pointwise [b150, b146, b140_at H, H.S]
  norm_cast
  refine congrArg Real.toEReal ?_
  simp only [Chunk.dw, neg_mul, Finset.sum_neg_distrib]

theorem b184_at (h : Fin 8) (i l : Fin 64) : b184 j s (ix3 h i l) = ((x.datt h i l : ℝ) : EReal) := by
  pointwise [b184, b183, b182, b141, b97, b53, b51, b52, b50, b49, b48, b117_at H, H.dO]
  rw [select_sge]
  norm_cast
  rw [ite_zero]
  rfl

theorem b186_at (h : Fin 8) (i l : Fin 64) : b186 j s (ix3 h i l) = ((x.dqk h i l : ℝ) : EReal) := by
  pointwise [b186, b184_at H, b71_at H]
  norm_cast

theorem b192_at (h : Fin 8) (i : Fin 64) (d : Fin 128) : b192 j s (ix3 h i d) = ((x.dkbg h i d : ℝ) : EReal) := by
  pointwise [b192, b191, b150_at H, H.T]
  norm_cast
  refine congrArg Real.toEReal ?_
  simp only [Chunk.dkbg]
  exact Finset.sum_congr rfl fun _ _ => mul_comm _ _

theorem b205_at (h : Fin 8) (i : Fin 64) (d : Fin 128) : b205 j s (ix3 h i d) = ((x.dvb h i d : ℝ) : EReal) := by
  pointwise [b205, b204, b140_at H, H.T]
  norm_cast
  refine congrArg Real.toEReal ?_
  simp only [Chunk.dvb]
  exact Finset.sum_congr rfl fun _ _ => mul_comm _ _

theorem b207_at (h : Fin 8) (i l : Fin 64) : b207 j s (ix3 h i l) = ((x.dT h i l : ℝ) : EReal) := by
  pointwise [b207, b206, b193, b150_at H, b140_at H, b91_at H, b86_at H]
  norm_cast
  refine congrArg Real.toEReal ?_
  simp only [Chunk.dT]
  exact add_comm _ _

theorem b223_at (h : Fin 8) (i l : Fin 64) : b223 j s (ix3 h i l) = ((x.dA h i l : ℝ) : EReal) := by
  pointwise [b223, b79, b58, b56, b57, b55, b54, b48, b222, b221, b218, b217, b216, b207_at H, H.T]
  rw [select_sgt]
  norm_cast
  rw [ite_zero]
  refine congrArg Real.toEReal ?_
  simp only [Chunk.dA, mul_comm]

theorem b226_at (h : Fin 8) (i l : Fin 64) : b226 j s (ix3 h i l) = ((x.dkk h i l : ℝ) : EReal) := by
  pointwise [b226, b223_at H, b71_at H]
  norm_cast

theorem b230_at (h : Fin 8) (i : Fin 64) (d : Fin 128) : b230 j s (ix3 h i d) = ((x.dkb h i d : ℝ) : EReal) := by
  pointwise [b230, b229, b199, b198, b89, b88_at H, b192_at H, b226_at H, H.k]
  norm_cast
  refine congrArg Real.toEReal ?_
  simp only [Chunk.dkb]
  exact add_comm _ _

theorem b237_at (h : Fin 8) (i : Fin 64) (d : Fin 128) : b237 j s (ix3 h i d) = ((x.dk h i d : ℝ) : EReal) := by
  pointwise [b237, b236, b235, b72, b228, b227, b188, b187, b160, b159, b110, b109_at H, b129_at H, b186_at H, b40_at H, b226_at H, b74_at H, b230_at H, b42_at H]
  norm_cast
  refine congrArg Real.toEReal ?_
  simp only [Chunk.dk]
  ring

theorem b270_at (h : Fin 8) (i : Fin 64) (d : Fin 128) : b270 j s (ix3 h i d) = ((x.dq h i d : ℝ) : EReal) := by
  pointwise [b270, b269, b268, b190, b189, b177, b176, b103, b102_at H, b145_at H, b186_at H, H.k]
  rw [scale_bits]
  norm_cast
  refine congrArg Real.toEReal ?_
  simp only [Chunk.dq, scale]
  ring

theorem b213_at (h : Fin 8) (i : Fin 64) (d : Fin 128) : b213 j s (ix3 h i d) = ((x.dv h i d : ℝ) : EReal) := by
  pointwise [b213, b212, b84, b42_at H, b205_at H]
  norm_cast

theorem b240_at (h : Fin 8) (i : Fin 64) : b240 j s (ix2 h i) = ((x.dbeta h i : ℝ) : EReal) := by
  pointwise [b240, b239, b238, b234, b233, b232, b231, b215, b214, b211, b210, b209, b208, b230_at H, b205_at H, H.k, H.v]
  norm_cast
  refine congrArg Real.toEReal ?_
  simp only [Chunk.dbeta, Fin.sum_univ_one, Finset.sum_add_distrib, mul_comm]
  exact add_comm _ _

theorem b244_at (h : Fin 8) (i l : Fin 64) : b244 j s (ix3 h i l) = ((x.ddec h i l : ℝ) : EReal) := by
  pointwise [b244, b243, b242, b241, b225, b224, b185, b66, b53, b51, b52, b50, b49, b48, b223_at H, b184_at H, b71_at H, b75_at H, b93_at H]
  rw [select_sge]
  norm_cast
  rw [ite_zero]
  refine congrArg Real.toEReal ?_
  simp only [Chunk.ddec, Chunk.att]
  by_cases hl : l ≤ i
  · rw [if_pos hl]; ring
  · rw [if_neg hl]; simp [Chunk.dec, hl]

theorem b163_at (h : Fin 8) (i : Fin 64) : b163 j s (ix2 h i) = (((∑ d, x.k h i d * x.dkd h i d) * x.ek h i : ℝ) : EReal) := by
  pointwise [b163, b162, b161, b158, b157, b156, b155, b129_at H, b109_at H, H.k]
  simp only [Fin.sum_univ_one]
  norm_cast

theorem b171_at (h : Fin 8) (i : Fin 64) : b171 j s (ix2 h i) = (((if i = 63 then x.dgt h * x.gt h else 0) + -((∑ d, x.k h i d * x.dkd h i d) * x.ek h i) + (if i = 63 then ∑ l, (∑ d, x.k h l d * x.dkd h l d) * x.ek h l else 0) : ℝ) : EReal) := by
  pointwise [b171, b170, b169, b168, b167, b166, b165, b164, b154, b153, b152, b151, b163_at H, b137_at H, b115_at H]
  have h63 : (63 ≤ i.val ∧ i.val - 63 < 1) ↔ i = 63 := by
    have := i.isLt
    rw [Fin.ext_iff]
    show _ ↔ i.val = 63
    omega
  simp only [dite_eq_ite, h63]
  norm_cast
  simp only [ite_zero]
  norm_cast

theorem b203_at (h : Fin 8) (i : Fin 64) : b203 j s (ix2 h i) = (((if i = 63 then x.dgt h * x.gt h else 0) + -((∑ d, x.k h i d * x.dkd h i d) * x.ek h i) + (if i = 63 then ∑ l, (∑ d, x.k h l d * x.dkd h l d) * x.ek h l else 0) + (∑ d, x.qs h i d * x.dqd h i d) * x.eg h i + (∑ d, x.kb h i d * x.dkbg h i d) * x.eg h i : ℝ) : EReal) := by
  pointwise [b203, b202, b201, b200, b197, b196, b195, b194, b181, b180, b179, b178, b175, b174, b173, b172, b171_at H, b145_at H, b40_at H, b102_at H, b88_at H, b192_at H, b74_at H]
  simp only [Fin.sum_univ_one]
  norm_cast

theorem b257_at (h : Fin 8) (i : Fin 64) : b257 j s (ix2 h i) = ((x.dgam h i : ℝ) : EReal) := by
  pointwise [b257, b256, b255, b254, b253, b252, b251, b250, b249, b248, b247, b246, b245, b203_at H, b244_at H]
  simp only [Fin.sum_univ_one]
  norm_cast
  refine congrArg Real.toEReal ?_
  simp only [Chunk.dgam, Chunk.qd, Chunk.kd, Chunk.kbg, Finset.sum_add_distrib, Finset.sum_sub_distrib, Finset.sum_neg_distrib, Finset.sum_mul]
  have e1 : ∀ l, ∑ d, x.k h l d * x.dkd h l d * x.ek h l = ∑ d, x.dkd h l d * (x.k h l d * x.ek h l) :=
    fun l => Finset.sum_congr rfl fun _ _ => by ring
  have e2 : ∑ d, x.qs h i d * x.dqd h i d * x.eg h i = ∑ d, x.dqd h i d * (x.qs h i d * x.eg h i) :=
    Finset.sum_congr rfl fun _ _ => by ring
  have e3 : ∑ d, x.kb h i d * x.dkbg h i d * x.eg h i = ∑ d, x.dkbg h i d * (x.kb h i d * x.eg h i) :=
    Finset.sum_congr rfl fun _ _ => by ring
  simp only [e1, e2, e3]
  split <;> ring

theorem b260_at (h : Fin 8) (i : Fin 64) : b260 j s (ix2 h i) = ((∑ l, if i ≤ l then x.dgam h l else 0 : ℝ) : EReal) := by
  have hi : (b259 j s) ix0 = 0 := by pointwise [b259, b258]
  refine (window_suffix (b257 j s) (b259 j s) _ _ hi h i).trans ?_
  simp only [b257_at H, coe_sum, coe_ite]
  rfl

theorem b267_at (i : Fin 64) (c : Fin 128) : b267 j s (ix2 i c) = ((x.dgb i c : ℝ) : EReal) := by
  pointwise [b267, b266, b265, b264, b263, b262, b261, b260_at H, b240_at H]
  have hg : (8 ≤ c.val ∧ c.val - 8 < 8) ↔ ¬ c.val < 8 ∧ c.val < 16 := by omega
  simp only [Chunk.dgb]
  by_cases h8 : c.val < 8
  · rw [dif_pos h8, dif_pos h8, dif_neg (by omega), zero_add]
  · rw [dif_neg h8, dif_neg h8, add_zero]
    by_cases h16 : c.val < 16
    · rw [dif_pos (by omega), dif_pos h16]
    · rw [dif_neg (by omega), dif_neg h16]; rfl

end Cert.Delta.Ref

end
-- ==== Proof.RefRun.lean ====
/-
  What the reference leaves in its four results: by induction on the trip, the gradient of the state that the loop carries and
  the chunks already written.
-/
module

public import proofs.«01_k».proof.Proof.Seq
public import proofs.«01_k».proof.Proof.RefChunk
public import Idealize.ShloMosaic.Lib.DynamicIndex
public import Idealize.ShloMosaic.Lib.Pipeline.Value

@[expose] public section

set_option maxRecDepth 16384

noncomputable section

namespace Cert.Delta.Ref

open Idealize.ShloMosaic Cert.ReferenceIdeal Cert.ReferenceIdeal.Gen Cert.ReferenceIdeal.Step

/-- A slice of extent one along the first of four axes, at an index. -/
theorem slice4 {α : Type} {n a b c : ℕ} (x : (⟨4, ![n, a, b, c]⟩ : Shape).Idx → α) (start : Fin 4 → Int)
    (h : (⟨4, ![n, a, b, c]⟩ : Shape).Slices (fun _ => 0) ⟨4, ![1, a, b, c]⟩) (p : Fin n)
    (hs : ∀ e, start e = ((![p.val, 0, 0, 0] : Fin 4 → ℕ) e : Int)) (i : Fin a) (j : Fin b) (k : Fin c) :
    Host.dynamicSlice ⟨4, ![1, a, b, c]⟩ x start h (ix4 0 i j k) = x (ix4 p i j k) := by
  have hoff : (⟨4, ![n, a, b, c]⟩ : Shape).Slices ![p.val, 0, 0, 0] ⟨4, ![1, a, b, c]⟩ := ⟨rfl, fun e => by
    match e with
    | ⟨0, _⟩ => show p.val + 1 ≤ n; omega
    | ⟨1, _⟩ => show 0 + a ≤ a; omega
    | ⟨2, _⟩ => show 0 + b ≤ b; omega
    | ⟨3, _⟩ => show 0 + c ≤ c; omega⟩
  rw [Host.dynamicSlice_eq_extractStridedSlice _ x start ![p.val, 0, 0, 0] h hoff hs]
  refine congrArg x (funext fun e => Fin.ext ?_)
  match e with
  | ⟨0, _⟩ => show p.val + 0 = p.val; omega
  | ⟨1, _⟩ => show 0 + i.val = i.val; omega
  | ⟨2, _⟩ => show 0 + j.val = j.val; omega
  | ⟨3, _⟩ => show 0 + k.val = k.val; omega

/-- … and of three. -/
theorem slice3 {α : Type} {n a b : ℕ} (x : (⟨3, ![n, a, b]⟩ : Shape).Idx → α) (start : Fin 3 → Int)
    (h : (⟨3, ![n, a, b]⟩ : Shape).Slices (fun _ => 0) ⟨3, ![1, a, b]⟩) (p : Fin n)
    (hs : ∀ e, start e = ((![p.val, 0, 0] : Fin 3 → ℕ) e : Int)) (i : Fin a) (j : Fin b) :
    Host.dynamicSlice ⟨3, ![1, a, b]⟩ x start h (ix3 0 i j) = x (ix3 p i j) := by
  have hoff : (⟨3, ![n, a, b]⟩ : Shape).Slices ![p.val, 0, 0] ⟨3, ![1, a, b]⟩ := ⟨rfl, fun e => by
    match e with
    | ⟨0, _⟩ => show p.val + 1 ≤ n; omega
    | ⟨1, _⟩ => show 0 + a ≤ a; omega
    | ⟨2, _⟩ => show 0 + b ≤ b; omega⟩
  rw [Host.dynamicSlice_eq_extractStridedSlice _ x start ![p.val, 0, 0] h hoff hs]
  refine congrArg x (funext fun e => Fin.ext ?_)
  match e with
  | ⟨0, _⟩ => show p.val + 0 = p.val; omega
  | ⟨1, _⟩ => show 0 + i.val = i.val; omega
  | ⟨2, _⟩ => show 0 + j.val = j.val; omega

/-- One slice of the first of four axes written over: that slice is the update, the others are kept. -/
theorem update4 {α : Type} {n a b c : ℕ} (x : (⟨4, ![n, a, b, c]⟩ : Shape).Idx → α) (upd : (⟨4, ![1, a, b, c]⟩ : Shape).Idx → α)
    (start : Fin 4 → Int) (h : (⟨4, ![n, a, b, c]⟩ : Shape).Slices (fun _ => 0) ⟨4, ![1, a, b, c]⟩) (p : Fin n)
    (hs : ∀ e, start e = ((![p.val, 0, 0, 0] : Fin 4 → ℕ) e : Int)) (m : Fin n) (i : Fin a) (j : Fin b) (k : Fin c) :
    Host.dynamicUpdateSlice x upd start h (ix4 m i j k) = if m = p then upd (ix4 0 i j k) else x (ix4 m i j k) := by
  have hoff : (⟨4, ![n, a, b, c]⟩ : Shape).Slices ![p.val, 0, 0, 0] ⟨4, ![1, a, b, c]⟩ := ⟨rfl, fun e => by
    match e with
    | ⟨0, _⟩ => show p.val + 1 ≤ n; omega
    | ⟨1, _⟩ => show 0 + a ≤ a; omega
    | ⟨2, _⟩ => show 0 + b ≤ b; omega
    | ⟨3, _⟩ => show 0 + c ≤ c; omega⟩
  rw [Host.dynamicUpdateSlice_eq_updateSlice x upd start h ![p.val, 0, 0, 0]
    (fun e => by have := hoff.2 e; rw [hs e]; omega) hoff]
  by_cases hm : m = p
  · subst hm
    rw [if_pos rfl]
    have hin : ∀ e : Fin 4, (![m.val, 0, 0, 0] : Fin 4 → ℕ) e ≤ ((ix4 m i j k : (⟨4, ![n, a, b, c]⟩ : Shape).Idx) e).val
        ∧ ((ix4 m i j k : (⟨4, ![n, a, b, c]⟩ : Shape).Idx) e).val < (![m.val, 0, 0, 0] : Fin 4 → ℕ) e + (![1, a, b, c] : Fin 4 → ℕ) e := by
      intro e
      match e with
      | ⟨0, _⟩ => show m.val ≤ m.val ∧ m.val < m.val + 1; omega
      | ⟨1, _⟩ => show 0 ≤ i.val ∧ i.val < 0 + a; omega
      | ⟨2, _⟩ => show 0 ≤ j.val ∧ j.val < 0 + b; omega
      | ⟨3, _⟩ => show 0 ≤ k.val ∧ k.val < 0 + c; omega
    refine (dif_pos hin).trans (congrArg upd (funext fun e => Fin.ext ?_))
    match e with
    | ⟨0, _⟩ => show m.val - m.val = 0; omega
    | ⟨1, _⟩ => show i.val - 0 = i.val; omega
    | ⟨2, _⟩ => show j.val - 0 = j.val; omega
    | ⟨3, _⟩ => show k.val - 0 = k.val; omega
  · rw [if_neg hm]
    refine dif_neg fun hin => hm (Fin.ext ?_)
    have h0 : p.val ≤ m.val ∧ m.val < p.val + 1 := hin 0
    omega

/-- … and of three. -/
theorem update3 {α : Type} {n a b : ℕ} (x : (⟨3, ![n, a, b]⟩ : Shape).Idx → α) (upd : (⟨3, ![1, a, b]⟩ : Shape).Idx → α)
    (start : Fin 3 → Int) (h : (⟨3, ![n, a, b]⟩ : Shape).Slices (fun _ => 0) ⟨3, ![1, a, b]⟩) (p : Fin n)
    (hs : ∀ e, start e = ((![p.val, 0, 0] : Fin 3 → ℕ) e : Int)) (m : Fin n) (i : Fin a) (j : Fin b) :
    Host.dynamicUpdateSlice x upd start h (ix3 m i j) = if m = p then upd (ix3 0 i j) else x (ix3 m i j) := by
  have hoff : (⟨3, ![n, a, b]⟩ : Shape).Slices ![p.val, 0, 0] ⟨3, ![1, a, b]⟩ := ⟨rfl, fun e => by
    match e with
    | ⟨0, _⟩ => show p.val + 1 ≤ n; omega
    | ⟨1, _⟩ => show 0 + a ≤ a; omega
    | ⟨2, _⟩ => show 0 + b ≤ b; omega⟩
  rw [Host.dynamicUpdateSlice_eq_updateSlice x upd start h ![p.val, 0, 0]
    (fun e => by have := hoff.2 e; rw [hs e]; omega) hoff]
  by_cases hm : m = p
  · subst hm
    rw [if_pos rfl]
    have hin : ∀ e : Fin 3, (![m.val, 0, 0] : Fin 3 → ℕ) e ≤ ((ix3 m i j : (⟨3, ![n, a, b]⟩ : Shape).Idx) e).val
        ∧ ((ix3 m i j : (⟨3, ![n, a, b]⟩ : Shape).Idx) e).val < (![m.val, 0, 0] : Fin 3 → ℕ) e + (![1, a, b] : Fin 3 → ℕ) e := by
      intro e
      match e with
      | ⟨0, _⟩ => show m.val ≤ m.val ∧ m.val < m.val + 1; omega
      | ⟨1, _⟩ => show 0 ≤ i.val ∧ i.val < 0 + a; omega
      | ⟨2, _⟩ => show 0 ≤ j.val ∧ j.val < 0 + b; omega
    refine (dif_pos hin).trans (congrArg upd (funext fun e => Fin.ext ?_))
    match e with
    | ⟨0, _⟩ => show m.val - m.val = 0; omega
    | ⟨1, _⟩ => show i.val - 0 = i.val; omega
    | ⟨2, _⟩ => show j.val - 0 = j.val; omega
  · rw [if_neg hm]
    refine dif_neg fun hin => hm (Fin.ext ?_)
    have h0 : p.val ≤ m.val ∧ m.val < p.val + 1 := hin 0
    omega

/-- The chunk that trip `j` reads. -/
theorem start_at (j : ℕ) (hj : j < 129) (s : State Ideal) (i : S_.Idx) : (b3 j s i).toInt = ((trip j).val : Int) := by
  have e : b3 j s i = BitVec.ofNat 32 (128 - j) := by
    show (129#32 - BitVec.ofNat 32 j) - 1#32 = BitVec.ofNat 32 (128 - j)
    apply BitVec.eq_of_toNat_eq
    simp only [BitVec.toNat_sub, BitVec.toNat_ofNat]
    omega
  rw [e, toInt_ofNat_of_lt (by omega)]
  rfl

theorem starts4 (j : ℕ) (hj : j < 129) (s : State Ideal) (z : Fin 3 → (⟨S_, .i32⟩ : BufTy).Contents (Elt Ideal))
    (hz : ∀ e i, (z e i).toInt = 0) (e : Fin 4) :
    ((![b3 j s, z 0, z 1, z 2] : Fin 4 → (⟨S_, .i32⟩ : BufTy).Contents (Elt Ideal)) e (Shape.Idx.first h_S_)).toInt
      = ((![(trip j).val, 0, 0, 0] : Fin 4 → ℕ) e : Int) := by
  match e with
  | ⟨0, _⟩ => exact start_at j hj s _
  | ⟨1, _⟩ => exact hz 0 _
  | ⟨2, _⟩ => exact hz 1 _
  | ⟨3, _⟩ => exact hz 2 _

theorem starts3 (j : ℕ) (hj : j < 129) (s : State Ideal) (z : Fin 2 → (⟨S_, .i32⟩ : BufTy).Contents (Elt Ideal))
    (hz : ∀ e i, (z e i).toInt = 0) (e : Fin 3) :
    ((![b3 j s, z 0, z 1] : Fin 3 → (⟨S_, .i32⟩ : BufTy).Contents (Elt Ideal)) e (Shape.Idx.first h_S_)).toInt
      = ((![(trip j).val, 0, 0] : Fin 3 → ℕ) e : Int) := by
  match e with
  | ⟨0, _⟩ => exact start_at j hj s _
  | ⟨1, _⟩ => exact hz 0 _
  | ⟨2, _⟩ => exact hz 1 _

theorem read8 (j : ℕ) (hj : j < 129) (s : State Ideal) (h : Fin 8) (i : Fin 64) (d : Fin 128) :
    b8 j s (ix3 h i d) = s.main_v14_0 (ix4 (trip j) h i d) := by
  have e : b7 j s (ix4 0 h i d) = s.main_v14_0 (ix4 (trip j) h i d) :=
    slice4 _ _ _ (trip j) (starts4 j hj s ![b4 j s, b5 j s, b6 j s] (fun e _ => by match e with | ⟨0, _⟩ => rfl | ⟨1, _⟩ => rfl | ⟨2, _⟩ => rfl)) h i d
  pointwise [b8, e]

theorem read13 (j : ℕ) (hj : j < 129) (s : State Ideal) (h : Fin 8) (i : Fin 64) (d : Fin 128) :
    b13 j s (ix3 h i d) = s.main_v14_1 (ix4 (trip j) h i d) := by
  have e : b12 j s (ix4 0 h i d) = s.main_v14_1 (ix4 (trip j) h i d) :=
    slice4 _ _ _ (trip j) (starts4 j hj s ![b9 j s, b10 j s, b11 j s] (fun e _ => by match e with | ⟨0, _⟩ => rfl | ⟨1, _⟩ => rfl | ⟨2, _⟩ => rfl)) h i d
  pointwise [b13, e]

theorem read18 (j : ℕ) (hj : j < 129) (s : State Ideal) (h : Fin 8) (i : Fin 64) (d : Fin 128) :
    b18 j s (ix3 h i d) = s.main_v14_2 (ix4 (trip j) h i d) := by
  have e : b17 j s (ix4 0 h i d) = s.main_v14_2 (ix4 (trip j) h i d) :=
    slice4 _ _ _ (trip j) (starts4 j hj s ![b14 j s, b15 j s, b16 j s] (fun e _ => by match e with | ⟨0, _⟩ => rfl | ⟨1, _⟩ => rfl | ⟨2, _⟩ => rfl)) h i d
  pointwise [b18, e]

theorem read27 (j : ℕ) (hj : j < 129) (s : State Ideal) (h : Fin 8) (i : Fin 64) (d : Fin 128) :
    b27 j s (ix3 h i d) = s.main_v14_4 (ix4 (trip j) h i d) := by
  have e : b26 j s (ix4 0 h i d) = s.main_v14_4 (ix4 (trip j) h i d) :=
    slice4 _ _ _ (trip j) (starts4 j hj s ![b23 j s, b24 j s, b25 j s] (fun e _ => by match e with | ⟨0, _⟩ => rfl | ⟨1, _⟩ => rfl | ⟨2, _⟩ => rfl)) h i d
  pointwise [b27, e]

theorem read32 (j : ℕ) (hj : j < 129) (s : State Ideal) (h : Fin 8) (i d : Fin 128) :
    b32 j s (ix3 h i d) = s.main_v14_5 (ix4 (trip j) h i d) := by
  have e : b31 j s (ix4 0 h i d) = s.main_v14_5 (ix4 (trip j) h i d) :=
    slice4 _ _ _ (trip j) (starts4 j hj s ![b28 j s, b29 j s, b30 j s] (fun e _ => by match e with | ⟨0, _⟩ => rfl | ⟨1, _⟩ => rfl | ⟨2, _⟩ => rfl)) h i d
  pointwise [b32, e]

theorem read37 (j : ℕ) (hj : j < 129) (s : State Ideal) (h : Fin 8) (i d : Fin 64) :
    b37 j s (ix3 h i d) = s.main_v14_6 (ix4 (trip j) h i d) := by
  have e : b36 j s (ix4 0 h i d) = s.main_v14_6 (ix4 (trip j) h i d) :=
    slice4 _ _ _ (trip j) (starts4 j hj s ![b33 j s, b34 j s, b35 j s] (fun e _ => by match e with | ⟨0, _⟩ => rfl | ⟨1, _⟩ => rfl | ⟨2, _⟩ => rfl)) h i d
  pointwise [b37, e]

theorem read22 (j : ℕ) (hj : j < 129) (s : State Ideal) (i : Fin 64) (d : Fin 128) :
    b22 j s (ix2 i d) = s.main_v14_3 (ix3 (trip j) i d) := by
  have e : b21 j s (ix3 0 i d) = s.main_v14_3 (ix3 (trip j) i d) :=
    slice3 _ _ _ (trip j) (starts3 j hj s ![b19 j s, b20 j s] (fun e _ => by match e with | ⟨0, _⟩ => rfl | ⟨1, _⟩ => rfl)) i d
  pointwise [b22, e]

theorem write275 (j : ℕ) (hj : j < 129) (s : State Ideal) (n : Fin 129) (h : Fin 8) (i : Fin 64) (d : Fin 128) :
    b275 j s (ix4 n h i d) = if n = trip j then b270 j s (ix3 h i d) else s.main_v14_9 (ix4 n h i d) := by
  have e : b271 j s (ix4 0 h i d) = b270 j s (ix3 h i d) := by pointwise [b271]
  rw [← e]
  exact update4 _ _ _ _ (trip j) (starts4 j hj s ![b272 j s, b273 j s, b274 j s] (fun e _ => by match e with | ⟨0, _⟩ => rfl | ⟨1, _⟩ => rfl | ⟨2, _⟩ => rfl)) n h i d

theorem write280 (j : ℕ) (hj : j < 129) (s : State Ideal) (n : Fin 129) (h : Fin 8) (i : Fin 64) (d : Fin 128) :
    b280 j s (ix4 n h i d) = if n = trip j then b237 j s (ix3 h i d) else s.main_v14_10 (ix4 n h i d) := by
  have e : b276 j s (ix4 0 h i d) = b237 j s (ix3 h i d) := by pointwise [b276]
  rw [← e]
  exact update4 _ _ _ _ (trip j) (starts4 j hj s ![b277 j s, b278 j s, b279 j s] (fun e _ => by match e with | ⟨0, _⟩ => rfl | ⟨1, _⟩ => rfl | ⟨2, _⟩ => rfl)) n h i d

theorem write285 (j : ℕ) (hj : j < 129) (s : State Ideal) (n : Fin 129) (h : Fin 8) (i : Fin 64) (d : Fin 128) :
    b285 j s (ix4 n h i d) = if n = trip j then b213 j s (ix3 h i d) else s.main_v14_11 (ix4 n h i d) := by
  have e : b281 j s (ix4 0 h i d) = b213 j s (ix3 h i d) := by pointwise [b281]
  rw [← e]
  exact update4 _ _ _ _ (trip j) (starts4 j hj s ![b282 j s, b283 j s, b284 j s] (fun e _ => by match e with | ⟨0, _⟩ => rfl | ⟨1, _⟩ => rfl | ⟨2, _⟩ => rfl)) n h i d

theorem write289 (j : ℕ) (hj : j < 129) (s : State Ideal) (n : Fin 129) (i : Fin 64) (d : Fin 128) :
    b289 j s (ix3 n i d) = if n = trip j then b267 j s (ix2 i d) else s.main_v14_12 (ix3 n i d) := by
  have e : b286 j s (ix3 0 i d) = b267 j s (ix2 i d) := by pointwise [b286]
  rw [← e]
  exact update3 _ _ _ _ (trip j) (starts3 j hj s ![b287 j s, b288 j s] (fun e _ => by match e with | ⟨0, _⟩ => rfl | ⟨1, _⟩ => rfl)) n i d

/-- What holds before trip `j`: the chunked arguments, the carried gradient, and the chunks already written. -/
structure Inv (I : Inp) (j : ℕ) (s : State Ideal) : Prop where
  q : ∀ n h i d, s.main_v14_0 (ix4 n h i d) = (I.q h (row n i) d : EReal)
  k : ∀ n h i d, s.main_v14_1 (ix4 n h i d) = (I.k h (row n i) d : EReal)
  v : ∀ n h i d, s.main_v14_2 (ix4 n h i d) = (I.v h (row n i) d : EReal)
  gb : ∀ n i d, s.main_v14_3 (ix3 n i d) = (I.gb (row n i) d : EReal)
  dO : ∀ n h i d, s.main_v14_4 (ix4 n h i d) = (I.dO h (row n i) d : EReal)
  S : ∀ n h d e, s.main_v14_5 (ix4 n h d e) = (I.S n h d e : EReal)
  T : ∀ n h i l, s.main_v14_6 (ix4 n h i l) = (I.T n h i l : EReal)
  dS : ∀ h d e, s.main_v14_8 (ix3 h d e) = (I.dS j h d e : EReal)
  dq : ∀ n h i d, tripTo n < j → s.main_v14_9 (ix4 n h i d) = ((I.tripOf (tripTo n)).dq h i d : EReal)
  dk : ∀ n h i d, tripTo n < j → s.main_v14_10 (ix4 n h i d) = ((I.tripOf (tripTo n)).dk h i d : EReal)
  dv : ∀ n h i d, tripTo n < j → s.main_v14_11 (ix4 n h i d) = ((I.tripOf (tripTo n)).dv h i d : EReal)
  dgb : ∀ n i d, tripTo n < j → s.main_v14_12 (ix3 n i d) = ((I.tripOf (tripTo n)).dgb i d : EReal)

theorem tripTo_lt {n : Fin 129} {j : ℕ} (hj : j < 129) (hn : n ≠ trip j) (h : tripTo n < j + 1) : tripTo n < j := by
  have hne : n.val ≠ 128 - j := fun e => hn (Fin.ext e)
  have h' : 128 - n.val < j + 1 := h
  show 128 - n.val < j
  omega

variable {I : Inp}

theorem Inv.reads {j : ℕ} {s : State Ideal} (H : Inv I j s) (hj : j < 129) : Reads j s (I.tripOf j) where
  q h i d := (read8 j hj s h i d).trans (H.q _ _ _ _)
  k h i d := (read13 j hj s h i d).trans (H.k _ _ _ _)
  v h i d := (read18 j hj s h i d).trans (H.v _ _ _ _)
  gb i d := (read22 j hj s i d).trans (H.gb _ _ _)
  dO h i d := (read27 j hj s h i d).trans (H.dO _ _ _ _)
  S h d e := (read32 j hj s h d e).trans (H.S _ _ _ _)
  T h i l := (read37 j hj s h i l).trans (H.T _ _ _ _)
  dS := H.dS

theorem Inv.next {j : ℕ} {s : State Ideal} (H : Inv I j s) (hj : j < 129) : Inv I (j + 1) (step j s) where
  q := H.q
  k := H.k
  v := H.v
  gb := H.gb
  dO := H.dO
  S := H.S
  T := H.T
  dS h d e := by
    rw [step_main_v14_8]
    exact b149_at (H.reads hj) h d e
  dq n h i d hn := by
    rw [step_main_v14_9, write275 j hj]
    split
    · next e =>
      subst e
      rw [tripTo_trip j hj]
      exact b270_at (H.reads hj) h i d
    · next e => exact H.dq n h i d (tripTo_lt hj e hn)
  dk n h i d hn := by
    rw [step_main_v14_10, write280 j hj]
    split
    · next e =>
      subst e
      rw [tripTo_trip j hj]
      exact b237_at (H.reads hj) h i d
    · next e => exact H.dk n h i d (tripTo_lt hj e hn)
  dv n h i d hn := by
    rw [step_main_v14_11, write285 j hj]
    split
    · next e =>
      subst e
      rw [tripTo_trip j hj]
      exact b213_at (H.reads hj) h i d
    · next e => exact H.dv n h i d (tripTo_lt hj e hn)
  dgb n i d hn := by
    rw [step_main_v14_12, write289 j hj]
    split
    · next e =>
      subst e
      rw [tripTo_trip j hj]
      exact b267_at (H.reads hj) i d
    · next e => exact H.dgb n i d (tripTo_lt hj e hn)

/-- All the trips. -/
theorem inv_iter (it : ℕ → State Ideal) (h0 : Inv I 0 (it 0)) (hs : ∀ n, it (n + 1) = step n (it n)) :
    ∀ j, j ≤ 129 → Inv I j (it j)
  | 0, _ => h0
  | j + 1, h => by
    rw [hs j]
    exact (inv_iter it h0 hs j (by omega)).next (by omega)

/-- An array of rows cut into chunks. -/
theorem cut_at (x : (⟨S8x8256x128, .f32⟩ : BufTy).Contents (Elt Ideal)) (n : Fin 129) (h : Fin 8) (i : Fin 64) (d : Fin 128) :
    transpose S129x8x64x128 [1, 0, 2, 3] (shapeCast S8x129x64x128 x shapeCasts_S8x8256x128_S8x129x64x128)
      transposes_S8x129x64x128_S129x8x64x128_1_0_2_3 (ix4 n h i d) = x (ix3 h (row n i) d) := by
  pointwise
  exact congrArg x (congrArg (fun r => ix3 h r d) (Fin.ext (by show n.val * 64 + i.val = 64 * n.val + i.val; omega)))

theorem cutg_at (x : (⟨S8256x128, .f32⟩ : BufTy).Contents (Elt Ideal)) (n : Fin 129) (i : Fin 64) (d : Fin 128) :
    shapeCast S129x64x128 x shapeCasts_S8256x128_S129x64x128 (ix3 n i d) = x (ix2 (row n i) d) := by
  pointwise
  exact congrArg x (congrArg (fun r => ix2 r d) (Fin.ext (by show n.val * 64 + i.val = 64 * n.val + i.val; omega)))

/-- Chunks laid end to end. -/
theorem join_at (x : (⟨S129x8x64x128, .f32⟩ : BufTy).Contents (Elt Ideal)) (h : Fin 8) (r : Fin 8256) (d : Fin 128) :
    shapeCast S8x8256x128 (transpose S8x129x64x128 [1, 0, 2, 3] x transposes_S129x8x64x128_S8x129x64x128_1_0_2_3)
      shapeCasts_S8x129x64x128_S8x8256x128 (ix3 h r d) = x (ix4 (chunkOf r) h (placeOf r) d) := by
  pointwise
  rfl

theorem joing_at (x : (⟨S129x64x128, .f32⟩ : BufTy).Contents (Elt Ideal)) (r : Fin 8256) (d : Fin 128) :
    shapeCast S8256x128 x shapeCasts_S129x64x128_S8256x128 (ix2 r d) = x (ix3 (chunkOf r) (placeOf r) d) := by
  pointwise
  rfl

/-- What holds before the first trip, the argument arrays being `I`. -/
theorem inv_init {a0 a1 a2 a4 : (⟨S8x8256x128, .f32⟩ : BufTy).Contents (Elt Ideal)} {a3 : (⟨S8256x128, .f32⟩ : BufTy).Contents (Elt Ideal)}
    {a5 : (⟨S129x8x128x128, .f32⟩ : BufTy).Contents (Elt Ideal)} {a6 : (⟨S129x8x64x64, .f32⟩ : BufTy).Contents (Elt Ideal)}
    (hq : ∀ h r d, a0 (ix3 h r d) = (I.q h r d : EReal)) (hk : ∀ h r d, a1 (ix3 h r d) = (I.k h r d : EReal))
    (hv : ∀ h r d, a2 (ix3 h r d) = (I.v h r d : EReal)) (hg : ∀ r d, a3 (ix2 r d) = (I.gb r d : EReal))
    (ho : ∀ h r d, a4 (ix3 h r d) = (I.dO h r d : EReal)) (hS : ∀ n h d e, a5 (ix4 n h d e) = (I.S n h d e : EReal))
    (hT : ∀ n h i l, a6 (ix4 n h i l) = (I.T n h i l : EReal)) : Inv I 0 (init (F := Ideal) a5 a6 a0 a1 a2 a3 a4) where
  q n h i d := (cut_at a0 n h i d).trans (hq _ _ _)
  k n h i d := (cut_at a1 n h i d).trans (hk _ _ _)
  v n h i d := (cut_at a2 n h i d).trans (hv _ _ _)
  gb n i d := (cutg_at a3 n i d).trans (hg _ _)
  dO n h i d := (cut_at a4 n h i d).trans (ho _ _ _)
  S := hS
  T := hT
  dS h d e := by
    show K_main_v9 (F := Ideal) (ix3 h d e) = _
    pointwise [K_main_v9, K_main_cst]
    rfl
  dq _ _ _ _ hn := absurd hn (Nat.not_lt_zero _)
  dk _ _ _ _ hn := absurd hn (Nat.not_lt_zero _)
  dv _ _ _ _ hn := absurd hn (Nat.not_lt_zero _)
  dgb _ _ _ hn := absurd hn (Nat.not_lt_zero _)

theorem tripTo_le (n : Fin 129) : tripTo n < 129 := by show 128 - n.val < 129; omega

theorem R16 {s : State Ideal} (H : Inv I 129 s) : R_main_v16 s = fun i : S8x8256x128.Idx => (I.dq (i 0) (i 1) (i 2) : EReal) := by
  funext i
  exact (congrArg (R_main_v16 s) (eq_ix3 (n0 := 8) (n1 := 8256) (n2 := 128) i)).trans
    ((join_at s.main_v14_9 _ _ _).trans (H.dq _ _ _ _ (tripTo_le _)))

theorem R18 {s : State Ideal} (H : Inv I 129 s) : R_main_v18 s = fun i : S8x8256x128.Idx => (I.dk (i 0) (i 1) (i 2) : EReal) := by
  funext i
  exact (congrArg (R_main_v18 s) (eq_ix3 (n0 := 8) (n1 := 8256) (n2 := 128) i)).trans
    ((join_at s.main_v14_10 _ _ _).trans (H.dk _ _ _ _ (tripTo_le _)))

theorem R20 {s : State Ideal} (H : Inv I 129 s) : R_main_v20 s = fun i : S8x8256x128.Idx => (I.dv (i 0) (i 1) (i 2) : EReal) := by
  funext i
  exact (congrArg (R_main_v20 s) (eq_ix3 (n0 := 8) (n1 := 8256) (n2 := 128) i)).trans
    ((join_at s.main_v14_11 _ _ _).trans (H.dv _ _ _ _ (tripTo_le _)))

theorem R21 {s : State Ideal} (H : Inv I 129 s) : R_main_v21 s = fun i : S8256x128.Idx => (I.dgb (i 0) (i 1) : EReal) := by
  funext i
  exact (congrArg (R_main_v21 s) (eq_ix2 (n0 := 8256) (n1 := 128) i)).trans
    ((joing_at s.main_v14_12 _ _).trans (H.dgb _ _ _ (tripTo_le _)))

end Cert.Delta.Ref

end
-- ==== Proof.RefTrips.lean ====
module

public import proofs.«01_k».proof.Proof.Gen.ReferenceIdeal.Run
public import proofs.«01_k».proof.Proof.Gen.ReferenceIdeal.Step

/-! The reference's run, trip by trip.  The run leaves a valuation, got by applying one trip's update
    129 times; the mathematics speaks of a record of the carried arrays.  Here the record is read off
    the valuation and shown to move, in one trip, by the step function of the record. -/

@[expose] public section

set_option maxRecDepth 8192

noncomputable section

namespace Cert.Delta.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v14_8 step_main_v14_9 step_main_v14_10 step_main_v14_11 step_main_v14_12

variable {F : FTy → Type} [FloatOps F]

/-- The arrays the loop carries, read off a valuation. -/
def carried (V : Valuation τ sig (Elt F)) : State F where
  main_v14_8 := V (Proc.devRef .tc main_v14_8)
  main_v14_9 := V (Proc.devRef .tc main_v14_9)
  main_v14_10 := V (Proc.devRef .tc main_v14_10)
  main_v14_11 := V (Proc.devRef .tc main_v14_11)
  main_v14_12 := V (Proc.devRef .tc main_v14_12)
  main_v14_0 := V (Proc.devRef .tc main_v14_0)
  main_v14_1 := V (Proc.devRef .tc main_v14_1)
  main_v14_2 := V (Proc.devRef .tc main_v14_2)
  main_v14_3 := V (Proc.devRef .tc main_v14_3)
  main_v14_4 := V (Proc.devRef .tc main_v14_4)
  main_v14_5 := V (Proc.devRef .tc main_v14_5)
  main_v14_6 := V (Proc.devRef .tc main_v14_6)

/-- The trip counter of the valuation stands at `j`. -/
def Counts (j : ℕ) (V : Valuation τ sig (Elt F)) : Prop :=
  V (Proc.devRef .tc main_v14_7) = constantI S_ 32 (BitVec.ofNat 32 j)

variable {V : Valuation τ sig (Elt F)} {j : ℕ}

/-! The values one trip shares, each at the record. -/

theorem of_v23 (hn : Counts j V) : res_main_while0b_v23 V = b3 j (carried V) := by
  unfold res_main_while0b_v23
  rw [hn]
  rfl

theorem of_v25 (hn : Counts j V) : res_main_while0b_v25 V = b13 j (carried V) := by
  unfold res_main_while0b_v25
  rw [of_v23 hn]
  rfl

theorem of_v26 (hn : Counts j V) : res_main_while0b_v26 V = b18 j (carried V) := by
  unfold res_main_while0b_v26
  rw [of_v23 hn]
  rfl

theorem of_v27 (hn : Counts j V) : res_main_while0b_v27 V = b22 j (carried V) := by
  unfold res_main_while0b_v27
  rw [of_v23 hn]
  rfl

theorem of_v28 (hn : Counts j V) : res_main_while0b_v28 V = b27 j (carried V) := by
  unfold res_main_while0b_v28
  rw [of_v23 hn]
  rfl

theorem of_v29 (hn : Counts j V) : res_main_while0b_v29 V = b32 j (carried V) := by
  unfold res_main_while0b_v29
  rw [of_v23 hn]
  rfl

theorem of_v30 (hn : Counts j V) : res_main_while0b_v30 V = b37 j (carried V) := by
  unfold res_main_while0b_v30
  rw [of_v23 hn]
  rfl

theorem of_v32 (hn : Counts j V) : res_main_while0b_v32 V = b40 j (carried V) := by
  unfold res_main_while0b_v32
  rw [of_v23 hn]
  rfl

theorem of_v34 (hn : Counts j V) : res_main_while0b_v34 V = b42 j (carried V) := by
  unfold res_main_while0b_v34
  rw [of_v27 hn]
  rfl

theorem of_v37 (hn : Counts j V) : res_main_while0b_v37 V = b47 j (carried V) := by
  unfold res_main_while0b_v37
  rw [of_v27 hn]
  rfl

theorem of_v38 (hn : Counts j V) : res_main_while0b_v38 V = b48 j (carried V) := by
  unfold res_main_while0b_v38
  rfl

theorem of_v43 (hn : Counts j V) : res_main_while0b_v43 V = b53 j (carried V) := by
  unfold res_main_while0b_v43
  rw [of_v38 hn]
  rfl

theorem of_v54_1 (hn : Counts j V) : res_main_while0b_v54_1 V = b66 j (carried V) := by
  unfold res_main_while0b_v54_1
  rw [of_v43 hn]
  rfl

theorem of_v55 (hn : Counts j V) : res_main_while0b_v55 V = b71 j (carried V) := by
  unfold res_main_while0b_v55
  rw [of_v54_1 hn, of_v37 hn]
  rfl

theorem of_v56 (hn : Counts j V) : res_main_while0b_v56 V = b72 j (carried V) := by
  unfold res_main_while0b_v56
  rw [of_v34 hn]
  rfl

theorem of_v58 (hn : Counts j V) : res_main_while0b_v58 V = b74 j (carried V) := by
  unfold res_main_while0b_v58
  rw [of_v25 hn, of_v56 hn]
  rfl

theorem of_v59 (hn : Counts j V) : res_main_while0b_v59 V = b75 j (carried V) := by
  unfold res_main_while0b_v59
  rw [of_v58 hn, of_v25 hn]
  rfl

theorem of_v61_1 (hn : Counts j V) : res_main_while0b_v61_1 V = b79 j (carried V) := by
  unfold res_main_while0b_v61_1
  rw [of_v38 hn]
  rfl

theorem of_v62 (hn : Counts j V) : res_main_while0b_v62 V = b84 j (carried V) := by
  unfold res_main_while0b_v62
  rw [of_v34 hn]
  rfl

theorem of_v64 (hn : Counts j V) : res_main_while0b_v64 V = b86 j (carried V) := by
  unfold res_main_while0b_v64
  rw [of_v26 hn, of_v62 hn]
  rfl

theorem of_v66 (hn : Counts j V) : res_main_while0b_v66 V = b88 j (carried V) := by
  unfold res_main_while0b_v66
  rw [of_v37 hn]
  rfl

theorem of_v67 (hn : Counts j V) : res_main_while0b_v67 V = b89 j (carried V) := by
  unfold res_main_while0b_v67
  rw [of_v66 hn]
  rfl

theorem of_v69 (hn : Counts j V) : res_main_while0b_v69 V = b91 j (carried V) := by
  unfold res_main_while0b_v69
  rw [of_v58 hn, of_v67 hn]
  rfl

theorem of_v70 (hn : Counts j V) : res_main_while0b_v70 V = b92 j (carried V) := by
  unfold res_main_while0b_v70
  rw [of_v30 hn, of_v69 hn]
  rfl

theorem of_v71 (hn : Counts j V) : res_main_while0b_v71 V = b93 j (carried V) := by
  unfold res_main_while0b_v71
  rw [of_v32 hn, of_v25 hn]
  rfl

theorem of_v73_1 (hn : Counts j V) : res_main_while0b_v73_1 V = b97 j (carried V) := by
  unfold res_main_while0b_v73_1
  rw [of_v43 hn]
  rfl

theorem of_v73_0 (hn : Counts j V) : res_main_while0b_v73_0 V = b99 j (carried V) := by
  unfold res_main_while0b_v73_0
  rw [of_v73_1 hn, of_v71 hn, of_v55 hn]
  rfl

theorem of_v74 (hn : Counts j V) : res_main_while0b_v74 V = b102 j (carried V) := by
  unfold res_main_while0b_v74
  rw [of_v37 hn]
  rfl

theorem of_v75 (hn : Counts j V) : res_main_while0b_v75 V = b103 j (carried V) := by
  unfold res_main_while0b_v75
  rw [of_v74 hn]
  rfl

theorem of_v77 (hn : Counts j V) : res_main_while0b_v77 V = b105 j (carried V) := by
  unfold res_main_while0b_v77
  rw [of_v32 hn, of_v75 hn]
  rfl

theorem of_v81 (hn : Counts j V) : res_main_while0b_v81 V = b109 j (carried V) := by
  unfold res_main_while0b_v81
  rw [of_v37 hn]
  rfl

theorem of_v82 (hn : Counts j V) : res_main_while0b_v82 V = b110 j (carried V) := by
  unfold res_main_while0b_v82
  rw [of_v81 hn]
  rfl

theorem of_v84 (hn : Counts j V) : res_main_while0b_v84 V = b112 j (carried V) := by
  unfold res_main_while0b_v84
  rw [of_v25 hn, of_v82 hn]
  rfl

theorem of_v87 (hn : Counts j V) : res_main_while0b_v87 V = b115 j (carried V) := by
  unfold res_main_while0b_v87
  rw [of_v37 hn]
  rfl

theorem of_v89 (hn : Counts j V) : res_main_while0b_v89 V = b117 j (carried V) := by
  unfold res_main_while0b_v89
  rw [of_v30 hn, of_v64 hn, of_v70 hn, of_v29 hn]
  rfl

theorem of_v93 (hn : Counts j V) : res_main_while0b_v93 V = b121 j (carried V) := by
  unfold res_main_while0b_v93
  rw [of_v87 hn]
  rfl

theorem of_v101 (hn : Counts j V) : res_main_while0b_v101 V = b129 j (carried V) := by
  unfold res_main_while0b_v101
  rw [of_v89 hn]
  rfl

theorem of_v110 (hn : Counts j V) : res_main_while0b_v110 V = b140 j (carried V) := by
  unfold res_main_while0b_v110
  rw [of_v84 hn, of_v28 hn, of_v73_0 hn]
  rfl

theorem of_v115 (hn : Counts j V) : res_main_while0b_v115 V = b145 j (carried V) := by
  unfold res_main_while0b_v115
  rw [of_v28 hn, of_v29 hn]
  rfl

theorem of_v116 (hn : Counts j V) : res_main_while0b_v116 V = b146 j (carried V) := by
  unfold res_main_while0b_v116
  rw [of_v110 hn]
  rfl

theorem of_v120 (hn : Counts j V) : res_main_while0b_v120 V = b150 j (carried V) := by
  unfold res_main_while0b_v120
  rw [of_v116 hn, of_v29 hn]
  rfl

theorem of_v130 (hn : Counts j V) : res_main_while0b_v130 V = b163 j (carried V) := by
  unfold res_main_while0b_v130
  rw [of_v25 hn, of_v101 hn, of_v81 hn]
  rfl

theorem of_v145 (hn : Counts j V) : res_main_while0b_v145 V = b184 j (carried V) := by
  unfold res_main_while0b_v145
  rw [of_v73_1 hn, of_v28 hn, of_v89 hn]
  rfl

theorem of_v147 (hn : Counts j V) : res_main_while0b_v147 V = b186 j (carried V) := by
  unfold res_main_while0b_v147
  rw [of_v145 hn, of_v55 hn]
  rfl

theorem of_v153 (hn : Counts j V) : res_main_while0b_v153 V = b192 j (carried V) := by
  unfold res_main_while0b_v153
  rw [of_v120 hn, of_v30 hn]
  rfl

theorem of_v164 (hn : Counts j V) : res_main_while0b_v164 V = b205 j (carried V) := by
  unfold res_main_while0b_v164
  rw [of_v110 hn, of_v30 hn]
  rfl

theorem of_v177 (hn : Counts j V) : res_main_while0b_v177 V = b223 j (carried V) := by
  unfold res_main_while0b_v177
  rw [of_v61_1 hn, of_v120 hn, of_v69 hn, of_v110 hn, of_v64 hn, of_v30 hn]
  rfl

theorem of_v180 (hn : Counts j V) : res_main_while0b_v180 V = b226 j (carried V) := by
  unfold res_main_while0b_v180
  rw [of_v177 hn, of_v55 hn]
  rfl

theorem of_v184 (hn : Counts j V) : res_main_while0b_v184 V = b230 j (carried V) := by
  unfold res_main_while0b_v184
  rw [of_v153 hn, of_v67 hn, of_v180 hn, of_v25 hn]
  rfl

theorem of_v194 (hn : Counts j V) : res_main_while0b_v194 V = b244 j (carried V) := by
  unfold res_main_while0b_v194
  rw [of_v54_1 hn, of_v71 hn, of_v145 hn, of_v59 hn, of_v177 hn, of_v55 hn]
  rfl

theorem trip_8 (hn : Counts j V) : step_main_v14_8 V = (step j (carried V)).main_v14_8 := by
  unfold step_main_v14_8
  rw [of_v93 hn, of_v28 hn, of_v77 hn, of_v116 hn, of_v70 hn]
  rfl

theorem trip_9 (hn : Counts j V) : step_main_v14_9 V = (step j (carried V)).main_v14_9 := by
  unfold step_main_v14_9
  rw [of_v115 hn, of_v75 hn, of_v147 hn, of_v25 hn, of_v23 hn]
  rfl

theorem trip_10 (hn : Counts j V) : step_main_v14_10 V = (step j (carried V)).main_v14_10 := by
  unfold step_main_v14_10
  rw [of_v101 hn, of_v82 hn, of_v147 hn, of_v32 hn, of_v180 hn, of_v58 hn, of_v184 hn, of_v56 hn, of_v23 hn]
  rfl

theorem trip_11 (hn : Counts j V) : step_main_v14_11 V = (step j (carried V)).main_v14_11 := by
  unfold step_main_v14_11
  rw [of_v164 hn, of_v62 hn, of_v23 hn]
  rfl

theorem trip_12 (hn : Counts j V) : step_main_v14_12 V = (step j (carried V)).main_v14_12 := by
  unfold step_main_v14_12
  rw [of_v29 hn, of_v87 hn, of_v130 hn, of_v32 hn, of_v115 hn, of_v74 hn, of_v58 hn, of_v153 hn, of_v66 hn, of_v194 hn, of_v26 hn, of_v164 hn, of_v25 hn, of_v184 hn, of_v23 hn]
  rfl

/-- One trip moves the record by the step function. -/
theorem carried_trip (hn : Counts j V) : carried (STEP V) = step j (carried V) := by
  unfold carried
  rw [STEP_main_v14_8, STEP_main_v14_9, STEP_main_v14_10, STEP_main_v14_11, STEP_main_v14_12,
    STEP_main_v14_0, STEP_main_v14_1, STEP_main_v14_2, STEP_main_v14_3, STEP_main_v14_4,
    STEP_main_v14_5, STEP_main_v14_6, trip_8 hn, trip_9 hn, trip_10 hn, trip_11 hn, trip_12 hn]
  rfl

/-- One trip moves the counter on by one. -/
theorem counts_trip (hn : Counts j V) : Counts (j + 1) (STEP V) := by
  unfold Counts at *
  rw [STEP_main_v14_7]
  unfold step_main_v14_7
  rw [hn]
  funext i
  exact (BitVec.ofNat_add j 1).symm

/-- The record after `k` trips, of a valuation whose counter stands at nought. -/
theorem carried_trips (h0 : Counts 0 V) (it : ℕ → State F) (e0 : it 0 = carried V)
    (es : ∀ n, it (n + 1) = step n (it n)) :
    ∀ k, Counts k (STEP^[k] V) ∧ it k = carried (STEP^[k] V)
  | 0 => ⟨h0, e0⟩
  | k + 1 => by
    obtain ⟨hc, he⟩ := carried_trips h0 it e0 es k
    rw [Function.iterate_succ_apply', es k, he]
    exact ⟨counts_trip hc, (carried_trip hc).symm⟩

variable (m : (ℓ : Loc nD τ sig) → Buf (Elt F) ℓ) (c : Dev nD)

/-- The record the first trip starts from. -/
abbrev start : State F :=
  init (m ((c.tc : Thread nD τ).loc main_arg5)) (m ((c.tc : Thread nD τ).loc main_arg6))
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

set_option maxRecDepth 65536 in
set_option maxHeartbeats 500000 in
theorem counts_entry : Counts 0 (entryContents preI m c) := by
  unfold Counts
  simp only [entryContents, afterL_cons, afterL_nil]
  after_reads_simp
  rfl

set_option maxRecDepth 65536 in
set_option maxHeartbeats 2000000 in
theorem start_entry : start m c = carried (entryContents preI m c) := by
  unfold carried
  simp only [entryContents, afterL_cons, afterL_nil]
  after_reads_simp
  rfl

theorem out16 : out_main_v16 V = R_main_v16 (carried V) := rfl
theorem out18 : out_main_v18 V = R_main_v18 (carried V) := rfl
theorem out20 : out_main_v20 V = R_main_v20 (carried V) := rfl
theorem out21 : out_main_v21 V = R_main_v21 (carried V) := rfl

/-- The run: it stops, and each result is read off the record of the 129th trip. -/
theorem runs (ρ : Dev nD → PrngReg) (it : Dev nD → ℕ → State F) (e0 : ∀ c, it c 0 = start m c)
    (es : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v16) = R_main_v16 (it c 129)
      ∧ r.2.mem ((c.tc : Thread nD τ).loc main_v18) = R_main_v18 (it c 129)
      ∧ r.2.mem ((c.tc : Thread nD τ).loc main_v20) = R_main_v20 (it c 129)
      ∧ r.2.mem ((c.tc : Thread nD τ).loc main_v21) = R_main_v21 (it c 129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h16, h18, h20, h21, rest⟩ := h c
  have e := (carried_trips (counts_entry m c) (it c) ((e0 c).trans (start_entry m c)) (es c) 129).2
  rw [e]
  exact ⟨h16.trans out16, h18.trans out18, h20.trans out20, h21.trans out21, rest⟩

end Cert.Delta.Ref

end
-- ==== Proof.Product.lean ====
/-
  What every product of the step needs, whichever call it is. A kernel walks the contracted axis in blocks of `tk`: at its first
  block it puts the partial product over zeros, at each later block it adds the next partial product, and the block of the result it
  leaves is the whole contraction. The reference contracts in one go. Read over the extended reals both are the same sum over the
  contracted axis: addition there is associative, so nothing is asked of the entries. Entries are named by their row and column as
  plain numbers (`cell`), so that blocks of an array are the array at shifted numbers.
-/
module

public import Idealize.ShloMosaic.PureOps.Ideal.Laws
public import Idealize.ShloMosaic.Lib.Pointwise.Contract
public import Idealize.ShloMosaic.Lib.Pipeline.Value

@[expose] public section

noncomputable section

namespace Cert.Proof.Product

open Idealize.ShloMosaic
open scoped BigOperators

/-- A matrix of extended reals, as a program's array of two axes is read. -/
abbrev Mat (M N : ℕ) := (⟨2, ![M, N]⟩ : Shape).Idx → EReal

/-- The entry in row `r` and column `c`; zero beyond the edges, which no proof reads. -/
def cell {M N : ℕ} (x : Mat M N) (r c : ℕ) : EReal :=
  if h : r < M ∧ c < N then x (ix2 ⟨r, h.1⟩ ⟨c, h.2⟩) else 0

/-- Reading a matrix at an index is reading the cell with that index's row and column. -/
theorem read_cell {M N : ℕ} (x : Mat M N) (i : (⟨2, ![M, N]⟩ : Shape).Idx) (r c : ℕ) (hr : (i 0).val = r) (hc : (i 1).val = c) :
    x i = cell x r c := by
  subst hr hc
  have h0 : (i 0).val < M := (i 0).isLt
  have h1 : (i 1).val < N := (i 1).isLt
  unfold cell
  rw [dif_pos ⟨h0, h1⟩]
  congr 1
  funext a
  match a with
  | ⟨0, _⟩ => rfl
  | ⟨1, _⟩ => rfl

/-! ## A contraction of one axis, in the three orientations the step uses -/

section
variable {M K N : ℕ} {φ₁ φ₂ : FTy}

/-- The dimension numbers of a product with the left operand read along its rows' axis: a weight's gradient. -/
def leftTransposed (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The terms of a product, named by the contracted coordinate, from what the operands are at the indices the product reads. -/
theorem terms {sl sr so : Shape} (d : DotDims sl sr so) {a : Fin sl.rank} (hc : d.lhsContracting = [a]) (hK : sl.size a = K)
    (lhs : sl.Idx → EReal) (rhs : sr.Idx → EReal) (j : so.Idx) (L R : ℕ → EReal)
    (hl : ∀ k : Fin K, lhs (d.lhsIdx j (d.contrIdx₁ hc hK k)) = L k.val)
    (hr : ∀ k : Fin K, rhs (d.rhsIdx j (d.contrIdx₁ hc hK k)) = R k.val) :
    ∑ k : d.contr.Idx, lhs (d.lhsIdx j k) * rhs (d.rhsIdx j k) = ∑ k ∈ Finset.range K, L k * R k := by
  rw [d.sum_contr₁ hc hK, Finset.sum_range]
  exact Finset.sum_congr rfl fun k _ => by rw [hl k, hr k]

/-- Rows by columns: the forward products. -/
theorem terms_forward (lhs : Mat M K) (rhs : Mat K N) (j : (⟨2, ![M, N]⟩ : Shape).Idx) (L R : ℕ → EReal)
    (hl : ∀ y, (y 0).val = (j 0).val → lhs y = L (y 1).val) (hr : ∀ y, (y 1).val = (j 1).val → rhs y = R (y 0).val) :
    ∑ k : (DotDims.plain M K N).contr.Idx, lhs ((DotDims.plain M K N).lhsIdx j k) * rhs ((DotDims.plain M K N).rhsIdx j k)
      = ∑ k ∈ Finset.range K, L k * R k :=
  terms (a := 1) _ rfl rfl lhs rhs j L R (fun k => (hl _ rfl).trans (congrArg L rfl)) (fun k => (hr _ rfl).trans (congrArg R rfl))

/-- Rows by rows: the products giving the gradient of an input. -/
theorem terms_input (lhs : Mat M K) (rhs : Mat N K) (j : (⟨2, ![M, N]⟩ : Shape).Idx) (L R : ℕ → EReal)
    (hl : ∀ y, (y 0).val = (j 0).val → lhs y = L (y 1).val) (hr : ∀ y, (y 0).val = (j 1).val → rhs y = R (y 1).val) :
    ∑ k : (DotDims.transposedRhs M K N).contr.Idx,
        lhs ((DotDims.transposedRhs M K N).lhsIdx j k) * rhs ((DotDims.transposedRhs M K N).rhsIdx j k)
      = ∑ k ∈ Finset.range K, L k * R k :=
  terms (a := 1) _ rfl rfl lhs rhs j L R (fun k => (hl _ rfl).trans (congrArg L rfl)) (fun k => (hr _ rfl).trans (congrArg R rfl))

/-- Columns by columns: the products giving the gradient of a weight. -/
theorem terms_weight (lhs : Mat K M) (rhs : Mat K N) (j : (⟨2, ![M, N]⟩ : Shape).Idx) (L R : ℕ → EReal)
    (hl : ∀ y, (y 1).val = (j 0).val → lhs y = L (y 0).val) (hr : ∀ y, (y 1).val = (j 1).val → rhs y = R (y 0).val) :
    ∑ k : (leftTransposed M K N).contr.Idx, lhs ((leftTransposed M K N).lhsIdx j k) * rhs ((leftTransposed M K N).rhsIdx j k)
      = ∑ k ∈ Finset.range K, L k * R k :=
  terms (a := 0) _ rfl rfl lhs rhs j L R (fun k => (hl _ rfl).trans (congrArg L rfl)) (fun k => (hr _ rfl).trans (congrArg R rfl))

end

/-- A kernel's product into a zero accumulator is its terms' sum. -/
theorem block {sl sr so : Shape} {φ₁ φ₂ : FTy} (d d' : DotDims sl sr so) (hd : d = d') (lhs : FVec Ideal sl φ₁) (rhs : FVec Ideal sr φ₂)
    (j : so.Idx) (s : EReal) (h : ∑ k : d'.contr.Idx, lhs (d'.lhsIdx j k) * rhs (d'.rhsIdx j k) = s) :
    FloatOps.matmul d none lhs rhs (constant so .f32 0x00000000#32) j = s := by
  subst hd
  rw [Ideal.matmul_constant_zero_apply, h]

/-- A host product is its terms' sum. -/
theorem whole {sl sr so : Shape} {φ₁ φ₂ : FTy} (d d' : DotDims sl sr so) (hd : d = d') (lhs : FVec Ideal sl φ₁) (rhs : FVec Ideal sr φ₂)
    (j : so.Idx) (s : EReal) (h : ∑ k : d'.contr.Idx, lhs (d'.lhsIdx j k) * rhs (d'.rhsIdx j k) = s) :
    Host.dotGeneral d none lhs rhs j = s := by
  subst hd
  unfold Host.dotGeneral
  rw [Ideal.dotGeneral_apply, h]

/-! ## One block's product: rows from `r`, columns from `c`, contracted coordinates from `s` -/

section
variable {M K N m k n : ℕ} {φ₁ φ₂ : FTy} (r c s : ℕ)

theorem block_forward (d : DotDims ⟨2, ![m, k]⟩ ⟨2, ![k, n]⟩ ⟨2, ![m, n]⟩) (hd : d = DotDims.plain m k n) (x : Mat M K) (w : Mat K N)
    (lhs : FVec Ideal ⟨2, ![m, k]⟩ φ₁) (rhs : FVec Ideal ⟨2, ![k, n]⟩ φ₂) (j : (⟨2, ![m, n]⟩ : Shape).Idx)
    (hl : ∀ y, lhs y = cell x (r + (y 0).val) (s + (y 1).val)) (hr : ∀ y, rhs y = cell w (s + (y 0).val) (c + (y 1).val)) :
    FloatOps.matmul d none lhs rhs (constant _ .f32 0x00000000#32) j
      = ∑ q ∈ Finset.range k, cell x (r + (j 0).val) (s + q) * cell w (s + q) (c + (j 1).val) :=
  block d _ hd lhs rhs j _ (terms_forward lhs rhs j (fun q => cell x (r + (j 0).val) (s + q)) (fun q => cell w (s + q) (c + (j 1).val))
    (fun y hy => by rw [hl, hy]) fun y hy => by rw [hr, hy])

theorem block_input (d : DotDims ⟨2, ![m, k]⟩ ⟨2, ![n, k]⟩ ⟨2, ![m, n]⟩) (hd : d = DotDims.transposedRhs m k n) (g : Mat M K)
    (w : Mat N K) (lhs : FVec Ideal ⟨2, ![m, k]⟩ φ₁) (rhs : FVec Ideal ⟨2, ![n, k]⟩ φ₂) (j : (⟨2, ![m, n]⟩ : Shape).Idx)
    (hl : ∀ y, lhs y = cell g (r + (y 0).val) (s + (y 1).val)) (hr : ∀ y, rhs y = cell w (c + (y 0).val) (s + (y 1).val)) :
    FloatOps.matmul d none lhs rhs (constant _ .f32 0x00000000#32) j
      = ∑ q ∈ Finset.range k, cell g (r + (j 0).val) (s + q) * cell w (c + (j 1).val) (s + q) :=
  block d _ hd lhs rhs j _ (terms_input lhs rhs j (fun q => cell g (r + (j 0).val) (s + q)) (fun q => cell w (c + (j 1).val) (s + q))
    (fun y hy => by rw [hl, hy]) fun y hy => by rw [hr, hy])

theorem block_weight (d : DotDims ⟨2, ![k, m]⟩ ⟨2, ![k, n]⟩ ⟨2, ![m, n]⟩) (hd : d = leftTransposed m k n) (x : Mat K M)
    (g : Mat K N) (lhs : FVec Ideal ⟨2, ![k, m]⟩ φ₁) (rhs : FVec Ideal ⟨2, ![k, n]⟩ φ₂) (j : (⟨2, ![m, n]⟩ : Shape).Idx)
    (hl : ∀ y, lhs y = cell x (s + (y 0).val) (r + (y 1).val)) (hr : ∀ y, rhs y = cell g (s + (y 0).val) (c + (y 1).val)) :
    FloatOps.matmul d none lhs rhs (constant _ .f32 0x00000000#32) j
      = ∑ q ∈ Finset.range k, cell x (s + q) (r + (j 0).val) * cell g (s + q) (c + (j 1).val) :=
  block d _ hd lhs rhs j _ (terms_weight lhs rhs j (fun q => cell x (s + q) (r + (j 0).val)) (fun q => cell g (s + q) (c + (j 1).val))
    (fun y hy => by rw [hl, hy]) fun y hy => by rw [hr, hy])

end

/-! ## The three products, whole -/

section
variable {M K N : ℕ} {φ₁ φ₂ : FTy}

/-- `x w`. -/
def forward (x : Mat M K) (w : Mat K N) : Mat M N := fun i => ∑ k ∈ Finset.range K, cell x (i 0).val k * cell w k (i 1).val

/-- `g wᵀ`: the gradient of an input. -/
def input (g : Mat M K) (w : Mat N K) : Mat M N := fun i => ∑ k ∈ Finset.range K, cell g (i 0).val k * cell w (i 1).val k

/-- `xᵀ g`: the gradient of a weight. -/
def weight (x : Mat K M) (g : Mat K N) : Mat M N := fun i => ∑ k ∈ Finset.range K, cell x k (i 0).val * cell g k (i 1).val

/-- The reference's contraction of columns with rows. -/
theorem reference_forward (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) : Host.dotGeneral d none x w = forward x w :=
  funext fun j => whole d _ hd x w j _ (terms_forward x w j _ _ (fun y hy => read_cell x y _ _ hy rfl)
    fun y hy => read_cell w y _ _ rfl hy)

/-- The reference's contraction of columns with columns. -/
theorem reference_input (d : DotDims ⟨2, ![M, K]⟩ ⟨2, ![N, K]⟩ ⟨2, ![M, N]⟩) (hd : d = DotDims.transposedRhs M K N)
    (g : FVec Ideal ⟨2, ![M, K]⟩ φ₁) (w : FVec Ideal ⟨2, ![N, K]⟩ φ₂) : Host.dotGeneral d none g w = input g w :=
  funext fun j => whole d _ hd g w j _ (terms_input g w j _ _ (fun y hy => read_cell g y _ _ hy rfl)
    fun y hy => read_cell w y _ _ hy rfl)

/-- The reference's gradient of a weight is printed as `gᵀ x`, transposed. -/
theorem reference_weight (d : DotDims ⟨2, ![K, N]⟩ ⟨2, ![K, M]⟩ ⟨2, ![N, M]⟩) (hd : d = leftTransposed N K M)
    (x : FVec Ideal ⟨2, ![K, M]⟩ φ₁) (g : FVec Ideal ⟨2, ![K, N]⟩ φ₂)
    (ht : (⟨2, ![N, M]⟩ : Shape).Transposes [1, 0] ⟨2, ![M, N]⟩) :
    transpose ⟨2, ![M, N]⟩ [1, 0] (Host.dotGeneral d none g x) ht = weight x g := by
  funext i
  have e : ht.src i = ix2 (i 1) (i 0) := by
    funext a
    match a with
    | ⟨0, _⟩ => rfl
    | ⟨1, _⟩ => rfl
  show Host.dotGeneral d none g x (ht.src i) = _
  rw [e]
  refine (whole d _ hd g x (ix2 (i 1) (i 0)) _ (terms_weight g x (ix2 (i 1) (i 0)) (fun k => cell g k (i 1).val)
    (fun k => cell x k (i 0).val) (fun y hy => read_cell g y _ _ rfl hy) fun y hy => read_cell x y _ _ rfl hy)).trans ?_
  exact Finset.sum_congr rfl fun k _ => mul_comm _ _

end

/-! ## Block by block -/

/-- Partial products accumulated block by block are the product: the run of points from `b` starts with the first block's partial
    sum and each of the next `e` points adds its own. -/
theorem accumulated {ι : Type*} {N : ℕ} (first : (n : ℕ) → n < N → ι → EReal) (next : (n : ℕ) → n < N → (ι → EReal) → ι → EReal)
    (b tk : ℕ) (i : ι) (L R : ℕ → EReal)
    (h0 : ∀ h, first b h i = ∑ q ∈ Finset.range tk, L (0 * tk + q) * R (0 * tk + q)) : ∀ (e : ℕ),
    (∀ s, s < e → ∀ h acc, next (b + (s + 1)) h acc i
      = acc i + ∑ q ∈ Finset.range tk, L ((s + 1) * tk + q) * R ((s + 1) * tk + q)) →
    ∀ h, Pipeline.accAt first next b e h i = ∑ k ∈ Finset.range ((e + 1) * tk), L k * R k
  | 0, _, h => by
    rw [Pipeline.accAt_zero, h0, Nat.zero_add, Nat.one_mul]
    exact Finset.sum_congr rfl fun q _ => by rw [Nat.zero_mul, Nat.zero_add]
  | e + 1, hs, h => by
    rw [Pipeline.accAt_succ, hs e (Nat.lt_succ_self e), accumulated first next b tk i L R h0 e (fun s l => hs s (Nat.lt_succ_of_lt l)),
      Nat.succ_mul (e + 1), Finset.sum_range_add]

end Cert.Proof.Product

end
-- ==== Proof.UpDx.lean ====
/-
  The backward of the up projection to its input (`mm_up_dx`): what the kernel's run leaves, entry by entry. Grid point `2 r + s`
  takes the 688 rows `r` of the incoming gradient and the columns `s` of both operands' contracted axis.
-/
module

public import proofs.«01_k».proof.Defs
public import proofs.«01_k».proof.Proof.Gen.UpDxKernelIdeal.Value
public import proofs.«01_k».proof.Proof.Gen.UpDxReferenceIdeal.Run
public import proofs.«01_k».proof.Proof.Product
public import Idealize.ShloMosaic.Lib.Pipeline.ValueKit
public import Idealize.ShloMosaic.Lib.Quiescent

@[expose] public section

noncomputable section

namespace Cert.Proof.UpDx

open Idealize.ShloMosaic Idealize.ShloMosaic.TcCoe Idealize.SL.Sem Cert.UpDxKernelIdeal Cert.UpDxKernelIdeal.Gen Cert.Proof.Product
open Pipeline (Dat)

variable (m : (ℓ : Loc nD τ sig) → Buf (Elt Ideal) ℓ)

/-- The incoming gradient and the weights, as launched. -/
abbrev grad (c : Dev nD) : Mat 8256 5632 := m ((c : Thread nD τ).loc main_arg1)
abbrev weights (c : Dev nD) : Mat 1024 5632 := m ((c : Thread nD τ).loc main_arg0)

/-- Which block of each operand a point stages. -/
theorem place : ∀ t : Fin cfg0.N, (win0_0.index t (0 : Fin 2) = t.val / 2 ∧ win0_0.index t (1 : Fin 2) = t.val % 2)
    ∧ win0_1.index t (0 : Fin 2) = 0 ∧ win0_1.index t (1 : Fin 2) = t.val % 2 :=
  (by decide +kernel : ∀ t : Fin grid0.N, _)

/-- One point adds its block's partial product. -/
theorem adds (c : Dev nD) (t : Fin cfg0.N) (r s : ℕ) (hr : t.val / 2 = r) (hs : t.val % 2 = s) (acc : Vec Ideal S688x1024 .f32)
    (j : S688x1024.Idx) :
    k0_pay2 acc (iblk m c 0 t) (iblk m c 1 t) j = acc j + ∑ q ∈ Finset.range 2816,
      cell (grad m c) (r * 688 + (j 0).val) (s * 2816 + q) * cell (weights m c) (0 + (j 1).val) (s * 2816 + q) := by
  obtain ⟨⟨a0, a1⟩, b0, b1⟩ := place t
  unfold k0_pay2
  rw [shapeCast_self]
  refine congrArg (acc j + ·) (block_input _ _ _ _ rfl (grad m c) (weights m c) _ _ j (fun y => ?_) fun y => ?_)
  · refine read_cell (grad m c) _ _ _ ?_ ?_
    · show win0_0.index t (0 : Fin 2) * 688 + 1 * (y 0).val = _; rw [a0, hr]; omega
    · show win0_0.index t (1 : Fin 2) * 2816 + 1 * (y 1).val = _; rw [a1, hs]; omega
  · refine read_cell (weights m c) _ _ _ ?_ ?_
    · show win0_1.index t (0 : Fin 2) * 1024 + 1 * (y 0).val = _; rw [b0]; omega
    · show win0_1.index t (1 : Fin 2) * 2816 + 1 * (y 1).val = _; rw [b1, hs]; omega

/-- The array the run leaves is the product along the weights' columns. -/
theorem result (c : Dev nD) : Value.G2 m c = input (grad m c) (weights m c) := by
  funext i
  have h0 : (i 0).val < 8256 := (i 0).isLt
  have h1 : (i 1).val < 1024 := (i 1).isLt
  have hN : cfg0.N = 24 := N_0
  have e0 : Value.run2Of i * 688 + (i 0).val % 688 = (i 0).val := by show (1 * _ + 1 * _) * 688 + _ = _; omega
  have e1 : 0 + (i 1).val % 1024 = (i 1).val := by omega
  unfold Value.G2
  rw [dif_pos (by rw [hN]; omega)]
  refine accumulated (Value.reset2 m c) (Value.step2 m c) (2 * Value.run2Of i) 2816 (Value.loc2Of i) _ _ ?_ 1 ?_ _
  · intro h
    refine (adds m c ⟨_, h⟩ (Value.run2Of i) 0 (by dsimp only; omega) (by dsimp only; omega) _ _).trans ?_
    show Ideal.ofBits .f32 0x00000000#32 + ∑ q ∈ _, cell _ (_ + (i 0).val % 688) _ * cell _ (0 + (i 1).val % 1024) _ = _
    rw [Ideal.ofBits_zero_f32, zero_add, e0, e1]
  · intro s hs h acc
    refine (adds m c ⟨_, h⟩ (Value.run2Of i) (s + 1) (by dsimp only; omega) (by dsimp only; omega) _ _).trans ?_
    show acc _ + ∑ q ∈ _, cell _ (_ + (i 0).val % 688) _ * cell _ (0 + (i 1).val % 1024) _ = _
    rw [e0, e1]

/-- The reference's run, its arguments kept. -/
theorem frame_reference : Cert.quiescent_UpDxReferenceIdeal (hUpDxReferenceIdeal := Cert.UpDxReferenceIdeal.Gen.facts) :=
  fun m ρ _ => (θ_run (Cert.UpDxReferenceIdeal.defs (F := Ideal)) _ _).mono
    (fun r h => ⟨fun c => (h c).2, sem_eq_zero_of_no_sems (by decide) r.2⟩) (Cert.UpDxReferenceIdeal.Value.run (F := Ideal) m ρ)

/-- The kernel and the reference leave the same product. -/
theorem algebraic : Cert.algebraic_UpDxKernelIdeal_UpDxReferenceIdeal := fun m ρ m' ρ' _ agree =>
  ⟨fun c => input (grad m c) (weights m c),
    (θ_run _ _ _).mono (fun r h c => ⟨(h c).1.trans (result m c), (h c).2⟩) (Value.run (F := Ideal) m ρ),
    (θ_run _ _ _).mono (fun r h c => ⟨(h c).1.trans ((reference_input _ rfl _ _).trans (congrArg₂ input (agree c).2 (agree c).1)), (h c).2⟩)
      (Cert.UpDxReferenceIdeal.Value.run (F := Ideal) m' ρ')⟩

end Cert.Proof.UpDx

end
-- ==== Proof.UpDw.lean ====
/-
  The backward of the up projection to its weights (`mm_up_dw`): what the kernel's run leaves, entry by entry. Grid point
  `12 q + s` takes the rows `s` of both operands and the columns `q` of the incoming gradient; the sum is kept in a scratch and
  written out at the run's last point.
-/
module

public import proofs.«01_k».proof.Defs
public import proofs.«01_k».proof.Proof.Gen.UpDwKernelIdeal.Value
public import proofs.«01_k».proof.Proof.Gen.UpDwReferenceIdeal.Run
public import proofs.«01_k».proof.Proof.Product
public import Idealize.ShloMosaic.Lib.Pipeline.ValueKit
public import Idealize.ShloMosaic.Lib.Quiescent

@[expose] public section

noncomputable section

namespace Cert.Proof.UpDw

open Idealize.ShloMosaic Idealize.ShloMosaic.TcCoe Idealize.SL.Sem Cert.UpDwKernelIdeal Cert.UpDwKernelIdeal.Gen Cert.Proof.Product
open Pipeline (Dat)

variable (m : (ℓ : Loc nD τ sig) → Buf (Elt Ideal) ℓ)

/-- The layer's rows and the incoming gradient, as launched. -/
abbrev rows (c : Dev nD) : Mat 8256 1024 := m ((c : Thread nD τ).loc main_arg0)
abbrev grad (c : Dev nD) : Mat 8256 5632 := m ((c : Thread nD τ).loc main_arg1)

/-- Which block of each operand a point stages. -/
theorem place : ∀ t : Fin cfg0.N, (win0_0.index t (0 : Fin 2) = t.val % 12 ∧ win0_0.index t (1 : Fin 2) = 0)
    ∧ win0_1.index t (0 : Fin 2) = t.val % 12 ∧ win0_1.index t (1 : Fin 2) = t.val / 12 :=
  (by decide +kernel : ∀ t : Fin grid0.N, _)

/-- One point adds its block's partial product. -/
theorem adds (c : Dev nD) (t : Fin cfg0.N) (r s : ℕ) (hr : t.val / 12 = r) (hs : t.val % 12 = s) (acc : Vec Ideal S1024x1408 .f32)
    (j : S1024x1408.Idx) :
    k0_pay2 acc (iblk m c 0 t) (iblk m c 1 t) j = acc j + ∑ q ∈ Finset.range 688,
      cell (rows m c) (s * 688 + q) (0 + (j 0).val) * cell (grad m c) (s * 688 + q) (r * 1408 + (j 1).val) := by
  obtain ⟨⟨a0, a1⟩, b0, b1⟩ := place t
  unfold k0_pay2
  rw [shapeCast_self]
  refine congrArg (acc j + ·) (block_weight _ _ _ _ rfl (rows m c) (grad m c) _ _ j (fun y => ?_) fun y => ?_)
  · refine read_cell (rows m c) _ _ _ ?_ ?_
    · show win0_0.index t (0 : Fin 2) * 688 + 1 * (y 0).val = _; rw [a0, hs]; omega
    · show win0_0.index t (1 : Fin 2) * 1024 + 1 * (y 1).val = _; rw [a1]; omega
  · refine read_cell (grad m c) _ _ _ ?_ ?_
    · show win0_1.index t (0 : Fin 2) * 688 + 1 * (y 0).val = _; rw [b0, hs]; omega
    · show win0_1.index t (1 : Fin 2) * 1408 + 1 * (y 1).val = _; rw [b1, hr]; omega

/-- What the scratch holds after a point, over what it held before. -/
theorem carries (c : Dev nD) (n : ℕ) (h : n < cfg0.N) (acc : Vec Ideal S1024x1408 .f32) : Value.scAt0_0 m c n h acc
    = k0_pay2 (if n % 12 = 0 then k0_pay1 else acc) (iblk m c 0 ⟨n, h⟩) (iblk m c 1 ⟨n, h⟩) := by
  unfold Value.scAt0_0
  split
  · rw [dif_neg (by omega)]; frame_out
  · split <;> (frame_out; rw [(Memref.isWhole_whole cc0_scratch0).read_unread acc])

/-- At a run's last point the block written out is the scratch just after it. -/
theorem written (c : Dev nD) (t : Fin cfg0.N) (h1 : t.val % 12 = 11) :
    (outsAt0 m c t.val t.isLt).1 = (outsAt0 m c t.val t.isLt).2 := by
  rw [outsAt0_C m c t (by omega) h1]
  frame_out
  rfl

/-- The array the run leaves is the product along the rows of the batch. -/
theorem result (c : Dev nD) : Value.G2 m c = weight (rows m c) (grad m c) := by
  funext i
  have h0 : (i 0).val < 1024 := (i 0).isLt
  have h1 : (i 1).val < 5632 := (i 1).isLt
  have hp : Value.pt2Of i < cfg0.N := by rw [show cfg0.N = 48 from N_0]; show 12 * (4 * _ + 1 * _) + 11 < 48; omega
  have hr : Value.pt2Of i / 12 = (i 1).val / 1408 := by show (12 * (4 * _ + 1 * _) + 11) / 12 = _; omega
  have hm : Value.pt2Of i % 12 = 11 := by show (12 * _ + 11) % 12 = 11; omega
  have e0 : 0 + (i 0).val % 1024 = (i 0).val := by omega
  have e1 : Value.pt2Of i / 12 * 1408 + (i 1).val % 1408 = (i 1).val := by rw [hr]; omega
  unfold Value.G2
  rw [dif_pos hp, ← Value.outsAt0_sweep m c _ hp, written m c ⟨_, hp⟩ hm, Value.soutsAt0_0_eq m c ⟨_, hp⟩]
  refine (accumulated _ (Value.scAt0_0 m c) (12 * (Value.pt2Of i / 12)) 688 (Value.loc2Of i)
    (fun k => cell (rows m c) k (i 0).val) (fun k => cell (grad m c) k (i 1).val) ?_ (Value.pt2Of i % 12) ?_ _).trans (by rw [hm]; rfl)
  · intro h
    rw [carries, if_pos (by omega)]
    refine (adds m c ⟨_, h⟩ (Value.pt2Of i / 12) 0 (by dsimp only; omega) (by dsimp only; omega) _ _).trans ?_
    show Ideal.ofBits .f32 0x00000000#32 + ∑ q ∈ _, cell _ _ (_ + (i 0).val % 1024) * cell _ _ (_ + (i 1).val % 1408) = _
    rw [Ideal.ofBits_zero_f32, zero_add, e0, e1]
  · intro s hs h acc
    rw [carries, if_neg (by omega)]
    refine (adds m c ⟨_, h⟩ (Value.pt2Of i / 12) (s + 1) (by dsimp only; omega) (by dsimp only; omega) _ _).trans ?_
    show acc _ + ∑ q ∈ _, cell _ _ (_ + (i 0).val % 1024) * cell _ _ (_ + (i 1).val % 1408) = _
    rw [e0, e1]

/-- The reference's run, its arguments kept. -/
theorem frame_reference : Cert.quiescent_UpDwReferenceIdeal (hUpDwReferenceIdeal := Cert.UpDwReferenceIdeal.Gen.facts) :=
  fun m ρ _ => (θ_run (Cert.UpDwReferenceIdeal.defs (F := Ideal)) _ _).mono
    (fun r h => ⟨fun c => (h c).2, sem_eq_zero_of_no_sems (by decide) r.2⟩) (Cert.UpDwReferenceIdeal.Value.run (F := Ideal) m ρ)

/-- The kernel and the reference leave the same product. -/
theorem algebraic : Cert.algebraic_UpDwKernelIdeal_UpDwReferenceIdeal := fun m ρ m' ρ' _ agree =>
  ⟨fun c => weight (rows m c) (grad m c),
    (θ_run _ _ _).mono (fun r h c => ⟨(h c).1.trans (result m c), (h c).2⟩) (Value.run (F := Ideal) m ρ),
    (θ_run _ _ _).mono (fun r h c => ⟨(h c).1.trans ((reference_weight (φ₂ := .f32) _ rfl _ _ _).trans (congrArg₂ weight (agree c).1 (agree c).2)), (h c).2⟩)
      (Cert.UpDwReferenceIdeal.Value.run (F := Ideal) m' ρ')⟩

end Cert.Proof.UpDw

end
-- ==== Proof.InDx.lean ====
/-
  The backward of the in projection to its input (`mm_in_dx`): what the kernel's run leaves, entry by entry. Grid point `3 r + s`
  takes the 688 rows `r` of the incoming gradient and the columns `s` of both operands' contracted axis.
-/
module

public import proofs.«01_k».proof.Defs
public import proofs.«01_k».proof.Proof.Gen.InDxKernelIdeal.Value
public import proofs.«01_k».proof.Proof.Gen.InDxReferenceIdeal.Run
public import proofs.«01_k».proof.Proof.Product
public import Idealize.ShloMosaic.Lib.Pipeline.ValueKit
public import Idealize.ShloMosaic.Lib.Quiescent

@[expose] public section

noncomputable section

namespace Cert.Proof.InDx

open Idealize.ShloMosaic Idealize.ShloMosaic.TcCoe Idealize.SL.Sem Cert.InDxKernelIdeal Cert.InDxKernelIdeal.Gen Cert.Proof.Product
open Pipeline (Dat)

variable (m : (ℓ : Loc nD τ sig) → Buf (Elt Ideal) ℓ)

/-- The incoming gradient and the weights, as launched. -/
abbrev grad (c : Dev nD) : Mat 8256 6912 := m ((c : Thread nD τ).loc main_arg1)
abbrev weights (c : Dev nD) : Mat 1024 6912 := m ((c : Thread nD τ).loc main_arg0)

/-- Which block of each operand a point stages. -/
theorem place : ∀ t : Fin cfg0.N, (win0_0.index t (0 : Fin 2) = t.val / 3 ∧ win0_0.index t (1 : Fin 2) = t.val % 3)
    ∧ win0_1.index t (0 : Fin 2) = 0 ∧ win0_1.index t (1 : Fin 2) = t.val % 3 :=
  (by decide +kernel : ∀ t : Fin grid0.N, _)

/-- One point adds its block's partial product. -/
theorem adds (c : Dev nD) (t : Fin cfg0.N) (r s : ℕ) (hr : t.val / 3 = r) (hs : t.val % 3 = s) (acc : Vec Ideal S688x1024 .f32)
    (j : S688x1024.Idx) :
    k0_pay2 acc (iblk m c 0 t) (iblk m c 1 t) j = acc j + ∑ q ∈ Finset.range 2304,
      cell (grad m c) (r * 688 + (j 0).val) (s * 2304 + q) * cell (weights m c) (0 + (j 1).val) (s * 2304 + q) := by
  obtain ⟨⟨a0, a1⟩, b0, b1⟩ := place t
  unfold k0_pay2
  rw [shapeCast_self]
  refine congrArg (acc j + ·) (block_input _ _ _ _ rfl (grad m c) (weights m c) _ _ j (fun y => ?_) fun y => ?_)
  · refine read_cell (grad m c) _ _ _ ?_ ?_
    · show win0_0.index t (0 : Fin 2) * 688 + 1 * (y 0).val = _; rw [a0, hr]; omega
    · show win0_0.index t (1 : Fin 2) * 2304 + 1 * (y 1).val = _; rw [a1, hs]; omega
  · refine read_cell (weights m c) _ _ _ ?_ ?_
    · show win0_1.index t (0 : Fin 2) * 1024 + 1 * (y 0).val = _; rw [b0]; omega
    · show win0_1.index t (1 : Fin 2) * 2304 + 1 * (y 1).val = _; rw [b1, hs]; omega

/-- The array the run leaves is the product along the weights' columns. -/
theorem result (c : Dev nD) : Value.G2 m c = input (grad m c) (weights m c) := by
  funext i
  have h0 : (i 0).val < 8256 := (i 0).isLt
  have h1 : (i 1).val < 1024 := (i 1).isLt
  have hN : cfg0.N = 36 := N_0
  have e0 : Value.run2Of i * 688 + (i 0).val % 688 = (i 0).val := by show (1 * _ + 1 * _) * 688 + _ = _; omega
  have e1 : 0 + (i 1).val % 1024 = (i 1).val := by omega
  unfold Value.G2
  rw [dif_pos (by rw [hN]; omega)]
  refine accumulated (Value.reset2 m c) (Value.step2 m c) (3 * Value.run2Of i) 2304 (Value.loc2Of i) _ _ ?_ 2 ?_ _
  · intro h
    refine (adds m c ⟨_, h⟩ (Value.run2Of i) 0 (by dsimp only; omega) (by dsimp only; omega) _ _).trans ?_
    show Ideal.ofBits .f32 0x00000000#32 + ∑ q ∈ _, cell _ (_ + (i 0).val % 688) _ * cell _ (0 + (i 1).val % 1024) _ = _
    rw [Ideal.ofBits_zero_f32, zero_add, e0, e1]
  · intro s hs h acc
    refine (adds m c ⟨_, h⟩ (Value.run2Of i) (s + 1) (by dsimp only; omega) (by dsimp only; omega) _ _).trans ?_
    show acc _ + ∑ q ∈ _, cell _ (_ + (i 0).val % 688) _ * cell _ (0 + (i 1).val % 1024) _ = _
    rw [e0, e1]

/-- The reference's run, its arguments kept. -/
theorem frame_reference : Cert.quiescent_InDxReferenceIdeal (hInDxReferenceIdeal := Cert.InDxReferenceIdeal.Gen.facts) :=
  fun m ρ _ => (θ_run (Cert.InDxReferenceIdeal.defs (F := Ideal)) _ _).mono
    (fun r h => ⟨fun c => (h c).2, sem_eq_zero_of_no_sems (by decide) r.2⟩) (Cert.InDxReferenceIdeal.Value.run (F := Ideal) m ρ)

/-- The kernel and the reference leave the same product. -/
theorem algebraic : Cert.algebraic_InDxKernelIdeal_InDxReferenceIdeal := fun m ρ m' ρ' _ agree =>
  ⟨fun c => input (grad m c) (weights m c),
    (θ_run _ _ _).mono (fun r h c => ⟨(h c).1.trans (result m c), (h c).2⟩) (Value.run (F := Ideal) m ρ),
    (θ_run _ _ _).mono (fun r h c => ⟨(h c).1.trans ((reference_input _ rfl _ _).trans (congrArg₂ input (agree c).2 (agree c).1)), (h c).2⟩)
      (Cert.InDxReferenceIdeal.Value.run (F := Ideal) m' ρ')⟩

end Cert.Proof.InDx

end
-- ==== Proof.InDw.lean ====
/-
  The backward of the in projection to its weights (`mm_in_dw`): what the kernel's run leaves, entry by entry. Grid point
  `12 q + s` takes the rows `s` of both operands and the columns `q` of the incoming gradient; the sum is kept in a scratch and
  written out at the run's last point.
-/
module

public import proofs.«01_k».proof.Defs
public import proofs.«01_k».proof.Proof.Gen.InDwKernelIdeal.Value
public import proofs.«01_k».proof.Proof.Gen.InDwReferenceIdeal.Run
public import proofs.«01_k».proof.Proof.Product
public import Idealize.ShloMosaic.Lib.Pipeline.ValueKit
public import Idealize.ShloMosaic.Lib.Quiescent

@[expose] public section

noncomputable section

namespace Cert.Proof.InDw

open Idealize.ShloMosaic Idealize.ShloMosaic.TcCoe Idealize.SL.Sem Cert.InDwKernelIdeal Cert.InDwKernelIdeal.Gen Cert.Proof.Product
open Pipeline (Dat)

variable (m : (ℓ : Loc nD τ sig) → Buf (Elt Ideal) ℓ)

/-- The layer's rows and the incoming gradient, as launched. -/
abbrev rows (c : Dev nD) : Mat 8256 1024 := m ((c : Thread nD τ).loc main_arg0)
abbrev grad (c : Dev nD) : Mat 8256 6912 := m ((c : Thread nD τ).loc main_arg1)

/-- Which block of each operand a point stages. -/
theorem place : ∀ t : Fin cfg0.N, (win0_0.index t (0 : Fin 2) = t.val % 12 ∧ win0_0.index t (1 : Fin 2) = 0)
    ∧ win0_1.index t (0 : Fin 2) = t.val % 12 ∧ win0_1.index t (1 : Fin 2) = t.val / 12 :=
  (by decide +kernel : ∀ t : Fin grid0.N, _)

/-- One point adds its block's partial product. -/
theorem adds (c : Dev nD) (t : Fin cfg0.N) (r s : ℕ) (hr : t.val / 12 = r) (hs : t.val % 12 = s) (acc : Vec Ideal S1024x1152 .f32)
    (j : S1024x1152.Idx) :
    k0_pay2 acc (iblk m c 0 t) (iblk m c 1 t) j = acc j + ∑ q ∈ Finset.range 688,
      cell (rows m c) (s * 688 + q) (0 + (j 0).val) * cell (grad m c) (s * 688 + q) (r * 1152 + (j 1).val) := by
  obtain ⟨⟨a0, a1⟩, b0, b1⟩ := place t
  unfold k0_pay2
  rw [shapeCast_self]
  refine congrArg (acc j + ·) (block_weight _ _ _ _ rfl (rows m c) (grad m c) _ _ j (fun y => ?_) fun y => ?_)
  · refine read_cell (rows m c) _ _ _ ?_ ?_
    · show win0_0.index t (0 : Fin 2) * 688 + 1 * (y 0).val = _; rw [a0, hs]; omega
    · show win0_0.index t (1 : Fin 2) * 1024 + 1 * (y 1).val = _; rw [a1]; omega
  · refine read_cell (grad m c) _ _ _ ?_ ?_
    · show win0_1.index t (0 : Fin 2) * 688 + 1 * (y 0).val = _; rw [b0, hs]; omega
    · show win0_1.index t (1 : Fin 2) * 1152 + 1 * (y 1).val = _; rw [b1, hr]; omega

/-- What the scratch holds after a point, over what it held before. -/
theorem carries (c : Dev nD) (n : ℕ) (h : n < cfg0.N) (acc : Vec Ideal S1024x1152 .f32) : Value.scAt0_0 m c n h acc
    = k0_pay2 (if n % 12 = 0 then k0_pay1 else acc) (iblk m c 0 ⟨n, h⟩) (iblk m c 1 ⟨n, h⟩) := by
  unfold Value.scAt0_0
  split
  · rw [dif_neg (by omega)]; frame_out
  · split <;> (frame_out; rw [(Memref.isWhole_whole cc0_scratch0).read_unread acc])

/-- At a run's last point the block written out is the scratch just after it. -/
theorem written (c : Dev nD) (t : Fin cfg0.N) (h1 : t.val % 12 = 11) :
    (outsAt0 m c t.val t.isLt).1 = (outsAt0 m c t.val t.isLt).2 := by
  rw [outsAt0_C m c t (by omega) h1]
  frame_out
  rfl

/-- The array the run leaves is the product along the rows of the batch. -/
theorem result (c : Dev nD) : Value.G2 m c = weight (rows m c) (grad m c) := by
  funext i
  have h0 : (i 0).val < 1024 := (i 0).isLt
  have h1 : (i 1).val < 6912 := (i 1).isLt
  have hp : Value.pt2Of i < cfg0.N := by rw [show cfg0.N = 72 from N_0]; show 12 * (6 * _ + 1 * _) + 11 < 72; omega
  have hr : Value.pt2Of i / 12 = (i 1).val / 1152 := by show (12 * (6 * _ + 1 * _) + 11) / 12 = _; omega
  have hm : Value.pt2Of i % 12 = 11 := by show (12 * _ + 11) % 12 = 11; omega
  have e0 : 0 + (i 0).val % 1024 = (i 0).val := by omega
  have e1 : Value.pt2Of i / 12 * 1152 + (i 1).val % 1152 = (i 1).val := by rw [hr]; omega
  unfold Value.G2
  rw [dif_pos hp, ← Value.outsAt0_sweep m c _ hp, written m c ⟨_, hp⟩ hm, Value.soutsAt0_0_eq m c ⟨_, hp⟩]
  refine (accumulated _ (Value.scAt0_0 m c) (12 * (Value.pt2Of i / 12)) 688 (Value.loc2Of i)
    (fun k => cell (rows m c) k (i 0).val) (fun k => cell (grad m c) k (i 1).val) ?_ (Value.pt2Of i % 12) ?_ _).trans (by rw [hm]; rfl)
  · intro h
    rw [carries, if_pos (by omega)]
    refine (adds m c ⟨_, h⟩ (Value.pt2Of i / 12) 0 (by dsimp only; omega) (by dsimp only; omega) _ _).trans ?_
    show Ideal.ofBits .f32 0x00000000#32 + ∑ q ∈ _, cell _ _ (_ + (i 0).val % 1024) * cell _ _ (_ + (i 1).val % 1152) = _
    rw [Ideal.ofBits_zero_f32, zero_add, e0, e1]
  · intro s hs h acc
    rw [carries, if_neg (by omega)]
    refine (adds m c ⟨_, h⟩ (Value.pt2Of i / 12) (s + 1) (by dsimp only; omega) (by dsimp only; omega) _ _).trans ?_
    show acc _ + ∑ q ∈ _, cell _ _ (_ + (i 0).val % 1024) * cell _ _ (_ + (i 1).val % 1152) = _
    rw [e0, e1]

/-- The reference's run, its arguments kept. -/
theorem frame_reference : Cert.quiescent_InDwReferenceIdeal (hInDwReferenceIdeal := Cert.InDwReferenceIdeal.Gen.facts) :=
  fun m ρ _ => (θ_run (Cert.InDwReferenceIdeal.defs (F := Ideal)) _ _).mono
    (fun r h => ⟨fun c => (h c).2, sem_eq_zero_of_no_sems (by decide) r.2⟩) (Cert.InDwReferenceIdeal.Value.run (F := Ideal) m ρ)

/-- The kernel and the reference leave the same product. -/
theorem algebraic : Cert.algebraic_InDwKernelIdeal_InDwReferenceIdeal := fun m ρ m' ρ' _ agree =>
  ⟨fun c => weight (rows m c) (grad m c),
    (θ_run _ _ _).mono (fun r h c => ⟨(h c).1.trans (result m c), (h c).2⟩) (Value.run (F := Ideal) m ρ),
    (θ_run _ _ _).mono (fun r h c => ⟨(h c).1.trans ((reference_weight (φ₂ := .f32) _ rfl _ _ _).trans (congrArg₂ weight (agree c).1 (agree c).2)), (h c).2⟩)
      (Cert.InDwReferenceIdeal.Value.run (F := Ideal) m' ρ')⟩

end Cert.Proof.InDw

end
-- ==== Proof.DownDx.lean ====
/-
  The backward of the down projection to its input (`mm_down_dx`): what the kernel's run leaves, entry by entry. Grid point
  `2 r + q` takes the 688 rows `r` of the incoming gradient, rounds them to bf16 (no change over the extended reals), and the 1408
  rows `q` of the weights; the contracted axis is one block.
-/
module

public import proofs.«01_k».proof.Defs
public import proofs.«01_k».proof.Proof.Gen.DownDxKernelIdeal.Value
public import proofs.«01_k».proof.Proof.Gen.DownDxReferenceIdeal.Run
public import proofs.«01_k».proof.Proof.Product
public import Idealize.ShloMosaic.Lib.Pipeline.ValueKit
public import Idealize.ShloMosaic.Lib.Quiescent

@[expose] public section

noncomputable section

namespace Cert.Proof.DownDx

open Idealize.ShloMosaic Idealize.ShloMosaic.TcCoe Idealize.SL.Sem Cert.DownDxKernelIdeal Cert.DownDxKernelIdeal.Gen Cert.Proof.Product
open Pipeline (Dat)

variable (m : (ℓ : Loc nD τ sig) → Buf (Elt Ideal) ℓ)

/-- The incoming gradient and the weights, as launched. -/
abbrev grad (c : Dev nD) : Mat 8256 1024 := m ((c : Thread nD τ).loc main_arg1)
abbrev weights (c : Dev nD) : Mat 2816 1024 := m ((c : Thread nD τ).loc main_arg0)

/-- Which blocks a point stages, and which it writes. -/
theorem place : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ win0_2.index t (0 : Fin 2) = t.val / 2 ∧ win0_2.index t (1 : Fin 2) = t.val % 2 :=
  (by decide +kernel : ∀ t : Fin grid0.N, _)

/-- The array the run leaves is the whole product. -/
theorem result (c : Dev nD) : (dats m 0 c).arrAt 2 cfg0.N = input (grad m c) (weights m c) := by
  refine (dats m 0 c).arrAt_eq_of_covers 2 _ (by decide +kernel) fun t hf y => ?_
  obtain ⟨⟨a0, a1⟩, ⟨b0, b1⟩, o0, o1⟩ := place t
  blk_simp
  rw [after0_2]
  frame_out
  unfold k0_pay1
  refine (block_input (t.val / 2 * 688) (t.val % 2 * 1408) 0 _ rfl (grad m c) (weights m c) _ _ y (fun y => ?_) fun y => ?_).trans ?_
  · refine read_cell (grad m c) _ _ _ ?_ ?_
    · show win0_0.index t (0 : Fin 2) * 688 + 1 * (y 0).val = _; rw [a0]; omega
    · show win0_0.index t (1 : Fin 2) * 1024 + 1 * (y 1).val = _; rw [a1]; omega
  · refine read_cell (weights m c) _ _ _ ?_ ?_
    · show win0_1.index t (0 : Fin 2) * 1408 + 1 * (y 0).val = _; rw [b0]; omega
    · show win0_1.index t (1 : Fin 2) * 1024 + 1 * (y 1).val = _; rw [b1]; omega
  · unfold input
    blk_simp [o0, o1]

/-- The reference's run, its arguments kept. -/
theorem frame_reference : Cert.quiescent_DownDxReferenceIdeal (hDownDxReferenceIdeal := Cert.DownDxReferenceIdeal.Gen.facts) :=
  fun m ρ _ => (θ_run (Cert.DownDxReferenceIdeal.defs (F := Ideal)) _ _).mono
    (fun r h => ⟨fun c => (h c).2, sem_eq_zero_of_no_sems (by decide) r.2⟩) (Cert.DownDxReferenceIdeal.Value.run (F := Ideal) m ρ)

/-- The kernel and the reference leave the same product. -/
theorem algebraic : Cert.algebraic_DownDxKernelIdeal_DownDxReferenceIdeal := fun m ρ m' ρ' _ agree =>
  ⟨fun c => input (grad m c) (weights m c),
    (θ_run _ _ _).mono (fun r h c => ⟨(h c).1.trans (result m c), (h c).2⟩) (Value.run_blocks (F := Ideal) m ρ),
    (θ_run _ _ _).mono (fun r h c => ⟨(h c).1.trans ((reference_input _ rfl _ _).trans (congrArg₂ input (agree c).2 (agree c).1)), (h c).2⟩)
      (Cert.DownDxReferenceIdeal.Value.run (F := Ideal) m' ρ')⟩

end Cert.Proof.DownDx

end
-- ==== Proof.DownDw.lean ====
/-
  The backward of the down projection to its weights (`mm_down_dw`): what the kernel's run leaves, entry by entry. Grid point
  `12 r + s` takes the rows `s` of both operands and the columns `r` of the activations; the sum is kept in a scratch and written
  out at the run's last point. The kernel rounds the incoming gradient to bf16 first, which over the extended reals is no change.
-/
module

public import proofs.«01_k».proof.Defs
public import proofs.«01_k».proof.Proof.Gen.DownDwKernelIdeal.Value
public import proofs.«01_k».proof.Proof.Gen.DownDwReferenceIdeal.Run
public import proofs.«01_k».proof.Proof.Product
public import Idealize.ShloMosaic.Lib.Pipeline.ValueKit
public import Idealize.ShloMosaic.Lib.Quiescent

@[expose] public section

noncomputable section

namespace Cert.Proof.DownDw

open Idealize.ShloMosaic Idealize.ShloMosaic.TcCoe Idealize.SL.Sem Cert.DownDwKernelIdeal Cert.DownDwKernelIdeal.Gen Cert.Proof.Product
open Pipeline (Dat)

variable (m : (ℓ : Loc nD τ sig) → Buf (Elt Ideal) ℓ)

/-- The layer's rows and the incoming gradient, as launched. -/
abbrev rows (c : Dev nD) : Mat 8256 2816 := m ((c : Thread nD τ).loc main_arg0)
abbrev grad (c : Dev nD) : Mat 8256 1024 := m ((c : Thread nD τ).loc main_arg1)

/-- Which block of each operand a point stages. -/
theorem place : ∀ t : Fin cfg0.N, (win0_0.index t (0 : Fin 2) = t.val % 12 ∧ win0_0.index t (1 : Fin 2) = t.val / 12)
    ∧ win0_1.index t (0 : Fin 2) = t.val % 12 ∧ win0_1.index t (1 : Fin 2) = 0 :=
  (by decide +kernel : ∀ t : Fin grid0.N, _)

/-- One point adds its block's partial product. -/
theorem adds (c : Dev nD) (t : Fin cfg0.N) (r s : ℕ) (hr : t.val / 12 = r) (hs : t.val % 12 = s) (acc : Vec Ideal S1408x1024 .f32)
    (j : S1408x1024.Idx) :
    k0_pay2 acc (iblk m c 0 t) (iblk m c 1 t) j = acc j + ∑ q ∈ Finset.range 688,
      cell (rows m c) (s * 688 + q) (r * 1408 + (j 0).val) * cell (grad m c) (s * 688 + q) (0 + (j 1).val) := by
  obtain ⟨⟨a0, a1⟩, b0, b1⟩ := place t
  unfold k0_pay2
  rw [shapeCast_self]
  refine congrArg (acc j + ·) (block_weight _ _ _ _ rfl (rows m c) (grad m c) _ _ j (fun y => ?_) fun y => ?_)
  · refine read_cell (rows m c) _ _ _ ?_ ?_
    · show win0_0.index t (0 : Fin 2) * 688 + 1 * (y 0).val = _; rw [a0, hs]; omega
    · show win0_0.index t (1 : Fin 2) * 1408 + 1 * (y 1).val = _; rw [a1, hr]; omega
  · refine read_cell (grad m c) _ _ _ ?_ ?_
    · show win0_1.index t (0 : Fin 2) * 688 + 1 * (y 0).val = _; rw [b0, hs]; omega
    · show win0_1.index t (1 : Fin 2) * 1024 + 1 * (y 1).val = _; rw [b1]; omega

/-- What the scratch holds after a point, over what it held before. -/
theorem carries (c : Dev nD) (n : ℕ) (h : n < cfg0.N) (acc : Vec Ideal S1408x1024 .f32) : Value.scAt0_0 m c n h acc
    = k0_pay2 (if n % 12 = 0 then k0_pay1 else acc) (iblk m c 0 ⟨n, h⟩) (iblk m c 1 ⟨n, h⟩) := by
  unfold Value.scAt0_0
  split
  · rw [dif_neg (by omega)]; frame_out
  · split <;> (frame_out; rw [(Memref.isWhole_whole cc0_scratch0).read_unread acc])

/-- At a run's last point the block written out is the scratch just after it. -/
theorem written (c : Dev nD) (t : Fin cfg0.N) (h1 : t.val % 12 = 11) :
    (outsAt0 m c t.val t.isLt).1 = (outsAt0 m c t.val t.isLt).2 := by
  rw [outsAt0_C m c t (by omega) h1]
  frame_out
  rfl

/-- The array the run leaves is the product along the rows of the batch. -/
theorem result (c : Dev nD) : Value.G2 m c = weight (rows m c) (grad m c) := by
  funext i
  have h0 : (i 0).val < 2816 := (i 0).isLt
  have h1 : (i 1).val < 1024 := (i 1).isLt
  have hp : Value.pt2Of i < cfg0.N := by rw [show cfg0.N = 24 from N_0]; show 12 * (1 * _ + 1 * _) + 11 < 24; omega
  have hr : Value.pt2Of i / 12 = (i 0).val / 1408 := by show (12 * (1 * _ + 1 * _) + 11) / 12 = _; omega
  have hm : Value.pt2Of i % 12 = 11 := by show (12 * _ + 11) % 12 = 11; omega
  have e0 : Value.pt2Of i / 12 * 1408 + (i 0).val % 1408 = (i 0).val := by rw [hr]; omega
  have e1 : 0 + (i 1).val % 1024 = (i 1).val := by omega
  unfold Value.G2
  rw [dif_pos hp, ← Value.outsAt0_sweep m c _ hp, written m c ⟨_, hp⟩ hm, Value.soutsAt0_0_eq m c ⟨_, hp⟩]
  refine (accumulated _ (Value.scAt0_0 m c) (12 * (Value.pt2Of i / 12)) 688 (Value.loc2Of i)
    (fun k => cell (rows m c) k (i 0).val) (fun k => cell (grad m c) k (i 1).val) ?_ (Value.pt2Of i % 12) ?_ _).trans (by rw [hm]; rfl)
  · intro h
    rw [carries, if_pos (by omega)]
    refine (adds m c ⟨_, h⟩ (Value.pt2Of i / 12) 0 (by dsimp only; omega) (by dsimp only; omega) _ _).trans ?_
    show Ideal.ofBits .f32 0x00000000#32 + ∑ q ∈ _, cell _ _ (_ + (i 0).val % 1408) * cell _ _ (_ + (i 1).val % 1024) = _
    rw [Ideal.ofBits_zero_f32, zero_add, e0, e1]
  · intro s hs h acc
    rw [carries, if_neg (by omega)]
    refine (adds m c ⟨_, h⟩ (Value.pt2Of i / 12) (s + 1) (by dsimp only; omega) (by dsimp only; omega) _ _).trans ?_
    show acc _ + ∑ q ∈ _, cell _ _ (_ + (i 0).val % 1408) * cell _ _ (_ + (i 1).val % 1024) = _
    rw [e0, e1]

/-- The reference's run, its arguments kept. -/
theorem frame_reference : Cert.quiescent_DownDwReferenceIdeal (hDownDwReferenceIdeal := Cert.DownDwReferenceIdeal.Gen.facts) :=
  fun m ρ _ => (θ_run (Cert.DownDwReferenceIdeal.defs (F := Ideal)) _ _).mono
    (fun r h => ⟨fun c => (h c).2, sem_eq_zero_of_no_sems (by decide) r.2⟩) (Cert.DownDwReferenceIdeal.Value.run (F := Ideal) m ρ)

/-- The kernel and the reference leave the same product. -/
theorem algebraic : Cert.algebraic_DownDwKernelIdeal_DownDwReferenceIdeal := fun m ρ m' ρ' _ agree =>
  ⟨fun c => weight (rows m c) (grad m c),
    (θ_run _ _ _).mono (fun r h c => ⟨(h c).1.trans (result m c), (h c).2⟩) (Value.run (F := Ideal) m ρ),
    (θ_run _ _ _).mono (fun r h c => ⟨(h c).1.trans ((reference_weight (φ₂ := .f32) _ rfl _ _ _).trans (congrArg₂ weight (agree c).1 (agree c).2)), (h c).2⟩)
      (Cert.DownDwReferenceIdeal.Value.run (F := Ideal) m' ρ')⟩

end Cert.Proof.DownDw

end
-- ==== Proof.OutDx.lean ====
/-
  The backward of the out projection to its input (`mm_out_dx`): what the kernel's run leaves, entry by entry. Grid point `r` takes
  the 688 rows `r` of the incoming gradient, rounds them to bf16 (no change over the extended reals), and all the weights.
-/
module

public import proofs.«01_k».proof.Defs
public import proofs.«01_k».proof.Proof.Gen.OutDxKernelIdeal.Value
public import proofs.«01_k».proof.Proof.Gen.OutDxReferenceIdeal.Run
public import proofs.«01_k».proof.Proof.Product
public import Idealize.ShloMosaic.Lib.Pipeline.ValueKit
public import Idealize.ShloMosaic.Lib.Quiescent

@[expose] public section

noncomputable section

namespace Cert.Proof.OutDx

open Idealize.ShloMosaic Idealize.ShloMosaic.TcCoe Idealize.SL.Sem Cert.OutDxKernelIdeal Cert.OutDxKernelIdeal.Gen Cert.Proof.Product
open Pipeline (Dat)

variable (m : (ℓ : Loc nD τ sig) → Buf (Elt Ideal) ℓ)

/-- The incoming gradient and the weights, as launched. -/
abbrev grad (c : Dev nD) : Mat 8256 1024 := m ((c : Thread nD τ).loc main_arg1)
abbrev weights (c : Dev nD) : Mat 1024 1024 := m ((c : Thread nD τ).loc main_arg0)

/-- Which blocks a point stages, and which it writes. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- The array the run leaves is the whole product. -/
theorem result (c : Dev nD) : (dats m 0 c).arrAt 2 cfg0.N = input (grad m c) (weights m c) := by
  refine (dats m 0 c).arrAt_eq_of_covers 2 _ (by decide +kernel) fun t hf y => ?_
  obtain ⟨⟨a0, a1⟩, ⟨b0, b1⟩, o0, o1⟩ := place t
  blk_simp
  rw [after0_2]
  frame_out
  unfold k0_pay1
  refine (block_input (t.val * 688) (0 * 1024) 0 _ rfl (grad m c) (weights m c) _ _ y (fun y => ?_) fun y => ?_).trans ?_
  · refine read_cell (grad m c) _ _ _ ?_ ?_
    · show win0_0.index t (0 : Fin 2) * 688 + 1 * (y 0).val = _; rw [a0]; omega
    · show win0_0.index t (1 : Fin 2) * 1024 + 1 * (y 1).val = _; rw [a1]; omega
  · refine read_cell (weights m c) _ _ _ ?_ ?_
    · show win0_1.index t (0 : Fin 2) * 1024 + 1 * (y 0).val = _; rw [b0]; omega
    · show win0_1.index t (1 : Fin 2) * 1024 + 1 * (y 1).val = _; rw [b1]; omega
  · unfold input
    blk_simp [o0, o1]

/-- The reference's run, its arguments kept. -/
theorem frame_reference : Cert.quiescent_OutDxReferenceIdeal (hOutDxReferenceIdeal := Cert.OutDxReferenceIdeal.Gen.facts) :=
  fun m ρ _ => (θ_run (Cert.OutDxReferenceIdeal.defs (F := Ideal)) _ _).mono
    (fun r h => ⟨fun c => (h c).2, sem_eq_zero_of_no_sems (by decide) r.2⟩) (Cert.OutDxReferenceIdeal.Value.run (F := Ideal) m ρ)

/-- The kernel and the reference leave the same product. -/
theorem algebraic : Cert.algebraic_OutDxKernelIdeal_OutDxReferenceIdeal := fun m ρ m' ρ' _ agree =>
  ⟨fun c => input (grad m c) (weights m c),
    (θ_run _ _ _).mono (fun r h c => ⟨(h c).1.trans (result m c), (h c).2⟩) (Value.run_blocks (F := Ideal) m ρ),
    (θ_run _ _ _).mono (fun r h c => ⟨(h c).1.trans ((reference_input _ rfl _ _).trans (congrArg₂ input (agree c).2 (agree c).1)), (h c).2⟩)
      (Cert.OutDxReferenceIdeal.Value.run (F := Ideal) m' ρ')⟩

end Cert.Proof.OutDx

end
-- ==== Proof.OutDw.lean ====
/-
  The backward of the out projection to its weights (`mm_out_dw`): what the kernel's run leaves, entry by entry. Grid point `s`
  takes the rows `s` of both operands; the sum is kept in a scratch and written out at the last point. The kernel rounds the
  incoming gradient to bf16 first, which over the extended reals is no change.
-/
module

public import proofs.«01_k».proof.Defs
public import proofs.«01_k».proof.Proof.Gen.OutDwKernelIdeal.Value
public import proofs.«01_k».proof.Proof.Gen.OutDwReferenceIdeal.Run
public import proofs.«01_k».proof.Proof.Product
public import Idealize.ShloMosaic.Lib.Pipeline.ValueKit
public import Idealize.ShloMosaic.Lib.Quiescent

@[expose] public section

noncomputable section

namespace Cert.Proof.OutDw

open Idealize.ShloMosaic Idealize.ShloMosaic.TcCoe Idealize.SL.Sem Cert.OutDwKernelIdeal Cert.OutDwKernelIdeal.Gen Cert.Proof.Product
open Pipeline (Dat)

variable (m : (ℓ : Loc nD τ sig) → Buf (Elt Ideal) ℓ)

/-- The layer's rows and the incoming gradient, as launched. -/
abbrev rows (c : Dev nD) : Mat 8256 1024 := m ((c : Thread nD τ).loc main_arg0)
abbrev grad (c : Dev nD) : Mat 8256 1024 := m ((c : Thread nD τ).loc main_arg1)

/-- Which block of each operand a point stages. -/
theorem place : ∀ t : Fin cfg0.N, (win0_0.index t (0 : Fin 2) = t.val % 12 ∧ win0_0.index t (1 : Fin 2) = 0)
    ∧ win0_1.index t (0 : Fin 2) = t.val % 12 ∧ win0_1.index t (1 : Fin 2) = 0 :=
  (by decide +kernel : ∀ t : Fin grid0.N, _)

/-- One point adds its block's partial product. -/
theorem adds (c : Dev nD) (t : Fin cfg0.N) (r s : ℕ) (hr : t.val / 12 = r) (hs : t.val % 12 = s) (acc : Vec Ideal S1024x1024 .f32)
    (j : S1024x1024.Idx) :
    k0_pay2 acc (iblk m c 0 t) (iblk m c 1 t) j = acc j + ∑ q ∈ Finset.range 688,
      cell (rows m c) (s * 688 + q) (0 + (j 0).val) * cell (grad m c) (s * 688 + q) (0 + (j 1).val) := by
  obtain ⟨⟨a0, a1⟩, b0, b1⟩ := place t
  unfold k0_pay2
  rw [shapeCast_self]
  refine congrArg (acc j + ·) (block_weight _ _ _ _ rfl (rows m c) (grad m c) _ _ j (fun y => ?_) fun y => ?_)
  · refine read_cell (rows m c) _ _ _ ?_ ?_
    · show win0_0.index t (0 : Fin 2) * 688 + 1 * (y 0).val = _; rw [a0, hs]; omega
    · show win0_0.index t (1 : Fin 2) * 1024 + 1 * (y 1).val = _; rw [a1]; omega
  · refine read_cell (grad m c) _ _ _ ?_ ?_
    · show win0_1.index t (0 : Fin 2) * 688 + 1 * (y 0).val = _; rw [b0, hs]; omega
    · show win0_1.index t (1 : Fin 2) * 1024 + 1 * (y 1).val = _; rw [b1]; omega

/-- What the scratch holds after a point, over what it held before. -/
theorem carries (c : Dev nD) (n : ℕ) (h : n < cfg0.N) (acc : Vec Ideal S1024x1024 .f32) : Value.scAt0_0 m c n h acc
    = k0_pay2 (if n % 12 = 0 then k0_pay1 else acc) (iblk m c 0 ⟨n, h⟩) (iblk m c 1 ⟨n, h⟩) := by
  unfold Value.scAt0_0
  split
  · rw [dif_neg (by omega)]; frame_out
  · split <;> (frame_out; rw [(Memref.isWhole_whole cc0_scratch0).read_unread acc])

/-- At a run's last point the block written out is the scratch just after it. -/
theorem written (c : Dev nD) (t : Fin cfg0.N) (h1 : t.val % 12 = 11) :
    (outsAt0 m c t.val t.isLt).1 = (outsAt0 m c t.val t.isLt).2 := by
  rw [outsAt0_C m c t (by omega) h1]
  frame_out
  rfl

/-- The array the run leaves is the product along the rows of the batch. -/
theorem result (c : Dev nD) : Value.G2 m c = weight (rows m c) (grad m c) := by
  funext i
  have h0 : (i 0).val < 1024 := (i 0).isLt
  have h1 : (i 1).val < 1024 := (i 1).isLt
  have hp : Value.pt2Of i < cfg0.N := by rw [show cfg0.N = 12 from N_0]; show 12 * (1 * _ + 1 * _) + 11 < 12; omega
  have hr : Value.pt2Of i / 12 = 0 := by show (12 * (1 * _ + 1 * _) + 11) / 12 = _; omega
  have hm : Value.pt2Of i % 12 = 11 := by show (12 * _ + 11) % 12 = 11; omega
  have e0 : 0 + (i 0).val % 1024 = (i 0).val := by omega
  have e1 : 0 + (i 1).val % 1024 = (i 1).val := by omega
  unfold Value.G2
  rw [dif_pos hp, ← Value.outsAt0_sweep m c _ hp, written m c ⟨_, hp⟩ hm, Value.soutsAt0_0_eq m c ⟨_, hp⟩]
  refine (accumulated _ (Value.scAt0_0 m c) (12 * (Value.pt2Of i / 12)) 688 (Value.loc2Of i)
    (fun k => cell (rows m c) k (i 0).val) (fun k => cell (grad m c) k (i 1).val) ?_ (Value.pt2Of i % 12) ?_ _).trans (by rw [hm]; rfl)
  · intro h
    rw [carries, if_pos (by omega)]
    refine (adds m c ⟨_, h⟩ (Value.pt2Of i / 12) 0 (by dsimp only; omega) (by dsimp only; omega) _ _).trans ?_
    show Ideal.ofBits .f32 0x00000000#32 + ∑ q ∈ _, cell _ _ (_ + (i 0).val % 1024) * cell _ _ (_ + (i 1).val % 1024) = _
    rw [Ideal.ofBits_zero_f32, zero_add, e0, e1]
  · intro s hs h acc
    rw [carries, if_neg (by omega)]
    refine (adds m c ⟨_, h⟩ (Value.pt2Of i / 12) (s + 1) (by dsimp only; omega) (by dsimp only; omega) _ _).trans ?_
    show acc _ + ∑ q ∈ _, cell _ _ (_ + (i 0).val % 1024) * cell _ _ (_ + (i 1).val % 1024) = _
    rw [e0, e1]

/-- The reference's run, its arguments kept. -/
theorem frame_reference : Cert.quiescent_OutDwReferenceIdeal (hOutDwReferenceIdeal := Cert.OutDwReferenceIdeal.Gen.facts) :=
  fun m ρ _ => (θ_run (Cert.OutDwReferenceIdeal.defs (F := Ideal)) _ _).mono
    (fun r h => ⟨fun c => (h c).2, sem_eq_zero_of_no_sems (by decide) r.2⟩) (Cert.OutDwReferenceIdeal.Value.run (F := Ideal) m ρ)

/-- The kernel and the reference leave the same product. -/
theorem algebraic : Cert.algebraic_OutDwKernelIdeal_OutDwReferenceIdeal := fun m ρ m' ρ' _ agree =>
  ⟨fun c => weight (rows m c) (grad m c),
    (θ_run _ _ _).mono (fun r h c => ⟨(h c).1.trans (result m c), (h c).2⟩) (Value.run (F := Ideal) m ρ),
    (θ_run _ _ _).mono (fun r h c => ⟨(h c).1.trans ((reference_weight (φ₂ := .f32) _ rfl _ _ _).trans (congrArg₂ weight (agree c).1 (agree c).2)), (h c).2⟩)
      (Cert.OutDwReferenceIdeal.Value.run (F := Ideal) m' ρ')⟩

end Cert.Proof.OutDw

end
-- ==== Proof.In.lean ====
/-
  The in projection (`mm_in`): what the kernel's run leaves, entry by entry. Grid point `6 r + q` takes the 1376 rows `r` and the
  1152 columns `q`; the contracted axis is one block.
-/
module

public import proofs.«01_k».proof.Defs
public import proofs.«01_k».proof.Proof.Gen.InKernelIdeal.Value
public import proofs.«01_k».proof.Proof.Gen.InReferenceIdeal.Run
public import proofs.«01_k».proof.Proof.Product
public import Idealize.ShloMosaic.Lib.Pipeline.ValueKit
public import Idealize.ShloMosaic.Lib.Quiescent

@[expose] public section

noncomputable section

namespace Cert.Proof.In

open Idealize.ShloMosaic Idealize.ShloMosaic.TcCoe Idealize.SL.Sem Cert.InKernelIdeal Cert.InKernelIdeal.Gen Cert.Proof.Product
open Pipeline (Dat)

variable (m : (ℓ : Loc nD τ sig) → Buf (Elt Ideal) ℓ)

/-- The rows and the weights, as launched. -/
abbrev rows (c : Dev nD) : Mat 8256 1024 := m ((c : Thread nD τ).loc main_arg0)
abbrev weights (c : Dev nD) : Mat 1024 6912 := m ((c : Thread nD τ).loc main_arg1)

/-- Which blocks a point stages, and which it writes. -/
theorem place : ∀ t : Fin cfg0.N, (win0_0.index t (0 : Fin 2) = t.val / 6 ∧ win0_0.index t (1 : Fin 2) = 0)
    ∧ (win0_1.index t (0 : Fin 2) = 0 ∧ win0_1.index t (1 : Fin 2) = t.val % 6)
    ∧ win0_2.index t (0 : Fin 2) = t.val / 6 ∧ win0_2.index t (1 : Fin 2) = t.val % 6 :=
  (by decide +kernel : ∀ t : Fin grid0.N, _)

/-- The array the run leaves is the whole product. -/
theorem result (c : Dev nD) : (dats m 0 c).arrAt 2 cfg0.N = forward (rows m c) (weights m c) := by
  refine (dats m 0 c).arrAt_eq_of_covers 2 _ (by decide +kernel) fun t hf y => ?_
  obtain ⟨⟨a0, a1⟩, ⟨b0, b1⟩, o0, o1⟩ := place t
  blk_simp
  rw [after0_2]
  frame_out
  unfold k0_pay1
  refine (block_forward (t.val / 6 * 1376) (t.val % 6 * 1152) 0 _ rfl (rows m c) (weights m c) _ _ y (fun y => ?_) fun y => ?_).trans ?_
  · refine read_cell (rows m c) _ _ _ ?_ ?_
    · show win0_0.index t (0 : Fin 2) * 1376 + 1 * (y 0).val = _; rw [a0]; omega
    · show win0_0.index t (1 : Fin 2) * 1024 + 1 * (y 1).val = _; rw [a1]; omega
  · refine read_cell (weights m c) _ _ _ ?_ ?_
    · show win0_1.index t (0 : Fin 2) * 1024 + 1 * (y 0).val = _; rw [b0]; omega
    · show win0_1.index t (1 : Fin 2) * 1152 + 1 * (y 1).val = _; rw [b1]; omega
  · unfold forward
    blk_simp [o0, o1]

/-- The reference's run, its arguments kept. -/
theorem frame_reference : Cert.quiescent_InReferenceIdeal (hInReferenceIdeal := Cert.InReferenceIdeal.Gen.facts) :=
  fun m ρ _ => (θ_run (Cert.InReferenceIdeal.defs (F := Ideal)) _ _).mono
    (fun r h => ⟨fun c => (h c).2, sem_eq_zero_of_no_sems (by decide) r.2⟩) (Cert.InReferenceIdeal.Value.run (F := Ideal) m ρ)

/-- The kernel and the reference leave the same product. -/
theorem algebraic : Cert.algebraic_InKernelIdeal_InReferenceIdeal := fun m ρ m' ρ' _ agree =>
  ⟨fun c => forward (rows m c) (weights m c),
    (θ_run _ _ _).mono (fun r h c => ⟨(h c).1.trans (result m c), (h c).2⟩) (Value.run_blocks (F := Ideal) m ρ),
    (θ_run _ _ _).mono (fun r h c => ⟨(h c).1.trans ((reference_forward _ rfl _ _).trans (congrArg₂ forward (agree c).1 (agree c).2)), (h c).2⟩)
      (Cert.InReferenceIdeal.Value.run (F := Ideal) m' ρ')⟩

end Cert.Proof.In

end
-- ==== Proof.Up.lean ====
/-
  The up projection (`mm_up`): what the kernel's run leaves, entry by entry. Grid point `4 r + q` takes the 1376 rows `r` and the
  1408 columns `q`; the contracted axis is one block.
-/
module

public import proofs.«01_k».proof.Defs
public import proofs.«01_k».proof.Proof.Gen.UpKernelIdeal.Value
public import proofs.«01_k».proof.Proof.Gen.UpReferenceIdeal.Run
public import proofs.«01_k».proof.Proof.Product
public import Idealize.ShloMosaic.Lib.Pipeline.ValueKit
public import Idealize.ShloMosaic.Lib.Quiescent

@[expose] public section

noncomputable section

namespace Cert.Proof.Up

open Idealize.ShloMosaic Idealize.ShloMosaic.TcCoe Idealize.SL.Sem Cert.UpKernelIdeal Cert.UpKernelIdeal.Gen Cert.Proof.Product
open Pipeline (Dat)

variable (m : (ℓ : Loc nD τ sig) → Buf (Elt Ideal) ℓ)

/-- The rows and the weights, as launched. -/
abbrev rows (c : Dev nD) : Mat 8256 1024 := m ((c : Thread nD τ).loc main_arg0)
abbrev weights (c : Dev nD) : Mat 1024 5632 := m ((c : Thread nD τ).loc main_arg1)

/-- Which blocks a point stages, and which it writes. -/
theorem place : ∀ t : Fin cfg0.N, (win0_0.index t (0 : Fin 2) = t.val / 4 ∧ win0_0.index t (1 : Fin 2) = 0)
    ∧ (win0_1.index t (0 : Fin 2) = 0 ∧ win0_1.index t (1 : Fin 2) = t.val % 4)
    ∧ win0_2.index t (0 : Fin 2) = t.val / 4 ∧ win0_2.index t (1 : Fin 2) = t.val % 4 :=
  (by decide +kernel : ∀ t : Fin grid0.N, _)

/-- The array the run leaves is the whole product. -/
theorem result (c : Dev nD) : (dats m 0 c).arrAt 2 cfg0.N = forward (rows m c) (weights m c) := by
  refine (dats m 0 c).arrAt_eq_of_covers 2 _ (by decide +kernel) fun t hf y => ?_
  obtain ⟨⟨a0, a1⟩, ⟨b0, b1⟩, o0, o1⟩ := place t
  blk_simp
  rw [after0_2]
  frame_out
  unfold k0_pay1
  refine (block_forward (t.val / 4 * 1376) (t.val % 4 * 1408) 0 _ rfl (rows m c) (weights m c) _ _ y (fun y => ?_) fun y => ?_).trans ?_
  · refine read_cell (rows m c) _ _ _ ?_ ?_
    · show win0_0.index t (0 : Fin 2) * 1376 + 1 * (y 0).val = _; rw [a0]; omega
    · show win0_0.index t (1 : Fin 2) * 1024 + 1 * (y 1).val = _; rw [a1]; omega
  · refine read_cell (weights m c) _ _ _ ?_ ?_
    · show win0_1.index t (0 : Fin 2) * 1024 + 1 * (y 0).val = _; rw [b0]; omega
    · show win0_1.index t (1 : Fin 2) * 1408 + 1 * (y 1).val = _; rw [b1]; omega
  · unfold forward
    blk_simp [o0, o1]

/-- The reference's run, its arguments kept. -/
theorem frame_reference : Cert.quiescent_UpReferenceIdeal (hUpReferenceIdeal := Cert.UpReferenceIdeal.Gen.facts) :=
  fun m ρ _ => (θ_run (Cert.UpReferenceIdeal.defs (F := Ideal)) _ _).mono
    (fun r h => ⟨fun c => (h c).2, sem_eq_zero_of_no_sems (by decide) r.2⟩) (Cert.UpReferenceIdeal.Value.run (F := Ideal) m ρ)

/-- The kernel and the reference leave the same product. -/
theorem algebraic : Cert.algebraic_UpKernelIdeal_UpReferenceIdeal := fun m ρ m' ρ' _ agree =>
  ⟨fun c => forward (rows m c) (weights m c),
    (θ_run _ _ _).mono (fun r h c => ⟨(h c).1.trans (result m c), (h c).2⟩) (Value.run_blocks (F := Ideal) m ρ),
    (θ_run _ _ _).mono (fun r h c => ⟨(h c).1.trans ((reference_forward _ rfl _ _).trans (congrArg₂ forward (agree c).1 (agree c).2)), (h c).2⟩)
      (Cert.UpReferenceIdeal.Value.run (F := Ideal) m' ρ')⟩

end Cert.Proof.Up

end
-- ==== Proof.Down.lean ====
/-
  The down projection with the residual (`mm_down`): what the kernel's run leaves, entry by entry. Grid point `r` takes the 688 rows
  `r` of the activations and of the residual, and all the weights. The kernel adds the residual to the product, the reference the
  product to the residual.
-/
module

public import proofs.«01_k».proof.Defs
public import proofs.«01_k».proof.Proof.Gen.DownKernelIdeal.Value
public import proofs.«01_k».proof.Proof.Gen.DownReferenceIdeal.Run
public import proofs.«01_k».proof.Proof.Product
public import Idealize.ShloMosaic.Lib.Pipeline.ValueKit
public import Idealize.ShloMosaic.Lib.Quiescent

@[expose] public section

noncomputable section

namespace Cert.Proof.Down

open Idealize.ShloMosaic Idealize.ShloMosaic.TcCoe Idealize.SL.Sem Cert.DownKernelIdeal Cert.DownKernelIdeal.Gen Cert.Proof.Product
open Pipeline (Dat)

variable (m : (ℓ : Loc nD τ sig) → Buf (Elt Ideal) ℓ)

/-- The activations, the weights and the residual, as launched. -/
abbrev rows (c : Dev nD) : Mat 8256 2816 := m ((c : Thread nD τ).loc main_arg0)
abbrev weights (c : Dev nD) : Mat 2816 1024 := m ((c : Thread nD τ).loc main_arg1)
abbrev residual (c : Dev nD) : Mat 8256 1024 := m ((c : Thread nD τ).loc main_arg2)

/-- The residual plus the product. -/
def added (h : Mat 8256 1024) (x : Mat 8256 2816) (w : Mat 2816 1024) : Mat 8256 1024 := fun i => h i + forward x w i

/-- Which blocks a point stages, and which it writes. -/
theorem place : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ win0_3.index t (0 : Fin 2) = t.val ∧ win0_3.index t (1 : Fin 2) = 0 :=
  (by decide +kernel : ∀ t : Fin grid0.N, _)

/-- The array the run leaves is the residual plus the whole product. -/
theorem result (c : Dev nD) : (dats m 0 c).arrAt 3 cfg0.N = added (residual m c) (rows m c) (weights m c) := by
  refine (dats m 0 c).arrAt_eq_of_covers 3 _ (by decide +kernel) fun t hf y => ?_
  obtain ⟨⟨a0, a1⟩, ⟨b0, b1⟩, ⟨d0, d1⟩, o0, o1⟩ := place t
  blk_simp
  rw [after0_3]
  frame_out
  unfold k0_pay1
  refine (congrArg₂ (· + ·) (block_forward (t.val * 688) (0 * 1024) 0 _ rfl (rows m c) (weights m c) _ _ y (fun y => ?_) fun y => ?_)
    (show _ = residual m c (((cfg0.win 3).blk t).view.emb y) from ?_)).trans ?_
  · refine read_cell (rows m c) _ _ _ ?_ ?_
    · show win0_0.index t (0 : Fin 2) * 688 + 1 * (y 0).val = _; rw [a0]; omega
    · show win0_0.index t (1 : Fin 2) * 2816 + 1 * (y 1).val = _; rw [a1]; omega
  · refine read_cell (weights m c) _ _ _ ?_ ?_
    · show win0_1.index t (0 : Fin 2) * 2816 + 1 * (y 0).val = _; rw [b0]; omega
    · show win0_1.index t (1 : Fin 2) * 1024 + 1 * (y 1).val = _; rw [b1]; omega
  · refine congrArg (residual m c) (funext fun a => Fin.ext ?_)
    match a with
    | ⟨0, _⟩ =>
      show win0_2.index t (0 : Fin 2) * 688 + 1 * (y 0).val = win0_3.index t (0 : Fin 2) * 688 + 1 * (y 0).val
      rw [d0, o0]
    | ⟨1, _⟩ =>
      show win0_2.index t (1 : Fin 2) * 1024 + 1 * (y 1).val = win0_3.index t (1 : Fin 2) * 1024 + 1 * (y 1).val
      rw [d1, o1]
  · rw [add_comm]
    refine congrArg (residual m c _ + ·) ?_
    unfold forward
    blk_simp [o0, o1]

/-- The reference's run, its arguments kept. -/
theorem frame_reference : Cert.quiescent_DownReferenceIdeal (hDownReferenceIdeal := Cert.DownReferenceIdeal.Gen.facts) :=
  fun m ρ _ => (θ_run (Cert.DownReferenceIdeal.defs (F := Ideal)) _ _).mono
    (fun r h => ⟨fun c => (h c).2, sem_eq_zero_of_no_sems (by decide) r.2⟩) (Cert.DownReferenceIdeal.Value.run (F := Ideal) m ρ)

/-- The kernel and the reference leave the same product. -/
theorem algebraic : Cert.algebraic_DownKernelIdeal_DownReferenceIdeal := fun m ρ m' ρ' _ agree =>
  ⟨fun c => added (residual m c) (rows m c) (weights m c),
    (θ_run _ _ _).mono (fun r h c => ⟨(h c).1.trans (result m c), (h c).2⟩) (Value.run_blocks (F := Ideal) m ρ),
    (θ_run _ _ _).mono (fun r h c => ⟨(h c).1.trans (funext fun i => congrArg₂ (· + ·) (congrFun (agree c).2.2 i)
        (congrFun ((reference_forward _ rfl _ _).trans (congrArg₂ forward (agree c).1 (agree c).2.1)) i)), (h c).2⟩)
      (Cert.DownReferenceIdeal.Value.run (F := Ideal) m' ρ')⟩

end Cert.Proof.Down

end
-- ==== Proof.Norm.lean ====
/-
  The RMS norm of a row of 1024 reals and its gradient. `inv x` is one over the root of the mean square plus ε. The kernel scales
  the gradient by the gain, takes off its mean along the normalised row and scales by `inv x`; the reference, which differentiates
  the norm's lines, adds two equal terms that come from the square inside the mean. `back` is the kernel's form, `derived` the
  reference's.
-/
module

public import proofs.«01_k».proof.Proof.Lift
public import Idealize.ShloMosaic.Lib.WordCmp

@[expose] public section

noncomputable section

namespace Cert.Proof.Norm

open Idealize.ShloMosaic Cert.Delta
open scoped BigOperators

/-- The ε under the root, the float nearest one millionth. -/
def eps : ℝ := 8796093 / 8796093022208

theorem eps_bits : Ideal.ofBits .f32 0x358637BD#32 = ((eps : ℝ) : EReal) := by
  simp [Ideal.ofBits, Ideal.ieee, -EReal.coe_mul, eps]
  try norm_num

theorem width_bits : Ideal.ofBits .f32 0x44800000#32 = ((1024 : ℝ) : EReal) := by
  simp [Ideal.ofBits, Ideal.ieee, -EReal.coe_mul]
  try norm_num

/-- The exponent that the derivative of one over a root brings down. -/
def power : ℝ := -1 / 2

theorem power_bits : Ideal.ofBits .f32 0xBF000000#32 = ((power : ℝ) : EReal) := by
  simp [Ideal.ofBits, Ideal.ieee, -EReal.coe_mul, power]
  try norm_num

/-- A row. -/
abbrev Row := Fin 1024 → ℝ

/-- The mean square plus ε. -/
def ms (x : Row) : ℝ := (∑ l, x l * x l) / 1024 + eps

/-- One over its root. -/
def inv (x : Row) : ℝ := (Real.sqrt (ms x))⁻¹

theorem ms_pos (x : Row) : 0 < ms x := by
  have h : 0 ≤ ∑ l, x l * x l := Finset.sum_nonneg fun l _ => mul_self_nonneg _
  unfold ms eps
  positivity

/-- The mean square plus ε, as both programs compute it. -/
theorem ms_coe (x : Row) :
    Ideal.div ((∑ l, x l * x l : ℝ) : EReal) ((1024 : ℝ) : EReal) + ((eps : ℝ) : EReal) = ((ms x : ℝ) : EReal) := by
  rw [Ideal.div_coe (by norm_num), ← EReal.coe_mul, ← EReal.coe_add]
  refine congrArg Real.toEReal ?_
  unfold ms
  ring

/-- One over its root, as both programs compute it. -/
theorem inv_coe (x : Row) : Ideal.rsqrt ((ms x : ℝ) : EReal) = ((inv x : ℝ) : EReal) := by
  have h := ms_pos x
  rw [Ideal.rsqrt_coe, if_neg (not_lt.mpr h.le), if_neg h.ne']
  rfl

/-- The sum of a row's squares, among the extended reals. -/
theorem squares_coe (x : Row) : ∑ l, (x l : EReal) * (x l : EReal) = ((∑ l, x l * x l : ℝ) : EReal) := by
  norm_cast

theorem inv_sq (x : Row) : inv x * inv x = (ms x)⁻¹ := by
  unfold inv
  rw [← mul_inv, Real.mul_self_sqrt (ms_pos x).le]

/-- The gradient of the row, as the kernel takes it. -/
def back (x g d : Row) (j : Fin 1024) : ℝ :=
  inv x * (d j * g j - x j * inv x * ((∑ l, d l * g l * (x l * inv x)) / 1024))

/-- What the square inside the mean contributes. -/
def pull (x g d : Row) : ℝ := (∑ l, x l * (d l * g l)) * (power * (inv x / ms x)) / 1024

/-- The gradient of the row, as the derivative of the lines gives it. -/
def derived (x g d : Row) (j : Fin 1024) : ℝ := d j * g j * inv x + x j * pull x g d + pull x g d * x j

/-- The two are the same. -/
theorem derived_eq (x g d : Row) (j : Fin 1024) : derived x g d j = back x g d j := by
  have e : (∑ l, d l * g l * (x l * inv x)) = inv x * ∑ l, x l * (d l * g l) := by
    rw [Finset.mul_sum]
    exact Finset.sum_congr rfl fun l _ => by ring
  have h : inv x / ms x = inv x * (inv x * inv x) := by rw [inv_sq, div_eq_mul_inv]
  unfold derived back pull power
  rw [e, h]
  ring

/-- Choosing by a signed comparison `≥` of two numbers far below the word size. -/
theorem select_from {α : Type} (a b : ℕ) (ha : a < 2 ^ 31) (hb : b < 2 ^ 31) (u v : α) :
    Scalar.select (IntOp.cmpi .sge (BitVec.ofNat 32 a) (BitVec.ofNat 32 b)) u v = if b ≤ a then u else v := by
  rw [WordCmp.cmpi_sge_ofNat ha hb]
  by_cases h : b ≤ a <;> simp [h, Scalar.select]

/-- What row `q` adds to the gradient of the gain's lane `l`. -/
def gainTerm (X D : ℕ → Row) (l : Fin 1024) (q : ℕ) : ℝ := D q l * (X q l * inv (X q))

/-- The gradient of the gain over the first `n` rows. -/
def gainTo (X D : ℕ → Row) (n : ℕ) (l : Fin 1024) : ℝ := ∑ q ∈ Finset.range n, gainTerm X D l q

/-- One block of 192 rows more. -/
theorem gainTo_block (X D : ℕ → Row) (t : ℕ) (l : Fin 1024) :
    gainTo X D ((t + 1) * 192) l = gainTo X D (t * 192) l + ∑ p : Fin 192, gainTerm X D l (t * 192 + p.val) := by
  unfold gainTo
  rw [add_mul, one_mul, Finset.sum_range_add, Fin.sum_univ_eq_sum_range (fun p => gainTerm X D l (t * 192 + p)) 192]

/-- An array's row `q` as reals; zeros beyond the last row, which no proof reads. -/
def rowOf (a : (⟨2, ![8256, 1024]⟩ : Shape).Idx → EReal) (q : ℕ) (l : Fin 1024) : ℝ :=
  if h : q < 8256 then (a (ix2 ⟨q, h⟩ l)).toReal else 0

theorem rowOf_at (a : (⟨2, ![8256, 1024]⟩ : Shape).Idx → EReal) (h : ∀ i, a i = ((a i).toReal : EReal)) (p : Fin 8256) (l : Fin 1024) :
    a (ix2 p l) = (rowOf a p.val l : EReal) := by
  unfold rowOf
  rw [dif_pos p.isLt]
  exact h _

end Cert.Proof.Norm

end
-- ==== Proof.RmsBwd.lean ====
/-
  The gradient of the RMS norm, the call `_rms_bwd`.
-/
module

public import proofs.«01_k».proof.Defs
public import proofs.«01_k».proof.Proof.Norm
public import proofs.«01_k».proof.Proof.Finite
public import proofs.«01_k».proof.Proof.Gen.Pre_finite_rmsbwd
public import Idealize.ShloMosaic.Lib.Quiescent
public import proofs.«01_k».proof.Proof.Gen.RmsBwdKernelIdeal.Value
public import proofs.«01_k».proof.Proof.Gen.RmsBwdReferenceIdeal.Run
public import Idealize.ShloMosaic.Lib.Pipeline.ValueKit

@[expose] public section

set_option maxRecDepth 16384

noncomputable section

namespace Cert.Proof.RmsBwd

open Idealize.ShloMosaic Idealize.ShloMosaic.TcCoe Idealize.SL.Sem Cert.Proof.Norm Cert.Delta
open scoped BigOperators

section Body

open Cert.RmsBwdKernelIdeal Cert.RmsBwdKernelIdeal.Gen

variable {h d r : Vec Ideal S192x1024 .f32} {g : Vec Ideal S1x1024 .f32} {X D : Fin 192 → Row} {G : Row}
  (hx : ∀ p l, h (ix2 p l) = (X p l : EReal)) (hd : ∀ p l, d (ix2 p l) = (D p l : EReal)) (hg : ∀ l, g (ix2 0 l) = (G l : EReal))

include hx in
theorem factor_at (p : Fin 192) : k0_pay3 (F := Ideal) h (ix2 p 0) = (inv (X p) : EReal) := by
  pointwise [k0_pay3, hx]
  rw [width_bits, eps_bits, squares_coe, ms_coe, inv_coe]

include hx in
theorem normed_at (p : Fin 192) (l : Fin 1024) : k0_pay4 (F := Ideal) h (ix2 p l) = (X p l * inv (X p) : ℝ) := by
  pointwise [k0_pay4, hx, factor_at hx]
  norm_cast

include hx hd hg in
theorem dh_at (i : grid0.Coords) (p : Fin 192) (l : Fin 1024) :
    k0_pay5 (F := Ideal) i h d g r (ix2 p l)
      = if 48 ≤ (i 0).val * 192 + p.val then r (ix2 p l) + (back (X p) G (D p) l : EReal) else 0 := by
  pointwise [k0_pay5, hx, hd, hg, factor_at hx, normed_at hx]
  have e : IntOp.addi (Scalar.muli (BitVec.ofNat 32 (i 0).val) 192#32) (BitVec.ofNat 32 p.val) = BitVec.ofNat 32 ((i 0).val * 192 + p.val) := by
    show BitVec.ofNat 32 _ * BitVec.ofNat 32 192 + BitVec.ofNat 32 _ = _
    rw [← BitVec.ofNat_mul, ← BitVec.ofNat_add]
  have hi : (i 0).val < 43 := (i 0).isLt
  rw [e, select_from _ _ (by omega) (by norm_num), width_bits, Ideal.div_coe (by norm_num)]
  refine if_congr Iff.rfl (congrArg (r (ix2 p l) + ·) ?_) rfl
  norm_cast
  unfold back
  ring_nf

include hx hd in
theorem dgain_at (l : Fin 1024) : k0_pay6 (F := Ideal) h d (ix2 0 l) = ((∑ p, D p l * (X p l * inv (X p)) : ℝ) : EReal) := by
  pointwise [k0_pay6, hd, normed_at hx]
  norm_cast

/-! ## What one grid point leaves in its two outputs -/

section

variable (c : Dev nD) (i : grid0.Coords) (arg1 : Memref sig .tc .vmem S192x1024 .f32) (harg1 : arg1.IsWhole)
  (arg2 : Memref sig .tc .vmem S1x1024 .f32) (harg2 : arg2.IsWhole) (arg3 : Memref sig .tc .vmem S192x1024 .f32) (harg3 : arg3.IsWhole)
  (arg4 : Memref sig .tc .vmem S192x1024 .f32) (harg4 : arg4.IsWhole) (arg5 : Memref sig .tc .vmem S192x1024 .f32) (harg5 : arg5.IsWhole)
  (arg6 : Memref sig .tc .vmem S8x1024 .f32) (harg6 : arg6.IsWhole)
  (x0 : Vec Ideal S192x1024 .f32) (x1 : Vec Ideal S1x1024 .f32) (x2 x3 : Vec Ideal S192x1024 .f32) (xo : Vec Ideal S8x1024 .f32)

theorem z2 : (![0, 0] : Fin 2 → ℕ) = fun _ => 0 := by decide

theorem first_dh (hc0 : cond0_0 i) :
    out0_A_4 (F := Ideal) c i arg1 harg1 arg2 harg2 arg3 harg3 arg4 harg4 arg5 harg5 arg6 harg6 hc0 x0 x1 x2 x3 = k0_pay5 i x0 x2 x1 x3 := by
  unfold out0_A_4
  rw [View.read_writes_eq_canon _ _ _ (cover0_A_4 (F := Ideal) c i arg1 harg1 arg2 harg2 arg3 harg3 arg4 harg4 arg5 harg5 arg6 harg6 hc0 x0 x1 x2 x3)]
  unfold kernelRun0_A
  dsimp only
  sl_unfold_words
  simp only [View.readAt_eq_ld, View.canon_unit_zero (S := S192x1024) z2, View.ld_unit_zero (S := S192x1024) z2,
    View.ld_unit_zero (S := S1x1024) z2, Memref.IsWhole.read_unread]

theorem later_dh (hc0 : ¬cond0_0 i) :
    out0_B_4 (F := Ideal) c i arg1 harg1 arg2 harg2 arg3 harg3 arg4 harg4 arg5 harg5 arg6 harg6 hc0 x0 x1 x2 x3 xo = k0_pay5 i x0 x2 x1 x3 := by
  unfold out0_B_4
  rw [View.read_writes_eq_canon _ _ _ (cover0_B_4 (F := Ideal) c i arg1 harg1 arg2 harg2 arg3 harg3 arg4 harg4 arg5 harg5 arg6 harg6 hc0 x0 x1 x2 x3 xo)]
  unfold kernelRun0_B
  dsimp only
  sl_unfold_words
  simp only [View.readAt_eq_ld, View.canon_unit_zero (S := S192x1024) z2, View.ld_unit_zero (S := S192x1024) z2,
    View.ld_unit_zero (S := S1x1024) z2, Memref.IsWhole.read_unread]

theorem first_dgain (hc0 : cond0_0 i) :
    out0_A_5 (F := Ideal) c i arg1 harg1 arg2 harg2 arg3 harg3 arg4 harg4 arg5 harg5 arg6 harg6 hc0 x0 x1 x2 x3
      = k0_pay2 (k0_pay6 x0 x2) (k0_pay1 (F := Ideal)) := by
  unfold out0_A_5
  rw [View.read_writes_eq_canon _ _ _ (cover0_A_5 (F := Ideal) c i arg1 harg1 arg2 harg2 arg3 harg3 arg4 harg4 arg5 harg5 arg6 harg6 hc0 x0 x1 x2 x3)]
  unfold kernelRun0_A
  dsimp only
  sl_unfold_words
  simp only [View.readAt_eq_ld, View.canon_cons_unit_zero (S := S8x1024) z2, View.ld_unit_zero (S := S192x1024) z2,
    View.ld_unit_zero (S := S8x1024) z2, View.readCov_unit_zero (S := S8x1024) _ z2, Memref.IsWhole.read_unread]

theorem later_dgain (hc0 : ¬cond0_0 i) :
    out0_B_5 (F := Ideal) c i arg1 harg1 arg2 harg2 arg3 harg3 arg4 harg4 arg5 harg5 arg6 harg6 hc0 x0 x1 x2 x3 xo
      = k0_pay2 (k0_pay6 x0 x2) xo := by
  unfold out0_B_5
  rw [View.read_writes_eq_canon _ _ _ (cover0_B_5 (F := Ideal) c i arg1 harg1 arg2 harg2 arg3 harg3 arg4 harg4 arg5 harg5 arg6 harg6 hc0 x0 x1 x2 x3 xo)]
  unfold kernelRun0_B
  dsimp only
  sl_unfold_words
  simp only [View.readAt_eq_ld, View.canon_unit_zero (S := S8x1024) z2, View.ld_unit_zero (S := S192x1024) z2,
    View.ld_unit_zero (S := S8x1024) z2, Memref.IsWhole.read_unread]

end

end Body

/-! ## The kernel's run -/

section Run

open Cert.RmsBwdKernelIdeal Cert.RmsBwdKernelIdeal.Gen
open Idealize.ShloMosaic.Pipeline (Dat)

/-- The gradient of the hidden rows: what was there plus the norm's gradient, zero on the padding rows. -/
def hidden (X : ℕ → Row) (G : Row) (D : ℕ → Row) (R : S8256x1024.Idx → EReal) (i : S8256x1024.Idx) : EReal :=
  if 48 ≤ (i 0).val then R i + (back (X (i 0).val) G (D (i 0).val) (i 1) : EReal) else 0

variable (m : (ℓ : Loc nD τ sig) → Buf (Elt Ideal) ℓ) (c : Dev nD)

/-- The hidden rows, the gain and the incoming gradient are reals; `R` is the gradient already there. -/
structure Gives (X : ℕ → Row) (G : Row) (D : ℕ → Row) (R : S8256x1024.Idx → EReal) : Prop where
  h : ∀ (p : Fin 8256) l, m ((c : Thread nD τ).loc main_arg0) (ix2 p l) = (X p.val l : EReal)
  g : ∀ l, m ((c : Thread nD τ).loc main_arg1) (ix2 0 l) = (G l : EReal)
  d : ∀ (p : Fin 8256) l, m ((c : Thread nD τ).loc main_arg2) (ix2 p l) = (D p.val l : EReal)
  r : m ((c : Thread nD τ).loc main_arg3) = R

theorem place : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ (grid0.coords t 0).val = t.val :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ (grid0.coords t 0).val = t.val)

/-- Row `p` of block `t`. -/
def row (t : Fin cfg0.N) (p : Fin 192) : Fin 8256 := ⟨t.val * 192 + p.val, by
  have h : t.val < 43 := lt_of_lt_of_eq t.isLt N_0
  omega⟩

variable {m c} {X D : ℕ → Row} {G : Row} {R : S8256x1024.Idx → EReal} (H : Gives m c X G D R)
include H

theorem blk_h (t : Fin cfg0.N) (p : Fin 192) (l : Fin 1024) : iblk m c 0 t (ix2 p l) = (X (t.val * 192 + p.val) l : EReal) := by
  refine Eq.trans ?_ (H.h (row t p) l)
  blk_ext! [iblk, V, place t, row]

theorem blk_g (t : Fin cfg0.N) (l : Fin 1024) : iblk m c 1 t (ix2 0 l) = (G l : EReal) := by
  rw [← H.g]
  blk_ext! [iblk, V, place t]

theorem blk_d (t : Fin cfg0.N) (p : Fin 192) (l : Fin 1024) : iblk m c 2 t (ix2 p l) = (D (t.val * 192 + p.val) l : EReal) := by
  refine Eq.trans ?_ (H.d (row t p) l)
  blk_ext! [iblk, V, place t, row]

theorem blk_r (t : Fin cfg0.N) (p : Fin 192) (l : Fin 1024) : iblk m c 3 t (ix2 p l) = R (ix2 (row t p) l) := by
  rw [← H.r]
  blk_ext! [iblk, V, place t, row]

/-- What point `t` leaves of the gradient of the hidden rows. -/
theorem point_dh (t : Fin cfg0.N) (p : Fin 192) (l : Fin 1024) :
    (outsAt0 m c t.val t.isLt).1 (ix2 p l) = hidden X G D R (ix2 (row t p) l) := by
  have e := dh_at (r := iblk m c 3 t) (blk_h H t) (blk_d H t) (blk_g H t) (grid0.coords t) p l
  rw [blk_r H, (place t).2.2.2.2.2.2] at e
  by_cases h0 : t.val % 43 = 0
  · rw [outsAt0_A m c t h0]
    dsimp only
    rw [first_dh]
    exact e
  · rw [outsAt0_B m c t h0]
    dsimp only
    rw [later_dh]
    exact e

omit H in
/-- A block's sum added to what the block of the gain's gradient held. -/
theorem add_at (u : FVec Ideal S1x1024 .f32) (v : Vec Ideal S8x1024 .f32) (s : Fin 8) (l : Fin 1024) :
    k0_pay2 (F := Ideal) u v (ix2 s l) = v (ix2 s l) + u (ix2 0 l) := by
  pointwise [k0_pay2]

/-- What the gain's gradient is after point `n`. -/
theorem point_dgain : ∀ (n : ℕ) (hn : n < cfg0.N) (s : Fin 8) (l : Fin 1024),
    (outsAt0 m c n hn).2 (ix2 s l) = (gainTo X D ((n + 1) * 192) l : EReal)
  | 0, hn, s, l => by
    rw [outsAt0_A m c ⟨0, hn⟩ rfl]
    dsimp only
    rw [first_dgain, add_at, dgain_at (blk_h H ⟨0, hn⟩) (blk_d H ⟨0, hn⟩), gainTo_block]
    have e : k0_pay1 (F := Ideal) (ix2 s l) = ((gainTo X D (0 * 192) l : ℝ) : EReal) := by
      pointwise [k0_pay1]
      simp [gainTo]
    rw [e, ← EReal.coe_add]
    rfl
  | n + 1, hn, s, l => by
    have hN : cfg0.N = 43 := N_0
    have hB : ¬(⟨n + 1, hn⟩ : Fin cfg0.N).val % 43 = 0 := by dsimp only; omega
    rw [outsAt0_B m c ⟨n + 1, hn⟩ hB]
    dsimp only
    rw [later_dgain, add_at, dgain_at (blk_h H ⟨n + 1, hn⟩) (blk_d H ⟨n + 1, hn⟩), gainTo_block]
    have e := point_dgain n (Nat.lt_of_succ_lt hn) s l
    refine (congrArg (· + _) e).trans ?_
    rw [← EReal.coe_add]
    rfl

/-- The gradient of the hidden rows, whole. -/
theorem whole_dh : (dats m 0 c).arrAt 4 cfg0.N = hidden X G D R := by
  refine (dats m 0 c).arrAt_eq_of_covers 4 _ (by decide +kernel) fun t hf y => ?_
  blk_simp
  rw [after0_4]
  have e : (win0_4.blk t).view.emb y = ix2 (row t (y 0 : Fin 192)) (y 1 : Fin 1024) := by
    blk_ext! [place t, row]
  rw [e]
  exact (congrArg _ (eq_ix2 (n0 := 192) (n1 := 1024) y)).trans (point_dh H t _ _)

/-- The gradient of the gain, whole: every row of the array holds the sum over all rows. -/
theorem whole_dgain : (dats m 0 c).arrAt 5 cfg0.N = fun i : S8x1024.Idx => (gainTo X D 8256 (i 1) : EReal) := by
  refine (dats m 0 c).arrAt_eq_of_covers 5 _ (by decide +kernel) fun t hf y => ?_
  have hN : t.val < 43 := lt_of_lt_of_eq t.isLt N_0
  have ht : t.val = 42 := by have := (flush0_5 t).mp hf; omega
  blk_simp
  rw [after0_5]
  have e1 : (win0_5.blk t).view.emb y 1 = (y 1 : Fin 1024) := by apply Fin.ext; blk_simp [place t]
  rw [e1]
  refine ((congrArg _ (eq_ix2 (n0 := 8) (n1 := 1024) y)).trans (point_dgain H t.val t.isLt _ _)).trans ?_
  rw [ht]

end Run

/-! ## The reference's run -/

section Reference

open Cert.RmsBwdReferenceIdeal Cert.RmsBwdReferenceIdeal.Gen

variable {m : (ℓ : Loc nD τ sig) → Buf (Elt Ideal) ℓ} {c : Dev nD} {X D : ℕ → Row} {G : Row} {R : S8256x1024.Idx → EReal}
  (hx : ∀ (p : Fin 8256) l, m ((c.tc : Thread nD τ).loc main_arg0) (ix2 p l) = (X p.val l : EReal))
  (hg : ∀ l, m ((c.tc : Thread nD τ).loc main_arg1) (ix2 0 l) = (G l : EReal))
  (hd : ∀ (p : Fin 8256) l, m ((c.tc : Thread nD τ).loc main_arg2) (ix2 p l) = (D p.val l : EReal))
  (hr : m ((c.tc : Thread nD τ).loc main_arg3) = R)

include hx hg hd hr in
theorem reference_dh (p : Fin 8256) (l : Fin 1024) : Value.res_main_v39 (F := Ideal) m c (ix2 p l) = hidden X G D R (ix2 p l) := by
  pointwise [Value.res_main_v39, hx, hg, hd, hr]
  have z : id (constant (F := Ideal) S_ FTy.f32 0x00000000#32) ix0 = (0 : EReal) := Ideal.ofBits_zero_f32
  rw [z, select_from _ _ (by omega) (by norm_num), width_bits, eps_bits, power_bits, squares_coe, ms_coe, inv_coe,
    Ideal.div_coe (ms_pos _).ne', Ideal.div_coe (by norm_num)]
  refine if_congr Iff.rfl (congrArg (R (ix2 p l) + ·) ?_) rfl
  rw [Finset.univ_unique, Finset.sum_singleton]
  norm_cast
  show _ = back (X p.val) G (D p.val) l
  rw [← derived_eq]
  unfold derived pull
  ring

end Reference

/-- The reference's run: its arguments are kept, and it has no semaphore. -/
theorem frame_reference : Cert.quiescent_RmsBwdReferenceIdeal (hRmsBwdReferenceIdeal := Cert.RmsBwdReferenceIdeal.Gen.facts) :=
  fun m ρ _ => (θ_run (Cert.RmsBwdReferenceIdeal.defs (F := Ideal)) _ _).mono
    (fun r h => ⟨fun c => (h c).2.2, sem_eq_zero_of_no_sems (by decide) r.2⟩) (Cert.RmsBwdReferenceIdeal.Value.run (F := Ideal) m ρ)

/-- Under the precondition the three arrays read by the norm's gradient hold reals. -/
theorem of_pre {a0 a2 a3 : FVec Ideal Cert.Pre_finite_rmsbwd.S8256x1024 .f32} {a1 : FVec Ideal Cert.Pre_finite_rmsbwd.S1x1024 .f32}
    [Cert.Pre_finite_rmsbwd.Facts] (h : Cert.Pre_finite_rmsbwd.fn (F := Ideal) a0 a1 a2 a3 = fun _ => 1#1) :
    (∀ i, a0 i = ((a0 i : EReal).toReal : EReal)) ∧ (∀ i, a1 i = ((a1 i : EReal).toReal : EReal))
    ∧ (∀ i, a2 i = ((a2 i : EReal).toReal : EReal)) := by
  have e := congrFun h ix0
  unfold Cert.Pre_finite_rmsbwd.fn at e
  obtain ⟨e, h2⟩ := IntOp.andi_eq_one.1 e
  obtain ⟨h0, h1⟩ := IntOp.andi_eq_one.1 e
  exact ⟨Finite.reals a0 _ _ _ h0, Finite.reals a1 _ _ _ h1, Finite.reals a2 _ _ _ h2⟩

/-- The kernel's gradients of the norm are the reference's. -/
theorem algebraic : Cert.algebraic_RmsBwdKernelIdeal_RmsBwdReferenceIdeal_pre_finite_rmsbwd := by
  intro m ρ m' ρ' hpre agree
  let X : Dev Cert.RmsBwdKernelIdeal.nD → ℕ → Row := fun c => rowOf
    (m ((c.tc : Thread Cert.RmsBwdKernelIdeal.nD Cert.RmsBwdKernelIdeal.τ).loc Cert.RmsBwdKernelIdeal.main_arg0))
  let G : Dev Cert.RmsBwdKernelIdeal.nD → Row := fun c l =>
    (m ((c.tc : Thread Cert.RmsBwdKernelIdeal.nD Cert.RmsBwdKernelIdeal.τ).loc Cert.RmsBwdKernelIdeal.main_arg1) (ix2 0 l) : EReal).toReal
  let D : Dev Cert.RmsBwdKernelIdeal.nD → ℕ → Row := fun c => rowOf
    (m ((c.tc : Thread Cert.RmsBwdKernelIdeal.nD Cert.RmsBwdKernelIdeal.τ).loc Cert.RmsBwdKernelIdeal.main_arg2))
  let R : Dev Cert.RmsBwdKernelIdeal.nD → (⟨2, ![8256, 1024]⟩ : Shape).Idx → EReal := fun c =>
    m ((c.tc : Thread Cert.RmsBwdKernelIdeal.nD Cert.RmsBwdKernelIdeal.τ).loc Cert.RmsBwdKernelIdeal.main_arg3)
  have H : ∀ c, Gives m c (X c) (G c) (D c) (R c) := fun c => by
    obtain ⟨h0, h1, h2⟩ := of_pre (hpre c)
    exact ⟨rowOf_at _ h0, fun _ => h1 _, rowOf_at _ h2, rfl⟩
  have hx := fun c (p : Fin 8256) (l : Fin 1024) => (congrFun (agree c).1 (ix2 p l)).trans ((H c).h p l)
  have hg := fun c (l : Fin 1024) => (congrFun (agree c).2.1 (ix2 0 l)).trans ((H c).g l)
  have hd := fun c (p : Fin 8256) (l : Fin 1024) => (congrFun (agree c).2.2.1 (ix2 p l)).trans ((H c).d p l)
  refine ⟨fun c => hidden (X c) (G c) (D c) (R c), fun c i => (gainTo (X c) (D c) 8256 (i 1) : EReal), ?_, ?_⟩
  · exact (θ_run _ _ _).mono (fun r h c => ⟨(h c).1.trans (whole_dh (H c)), (h c).2.1.trans (whole_dgain (H c)), (h c).2.2⟩)
      (Cert.RmsBwdKernelIdeal.Value.run_blocks (F := Ideal) m ρ)
  · refine (θ_run _ _ _).mono (fun r h c => ⟨(h c).1.trans (funext fun i => ?_), (h c).2.1.trans (funext fun i => ?_), (h c).2.2⟩)
      (Cert.RmsBwdReferenceIdeal.Value.run (F := Ideal) m' ρ')
    · rw [eq_ix2 i]
      exact reference_dh (hx c) (hg c) (hd c) (agree c).2.2.2 _ _
    · rw [eq_ix2 (n0 := 8) (n1 := 1024) i]
      have hx' := hx c
      have hd' := hd c
      pointwise [hx', hd']
      refine Eq.trans (b := ∑ x : Fin 8256, ((gainTerm (X c) (D c) (i 1) x.val : ℝ) : EReal)) (Finset.sum_congr rfl fun x _ => ?_) ?_
      · rw [width_bits, eps_bits, squares_coe, ms_coe, inv_coe, ← EReal.coe_mul, ← EReal.coe_mul]
        exact congrArg Real.toEReal (mul_comm _ _)
      · rw [← coe_sum]
        exact congrArg Real.toEReal (Fin.sum_univ_eq_sum_range (fun q => gainTerm (X c) (D c) (i 1) q) 8256)

end Cert.Proof.RmsBwd

end
-- ==== Proof.Conv.lean ====
/-
  The transposed causal convolution: the rows ahead of each row, weighted tap by tap. Shared by the two calls of `_conv_t`.
-/
module

public import proofs.«01_k».proof.Defs
public import proofs.«01_k».proof.Proof.Product
public import Idealize.ShloMosaic.Lib.Pipeline.ValueKit
public import Idealize.ShloMosaic.Lib.Pipeline.ReadBack
public import Idealize.ShloMosaic.Lib.WordCmp

@[expose] public section

noncomputable section

namespace Cert.Proof.Conv

open Idealize.ShloMosaic Cert.Proof.Product

variable {M N W : ℕ}

/-- A cell beyond the last row is zero. -/
theorem cell_past (x : Mat M N) {r : ℕ} (h : M ≤ r) (c : ℕ) : cell x r c = 0 :=
  dif_neg fun e => absurd e.1 (by omega)

/-- What the row `s` ahead of row `r` gives at column `c`, weighted by tap `j`. -/
def tap (E : Mat M W) (w : Mat 8 W) (s j r c : ℕ) : EReal := cell E (r + s) c * cell w j c

theorem tap_past (E : Mat M W) (w : Mat 8 W) {s j r : ℕ} (h : M ≤ r + s) (c : ℕ) : tap E w s j r c = 0 := by
  unfold tap
  rw [cell_past E h, zero_mul]

theorem tap_mul (E : Mat M W) (w : Mat 8 W) {s j r c : ℕ} {p : (⟨2, ![M, W]⟩ : Shape).Idx} {q : (⟨2, ![8, W]⟩ : Shape).Idx}
    (h0 : (p 0).val = r + s) (h1 : (p 1).val = c) (h2 : (q 0).val = j) (h3 : (q 1).val = c) : E p * w q = tap E w s j r c := by
  unfold tap
  rw [read_cell E _ _ _ h0 h1, read_cell w _ _ _ h2 h3]

/-- Four taps, added in the order the kernel adds them. -/
def taps₄ (E : Mat M W) (w : Mat 8 W) (r c : ℕ) : EReal := tap E w 0 3 r c + tap E w 3 0 r c + tap E w 2 1 r c + tap E w 1 2 r c

/-- Three taps, added in the order the kernel adds them. -/
def taps₃ (E : Mat M W) (w : Mat 8 W) (r c : ℕ) : EReal := tap E w 0 2 r c + tap E w 2 0 r c + tap E w 1 1 r c

/-- Every entry's four taps. -/
def all₄ (E : Mat M W) (w : Mat 8 W) (i : (⟨2, ![N, W]⟩ : Shape).Idx) : EReal := taps₄ E w (i 0).val (i 1).val

/-- Every entry's three taps. -/
def all₃ (E : Mat M W) (w : Mat 8 W) (i : (⟨2, ![N, W]⟩ : Shape).Idx) : EReal := taps₃ E w (i 0).val (i 1).val

/-! ## One block of rows with the rows that follow it -/

/-- A block of 192 rows, then the 16 rows after it, or zeros after the last block. -/
def ext (last : Prop) [Decidable last] (x : Mat 192 W) (y : Mat 16 W) : Mat 208 W := fun i =>
  if (i 0).val < 192 then cell x (i 0).val (i 1).val else if last then 0 else cell y ((i 0).val - 192) (i 1).val

/-- An array whose block `t` is `x`, followed by the rows `y`: the extended block reads the array from row `192 t` on. -/
theorem cell_ext (X : Mat 8256 W) {t : ℕ} (ht : t < 43) {last : Prop} [Decidable last] (hl : last ↔ t = 42) {x : Mat 192 W} {y : Mat 16 W}
    (hx : ∀ (p : Fin 192) (c : Fin W), x (ix2 p c) = cell X (t * 192 + p.val) c.val)
    (hy : t < 42 → ∀ (p : Fin 16) (c : Fin W), y (ix2 p c) = cell X (t * 192 + (192 + p.val)) c.val)
    {q c : ℕ} (hq : q < 208) (hc : c < W) : cell (ext last x y) q c = cell X (t * 192 + q) c := by
  rw [← read_cell (ext last x y) (ix2 ⟨q, hq⟩ ⟨c, hc⟩) q c rfl rfl]
  unfold ext
  show (if q < 192 then cell x q c else if last then 0 else cell y (q - 192) c) = _
  by_cases h : q < 192
  · rw [if_pos h, ← hx ⟨q, h⟩ ⟨c, hc⟩]
    exact (read_cell x (ix2 ⟨q, h⟩ ⟨c, hc⟩) q c rfl rfl).symm
  · rw [if_neg h]
    by_cases h2 : last
    · rw [if_pos h2]
      have := hl.1 h2
      exact (cell_past X (by omega) c).symm
    · have ht' : t < 42 := by
        have : t ≠ 42 := fun e => h2 (hl.2 e)
        omega
      have e := hy ht' ⟨q - 192, by omega⟩ ⟨c, hc⟩
      rw [show t * 192 + (192 + (⟨q - 192, by omega⟩ : Fin 16).val) = t * 192 + q by dsimp only; omega] at e
      rw [if_neg h2, ← e]
      exact (read_cell y (ix2 ⟨q - 192, by omega⟩ ⟨c, hc⟩) (q - 192) c rfl rfl).symm

section

variable {X : Mat 8256 W} {t : ℕ} {E : Mat 208 W} (hE : ∀ q < 208, ∀ c < W, cell E q c = cell X (t * 192 + q) c) (w : Mat 8 W)
include hE

theorem tap_block {s p c : ℕ} (j : ℕ) (hp : p < 192) (hs : s ≤ 16) (hc : c < W) : tap E w s j p c = tap X w s j (t * 192 + p) c := by
  unfold tap
  rw [hE _ (by omega) _ hc, Nat.add_assoc]

theorem taps₄_block {p c : ℕ} (hp : p < 192) (hc : c < W) : taps₄ E w p c = taps₄ X w (t * 192 + p) c := by
  simp only [taps₄, tap_block hE w _ hp (show 0 ≤ 16 by decide) hc, tap_block hE w _ hp (show 1 ≤ 16 by decide) hc,
    tap_block hE w _ hp (show 2 ≤ 16 by decide) hc, tap_block hE w _ hp (show 3 ≤ 16 by decide) hc]

theorem taps₃_block {p c : ℕ} (hp : p < 192) (hc : c < W) : taps₃ E w p c = taps₃ X w (t * 192 + p) c := by
  simp only [taps₃, tap_block hE w _ hp (show 0 ≤ 16 by decide) hc, tap_block hE w _ hp (show 1 ≤ 16 by decide) hc,
    tap_block hE w _ hp (show 2 ≤ 16 by decide) hc]

end

/-! ## The pieces the body stores: 128 columns each -/

section

variable {k : ℕ} {hk : ∀ a, (![0, k] : Fin 2 → ℕ) a + (![192, 128] : Fin 2 → ℕ) a ≤ (⟨2, ![192, W]⟩ : Shape).size a}
  (x : (Rect.unit (s := ⟨2, ![192, W]⟩) ![0, k] ![192, 128] hk).shape.Idx)

theorem piece_row : ((Rect.unit (s := ⟨2, ![192, W]⟩) ![0, k] ![192, 128] hk).emb x 0).val = (x 0).val :=
  show 0 + 1 * (x 0).val = _ by rw [Nat.one_mul, Nat.zero_add]

theorem piece_col : ((Rect.unit (s := ⟨2, ![192, W]⟩) ![0, k] ![192, 128] hk).emb x 1).val = k + (x 1).val :=
  show k + 1 * (x 1).val = _ by rw [Nat.one_mul]

/-- Row `s` ahead of a piece's entry. -/
abbrev ahead (s : ℕ) (hs : s ≤ 16) : Fin 208 := ⟨s + (x 0).val, by have : (x 0).val < 192 := (x 0).isLt; omega⟩

/-- The row of a piece's entry. -/
abbrev here : Fin 208 := ⟨(x 0).val, by have : (x 0).val < 192 := (x 0).isLt; omega⟩

/-- The column of a piece's entry. -/
abbrev lane : Fin W := ⟨k + (x 1).val, by have : (x 1).val < 128 := (x 1).isLt; have : k + 128 ≤ W := hk 1; omega⟩

theorem tap_here (E : Mat 208 W) (w : Mat 8 W) (j : Fin 8) :
    E (ix2 (here x) (lane x)) * w (ix2 j (lane x)) = tap E w 0 j.val
      ((Rect.unit (s := ⟨2, ![192, W]⟩) ![0, k] ![192, 128] hk).emb x 0).val ((Rect.unit (s := ⟨2, ![192, W]⟩) ![0, k] ![192, 128] hk).emb x 1).val :=
  tap_mul E w (piece_row x).symm (piece_col x).symm rfl (piece_col x).symm

theorem tap_ahead (E : Mat 208 W) (w : Mat 8 W) (s : ℕ) (hs : s ≤ 16) (j : Fin 8) :
    E (ix2 (ahead x s hs) (lane x)) * w (ix2 j (lane x)) = tap E w s j.val
      ((Rect.unit (s := ⟨2, ![192, W]⟩) ![0, k] ![192, 128] hk).emb x 0).val ((Rect.unit (s := ⟨2, ![192, W]⟩) ![0, k] ![192, 128] hk).emb x 1).val :=
  tap_mul E w ((Nat.add_comm _ _).trans (congrArg (· + s) (piece_row x).symm)) (piece_col x).symm rfl (piece_col x).symm

/-- A stored piece is right when it adds its four taps. -/
theorem piece₄ {E : Mat 208 W} {w : Mat 8 W} {z : EReal}
    (h : z = E (ix2 (here x) (lane x)) * w (ix2 3 (lane x)) + E (ix2 (ahead x 3 (by decide)) (lane x)) * w (ix2 0 (lane x))
      + E (ix2 (ahead x 2 (by decide)) (lane x)) * w (ix2 1 (lane x)) + E (ix2 (ahead x 1 (by decide)) (lane x)) * w (ix2 2 (lane x))) :
    z = all₄ (N := 192) E w ((Rect.unit (s := ⟨2, ![192, W]⟩) ![0, k] ![192, 128] hk).emb x) := by
  rw [h, tap_here, tap_ahead, tap_ahead, tap_ahead]
  rfl

/-- A stored piece is right when it adds its four taps, in the first columns. -/
theorem first₄ {h0 : ∀ a, (![0, 0] : Fin 2 → ℕ) a + (![192, 128] : Fin 2 → ℕ) a ≤ (⟨2, ![192, W]⟩ : Shape).size a}
    (x : (Rect.unit (s := ⟨2, ![192, W]⟩) ![0, 0] ![192, 128] h0).shape.Idx) {l : Fin W} (hl : l.val = (x 1).val) {E : Mat 208 W} {w : Mat 8 W} {z : EReal}
    (h : z = E (ix2 (here x) l) * w (ix2 3 l) + E (ix2 (ahead x 3 (by decide)) l) * w (ix2 0 l)
      + E (ix2 (ahead x 2 (by decide)) l) * w (ix2 1 l) + E (ix2 (ahead x 1 (by decide)) l) * w (ix2 2 l)) :
    z = all₄ (N := 192) E w ((Rect.unit (s := ⟨2, ![192, W]⟩) ![0, 0] ![192, 128] h0).emb x) := by
  have e : l = lane (hk := h0) x := Fin.ext (hl.trans (Nat.zero_add _).symm)
  exact piece₄ (hk := h0) x (e ▸ h)

/-- A stored piece is right when it adds its three taps. -/
theorem piece₃ {E : Mat 208 W} {w : Mat 8 W} {z : EReal}
    (h : z = E (ix2 (here x) (lane x)) * w (ix2 2 (lane x)) + E (ix2 (ahead x 2 (by decide)) (lane x)) * w (ix2 0 (lane x))
      + E (ix2 (ahead x 1 (by decide)) (lane x)) * w (ix2 1 (lane x))) :
    z = all₃ (N := 192) E w ((Rect.unit (s := ⟨2, ![192, W]⟩) ![0, k] ![192, 128] hk).emb x) := by
  rw [h, tap_here, tap_ahead, tap_ahead]
  rfl

/-- A stored piece is right when it adds its three taps, in the first columns. -/
theorem first₃ {h0 : ∀ a, (![0, 0] : Fin 2 → ℕ) a + (![192, 128] : Fin 2 → ℕ) a ≤ (⟨2, ![192, W]⟩ : Shape).size a}
    (x : (Rect.unit (s := ⟨2, ![192, W]⟩) ![0, 0] ![192, 128] h0).shape.Idx) {l : Fin W} (hl : l.val = (x 1).val) {E : Mat 208 W} {w : Mat 8 W} {z : EReal}
    (h : z = E (ix2 (here x) l) * w (ix2 2 l) + E (ix2 (ahead x 2 (by decide)) l) * w (ix2 0 l)
      + E (ix2 (ahead x 1 (by decide)) l) * w (ix2 1 l)) :
    z = all₃ (N := 192) E w ((Rect.unit (s := ⟨2, ![192, W]⟩) ![0, 0] ![192, 128] h0).emb x) := by
  have e : l = lane (hk := h0) x := Fin.ext (hl.trans (Nat.zero_add _).symm)
  exact piece₃ (hk := h0) x (e ▸ h)

end

/-- A choice between a value and zero by comparing the block's number with the last one's. -/
theorem select_last {n : ℕ} (h : n < 43) (v : EReal) :
    Scalar.select (Scalar.cmpi .slt (BitVec.ofNat 32 n) 42#32) v 0 = if n = 42 then 0 else v := by
  have e : Scalar.cmpi .slt (BitVec.ofNat 32 n) 42#32 = BitVec.ofBool (decide (n < 42)) := WordCmp.cmpi_slt_ofNat (by omega) (by norm_num)
  rw [e]
  rcases Nat.lt_or_ge n 42 with h1 | h1
  · simp [h1, show n ≠ 42 by omega, Scalar.select]
  · simp [show n = 42 by omega, Scalar.select]

/-- The two pieces of the extended block, read back. -/
theorem filled {last : Prop} [Decidable last] (x : Mat 192 W) (y z : Mat 16 W) (hz : ∀ i, z i = if last then 0 else y i)
    (h16 : ∀ a, (![192, 0] : Fin 2 → ℕ) a + (![16, W] : Fin 2 → ℕ) a ≤ (⟨2, ![208, W]⟩ : Shape).size a)
    (h192 : ∀ a, (![0, 0] : Fin 2 → ℕ) a + (![192, W] : Fin 2 → ℕ) a ≤ (⟨2, ![208, W]⟩ : Shape).size a) :
    View.canon (Val := Elt Ideal) (e := .f32) [⟨Rect.unit (s := ⟨2, ![208, W]⟩) ![192, 0] ![16, W] h16, z⟩,
      ⟨Rect.unit (s := ⟨2, ![208, W]⟩) ![0, 0] ![192, W] h192, x⟩] = ext last x y := by
  funext i
  have h0 : (i 0).val < 208 := (i 0).isLt
  have h1 : (i 1).val < W := (i 1).isLt
  refine View.canon_apply_of_pieces (Val := Elt Ideal) (e := .f32) (ext last x y) _ (View.PiecesOf.mem ?_) i ?_
  refine And.intro (fun j => ?_) (And.intro (fun j => ?_) trivial)
  · have e : (Rect.unit (s := ⟨2, ![208, W]⟩) ![192, 0] ![16, W] h16).emb j = ix2 ⟨192 + (j 0).val, by have : (j 0).val < 16 := (j 0).isLt; omega⟩ (j 1 : Fin W) := by
      funext a
      match a with
      | ⟨0, _⟩ => exact Fin.ext (congrArg (192 + ·) (Nat.one_mul (j 0).val))
      | ⟨1, _⟩ => exact Fin.ext ((Nat.zero_add _).trans (Nat.one_mul (j 1).val))
    rw [e]
    refine (hz j).trans ?_
    unfold ext
    refine Eq.trans ?_ (if_neg (show ¬192 + (j 0).val < 192 by omega)).symm
    exact congrArg (ite last 0 ·) (read_cell y j (192 + (j 0).val - 192) (j 1).val (by omega) rfl)
  · have e : (Rect.unit (s := ⟨2, ![208, W]⟩) ![0, 0] ![192, W] h192).emb j = ix2 ⟨(j 0).val, by have : (j 0).val < 192 := (j 0).isLt; omega⟩ (j 1 : Fin W) := by
      funext a
      match a with
      | ⟨0, _⟩ => exact Fin.ext ((Nat.zero_add _).trans (Nat.one_mul (j 0).val))
      | ⟨1, _⟩ => exact Fin.ext ((Nat.zero_add _).trans (Nat.one_mul (j 1).val))
    rw [e]
    unfold ext
    exact (read_cell x j _ _ rfl rfl).trans (if_pos (show (j 0).val < 192 from (j 0).isLt)).symm
  · by_cases h : (i 0).val < 192
    · refine ⟨_, List.mem_cons_of_mem _ List.mem_cons_self, (Rect.mem_set_unit (inb := h192)).2 fun a => ?_⟩
      match a with
      | ⟨0, _⟩ => exact ⟨Nat.zero_le _, show (i 0).val < 0 + 192 by omega⟩
      | ⟨1, _⟩ => exact ⟨Nat.zero_le _, show (i 1).val < 0 + W by omega⟩
    · refine ⟨_, List.mem_cons_self, (Rect.mem_set_unit (inb := h16)).2 fun a => ?_⟩
      match a with
      | ⟨0, _⟩ => exact ⟨show 192 ≤ (i 0).val by omega, show (i 0).val < 192 + 16 by omega⟩
      | ⟨1, _⟩ => exact ⟨Nat.zero_le _, show (i 1).val < 0 + W by omega⟩

/-! ## The reference's padded products -/

/-- Rows padded with zeros, read `s` rows past row `r`: what is there, which is zero beyond the last row. -/
theorem pad_row {lo n T : ℕ} (s r : ℕ) (hn : lo + s = n) {hr : n + r < T} {l : Fin W} {v : EReal}
    {f : (∀ a : Fin 2, (![lo, 0] : Fin 2 → ℕ) a ≤ (ix2 (n0 := T) ⟨n + r, hr⟩ l a).val
      ∧ ((ix2 (n0 := T) ⟨n + r, hr⟩ l a).val - (![lo, 0] : Fin 2 → ℕ) a) % ((![0, 0] : Fin 2 → ℕ) a + 1) = 0
      ∧ ((ix2 (n0 := T) ⟨n + r, hr⟩ l a).val - (![lo, 0] : Fin 2 → ℕ) a) / ((![0, 0] : Fin 2 → ℕ) a + 1) < (⟨2, ![8256, W]⟩ : Shape).size a) → EReal}
    (hv : 8256 ≤ r + s → v = 0) (hf : r + s < 8256 → ∀ h, f h = v) :
    (if h : _ then f h else 0) = v := by
  by_cases h : r + s < 8256
  · rw [dif_pos, hf h]
    intro a
    match a with
    | ⟨0, _⟩ => exact ⟨show lo ≤ n + r by omega, Nat.mod_one _, show (n + r - lo) / 1 < 8256 by omega⟩
    | ⟨1, _⟩ => exact ⟨Nat.zero_le _, Nat.mod_one _, show (l.val - 0) / 1 < W by rw [Nat.div_one]; exact l.isLt⟩
  · rw [dif_neg, hv (by omega)]
    intro e
    have : (n + r - lo) / 1 < 8256 := (e 0).2.2
    omega

/-- A product padded with zeros, read `s` rows past its row `r`: the tap there. -/
theorem pad_tap (X : Mat 8256 W) (w : Mat 8 W) {lo n T : ℕ} (s j r : ℕ) (hn : lo + s = n) {hr : n + r < T} {l : Fin W}
    {f : (∀ a : Fin 2, (![lo, 0] : Fin 2 → ℕ) a ≤ (ix2 (n0 := T) ⟨n + r, hr⟩ l a).val
      ∧ ((ix2 (n0 := T) ⟨n + r, hr⟩ l a).val - (![lo, 0] : Fin 2 → ℕ) a) % ((![0, 0] : Fin 2 → ℕ) a + 1) = 0
      ∧ ((ix2 (n0 := T) ⟨n + r, hr⟩ l a).val - (![lo, 0] : Fin 2 → ℕ) a) / ((![0, 0] : Fin 2 → ℕ) a + 1) < (⟨2, ![8256, W]⟩ : Shape).size a) → EReal}
    (hf : ∀ h, f h = tap X w s j r l.val) :
    (if h : _ then f h else 0) = tap X w s j r l.val :=
  pad_row s r hn (fun h => tap_past X w h _) fun _ => hf

end Cert.Proof.Conv

end
-- ==== Proof.ConvFfn.lean ====
/-
  The transposed convolution behind the gated MLP: the call `_conv_t` with three taps.
-/
module

public import proofs.«01_k».proof.Defs
public import proofs.«01_k».proof.Proof.Conv
public import Idealize.ShloMosaic.Lib.Quiescent
public import proofs.«01_k».proof.Proof.Gen.ConvFfnKernelIdeal.Value
public import proofs.«01_k».proof.Proof.Gen.ConvFfnReferenceIdeal.Run
public import Idealize.ShloMosaic.Lib.Pipeline.ValueKit
public import Idealize.ShloMosaic.Lib.Pipeline.ReadBack

@[expose] public section

set_option maxRecDepth 16384

noncomputable section

namespace Cert.Proof.ConvFfn

open Idealize.ShloMosaic Idealize.ShloMosaic.TcCoe Idealize.SL.Sem Cert.Proof.Product Cert.Proof.Conv

section Kernel

open Cert.ConvFfnKernelIdeal Cert.ConvFfnKernelIdeal.Gen

theorem z2 : (![0, 0] : Fin 2 → ℕ) = fun _ => 0 := by decide

/-- The rows stored after the block: the block's neighbour, or zeros after the last block. -/
theorem halo_at (i : grid0.Coords) (y : Vec Ideal S16x5632 .bf16) (j : S16x5632.Idx) :
    k0_pay3 (F := Ideal) i y j = if (i 0).val = 42 then 0 else y j := by
  have hi : (i 0).val < 43 := (i 0).isLt
  rw [eq_ix2 (n0 := 16) (n1 := 5632) j]
  pointwise [k0_pay3]
  exact select_last hi _

/-- The extended block at a grid point. -/
def block (i : grid0.Coords) (x0 : Mat 192 5632) (x1 : Mat 16 5632) : Mat 208 5632 := ext ((i 0).val = 42) x0 x1

set_option maxHeartbeats 2000000 in
/-- What the body leaves in its output: the three taps of the extended block. -/
theorem left (c : Dev nD) (i : grid0.Coords) (arg1 : Memref sig .tc .vmem S192x5632 .bf16) (harg1 : arg1.IsWhole)
    (arg2 : Memref sig .tc .vmem S16x5632 .bf16) (harg2 : arg2.IsWhole) (arg3 : Memref sig .tc .vmem S8x5632 .f32) (harg3 : arg3.IsWhole)
    (arg4 : Memref sig .tc .vmem S192x5632 .bf16) (harg4 : arg4.IsWhole) (arg5 : Memref sig .tc .vmem S208x5632 .f32) (harg5 : arg5.IsWhole)
    (x0 : Vec Ideal S192x5632 .bf16) (x1 : Vec Ideal S16x5632 .bf16) (x2 : Vec Ideal S8x5632 .f32) (y : S192x5632.Idx) :
    out0_A_3 (F := Ideal) c i arg1 harg1 arg2 harg2 arg3 harg3 arg4 harg4 arg5 harg5 x0 x1 x2 y
      = all₃ (N := 192) (block i x0 x1) x2 y := by
  obtain ⟨E, hE⟩ : ∃ E, E = block i x0 x1 := ⟨_, rfl⟩
  rw [← hE]
  have hc := cover0_A_3 (F := Ideal) c i arg1 harg1 arg2 harg2 arg3 harg3 arg4 harg4 arg5 harg5 x0 x1 x2
  have hf := filled (last := (i 0).val = 42) x0 x1 (k0_pay3 (F := Ideal) i x1) (halo_at i x1) inb_S208x5632_S16x5632_192_0 inb_S208x5632_S192x5632_0_0
  have e : k0_pay2 (F := Ideal) x0 = x0 := by
    funext j
    rw [eq_ix2 (n0 := 192) (n1 := 5632) j]
    pointwise [k0_pay2]
  unfold out0_A_3
  rw [View.read_writes_eq_canon _ _ _ hc]
  refine View.canon_apply_of_pieces (Val := Elt Ideal) (e := .bf16) (all₃ (N := 192) E x2) _ (View.PiecesOf.mem (Val := Elt Ideal) (e := .bf16) (G := all₃ (N := 192) E x2) ?_) y (hc y)
  unfold kernelRun0_A
  dsimp only
  sl_unfold_words
  simp only [View.readAt_eq_ld, Memref.IsWhole.read_unread, View.readCov_eq_canon', View.ld_unit_zero (S := S192x5632) z2,
    View.ld_unit_zero (S := S16x5632) z2, e]
  rw [hf.trans hE.symm]
  repeat' refine And.intro (fun x => ?_) ?_
  rotate_right
  · exact trivial
  all_goals
    first
      | refine piece₃ (hk := by decide) x ?_
        rw [eq_ix2 (n0 := 192) (n1 := 128) x]
        pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62] <;> rfl
      | refine first₃ (h0 := by decide) x (l := ⟨(x 1).val, lt_of_lt_of_le (x 1).isLt (show 128 ≤ 5632 by decide)⟩) rfl ?_
        rw [eq_ix2 (n0 := 192) (n1 := 128) x]
        pointwise [k0_pay4, k0_pay5, k0_pay6] <;> rfl

variable (m : (ℓ : Loc nD τ sig) → Buf (Elt Ideal) ℓ) (c : Dev nD)

abbrev given : Mat 8256 5632 := m ((c : Thread nD τ).loc main_arg0)
abbrev weights : Mat 8 5632 := m ((c : Thread nD τ).loc main_arg1)

theorem place : ∀ t : Fin cfg0.N, win0_0.index t = ![t.val, 0] ∧ win0_1.index t = ![min ((t.val + 1) * 12) 515, 0] ∧ win0_2.index t = ![0, 0]
    ∧ win0_3.index t = ![t.val, 0] ∧ (grid0.coords t 0).val = t.val :=
  (by decide +kernel : ∀ t : Fin grid0.N, win0_0.index t = ![t.val, 0] ∧ win0_1.index t = ![min ((t.val + 1) * 12) 515, 0] ∧ win0_2.index t = ![0, 0]
    ∧ win0_3.index t = ![t.val, 0] ∧ (grid0.coords t 0).val = t.val)

variable (t : Fin cfg0.N)

theorem below : t.val < 43 := lt_of_lt_of_eq t.isLt N_0

theorem blk_rows (p : Fin 192) (l : Fin 5632) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_next (ht : t.val < 42) (p : Fin 16) (l : Fin 5632) : iblk m c 1 t (ix2 p l) = cell (given m c) (t.val * 192 + (192 + p.val)) l.val := by
  refine Eq.trans ?_ (read_cell (given m c) (ix2 ⟨t.val * 192 + (192 + p.val), by omega⟩ l) _ _ rfl rfl)
  have e : min ((t.val + 1) * 12) 515 = (t.val + 1) * 12 := by omega
  blk_ext! [iblk, V, place t, e]

theorem blk_w : iblk m c 2 t = weights m c := by
  funext y
  blk_ext! [iblk, V, place t]

/-- The result of the kernel, whole. -/
theorem whole : (dats m 0 c).arrAt 3 cfg0.N = all₃ (N := 8256) (given m c) (weights m c) := by
  refine (dats m 0 c).arrAt_eq_of_covers 3 _ (by decide +kernel) fun t hf y => ?_
  have ht := below t
  blk_simp
  rw [after0_3]
  have e : (win0_3.blk t).view.emb y = ix2 ⟨t.val * 192 + (y 0).val, by have : (y 0).val < 192 := (y 0).isLt; omega⟩ (y 1 : Fin 5632) := by
    blk_ext! [place t]
  rw [e]
  unfold outsAt0
  rw [left, blk_w]
  refine taps₃_block (X := given m c) (t := t.val) (fun q hq l hl => ?_) _ (y 0).isLt (y 1).isLt
  exact cell_ext (given m c) ht (by rw [(place t).2.2.2.2]) (blk_rows m c t) (fun h => blk_next m c t h) hq hl

end Kernel

/-- The reference's run: its arguments are kept, and it has no semaphore. -/
theorem frame_reference : Cert.quiescent_ConvFfnReferenceIdeal (hConvFfnReferenceIdeal := Cert.ConvFfnReferenceIdeal.Gen.facts) :=
  fun m ρ _ => (θ_run (Cert.ConvFfnReferenceIdeal.defs (F := Ideal)) _ _).mono
    (fun r h => ⟨fun c => (h c).2, sem_eq_zero_of_no_sems (by decide) r.2⟩) (Cert.ConvFfnReferenceIdeal.Value.run (F := Ideal) m ρ)

/-- The kernel's result is the reference's. -/
theorem algebraic : Cert.algebraic_ConvFfnKernelIdeal_ConvFfnReferenceIdeal := fun m ρ m' ρ' _ agree => by
  refine ⟨fun c => all₃ (N := 8256) (given m c) (weights m c), ?_, ?_⟩
  · exact (θ_run _ _ _).mono (fun r h c => ⟨(h c).1.trans (whole m c), (h c).2⟩) (Cert.ConvFfnKernelIdeal.Value.run_blocks (F := Ideal) m ρ)
  · refine (θ_run _ _ _).mono (fun r h c => ⟨(h c).1.trans (funext fun i => ?_), (h c).2⟩) (Cert.ConvFfnReferenceIdeal.Value.run (F := Ideal) m' ρ')
    rw [(agree c).1, (agree c).2]
    show _ = all₃ (N := 8256) (given m c) (weights m c) i
    rw [eq_ix2 (n0 := 8256) (n1 := 5632) i]
    pointwise []
    refine (congrArg₂ (· + ·) (congrArg₂ (· + ·) (pad_tap (given m c) (weights m c) 0 2 (i 0).val rfl fun h => ?_)
      (pad_tap (given m c) (weights m c) 1 1 (i 0).val rfl fun h => ?_)) (pad_tap (given m c) (weights m c) 2 0 (i 0).val rfl fun h => ?_)).trans ?_
    · exact tap_mul (given m c) (weights m c) rfl rfl rfl rfl
    · exact tap_mul (given m c) (weights m c) (show 2 + (i 0).val - 1 = (i 0).val + 1 by omega) rfl rfl rfl
    · exact tap_mul (given m c) (weights m c) (show 2 + (i 0).val = (i 0).val + 2 by omega) rfl rfl rfl
    · unfold all₃ taps₃
      ac_rfl

end Cert.Proof.ConvFfn

end
-- ==== Proof.ConvQkv.lean ====
/-
  The transposed convolution behind the attention's queries, keys and values: the call `_conv_t` with four taps.
-/
module

public import proofs.«01_k».proof.Defs
public import proofs.«01_k».proof.Proof.Conv
public import Idealize.ShloMosaic.Lib.Quiescent
public import proofs.«01_k».proof.Proof.Gen.ConvQkvKernelIdeal.Value
public import proofs.«01_k».proof.Proof.Gen.ConvQkvReferenceIdeal.Run
public import Idealize.ShloMosaic.Lib.Pipeline.ValueKit
public import Idealize.ShloMosaic.Lib.Pipeline.ReadBack

@[expose] public section

set_option maxRecDepth 16384

noncomputable section

namespace Cert.Proof.ConvQkv

open Idealize.ShloMosaic Idealize.ShloMosaic.TcCoe Idealize.SL.Sem Cert.Proof.Product Cert.Proof.Conv

section Kernel

open Cert.ConvQkvKernelIdeal Cert.ConvQkvKernelIdeal.Gen

theorem z2 : (![0, 0] : Fin 2 → ℕ) = fun _ => 0 := by decide

/-- The rows stored after the block: the block's neighbour, or zeros after the last block. -/
theorem halo_at (i : grid0.Coords) (y : Vec Ideal S16x3072 .bf16) (j : S16x3072.Idx) :
    k0_pay3 (F := Ideal) i y j = if (i 0).val = 42 then 0 else y j := by
  have hi : (i 0).val < 43 := (i 0).isLt
  rw [eq_ix2 (n0 := 16) (n1 := 3072) j]
  pointwise [k0_pay3]
  exact select_last hi _

/-- The extended block at a grid point. -/
def block (i : grid0.Coords) (x0 : Mat 192 3072) (x1 : Mat 16 3072) : Mat 208 3072 := ext ((i 0).val = 42) x0 x1

set_option maxHeartbeats 2000000 in
/-- What the body leaves in its output: the four taps of the extended block. -/
theorem left (c : Dev nD) (i : grid0.Coords) (arg1 : Memref sig .tc .vmem S192x3072 .bf16) (harg1 : arg1.IsWhole)
    (arg2 : Memref sig .tc .vmem S16x3072 .bf16) (harg2 : arg2.IsWhole) (arg3 : Memref sig .tc .vmem S8x3072 .f32) (harg3 : arg3.IsWhole)
    (arg4 : Memref sig .tc .vmem S192x3072 .bf16) (harg4 : arg4.IsWhole) (arg5 : Memref sig .tc .vmem S208x3072 .f32) (harg5 : arg5.IsWhole)
    (x0 : Vec Ideal S192x3072 .bf16) (x1 : Vec Ideal S16x3072 .bf16) (x2 : Vec Ideal S8x3072 .f32) (y : S192x3072.Idx) :
    out0_A_3 (F := Ideal) c i arg1 harg1 arg2 harg2 arg3 harg3 arg4 harg4 arg5 harg5 x0 x1 x2 y
      = all₄ (N := 192) (block i x0 x1) x2 y := by
  obtain ⟨E, hE⟩ : ∃ E, E = block i x0 x1 := ⟨_, rfl⟩
  rw [← hE]
  have hc := cover0_A_3 (F := Ideal) c i arg1 harg1 arg2 harg2 arg3 harg3 arg4 harg4 arg5 harg5 x0 x1 x2
  have hf := filled (last := (i 0).val = 42) x0 x1 (k0_pay3 (F := Ideal) i x1) (halo_at i x1) inb_S208x3072_S16x3072_192_0 inb_S208x3072_S192x3072_0_0
  have e : k0_pay2 (F := Ideal) x0 = x0 := by
    funext j
    rw [eq_ix2 (n0 := 192) (n1 := 3072) j]
    pointwise [k0_pay2]
  unfold out0_A_3
  rw [View.read_writes_eq_canon _ _ _ hc]
  refine View.canon_apply_of_pieces (Val := Elt Ideal) (e := .bf16) (all₄ (N := 192) E x2) _ (View.PiecesOf.mem (Val := Elt Ideal) (e := .bf16) (G := all₄ (N := 192) E x2) ?_) y (hc y)
  unfold kernelRun0_A
  dsimp only
  sl_unfold_words
  simp only [View.readAt_eq_ld, Memref.IsWhole.read_unread, View.readCov_eq_canon', View.ld_unit_zero (S := S192x3072) z2,
    View.ld_unit_zero (S := S16x3072) z2, e]
  rw [hf.trans hE.symm]
  repeat' refine And.intro (fun x => ?_) ?_
  rotate_right
  · exact trivial
  all_goals
    first
      | refine piece₄ (hk := by decide) x ?_
        rw [eq_ix2 (n0 := 192) (n1 := 128) x]
        pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50] <;> rfl
      | refine first₄ (h0 := by decide) x (l := ⟨(x 1).val, lt_of_lt_of_le (x 1).isLt (show 128 ≤ 3072 by decide)⟩) rfl ?_
        rw [eq_ix2 (n0 := 192) (n1 := 128) x]
        pointwise [k0_pay4, k0_pay5, k0_pay6] <;> rfl

variable (m : (ℓ : Loc nD τ sig) → Buf (Elt Ideal) ℓ) (c : Dev nD)

abbrev given : Mat 8256 3072 := m ((c : Thread nD τ).loc main_arg0)
abbrev weights : Mat 8 3072 := m ((c : Thread nD τ).loc main_arg1)

theorem place : ∀ t : Fin cfg0.N, win0_0.index t = ![t.val, 0] ∧ win0_1.index t = ![min ((t.val + 1) * 12) 515, 0] ∧ win0_2.index t = ![0, 0]
    ∧ win0_3.index t = ![t.val, 0] ∧ (grid0.coords t 0).val = t.val :=
  (by decide +kernel : ∀ t : Fin grid0.N, win0_0.index t = ![t.val, 0] ∧ win0_1.index t = ![min ((t.val + 1) * 12) 515, 0] ∧ win0_2.index t = ![0, 0]
    ∧ win0_3.index t = ![t.val, 0] ∧ (grid0.coords t 0).val = t.val)

variable (t : Fin cfg0.N)

theorem below : t.val < 43 := lt_of_lt_of_eq t.isLt N_0

theorem blk_rows (p : Fin 192) (l : Fin 3072) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_next (ht : t.val < 42) (p : Fin 16) (l : Fin 3072) : iblk m c 1 t (ix2 p l) = cell (given m c) (t.val * 192 + (192 + p.val)) l.val := by
  refine Eq.trans ?_ (read_cell (given m c) (ix2 ⟨t.val * 192 + (192 + p.val), by omega⟩ l) _ _ rfl rfl)
  have e : min ((t.val + 1) * 12) 515 = (t.val + 1) * 12 := by omega
  blk_ext! [iblk, V, place t, e]

theorem blk_w : iblk m c 2 t = weights m c := by
  funext y
  blk_ext! [iblk, V, place t]

/-- The result of the kernel, whole. -/
theorem whole : (dats m 0 c).arrAt 3 cfg0.N = all₄ (N := 8256) (given m c) (weights m c) := by
  refine (dats m 0 c).arrAt_eq_of_covers 3 _ (by decide +kernel) fun t hf y => ?_
  have ht := below t
  blk_simp
  rw [after0_3]
  have e : (win0_3.blk t).view.emb y = ix2 ⟨t.val * 192 + (y 0).val, by have : (y 0).val < 192 := (y 0).isLt; omega⟩ (y 1 : Fin 3072) := by
    blk_ext! [place t]
  rw [e]
  unfold outsAt0
  rw [left, blk_w]
  refine taps₄_block (X := given m c) (t := t.val) (fun q hq l hl => ?_) _ (y 0).isLt (y 1).isLt
  exact cell_ext (given m c) ht (by rw [(place t).2.2.2.2]) (blk_rows m c t) (fun h => blk_next m c t h) hq hl

end Kernel

/-- The reference's run: its arguments are kept, and it has no semaphore. -/
theorem frame_reference : Cert.quiescent_ConvQkvReferenceIdeal (hConvQkvReferenceIdeal := Cert.ConvQkvReferenceIdeal.Gen.facts) :=
  fun m ρ _ => (θ_run (Cert.ConvQkvReferenceIdeal.defs (F := Ideal)) _ _).mono
    (fun r h => ⟨fun c => (h c).2, sem_eq_zero_of_no_sems (by decide) r.2⟩) (Cert.ConvQkvReferenceIdeal.Value.run (F := Ideal) m ρ)

/-- The kernel's result is the reference's. -/
theorem algebraic : Cert.algebraic_ConvQkvKernelIdeal_ConvQkvReferenceIdeal := fun m ρ m' ρ' _ agree => by
  refine ⟨fun c => all₄ (N := 8256) (given m c) (weights m c), ?_, ?_⟩
  · exact (θ_run _ _ _).mono (fun r h c => ⟨(h c).1.trans (whole m c), (h c).2⟩) (Cert.ConvQkvKernelIdeal.Value.run_blocks (F := Ideal) m ρ)
  · refine (θ_run _ _ _).mono (fun r h c => ⟨(h c).1.trans (funext fun i => ?_), (h c).2⟩) (Cert.ConvQkvReferenceIdeal.Value.run (F := Ideal) m' ρ')
    rw [(agree c).1, (agree c).2]
    show _ = all₄ (N := 8256) (given m c) (weights m c) i
    rw [eq_ix2 (n0 := 8256) (n1 := 3072) i]
    pointwise []
    refine (congrArg₂ (· + ·) (congrArg₂ (· + ·) (congrArg₂ (· + ·) (pad_tap (given m c) (weights m c) 0 3 (i 0).val rfl fun h => ?_)
      (pad_tap (given m c) (weights m c) 1 2 (i 0).val rfl fun h => ?_)) (pad_tap (given m c) (weights m c) 2 1 (i 0).val rfl fun h => ?_)) (pad_tap (given m c) (weights m c) 3 0 (i 0).val rfl fun h => ?_)).trans ?_
    · exact tap_mul (given m c) (weights m c) rfl rfl rfl rfl
    · exact tap_mul (given m c) (weights m c) (show 3 + (i 0).val - 2 = (i 0).val + 1 by omega) rfl rfl rfl
    · exact tap_mul (given m c) (weights m c) (show 3 + (i 0).val - 1 = (i 0).val + 2 by omega) rfl rfl rfl
    · exact tap_mul (given m c) (weights m c) (show 3 + (i 0).val = (i 0).val + 3 by omega) rfl rfl rfl
    · unfold all₄ taps₄
      ac_rfl

end Cert.Proof.ConvQkv

end
-- ==== Proof.Adam.lean ====
/-
  One AdamW step, entry by entry: the gradient is the sum of eight slabs, and the two moments and the step are functions of that
  sum and of the old weights and moments. Each of the four calls of the optimiser runs this on its own array.
-/
module

public import proofs.«01_k».proof.Proof.Product

@[expose] public section

noncomputable section

namespace Cert.Proof.Adam

open Idealize.ShloMosaic Cert.Proof.Product
open scoped BigOperators

/-- Eight slabs of a gradient. -/
abbrev Slabs (M N : ℕ) := (⟨3, ![8, M, N]⟩ : Shape).Idx → EReal

/-- The first moment after a gradient `g`. -/
def first (g u : EReal) : EReal := Ideal.ofBits .f32 0x3F666666#32 * u + Ideal.ofBits .f32 0x3DCCCCCD#32 * g

/-- The second moment after a gradient `g`. -/
def second (g u : EReal) : EReal := Ideal.ofBits .f32 0x3F7FBE77#32 * u + Ideal.ofBits .f32 0x3A83126F#32 * (g * g)

/-- How far the biased moments of the first steps fall short. -/
def short₁ : ℝ := 5463681 / 8388608
def short₂ : ℝ := 2672307 / 268435456

/-- The step of a weight `w` whose gradient is `g` and whose moments were `u` and `v`. -/
def move (g w u v : EReal) : EReal :=
  Ideal.ofBits .f32 0xBA83126F#32 * (Ideal.div (first g u * (short₁⁻¹ : ℝ))
    (Ideal.sqrt (second g v * (short₂⁻¹ : ℝ)) + Ideal.ofBits .f32 0x322BCC77#32) + Ideal.ofBits .f32 0x3C23D70A#32 * w)

theorem short₁_bits : Ideal.ofBits .f32 0x3F26BD02#32 = (short₁ : EReal) := by
  simp [Ideal.ofBits, Ideal.ieee, -EReal.coe_mul, short₁]
  norm_num

theorem short₂_bits : Ideal.ofBits .f32 0x3C231ACC#32 = (short₂ : EReal) := by
  simp [Ideal.ofBits, Ideal.ieee, -EReal.coe_mul, short₂]
  norm_num

theorem div_short₁ (x : EReal) : Ideal.div x (short₁ : EReal) = x * (short₁⁻¹ : ℝ) := by
  rw [Ideal.div_coe (by norm_num [short₁]), one_div]

theorem div_short₂ (x : EReal) : Ideal.div x (short₂ : EReal) = x * (short₂⁻¹ : ℝ) := by
  rw [Ideal.div_coe (by norm_num [short₂]), one_div]

/-- The step with the moments divided by what they fall short by. -/
theorem move_eq (g w u v : EReal) : move g w u v = Ideal.ofBits .f32 0xBA83126F#32
    * (Ideal.div (Ideal.div (first g u) (Ideal.ofBits .f32 0x3F26BD02#32))
      (Ideal.sqrt (Ideal.div (second g v) (Ideal.ofBits .f32 0x3C231ACC#32)) + Ideal.ofBits .f32 0x322BCC77#32)
      + Ideal.ofBits .f32 0x3C23D70A#32 * w) := by
  rw [short₁_bits, short₂_bits, div_short₁, div_short₂, move]

variable {M N : ℕ}

/-- The gradient: the sum of the eight slabs, from row `o` of each. -/
def grad {L : ℕ} (o : ℕ) (h : o + M ≤ L) (s : Slabs L N) : Mat M N := fun i => ∑ d : Fin 8, s (ix3 d ⟨o + (i 0).val, by
  have : (i 0).val < M := (i 0).isLt
  omega⟩ (i 1))

/-- The two moments and the step, entry by entry. -/
def firsts (g u : Mat M N) : Mat M N := fun i => first (g i) (u i)
def seconds (g v : Mat M N) : Mat M N := fun i => second (g i) (v i)
def moves (g w u v : Mat M N) : Mat M N := fun i => move (g i) (w i) (u i) (v i)

end Cert.Proof.Adam

end
-- ==== Proof.AdamIn.lean ====
/-
  The optimiser's step of the input projection's weights.
-/
module

public import proofs.«01_k».proof.Defs
public import proofs.«01_k».proof.Proof.Adam
public import proofs.«01_k».proof.Proof.Gen.AdamInKernelIdeal.Value
public import proofs.«01_k».proof.Proof.Gen.AdamInReferenceIdeal.Run
public import Idealize.ShloMosaic.Lib.Pipeline.ValueKit
public import Idealize.ShloMosaic.Lib.Quiescent

@[expose] public section

set_option maxRecDepth 16384

noncomputable section

namespace Cert.Proof.AdamIn

open Idealize.ShloMosaic Idealize.ShloMosaic.TcCoe Idealize.SL.Sem Cert.Proof.Adam Cert.Proof.Product

section Kernel

open Cert.AdamInKernelIdeal Cert.AdamInKernelIdeal.Gen
open Idealize.ShloMosaic.Pipeline (Dat)

theorem z2 : (![0, 0] : Fin 2 → ℕ) = fun _ => 0 := by decide

theorem named₁ : Named.named (F := Ideal) κ "c1" (φ := .f32) 0x3FC48605#32 = ((short₁⁻¹ : ℝ) : EReal) :=
  IdealRules.named_const.ideal_named_scalar _ _ _ _ rfl

theorem named₂ : Named.named (F := Ideal) κ "c2" (φ := .f32) 0x42C8E6D3#32 = ((short₂⁻¹ : ℝ) : EReal) :=
  IdealRules.named_const.ideal_named_scalar _ _ _ _ rfl

/-- The constants named are the inverses of what the moments fall short by. -/
theorem preserves : Cert.preserves_AdamInKernel_AdamInKernelIdeal :=
  ⟨IdealRules.named_const.statement κ "c1" .f32 0x3FC48605#32 _ rfl, IdealRules.named_const.statement κ "c2" .f32 0x42C8E6D3#32 _ rfl⟩

/-- The eight slabs of a block, summed. -/
theorem grad_at (x0 : Vec Ideal S8x256x834 .bf16) (x1 x2 x3 : Vec Ideal S256x834 .f32) (p : Fin 256) (l : Fin 834) :
    k0_pay5 (F := Ideal) x0 x1 x2 x3 (ix2 p l) = ∑ d : Fin 8, (x0 (ix3 d p l) : EReal) := by
  rw [Fin.sum_univ_eight]
  pointwise [k0_pay5, k0_pay4]

/-- The step, at an entry. -/
theorem move_at (g : FVec Ideal S256x834 .f32) (u v w : Vec Ideal S256x834 .f32) (y : S256x834.Idx) :
    k0_pay3 (F := Ideal) g u (Scalar.ofBits .f32 0x3F666666#32) v w y = move (g y) (w y) (u y) (v y) := by
  unfold move
  rw [← named₁, ← named₂]
  rfl

variable (m : (ℓ : Loc nD τ sig) → Buf (Elt Ideal) ℓ) (c : Dev nD)

abbrev slabs : Slabs 1024 834 := m ((c : Thread nD τ).loc main_arg0)
abbrev weights : Mat 1024 834 := m ((c : Thread nD τ).loc main_arg1)
abbrev moment₁ : Mat 1024 834 := m ((c : Thread nD τ).loc main_arg2)
abbrev moment₂ : Mat 1024 834 := m ((c : Thread nD τ).loc main_arg3)
abbrev total : Mat 1024 834 := grad 0 (by norm_num) (slabs m c)

theorem place : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0])

/-- Entry `y` of block `t`. -/
def spot (t : Fin cfg0.N) (y : S256x834.Idx) : S1024x834.Idx := ix2 ⟨t.val * 256 + (y 0).val, by
  have h : t.val < 4 := lt_of_lt_of_eq t.isLt N_0
  have : (y 0).val < 256 := (y 0).isLt
  omega⟩ (y 1 : Fin 834)

variable (t : Fin cfg0.N) (y : S256x834.Idx)

theorem blk_w : iblk m c 1 t y = weights m c (spot t y) := by blk_ext! [iblk, V, place t, spot]
theorem blk_u : iblk m c 2 t y = moment₁ m c (spot t y) := by blk_ext! [iblk, V, place t, spot]
theorem blk_v : iblk m c 3 t y = moment₂ m c (spot t y) := by blk_ext! [iblk, V, place t, spot]

/-- One block of the gradient. -/
theorem blk_grad : k0_pay5 (F := Ideal) (iblk m c 0 t) (iblk m c 1 t) (iblk m c 2 t) (iblk m c 3 t) y = total m c (spot t y) := by
  have e : ∀ d : Fin 8, iblk m c 0 t (ix3 d (y 0 : Fin 256) (y 1 : Fin 834)) = slabs m c (ix3 d ⟨0 + (spot t y 0).val, by
      have : (spot t y 0).val < 1024 := (spot t y 0).isLt
      omega⟩ (spot t y 1)) := fun d => by
    blk_ext! [iblk, V, place t, spot]
  exact (congrArg _ (eq_ix2 (n0 := 256) (n1 := 834) y)).trans ((grad_at _ _ _ _ _ _).trans (Finset.sum_congr rfl fun d _ => e d))

theorem whole_grad : (dats m 0 c).arrAt 4 cfg0.N = total m c := by
  refine (dats m 0 c).arrAt_eq_of_covers 4 _ (by decide +kernel) fun t hf y => ?_
  blk_simp
  rw [after0_4]
  have e : (win0_4.blk t).view.emb y = spot t y := by blk_ext! [place t, spot]
  rw [e]
  unfold out0_4
  rw [View.canon_unit_zero (S := S256x834) z2]
  exact blk_grad m c t y

theorem whole_first : (dats m 0 c).arrAt 6 cfg0.N = firsts (total m c) (moment₁ m c) := by
  refine (dats m 0 c).arrAt_eq_of_covers 6 _ (by decide +kernel) fun t hf y => ?_
  blk_simp
  rw [after0_6]
  have e : (win0_6.blk t).view.emb y = spot t y := by blk_ext! [place t, spot]
  rw [e]
  unfold out0_6
  rw [View.canon_unit_zero (S := S256x834) z2, View.ld_unit_zero (S := S256x834) z2]
  exact congrArg₂ first (blk_grad m c t y) (blk_u m c t y)

theorem whole_second : (dats m 0 c).arrAt 7 cfg0.N = seconds (total m c) (moment₂ m c) := by
  refine (dats m 0 c).arrAt_eq_of_covers 7 _ (by decide +kernel) fun t hf y => ?_
  blk_simp
  rw [after0_7]
  have e : (win0_7.blk t).view.emb y = spot t y := by blk_ext! [place t, spot]
  rw [e]
  unfold out0_7
  rw [View.canon_unit_zero (S := S256x834) z2, View.ld_unit_zero (S := S256x834) z2]
  exact congrArg₂ second (blk_grad m c t y) (blk_v m c t y)

theorem whole_move : (dats m 0 c).arrAt 5 cfg0.N = moves (total m c) (weights m c) (moment₁ m c) (moment₂ m c) := by
  refine (dats m 0 c).arrAt_eq_of_covers 5 _ (by decide +kernel) fun t hf y => ?_
  blk_simp
  rw [after0_5]
  have e : (win0_5.blk t).view.emb y = spot t y := by blk_ext! [place t, spot]
  rw [e]
  unfold out0_5
  rw [View.canon_unit_zero (S := S256x834) z2, View.ld_unit_zero (S := S256x834) z2, View.ld_unit_zero (S := S256x834) z2,
    View.ld_unit_zero (S := S256x834) z2]
  rw [move_at, blk_grad, blk_w, blk_u, blk_v]
  rfl

end Kernel

section Reference

open Cert.AdamInReferenceIdeal Cert.AdamInReferenceIdeal.Gen

theorem reference_grad (s : Vec Ideal S8x1024x834 .bf16) :
    Host.reduceAdd (F := Ideal) (extf .f32 s bitsLt_bf16_f32) (constant S_ .f32 0x00000000#32) reducesTo_S8x1024x834_S1024x834_d0 h_S_
      = grad 0 (by norm_num) s := by
  funext i
  rw [eq_ix2 (n0 := 1024) (n1 := 834) i]
  pointwise []
  refine Finset.sum_congr rfl fun d _ => congrArg s ?_
  unfold ix3
  simp

end Reference

/-- The reference's run: its arguments are kept, and it has no semaphore. -/
theorem frame_reference : Cert.quiescent_AdamInReferenceIdeal (hAdamInReferenceIdeal := Cert.AdamInReferenceIdeal.Gen.facts) :=
  fun m ρ _ => (θ_run (Cert.AdamInReferenceIdeal.defs (F := Ideal)) _ _).mono
    (fun r h => ⟨fun c => (h c).2.2.2.2, sem_eq_zero_of_no_sems (by decide) r.2⟩) (Cert.AdamInReferenceIdeal.Value.run (F := Ideal) m ρ)

/-- The kernel's gradient, step and moments are the reference's. -/
theorem algebraic : Cert.algebraic_AdamInKernelIdeal_AdamInReferenceIdeal := fun m ρ m' ρ' _ agree =>
  ⟨fun c => total m c, fun c => moves (total m c) (weights m c) (moment₁ m c) (moment₂ m c), fun c => firsts (total m c) (moment₁ m c),
    fun c => seconds (total m c) (moment₂ m c),
    (θ_run _ _ _).mono (fun r h c => ⟨(h c).1.trans (whole_grad m c), (h c).2.1.trans (whole_move m c),
      (h c).2.2.1.trans (whole_first m c), (h c).2.2.2.1.trans (whole_second m c), (h c).2.2.2.2⟩)
      (Cert.AdamInKernelIdeal.Value.run_blocks (F := Ideal) m ρ),
    (θ_run _ _ _).mono (fun r h c => by
      obtain ⟨h1, h2, h3, h4, h5⟩ := h c
      obtain ⟨a0, a1, a2, a3⟩ := agree c
      rw [a0, reference_grad] at h1 h2 h3 h4
      rw [a1, a2, a3] at h2
      rw [a2] at h3
      rw [a3] at h4
      exact ⟨h1, h2.trans (funext fun i =>
        (move_eq (total m c i) (weights m c i) (moment₁ m c i) (moment₂ m c i)).symm), h3, h4, h5⟩)
      (Cert.AdamInReferenceIdeal.Value.run (F := Ideal) m' ρ')⟩

end Cert.Proof.AdamIn

end
-- ==== Proof.AdamUp.lean ====
/-
  The optimiser's step of the up projection's weights.
-/
module

public import proofs.«01_k».proof.Defs
public import proofs.«01_k».proof.Proof.Adam
public import proofs.«01_k».proof.Proof.Gen.AdamUpKernelIdeal.Value
public import proofs.«01_k».proof.Proof.Gen.AdamUpReferenceIdeal.Run
public import Idealize.ShloMosaic.Lib.Pipeline.ValueKit
public import Idealize.ShloMosaic.Lib.Quiescent

@[expose] public section

set_option maxRecDepth 16384

noncomputable section

namespace Cert.Proof.AdamUp

open Idealize.ShloMosaic Idealize.ShloMosaic.TcCoe Idealize.SL.Sem Cert.Proof.Adam Cert.Proof.Product

section Kernel

open Cert.AdamUpKernelIdeal Cert.AdamUpKernelIdeal.Gen
open Idealize.ShloMosaic.Pipeline (Dat)

theorem z2 : (![0, 0] : Fin 2 → ℕ) = fun _ => 0 := by decide

theorem named₁ : Named.named (F := Ideal) κ "c1" (φ := .f32) 0x3FC48605#32 = ((short₁⁻¹ : ℝ) : EReal) :=
  IdealRules.named_const.ideal_named_scalar _ _ _ _ rfl

theorem named₂ : Named.named (F := Ideal) κ "c2" (φ := .f32) 0x42C8E6D3#32 = ((short₂⁻¹ : ℝ) : EReal) :=
  IdealRules.named_const.ideal_named_scalar _ _ _ _ rfl

/-- The constants named are the inverses of what the moments fall short by. -/
theorem preserves : Cert.preserves_AdamUpKernel_AdamUpKernelIdeal :=
  ⟨IdealRules.named_const.statement κ "c1" .f32 0x3FC48605#32 _ rfl, IdealRules.named_const.statement κ "c2" .f32 0x42C8E6D3#32 _ rfl⟩

/-- The eight slabs of a block, summed. -/
theorem grad_at (x0 : Vec Ideal S8x256x704 .bf16) (x1 x2 x3 : Vec Ideal S256x704 .f32) (p : Fin 256) (l : Fin 704) :
    k0_pay5 (F := Ideal) x0 x1 x2 x3 (ix2 p l) = ∑ d : Fin 8, (x0 (ix3 d p l) : EReal) := by
  rw [Fin.sum_univ_eight]
  pointwise [k0_pay5, k0_pay4]

/-- The step, at an entry. -/
theorem move_at (g : FVec Ideal S256x704 .f32) (u v w : Vec Ideal S256x704 .f32) (y : S256x704.Idx) :
    k0_pay3 (F := Ideal) g u (Scalar.ofBits .f32 0x3F666666#32) v w y = move (g y) (w y) (u y) (v y) := by
  unfold move
  rw [← named₁, ← named₂]
  rfl

variable (m : (ℓ : Loc nD τ sig) → Buf (Elt Ideal) ℓ) (c : Dev nD)

abbrev slabs : Slabs 1024 704 := m ((c : Thread nD τ).loc main_arg0)
abbrev weights : Mat 1024 704 := m ((c : Thread nD τ).loc main_arg1)
abbrev moment₁ : Mat 1024 704 := m ((c : Thread nD τ).loc main_arg2)
abbrev moment₂ : Mat 1024 704 := m ((c : Thread nD τ).loc main_arg3)
abbrev total : Mat 1024 704 := grad 0 (by norm_num) (slabs m c)

theorem place : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0])

/-- Entry `y` of block `t`. -/
def spot (t : Fin cfg0.N) (y : S256x704.Idx) : S1024x704.Idx := ix2 ⟨t.val * 256 + (y 0).val, by
  have h : t.val < 4 := lt_of_lt_of_eq t.isLt N_0
  have : (y 0).val < 256 := (y 0).isLt
  omega⟩ (y 1 : Fin 704)

variable (t : Fin cfg0.N) (y : S256x704.Idx)

theorem blk_w : iblk m c 1 t y = weights m c (spot t y) := by blk_ext! [iblk, V, place t, spot]
theorem blk_u : iblk m c 2 t y = moment₁ m c (spot t y) := by blk_ext! [iblk, V, place t, spot]
theorem blk_v : iblk m c 3 t y = moment₂ m c (spot t y) := by blk_ext! [iblk, V, place t, spot]

/-- One block of the gradient. -/
theorem blk_grad : k0_pay5 (F := Ideal) (iblk m c 0 t) (iblk m c 1 t) (iblk m c 2 t) (iblk m c 3 t) y = total m c (spot t y) := by
  have e : ∀ d : Fin 8, iblk m c 0 t (ix3 d (y 0 : Fin 256) (y 1 : Fin 704)) = slabs m c (ix3 d ⟨0 + (spot t y 0).val, by
      have : (spot t y 0).val < 1024 := (spot t y 0).isLt
      omega⟩ (spot t y 1)) := fun d => by
    blk_ext! [iblk, V, place t, spot]
  exact (congrArg _ (eq_ix2 (n0 := 256) (n1 := 704) y)).trans ((grad_at _ _ _ _ _ _).trans (Finset.sum_congr rfl fun d _ => e d))

theorem whole_grad : (dats m 0 c).arrAt 4 cfg0.N = total m c := by
  refine (dats m 0 c).arrAt_eq_of_covers 4 _ (by decide +kernel) fun t hf y => ?_
  blk_simp
  rw [after0_4]
  have e : (win0_4.blk t).view.emb y = spot t y := by blk_ext! [place t, spot]
  rw [e]
  unfold out0_4
  rw [View.canon_unit_zero (S := S256x704) z2]
  exact blk_grad m c t y

theorem whole_first : (dats m 0 c).arrAt 6 cfg0.N = firsts (total m c) (moment₁ m c) := by
  refine (dats m 0 c).arrAt_eq_of_covers 6 _ (by decide +kernel) fun t hf y => ?_
  blk_simp
  rw [after0_6]
  have e : (win0_6.blk t).view.emb y = spot t y := by blk_ext! [place t, spot]
  rw [e]
  unfold out0_6
  rw [View.canon_unit_zero (S := S256x704) z2, View.ld_unit_zero (S := S256x704) z2]
  exact congrArg₂ first (blk_grad m c t y) (blk_u m c t y)

theorem whole_second : (dats m 0 c).arrAt 7 cfg0.N = seconds (total m c) (moment₂ m c) := by
  refine (dats m 0 c).arrAt_eq_of_covers 7 _ (by decide +kernel) fun t hf y => ?_
  blk_simp
  rw [after0_7]
  have e : (win0_7.blk t).view.emb y = spot t y := by blk_ext! [place t, spot]
  rw [e]
  unfold out0_7
  rw [View.canon_unit_zero (S := S256x704) z2, View.ld_unit_zero (S := S256x704) z2]
  exact congrArg₂ second (blk_grad m c t y) (blk_v m c t y)

theorem whole_move : (dats m 0 c).arrAt 5 cfg0.N = moves (total m c) (weights m c) (moment₁ m c) (moment₂ m c) := by
  refine (dats m 0 c).arrAt_eq_of_covers 5 _ (by decide +kernel) fun t hf y => ?_
  blk_simp
  rw [after0_5]
  have e : (win0_5.blk t).view.emb y = spot t y := by blk_ext! [place t, spot]
  rw [e]
  unfold out0_5
  rw [View.canon_unit_zero (S := S256x704) z2, View.ld_unit_zero (S := S256x704) z2, View.ld_unit_zero (S := S256x704) z2,
    View.ld_unit_zero (S := S256x704) z2]
  rw [move_at, blk_grad, blk_w, blk_u, blk_v]
  rfl

end Kernel

section Reference

open Cert.AdamUpReferenceIdeal Cert.AdamUpReferenceIdeal.Gen

theorem reference_grad (s : Vec Ideal S8x1024x704 .bf16) :
    Host.reduceAdd (F := Ideal) (extf .f32 s bitsLt_bf16_f32) (constant S_ .f32 0x00000000#32) reducesTo_S8x1024x704_S1024x704_d0 h_S_
      = grad 0 (by norm_num) s := by
  funext i
  rw [eq_ix2 (n0 := 1024) (n1 := 704) i]
  pointwise []
  refine Finset.sum_congr rfl fun d _ => congrArg s ?_
  unfold ix3
  simp

end Reference

/-- The reference's run: its arguments are kept, and it has no semaphore. -/
theorem frame_reference : Cert.quiescent_AdamUpReferenceIdeal (hAdamUpReferenceIdeal := Cert.AdamUpReferenceIdeal.Gen.facts) :=
  fun m ρ _ => (θ_run (Cert.AdamUpReferenceIdeal.defs (F := Ideal)) _ _).mono
    (fun r h => ⟨fun c => (h c).2.2.2.2, sem_eq_zero_of_no_sems (by decide) r.2⟩) (Cert.AdamUpReferenceIdeal.Value.run (F := Ideal) m ρ)

/-- The kernel's gradient, step and moments are the reference's. -/
theorem algebraic : Cert.algebraic_AdamUpKernelIdeal_AdamUpReferenceIdeal := fun m ρ m' ρ' _ agree =>
  ⟨fun c => total m c, fun c => moves (total m c) (weights m c) (moment₁ m c) (moment₂ m c), fun c => firsts (total m c) (moment₁ m c),
    fun c => seconds (total m c) (moment₂ m c),
    (θ_run _ _ _).mono (fun r h c => ⟨(h c).1.trans (whole_grad m c), (h c).2.1.trans (whole_move m c),
      (h c).2.2.1.trans (whole_first m c), (h c).2.2.2.1.trans (whole_second m c), (h c).2.2.2.2⟩)
      (Cert.AdamUpKernelIdeal.Value.run_blocks (F := Ideal) m ρ),
    (θ_run _ _ _).mono (fun r h c => by
      obtain ⟨h1, h2, h3, h4, h5⟩ := h c
      obtain ⟨a0, a1, a2, a3⟩ := agree c
      rw [a0, reference_grad] at h1 h2 h3 h4
      rw [a1, a2, a3] at h2
      rw [a2] at h3
      rw [a3] at h4
      exact ⟨h1, h2.trans (funext fun i =>
        (move_eq (total m c i) (weights m c i) (moment₁ m c i) (moment₂ m c i)).symm), h3, h4, h5⟩)
      (Cert.AdamUpReferenceIdeal.Value.run (F := Ideal) m' ρ')⟩

end Cert.Proof.AdamUp

end
-- ==== Proof.AdamOut.lean ====
/-
  The optimiser's step of the output projection's weights, whose gradient lies in the first 128 rows of each slab.
-/
module

public import proofs.«01_k».proof.Defs
public import proofs.«01_k».proof.Proof.Adam
public import proofs.«01_k».proof.Proof.Gen.AdamOutKernelIdeal.Value
public import proofs.«01_k».proof.Proof.Gen.AdamOutReferenceIdeal.Run
public import Idealize.ShloMosaic.Lib.Pipeline.ValueKit
public import Idealize.ShloMosaic.Lib.Quiescent

@[expose] public section

set_option maxRecDepth 16384

noncomputable section

namespace Cert.Proof.AdamOut

open Idealize.ShloMosaic Idealize.ShloMosaic.TcCoe Idealize.SL.Sem Cert.Proof.Adam Cert.Proof.Product

section Kernel

open Cert.AdamOutKernelIdeal Cert.AdamOutKernelIdeal.Gen
open Idealize.ShloMosaic.Pipeline (Dat)

theorem z2 : (![0, 0] : Fin 2 → ℕ) = fun _ => 0 := by decide

theorem named₁ : Named.named (F := Ideal) κ "c1" (φ := .f32) 0x3FC48605#32 = ((short₁⁻¹ : ℝ) : EReal) :=
  IdealRules.named_const.ideal_named_scalar _ _ _ _ rfl

theorem named₂ : Named.named (F := Ideal) κ "c2" (φ := .f32) 0x42C8E6D3#32 = ((short₂⁻¹ : ℝ) : EReal) :=
  IdealRules.named_const.ideal_named_scalar _ _ _ _ rfl

/-- The constants named are the inverses of what the moments fall short by. -/
theorem preserves : Cert.preserves_AdamOutKernel_AdamOutKernelIdeal :=
  ⟨IdealRules.named_const.statement κ "c1" .f32 0x3FC48605#32 _ rfl, IdealRules.named_const.statement κ "c2" .f32 0x42C8E6D3#32 _ rfl⟩

/-- The eight slabs of a block, summed. -/
def added (x : Vec Ideal S8x128x1024 .bf16) : FVec Ideal S128x1024 .f32 :=
  k0_pay4 (View.ld x (Rect.unit ![0, 0, 0] ![1, 128, 1024] inb_S8x128x1024_S1x128x1024_0_0_0))
    (View.ld x (Rect.unit ![1, 0, 0] ![1, 128, 1024] inb_S8x128x1024_S1x128x1024_1_0_0))
    (View.ld x (Rect.unit ![2, 0, 0] ![1, 128, 1024] inb_S8x128x1024_S1x128x1024_2_0_0))
    (View.ld x (Rect.unit ![3, 0, 0] ![1, 128, 1024] inb_S8x128x1024_S1x128x1024_3_0_0))
    (View.ld x (Rect.unit ![4, 0, 0] ![1, 128, 1024] inb_S8x128x1024_S1x128x1024_4_0_0))
    (View.ld x (Rect.unit ![5, 0, 0] ![1, 128, 1024] inb_S8x128x1024_S1x128x1024_5_0_0))
    (View.ld x (Rect.unit ![6, 0, 0] ![1, 128, 1024] inb_S8x128x1024_S1x128x1024_6_0_0))
    (View.ld x (Rect.unit ![7, 0, 0] ![1, 128, 1024] inb_S8x128x1024_S1x128x1024_7_0_0))

theorem added_at (x : Vec Ideal S8x128x1024 .bf16) (p : Fin 128) (l : Fin 1024) : added x (ix2 p l) = ∑ d : Fin 8, (x (ix3 d p l) : EReal) := by
  rw [Fin.sum_univ_eight]
  pointwise [added, k0_pay4]

/-- The step, at an entry. -/
theorem move_at (g : FVec Ideal S128x1024 .f32) (u v w : Vec Ideal S128x1024 .f32) (y : S128x1024.Idx) :
    k0_pay3 (F := Ideal) g u (Scalar.ofBits .f32 0x3F666666#32) v w y = move (g y) (w y) (u y) (v y) := by
  unfold move
  rw [← named₁, ← named₂]
  rfl

/-! ## What the body leaves in its four outputs -/

section

variable (c : Dev nD) (i : grid0.Coords) (arg1 : Memref sig .tc .vmem S8x128x1024 .bf16) (harg1 : arg1.IsWhole)
  (arg2 : Memref sig .tc .vmem S128x1024 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S128x1024 .f32) (harg5 : arg5.IsWhole)
  (arg6 : Memref sig .tc .vmem S128x1024 .f32) (harg6 : arg6.IsWhole) (arg7 : Memref sig .tc .vmem S128x1024 .f32) (harg7 : arg7.IsWhole)
  (arg8 : Memref sig .tc .vmem S128x1024 .f32) (harg8 : arg8.IsWhole)
  (x0 : Vec Ideal S8x128x1024 .bf16) (x1 x2 x3 : Vec Ideal S128x1024 .f32)

theorem left_grad :
    out0_A_4 (F := Ideal) c i arg1 harg1 arg2 harg2 arg3 harg3 arg4 harg4 arg5 harg5 arg6 harg6 arg7 harg7 arg8 harg8 x0 x1 x2 x3
      = added x0 := by
  unfold out0_A_4
  rw [View.read_writes_eq_canon _ _ _ (cover0_A_4 (F := Ideal) c i arg1 harg1 arg2 harg2 arg3 harg3 arg4 harg4 arg5 harg5 arg6 harg6 arg7 harg7 arg8 harg8 x0 x1 x2 x3)]
  unfold kernelRun0_A
  dsimp only
  sl_unfold_words
  simp only [View.readAt_eq_ld, View.canon_unit_zero (S := S128x1024) z2, View.ld_unit_zero (S := S128x1024) z2, Memref.IsWhole.read_unread]
  rfl

theorem left_move :
    out0_A_5 (F := Ideal) c i arg1 harg1 arg2 harg2 arg3 harg3 arg4 harg4 arg5 harg5 arg6 harg6 arg7 harg7 arg8 harg8 x0 x1 x2 x3
      = k0_pay3 (added x0) x2 (Scalar.ofBits .f32 0x3F666666#32) x3 x1 := by
  unfold out0_A_5
  rw [View.read_writes_eq_canon _ _ _ (cover0_A_5 (F := Ideal) c i arg1 harg1 arg2 harg2 arg3 harg3 arg4 harg4 arg5 harg5 arg6 harg6 arg7 harg7 arg8 harg8 x0 x1 x2 x3)]
  unfold kernelRun0_A
  dsimp only
  sl_unfold_words
  simp only [View.readAt_eq_ld, View.canon_unit_zero (S := S128x1024) z2, View.ld_unit_zero (S := S128x1024) z2, Memref.IsWhole.read_unread]
  rfl

theorem left_first :
    out0_A_6 (F := Ideal) c i arg1 harg1 arg2 harg2 arg3 harg3 arg4 harg4 arg5 harg5 arg6 harg6 arg7 harg7 arg8 harg8 x0 x1 x2 x3
      = k0_pay1 (added x0) x2 (Scalar.ofBits .f32 0x3F666666#32) := by
  unfold out0_A_6
  rw [View.read_writes_eq_canon _ _ _ (cover0_A_6 (F := Ideal) c i arg1 harg1 arg2 harg2 arg3 harg3 arg4 harg4 arg5 harg5 arg6 harg6 arg7 harg7 arg8 harg8 x0 x1 x2 x3)]
  unfold kernelRun0_A
  dsimp only
  sl_unfold_words
  simp only [View.readAt_eq_ld, View.canon_unit_zero (S := S128x1024) z2, View.ld_unit_zero (S := S128x1024) z2, Memref.IsWhole.read_unread]
  rfl

theorem left_second :
    out0_A_7 (F := Ideal) c i arg1 harg1 arg2 harg2 arg3 harg3 arg4 harg4 arg5 harg5 arg6 harg6 arg7 harg7 arg8 harg8 x0 x1 x2 x3
      = k0_pay2 (added x0) x3 := by
  unfold out0_A_7
  rw [View.read_writes_eq_canon _ _ _ (cover0_A_7 (F := Ideal) c i arg1 harg1 arg2 harg2 arg3 harg3 arg4 harg4 arg5 harg5 arg6 harg6 arg7 harg7 arg8 harg8 x0 x1 x2 x3)]
  unfold kernelRun0_A
  dsimp only
  sl_unfold_words
  simp only [View.readAt_eq_ld, View.canon_unit_zero (S := S128x1024) z2, View.ld_unit_zero (S := S128x1024) z2, Memref.IsWhole.read_unread]
  rfl

end

variable (m : (ℓ : Loc nD τ sig) → Buf (Elt Ideal) ℓ) (c : Dev nD)

abbrev slabs : Slabs 480 1024 := m ((c : Thread nD τ).loc main_arg0)
abbrev weights : Mat 128 1024 := m ((c : Thread nD τ).loc main_arg1)
abbrev moment₁ : Mat 128 1024 := m ((c : Thread nD τ).loc main_arg2)
abbrev moment₂ : Mat 128 1024 := m ((c : Thread nD τ).loc main_arg3)
abbrev total : Mat 128 1024 := grad 0 (by norm_num) (slabs m c)

theorem place : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0])

/-- Entry `y` of block `t`. -/
def spot (t : Fin cfg0.N) (y : S128x1024.Idx) : S128x1024.Idx := ix2 ⟨t.val * 128 + (y 0).val, by
  have h : t.val < 1 := lt_of_lt_of_eq t.isLt N_0
  have : (y 0).val < 128 := (y 0).isLt
  omega⟩ (y 1 : Fin 1024)

variable (t : Fin cfg0.N) (y : S128x1024.Idx)

theorem blk_w : iblk m c 1 t y = weights m c (spot t y) := by blk_ext! [iblk, V, place t, spot]
theorem blk_u : iblk m c 2 t y = moment₁ m c (spot t y) := by blk_ext! [iblk, V, place t, spot]
theorem blk_v : iblk m c 3 t y = moment₂ m c (spot t y) := by blk_ext! [iblk, V, place t, spot]

/-- One block of the gradient. -/
theorem blk_grad : added (X0_0 m c t) y = total m c (spot t y) := by
  have e : ∀ d : Fin 8, X0_0 m c t (ix3 (n0 := 8) (n1 := 128) (n2 := 1024) d (y 0) (y 1)) = slabs m c (ix3 d ⟨0 + (spot t y 0).val, by
      have : (spot t y 0).val < 128 := (spot t y 0).isLt
      omega⟩ (spot t y 1)) := fun d => by
    unfold X0_0 Pipeline.Window.fill
    rw [dif_pos (moved0_0 t _)]
    blk_ext! [iblk, V, place t, spot]
  exact (congrArg _ (eq_ix2 (n0 := 128) (n1 := 1024) y)).trans ((added_at _ _ _).trans (Finset.sum_congr rfl fun d _ => e d))

theorem whole_grad : (dats m 0 c).arrAt 4 cfg0.N = total m c := by
  refine (dats m 0 c).arrAt_eq_of_covers 4 _ (by decide +kernel) fun t hf y => ?_
  blk_simp
  rw [after0_4]
  have e : (win0_4.blk t).view.emb y = spot t y := by blk_ext! [place t, spot]
  rw [e]
  unfold outsAt0
  dsimp only
  rw [left_grad]
  exact blk_grad m c t y

theorem whole_first : (dats m 0 c).arrAt 6 cfg0.N = firsts (total m c) (moment₁ m c) := by
  refine (dats m 0 c).arrAt_eq_of_covers 6 _ (by decide +kernel) fun t hf y => ?_
  blk_simp
  rw [after0_6]
  have e : (win0_6.blk t).view.emb y = spot t y := by blk_ext! [place t, spot]
  rw [e]
  unfold outsAt0
  dsimp only
  rw [left_first]
  exact congrArg₂ first (blk_grad m c t y) (blk_u m c t y)

theorem whole_second : (dats m 0 c).arrAt 7 cfg0.N = seconds (total m c) (moment₂ m c) := by
  refine (dats m 0 c).arrAt_eq_of_covers 7 _ (by decide +kernel) fun t hf y => ?_
  blk_simp
  rw [after0_7]
  have e : (win0_7.blk t).view.emb y = spot t y := by blk_ext! [place t, spot]
  rw [e]
  unfold outsAt0
  dsimp only
  rw [left_second]
  exact congrArg₂ second (blk_grad m c t y) (blk_v m c t y)

theorem whole_move : (dats m 0 c).arrAt 5 cfg0.N = moves (total m c) (weights m c) (moment₁ m c) (moment₂ m c) := by
  refine (dats m 0 c).arrAt_eq_of_covers 5 _ (by decide +kernel) fun t hf y => ?_
  blk_simp
  rw [after0_5]
  have e : (win0_5.blk t).view.emb y = spot t y := by blk_ext! [place t, spot]
  rw [e]
  unfold outsAt0
  dsimp only
  rw [left_move, move_at, blk_grad, blk_w, blk_u, blk_v]
  rfl

end Kernel

section Reference

open Cert.AdamOutReferenceIdeal Cert.AdamOutReferenceIdeal.Gen

theorem reference_grad (s : Vec Ideal S8x480x1024 .bf16) :
    Host.reduceAdd (F := Ideal) (extf .f32 (extractStridedSlice S8x128x1024 ![0, 0, 0] s slices_S8x480x1024_S8x128x1024_0_0_0) bitsLt_bf16_f32) (constant S_ .f32 0x00000000#32) reducesTo_S8x128x1024_S128x1024_d0 h_S_
      = grad 0 (by norm_num) s := by
  funext i
  rw [eq_ix2 (n0 := 128) (n1 := 1024) i]
  pointwise []
  refine Finset.sum_congr rfl fun d _ => congrArg s ?_
  unfold ix3
  simp

end Reference

/-- The reference's run: its arguments are kept, and it has no semaphore. -/
theorem frame_reference : Cert.quiescent_AdamOutReferenceIdeal (hAdamOutReferenceIdeal := Cert.AdamOutReferenceIdeal.Gen.facts) :=
  fun m ρ _ => (θ_run (Cert.AdamOutReferenceIdeal.defs (F := Ideal)) _ _).mono
    (fun r h => ⟨fun c => (h c).2.2.2.2, sem_eq_zero_of_no_sems (by decide) r.2⟩) (Cert.AdamOutReferenceIdeal.Value.run (F := Ideal) m ρ)

/-- The kernel's gradient, step and moments are the reference's. -/
theorem algebraic : Cert.algebraic_AdamOutKernelIdeal_AdamOutReferenceIdeal := fun m ρ m' ρ' _ agree =>
  ⟨fun c => total m c, fun c => moves (total m c) (weights m c) (moment₁ m c) (moment₂ m c), fun c => firsts (total m c) (moment₁ m c),
    fun c => seconds (total m c) (moment₂ m c),
    (θ_run _ _ _).mono (fun r h c => ⟨(h c).1.trans (whole_grad m c), (h c).2.1.trans (whole_move m c),
      (h c).2.2.1.trans (whole_first m c), (h c).2.2.2.1.trans (whole_second m c), (h c).2.2.2.2⟩)
      (Cert.AdamOutKernelIdeal.Value.run_blocks (F := Ideal) m ρ),
    (θ_run _ _ _).mono (fun r h c => by
      obtain ⟨h1, h2, h3, h4, h5⟩ := h c
      obtain ⟨a0, a1, a2, a3⟩ := agree c
      rw [a0, reference_grad] at h1 h2 h3 h4
      rw [a1, a2, a3] at h2
      rw [a2] at h3
      rw [a3] at h4
      exact ⟨h1, h2.trans (funext fun i =>
        (move_eq (total m c i) (weights m c i) (moment₁ m c i) (moment₂ m c i)).symm), h3, h4, h5⟩)
      (Cert.AdamOutReferenceIdeal.Value.run (F := Ideal) m' ρ')⟩

end Cert.Proof.AdamOut

end
-- ==== Proof.AdamDown.lean ====
/-
  The optimiser's step of the down projection's weights, whose gradient lies in rows 128 and on of each slab.
-/
module

public import proofs.«01_k».proof.Defs
public import proofs.«01_k».proof.Proof.Adam
public import proofs.«01_k».proof.Proof.Gen.AdamDownKernelIdeal.Value
public import proofs.«01_k».proof.Proof.Gen.AdamDownReferenceIdeal.Run
public import Idealize.ShloMosaic.Lib.Pipeline.ValueKit
public import Idealize.ShloMosaic.Lib.Quiescent

@[expose] public section

set_option maxRecDepth 16384

noncomputable section

namespace Cert.Proof.AdamDown

open Idealize.ShloMosaic Idealize.ShloMosaic.TcCoe Idealize.SL.Sem Cert.Proof.Adam Cert.Proof.Product

section Kernel

open Cert.AdamDownKernelIdeal Cert.AdamDownKernelIdeal.Gen
open Idealize.ShloMosaic.Pipeline (Dat)

theorem z2 : (![0, 0] : Fin 2 → ℕ) = fun _ => 0 := by decide

theorem named₁ : Named.named (F := Ideal) κ "c1" (φ := .f32) 0x3FC48605#32 = ((short₁⁻¹ : ℝ) : EReal) :=
  IdealRules.named_const.ideal_named_scalar _ _ _ _ rfl

theorem named₂ : Named.named (F := Ideal) κ "c2" (φ := .f32) 0x42C8E6D3#32 = ((short₂⁻¹ : ℝ) : EReal) :=
  IdealRules.named_const.ideal_named_scalar _ _ _ _ rfl

/-- The constants named are the inverses of what the moments fall short by. -/
theorem preserves : Cert.preserves_AdamDownKernel_AdamDownKernelIdeal :=
  ⟨IdealRules.named_const.statement κ "c1" .f32 0x3FC48605#32 _ rfl, IdealRules.named_const.statement κ "c2" .f32 0x42C8E6D3#32 _ rfl⟩

/-- The eight slabs of a block, summed. -/
theorem grad_at (x0 : Vec Ideal S8x32x1024 .bf16) (x1 x2 x3 : Vec Ideal S32x1024 .f32) (p : Fin 32) (l : Fin 1024) :
    k0_pay5 (F := Ideal) x0 x1 x2 x3 (ix2 p l) = ∑ d : Fin 8, (x0 (ix3 d p l) : EReal) := by
  rw [Fin.sum_univ_eight]
  pointwise [k0_pay5, k0_pay4]

/-- The step, at an entry. -/
theorem move_at (g : FVec Ideal S32x1024 .f32) (u v w : Vec Ideal S32x1024 .f32) (y : S32x1024.Idx) :
    k0_pay3 (F := Ideal) g u (Scalar.ofBits .f32 0x3F666666#32) v w y = move (g y) (w y) (u y) (v y) := by
  unfold move
  rw [← named₁, ← named₂]
  rfl

variable (m : (ℓ : Loc nD τ sig) → Buf (Elt Ideal) ℓ) (c : Dev nD)

abbrev slabs : Slabs 480 1024 := m ((c : Thread nD τ).loc main_arg0)
abbrev weights : Mat 352 1024 := m ((c : Thread nD τ).loc main_arg1)
abbrev moment₁ : Mat 352 1024 := m ((c : Thread nD τ).loc main_arg2)
abbrev moment₂ : Mat 352 1024 := m ((c : Thread nD τ).loc main_arg3)
abbrev total : Mat 352 1024 := grad 128 (by norm_num) (slabs m c)

theorem place : ∀ t : Fin cfg0.N, win0_0.index t = ![0, 4 + t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, 4 + t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0])

/-- Entry `y` of block `t`. -/
def spot (t : Fin cfg0.N) (y : S32x1024.Idx) : S352x1024.Idx := ix2 ⟨t.val * 32 + (y 0).val, by
  have h : t.val < 11 := lt_of_lt_of_eq t.isLt N_0
  have : (y 0).val < 32 := (y 0).isLt
  omega⟩ (y 1 : Fin 1024)

variable (t : Fin cfg0.N) (y : S32x1024.Idx)

theorem blk_w : iblk m c 1 t y = weights m c (spot t y) := by blk_ext! [iblk, V, place t, spot]
theorem blk_u : iblk m c 2 t y = moment₁ m c (spot t y) := by blk_ext! [iblk, V, place t, spot]
theorem blk_v : iblk m c 3 t y = moment₂ m c (spot t y) := by blk_ext! [iblk, V, place t, spot]

/-- One block of the gradient. -/
theorem blk_grad : k0_pay5 (F := Ideal) (iblk m c 0 t) (iblk m c 1 t) (iblk m c 2 t) (iblk m c 3 t) y = total m c (spot t y) := by
  have e : ∀ d : Fin 8, iblk m c 0 t (ix3 d (y 0 : Fin 32) (y 1 : Fin 1024)) = slabs m c (ix3 d ⟨128 + (spot t y 0).val, by
      have : (spot t y 0).val < 352 := (spot t y 0).isLt
      omega⟩ (spot t y 1)) := fun d => by
    blk_ext! [iblk, V, place t, spot]
  exact (congrArg _ (eq_ix2 (n0 := 32) (n1 := 1024) y)).trans ((grad_at _ _ _ _ _ _).trans (Finset.sum_congr rfl fun d _ => e d))

theorem whole_grad : (dats m 0 c).arrAt 4 cfg0.N = total m c := by
  refine (dats m 0 c).arrAt_eq_of_covers 4 _ (by decide +kernel) fun t hf y => ?_
  blk_simp
  rw [after0_4]
  have e : (win0_4.blk t).view.emb y = spot t y := by blk_ext! [place t, spot]
  rw [e]
  unfold out0_4
  rw [View.canon_unit_zero (S := S32x1024) z2]
  exact blk_grad m c t y

theorem whole_first : (dats m 0 c).arrAt 6 cfg0.N = firsts (total m c) (moment₁ m c) := by
  refine (dats m 0 c).arrAt_eq_of_covers 6 _ (by decide +kernel) fun t hf y => ?_
  blk_simp
  rw [after0_6]
  have e : (win0_6.blk t).view.emb y = spot t y := by blk_ext! [place t, spot]
  rw [e]
  unfold out0_6
  rw [View.canon_unit_zero (S := S32x1024) z2, View.ld_unit_zero (S := S32x1024) z2]
  exact congrArg₂ first (blk_grad m c t y) (blk_u m c t y)

theorem whole_second : (dats m 0 c).arrAt 7 cfg0.N = seconds (total m c) (moment₂ m c) := by
  refine (dats m 0 c).arrAt_eq_of_covers 7 _ (by decide +kernel) fun t hf y => ?_
  blk_simp
  rw [after0_7]
  have e : (win0_7.blk t).view.emb y = spot t y := by blk_ext! [place t, spot]
  rw [e]
  unfold out0_7
  rw [View.canon_unit_zero (S := S32x1024) z2, View.ld_unit_zero (S := S32x1024) z2]
  exact congrArg₂ second (blk_grad m c t y) (blk_v m c t y)

theorem whole_move : (dats m 0 c).arrAt 5 cfg0.N = moves (total m c) (weights m c) (moment₁ m c) (moment₂ m c) := by
  refine (dats m 0 c).arrAt_eq_of_covers 5 _ (by decide +kernel) fun t hf y => ?_
  blk_simp
  rw [after0_5]
  have e : (win0_5.blk t).view.emb y = spot t y := by blk_ext! [place t, spot]
  rw [e]
  unfold out0_5
  rw [View.canon_unit_zero (S := S32x1024) z2, View.ld_unit_zero (S := S32x1024) z2, View.ld_unit_zero (S := S32x1024) z2,
    View.ld_unit_zero (S := S32x1024) z2]
  rw [move_at, blk_grad, blk_w, blk_u, blk_v]
  rfl

end Kernel

section Reference

open Cert.AdamDownReferenceIdeal Cert.AdamDownReferenceIdeal.Gen

theorem reference_grad (s : Vec Ideal S8x480x1024 .bf16) :
    Host.reduceAdd (F := Ideal) (extf .f32 (extractStridedSlice S8x352x1024 ![0, 128, 0] s slices_S8x480x1024_S8x352x1024_0_128_0) bitsLt_bf16_f32) (constant S_ .f32 0x00000000#32) reducesTo_S8x352x1024_S352x1024_d0 h_S_
      = grad 128 (by norm_num) s := by
  funext i
  rw [eq_ix2 (n0 := 352) (n1 := 1024) i]
  pointwise []
  refine Finset.sum_congr rfl fun d _ => congrArg s ?_
  unfold ix3
  simp

end Reference

/-- The reference's run: its arguments are kept, and it has no semaphore. -/
theorem frame_reference : Cert.quiescent_AdamDownReferenceIdeal (hAdamDownReferenceIdeal := Cert.AdamDownReferenceIdeal.Gen.facts) :=
  fun m ρ _ => (θ_run (Cert.AdamDownReferenceIdeal.defs (F := Ideal)) _ _).mono
    (fun r h => ⟨fun c => (h c).2.2.2.2, sem_eq_zero_of_no_sems (by decide) r.2⟩) (Cert.AdamDownReferenceIdeal.Value.run (F := Ideal) m ρ)

/-- The kernel's gradient, step and moments are the reference's. -/
theorem algebraic : Cert.algebraic_AdamDownKernelIdeal_AdamDownReferenceIdeal := fun m ρ m' ρ' _ agree =>
  ⟨fun c => total m c, fun c => moves (total m c) (weights m c) (moment₁ m c) (moment₂ m c), fun c => firsts (total m c) (moment₁ m c),
    fun c => seconds (total m c) (moment₂ m c),
    (θ_run _ _ _).mono (fun r h c => ⟨(h c).1.trans (whole_grad m c), (h c).2.1.trans (whole_move m c),
      (h c).2.2.1.trans (whole_first m c), (h c).2.2.2.1.trans (whole_second m c), (h c).2.2.2.2⟩)
      (Cert.AdamDownKernelIdeal.Value.run_blocks (F := Ideal) m ρ),
    (θ_run _ _ _).mono (fun r h c => by
      obtain ⟨h1, h2, h3, h4, h5⟩ := h c
      obtain ⟨a0, a1, a2, a3⟩ := agree c
      rw [a0, reference_grad] at h1 h2 h3 h4
      rw [a1, a2, a3] at h2
      rw [a2] at h3
      rw [a3] at h4
      exact ⟨h1, h2.trans (funext fun i =>
        (move_eq (total m c i) (weights m c i) (moment₁ m c i) (moment₂ m c i)).symm), h3, h4, h5⟩)
      (Cert.AdamDownReferenceIdeal.Value.run (F := Ideal) m' ρ')⟩

end Cert.Proof.AdamDown

end
-- ==== Proof.Final.lean ====
/-
  The loss head, the call `_final`: the squared error of the normed rows and the gradient of its mean through the norm.
-/
module

public import proofs.«01_k».proof.Defs
public import proofs.«01_k».proof.Proof.Norm
public import proofs.«01_k».proof.Proof.Finite
public import proofs.«01_k».proof.Proof.Gen.Pre_finite_final
public import Idealize.ShloMosaic.Lib.Quiescent
public import proofs.«01_k».proof.Proof.Gen.FinalKernelIdeal.Value
public import proofs.«01_k».proof.Proof.Gen.FinalReferenceIdeal.Run
public import Idealize.ShloMosaic.Lib.Pipeline.ValueKit

@[expose] public section

set_option maxRecDepth 16384

noncomputable section

namespace Cert.Proof.Final

open Idealize.ShloMosaic Idealize.ShloMosaic.TcCoe Idealize.SL.Sem Cert.Proof.Norm Cert.Delta
open scoped BigOperators

/-- How far the normed row `q` is from its target; the first 64 rows have no target. -/
def miss (X : ℕ → Row) (G : Row) (T : ℕ → Row) (q : ℕ) (l : Fin 1024) : ℝ :=
  if 64 ≤ q then X q l * inv (X q) * G l - T q l else 0

/-- The gradient of the loss at the normed row. -/
def slope (X : ℕ → Row) (G : Row) (T : ℕ → Row) (q : ℕ) (l : Fin 1024) : ℝ := miss X G T q l * (1 / 1024)

/-- The squared error of one row. -/
def square (X : ℕ → Row) (G : Row) (T : ℕ → Row) (q : ℕ) : ℝ := ∑ l, miss X G T q l * miss X G T q l

/-- The squared error of the first `n` rows. -/
def squareTo (X : ℕ → Row) (G : Row) (T : ℕ → Row) (n : ℕ) : ℝ := ∑ q ∈ Finset.range n, square X G T q

/-- One block of 192 rows more. -/
theorem squareTo_block (X : ℕ → Row) (G : Row) (T : ℕ → Row) (t : ℕ) :
    squareTo X G T ((t + 1) * 192) = squareTo X G T (t * 192) + ∑ p : Fin 192, square X G T (t * 192 + p.val) := by
  unfold squareTo
  rw [add_mul, one_mul, Finset.sum_range_add, Fin.sum_univ_eq_sum_range (fun p => square X G T (t * 192 + p)) 192]

theorem share_bits : Ideal.ofBits .f32 0x3A800000#32 = (((1 : ℝ) / 1024 : ℝ) : EReal) := by
  simp [Ideal.ofBits, Ideal.ieee, -EReal.coe_mul]
  try norm_num

theorem half_bits : Ideal.ofBits .f32 0x3F000000#32 = (((1 : ℝ) / 2 : ℝ) : EReal) := by
  simp [Ideal.ofBits, Ideal.ieee, -EReal.coe_mul]
  try norm_num

/-- The error of a row at or past row 64, as the reference reads it: its arrays start at row 64. -/
theorem miss_from (X : ℕ → Row) (G : Row) (T : ℕ → Row) (q : ℕ) (hq : 64 ≤ q) (x : Fin 1024) :
    (X q x : EReal) * (inv (X q) : EReal) * (G x : EReal) - (T q x : EReal) = (miss X G T q x : EReal) := by
  unfold miss
  rw [if_pos hq]
  norm_cast

/-- The gradient of the loss at the normed row, as the reference has it: half the mean twice, nothing before row 64. -/
theorem slope_twice (X : ℕ → Row) (G : Row) (T : ℕ → Row) (q : ℕ) (hq : q < 8256) (x : Fin 1024) :
    (if _h : 64 ≤ q ∧ q - 64 < 8192 then
      ((X (64 + (q - 64)) x : EReal) * (inv (X (64 + (q - 64))) : EReal) * (G x : EReal) - (T (64 + (q - 64)) x : EReal))
          * Ideal.div (((1 : ℝ) / 2 : ℝ) : EReal) ((1024 : ℝ) : EReal)
        + Ideal.div (((1 : ℝ) / 2 : ℝ) : EReal) ((1024 : ℝ) : EReal)
          * ((X (64 + (q - 64)) x : EReal) * (inv (X (64 + (q - 64))) : EReal) * (G x : EReal) - (T (64 + (q - 64)) x : EReal))
      else 0) = (slope X G T q x : EReal) := by
  rw [Ideal.div_coe (by norm_num)]
  by_cases h : 64 ≤ q
  · rw [dif_pos ⟨h, by omega⟩, Nat.add_sub_cancel' h, miss_from X G T q h]
    norm_cast
    unfold slope
    ring_nf
  · rw [dif_neg (fun e => h e.1)]
    unfold slope miss
    rw [if_neg h]
    simp

/-- The first 64 rows have no error, so all 8256 rows have the error of the last 8192. -/
theorem squareTo_all (X : ℕ → Row) (G : Row) (T : ℕ → Row) :
    squareTo X G T 8256 = ∑ x : Fin 8192, square X G T (64 + x.val) := by
  unfold squareTo
  rw [show 8256 = 64 + 8192 from rfl, Finset.sum_range_add, Fin.sum_univ_eq_sum_range (fun p => square X G T (64 + p)) 8192,
    Finset.sum_eq_zero, zero_add]
  intro q hq
  have h := Finset.mem_range.mp hq
  unfold square miss
  refine Finset.sum_eq_zero fun l _ => ?_
  rw [if_neg (by omega), mul_zero]

section Body

open Cert.FinalKernelIdeal Cert.FinalKernelIdeal.Gen

variable {h tg : Vec Ideal S192x1024 .f32} {g : Vec Ideal S1x1024 .f32} {X T : ℕ → Row} {G : Row} {i : grid0.Coords} {b : ℕ}
  (hb : (i 0).val = b)
  (hx : ∀ p l, h (ix2 p l) = (X (b * 192 + p.val) l : EReal)) (ht : ∀ p l, tg (ix2 p l) = (T (b * 192 + p.val) l : EReal))
  (hg : ∀ l, g (ix2 0 l) = (G l : EReal))

include hx in
theorem factor_at (p : Fin 192) : k0_pay5 (F := Ideal) h (ix2 p 0) = (inv (X (b * 192 + p.val)) : EReal) := by
  pointwise [k0_pay5, hx]
  rw [width_bits, eps_bits, squares_coe, ms_coe, inv_coe]

include hx in
theorem normed_at (p : Fin 192) (l : Fin 1024) :
    k0_pay6 (F := Ideal) h (ix2 p l) = (X (b * 192 + p.val) l * inv (X (b * 192 + p.val)) : ℝ) := by
  pointwise [k0_pay6, hx, factor_at hx]
  norm_cast

include hb hx ht hg in
theorem miss_at (p : Fin 192) (l : Fin 1024) :
    k0_pay7 (F := Ideal) i h g tg (ix2 p l) = (miss X G T (b * 192 + p.val) l : EReal) := by
  pointwise [k0_pay7, hg, ht, normed_at hx]
  have e : IntOp.addi (Scalar.muli (BitVec.ofNat 32 (i 0).val) 192#32) (BitVec.ofNat 32 p.val) = BitVec.ofNat 32 (b * 192 + p.val) := by
    show BitVec.ofNat 32 _ * BitVec.ofNat 32 192 + BitVec.ofNat 32 _ = _
    rw [← BitVec.ofNat_mul, ← BitVec.ofNat_add, hb]
  have hi : (i 0).val < 43 := (i 0).isLt
  rw [e, select_from _ _ (by omega) (by norm_num)]
  unfold miss
  by_cases hq : 64 ≤ b * 192 + p.val
  · rw [if_pos hq, if_pos hq]
    norm_cast
  · rw [if_neg hq, if_neg hq]
    rfl

include hb hx ht hg in
theorem slope_at (p : Fin 192) (l : Fin 1024) :
    k0_pay8 (F := Ideal) i h g tg (ix2 p l) = (slope X G T (b * 192 + p.val) l : EReal) := by
  pointwise [k0_pay8, miss_at hb hx ht hg]
  rw [share_bits, ← EReal.coe_mul]
  rfl

include hb hx ht hg in
theorem dh_at (p : Fin 192) (l : Fin 1024) :
    k0_pay9 (F := Ideal) i h g tg (ix2 p l) = (back (X (b * 192 + p.val)) G (slope X G T (b * 192 + p.val)) l : EReal) := by
  pointwise [k0_pay9, hg, factor_at hx, normed_at hx, slope_at hb hx ht hg]
  rw [width_bits, Ideal.div_coe (by norm_num)]
  norm_cast
  unfold back
  ring_nf

include hb hx ht hg in
theorem gain_at (p : Fin 192) (l : Fin 1024) :
    k0_pay10 (F := Ideal) i h g tg (ix2 p l) = (gainTerm X (slope X G T) l (b * 192 + p.val) : EReal) := by
  pointwise [k0_pay10, normed_at hx, slope_at hb hx ht hg]
  rw [← EReal.coe_mul]
  rfl

include hb hx ht hg in
/-- A block's sum added to what the block of the gain's gradient held. -/
theorem add_gain (v : Vec Ideal S8x1024 .f32) (s : Fin 8) (l : Fin 1024) :
    k0_pay3 (F := Ideal) (k0_pay10 (F := Ideal) i h g tg) v (ix2 s l)
      = v (ix2 s l) + ((∑ p : Fin 192, gainTerm X (slope X G T) l (b * 192 + p.val) : ℝ) : EReal) := by
  pointwise [k0_pay3, gain_at hb hx ht hg]
  norm_cast

include hb hx ht hg in
/-- A block's sum added to what the block of the squared error held. -/
theorem add_square (v : Vec Ideal S8x128 .f32) (s : Fin 8) (l : Fin 128) :
    k0_pay4 (F := Ideal) (k0_pay7 (F := Ideal) i h g tg) v (ix2 s l)
      = v (ix2 s l) + ((∑ p : Fin 192, square X G T (b * 192 + p.val) : ℝ) : EReal) := by
  pointwise [k0_pay4, miss_at hb hx ht hg]
  norm_cast

/-! ## What one grid point leaves in its three outputs -/

section

variable (c : Dev nD) (i : grid0.Coords) (arg1 : Memref sig .tc .vmem S192x1024 .f32) (harg1 : arg1.IsWhole)
  (arg2 : Memref sig .tc .vmem S1x1024 .f32) (harg2 : arg2.IsWhole) (arg3 : Memref sig .tc .vmem S192x1024 .f32) (harg3 : arg3.IsWhole)
  (arg4 : Memref sig .tc .vmem S192x1024 .f32) (harg4 : arg4.IsWhole) (arg5 : Memref sig .tc .vmem S8x1024 .f32) (harg5 : arg5.IsWhole)
  (arg6 : Memref sig .tc .vmem S8x128 .f32) (harg6 : arg6.IsWhole)
  (x0 : Vec Ideal S192x1024 .f32) (x1 : Vec Ideal S1x1024 .f32) (x2 : Vec Ideal S192x1024 .f32)
  (xo4 : Vec Ideal S8x1024 .f32) (xo5 : Vec Ideal S8x128 .f32)

theorem z2 : (![0, 0] : Fin 2 → ℕ) = fun _ => 0 := by decide

theorem first_dh (hc0 : cond0_0 i) :
    out0_A_3 (F := Ideal) c i arg1 harg1 arg2 harg2 arg3 harg3 arg4 harg4 arg5 harg5 arg6 harg6 hc0 x0 x1 x2 = k0_pay9 i x0 x1 x2 := by
  unfold out0_A_3
  rw [View.read_writes_eq_canon _ _ _ (cover0_A_3 (F := Ideal) c i arg1 harg1 arg2 harg2 arg3 harg3 arg4 harg4 arg5 harg5 arg6 harg6 hc0 x0 x1 x2)]
  unfold kernelRun0_A
  dsimp only
  sl_unfold_words
  simp only [View.readAt_eq_ld, View.canon_unit_zero (S := S192x1024) z2, View.ld_unit_zero (S := S192x1024) z2,
    View.ld_unit_zero (S := S1x1024) z2, Memref.IsWhole.read_unread]

theorem later_dh (hc0 : ¬cond0_0 i) :
    out0_B_3 (F := Ideal) c i arg1 harg1 arg2 harg2 arg3 harg3 arg4 harg4 arg5 harg5 arg6 harg6 hc0 x0 x1 x2 xo4 xo5 = k0_pay9 i x0 x1 x2 := by
  unfold out0_B_3
  rw [View.read_writes_eq_canon _ _ _ (cover0_B_3 (F := Ideal) c i arg1 harg1 arg2 harg2 arg3 harg3 arg4 harg4 arg5 harg5 arg6 harg6 hc0 x0 x1 x2 xo4 xo5)]
  unfold kernelRun0_B
  dsimp only
  sl_unfold_words
  simp only [View.readAt_eq_ld, View.canon_unit_zero (S := S192x1024) z2, View.ld_unit_zero (S := S192x1024) z2,
    View.ld_unit_zero (S := S1x1024) z2, Memref.IsWhole.read_unread]

theorem first_dgain (hc0 : cond0_0 i) :
    out0_A_4 (F := Ideal) c i arg1 harg1 arg2 harg2 arg3 harg3 arg4 harg4 arg5 harg5 arg6 harg6 hc0 x0 x1 x2
      = k0_pay3 (k0_pay10 i x0 x1 x2) (k0_pay1 (F := Ideal)) := by
  unfold out0_A_4
  rw [View.read_writes_eq_canon _ _ _ (cover0_A_4 (F := Ideal) c i arg1 harg1 arg2 harg2 arg3 harg3 arg4 harg4 arg5 harg5 arg6 harg6 hc0 x0 x1 x2)]
  unfold kernelRun0_A
  dsimp only
  sl_unfold_words
  simp only [View.readAt_eq_ld, View.canon_cons_unit_zero (S := S8x1024) z2, View.ld_unit_zero (S := S192x1024) z2,
    View.ld_unit_zero (S := S1x1024) z2, View.ld_unit_zero (S := S8x1024) z2, View.readCov_unit_zero (S := S8x1024) _ z2,
    Memref.IsWhole.read_unread]

theorem later_dgain (hc0 : ¬cond0_0 i) :
    out0_B_4 (F := Ideal) c i arg1 harg1 arg2 harg2 arg3 harg3 arg4 harg4 arg5 harg5 arg6 harg6 hc0 x0 x1 x2 xo4 xo5
      = k0_pay3 (k0_pay10 i x0 x1 x2) xo4 := by
  unfold out0_B_4
  rw [View.read_writes_eq_canon _ _ _ (cover0_B_4 (F := Ideal) c i arg1 harg1 arg2 harg2 arg3 harg3 arg4 harg4 arg5 harg5 arg6 harg6 hc0 x0 x1 x2 xo4 xo5)]
  unfold kernelRun0_B
  dsimp only
  sl_unfold_words
  simp only [View.readAt_eq_ld, View.canon_unit_zero (S := S8x1024) z2, View.ld_unit_zero (S := S192x1024) z2,
    View.ld_unit_zero (S := S1x1024) z2, View.ld_unit_zero (S := S8x1024) z2, Memref.IsWhole.read_unread]

theorem first_square (hc0 : cond0_0 i) :
    out0_A_5 (F := Ideal) c i arg1 harg1 arg2 harg2 arg3 harg3 arg4 harg4 arg5 harg5 arg6 harg6 hc0 x0 x1 x2
      = k0_pay4 (k0_pay7 i x0 x1 x2) (k0_pay2 (F := Ideal)) := by
  unfold out0_A_5
  rw [View.read_writes_eq_canon _ _ _ (cover0_A_5 (F := Ideal) c i arg1 harg1 arg2 harg2 arg3 harg3 arg4 harg4 arg5 harg5 arg6 harg6 hc0 x0 x1 x2)]
  unfold kernelRun0_A
  dsimp only
  sl_unfold_words
  simp only [View.readAt_eq_ld, View.canon_cons_unit_zero (S := S8x128) z2, View.ld_unit_zero (S := S192x1024) z2,
    View.ld_unit_zero (S := S1x1024) z2, View.ld_unit_zero (S := S8x128) z2, View.readCov_unit_zero (S := S8x128) _ z2,
    Memref.IsWhole.read_unread]

theorem later_square (hc0 : ¬cond0_0 i) :
    out0_B_5 (F := Ideal) c i arg1 harg1 arg2 harg2 arg3 harg3 arg4 harg4 arg5 harg5 arg6 harg6 hc0 x0 x1 x2 xo4 xo5
      = k0_pay4 (k0_pay7 i x0 x1 x2) xo5 := by
  unfold out0_B_5
  rw [View.read_writes_eq_canon _ _ _ (cover0_B_5 (F := Ideal) c i arg1 harg1 arg2 harg2 arg3 harg3 arg4 harg4 arg5 harg5 arg6 harg6 hc0 x0 x1 x2 xo4 xo5)]
  unfold kernelRun0_B
  dsimp only
  sl_unfold_words
  simp only [View.readAt_eq_ld, View.canon_unit_zero (S := S8x128) z2, View.ld_unit_zero (S := S192x1024) z2,
    View.ld_unit_zero (S := S1x1024) z2, View.ld_unit_zero (S := S8x128) z2, Memref.IsWhole.read_unread]

end

end Body

/-! ## The kernel's run -/

section Run

open Cert.FinalKernelIdeal Cert.FinalKernelIdeal.Gen
open Idealize.ShloMosaic.Pipeline (Dat)

/-- The gradient of the hidden rows. -/
def hidden (X : ℕ → Row) (G : Row) (T : ℕ → Row) (i : S8256x1024.Idx) : EReal :=
  (back (X (i 0).val) G (slope X G T (i 0).val) (i 1) : EReal)

variable (m : (ℓ : Loc nD τ sig) → Buf (Elt Ideal) ℓ) (c : Dev nD)

/-- The hidden rows, the gain and the targets are reals. -/
structure Gives (X : ℕ → Row) (G : Row) (T : ℕ → Row) : Prop where
  h : ∀ (p : Fin 8256) l, m ((c : Thread nD τ).loc main_arg0) (ix2 p l) = (X p.val l : EReal)
  g : ∀ l, m ((c : Thread nD τ).loc main_arg1) (ix2 0 l) = (G l : EReal)
  t : ∀ (p : Fin 8256) l, m ((c : Thread nD τ).loc main_arg2) (ix2 p l) = (T p.val l : EReal)

theorem place : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ (grid0.coords t 0).val = t.val :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ (grid0.coords t 0).val = t.val)

/-- The block a grid point works on. -/
theorem at_block (t : Fin cfg0.N) : (grid0.coords t 0).val = t.val := (place t).2.2.2.2.2.2

/-- Row `p` of block `t`. -/
def row (t : Fin cfg0.N) (p : Fin 192) : Fin 8256 := ⟨t.val * 192 + p.val, by
  have h : t.val < 43 := lt_of_lt_of_eq t.isLt N_0
  omega⟩

variable {m c} {X T : ℕ → Row} {G : Row} (H : Gives m c X G T)
include H

theorem blk_h (t : Fin cfg0.N) (p : Fin 192) (l : Fin 1024) : iblk m c 0 t (ix2 p l) = (X (t.val * 192 + p.val) l : EReal) := by
  refine Eq.trans ?_ (H.h (row t p) l)
  blk_ext! [iblk, V, place t, row]

theorem blk_g (t : Fin cfg0.N) (l : Fin 1024) : iblk m c 1 t (ix2 0 l) = (G l : EReal) := by
  rw [← H.g]
  blk_ext! [iblk, V, place t]

theorem blk_t (t : Fin cfg0.N) (p : Fin 192) (l : Fin 1024) : iblk m c 2 t (ix2 p l) = (T (t.val * 192 + p.val) l : EReal) := by
  refine Eq.trans ?_ (H.t (row t p) l)
  blk_ext! [iblk, V, place t, row]

/-- What point `t` leaves of the gradient of the hidden rows. -/
theorem point_dh (t : Fin cfg0.N) (p : Fin 192) (l : Fin 1024) :
    (outsAt0 m c t.val t.isLt).1 (ix2 p l) = hidden X G T (ix2 (row t p) l) := by
  have e := dh_at (at_block t) (blk_h H t) (blk_t H t) (blk_g H t) p l
  by_cases h0 : t.val % 43 = 0
  · rw [outsAt0_A m c t h0]
    dsimp only
    rw [first_dh]
    exact e
  · rw [outsAt0_B m c t h0]
    dsimp only
    rw [later_dh]
    exact e

/-- What the gain's gradient is after point `n`. -/
theorem point_dgain : ∀ (n : ℕ) (hn : n < cfg0.N) (s : Fin 8) (l : Fin 1024),
    (outsAt0 m c n hn).2.1 (ix2 s l) = (gainTo X (slope X G T) ((n + 1) * 192) l : EReal)
  | 0, hn, s, l => by
    rw [outsAt0_A m c ⟨0, hn⟩ rfl]
    dsimp only
    rw [first_dgain, add_gain (at_block _) (blk_h H ⟨0, hn⟩) (blk_t H ⟨0, hn⟩) (blk_g H ⟨0, hn⟩), gainTo_block]
    have e : k0_pay1 (F := Ideal) (ix2 s l) = ((gainTo X (slope X G T) (0 * 192) l : ℝ) : EReal) := by
      pointwise [k0_pay1]
      simp [gainTo]
    rw [e, ← EReal.coe_add]
  | n + 1, hn, s, l => by
    have hN : cfg0.N = 43 := N_0
    have hB : ¬(⟨n + 1, hn⟩ : Fin cfg0.N).val % 43 = 0 := by dsimp only; omega
    rw [outsAt0_B m c ⟨n + 1, hn⟩ hB]
    dsimp only
    rw [later_dgain, add_gain (at_block _) (blk_h H ⟨n + 1, hn⟩) (blk_t H ⟨n + 1, hn⟩) (blk_g H ⟨n + 1, hn⟩), gainTo_block]
    have e := point_dgain n (Nat.lt_of_succ_lt hn) s l
    refine (congrArg (· + _) e).trans ?_
    rw [← EReal.coe_add]

/-- What the squared error is after point `n`. -/
theorem point_square : ∀ (n : ℕ) (hn : n < cfg0.N) (s : Fin 8) (l : Fin 128),
    (outsAt0 m c n hn).2.2 (ix2 s l) = (squareTo X G T ((n + 1) * 192) : EReal)
  | 0, hn, s, l => by
    rw [outsAt0_A m c ⟨0, hn⟩ rfl]
    dsimp only
    rw [first_square, add_square (at_block _) (blk_h H ⟨0, hn⟩) (blk_t H ⟨0, hn⟩) (blk_g H ⟨0, hn⟩), squareTo_block]
    have e : k0_pay2 (F := Ideal) (ix2 s l) = ((squareTo X G T (0 * 192) : ℝ) : EReal) := by
      pointwise [k0_pay2]
      simp [squareTo]
    rw [e, ← EReal.coe_add]
  | n + 1, hn, s, l => by
    have hN : cfg0.N = 43 := N_0
    have hB : ¬(⟨n + 1, hn⟩ : Fin cfg0.N).val % 43 = 0 := by dsimp only; omega
    rw [outsAt0_B m c ⟨n + 1, hn⟩ hB]
    dsimp only
    rw [later_square, add_square (at_block _) (blk_h H ⟨n + 1, hn⟩) (blk_t H ⟨n + 1, hn⟩) (blk_g H ⟨n + 1, hn⟩), squareTo_block]
    have e := point_square n (Nat.lt_of_succ_lt hn) s l
    refine (congrArg (· + _) e).trans ?_
    rw [← EReal.coe_add]

/-- The gradient of the hidden rows, whole. -/
theorem whole_dh : (dats m 0 c).arrAt 3 cfg0.N = hidden X G T := by
  refine (dats m 0 c).arrAt_eq_of_covers 3 _ (by decide +kernel) fun t hf y => ?_
  blk_simp
  rw [after0_3]
  have e : (win0_3.blk t).view.emb y = ix2 (row t (y 0 : Fin 192)) (y 1 : Fin 1024) := by
    blk_ext! [place t, row]
  rw [e]
  exact (congrArg _ (eq_ix2 (n0 := 192) (n1 := 1024) y)).trans (point_dh H t _ _)

/-- The gradient of the gain, whole: every row of the array holds the sum over all rows. -/
theorem whole_dgain : (dats m 0 c).arrAt 4 cfg0.N = fun i : S8x1024.Idx => (gainTo X (slope X G T) 8256 (i 1) : EReal) := by
  refine (dats m 0 c).arrAt_eq_of_covers 4 _ (by decide +kernel) fun t hf y => ?_
  have hN : t.val < 43 := lt_of_lt_of_eq t.isLt N_0
  have ht : t.val = 42 := by have := (flush0_4 t).mp hf; omega
  blk_simp
  rw [after0_4]
  have e1 : (win0_4.blk t).view.emb y 1 = (y 1 : Fin 1024) := by apply Fin.ext; blk_simp [place t]
  rw [e1]
  refine ((congrArg _ (eq_ix2 (n0 := 8) (n1 := 1024) y)).trans (point_dgain H t.val t.isLt _ _)).trans ?_
  rw [ht]

/-- The squared error, whole: every cell holds the sum over all rows. -/
theorem whole_square : (dats m 0 c).arrAt 5 cfg0.N = fun _ : S8x128.Idx => (squareTo X G T 8256 : EReal) := by
  refine (dats m 0 c).arrAt_eq_of_covers 5 _ (by decide +kernel) fun t hf y => ?_
  have hN : t.val < 43 := lt_of_lt_of_eq t.isLt N_0
  have ht : t.val = 42 := by have := (flush0_5 t).mp hf; omega
  blk_simp
  rw [after0_5]
  refine ((congrArg _ (eq_ix2 (n0 := 8) (n1 := 128) y)).trans (point_square H t.val t.isLt _ _)).trans ?_
  rw [ht]

end Run

/-! ## The reference's run -/

section Reference

open Cert.FinalReferenceIdeal Cert.FinalReferenceIdeal.Gen

variable {m : (ℓ : Loc nD τ sig) → Buf (Elt Ideal) ℓ} {c : Dev nD} {X T : ℕ → Row} {G : Row}
  (hx : ∀ (p : Fin 8256) l, m ((c.tc : Thread nD τ).loc main_arg0) (ix2 p l) = (X p.val l : EReal))
  (hg : ∀ l, m ((c.tc : Thread nD τ).loc main_arg1) (ix2 0 l) = (G l : EReal))
  (ht : ∀ (p : Fin 8256) l, m ((c.tc : Thread nD τ).loc main_arg2) (ix2 p l) = (T p.val l : EReal))

include hx hg ht in
theorem reference_dh (p : Fin 8256) (l : Fin 1024) : Value.res_main_v51 (F := Ideal) m c (ix2 p l) = hidden X G T (ix2 p l) := by
  pointwise [Value.res_main_v51, hx, hg, ht]
  simp only [width_bits, eps_bits, power_bits, half_bits, squares_coe, ms_coe, inv_coe, slope_twice X G T p.val p.isLt]
  rw [Ideal.div_coe (ms_pos _).ne', Ideal.div_coe (by norm_num), Finset.univ_unique, Finset.sum_singleton]
  norm_cast
  show _ = ((back (X p.val) G (slope X G T p.val) l : ℝ) : EReal)
  rw [← derived_eq]
  refine congrArg Real.toEReal ?_
  unfold derived pull
  ring

end Reference

/-- The reference's run: its arguments are kept, and it has no semaphore. -/
theorem frame_reference : Cert.quiescent_FinalReferenceIdeal (hFinalReferenceIdeal := Cert.FinalReferenceIdeal.Gen.facts) :=
  fun m ρ _ => (θ_run (Cert.FinalReferenceIdeal.defs (F := Ideal)) _ _).mono
    (fun r h => ⟨fun c => (h c).2.2.2, sem_eq_zero_of_no_sems (by decide) r.2⟩) (Cert.FinalReferenceIdeal.Value.run (F := Ideal) m ρ)

/-- Under the precondition the three arrays read by the loss head hold reals. -/
theorem of_pre {a0 a2 : FVec Ideal Cert.Pre_finite_final.S8256x1024 .f32} {a1 : FVec Ideal Cert.Pre_finite_final.S1x1024 .f32}
    [Cert.Pre_finite_final.Facts] (h : Cert.Pre_finite_final.fn (F := Ideal) a0 a1 a2 = fun _ => 1#1) :
    (∀ i, a0 i = ((a0 i : EReal).toReal : EReal)) ∧ (∀ i, a1 i = ((a1 i : EReal).toReal : EReal))
    ∧ (∀ i, a2 i = ((a2 i : EReal).toReal : EReal)) := by
  have e := congrFun h ix0
  unfold Cert.Pre_finite_final.fn at e
  obtain ⟨e, h2⟩ := IntOp.andi_eq_one.1 e
  obtain ⟨h0, h1⟩ := IntOp.andi_eq_one.1 e
  exact ⟨Finite.reals a0 _ _ _ h0, Finite.reals a1 _ _ _ h1, Finite.reals a2 _ _ _ h2⟩

/-- The kernel's loss and its gradients are the reference's. -/
theorem algebraic : Cert.algebraic_FinalKernelIdeal_FinalReferenceIdeal_pre_finite_final := by
  intro m ρ m' ρ' hpre agree
  let X : Dev Cert.FinalKernelIdeal.nD → ℕ → Row := fun c => rowOf
    (m ((c.tc : Thread Cert.FinalKernelIdeal.nD Cert.FinalKernelIdeal.τ).loc Cert.FinalKernelIdeal.main_arg0))
  let G : Dev Cert.FinalKernelIdeal.nD → Row := fun c l =>
    (m ((c.tc : Thread Cert.FinalKernelIdeal.nD Cert.FinalKernelIdeal.τ).loc Cert.FinalKernelIdeal.main_arg1) (ix2 0 l) : EReal).toReal
  let T : Dev Cert.FinalKernelIdeal.nD → ℕ → Row := fun c => rowOf
    (m ((c.tc : Thread Cert.FinalKernelIdeal.nD Cert.FinalKernelIdeal.τ).loc Cert.FinalKernelIdeal.main_arg2))
  have H : ∀ c, Gives m c (X c) (G c) (T c) := fun c => by
    obtain ⟨h0, h1, h2⟩ := of_pre (hpre c)
    exact ⟨rowOf_at _ h0, fun _ => h1 _, rowOf_at _ h2⟩
  have hx := fun c (p : Fin 8256) (l : Fin 1024) => (congrFun (agree c).1 (ix2 p l)).trans ((H c).h p l)
  have hg := fun c (l : Fin 1024) => (congrFun (agree c).2.1 (ix2 0 l)).trans ((H c).g l)
  have ht := fun c (p : Fin 8256) (l : Fin 1024) => (congrFun (agree c).2.2 (ix2 p l)).trans ((H c).t p l)
  refine ⟨fun c => hidden (X c) (G c) (T c), fun c i => (gainTo (X c) (slope (X c) (G c) (T c)) 8256 (i 1) : EReal),
    fun c _ => (squareTo (X c) (G c) (T c) 8256 : EReal), ?_, ?_⟩
  · exact (θ_run _ _ _).mono (fun r h c => ⟨(h c).1.trans (whole_dh (H c)), (h c).2.1.trans (whole_dgain (H c)),
        (h c).2.2.1.trans (whole_square (H c)), (h c).2.2.2⟩)
      (Cert.FinalKernelIdeal.Value.run_blocks (F := Ideal) m ρ)
  · refine (θ_run _ _ _).mono (fun r h c => ⟨(h c).1.trans (funext fun i => ?_), (h c).2.1.trans (funext fun i => ?_),
        (h c).2.2.1.trans (funext fun i => ?_), (h c).2.2.2⟩)
      (Cert.FinalReferenceIdeal.Value.run (F := Ideal) m' ρ')
    · rw [eq_ix2 i]
      exact reference_dh (hx c) (hg c) (ht c) _ _
    · rw [eq_ix2 (n0 := 8) (n1 := 1024) i]
      have hx' := hx c
      have hg' := hg c
      have ht' := ht c
      pointwise [hx', hg', ht']
      refine Eq.trans (b := ∑ x : Fin 8256, ((gainTerm (X c) (slope (X c) (G c) (T c)) (i 1) x.val : ℝ) : EReal))
        (Finset.sum_congr rfl fun x _ => ?_) ?_
      · simp only [width_bits, eps_bits, half_bits, squares_coe, ms_coe, inv_coe]
        refine (congrArg _ (slope_twice (X c) (G c) (T c) x.val x.isLt (i 1))).trans ?_
        rw [← EReal.coe_mul, ← EReal.coe_mul]
        exact congrArg Real.toEReal (mul_comm _ _)
      · rw [← coe_sum]
        exact congrArg Real.toEReal
          (Fin.sum_univ_eq_sum_range (fun q => gainTerm (X c) (slope (X c) (G c) (T c)) (i 1) q) 8256)
    · rw [eq_ix2 (n0 := 8) (n1 := 128) i]
      have hx' := hx c
      have hg' := hg c
      have ht' := ht c
      pointwise [hx', hg', ht']
      simp only [width_bits, eps_bits, squares_coe, ms_coe, inv_coe, miss_from (X c) (G c) (T c) _ (Nat.le_add_right 64 _)]
      rw [squareTo_all]
      unfold square
      norm_cast

end Cert.Proof.Final

end
-- ==== Proof.MixerRow.lean ====
/-
  One row of the end of the mixer's forward pass: the head norm and its gate, the trailing means, the two gates; and how a block's
  row is the array's row.
-/
module

public import proofs.«01_k».proof.Defs
public import proofs.«01_k».proof.Proof.Product

@[expose] public section

noncomputable section

namespace Cert.Proof.MixerPost

open Idealize.ShloMosaic Cert.Proof.Product
open scoped BigOperators

variable {N W : ℕ}

/-- A cell of an array of matrices; zero outside. -/
def cell₃ {A : ℕ} (x : (⟨3, ![A, N, W]⟩ : Shape).Idx → EReal) (a r c : ℕ) : EReal :=
  if h : a < A ∧ r < N ∧ c < W then x (ix3 ⟨a, h.1⟩ ⟨r, h.2.1⟩ ⟨c, h.2.2⟩) else 0

theorem at₃ {A : ℕ} (x : (⟨3, ![A, N, W]⟩ : Shape).Idx → EReal) (a : Fin A) (r : Fin N) (c : Fin W) : x (ix3 a r c) = cell₃ x a.val r.val c.val := by
  unfold cell₃
  rw [dif_pos ⟨a.isLt, r.isLt, c.isLt⟩]

theorem at₂ (x : Mat N W) (r : Fin N) (c : Fin W) : x (ix2 r c) = cell x r.val c.val := read_cell x _ _ _ rfl rfl

/-! ## The mathematics of one row -/

/-- How many rows a trailing mean over `w` rows takes at row `q`: those from row 48 on, at least one. -/
def count (w q : ℕ) : EReal :=
  FloatOps.sitofp (F := Ideal) .f32 (IntOp.minsi (BitVec.ofNat 32 w) (IntOp.maxsi 1#32 (IntOp.subi (BitVec.ofNat 32 q) 47#32)))

/-- The rows a trailing mean takes, as the reference counts them. -/
theorem count_word (x : BitVec 32) : IntOp.addi (IntOp.subi x 48#32) 1#32 = IntOp.subi x 47#32 := by
  show x - 48#32 + 1#32 = x - 47#32
  rw [BitVec.sub_eq_add_neg, BitVec.sub_eq_add_neg, BitVec.add_assoc]
  rfl

/-- The number of a row of block `n`, in words. -/
theorem row_word (n p : ℕ) : IntOp.addi (Scalar.muli (BitVec.ofNat 32 n) 192#32) (BitVec.ofNat 32 p) = BitVec.ofNat 32 (n * 192 + p) := by
  show BitVec.ofNat 32 _ * BitVec.ofNat 32 192 + BitVec.ofNat 32 _ = _
  rw [← BitVec.ofNat_mul, ← BitVec.ofNat_add]

/-- Multiplied and divided by the count: the count is a number, and not zero. -/
theorem count_div (x : EReal) {w : ℕ} (h0 : 0 < w) (h : w < 2 ^ 31) (q : ℕ) : Ideal.div (x * count w q) (count w q) = x := by
  obtain ⟨c, hc, e⟩ : ∃ c : ℝ, c ≠ 0 ∧ count w q = (c : EReal) := by
    refine ⟨_, ?_, rfl⟩
    have hw : (BitVec.ofNat 32 w).toInt = w := by
      rw [BitVec.toInt_eq_toNat_of_lt] <;> rw [BitVec.toNat_ofNat, Nat.mod_eq_of_lt] <;> omega
    refine Int.cast_ne_zero.2 ?_
    unfold IntOp.minsi IntOp.maxsi
    simp only [BitVec.slt, decide_eq_true_eq]
    have h1 : (1#32).toInt = 1 := by decide
    split_ifs <;> omega
  rw [e, Ideal.div_coe hc, mul_assoc, ← EReal.coe_mul, mul_one_div_cancel hc, EReal.coe_one, mul_one]

/-- Row `q` and the `n` rows before it, added newest first; `P` holds row `q` at `16 + q`. -/
def total (P : ℕ → ℕ → EReal) (q c : ℕ) : ℕ → EReal
  | 0 => P (16 + q) c
  | n + 1 => total P q c n + P (15 - n + q) c

/-- The trailing mean over `w` rows less the row itself; the rows of `P` begin at row `b`. -/
def pool (P : ℕ → ℕ → EReal) (b w q c : ℕ) : EReal := Ideal.div (total P q c (w - 1)) (count w (b + q)) - P (16 + q) c

/-- The pooled columns of the group of column `d`, multiplied by the group's weights. -/
def mix (P : ℕ → ℕ → EReal) (b : ℕ) (w : ℕ → ℕ → ℕ → EReal) (q d : ℕ) : EReal :=
  ∑ k : Fin 128, pool P b (2 * 2 ^ (d / 256)) q (d / 256 * 128 + k.val) * w (d / 256) k.val (d % 256)

/-- The columns of group `g` take its weights and its window. -/
theorem mix_group (P : ℕ → ℕ → EReal) (b : ℕ) (w : ℕ → ℕ → ℕ → EReal) (q g : ℕ) {l : ℕ} (hl : l < 256) :
    mix P b w q (g * 256 + l) = ∑ k : Fin 128, pool P b (2 * 2 ^ g) q (g * 128 + k.val) * w g k.val l := by
  unfold mix
  rw [show (g * 256 + l) / 256 = g by omega, show (g * 256 + l) % 256 = l by omega]

/-- The logistic function. -/
def sg (x : EReal) : EReal := Ideal.div 1 (1 + Ideal.exp (-x))

/-- One over the root of the mean square of head `h` at row `r`, plus ε under the root. -/
def inv (o : ℕ → ℕ → ℕ → EReal) (h r : ℕ) : EReal :=
  Ideal.rsqrt (Ideal.div (∑ k : Fin 128, o h r k.val * o h r k.val) (Ideal.ofBits .f32 0x43000000#32) + Ideal.ofBits .f32 0x358637BD#32)

/-- The mixed row at lane `l` of head `h`, column `d`: the gated head norm and the pooled columns, each behind its gate. -/
def lane (o : ℕ → ℕ → ℕ → EReal) (z a b M : ℕ → ℕ → EReal) (n s : ℕ → EReal) (r h l d : ℕ) : EReal :=
  sg (a r d) * (o h r l * inv o h r * n l * (z r d * sg (z r d))) + sg (b r d) * (M r d * s d)

/-- The mixed row at column `d`. -/
def out (o : ℕ → ℕ → ℕ → EReal) (z a b M : ℕ → ℕ → EReal) (n s : ℕ → EReal) (r d : ℕ) : EReal := lane o z a b M n s r (d / 128) (d % 128) d

/-! ## A block's row is the array's row -/

section Shift

variable {P P' : ℕ → ℕ → EReal} {b q d : ℕ} (hP : ∀ q < 208, ∀ c < 512, P q c = P' (b + q) c)

include hP in
theorem total_shift (hq : q < 192) {c : ℕ} (hc : c < 512) : ∀ n < 16, total P q c n = total P' (b + q) c n
  | 0, _ => by
    unfold total
    rw [hP _ (by omega) _ hc, Nat.add_left_comm]
  | n + 1, h => by
    unfold total
    rw [total_shift hq hc n (by omega), hP _ (by omega) _ hc, Nat.add_left_comm]

include hP in
theorem pool_shift (hq : q < 192) {c w : ℕ} (hc : c < 512) (hw : w ≤ 16) : pool P b w q c = pool P' 0 w (b + q) c := by
  unfold pool
  rw [total_shift hP hq hc _ (by omega), hP _ (by omega) _ hc, Nat.add_left_comm, Nat.zero_add]

include hP in
theorem mix_shift (w : ℕ → ℕ → ℕ → EReal) (hq : q < 192) (hd : d < 1024) : mix P b w q d = mix P' 0 w (b + q) d := by
  unfold mix
  refine Finset.sum_congr rfl fun k _ => ?_
  have hk := k.isLt
  rw [pool_shift hP hq (by omega)]
  have h : d / 256 ≤ 3 := by omega
  exact (Nat.mul_le_mul_left 2 (Nat.pow_le_pow_right (by norm_num) h)).trans (by norm_num)

theorem out_shift {o o' : ℕ → ℕ → ℕ → EReal} {z z' a a' g g' M M' : ℕ → ℕ → EReal} {n s : ℕ → EReal} (hd : d < 1024)
    (ho : ∀ h < 8, ∀ l < 128, o h q l = o' h (b + q) l) (hz : ∀ d < 1024, z q d = z' (b + q) d) (ha : ∀ d < 1024, a q d = a' (b + q) d)
    (hg : ∀ d < 1024, g q d = g' (b + q) d) (hM : ∀ d < 1024, M q d = M' (b + q) d) : out o z a g M n s q d = out o' z' a' g' M' n s (b + q) d := by
  have e : inv o (d / 128) q = inv o' (d / 128) (b + q) := by
    unfold inv
    rw [Finset.sum_congr rfl fun k _ => by rw [ho _ (by omega) _ k.isLt]]
  unfold out lane
  rw [e, ho _ (by omega) _ (by omega), hz d hd, ha d hd, hg d hd, hM d hd]

end Shift

/-! ## The results, whole -/

section Whole

variable (h : Mat 8256 1024) (o : (⟨3, ![8, 8256, 128]⟩ : Shape).Idx → EReal) (p : Mat 8256 6912) (n : Mat 1 128)
  (w : (⟨3, ![4, 128, 256]⟩ : Shape).Idx → EReal) (s : Mat 1 1024) (v : Mat 1024 1024)

/-- The columns of the projection from column `k` on. -/
def part (k r d : ℕ) : EReal := cell p r (k + d)

/-- The pooled columns of the projection, after 16 rows of zeros. -/
def past (r c : ℕ) : EReal := if r < 16 then 0 else cell p (r - 16) (6144 + c)

/-- The mixed rows. -/
def mixRow (r d : ℕ) : EReal :=
  out (cell₃ o) (part p 3072) (part p 4096) (part p 5120) (mix (past p) 0 (cell₃ w)) (cell n 0) (cell s 0) r d

/-- The hidden rows plus the mixed rows' product with the output weights. -/
def hidden (r e : ℕ) : EReal := cell h r e + ∑ k : Fin 1024, mixRow o p n w s r k.val * cell v k.val e

end Whole

end Cert.Proof.MixerPost

end
-- ==== Proof.PoolTRef.lean ====
/-
  The gradient of the pooling: each row takes its own entry and those of the rows ahead, less its own times the count; the
  reference's result is that.
-/
module

public import proofs.«01_k».proof.Defs
public import proofs.«01_k».proof.Proof.Conv
public import proofs.«01_k».proof.Proof.MixerRow
public import proofs.«01_k».proof.Proof.Gen.PoolTReferenceIdeal.Run

@[expose] public section

set_option maxRecDepth 16384

noncomputable section

namespace Cert.Proof.PoolT

open Idealize.ShloMosaic Idealize.ShloMosaic.TcCoe Idealize.SL.Sem Cert.Proof.Product Cert.Proof.Conv
open Cert.Proof.MixerPost (at₂ count count_word count_div row_word)

/-- Row `q` and the `n` rows after it, added in turn. -/
def sums (R : ℕ → ℕ → EReal) (q c : ℕ) : ℕ → EReal
  | 0 => R q c
  | n + 1 => sums R q c n + R (n + 1 + q) c

/-- The gradient at row `q` of a window of `w` rows; the rows of `R` begin at row `b`. -/
def back (R : ℕ → ℕ → EReal) (b w q c : ℕ) : EReal := sums R q c (w - 1) - R q c * count w (b + q)

/-- The window of column `c`. -/
def window (c : ℕ) : ℕ := 2 * 2 ^ (c / 128)

theorem window_le {c : ℕ} (hc : c < 512) : window c ≤ 16 :=
  (Nat.mul_le_mul_left 2 (Nat.pow_le_pow_right (by norm_num) (show c / 128 ≤ 3 by omega))).trans (by norm_num)

theorem window_group (g : ℕ) {l : ℕ} (hl : l < 128) : window (g * 128 + l) = 2 * 2 ^ g := by
  unfold window
  rw [show (g * 128 + l) / 128 = g by omega]

theorem sums_shift {R R' : ℕ → ℕ → EReal} {b q c : ℕ} (hR : ∀ q < 208, R q c = R' (b + q) c) (hq : q < 192) : ∀ n < 16, sums R q c n = sums R' (b + q) c n
  | 0, _ => hR _ (by omega)
  | n + 1, h => by
    unfold sums
    rw [sums_shift hR hq n (by omega), hR _ (by omega), Nat.add_left_comm]

theorem back_shift {R R' : ℕ → ℕ → EReal} {b q c w : ℕ} (hR : ∀ q < 208, R q c = R' (b + q) c) (hq : q < 192) (hw : w ≤ 16) :
    back R b w q c = back R' 0 w (b + q) c := by
  unfold back
  rw [sums_shift hR hq _ (by omega), hR _ (by omega), Nat.zero_add]

/-- The gradient, whole. -/
def all (X : Mat 8256 512) : Mat 8256 512 := fun i => back (cell X) 0 (window (i 1).val) (i 0).val (i 1).val

section Reference

open Cert.PoolTReferenceIdeal Cert.PoolTReferenceIdeal.Gen Cert.PoolTReferenceIdeal.Value

variable (V0 : Valuation τ sig (Elt Ideal))

abbrev given' : Mat 8256 512 := V0 (Proc.devRef .tc main_arg0)

theorem word (w : BitVec 32) : id (constantI S_ 32 w) ix0 = w := rfl

/-- A group's columns of the argument. -/
theorem group_at (k : ℕ) (r : Fin 8256) (l : Fin 128) {h : k + l.val < 512} : given' V0 (ix2 r ⟨k + l.val, h⟩) = cell (given' V0) r.val (k + l.val) :=
  read_cell (given' V0) _ _ _ rfl rfl

/-- Multiplied by the counts and divided by them, in turn. -/
theorem kept₁ (r : Fin 8256) (l : Fin 128) : res_main_v227 (F := Ideal) V0 (ix2 r l) = cell (given' V0) r.val l.val := by
  pointwise [res_main_v227, res_main_v61, res_main_v38, word, count_word]
  exact (count_div _ (by norm_num) (by norm_num) _).trans (at₂ (given' V0) _ _)

theorem kept₂ (r : Fin 8256) (l : Fin 128) : res_main_v215 (F := Ideal) V0 (ix2 r l) = cell (given' V0) r.val (128 + l.val) := by
  pointwise [res_main_v215, res_main_v81, res_main_v40, word, count_word]
  exact (count_div _ (by norm_num) (by norm_num) _).trans (at₂ (given' V0) _ _)

theorem kept₃ (r : Fin 8256) (l : Fin 128) : res_main_v195 (F := Ideal) V0 (ix2 r l) = cell (given' V0) r.val (256 + l.val) := by
  pointwise [res_main_v195, res_main_v109, res_main_v42, word, count_word]
  exact (count_div _ (by norm_num) (by norm_num) _).trans (at₂ (given' V0) _ _)

theorem kept₄ (r : Fin 8256) (l : Fin 128) : res_main_v159 (F := Ideal) V0 (ix2 r l) = cell (given' V0) r.val (384 + l.val) := by
  pointwise [res_main_v159, res_main_v153, res_main_v44, word, count_word]
  exact (count_div _ (by norm_num) (by norm_num) _).trans (at₂ (given' V0) _ _)

/-- The rows ahead of row `q`, the farthest first. -/
def far (R : ℕ → ℕ → EReal) (q c s : ℕ) : ℕ → EReal
  | 0 => R (s + q) c
  | n + 1 => far R q c s n + R (s - (n + 1) + q) c

theorem pad_cell (X : Mat 8256 512) {lo n T c : ℕ} (s r : ℕ) (hn : lo + s = n) {hr : n + r < T} {l : Fin 128}
    {f : (∀ a : Fin 2, (![lo, 0] : Fin 2 → ℕ) a ≤ (ix2 (n0 := T) ⟨n + r, hr⟩ l a).val
      ∧ ((ix2 (n0 := T) ⟨n + r, hr⟩ l a).val - (![lo, 0] : Fin 2 → ℕ) a) % ((![0, 0] : Fin 2 → ℕ) a + 1) = 0
      ∧ ((ix2 (n0 := T) ⟨n + r, hr⟩ l a).val - (![lo, 0] : Fin 2 → ℕ) a) / ((![0, 0] : Fin 2 → ℕ) a + 1) < (⟨2, ![8256, 128]⟩ : Shape).size a) → EReal}
    (hf : ∀ h, f h = cell X (s + r) c) : (if h : _ then f h else 0) = cell X (s + r) c :=
  pad_row s r hn (fun h => cell_past X (by omega) c) fun _ => hf

theorem ahead₁ (r : Fin 8256) (l : Fin 128) :
    res_main_v229 (F := Ideal) V0 (ix2 ⟨1 + r.val, by omega⟩ l) = far (cell (given' V0)) r.val l.val 1 0 := by
  have h := kept₁ V0
  pointwise [res_main_v229, h]
  simp only [far]
  refine pad_cell (given' V0) _ r.val ?_ fun _ => ?_
  all_goals first | rfl | exact congrArg (cell (given' V0) · _) (by omega)

theorem ahead₂ (r : Fin 8256) (l : Fin 128) :
    res_main_v221 (F := Ideal) V0 (ix2 ⟨3 + r.val, by omega⟩ l) = far (cell (given' V0)) r.val (128 + l.val) 3 2 := by
  have h := kept₂ V0
  pointwise [res_main_v221, h]
  simp only [far, Nat.reduceSub, Nat.reduceAdd]
  repeat' refine congrArg₂ (· + ·) ?_ ?_
  all_goals refine pad_cell (given' V0) _ r.val ?_ fun _ => ?_
  all_goals first | rfl | exact congrArg (cell (given' V0) · _) (by omega)

theorem ahead₃ (r : Fin 8256) (l : Fin 128) :
    res_main_v209 (F := Ideal) V0 (ix2 ⟨7 + r.val, by omega⟩ l) = far (cell (given' V0)) r.val (256 + l.val) 7 6 := by
  have h := kept₃ V0
  pointwise [res_main_v209, h]
  simp only [far, Nat.reduceSub, Nat.reduceAdd]
  repeat' refine congrArg₂ (· + ·) ?_ ?_
  all_goals refine pad_cell (given' V0) _ r.val ?_ fun _ => ?_
  all_goals first | rfl | exact congrArg (cell (given' V0) · _) (by omega)

theorem ahead₄ (r : Fin 8256) (l : Fin 128) :
    res_main_v189 (F := Ideal) V0 (ix2 ⟨15 + r.val, by omega⟩ l) = far (cell (given' V0)) r.val (384 + l.val) 15 14 := by
  have h := kept₄ V0
  pointwise [res_main_v189, h]
  simp only [far, Nat.reduceSub, Nat.reduceAdd]
  repeat' refine congrArg₂ (· + ·) ?_ ?_
  all_goals refine pad_cell (given' V0) _ r.val ?_ fun _ => ?_
  all_goals first | rfl | exact congrArg (cell (given' V0) · _) (by omega)

/-- The reference's order of adding, for a window. -/
theorem back_far (R : ℕ → ℕ → EReal) (q c g : ℕ) (hg : g < 4) :
    -(R q c * MixerPost.count (2 * 2 ^ g) q) + R q c + far R q c (2 * 2 ^ g - 1) (2 * 2 ^ g - 2) = back R 0 (2 * 2 ^ g) q c := by
  interval_cases g
  all_goals
    simp only [far, back, sums, Nat.reduceSub, Nat.reduceMul, Nat.reducePow, Nat.reduceAdd, Nat.zero_add, sub_eq_add_neg]
    ac_rfl

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v234) = all (given' (StableHlo.launchContents m c))
        ∧ r.2.mem ((c.tc : Thread nD τ).loc main_arg0) = m ((c.tc : Thread nD τ).loc main_arg0) := by
  refine (θ_run _ _ _).mono (fun r h c => ⟨(h c).1.trans ?_, (h c).2⟩) (Cert.PoolTReferenceIdeal.Value.run (F := Ideal) m ρ)
  clear h
  generalize StableHlo.launchContents m c = V0
  have h1 := kept₁ V0
  have h2 := kept₂ V0
  have h3 := kept₃ V0
  have h4 := kept₄ V0
  have a1 := ahead₁ V0
  have a2 := ahead₂ V0
  have a3 := ahead₃ V0
  have a4 := ahead₄ V0
  have h := at₂ (given' V0)
  funext i
  rw [eq_ix2 (n0 := 8256) (n1 := 512) i]
  obtain ⟨r, hr⟩ : ∃ r : Fin 8256, r = i 0 := ⟨_, rfl⟩
  obtain ⟨d, hd⟩ : ∃ d : Fin 512, d = i 1 := ⟨_, rfl⟩
  rw [← hr, ← hd]
  pointwise [h1, h2, h3, h4, a1, a2, a3, a4, h, res_main_v38, res_main_v40, res_main_v42, res_main_v44, word, count_word]
  have f := fun g hg => back_far (cell (given' V0)) r.val d.val g hg
  show _ = back (cell (given' V0)) 0 (2 * 2 ^ (d.val / 128)) r.val d.val
  split_ifs with c1 c2 c3
  · rw [show d.val / 128 = 0 by omega]
    exact f 0 (by omega)
  · rw [show 128 + (d.val - 128) = d.val by omega, show d.val / 128 = 1 by omega]
    exact f 1 (by omega)
  · rw [show 256 + (d.val - 128 - 128) = d.val by omega, show d.val / 128 = 2 by omega]
    exact f 2 (by omega)
  · rw [show 384 + (d.val - 128 - 128 - 128) = d.val by omega, show d.val / 128 = 3 by omega]
    exact f 3 (by omega)

end Reference

end Cert.Proof.PoolT

end
-- ==== Proof.PoolT.lean ====
/-
  The gradient of the pooling: each row takes its own entry and those of the rows ahead, less its own times the count.
-/
module

public import proofs.«01_k».proof.Defs
public import proofs.«01_k».proof.Proof.Conv
public import proofs.«01_k».proof.Proof.PoolTRef
public import Idealize.ShloMosaic.Lib.Quiescent
public import proofs.«01_k».proof.Proof.Gen.PoolTKernelIdeal.Value

@[expose] public section

set_option maxRecDepth 16384

noncomputable section

namespace Cert.Proof.PoolT

open Idealize.ShloMosaic Idealize.ShloMosaic.TcCoe Idealize.SL.Sem Cert.Proof.Product Cert.Proof.Conv
open Cert.Proof.MixerPost (at₂ count count_word count_div row_word)

section Kernel

open Cert.PoolTKernelIdeal Cert.PoolTKernelIdeal.Gen

theorem z2 : (![0, 0] : Fin 2 → ℕ) = fun _ => 0 := by decide

theorem halo_at (i : grid0.Coords) (y : Vec Ideal S16x512 .f32) (j : S16x512.Idx) :
    k0_pay3 (F := Ideal) i y j = if (i 0).val = 42 then 0 else y j := by
  have hi : (i 0).val < 43 := (i 0).isLt
  rw [eq_ix2 (n0 := 16) (n1 := 512) j]
  pointwise [k0_pay3]
  exact select_last hi _

/-- The gradient on a block whose rows and the rows after them are `E`, which begin at row `b`. -/
def part (E : Mat 208 512) (b : ℕ) : Mat 192 512 := fun i => back (cell E) b (window (i 1).val) (i 0).val (i 1).val

theorem part_at (E : Mat 208 512) (b g : ℕ) {k : ℕ}
    {hk : ∀ a, (![0, k] : Fin 2 → ℕ) a + (![192, 128] : Fin 2 → ℕ) a ≤ (⟨2, ![192, 512]⟩ : Shape).size a} (hg : g * 128 = k)
    (x : (Rect.unit (s := ⟨2, ![192, 512]⟩) ![0, k] ![192, 128] hk).shape.Idx) :
    part E b ((Rect.unit (s := ⟨2, ![192, 512]⟩) ![0, k] ![192, 128] hk).emb x) = back (cell E) b (2 * 2 ^ g) (x 0).val (k + (x 1).val) := by
  unfold part
  subst hg
  rw [piece_row, piece_col, window_group g (show (x 1).val < 128 from (x 1).isLt)]

set_option maxHeartbeats 2000000 in
/-- What the body leaves in its output. -/
theorem left (c : Dev nD) (i : grid0.Coords) (arg1 : Memref sig .tc .vmem S192x512 .f32) (harg1 : arg1.IsWhole)
    (arg2 : Memref sig .tc .vmem S16x512 .f32) (harg2 : arg2.IsWhole) (arg3 : Memref sig .tc .vmem S192x512 .bf16) (harg3 : arg3.IsWhole)
    (arg4 : Memref sig .tc .vmem S208x512 .f32) (harg4 : arg4.IsWhole) (x0 : Vec Ideal S192x512 .f32) (x1 : Vec Ideal S16x512 .f32) :
    out0_A_2 (F := Ideal) c i arg1 harg1 arg2 harg2 arg3 harg3 arg4 harg4 x0 x1 = part (ext ((i 0).val = 42) x0 x1) ((i 0).val * 192) := by
  obtain ⟨E, hE⟩ : ∃ E, E = ext ((i 0).val = 42) x0 x1 := ⟨_, rfl⟩
  rw [← hE]
  have hc := cover0_A_2 (F := Ideal) c i arg1 harg1 arg2 harg2 arg3 harg3 arg4 harg4 x0 x1
  have hf := filled (last := (i 0).val = 42) x0 x1 (k0_pay3 (F := Ideal) i x1) (halo_at i x1) inb_S208x512_S16x512_192_0 inb_S208x512_S192x512_0_0
  have e : k0_pay2 (F := Ideal) x0 = x0 := by
    funext j
    rw [eq_ix2 (n0 := 192) (n1 := 512) j]
    pointwise [k0_pay2]
  have hE₂ := at₂ E
  unfold out0_A_2
  rw [View.read_writes_eq_canon _ _ _ hc]
  funext y
  refine View.canon_apply_of_pieces (Val := Elt Ideal) (e := .bf16) (part E ((i 0).val * 192)) _ (View.PiecesOf.mem (Val := Elt Ideal) (e := .bf16) (G := part E ((i 0).val * 192)) ?_) y (hc y)
  unfold kernelRun0_A
  dsimp only
  sl_unfold_words
  simp only [View.readAt_eq_ld, Memref.IsWhole.read_unread, View.readCov_eq_canon', View.ld_unit_zero (S := S192x512) z2,
    View.ld_unit_zero (S := S16x512) z2, e]
  rw [hf.trans hE.symm]
  repeat' refine And.intro (fun x => ?_) ?_
  rotate_right
  · exact trivial
  all_goals
    first
      | refine Eq.trans ?_ (part_at E _ 3 (hk := by decide) rfl x).symm
      | refine Eq.trans ?_ (part_at E _ 2 (hk := by decide) rfl x).symm
      | refine Eq.trans ?_ (part_at E _ 1 (hk := by decide) rfl x).symm
      | refine Eq.trans ?_ (part_at E _ 0 (hk := by decide) rfl x).symm
    rw [eq_ix2 (n0 := 192) (n1 := 128) x]
    pointwise [k0_pay1, k0_pay4, k0_pay5, k0_pay6, k0_pay7, k0_pay8, k0_pay9, hE₂, row_word]
    simp only [back, sums, Nat.zero_add]
    rfl

variable (m : (ℓ : Loc nD τ sig) → Buf (Elt Ideal) ℓ) (c : Dev nD)

abbrev given : Mat 8256 512 := m ((c : Thread nD τ).loc main_arg0)

theorem place : ∀ t : Fin cfg0.N, win0_0.index t = ![t.val, 0] ∧ win0_1.index t = ![min ((t.val + 1) * 12) 515, 0]
    ∧ win0_2.index t = ![t.val, 0] ∧ (grid0.coords t 0).val = t.val :=
  (by decide +kernel : ∀ t : Fin grid0.N, win0_0.index t = ![t.val, 0] ∧ win0_1.index t = ![min ((t.val + 1) * 12) 515, 0]
    ∧ win0_2.index t = ![t.val, 0] ∧ (grid0.coords t 0).val = t.val)

variable (t : Fin cfg0.N)

theorem below : t.val < 43 := lt_of_lt_of_eq t.isLt N_0

theorem blk_rows (p : Fin 192) (l : Fin 512) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_next (ht : t.val < 42) (p : Fin 16) (l : Fin 512) : iblk m c 1 t (ix2 p l) = cell (given m c) (t.val * 192 + (192 + p.val)) l.val := by
  refine Eq.trans ?_ (read_cell (given m c) (ix2 ⟨t.val * 192 + (192 + p.val), by omega⟩ l) _ _ rfl rfl)
  have e : min ((t.val + 1) * 12) 515 = (t.val + 1) * 12 := by omega
  blk_ext! [iblk, V, place t, e]

/-- The result of the kernel, whole. -/
theorem whole : (dats m 0 c).arrAt 2 cfg0.N = all (given m c) := by
  refine (dats m 0 c).arrAt_eq_of_covers 2 _ (by decide +kernel) fun t hf y => ?_
  have ht := below t
  blk_simp
  rw [after0_2]
  have e : (win0_2.blk t).view.emb y = ix2 ⟨t.val * 192 + (y 0).val, by have : (y 0).val < 192 := (y 0).isLt; omega⟩ (y 1 : Fin 512) := by
    blk_ext! [place t]
  rw [e]
  unfold outsAt0
  rw [left, (place t).2.2.2]
  have hy : (y 1).val < 512 := (y 1).isLt
  refine back_shift (fun q hq => ?_) (y 0).isLt (window_le hy)
  exact cell_ext (given m c) ht Iff.rfl (blk_rows m c t) (fun h => blk_next m c t h) hq hy

end Kernel

/-- The reference's run: its argument is kept, and it has no semaphore. -/
theorem frame_reference : Cert.quiescent_PoolTReferenceIdeal (hPoolTReferenceIdeal := Cert.PoolTReferenceIdeal.Gen.facts) :=
  fun m ρ _ => (θ_run (Cert.PoolTReferenceIdeal.defs (F := Ideal)) _ _).mono
    (fun r h => ⟨fun c => (h c).2, sem_eq_zero_of_no_sems (by decide) r.2⟩) (Cert.PoolTReferenceIdeal.Value.run (F := Ideal) m ρ)

/-- The kernel's result is the reference's. -/
theorem algebraic : Cert.algebraic_PoolTKernelIdeal_PoolTReferenceIdeal := fun m ρ m' ρ' _ agree =>
  ⟨fun c => all (given m c),
    (θ_run _ _ _).mono (fun r h c => ⟨(h c).1.trans (whole m c), (h c).2⟩) (Cert.PoolTKernelIdeal.Value.run_blocks (F := Ideal) m ρ),
    (θ_run _ _ _).mono (fun r h c => ⟨(h c).1.trans (congrArg all (agree c)), (h c).2⟩) (run_all m' ρ')⟩

end Cert.Proof.PoolT

end
-- ==== Proof.Before.lean ====
/-
  A block of rows with the rows before it. Shared by the end of the mixer's forward pass and the gated MLP's activation.
-/
module

public import proofs.«01_k».proof.Defs
public import proofs.«01_k».proof.Proof.Product
public import Idealize.ShloMosaic.Lib.Pipeline.ValueKit
public import Idealize.ShloMosaic.Lib.Pipeline.ReadBack
public import Idealize.ShloMosaic.Lib.WordCmp

@[expose] public section

noncomputable section

namespace Cert.Proof.Before

open Idealize.ShloMosaic Cert.Proof.Product

variable {A B W : ℕ}

/-- The `A` rows before a block, zero before the first block, then the block. -/
def ext (first : Prop) [Decidable first] (y : Mat A W) (x : Mat 192 W) : Mat B W := fun i =>
  if (i 0).val < A then if first then 0 else cell y (i 0).val (i 1).val else cell x ((i 0).val - A) (i 1).val

/-- A choice between a value and zero by comparing the block's number with zero. -/
theorem select_first {n : ℕ} (h : n < 43) (v : EReal) :
    Scalar.select (Scalar.cmpi .sgt (BitVec.ofNat 32 n) 0#32) v 0 = if n = 0 then 0 else v := by
  have e : Scalar.cmpi .sgt (BitVec.ofNat 32 n) 0#32 = BitVec.ofBool (decide (0 < n)) := WordCmp.cmpi_sgt_ofNat (by omega) (by norm_num)
  rw [e]
  rcases Nat.eq_zero_or_pos n with h1 | h1
  · simp [h1, Scalar.select]
  · simp [h1, show n ≠ 0 by omega, Scalar.select]

/-- The two pieces of the extended block, read back. -/
theorem filled (hB : A + 192 = B) {first : Prop} [Decidable first] (x : Mat 192 W) (y z : Mat A W) (hz : ∀ i, z i = if first then 0 else y i)
    (hx : ∀ a, (![A, 0] : Fin 2 → ℕ) a + (![192, W] : Fin 2 → ℕ) a ≤ (⟨2, ![B, W]⟩ : Shape).size a)
    (hy : ∀ a, (![0, 0] : Fin 2 → ℕ) a + (![A, W] : Fin 2 → ℕ) a ≤ (⟨2, ![B, W]⟩ : Shape).size a) :
    View.canon (Val := Elt Ideal) (e := .f32) [⟨Rect.unit (s := ⟨2, ![B, W]⟩) ![A, 0] ![192, W] hx, x⟩,
      ⟨Rect.unit (s := ⟨2, ![B, W]⟩) ![0, 0] ![A, W] hy, z⟩] = ext first y x := by
  funext i
  have h0 : (i 0).val < B := (i 0).isLt
  have h1 : (i 1).val < W := (i 1).isLt
  refine View.canon_apply_of_pieces (Val := Elt Ideal) (e := .f32) (ext first y x) _ (View.PiecesOf.mem ?_) i ?_
  refine And.intro (fun j => ?_) (And.intro (fun j => ?_) trivial)
  · have e : (Rect.unit (s := ⟨2, ![B, W]⟩) ![A, 0] ![192, W] hx).emb j
        = ix2 ⟨A + (j 0).val, by have : (j 0).val < 192 := (j 0).isLt; omega⟩ (j 1 : Fin W) := by
      funext a
      match a with
      | ⟨0, _⟩ => exact Fin.ext (congrArg (A + ·) (Nat.one_mul (j 0).val))
      | ⟨1, _⟩ => exact Fin.ext ((Nat.zero_add _).trans (Nat.one_mul (j 1).val))
    rw [e]
    unfold ext
    refine Eq.trans ?_ (if_neg (show ¬A + (j 0).val < A by omega)).symm
    exact read_cell x j (A + (j 0).val - A) (j 1).val (by omega) rfl
  · have e : (Rect.unit (s := ⟨2, ![B, W]⟩) ![0, 0] ![A, W] hy).emb j
        = ix2 ⟨(j 0).val, by have : (j 0).val < A := (j 0).isLt; omega⟩ (j 1 : Fin W) := by
      funext a
      match a with
      | ⟨0, _⟩ => exact Fin.ext ((Nat.zero_add _).trans (Nat.one_mul (j 0).val))
      | ⟨1, _⟩ => exact Fin.ext ((Nat.zero_add _).trans (Nat.one_mul (j 1).val))
    rw [e]
    refine (hz j).trans ?_
    unfold ext
    refine Eq.trans ?_ (if_pos (show (j 0).val < A from (j 0).isLt)).symm
    exact congrArg (ite first 0 ·) (read_cell y j _ _ rfl rfl)
  · by_cases h : (i 0).val < A
    · refine ⟨_, List.mem_cons_of_mem _ List.mem_cons_self, (Rect.mem_set_unit (inb := hy)).2 fun a => ?_⟩
      match a with
      | ⟨0, _⟩ => exact ⟨Nat.zero_le _, show (i 0).val < 0 + A by omega⟩
      | ⟨1, _⟩ => exact ⟨Nat.zero_le _, show (i 1).val < 0 + W by omega⟩
    · refine ⟨_, List.mem_cons_self, (Rect.mem_set_unit (inb := hx)).2 fun a => ?_⟩
      match a with
      | ⟨0, _⟩ => exact ⟨show A ≤ (i 0).val by omega, show (i 0).val < A + 192 by omega⟩
      | ⟨1, _⟩ => exact ⟨Nat.zero_le _, show (i 1).val < 0 + W by omega⟩

/-- A row of the array with `A` rows of zeros before it. -/
def past (A : ℕ) {M : ℕ} (X : Mat M W) (q c : ℕ) : EReal := if q < A then 0 else cell X (q - A) c

/-- An array whose block `t` is `x`, preceded by the rows `y`: the extended block reads the array with `A` rows of zeros before it. -/
theorem cell_ext (hB : A + 192 = B) (hA : A ≤ 192) (X : Mat 8256 W) {t : ℕ} {first : Prop} [Decidable first] (hl : first ↔ t = 0)
    {x : Mat 192 W} {y : Mat A W}
    (hx : ∀ (p : Fin 192) (c : Fin W), x (ix2 p c) = cell X (t * 192 + p.val) c.val)
    (hy : 0 < t → ∀ (p : Fin A) (c : Fin W), y (ix2 p c) = cell X (t * 192 + p.val - A) c.val)
    {q c : ℕ} (hq : q < B) (hc : c < W) : cell (M := B) (ext first y x) q c = past A X (t * 192 + q) c := by
  rw [← read_cell (ext first y x) (ix2 (n0 := B) ⟨q, hq⟩ ⟨c, hc⟩) q c rfl rfl]
  unfold ext past
  show (if q < A then if first then 0 else cell y q c else cell x (q - A) c) = _
  by_cases h : q < A
  · rw [if_pos h]
    by_cases h0 : first
    · have := hl.1 h0
      rw [if_pos h0, if_pos (by omega)]
    · have ht : t ≠ 0 := fun e => h0 (hl.2 e)
      rw [if_neg h0, if_neg (by omega), ← hy (by omega) ⟨q, h⟩ ⟨c, hc⟩]
      exact (read_cell y (ix2 ⟨q, h⟩ ⟨c, hc⟩) q c rfl rfl).symm
  · rw [if_neg h, if_neg (by omega), show t * 192 + q - A = t * 192 + (q - A) by omega, ← hx ⟨q - A, by omega⟩ ⟨c, hc⟩]
    exact (read_cell x (ix2 ⟨q - A, by omega⟩ ⟨c, hc⟩) (q - A) c rfl rfl).symm

/-- The row itself. -/
theorem past_self {M : ℕ} (X : Mat M W) (r : Fin M) (c : Fin W) : X (ix2 r c) = past A X (A + r.val) c.val := by
  unfold past
  rw [if_neg (by omega), Nat.add_sub_cancel_left]
  exact read_cell X _ _ _ rfl rfl

/-- A row of an array padded with `n` rows of zeros. -/
theorem past_padded {M : ℕ} (X : Mat M W) {i n q c : ℕ} (hn : n ≤ A) (hq : q + n = A + i) {f : ¬i < n → EReal}
    (hf : ∀ h, f h = past A X (A + (i - n)) c) : (if h : i < n then 0 else f h) = past A X q c := by
  by_cases h : i < n
  · rw [dif_pos h]
    unfold past
    rw [if_pos (by omega)]
  · rw [dif_neg h, hf, show A + (i - n) = q by omega]

end Cert.Proof.Before

end
-- ==== Proof.FfnActRef.lean ====
/-
  The gated MLP's activation: the causal three-tap convolution, then one half's silu times the other half; the reference's
  result is that.
-/
module

public import proofs.«01_k».proof.Defs
public import proofs.«01_k».proof.Proof.MixerRow
public import proofs.«01_k».proof.Proof.Before
public import proofs.«01_k».proof.Proof.Gen.FfnActReferenceIdeal.Run
public import Idealize.ShloMosaic.Lib.Pipeline.ValueKit
public import Idealize.ShloMosaic.Lib.Pipeline.ReadBack

@[expose] public section

set_option maxRecDepth 16384

noncomputable section

namespace Cert.Proof.FfnAct

open Idealize.ShloMosaic Idealize.ShloMosaic.TcCoe Idealize.SL.Sem Cert.Proof.Product Cert.Proof.Before
open Cert.Proof.MixerPost (sg at₂)

/-- The three taps at row `q`, which `P` holds at `8 + q`, in the order the kernel adds them. -/
def conv (P w : ℕ → ℕ → EReal) (q c : ℕ) : EReal := P (8 + q) c * w 2 c + P (6 + q) c * w 0 c + P (7 + q) c * w 1 c

/-- The silu of column `c` times column `d`. -/
def act (P w : ℕ → ℕ → EReal) (q c d : ℕ) : EReal := conv P w q c * sg (conv P w q c) * conv P w q d

/-- The activation, whole. -/
def all (X : Mat 8256 5632) (w : Mat 8 5632) : Mat 8256 2816 := fun i =>
  act (past 8 X) (cell w) (i 0).val (i 1).val (2816 + (i 1).val)

theorem act_shift {P P' w : ℕ → ℕ → EReal} {b q c d : ℕ} (hP : ∀ q < 200, ∀ c < 5632, P q c = P' (b + q) c) (hq : q < 192)
    (hc : c < 5632) (hd : d < 5632) : act P w q c d = act P' w (b + q) c d := by
  unfold act conv
  simp only [hP _ (show 8 + q < 200 by omega) _ hc, hP _ (show 7 + q < 200 by omega) _ hc, hP _ (show 6 + q < 200 by omega) _ hc,
    hP _ (show 8 + q < 200 by omega) _ hd, hP _ (show 7 + q < 200 by omega) _ hd, hP _ (show 6 + q < 200 by omega) _ hd,
    Nat.add_left_comm b]

/-- The taps as the reference adds them, from the array with two rows of zeros before it. -/
theorem taps (X : Mat 8256 5632) (w : Mat 8 5632) (r : Fin 8256) (c : Fin 5632) :
    (if h : r.val < 2 then 0 else X (ix2 ⟨r.val - 2, by omega⟩ c)) * w (ix2 0 c)
        + (if h : 1 + r.val < 2 then 0 else X (ix2 ⟨1 + r.val - 2, by omega⟩ c)) * w (ix2 1 c) + X (ix2 r c) * w (ix2 2 c)
      = conv (past 8 X) (cell w) r.val c.val := by
  rw [past_padded (A := 8) (q := 6 + r.val) X (by decide) (by omega) fun _ => past_self X _ _,
    past_padded (A := 8) (q := 7 + r.val) X (by decide) (by omega) fun _ => past_self X _ _, past_self (A := 8) X r c, at₂ w, at₂ w, at₂ w]
  unfold conv
  show past 8 X (6 + r.val) c.val * cell w 0 c.val + past 8 X (7 + r.val) c.val * cell w 1 c.val + past 8 X (8 + r.val) c.val * cell w 2 c.val = _
  ac_rfl

section Reference

open Cert.FfnActReferenceIdeal Cert.FfnActReferenceIdeal.Value

variable (m : (ℓ : Loc nD τ sig) → Buf (Elt Ideal) ℓ) (c : Dev nD)

abbrev given' : Mat 8256 5632 := m ((c.tc : Thread nD τ).loc main_arg0)
abbrev weights' : Mat 8 5632 := m ((c.tc : Thread nD τ).loc main_arg1)

set_option maxHeartbeats 1000000 in
theorem result : res_main_v27 (F := Ideal) m c = all (given' m c) (weights' m c) := by
  funext i
  obtain ⟨r, hr⟩ : ∃ r : Fin 8256, r = i 0 := ⟨_, rfl⟩
  obtain ⟨d, hd⟩ : ∃ d : Fin 2816, d = i 1 := ⟨_, rfl⟩
  rw [eq_ix2 (n0 := 8256) (n1 := 2816) i, ← hr, ← hd]
  pointwise [res_main_v27]
  have e := taps (given' m c) (weights' m c) r
  exact congrArg₂ (· * ·) (congrArg₂ (· * ·) (e ⟨d.val, by omega⟩) (congrArg sg (e ⟨d.val, by omega⟩))) (e ⟨2816 + d.val, by omega⟩)

end Reference

end Cert.Proof.FfnAct

end
-- ==== Proof.FfnAct.lean ====
/-
  The gated MLP's activation: the call `_ffn_act`.
-/
module

public import proofs.«01_k».proof.Defs
public import proofs.«01_k».proof.Proof.Conv
public import proofs.«01_k».proof.Proof.FfnActRef
public import Idealize.ShloMosaic.Lib.Quiescent
public import proofs.«01_k».proof.Proof.Gen.FfnActKernelIdeal.Value
public import Idealize.ShloMosaic.Lib.Pipeline.ValueKit
public import Idealize.ShloMosaic.Lib.Pipeline.ReadBack

@[expose] public section

set_option maxRecDepth 16384

noncomputable section

namespace Cert.Proof.FfnAct

open Idealize.ShloMosaic Idealize.ShloMosaic.TcCoe Idealize.SL.Sem Cert.Proof.Product Cert.Proof.Before
open Cert.Proof.Conv (piece_row piece_col)
open Cert.Proof.MixerPost (sg at₂)

section Kernel

open Cert.FfnActKernelIdeal Cert.FfnActKernelIdeal.Gen

theorem z2 : (![0, 0] : Fin 2 → ℕ) = fun _ => 0 := by decide

theorem halo_at (i : grid0.Coords) (y : Vec Ideal S8x5632 .f32) (j : S8x5632.Idx) :
    k0_pay2 (F := Ideal) i y j = if (i 0).val = 0 then 0 else y j := by
  have hi : (i 0).val < 43 := (i 0).isLt
  rw [eq_ix2 (n0 := 8) (n1 := 5632) j]
  pointwise [k0_pay2]
  exact select_first hi _

/-- The activation on a block, from the extended block `E`. -/
def part (E : Mat 200 5632) (w : Mat 8 5632) : Mat 192 2816 := fun i => act (cell E) (cell w) (i 0).val (i 1).val (2816 + (i 1).val)

theorem part_at (E : Mat 200 5632) (w : Mat 8 5632) {k : ℕ}
    {hk : ∀ a, (![0, k] : Fin 2 → ℕ) a + (![192, 128] : Fin 2 → ℕ) a ≤ (⟨2, ![192, 2816]⟩ : Shape).size a}
    (x : (Rect.unit (s := ⟨2, ![192, 2816]⟩) ![0, k] ![192, 128] hk).shape.Idx) :
    part E w ((Rect.unit (s := ⟨2, ![192, 2816]⟩) ![0, k] ![192, 128] hk).emb x)
      = act (cell E) (cell w) (x 0).val (k + (x 1).val) (2816 + k + (x 1).val) := by
  unfold part
  rw [piece_row, piece_col, Nat.add_assoc]

set_option maxHeartbeats 2000000 in
/-- What the body leaves in its output. -/
theorem left (c : Dev nD) (i : grid0.Coords) (arg1 : Memref sig .tc .vmem S192x5632 .f32) (harg1 : arg1.IsWhole)
    (arg2 : Memref sig .tc .vmem S8x5632 .f32) (harg2 : arg2.IsWhole) (arg3 : Memref sig .tc .vmem S8x5632 .f32) (harg3 : arg3.IsWhole)
    (arg4 : Memref sig .tc .vmem S192x2816 .bf16) (harg4 : arg4.IsWhole) (arg5 : Memref sig .tc .vmem S200x5632 .f32) (harg5 : arg5.IsWhole)
    (x0 : Vec Ideal S192x5632 .f32) (x1 : Vec Ideal S8x5632 .f32) (x2 : Vec Ideal S8x5632 .f32) :
    out0_A_3 (F := Ideal) c i arg1 harg1 arg2 harg2 arg3 harg3 arg4 harg4 arg5 harg5 x0 x1 x2 = part (ext ((i 0).val = 0) x1 x0) x2 := by
  obtain ⟨E, hE⟩ : ∃ E : Mat 200 5632, E = ext ((i 0).val = 0) x1 x0 := ⟨_, rfl⟩
  rw [← hE]
  have hc := cover0_A_3 (F := Ideal) c i arg1 harg1 arg2 harg2 arg3 harg3 arg4 harg4 arg5 harg5 x0 x1 x2
  have hf := filled (A := 8) (B := 200) rfl (first := (i 0).val = 0) x0 x1 (k0_pay2 (F := Ideal) i x1) (halo_at i x1)
    inb_S200x5632_S192x5632_8_0 inb_S200x5632_S8x5632_0_0
  have e : k0_pay3 (F := Ideal) x0 = x0 := by
    funext j
    rw [eq_ix2 (n0 := 192) (n1 := 5632) j]
    pointwise [k0_pay3]
  have hE₂ := at₂ E
  have h2 := at₂ (N := 8) (W := 5632) x2
  unfold out0_A_3
  rw [View.read_writes_eq_canon _ _ _ hc]
  funext y
  refine View.canon_apply_of_pieces (Val := Elt Ideal) (e := .bf16) (part E x2) _ (View.PiecesOf.mem (Val := Elt Ideal) (e := .bf16) (G := part E x2) ?_) y (hc y)
  unfold kernelRun0_A
  dsimp only
  sl_unfold_words
  simp only [View.readAt_eq_ld, Memref.IsWhole.read_unread, View.readCov_eq_canon', View.ld_unit_zero (S := S192x5632) z2,
    View.ld_unit_zero (S := S8x5632) z2, e]
  rw [hf.trans hE.symm]
  repeat' refine And.intro (fun x => ?_) ?_
  rotate_right
  · exact trivial
  all_goals
    refine Eq.trans ?_ (part_at E x2 (hk := by decide) x).symm
    rw [eq_ix2 (n0 := 192) (n1 := 128) x]
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, hE₂, h2, zero_sub]
    simp only [act, conv, Nat.zero_add, Nat.add_zero, Nat.reduceAdd]
    rfl

variable (m : (ℓ : Loc nD τ sig) → Buf (Elt Ideal) ℓ) (c : Dev nD)

abbrev given : Mat 8256 5632 := m ((c : Thread nD τ).loc main_arg0)
abbrev weights : Mat 8 5632 := m ((c : Thread nD τ).loc main_arg1)

theorem place : ∀ t : Fin cfg0.N, win0_0.index t = ![t.val, 0] ∧ win0_1.index t = ![t.val * 24 - 1, 0] ∧ win0_2.index t = ![0, 0]
    ∧ win0_3.index t = ![t.val, 0] ∧ (grid0.coords t 0).val = t.val :=
  (by decide +kernel : ∀ t : Fin grid0.N, win0_0.index t = ![t.val, 0] ∧ win0_1.index t = ![t.val * 24 - 1, 0] ∧ win0_2.index t = ![0, 0]
    ∧ win0_3.index t = ![t.val, 0] ∧ (grid0.coords t 0).val = t.val)

variable (t : Fin cfg0.N)

theorem below : t.val < 43 := lt_of_lt_of_eq t.isLt N_0

theorem blk_rows (p : Fin 192) (l : Fin 5632) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_before (ht : 0 < t.val) (p : Fin 8) (l : Fin 5632) : iblk m c 1 t (ix2 p l) = cell (given m c) (t.val * 192 + p.val - 8) l.val := by
  have := below t
  refine Eq.trans ?_ (read_cell (given m c) (ix2 ⟨t.val * 192 + p.val - 8, by omega⟩ l) _ _ rfl rfl)
  blk_ext! [iblk, V, place t]

theorem blk_w : iblk m c 2 t = weights m c := by
  funext y
  blk_ext! [iblk, V, place t]

/-- The result of the kernel, whole. -/
theorem whole : (dats m 0 c).arrAt 3 cfg0.N = all (given m c) (weights m c) := by
  refine (dats m 0 c).arrAt_eq_of_covers 3 _ (by decide +kernel) fun t hf y => ?_
  have ht := below t
  blk_simp
  rw [after0_3]
  have e : (win0_3.blk t).view.emb y = ix2 ⟨t.val * 192 + (y 0).val, by have : (y 0).val < 192 := (y 0).isLt; omega⟩ (y 1 : Fin 2816) := by
    blk_ext! [place t]
  rw [e]
  unfold outsAt0
  rw [left, (place t).2.2.2.2, blk_w]
  have hy : (y 1).val < 2816 := (y 1).isLt
  refine act_shift (fun q hq l hl => ?_) (y 0).isLt (by omega) (by omega)
  exact cell_ext (A := 8) rfl (by decide) (given m c) Iff.rfl (blk_rows m c t) (fun h => blk_before m c t h) hq hl

end Kernel

/-- The reference's run: its arguments are kept, and it has no semaphore. -/
theorem frame_reference : Cert.quiescent_FfnActReferenceIdeal (hFfnActReferenceIdeal := Cert.FfnActReferenceIdeal.Gen.facts) :=
  fun m ρ _ => (θ_run (Cert.FfnActReferenceIdeal.defs (F := Ideal)) _ _).mono
    (fun r h => ⟨fun c => (h c).2, sem_eq_zero_of_no_sems (by decide) r.2⟩) (Cert.FfnActReferenceIdeal.Value.run (F := Ideal) m ρ)

/-- The kernel's result is the reference's. -/
theorem algebraic : Cert.algebraic_FfnActKernelIdeal_FfnActReferenceIdeal := fun m ρ m' ρ' _ agree => by
  refine ⟨fun c => all (given m c) (weights m c), ?_, ?_⟩
  · exact (θ_run _ _ _).mono (fun r h c => ⟨(h c).1.trans (whole m c), (h c).2⟩) (Cert.FfnActKernelIdeal.Value.run_blocks (F := Ideal) m ρ)
  · exact (θ_run _ _ _).mono (fun r h c => ⟨(h c).1.trans ((result m' c).trans (congrArg₂ all (agree c).1 (agree c).2)), (h c).2⟩)
      (Cert.FfnActReferenceIdeal.Value.run (F := Ideal) m' ρ')

end Cert.Proof.FfnAct

end
-- ==== Proof.FfnActBwdRef.lean ====
/-
  The gradient of the gated MLP's activation with respect to the convolution's two halves; on reals the reference's result
  is that.
-/
module

public import proofs.«01_k».proof.Defs
public import proofs.«01_k».proof.Proof.FfnActRef
public import proofs.«01_k».proof.Proof.Gen.FfnActBwdReferenceIdeal.Run
public import Idealize.ShloMosaic.Lib.Pipeline.ValueKit
public import Idealize.ShloMosaic.Lib.Pipeline.ReadBack

@[expose] public section

set_option maxRecDepth 16384

noncomputable section

namespace Cert.Proof.FfnActBwd

open Idealize.ShloMosaic Idealize.ShloMosaic.TcCoe Idealize.SL.Sem Cert.Proof.Product Cert.Proof.Before
open Cert.Proof.MixerPost (sg at₂)
open Cert.Proof.FfnAct (conv taps)

/-- The gradient at a gate `c`, of the product with the value `v`, from the gradient `d`: silu's derivative in the form the kernel takes. -/
def dgate (c v d : EReal) : EReal := d * v * sg c * (1 + c * (1 - sg c))

/-- The gradient at a value, whose gate is `c`. -/
def dval (c d : EReal) : EReal := d * c * sg c

/-- The gradient at row `q` and column `c`: the gates are the first 2816 columns, the values the rest. -/
def back (P w D : ℕ → ℕ → EReal) (q c : ℕ) : EReal :=
  if c < 2816 then dgate (conv P w q c) (conv P w q (2816 + c)) (D q c) else dval (conv P w q (c - 2816)) (D q (c - 2816))

/-- The gradient, whole. -/
def all (X : Mat 8256 5632) (w : Mat 8 5632) (D : Mat 8256 2816) : Mat 8256 5632 := fun i =>
  back (past 8 X) (cell w) (cell D) (i 0).val (i 1).val

/-- Every entry is a real. -/
abbrev IsReal {M N : ℕ} (x : Mat M N) : Prop := ∀ i, x i = ((x i).toReal : EReal)

theorem cell_real {M N : ℕ} {x : Mat M N} (h : IsReal x) (r c : ℕ) : ∃ a : ℝ, cell x r c = (a : EReal) := by
  unfold cell
  by_cases e : r < M ∧ c < N
  · rw [dif_pos e]
    exact ⟨_, h _⟩
  · rw [dif_neg e]
    exact ⟨0, EReal.coe_zero.symm⟩

theorem past_real {X : Mat 8256 5632} (h : IsReal X) (q c : ℕ) : ∃ a : ℝ, past 8 X q c = (a : EReal) := by
  unfold past
  by_cases e : q < 8
  · rw [if_pos e]
    exact ⟨0, EReal.coe_zero.symm⟩
  · rw [if_neg e]
    exact cell_real h _ _

theorem conv_real {X : Mat 8256 5632} {w : Mat 8 5632} (hX : IsReal X) (hw : IsReal w) (q c : ℕ) :
    ∃ a : ℝ, conv (past 8 X) (cell w) q c = (a : EReal) := by
  obtain ⟨x0, h0⟩ := past_real hX (6 + q) c
  obtain ⟨x1, h1⟩ := past_real hX (7 + q) c
  obtain ⟨x2, h2⟩ := past_real hX (8 + q) c
  obtain ⟨w0, k0⟩ := cell_real hw 0 c
  obtain ⟨w1, k1⟩ := cell_real hw 1 c
  obtain ⟨w2, k2⟩ := cell_real hw 2 c
  refine ⟨x2 * w2 + x0 * w0 + x1 * w1, ?_⟩
  unfold conv
  rw [h0, h1, h2, k0, k1, k2]
  norm_cast

theorem sg_real (x : ℝ) : ∃ a : ℝ, sg (x : EReal) = (a : EReal) := by
  refine ⟨1 / (1 + Real.exp (-x)), ?_⟩
  have hp : 1 + Real.exp (-x) ≠ 0 := (by positivity : 0 < 1 + Real.exp (-x)).ne'
  unfold sg
  rw [← EReal.coe_neg, Ideal.exp_coe, ← EReal.coe_one, ← EReal.coe_add, Ideal.div_coe hp, ← EReal.coe_mul, one_mul]

/-- Silu's derivative by the rule of the product is the kernel's form of it, on reals. -/
theorem derivative {c v d : EReal} (hc : ∃ a : ℝ, c = (a : EReal)) (hv : ∃ a : ℝ, v = (a : EReal)) (hd : ∃ a : ℝ, d = (a : EReal)) :
    d * v * sg c + c * (d * v) * (sg c * (1 - sg c)) = dgate c v d := by
  obtain ⟨a, rfl⟩ := hc
  obtain ⟨b, rfl⟩ := hv
  obtain ⟨e, rfl⟩ := hd
  obtain ⟨s, hs⟩ := sg_real a
  unfold dgate
  rw [hs, ← EReal.coe_one]
  norm_cast
  ring

section Reference

open Cert.FfnActBwdReferenceIdeal Cert.FfnActBwdReferenceIdeal.Value

variable (m : (ℓ : Loc nD τ sig) → Buf (Elt Ideal) ℓ) (c : Dev nD)

abbrev given' : Mat 8256 5632 := m ((c.tc : Thread nD τ).loc main_arg0)
abbrev weights' : Mat 8 5632 := m ((c.tc : Thread nD τ).loc main_arg1)
abbrev grad' : Mat 8256 2816 := m ((c.tc : Thread nD τ).loc main_arg2)

set_option maxHeartbeats 2000000 in
theorem result (hX : IsReal (given' m c)) (hw : IsReal (weights' m c)) (hD : IsReal (grad' m c)) :
    res_main_v31 (F := Ideal) m c = all (given' m c) (weights' m c) (grad' m c) := by
  funext i
  obtain ⟨r, hr⟩ : ∃ r : Fin 8256, r = i 0 := ⟨_, rfl⟩
  obtain ⟨d, hd⟩ : ∃ d : Fin 5632, d = i 1 := ⟨_, rfl⟩
  rw [eq_ix2 (n0 := 8256) (n1 := 5632) i, ← hr, ← hd]
  have e := taps (given' m c) (weights' m c) r
  pointwise [res_main_v31]
  show _ = back (past 8 (given' m c)) (cell (weights' m c)) (cell (grad' m c)) r.val d.val
  unfold back
  by_cases h : d.val < 2816
  · rw [dif_pos h, if_pos h]
    refine Eq.trans ?_ (derivative (conv_real hX hw _ _) (conv_real hX hw _ _) (cell_real hD _ _))
    rw [← e d, ← e ⟨2816 + d.val, by omega⟩, ← at₂ (grad' m c) r ⟨d.val, h⟩]
    rfl
  · rw [dif_neg h, if_neg h]
    unfold dval
    rw [← e ⟨d.val - 2816, by omega⟩, ← at₂ (grad' m c) r ⟨d.val - 2816, by omega⟩]
    refine Eq.trans (mul_comm _ _) ?_
    rw [← mul_assoc]
    rfl

end Reference

end Cert.Proof.FfnActBwd

end
-- ==== Proof.FfnActBwd.lean ====
/-
  The gradient of the gated MLP's activation: the call `_ffn_act_bwd`, its first result.
-/
module

public import proofs.«01_k».proof.Defs
public import proofs.«01_k».proof.Proof.Conv
public import proofs.«01_k».proof.Proof.Finite
public import proofs.«01_k».proof.Proof.FfnActBwdRef
public import proofs.«01_k».proof.Proof.Gen.Pre_finite_ffnactbwd
public import Idealize.ShloMosaic.Lib.Quiescent
public import proofs.«01_k».proof.Proof.Gen.FfnActBwdKernelIdeal.Value
public import Idealize.ShloMosaic.Lib.Pipeline.ValueKit
public import Idealize.ShloMosaic.Lib.Pipeline.ReadBack

@[expose] public section

set_option maxRecDepth 16384

noncomputable section

namespace Cert.Proof.FfnActBwd

open Idealize.ShloMosaic Idealize.ShloMosaic.TcCoe Idealize.SL.Sem Cert.Proof.Product Cert.Proof.Before
open Cert.Proof.Conv (piece_row piece_col)
open Cert.Proof.MixerPost (sg at₂)
open Cert.Proof.FfnAct (conv)

/-- A block's gradient is the array's, when the extended block reads the array from row `b` on. -/
theorem back_shift {P P' w D D' : ℕ → ℕ → EReal} {b q c : ℕ} (hP : ∀ q < 200, ∀ c < 5632, P q c = P' (b + q) c)
    (hD : ∀ q < 192, ∀ c < 2816, D q c = D' (b + q) c) (hq : q < 192) (hc : c < 5632) : back P w D q c = back P' w D' (b + q) c := by
  have e : ∀ l < 5632, conv P w q l = conv P' w (b + q) l := fun l hl => by
    unfold conv
    simp only [hP _ (show 8 + q < 200 by omega) _ hl, hP _ (show 7 + q < 200 by omega) _ hl, hP _ (show 6 + q < 200 by omega) _ hl,
      Nat.add_left_comm b]
  unfold back
  by_cases h : c < 2816
  · rw [if_pos h, if_pos h, e _ hc, e _ (by omega), hD _ hq _ h]
  · rw [if_neg h, if_neg h, e _ (by omega), hD _ hq _ (by omega)]

section Kernel

open Cert.FfnActBwdKernelIdeal Cert.FfnActBwdKernelIdeal.Gen

theorem z2 : (![0, 0] : Fin 2 → ℕ) = fun _ => 0 := by decide

theorem halo_at (i : grid0.Coords) (y : Vec Ideal S8x5632 .f32) (j : S8x5632.Idx) :
    k0_pay4 (F := Ideal) i y j = if (i 0).val = 0 then 0 else y j := by
  have hi : (i 0).val < 43 := (i 0).isLt
  rw [eq_ix2 (n0 := 8) (n1 := 5632) j]
  pointwise [k0_pay4]
  exact select_first hi _

/-- The gradient on a block, from the extended block `E`. -/
def part (E : Mat 200 5632) (w : Mat 8 5632) (D : Mat 192 2816) : Mat 192 5632 := fun i => back (cell E) (cell w) (cell D) (i 0).val (i 1).val

variable {k : ℕ} {hk : ∀ a, (![0, k] : Fin 2 → ℕ) a + (![192, 128] : Fin 2 → ℕ) a ≤ (⟨2, ![192, 5632]⟩ : Shape).size a}

/-- A piece of gates. -/
theorem part_gate (E : Mat 200 5632) (w : Mat 8 5632) (D : Mat 192 2816) (h : k + 128 ≤ 2816)
    (x : (Rect.unit (s := ⟨2, ![192, 5632]⟩) ![0, k] ![192, 128] hk).shape.Idx) :
    part E w D ((Rect.unit (s := ⟨2, ![192, 5632]⟩) ![0, k] ![192, 128] hk).emb x)
      = dgate (conv (cell E) (cell w) (x 0).val (k + (x 1).val)) (conv (cell E) (cell w) (x 0).val (2816 + k + (x 1).val))
        (cell D (x 0).val (k + (x 1).val)) := by
  have hx : (x 1).val < 128 := (x 1).isLt
  unfold part back
  rw [piece_row, piece_col, if_pos (by omega), Nat.add_assoc]

/-- A piece of values. -/
theorem part_val (E : Mat 200 5632) (w : Mat 8 5632) (D : Mat 192 2816) (h : 2816 ≤ k)
    (x : (Rect.unit (s := ⟨2, ![192, 5632]⟩) ![0, k] ![192, 128] hk).shape.Idx) :
    part E w D ((Rect.unit (s := ⟨2, ![192, 5632]⟩) ![0, k] ![192, 128] hk).emb x)
      = dval (conv (cell E) (cell w) (x 0).val (k - 2816 + (x 1).val)) (cell D (x 0).val (k - 2816 + (x 1).val)) := by
  unfold part back
  rw [piece_row, piece_col, if_neg (by omega), show k + (x 1).val - 2816 = k - 2816 + (x 1).val by omega]

section

variable (c : Dev nD) (i : grid0.Coords) (arg1 : Memref sig .tc .vmem S192x5632 .f32) (harg1 : arg1.IsWhole)
  (arg2 : Memref sig .tc .vmem S8x5632 .f32) (harg2 : arg2.IsWhole) (arg3 : Memref sig .tc .vmem S8x5632 .f32) (harg3 : arg3.IsWhole)
  (arg4 : Memref sig .tc .vmem S192x2816 .f32) (harg4 : arg4.IsWhole) (arg5 : Memref sig .tc .vmem S192x5632 .bf16) (harg5 : arg5.IsWhole)
  (arg6 : Memref sig .tc .vmem S8x5632 .f32) (harg6 : arg6.IsWhole) (arg7 : Memref sig .tc .vmem S200x5632 .f32) (harg7 : arg7.IsWhole)
  (x0 : Vec Ideal S192x5632 .f32) (x1 : Vec Ideal S8x5632 .f32) (x2 : Vec Ideal S8x5632 .f32) (x3 : Vec Ideal S192x2816 .f32)
  (xo : Vec Ideal S8x5632 .f32)

set_option maxHeartbeats 2000000 in
/-- What the body stores, at the first point or at a later one, is the gradient on the block. -/
theorem stores {L : List (View.Piece (Elt Ideal) S192x5632 .bf16)}
    (hL : (∃ h, L = (kernelRun0_A (F := Ideal) c i arg1 harg1 arg2 harg2 arg3 harg3 arg4 harg4 arg5 harg5 arg6 harg6 arg7 harg7 h x0 x1 x2 x3).1)
      ∨ ∃ h, L = (kernelRun0_B (F := Ideal) c i arg1 harg1 arg2 harg2 arg3 harg3 arg4 harg4 arg5 harg5 arg6 harg6 arg7 harg7 h x0 x1 x2 x3 xo).1) :
    View.PiecesOf (Val := Elt Ideal) (e := .bf16) (part (ext ((i 0).val = 0) x1 x0) x2 x3) L := by
  obtain ⟨E, hE⟩ : ∃ E : Mat 200 5632, E = ext ((i 0).val = 0) x1 x0 := ⟨_, rfl⟩
  rw [← hE]
  have hf := filled (A := 8) (B := 200) rfl (first := (i 0).val = 0) x0 x1 (k0_pay4 (F := Ideal) i x1) (halo_at i x1)
    inb_S200x5632_S192x5632_8_0 inb_S200x5632_S8x5632_0_0
  have e : k0_pay5 (F := Ideal) x0 = x0 := by
    funext j
    rw [eq_ix2 (n0 := 192) (n1 := 5632) j]
    pointwise [k0_pay5]
  have hE₂ := at₂ E
  have h2 := at₂ (N := 8) (W := 5632) x2
  have h3 := at₂ (N := 192) (W := 2816) x3
  rcases hL with ⟨h, rfl⟩ | ⟨h, rfl⟩
  on_goal 1 => unfold kernelRun0_A
  on_goal 2 => unfold kernelRun0_B
  all_goals
    dsimp only
    sl_unfold_words
    simp only [View.readAt_eq_ld, Memref.IsWhole.read_unread, View.readCov_eq_canon', View.ld_unit_zero (S := S192x5632) z2,
      View.ld_unit_zero (S := S8x5632) z2, e]
    rw [hf.trans hE.symm]
    repeat' refine And.intro (fun x => ?_) ?_
    rotate_right
    · exact trivial
  all_goals
    first
    | refine Eq.trans ?_ (part_gate E x2 x3 (hk := by decide) (by decide) x).symm
    | refine Eq.trans ?_ (part_val E x2 x3 (hk := by decide) (by decide) x).symm
    rw [eq_ix2 (n0 := 192) (n1 := 128) x]
    pointwise [k0_pay6, k0_pay7, k0_pay8, k0_pay9, k0_pay10, k0_pay11, k0_pay18, k0_pay19, k0_pay20, k0_pay21, k0_pay22, k0_pay23, k0_pay30, k0_pay31, k0_pay32,
      k0_pay33, k0_pay34, k0_pay35, k0_pay36, k0_pay37, k0_pay41, k0_pay42, k0_pay46, k0_pay47, k0_pay48, k0_pay49, k0_pay50, k0_pay51, k0_pay52, k0_pay56,
      k0_pay60, k0_pay61, k0_pay62, k0_pay63, k0_pay64, k0_pay65, k0_pay66, k0_pay73, k0_pay74, k0_pay75, k0_pay76, k0_pay77, k0_pay78, k0_pay79, k0_pay80,
      k0_pay87, k0_pay88, k0_pay89, k0_pay90, k0_pay91, k0_pay92, k0_pay93, k0_pay94, k0_pay95, k0_pay102, k0_pay103, k0_pay104, k0_pay105, k0_pay106,
      k0_pay107, k0_pay108, k0_pay109, k0_pay110, k0_pay113, k0_pay115, k0_pay119, k0_pay120, k0_pay121, k0_pay122, k0_pay123, k0_pay124, k0_pay125,
      k0_pay128, k0_pay133, k0_pay134, k0_pay135, k0_pay136, k0_pay137, k0_pay138, k0_pay139, k0_pay142, k0_pay147, k0_pay148, k0_pay149, k0_pay150,
      k0_pay151, k0_pay152, k0_pay153, k0_pay154, k0_pay161, k0_pay162, k0_pay163, k0_pay164, k0_pay165, k0_pay166, k0_pay167, k0_pay168, k0_pay174,
      k0_pay176, k0_pay177, k0_pay178, k0_pay179, k0_pay180, k0_pay181, k0_pay182, k0_pay183, k0_pay184, k0_pay186, k0_pay188, k0_pay192, k0_pay194,
      k0_pay195, k0_pay196, k0_pay197, k0_pay198, k0_pay199, k0_pay200, k0_pay201, k0_pay203, k0_pay204, k0_pay209, k0_pay211, k0_pay212, k0_pay213,
      k0_pay214, k0_pay215, k0_pay216, k0_pay217, k0_pay219, k0_pay225, k0_pay226, k0_pay227, k0_pay228, k0_pay229, k0_pay230, k0_pay231, k0_pay238,
      k0_pay239, k0_pay240, k0_pay241, k0_pay242, k0_pay243, k0_pay244, k0_pay245, k0_pay250, k0_pay252, k0_pay254, k0_pay255, k0_pay256, k0_pay257,
      k0_pay258, k0_pay259, k0_pay260, k0_pay265, k0_pay266, k0_pay269, k0_pay270, k0_pay271, k0_pay272, k0_pay273, k0_pay274, k0_pay275, k0_pay276,
      k0_pay277, k0_pay282, k0_pay285, k0_pay286, k0_pay287, k0_pay288, k0_pay289, k0_pay290, k0_pay291, k0_pay292, k0_pay299, k0_pay300, k0_pay301,
      k0_pay302, k0_pay303, k0_pay304, k0_pay311, k0_pay312, k0_pay313, k0_pay314, k0_pay315, k0_pay316,
      hE₂, h2, h3, zero_sub]
    simp only [dgate, dval, conv, Nat.zero_add, Nat.add_zero, Nat.reduceAdd, Nat.reduceSub]
    rfl

theorem left_first (h : cond0_0 i) :
    out0_A_4 (F := Ideal) c i arg1 harg1 arg2 harg2 arg3 harg3 arg4 harg4 arg5 harg5 arg6 harg6 arg7 harg7 h x0 x1 x2 x3
      = part (ext ((i 0).val = 0) x1 x0) x2 x3 := by
  have hc := cover0_A_4 (F := Ideal) c i arg1 harg1 arg2 harg2 arg3 harg3 arg4 harg4 arg5 harg5 arg6 harg6 arg7 harg7 h x0 x1 x2 x3
  unfold out0_A_4
  rw [View.read_writes_eq_canon _ _ _ hc]
  funext y
  exact View.canon_apply_of_pieces (Val := Elt Ideal) (e := .bf16) _ _ (View.PiecesOf.mem (stores c i arg1 harg1 arg2 harg2 arg3 harg3 arg4 harg4 arg5 harg5 arg6 harg6 arg7 harg7 x0 x1 x2 x3 x2
    (.inl ⟨h, rfl⟩))) y (hc y)

theorem left_later (h : ¬cond0_0 i) :
    out0_B_4 (F := Ideal) c i arg1 harg1 arg2 harg2 arg3 harg3 arg4 harg4 arg5 harg5 arg6 harg6 arg7 harg7 h x0 x1 x2 x3 xo
      = part (ext ((i 0).val = 0) x1 x0) x2 x3 := by
  have hc := cover0_B_4 (F := Ideal) c i arg1 harg1 arg2 harg2 arg3 harg3 arg4 harg4 arg5 harg5 arg6 harg6 arg7 harg7 h x0 x1 x2 x3 xo
  unfold out0_B_4
  rw [View.read_writes_eq_canon _ _ _ hc]
  funext y
  exact View.canon_apply_of_pieces (Val := Elt Ideal) (e := .bf16) _ _ (View.PiecesOf.mem (stores c i arg1 harg1 arg2 harg2 arg3 harg3 arg4 harg4 arg5 harg5 arg6 harg6 arg7 harg7 x0 x1 x2 x3 xo
    (.inr ⟨h, rfl⟩))) y (hc y)

end

variable (m : (ℓ : Loc nD τ sig) → Buf (Elt Ideal) ℓ) (c : Dev nD)

abbrev given : Mat 8256 5632 := m ((c : Thread nD τ).loc main_arg0)
abbrev weights : Mat 8 5632 := m ((c : Thread nD τ).loc main_arg1)
abbrev grad : Mat 8256 2816 := m ((c : Thread nD τ).loc main_arg2)

theorem place : ∀ t : Fin cfg0.N, win0_0.index t = ![t.val, 0] ∧ win0_1.index t = ![t.val * 24 - 1, 0] ∧ win0_2.index t = ![0, 0]
    ∧ win0_3.index t = ![t.val, 0] ∧ win0_4.index t = ![t.val, 0] ∧ (grid0.coords t 0).val = t.val :=
  (by decide +kernel : ∀ t : Fin grid0.N, win0_0.index t = ![t.val, 0] ∧ win0_1.index t = ![t.val * 24 - 1, 0] ∧ win0_2.index t = ![0, 0]
    ∧ win0_3.index t = ![t.val, 0] ∧ win0_4.index t = ![t.val, 0] ∧ (grid0.coords t 0).val = t.val)

variable (t : Fin cfg0.N)

theorem below : t.val < 43 := lt_of_lt_of_eq t.isLt N_0

theorem blk_rows (p : Fin 192) (l : Fin 5632) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_before (ht : 0 < t.val) (p : Fin 8) (l : Fin 5632) : iblk m c 1 t (ix2 p l) = cell (given m c) (t.val * 192 + p.val - 8) l.val := by
  have := below t
  refine Eq.trans ?_ (read_cell (given m c) (ix2 ⟨t.val * 192 + p.val - 8, by omega⟩ l) _ _ rfl rfl)
  blk_ext! [iblk, V, place t]

theorem blk_w : iblk m c 2 t = weights m c := by
  funext y
  blk_ext! [iblk, V, place t]

theorem blk_grad (p : Fin 192) (l : Fin 2816) : iblk m c 3 t (ix2 p l) = cell (grad m c) (t.val * 192 + p.val) l.val := by
  have := below t
  refine Eq.trans ?_ (read_cell (grad m c) (ix2 ⟨t.val * 192 + p.val, by omega⟩ l) _ _ rfl rfl)
  blk_ext! [iblk, V, place t]

/-- What point `t` leaves in its block of the result. -/
theorem point : (outsAt0 m c t.val t.isLt).1 = part (ext (t.val = 0) (iblk m c 1 t) (iblk m c 0 t)) (weights m c) (iblk m c 3 t) := by
  by_cases h0 : t.val % 43 = 0
  · rw [outsAt0_A m c t h0]
    dsimp only
    rw [left_first, (place t).2.2.2.2.2, blk_w]
  · rw [outsAt0_B m c t h0]
    dsimp only
    rw [left_later, (place t).2.2.2.2.2, blk_w]

/-- The result of the kernel, whole. -/
theorem whole : (dats m 0 c).arrAt 4 cfg0.N = all (given m c) (weights m c) (grad m c) := by
  refine (dats m 0 c).arrAt_eq_of_covers 4 _ (by decide +kernel) fun t hf y => ?_
  have ht := below t
  blk_simp
  rw [after0_4]
  have e : (win0_4.blk t).view.emb y = ix2 ⟨t.val * 192 + (y 0).val, by have : (y 0).val < 192 := (y 0).isLt; omega⟩ (y 1 : Fin 5632) := by
    blk_ext! [place t]
  rw [e, point]
  refine back_shift (fun q hq l hl => ?_) (fun q hq l hl => ?_) (y 0).isLt (y 1).isLt
  · exact cell_ext (A := 8) rfl (by decide) (given m c) Iff.rfl (blk_rows m c t) (fun h => blk_before m c t h) hq hl
  · exact (read_cell _ (ix2 (n0 := 192) (n1 := 2816) ⟨q, hq⟩ ⟨l, hl⟩) q l rfl rfl).symm.trans (blk_grad m c t ⟨q, hq⟩ ⟨l, hl⟩)

end Kernel

/-- The reference's run: its arguments are kept, and it has no semaphore. -/
theorem frame_reference : Cert.quiescent_FfnActBwdReferenceIdeal (hFfnActBwdReferenceIdeal := Cert.FfnActBwdReferenceIdeal.Gen.facts) :=
  fun m ρ _ => (θ_run (Cert.FfnActBwdReferenceIdeal.defs (F := Ideal)) _ _).mono
    (fun r h => ⟨fun c => (h c).2, sem_eq_zero_of_no_sems (by decide) r.2⟩) (Cert.FfnActBwdReferenceIdeal.Value.run (F := Ideal) m ρ)

/-- Under the precondition the three arrays hold reals. -/
theorem of_pre {a0 : FVec Ideal Cert.Pre_finite_ffnactbwd.S8256x5632 .f32} {a1 : FVec Ideal Cert.Pre_finite_ffnactbwd.S8x5632 .f32}
    {a2 : FVec Ideal Cert.Pre_finite_ffnactbwd.S8256x2816 .f32} [Cert.Pre_finite_ffnactbwd.Facts]
    (h : Cert.Pre_finite_ffnactbwd.fn (F := Ideal) a0 a1 a2 = fun _ => 1#1) :
    IsReal (M := 8256) (N := 5632) a0 ∧ IsReal (M := 8) (N := 5632) a1 ∧ IsReal (M := 8256) (N := 2816) a2 := by
  have e := congrFun h ix0
  unfold Cert.Pre_finite_ffnactbwd.fn at e
  obtain ⟨e, h2⟩ := IntOp.andi_eq_one.1 e
  obtain ⟨h0, h1⟩ := IntOp.andi_eq_one.1 e
  exact ⟨Cert.Delta.Finite.reals a0 _ _ _ h0, Cert.Delta.Finite.reals a1 _ _ _ h1, Cert.Delta.Finite.reals a2 _ _ _ h2⟩

/-- The kernel's result is the reference's. -/
theorem algebraic : Cert.algebraic_FfnActBwdKernelIdeal_FfnActBwdReferenceIdeal_pre_finite_ffnactbwd := fun m ρ m' ρ' hpre agree => by
  refine ⟨fun c => all (given m c) (weights m c) (grad m c), ?_, ?_⟩
  · exact (θ_run _ _ _).mono (fun r h c => ⟨(h c).1.trans (whole m c), (h c).2.2⟩)
      (Cert.FfnActBwdKernelIdeal.Value.run_blocks (F := Ideal) m ρ)
  · refine (θ_run _ _ _).mono (fun r h c => ⟨(h c).1.trans ?_, (h c).2⟩) (Cert.FfnActBwdReferenceIdeal.Value.run (F := Ideal) m' ρ')
    obtain ⟨h0, h1, h2⟩ := of_pre (hpre c)
    obtain ⟨e0, e1, e2⟩ := agree c
    have e0 : given' m' c = given m c := e0
    have e1 : weights' m' c = weights m c := e1
    have e2 : grad' m' c = grad m c := e2
    refine (result m' c (by rw [e0]; exact h0) (by rw [e1]; exact h1) (by rw [e2]; exact h2)).trans ?_
    rw [e0, e1, e2]

end Cert.Proof.FfnActBwd

end
-- ==== Proof.RmsFwd.lean ====
/-
  The forward RMS norm of the hidden rows: each row over the root of its mean square plus ε, times the gain.
-/
module

public import proofs.«01_k».proof.Defs
public import proofs.«01_k».proof.Proof.Norm
public import Idealize.ShloMosaic.Lib.Quiescent
public import proofs.«01_k».proof.Proof.Gen.RmsFwdKernelIdeal.Value
public import proofs.«01_k».proof.Proof.Gen.RmsFwdReferenceIdeal.Run
public import Idealize.ShloMosaic.Lib.Pipeline.ValueKit
public import Idealize.ShloMosaic.Lib.Pipeline.ReadBack

@[expose] public section

set_option maxRecDepth 16384

noncomputable section

namespace Cert.Proof.RmsFwd

open Idealize.ShloMosaic Idealize.ShloMosaic.TcCoe Idealize.SL.Sem Cert.Proof.Norm
open scoped BigOperators

/-- The normalised rows of `h`, scaled lane by lane by `g`. -/
def normed {n : ℕ} (h : (⟨2, ![n, 1024]⟩ : Shape).Idx → EReal) (g : (⟨2, ![1, 1024]⟩ : Shape).Idx → EReal) (r : Fin n) (l : Fin 1024) : EReal :=
  h (ix2 r l) * Ideal.rsqrt (Ideal.div (∑ k, h (ix2 r k) * h (ix2 r k)) ((1024 : ℝ) : EReal) + ((eps : ℝ) : EReal)) * g (ix2 0 l)

section Kernel

open Cert.RmsFwdKernelIdeal Cert.RmsFwdKernelIdeal.Gen

theorem z2 : (![0, 0] : Fin 2 → ℕ) = fun _ => 0 := by decide

/-- What the body computes from its block. -/
theorem norm_at (x : Vec Ideal S192x1024 .f32) (g : Vec Ideal S1x1024 .f32) (p : Fin 192) (l : Fin 1024) :
    k0_pay1 (F := Ideal) x g (ix2 p l) = normed x g p l := by
  unfold normed
  rw [← width_bits, ← eps_bits]
  pointwise [k0_pay1]

/-- What the body leaves in its output. -/
theorem left (x0 : Vec Ideal S192x1024 .f32) (x1 : Vec Ideal S1x1024 .f32) : out0_2 (F := Ideal) x0 x1 = k0_pay1 x0 x1 := by
  unfold out0_2
  simp only [View.canon_unit_zero (S := S192x1024) z2, View.ld_unit_zero (S := S192x1024) z2, View.ld_unit_zero (S := S1x1024) z2]

variable (m : (ℓ : Loc nD τ sig) → Buf (Elt Ideal) ℓ) (c : Dev nD)

abbrev rows : S8256x1024.Idx → EReal := m ((c : Thread nD τ).loc main_arg0)
abbrev gain : S1x1024.Idx → EReal := m ((c : Thread nD τ).loc main_arg1)

theorem place : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (t : Fin cfg0.N)

/-- Row `p` of block `t`. -/
def spot (p : Fin 192) : Fin 8256 := ⟨t.val * 192 + p.val, by have := lt_of_lt_of_eq t.isLt N_0; have := p.isLt; omega⟩

theorem blk_rows (p : Fin 192) (l : Fin 1024) : iblk m c 0 t (ix2 p l) = rows m c (ix2 (spot t p) l) := by
  blk_ext! [iblk, V, place t, spot]

theorem blk_gain (l : Fin 1024) : iblk m c 1 t (ix2 0 l) = gain m c (ix2 0 l) := by
  blk_ext! [iblk, V, place t]

/-- The result of the kernel, whole. -/
theorem whole : (dats m 0 c).arrAt 2 cfg0.N = fun i => normed (rows m c) (gain m c) (i 0) (i 1) := by
  refine (dats m 0 c).arrAt_eq_of_covers 2 _ (by decide +kernel) fun t hf y => ?_
  blk_simp
  rw [after0_2]
  have e : (win0_2.blk t).view.emb y = ix2 (spot t (y 0)) (y 1 : Fin 1024) := by
    blk_ext! [place t, spot]
  rw [e]
  rw [left]
  have key : ∀ (p : Fin 192) (l : Fin 1024), k0_pay1 (F := Ideal) (iblk m c 0 t) (iblk m c 1 t) (ix2 p l)
      = normed (rows m c) (gain m c) (spot t p) l := fun p l => by
    refine (norm_at _ _ p l).trans ?_
    unfold normed
    simp only [blk_rows, blk_gain]
  exact (congrArg _ (eq_ix2 (n0 := 192) (n1 := 1024) y)).trans (key (y 0) (y 1))

end Kernel

/-- The reference's run: its arguments are kept, and it has no semaphore. -/
theorem frame_reference : Cert.quiescent_RmsFwdReferenceIdeal (hRmsFwdReferenceIdeal := Cert.RmsFwdReferenceIdeal.Gen.facts) :=
  fun m ρ _ => (θ_run (Cert.RmsFwdReferenceIdeal.defs (F := Ideal)) _ _).mono
    (fun r h => ⟨fun c => (h c).2, sem_eq_zero_of_no_sems (by decide) r.2⟩) (Cert.RmsFwdReferenceIdeal.Value.run (F := Ideal) m ρ)

/-- The kernel's result is the reference's. -/
theorem algebraic : Cert.algebraic_RmsFwdKernelIdeal_RmsFwdReferenceIdeal := fun m ρ m' ρ' _ agree => by
  refine ⟨fun c i => normed (rows m c) (gain m c) (i 0) (i 1), ?_, ?_⟩
  · exact (θ_run _ _ _).mono (fun r h c => ⟨(h c).1.trans (whole m c), (h c).2⟩) (Cert.RmsFwdKernelIdeal.Value.run_blocks (F := Ideal) m ρ)
  · refine (θ_run _ _ _).mono (fun r h c => ⟨(h c).1.trans (funext fun i => ?_), (h c).2⟩) (Cert.RmsFwdReferenceIdeal.Value.run (F := Ideal) m' ρ')
    rw [(agree c).1, (agree c).2]
    show _ = normed (rows m c) (gain m c) (i 0) (i 1)
    unfold normed
    rw [← width_bits, ← eps_bits, eq_ix2 (n0 := 8256) (n1 := 1024) i]
    pointwise []

end Cert.Proof.RmsFwd

end
-- ==== Proof.MixerPostRef.lean ====
/-
  What the mixer's reference computes, entry by entry.
-/
module

public import proofs.«01_k».proof.Defs
public import proofs.«01_k».proof.Proof.MixerRow
public import proofs.«01_k».proof.Proof.Gen.MixerPostReferenceIdeal.Run
public import Idealize.ShloMosaic.Lib.Pipeline.ValueKit

@[expose] public section

set_option maxRecDepth 16384

noncomputable section

namespace Cert.Proof.MixerPost

open Idealize.ShloMosaic Idealize.ShloMosaic.TcCoe Idealize.SL.Sem Cert.Proof.Product
open Cert.MixerPostReferenceIdeal Cert.MixerPostReferenceIdeal.Gen Cert.MixerPostReferenceIdeal.Value
open scoped BigOperators

variable (V0 : Valuation τ sig (Elt Ideal))

abbrev given' : Mat 8256 1024 := V0 (Proc.devRef .tc main_arg0)
abbrev heads' : S8x8256x128.Idx → EReal := V0 (Proc.devRef .tc main_arg1)
abbrev proj' : Mat 8256 6912 := V0 (Proc.devRef .tc main_arg2)

/-- The row itself. -/
theorem past_self (X : Mat 8256 6912) (r : Fin 8256) {c : ℕ} {hc : 6144 + c < 6912} : X (ix2 r ⟨6144 + c, hc⟩) = past X (16 + r.val) c := by
  unfold past
  rw [if_neg (by omega), Nat.add_sub_cancel_left]
  exact read_cell X _ _ _ rfl rfl

/-- A row of the columns padded with `n` rows of zeros. -/
theorem past_padded (X : Mat 8256 6912) {i n q c : ℕ} (hn : n ≤ 16) (hq : q + n = 16 + i) {f : ¬i < n → EReal}
    (hf : ∀ h, f h = past X (16 + (i - n)) c) : (if h : i < n then 0 else f h) = past X q c := by
  by_cases h : i < n
  · rw [dif_pos h]
    unfold past
    rw [if_pos (by omega)]
  · rw [dif_neg h, hf, show 16 + (i - n) = q by omega]

theorem word (w : BitVec 32) : id (constantI S_ 32 w) ix0 = w := rfl

set_option maxHeartbeats 1000000 in
/-- The pooled columns. -/
theorem pool_at (g : Fin 4) (r : Fin 8256) (k : Fin 128) :
    res_main_v136 (F := Ideal) V0 (ix3 g r k) = pool (past (proj' V0)) 0 (2 * 2 ^ g.val) r.val (g.val * 128 + k.val) := by
  obtain ⟨g, hg⟩ := g
  interval_cases g
  all_goals
    pointwise [res_main_v136, res_main_v24, res_main_v25, res_main_v26, res_main_v27, res_main_v4, res_main_v44, res_main_v63, res_main_v90, count_word, word]
    simp only [pool, total, Nat.reduceSub, Nat.reduceMul, Nat.reducePow, Nat.reduceAdd, Nat.zero_add, Nat.zero_mul]
    refine congrArg₂ (· - ·) (congrArg₂ Ideal.div ?_ rfl) (past_self (proj' V0) r)
    repeat' refine congrArg₂ (· + ·) ?_ ?_
    all_goals first
      | exact past_self (proj' V0) r
      | exact past_padded (proj' V0) (by decide) (by omega) fun _ => past_self (proj' V0) _

abbrev gain' : Mat 1 128 := V0 (Proc.devRef .tc main_arg3)
abbrev groups' : S4x128x256.Idx → EReal := V0 (Proc.devRef .tc main_arg4)
abbrev scale' : Mat 1 1024 := V0 (Proc.devRef .tc main_arg5)
abbrev weights' : Mat 1024 1024 := V0 (Proc.devRef .tc main_arg6)

variable (m : (ℓ : Loc nD τ sig) → Buf (Elt Ideal) ℓ) (ρ : Dev nD → PrngReg)

/-- The mixed rows of the arguments. -/
abbrev rows' : Mat 8256 1024 := fun i => mixRow (heads' V0) (proj' V0) (gain' V0) (groups' V0) (scale' V0) (i 0).val (i 1).val

/-- The reference's run: its two results; the arguments are kept. -/
theorem run_results : θ_run defs (onTc (τ := τ) (main (F := Ideal))) ⟨m, fun _ => 0, ρ⟩ fun r => ∀ c : Dev nD,
    r.2.mem ((c.tc : Thread nD τ).loc main_v162) = (fun i => given' (StableHlo.launchContents m c) (ix2 (i 0) (i 1))
        + ∑ k : Fin 1024, rows' (StableHlo.launchContents m c) (ix2 (i 0) k) * weights' (StableHlo.launchContents m c) (ix2 k (i 1)))
      ∧ r.2.mem ((c.tc : Thread nD τ).loc main_v158) = rows' (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.MixerPostReferenceIdeal.Value.run (F := Ideal) m ρ)
  obtain ⟨hh, hr, hk⟩ := h c
  have e : r.2.mem ((c.tc : Thread nD τ).loc main_v158) = rows' (StableHlo.launchContents m c) := by
    refine hr.trans ?_
    clear hh hr hk
    generalize StableHlo.launchContents m c = V0
    funext i
    rw [eq_ix2 (n0 := 8256) (n1 := 1024) i]
    obtain ⟨r, hr⟩ : ∃ r : Fin 8256, r = i 0 := ⟨_, rfl⟩
    obtain ⟨d, hd⟩ : ∃ d : Fin 1024, d = i 1 := ⟨_, rfl⟩
    have h0 := d.isLt
    rw [← hr, ← hd]
    pointwise [res_main_v6, res_main_v20]
    unfold rows' mixRow out lane inv sg part mix
    refine congrArg₂ (· + ·) (congrArg₂ (· * ·) (congrArg sg (at₂ (proj' V0) _ _)) (congrArg₂ (· * ·) (congrArg₂ (· * ·) (congrArg₂ (· * ·)
      (at₃ (heads' V0) _ _ _) ?_) (at₂ (gain' V0) _ _)) (congrArg (fun x => x * sg x) (at₂ (proj' V0) _ _))))
      (congrArg₂ (· * ·) (congrArg sg (at₂ (proj' V0) _ _)) (congrArg₂ (· * ·) ?_ (at₂ (scale' V0) _ _)))
    · refine congrArg (fun x => Ideal.rsqrt (Ideal.div x _ + _)) (Finset.sum_congr rfl fun k _ => ?_)
      exact congrArg (fun x => x * x) (at₃ (heads' V0) _ _ _)
    · refine Finset.sum_congr rfl fun k _ => (mul_comm _ _).trans ?_
      exact congrArg₂ (· * ·) (pool_at V0 _ _ _) (at₃ (groups' V0) _ _ _)
  rw [← hr, e] at hh
  refine ⟨hh.trans ?_, e, hk⟩
  clear hh hr hk e
  generalize StableHlo.launchContents m c = V0
  generalize rows' V0 = y
  funext i
  obtain ⟨r, hr⟩ : ∃ r : Fin 8256, r = i 0 := ⟨_, rfl⟩
  obtain ⟨d, hd⟩ : ∃ d : Fin 1024, d = i 1 := ⟨_, rfl⟩
  rw [eq_ix2 (n0 := 8256) (n1 := 1024) i, ← hr, ← hd]
  pointwise []

end Cert.Proof.MixerPost

end
-- ==== Proof.MixerPost.lean ====
/-
  The end of the mixer's forward pass: the head norm and its gate, the pooling, the two gates and the output product.
-/
module

public import proofs.«01_k».proof.Defs
public import proofs.«01_k».proof.Proof.MixerRow
public import proofs.«01_k».proof.Proof.Before
public import proofs.«01_k».proof.Proof.MixerPostRef
public import Idealize.ShloMosaic.Lib.Quiescent
public import proofs.«01_k».proof.Proof.Gen.MixerPostKernelIdeal.Value
public import Idealize.ShloMosaic.Lib.Pipeline.ValueKit
public import Idealize.ShloMosaic.Lib.Pipeline.ReadBack

@[expose] public section

set_option maxRecDepth 16384

noncomputable section

namespace Cert.Proof.MixerPost

open Idealize.ShloMosaic Idealize.ShloMosaic.TcCoe Idealize.SL.Sem Cert.Proof.Product
open Cert.Proof.Before (ext select_first filled)
open scoped BigOperators

section Kernel

open Cert.MixerPostKernelIdeal Cert.MixerPostKernelIdeal.Gen

theorem z2 : (![0, 0] : Fin 2 → ℕ) = fun _ => 0 := by decide

theorem halo_at (i : grid0.Coords) (y : Vec Ideal S16x512 .f32) (j : S16x512.Idx) :
    k0_pay2 (F := Ideal) i y j = if (i 0).val = 0 then 0 else y j := by
  have hi : (i 0).val < 43 := (i 0).isLt
  rw [eq_ix2 (n0 := 16) (n1 := 512) j]
  pointwise [k0_pay2]
  exact select_first hi _

/-- The pooled products of a block, as an array. -/
def mixed (b : ℕ) (E : Mat 208 512) (w : Vec Ideal S4x128x256 .bf16) : Mat 192 1024 := fun i => mix (cell E) b (cell₃ w) (i 0).val (i 1).val

/-- The mixed rows of a block, as an array. -/
def rows (M : Mat 192 1024) (x1 : Vec Ideal S8x192x128 .f32) (x2 x3 x4 : Mat 192 1024) (x7 : Mat 1 128) (x9 : Mat 1 1024) : Mat 192 1024 := fun i =>
  out (cell₃ x1) (cell x2) (cell x3) (cell x4) (cell M) (cell x7 0) (cell x9 0) (i 0).val (i 1).val

theorem mixed_at {b : ℕ} {E : Mat 208 512} {w : Vec Ideal S4x128x256 .bf16} {M : Mat 192 1024} (hM : M = mixed b E w) (g : ℕ)
    {k : ℕ} {hk : ∀ a, (![0, k] : Fin 2 → ℕ) a + (![192, 256] : Fin 2 → ℕ) a ≤ (⟨2, ![192, 1024]⟩ : Shape).size a} (hg : g * 256 = k)
    (x : (Rect.unit (s := ⟨2, ![192, 1024]⟩) ![0, k] ![192, 256] hk).shape.Idx) :
    M ((Rect.unit (s := ⟨2, ![192, 1024]⟩) ![0, k] ![192, 256] hk).emb x)
      = ∑ c : Fin 128, pool (cell E) b (2 * 2 ^ g) (x 0).val (g * 128 + c.val) * cell₃ w g c.val (x 1).val := by
  subst hg hM
  rw [← mix_group _ _ _ _ _ (show (x 1).val < 256 from (x 1).isLt)]
  refine congrArg₂ (mix (cell E) b (cell₃ w)) ?_ ?_
  · exact (Nat.zero_add _).trans (Nat.one_mul (x 0).val)
  · exact congrArg (g * 256 + ·) (Nat.one_mul (x 1).val)

theorem rows_at (M : Mat 192 1024) (x1 : Vec Ideal S8x192x128 .f32) (x2 x3 x4 : Mat 192 1024) (x7 : Mat 1 128) (x9 : Mat 1 1024) (h : ℕ)
    {k : ℕ} {hk : ∀ a, (![0, k] : Fin 2 → ℕ) a + (![192, 128] : Fin 2 → ℕ) a ≤ (⟨2, ![192, 1024]⟩ : Shape).size a} (hh : h * 128 = k)
    (x : (Rect.unit (s := ⟨2, ![192, 1024]⟩) ![0, k] ![192, 128] hk).shape.Idx) :
    rows M x1 x2 x3 x4 x7 x9 ((Rect.unit (s := ⟨2, ![192, 1024]⟩) ![0, k] ![192, 128] hk).emb x)
      = lane (cell₃ x1) (cell x2) (cell x3) (cell x4) (cell M) (cell x7 0) (cell x9 0) (x 0).val h (x 1).val (h * 128 + (x 1).val) := by
  subst hh
  have hl : (x 1).val < 128 := (x 1).isLt
  have e0 : ((Rect.unit (s := ⟨2, ![192, 1024]⟩) ![0, h * 128] ![192, 128] hk).emb x 0).val = (x 0).val := (Nat.zero_add _).trans (Nat.one_mul (x 0).val)
  have e1 : ((Rect.unit (s := ⟨2, ![192, 1024]⟩) ![0, h * 128] ![192, 128] hk).emb x 1).val = h * 128 + (x 1).val :=
    congrArg (h * 128 + ·) (Nat.one_mul (x 1).val)
  unfold rows out
  rw [e0, e1, show (h * 128 + (x 1).val) / 128 = h by omega, show (h * 128 + (x 1).val) % 128 = (x 1).val by omega]

theorem canon_eq {e : EltTy} (G : S192x1024.Idx → Elt Ideal e) (L : List (View.Piece (Elt Ideal) S192x1024 e)) (hp : View.PiecesOf G L)
    (hc : ∀ y, ∃ p ∈ L, y ∈ p.1.set) : View.canon L = G :=
  funext fun y => View.canon_apply_of_pieces G L (View.PiecesOf.mem hp) y (hc y)

set_option maxHeartbeats 2000000 in
/-- What the body leaves in its second output: the mixed rows. -/
theorem left_rows (c : Dev nD) (i : grid0.Coords) (arg1 : Memref sig .tc .vmem S192x1024 .f32) (harg1 : arg1.IsWhole) (arg2 : Memref sig .tc .vmem S8x192x128 .f32) (harg2 : arg2.IsWhole) (arg3 : Memref sig .tc .vmem S192x1024 .f32) (harg3 : arg3.IsWhole) (arg4 : Memref sig .tc .vmem S192x1024 .f32) (harg4 : arg4.IsWhole) (arg5 : Memref sig .tc .vmem S192x1024 .f32) (harg5 : arg5.IsWhole) (arg6 : Memref sig .tc .vmem S192x512 .f32) (harg6 : arg6.IsWhole) (arg7 : Memref sig .tc .vmem S16x512 .f32) (harg7 : arg7.IsWhole) (arg8 : Memref sig .tc .vmem S1x128 .f32) (harg8 : arg8.IsWhole) (arg9 : Memref sig .tc .vmem S4x128x256 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S192x1024 .f32) (harg12 : arg12.IsWhole) (arg13 : Memref sig .tc .vmem S192x1024 .bf16) (harg13 : arg13.IsWhole) (arg14 : Memref sig .tc .vmem S208x512 .f32) (harg14 : arg14.IsWhole) (arg15 : Memref sig .tc .vmem S192x1024 .f32) (harg15 : arg15.IsWhole)
    (x0 : Vec Ideal S192x1024 .f32) (x1 : Vec Ideal S8x192x128 .f32) (x2 : Vec Ideal S192x1024 .f32) (x3 : Vec Ideal S192x1024 .f32) (x4 : Vec Ideal S192x1024 .f32) (x5 : Vec Ideal S192x512 .f32) (x6 : Vec Ideal S16x512 .f32) (x7 : Vec Ideal S1x128 .f32) (x8 : Vec Ideal S4x128x256 .bf16) (x9 : Vec Ideal S1x1024 .f32) (x10 : Vec Ideal S1024x1024 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
      = rows (mixed ((i 0).val * 192) (ext ((i 0).val = 0) x6 x5) x8) x1 x2 x3 x4 x7 x9 := by
  obtain ⟨E, hE⟩ : ∃ E : Mat 208 512, E = ext ((i 0).val = 0) x6 x5 := ⟨_, rfl⟩
  rw [← hE]
  obtain ⟨M, hM⟩ : ∃ M, M = mixed ((i 0).val * 192) E x8 := ⟨_, rfl⟩
  rw [← hM]
  have hc := cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
  have hf := filled (A := 16) (B := 208) rfl (first := (i 0).val = 0) x5 x6 (k0_pay2 (F := Ideal) i x6) (halo_at i x6) inb_S208x512_S192x512_16_0 inb_S208x512_S16x512_0_0
  have e : k0_pay3 (F := Ideal) x5 = x5 := by
    funext j
    rw [eq_ix2 (n0 := 192) (n1 := 512) j]
    pointwise [k0_pay3]
  have hE₂ := at₂ E
  have h2 := at₂ (N := 192) (W := 1024) x2
  have h3 := at₂ (N := 192) (W := 1024) x3
  have h4 := at₂ (N := 192) (W := 1024) x4
  have h7 := at₂ (N := 1) (W := 128) x7
  have h9 := at₂ (N := 1) (W := 1024) x9
  have hM₂ := at₂ M
  have h1 := at₃ (A := 8) (N := 192) (W := 128) x1
  have h8 := at₃ (A := 4) (N := 128) (W := 256) x8
  unfold out0_A_12
  rw [View.read_writes_eq_canon _ _ _ hc]
  refine canon_eq (rows M x1 x2 x3 x4 x7 x9) _ ?_ hc
  unfold kernelRun0_A
  dsimp only
  sl_unfold_words
  simp only [View.readAt_eq_ld, Memref.IsWhole.read_unread, View.readCov_eq_canon', View.ld_unit_zero (S := S192x512) z2,
    View.ld_unit_zero (S := S16x512) z2, View.ld_unit_zero (S := S1x128) z2, e]
  rw [hf.trans hE.symm]
  rw [canon_eq M _ ?_ ?_]
  · repeat' refine And.intro (fun x => ?_) ?_
    rotate_right
    · exact trivial
    · refine Eq.trans ?_ (rows_at M x1 x2 x3 x4 x7 x9 7 (hk := by decide) rfl x).symm
      rw [eq_ix2 (n0 := 192) (n1 := 128) x]
      pointwise [k0_pay37, k0_pay38, k0_pay39, h1, h2, h3, h4, h7, h9, hM₂, zero_sub]
      rfl
    · refine Eq.trans ?_ (rows_at M x1 x2 x3 x4 x7 x9 6 (hk := by decide) rfl x).symm
      rw [eq_ix2 (n0 := 192) (n1 := 128) x]
      pointwise [k0_pay34, k0_pay35, k0_pay36, h1, h2, h3, h4, h7, h9, hM₂, zero_sub]
      rfl
    · refine Eq.trans ?_ (rows_at M x1 x2 x3 x4 x7 x9 5 (hk := by decide) rfl x).symm
      rw [eq_ix2 (n0 := 192) (n1 := 128) x]
      pointwise [k0_pay30, k0_pay31, k0_pay32, k0_pay33, h1, h2, h3, h4, h7, h9, hM₂, zero_sub]
      rfl
    · refine Eq.trans ?_ (rows_at M x1 x2 x3 x4 x7 x9 4 (hk := by decide) rfl x).symm
      rw [eq_ix2 (n0 := 192) (n1 := 128) x]
      pointwise [k0_pay27, k0_pay28, k0_pay29, h1, h2, h3, h4, h7, h9, hM₂, zero_sub]
      rfl
    · refine Eq.trans ?_ (rows_at M x1 x2 x3 x4 x7 x9 3 (hk := by decide) rfl x).symm
      rw [eq_ix2 (n0 := 192) (n1 := 128) x]
      pointwise [k0_pay24, k0_pay25, k0_pay26, h1, h2, h3, h4, h7, h9, hM₂, zero_sub]
      rfl
    · refine Eq.trans ?_ (rows_at M x1 x2 x3 x4 x7 x9 2 (hk := by decide) rfl x).symm
      rw [eq_ix2 (n0 := 192) (n1 := 128) x]
      pointwise [k0_pay20, k0_pay21, k0_pay22, k0_pay23, h1, h2, h3, h4, h7, h9, hM₂, zero_sub]
      rfl
    · refine Eq.trans ?_ (rows_at M x1 x2 x3 x4 x7 x9 1 (hk := by decide) rfl x).symm
      rw [eq_ix2 (n0 := 192) (n1 := 128) x]
      pointwise [k0_pay17, k0_pay18, k0_pay19, h1, h2, h3, h4, h7, h9, hM₂, zero_sub]
      rfl
    · refine Eq.trans ?_ (rows_at M x1 x2 x3 x4 x7 x9 0 (hk := by decide) rfl x).symm
      rw [eq_ix2 (n0 := 192) (n1 := 128) x]
      pointwise [k0_pay14, k0_pay15, k0_pay16, h1, h2, h3, h4, h7, h9, hM₂, zero_sub]
      simp only [lane, Nat.zero_mul, Nat.zero_add]
      rfl
  · repeat' refine And.intro (fun x => ?_) ?_
    rotate_right
    · exact trivial
    · refine Eq.trans ?_ (mixed_at hM 3 (hk := by decide) rfl x).symm
      rw [eq_ix2 (n0 := 192) (n1 := 256) x]
      pointwise [k0_pay4, k0_pay5, k0_pay6, k0_pay7, k0_pay8, k0_pay9, k0_pay10, k0_pay11, k0_pay12, k0_pay13, hE₂, h8, row_word]
      rfl
    · refine Eq.trans ?_ (mixed_at hM 2 (hk := by decide) rfl x).symm
      rw [eq_ix2 (n0 := 192) (n1 := 256) x]
      pointwise [k0_pay4, k0_pay5, k0_pay6, k0_pay7, k0_pay8, k0_pay9, k0_pay10, k0_pay11, k0_pay12, k0_pay13, hE₂, h8, row_word]
      rfl
    · refine Eq.trans ?_ (mixed_at hM 1 (hk := by decide) rfl x).symm
      rw [eq_ix2 (n0 := 192) (n1 := 256) x]
      pointwise [k0_pay4, k0_pay5, k0_pay6, k0_pay7, k0_pay8, k0_pay9, k0_pay10, k0_pay11, k0_pay12, k0_pay13, hE₂, h8, row_word]
      rfl
    · refine Eq.trans ?_ (mixed_at hM 0 (hk := by decide) rfl x).symm
      rw [eq_ix2 (n0 := 192) (n1 := 256) x]
      pointwise [k0_pay4, k0_pay5, k0_pay6, k0_pay7, k0_pay8, k0_pay9, k0_pay10, k0_pay11, k0_pay12, k0_pay13, hE₂, h8, row_word]
      simp only [pool, total, Nat.zero_mul, Nat.zero_add]
      rfl
  · exact View.cover_of_tiled _ S192x256.size (by rfl)

set_option maxHeartbeats 2000000 in
/-- What the body leaves in its first output: the hidden rows plus the product of the mixed rows with the weights. -/
theorem left_hidden (c : Dev nD) (i : grid0.Coords) (arg1 : Memref sig .tc .vmem S192x1024 .f32) (harg1 : arg1.IsWhole) (arg2 : Memref sig .tc .vmem S8x192x128 .f32) (harg2 : arg2.IsWhole) (arg3 : Memref sig .tc .vmem S192x1024 .f32) (harg3 : arg3.IsWhole) (arg4 : Memref sig .tc .vmem S192x1024 .f32) (harg4 : arg4.IsWhole) (arg5 : Memref sig .tc .vmem S192x1024 .f32) (harg5 : arg5.IsWhole) (arg6 : Memref sig .tc .vmem S192x512 .f32) (harg6 : arg6.IsWhole) (arg7 : Memref sig .tc .vmem S16x512 .f32) (harg7 : arg7.IsWhole) (arg8 : Memref sig .tc .vmem S1x128 .f32) (harg8 : arg8.IsWhole) (arg9 : Memref sig .tc .vmem S4x128x256 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S192x1024 .f32) (harg12 : arg12.IsWhole) (arg13 : Memref sig .tc .vmem S192x1024 .bf16) (harg13 : arg13.IsWhole) (arg14 : Memref sig .tc .vmem S208x512 .f32) (harg14 : arg14.IsWhole) (arg15 : Memref sig .tc .vmem S192x1024 .f32) (harg15 : arg15.IsWhole)
    (x0 : Vec Ideal S192x1024 .f32) (x1 : Vec Ideal S8x192x128 .f32) (x2 : Vec Ideal S192x1024 .f32) (x3 : Vec Ideal S192x1024 .f32) (x4 : Vec Ideal S192x1024 .f32) (x5 : Vec Ideal S192x512 .f32) (x6 : Vec Ideal S16x512 .f32) (x7 : Vec Ideal S1x128 .f32) (x8 : Vec Ideal S4x128x256 .bf16) (x9 : Vec Ideal S1x1024 .f32) (x10 : Vec Ideal S1024x1024 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
      = k0_pay1 x0 (rows (mixed ((i 0).val * 192) (ext ((i 0).val = 0) x6 x5) x8) x1 x2 x3 x4 x7 x9) x10 := by
  have hr := left_rows c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
  unfold out0_A_12 at hr
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)] at hr
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10), ← hr]
  unfold kernelRun0_A
  dsimp only
  rw [View.canon_unit_zero (S := S192x1024) z2]
  refine congr (congr (congrArg (k0_pay1 (F := Ideal)) ?_) ?_) ?_
  · sl_unfold_words
    simp only [View.readAt_eq_ld, View.ld_unit_zero (S := S192x1024) z2, Memref.IsWhole.read_unread]
  · unfold kernelRun0_A.sl.v548
    rw [View.readCov_eq_canon']
    exact View.ld_unit_zero (S := S192x1024) z2 _ _
  · sl_unfold_words
    simp only [View.readAt_eq_ld, View.ld_unit_zero (S := S1024x1024) z2, Memref.IsWhole.read_unread]

theorem product_at (x : Vec Ideal S192x1024 .f32) (y : Vec Ideal S192x1024 .bf16) (w : Vec Ideal S1024x1024 .bf16) (p : Fin 192) (e : Fin 1024) :
    k0_pay1 (F := Ideal) x y w (ix2 p e) = x (ix2 p e) + ∑ k : Fin 1024, y (ix2 p k) * w (ix2 k e) := by
  pointwise [k0_pay1]

variable (m : (ℓ : Loc nD τ sig) → Buf (Elt Ideal) ℓ) (c : Dev nD)

abbrev given : Mat 8256 1024 := m ((c : Thread nD τ).loc main_arg0)
abbrev heads : S8x8256x128.Idx → EReal := m ((c : Thread nD τ).loc main_arg1)
abbrev proj : Mat 8256 6912 := m ((c : Thread nD τ).loc main_arg2)
abbrev gain : Mat 1 128 := m ((c : Thread nD τ).loc main_arg3)
abbrev groups : S4x128x256.Idx → EReal := m ((c : Thread nD τ).loc main_arg4)
abbrev scale : Mat 1 1024 := m ((c : Thread nD τ).loc main_arg5)
abbrev weights : Mat 1024 1024 := m ((c : Thread nD τ).loc main_arg6)

theorem place : ∀ t : Fin cfg0.N, win0_0.index t = ![t.val, 0] ∧ win0_1.index t = ![0, t.val, 0] ∧ win0_2.index t = ![t.val, 3]
    ∧ win0_3.index t = ![t.val, 4] ∧ win0_4.index t = ![t.val, 5] ∧ win0_5.index t = ![t.val, 12] ∧ win0_6.index t = ![t.val * 12 - 1, 12]
    ∧ win0_7.index t = ![0, 0] ∧ win0_8.index t = ![0, 0, 0] ∧ win0_9.index t = ![0, 0] ∧ win0_10.index t = ![0, 0]
    ∧ win0_11.index t = ![t.val, 0] ∧ win0_12.index t = ![t.val, 0] ∧ (grid0.coords t 0).val = t.val :=
  (by decide +kernel : ∀ t : Fin grid0.N, win0_0.index t = ![t.val, 0] ∧ win0_1.index t = ![0, t.val, 0] ∧ win0_2.index t = ![t.val, 3]
    ∧ win0_3.index t = ![t.val, 4] ∧ win0_4.index t = ![t.val, 5] ∧ win0_5.index t = ![t.val, 12] ∧ win0_6.index t = ![t.val * 12 - 1, 12]
    ∧ win0_7.index t = ![0, 0] ∧ win0_8.index t = ![0, 0, 0] ∧ win0_9.index t = ![0, 0] ∧ win0_10.index t = ![0, 0]
    ∧ win0_11.index t = ![t.val, 0] ∧ win0_12.index t = ![t.val, 0] ∧ (grid0.coords t 0).val = t.val)

variable (t : Fin cfg0.N)

theorem below : t.val < 43 := lt_of_lt_of_eq t.isLt N_0

theorem blk_given (p : Fin 192) (l : Fin 1024) : iblk m c 0 t (ix2 p l) = cell (given m c) (t.val * 192 + p.val) l.val := by
  have := below t
  refine Eq.trans ?_ (read_cell (given m c) (ix2 ⟨t.val * 192 + p.val, by omega⟩ l) _ _ rfl rfl)
  blk_ext! [iblk, V, place t]

theorem blk_heads (h : Fin 8) (p : Fin 192) (l : Fin 128) : iblk m c 1 t (ix3 h p l) = cell₃ (heads m c) h.val (t.val * 192 + p.val) l.val := by
  have := below t
  refine Eq.trans ?_ (at₃ (heads m c) h ⟨t.val * 192 + p.val, by omega⟩ l)
  blk_ext! [iblk, V, place t]

theorem blk_z (p : Fin 192) (l : Fin 1024) : X0_2 m c t (ix2 p l) = part (proj m c) 3072 (t.val * 192 + p.val) l.val := by
  have := below t
  refine Eq.trans ?_ (read_cell (proj m c) (ix2 ⟨t.val * 192 + p.val, by omega⟩ ⟨3072 + l.val, by omega⟩) _ _ rfl rfl)
  unfold X0_2 Pipeline.Window.fill
  rw [dif_pos (moved0_2 t _)]
  blk_ext! [iblk, V, place t]

theorem blk_a (p : Fin 192) (l : Fin 1024) : X0_3 m c t (ix2 p l) = part (proj m c) 4096 (t.val * 192 + p.val) l.val := by
  have := below t
  refine Eq.trans ?_ (read_cell (proj m c) (ix2 ⟨t.val * 192 + p.val, by omega⟩ ⟨4096 + l.val, by omega⟩) _ _ rfl rfl)
  unfold X0_3 Pipeline.Window.fill
  rw [dif_pos (moved0_3 t _)]
  blk_ext! [iblk, V, place t]

theorem blk_b (p : Fin 192) (l : Fin 1024) : X0_4 m c t (ix2 p l) = part (proj m c) 5120 (t.val * 192 + p.val) l.val := by
  have := below t
  refine Eq.trans ?_ (read_cell (proj m c) (ix2 ⟨t.val * 192 + p.val, by omega⟩ ⟨5120 + l.val, by omega⟩) _ _ rfl rfl)
  unfold X0_4 Pipeline.Window.fill
  rw [dif_pos (moved0_4 t _)]
  blk_ext! [iblk, V, place t]

theorem blk_pool (p : Fin 192) (l : Fin 512) : X0_5 m c t (ix2 p l) = cell (proj m c) (t.val * 192 + p.val) (6144 + l.val) := by
  have := below t
  refine Eq.trans ?_ (read_cell (proj m c) (ix2 ⟨t.val * 192 + p.val, by omega⟩ ⟨6144 + l.val, by omega⟩) _ _ rfl rfl)
  unfold X0_5 Pipeline.Window.fill
  rw [dif_pos (moved0_5 t _)]
  blk_ext! [iblk, V, place t]

theorem blk_halo (ht : 0 < t.val) (p : Fin 16) (l : Fin 512) : X0_6 m c t (ix2 p l) = cell (proj m c) (t.val * 192 + p.val - 16) (6144 + l.val) := by
  have := below t
  refine Eq.trans ?_ (read_cell (proj m c) (ix2 ⟨t.val * 192 + p.val - 16, by omega⟩ ⟨6144 + l.val, by omega⟩) _ _ rfl rfl)
  unfold X0_6 Pipeline.Window.fill
  rw [dif_pos (moved0_6 t _)]
  blk_ext! [iblk, V, place t]

theorem blk_gain : iblk m c 7 t = gain m c := by
  funext y
  blk_ext! [iblk, V, place t]

theorem blk_groups : iblk m c 8 t = groups m c := by
  funext y
  blk_ext! [iblk, V, place t]

theorem blk_scale : iblk m c 9 t = scale m c := by
  funext y
  blk_ext! [iblk, V, place t]

theorem blk_weights : iblk m c 10 t = weights m c := by
  funext y
  blk_ext! [iblk, V, place t]

/-- The extended block reads the pooled columns, 16 rows of zeros first. -/
theorem ext_past {q l : ℕ} (hq : q < 208) (hl : l < 512) :
    cell (M := 208) (ext (t.val = 0) (X0_6 m c t) (X0_5 m c t)) q l = past (proj m c) (t.val * 192 + q) l := by
  have ht := below t
  refine (read_cell _ (ix2 (n0 := 208) (n1 := 512) ⟨q, hq⟩ ⟨l, hl⟩) q l rfl rfl).symm.trans ?_
  unfold ext past
  show (if q < 16 then if t.val = 0 then 0 else cell (X0_6 m c t) q l else cell (X0_5 m c t) (q - 16) l) = _
  by_cases h : q < 16
  · rw [if_pos h]
    by_cases h0 : t.val = 0
    · rw [if_pos h0, if_pos (by omega)]
    · rw [if_neg h0, if_neg (by omega)]
      exact (at₂ (N := 16) (W := 512) (X0_6 m c t) ⟨q, h⟩ ⟨l, hl⟩).symm.trans (blk_halo m c t (by omega) ⟨q, h⟩ ⟨l, hl⟩)
  · rw [if_neg h, if_neg (by omega)]
    refine (at₂ (N := 192) (W := 512) (X0_5 m c t) ⟨q - 16, by omega⟩ ⟨l, hl⟩).symm.trans ((blk_pool m c t ⟨q - 16, by omega⟩ ⟨l, hl⟩).trans ?_)
    exact congrArg (cell (proj m c) · (6144 + l)) (show t.val * 192 + (q - 16) = t.val * 192 + q - 16 by omega)

/-- The mixed rows of a block. -/
theorem rows_block (p : Fin 192) (d : Fin 1024) :
    rows (mixed ((grid0.coords t 0).val * 192) (ext ((grid0.coords t 0).val = 0) (X0_6 m c t) (X0_5 m c t)) (iblk m c 8 t)) (iblk m c 1 t)
        (X0_2 m c t) (X0_3 m c t) (X0_4 m c t) (iblk m c 7 t) (iblk m c 9 t) (ix2 p d)
      = mixRow (heads m c) (proj m c) (gain m c) (groups m c) (scale m c) (t.val * 192 + p.val) d.val := by
  rw [(place t).2.2.2.2.2.2.2.2.2.2.2.2.2, blk_gain, blk_groups, blk_scale]
  unfold rows mixRow
  refine out_shift (q := p.val) d.isLt (fun h hh l hl => ?_) (fun d hd => ?_) (fun d hd => ?_) (fun d hd => ?_) (fun d hd => ?_)
  · exact (at₃ (A := 8) (N := 192) (W := 128) (iblk m c 1 t) ⟨h, hh⟩ p ⟨l, hl⟩).symm.trans (blk_heads m c t ⟨h, hh⟩ p ⟨l, hl⟩)
  · exact (at₂ (N := 192) (W := 1024) (X0_2 m c t) p ⟨d, hd⟩).symm.trans (blk_z m c t p ⟨d, hd⟩)
  · exact (at₂ (N := 192) (W := 1024) (X0_3 m c t) p ⟨d, hd⟩).symm.trans (blk_a m c t p ⟨d, hd⟩)
  · exact (at₂ (N := 192) (W := 1024) (X0_4 m c t) p ⟨d, hd⟩).symm.trans (blk_b m c t p ⟨d, hd⟩)
  · refine (at₂ (N := 192) (W := 1024) _ p ⟨d, hd⟩).symm.trans ?_
    unfold mixed
    exact mix_shift (fun q hq l hl => ext_past m c t hq hl) _ p.isLt hd

/-- The second result of the kernel, whole. -/
theorem whole_rows : (dats m 0 c).arrAt 12 cfg0.N
    = fun i => mixRow (heads m c) (proj m c) (gain m c) (groups m c) (scale m c) (i 0).val (i 1).val := by
  refine (dats m 0 c).arrAt_eq_of_covers 12 _ (by decide +kernel) fun t hf y => ?_
  have ht := below t
  blk_simp
  rw [after0_12]
  rw [show win0_12.index t 0 = t.val from congrFun (place t).2.2.2.2.2.2.2.2.2.2.2.2.1 0, show win0_12.index t 1 = 0 from congrFun (place t).2.2.2.2.2.2.2.2.2.2.2.2.1 1,
    Nat.zero_mul, Nat.zero_add]
  unfold outsAt0
  dsimp only
  rw [left_rows]
  exact (congrArg _ (eq_ix2 (n0 := 192) (n1 := 1024) y)).trans (rows_block m c t (y 0) (y 1))

/-- The first result of the kernel, whole. -/
theorem whole_hidden : (dats m 0 c).arrAt 11 cfg0.N
    = fun i => hidden (given m c) (heads m c) (proj m c) (gain m c) (groups m c) (scale m c) (weights m c) (i 0).val (i 1).val := by
  refine (dats m 0 c).arrAt_eq_of_covers 11 _ (by decide +kernel) fun t hf y => ?_
  have ht := below t
  blk_simp
  rw [after0_11]
  rw [show win0_11.index t 0 = t.val from congrFun (place t).2.2.2.2.2.2.2.2.2.2.2.1 0, show win0_11.index t 1 = 0 from congrFun (place t).2.2.2.2.2.2.2.2.2.2.2.1 1,
    Nat.zero_mul, Nat.zero_add]
  unfold outsAt0
  dsimp only
  rw [left_hidden]
  refine (congrArg _ (eq_ix2 (n0 := 192) (n1 := 1024) y)).trans ((product_at _ _ _ (y 0) (y 1)).trans ?_)
  refine congrArg₂ (· + ·) (blk_given m c t (y 0) (y 1)) (Finset.sum_congr rfl fun k _ => ?_)
  rw [blk_weights]
  exact congrArg₂ (· * ·) (rows_block m c t (y 0) k) (at₂ (weights m c) k (y 1))

end Kernel

/-- The reference's run: its arguments are kept, and it has no semaphore. -/
theorem frame_reference : Cert.quiescent_MixerPostReferenceIdeal (hMixerPostReferenceIdeal := Cert.MixerPostReferenceIdeal.Gen.facts) :=
  fun m ρ _ => (θ_run (Cert.MixerPostReferenceIdeal.defs (F := Ideal)) _ _).mono
    (fun r h => ⟨fun c => (h c).2.2, sem_eq_zero_of_no_sems (by decide) r.2⟩) (Cert.MixerPostReferenceIdeal.Value.run (F := Ideal) m ρ)

/-- The kernel's hidden rows and mixed rows are the reference's. -/
theorem algebraic : Cert.algebraic_MixerPostKernelIdeal_MixerPostReferenceIdeal := fun m ρ m' ρ' _ agree =>
  ⟨fun c i => hidden (given m c) (heads m c) (proj m c) (gain m c) (groups m c) (scale m c) (weights m c) (i 0).val (i 1).val,
    fun c i => mixRow (heads m c) (proj m c) (gain m c) (groups m c) (scale m c) (i 0).val (i 1).val,
    (θ_run _ _ _).mono (fun r h c => ⟨(h c).1.trans (whole_hidden m c), (h c).2.1.trans (whole_rows m c), (h c).2.2⟩)
      (Cert.MixerPostKernelIdeal.Value.run_blocks (F := Ideal) m ρ),
    (θ_run _ _ _).mono (fun r h c => by
      obtain ⟨h1, h2, h3⟩ := h c
      obtain ⟨a0, a1, a2, a3, a4, a5, a6⟩ := agree c
      have e : rows' (StableHlo.launchContents m' c)
          = fun i => mixRow (heads m c) (proj m c) (gain m c) (groups m c) (scale m c) (i 0).val (i 1).val := by
        unfold rows'
        rw [show heads' (StableHlo.launchContents m' c) = heads m c from a1, show proj' (StableHlo.launchContents m' c) = proj m c from a2,
          show gain' (StableHlo.launchContents m' c) = gain m c from a3, show groups' (StableHlo.launchContents m' c) = groups m c from a4,
          show scale' (StableHlo.launchContents m' c) = scale m c from a5]
      refine ⟨h1.trans (funext fun i => ?_), h2.trans e, h3⟩
      rw [e, show given' (StableHlo.launchContents m' c) = given m c from a0, show weights' (StableHlo.launchContents m' c) = weights m c from a6]
      unfold hidden
      exact congrArg₂ (· + ·) (at₂ (given m c) (i 0) (i 1)) (Finset.sum_congr rfl fun k _ => congrArg₂ (· * ·) rfl (at₂ (weights m c) k (i 1))))
      (run_results m' ρ')⟩

end Cert.Proof.MixerPost

end
-- ==== Proof.lean ====
/-
  The claims, assembled.

  Both programs end with their four results at one and the same function of the arguments, `Inp.dq`, `Inp.dk`, `Inp.dv` and
  `Inp.dgb` of Proof/Seq.lean: the chunks of the delta rule taken from the last to the first, each handing the gradient of the
  state it was given to the chunk before it. Proof/Chunk.lean says what one chunk makes of its reals; Proof/RefChunk.lean and
  Proof/KerChunk.lean say that a trip of the reference's loop and a grid point of the kernel compute just that;
  Proof/RefTrips.lean, Proof/RefRun.lean and Proof/KerRun.lean carry it through all chunks; Proof/Finite.lean reads the precondition.

  The other calls have a module each, named as their programs are. What the eleven products share is Proof/Product.lean, the two
  transposed convolutions Proof/Conv.lean, the four optimiser calls Proof/Adam.lean, the norm and the loss head Proof/Norm.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.Gen.Pre_finite_rmsbwd
public import proofs.«01_k».proof.Proof.Gen.Pre_finite_final
public import proofs.«01_k».proof.Proof.Gen.Pre_finite_ffnactbwd
public import proofs.«01_k».proof.Proof.Finite
public import proofs.«01_k».proof.Proof.KerRun
public import proofs.«01_k».proof.Proof.RefRun
public import proofs.«01_k».proof.Proof.RefTrips
public import proofs.«01_k».proof.Proof.Gen.UpDxKernel
public import proofs.«01_k».proof.Proof.Gen.UpDxKernel.Frame
public import proofs.«01_k».proof.Proof.UpDx
public import proofs.«01_k».proof.Proof.Gen.UpDwKernel
public import proofs.«01_k».proof.Proof.Gen.UpDwKernel.Frame
public import proofs.«01_k».proof.Proof.UpDw
public import proofs.«01_k».proof.Proof.Gen.InDxKernel
public import proofs.«01_k».proof.Proof.Gen.InDxKernel.Frame
public import proofs.«01_k».proof.Proof.InDx
public import proofs.«01_k».proof.Proof.Gen.InDwKernel
public import proofs.«01_k».proof.Proof.Gen.InDwKernel.Frame
public import proofs.«01_k».proof.Proof.InDw
public import proofs.«01_k».proof.Proof.Gen.DownDxKernel
public import proofs.«01_k».proof.Proof.Gen.DownDxKernel.Frame
public import proofs.«01_k».proof.Proof.DownDx
public import proofs.«01_k».proof.Proof.Gen.DownDwKernel
public import proofs.«01_k».proof.Proof.Gen.DownDwKernel.Frame
public import proofs.«01_k».proof.Proof.DownDw
public import proofs.«01_k».proof.Proof.Gen.OutDxKernel
public import proofs.«01_k».proof.Proof.Gen.OutDxKernel.Frame
public import proofs.«01_k».proof.Proof.OutDx
public import proofs.«01_k».proof.Proof.Gen.OutDwKernel
public import proofs.«01_k».proof.Proof.Gen.OutDwKernel.Frame
public import proofs.«01_k».proof.Proof.OutDw
public import proofs.«01_k».proof.Proof.Gen.InKernel
public import proofs.«01_k».proof.Proof.Gen.InKernel.Frame
public import proofs.«01_k».proof.Proof.In
public import proofs.«01_k».proof.Proof.Gen.UpKernel
public import proofs.«01_k».proof.Proof.Gen.UpKernel.Frame
public import proofs.«01_k».proof.Proof.Up
public import proofs.«01_k».proof.Proof.Gen.DownKernel
public import proofs.«01_k».proof.Proof.Gen.DownKernel.Frame
public import proofs.«01_k».proof.Proof.Down
public import proofs.«01_k».proof.Proof.Gen.RmsBwdKernel
public import proofs.«01_k».proof.Proof.Gen.RmsBwdKernel.Frame
public import proofs.«01_k».proof.Proof.RmsBwd
public import proofs.«01_k».proof.Proof.Gen.ConvFfnKernel
public import proofs.«01_k».proof.Proof.Gen.ConvFfnKernel.Frame
public import proofs.«01_k».proof.Proof.ConvFfn
public import proofs.«01_k».proof.Proof.Gen.ConvQkvKernel
public import proofs.«01_k».proof.Proof.Gen.ConvQkvKernel.Frame
public import proofs.«01_k».proof.Proof.ConvQkv
public import proofs.«01_k».proof.Proof.Gen.AdamInKernel
public import proofs.«01_k».proof.Proof.Gen.AdamInKernel.Frame
public import proofs.«01_k».proof.Proof.AdamIn
public import proofs.«01_k».proof.Proof.Gen.AdamUpKernel
public import proofs.«01_k».proof.Proof.Gen.AdamUpKernel.Frame
public import proofs.«01_k».proof.Proof.AdamUp
public import proofs.«01_k».proof.Proof.Gen.AdamOutKernel
public import proofs.«01_k».proof.Proof.Gen.AdamOutKernel.Frame
public import proofs.«01_k».proof.Proof.AdamOut
public import proofs.«01_k».proof.Proof.Gen.AdamDownKernel
public import proofs.«01_k».proof.Proof.Gen.AdamDownKernel.Frame
public import proofs.«01_k».proof.Proof.AdamDown
public import proofs.«01_k».proof.Proof.Gen.FinalKernel
public import proofs.«01_k».proof.Proof.Gen.FinalKernel.Frame
public import proofs.«01_k».proof.Proof.Final
public import proofs.«01_k».proof.Proof.Gen.RmsFwdKernel
public import proofs.«01_k».proof.Proof.Gen.RmsFwdKernel.Frame
public import proofs.«01_k».proof.Proof.Gen.PoolTKernel
public import proofs.«01_k».proof.Proof.Gen.PoolTKernel.Frame
public import proofs.«01_k».proof.Proof.PoolT
public import proofs.«01_k».proof.Proof.Gen.FfnActKernel
public import proofs.«01_k».proof.Proof.Gen.FfnActKernel.Frame
public import proofs.«01_k».proof.Proof.FfnAct
public import proofs.«01_k».proof.Proof.Gen.FfnActBwdKernel
public import proofs.«01_k».proof.Proof.Gen.FfnActBwdKernel.Frame
public import proofs.«01_k».proof.Proof.FfnActBwd
public import proofs.«01_k».proof.Proof.RmsFwd
public import proofs.«01_k».proof.Proof.Gen.MixerPostKernel
public import proofs.«01_k».proof.Proof.Gen.MixerPostKernel.Frame
public import proofs.«01_k».proof.Proof.MixerPost
public import Idealize.ShloMosaic.Lib.Quiescent

@[expose] public section

noncomputable section

namespace Cert.Proof

open Idealize.ShloMosaic Idealize.ShloMosaic.TcCoe Idealize.SL.Sem Cert.Delta

/-- The reference's run: its arguments are kept, and it has no semaphore. -/
theorem frame_reference : Cert.quiescent_ReferenceIdeal (hReferenceIdeal := Cert.ReferenceIdeal.Gen.facts) :=
  fun m ρ _ => (θ_run (Cert.ReferenceIdeal.defs (F := Ideal)) _ _).mono
    (fun r h => ⟨fun c => (h c).2.2.2.2, sem_eq_zero_of_no_sems (by decide) r.2⟩)
    (Cert.ReferenceIdeal.Value.run (F := Ideal) m ρ)

/-- The states of the reference's loop. -/
def states (s : Cert.ReferenceIdeal.Step.State Ideal) : ℕ → Cert.ReferenceIdeal.Step.State Ideal
  | 0 => s
  | n + 1 => Cert.ReferenceIdeal.Step.step n (states s n)

theorem algebraic : Cert.algebraic_KernelIdeal_ReferenceIdeal_pre_finite := by
  intro m ρ m' ρ' hpre hagree
  let I : Dev Cert.KernelIdeal.nD → Inp := fun c => Finite.inp
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
  have G : ∀ c, Ker.Gives m c (I c) := fun c => by
    obtain ⟨h0, h1, h2, h3, h4, h5, h6⟩ := Finite.of_pre (hpre c)
    exact ⟨fun _ _ _ => h0 _, fun _ _ _ => h1 _, fun _ _ _ => h2 _, fun _ _ => h3 _, fun _ _ _ => h4 _,
      fun _ _ _ _ => h5 _, fun _ _ _ _ => h6 _⟩
  have R : ∀ c, Ref.Inv (I c) 129 (states (Ref.start m' c) 129) := fun c => by
    refine Ref.inv_iter (states _) ?_ (fun _ => rfl) 129 (le_refl _)
    obtain ⟨e0, e1, e2, e3, e4, e5, e6⟩ := hagree c
    obtain ⟨h0, h1, h2, h3, h4, h5, h6⟩ := Finite.of_pre (hpre c)
    exact Ref.inv_init (fun _ _ _ => (congrFun e0 _).trans (h0 _)) (fun _ _ _ => (congrFun e1 _).trans (h1 _))
      (fun _ _ _ => (congrFun e2 _).trans (h2 _)) (fun _ _ => (congrFun e3 _).trans (h3 _))
      (fun _ _ _ => (congrFun e4 _).trans (h4 _)) (fun _ _ _ _ => (congrFun e5 _).trans (h5 _))
      (fun _ _ _ _ => (congrFun e6 _).trans (h6 _))
  refine ⟨fun c i => ((I c).dq (i 0) (i 1) (i 2) : EReal), fun c i => ((I c).dk (i 0) (i 1) (i 2) : EReal),
    fun c i => ((I c).dv (i 0) (i 1) (i 2) : EReal), fun c i => ((I c).dgb (i 0) (i 1) : EReal), ?_, ?_⟩
  · exact (θ_run _ _ _).mono (fun r h c => ⟨(h c).1.trans (Ker.arr7 (G c)), (h c).2.1.trans (Ker.arr8 (G c)),
      (h c).2.2.1.trans (Ker.arr9 (G c)), (h c).2.2.2.1.trans (Ker.arr10 (G c)), (h c).2.2.2.2⟩)
      (Cert.KernelIdeal.Value.run_blocks (F := Ideal) m ρ)
  · exact (θ_run _ _ _).mono (fun r h c => ⟨(h c).1.trans (Ref.R16 (R c)), (h c).2.1.trans (Ref.R18 (R c)),
      (h c).2.2.1.trans (Ref.R20 (R c)), (h c).2.2.2.1.trans (Ref.R21 (R c)), (h c).2.2.2.2⟩)
      (Ref.runs (F := Ideal) m' ρ'
        (fun c => states (Ref.start m' c)) (fun _ => rfl) (fun _ _ => rfl))

theorem claim : Cert.Claim := ⟨Cert.Kernel.Gen.facts, Cert.KernelIdeal.Gen.facts, Cert.ReferenceIdeal.Gen.facts,
  Cert.UpDxKernel.Gen.facts, Cert.UpDxKernelIdeal.Gen.facts, Cert.UpDxReferenceIdeal.Gen.facts,
  Cert.UpDwKernel.Gen.facts, Cert.UpDwKernelIdeal.Gen.facts, Cert.UpDwReferenceIdeal.Gen.facts,
  Cert.InDxKernel.Gen.facts, Cert.InDxKernelIdeal.Gen.facts, Cert.InDxReferenceIdeal.Gen.facts,
  Cert.InDwKernel.Gen.facts, Cert.InDwKernelIdeal.Gen.facts, Cert.InDwReferenceIdeal.Gen.facts,
  Cert.DownDxKernel.Gen.facts, Cert.DownDxKernelIdeal.Gen.facts, Cert.DownDxReferenceIdeal.Gen.facts,
  Cert.DownDwKernel.Gen.facts, Cert.DownDwKernelIdeal.Gen.facts, Cert.DownDwReferenceIdeal.Gen.facts,
  Cert.OutDxKernel.Gen.facts, Cert.OutDxKernelIdeal.Gen.facts, Cert.OutDxReferenceIdeal.Gen.facts,
  Cert.OutDwKernel.Gen.facts, Cert.OutDwKernelIdeal.Gen.facts, Cert.OutDwReferenceIdeal.Gen.facts,
  Cert.InKernel.Gen.facts, Cert.InKernelIdeal.Gen.facts, Cert.InReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.RmsBwdKernel.Gen.facts, Cert.RmsBwdKernelIdeal.Gen.facts, Cert.RmsBwdReferenceIdeal.Gen.facts,
  Cert.ConvFfnKernel.Gen.facts, Cert.ConvFfnKernelIdeal.Gen.facts, Cert.ConvFfnReferenceIdeal.Gen.facts,
  Cert.ConvQkvKernel.Gen.facts, Cert.ConvQkvKernelIdeal.Gen.facts, Cert.ConvQkvReferenceIdeal.Gen.facts,
  Cert.AdamInKernel.Gen.facts, Cert.AdamInKernelIdeal.Gen.facts, Cert.AdamInReferenceIdeal.Gen.facts,
  Cert.AdamUpKernel.Gen.facts, Cert.AdamUpKernelIdeal.Gen.facts, Cert.AdamUpReferenceIdeal.Gen.facts,
  Cert.AdamOutKernel.Gen.facts, Cert.AdamOutKernelIdeal.Gen.facts, Cert.AdamOutReferenceIdeal.Gen.facts,
  Cert.AdamDownKernel.Gen.facts, Cert.AdamDownKernelIdeal.Gen.facts, Cert.AdamDownReferenceIdeal.Gen.facts,
  Cert.FinalKernel.Gen.facts, Cert.FinalKernelIdeal.Gen.facts, Cert.FinalReferenceIdeal.Gen.facts,
  Cert.RmsFwdKernel.Gen.facts, Cert.RmsFwdKernelIdeal.Gen.facts, Cert.RmsFwdReferenceIdeal.Gen.facts,
  Cert.MixerPostKernel.Gen.facts, Cert.MixerPostKernelIdeal.Gen.facts, Cert.MixerPostReferenceIdeal.Gen.facts,
  Cert.PoolTKernel.Gen.facts, Cert.PoolTKernelIdeal.Gen.facts, Cert.PoolTReferenceIdeal.Gen.facts,
  Cert.FfnActKernel.Gen.facts, Cert.FfnActKernelIdeal.Gen.facts, Cert.FfnActReferenceIdeal.Gen.facts,
  Cert.FfnActBwdKernel.Gen.facts, Cert.FfnActBwdKernelIdeal.Gen.facts, Cert.FfnActBwdReferenceIdeal.Gen.facts,
  Cert.Pre_finite.Gen.facts, Cert.Pre_finite_rmsbwd.Gen.facts, Cert.Pre_finite_final.Gen.facts, Cert.Pre_finite_ffnactbwd.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.UpDxKernel.Gen.frame m ρ, fun m ρ _ => Cert.UpDxKernelIdeal.Gen.frame m ρ, UpDx.frame_reference,
  fun m ρ _ => Cert.UpDwKernel.Gen.frame m ρ, fun m ρ _ => Cert.UpDwKernelIdeal.Gen.frame m ρ, UpDw.frame_reference,
  fun m ρ _ => Cert.InDxKernel.Gen.frame m ρ, fun m ρ _ => Cert.InDxKernelIdeal.Gen.frame m ρ, InDx.frame_reference,
  fun m ρ _ => Cert.InDwKernel.Gen.frame m ρ, fun m ρ _ => Cert.InDwKernelIdeal.Gen.frame m ρ, InDw.frame_reference,
  fun m ρ _ => Cert.DownDxKernel.Gen.frame m ρ, fun m ρ _ => Cert.DownDxKernelIdeal.Gen.frame m ρ, DownDx.frame_reference,
  fun m ρ _ => Cert.DownDwKernel.Gen.frame m ρ, fun m ρ _ => Cert.DownDwKernelIdeal.Gen.frame m ρ, DownDw.frame_reference,
  fun m ρ _ => Cert.OutDxKernel.Gen.frame m ρ, fun m ρ _ => Cert.OutDxKernelIdeal.Gen.frame m ρ, OutDx.frame_reference,
  fun m ρ _ => Cert.OutDwKernel.Gen.frame m ρ, fun m ρ _ => Cert.OutDwKernelIdeal.Gen.frame m ρ, OutDw.frame_reference,
  fun m ρ _ => Cert.InKernel.Gen.frame m ρ, fun m ρ _ => Cert.InKernelIdeal.Gen.frame m ρ, In.frame_reference,
  fun m ρ _ => Cert.UpKernel.Gen.frame m ρ, fun m ρ _ => Cert.UpKernelIdeal.Gen.frame m ρ, Up.frame_reference,
  fun m ρ _ => Cert.DownKernel.Gen.frame m ρ, fun m ρ _ => Cert.DownKernelIdeal.Gen.frame m ρ, Down.frame_reference,
  fun m ρ _ => Cert.RmsBwdKernel.Gen.frame m ρ, fun m ρ _ => Cert.RmsBwdKernelIdeal.Gen.frame m ρ,
  fun m ρ _ => Cert.RmsBwdKernelIdeal.Gen.frame m ρ, RmsBwd.frame_reference, fun m ρ _ => RmsBwd.frame_reference m ρ trivial,
  fun m ρ _ => Cert.ConvFfnKernel.Gen.frame m ρ, fun m ρ _ => Cert.ConvFfnKernelIdeal.Gen.frame m ρ, ConvFfn.frame_reference,
  fun m ρ _ => Cert.ConvQkvKernel.Gen.frame m ρ, fun m ρ _ => Cert.ConvQkvKernelIdeal.Gen.frame m ρ, ConvQkv.frame_reference,
  fun m ρ _ => Cert.AdamInKernel.Gen.frame m ρ, fun m ρ _ => Cert.AdamInKernelIdeal.Gen.frame m ρ, AdamIn.frame_reference,
  fun m ρ _ => Cert.AdamUpKernel.Gen.frame m ρ, fun m ρ _ => Cert.AdamUpKernelIdeal.Gen.frame m ρ, AdamUp.frame_reference,
  fun m ρ _ => Cert.AdamOutKernel.Gen.frame m ρ, fun m ρ _ => Cert.AdamOutKernelIdeal.Gen.frame m ρ, AdamOut.frame_reference,
  fun m ρ _ => Cert.AdamDownKernel.Gen.frame m ρ, fun m ρ _ => Cert.AdamDownKernelIdeal.Gen.frame m ρ, AdamDown.frame_reference,
  fun m ρ _ => Cert.FinalKernel.Gen.frame m ρ, fun m ρ _ => Cert.FinalKernelIdeal.Gen.frame m ρ,
  fun m ρ _ => Cert.FinalKernelIdeal.Gen.frame m ρ, Final.frame_reference, fun m ρ _ => Final.frame_reference m ρ trivial,
  fun m ρ _ => Cert.RmsFwdKernel.Gen.frame m ρ, fun m ρ _ => Cert.RmsFwdKernelIdeal.Gen.frame m ρ, RmsFwd.frame_reference,
  fun m ρ _ => Cert.MixerPostKernel.Gen.frame m ρ, fun m ρ _ => Cert.MixerPostKernelIdeal.Gen.frame m ρ, MixerPost.frame_reference,
  fun m ρ _ => Cert.PoolTKernel.Gen.frame m ρ, fun m ρ _ => Cert.PoolTKernelIdeal.Gen.frame m ρ, PoolT.frame_reference,
  fun m ρ _ => Cert.FfnActKernel.Gen.frame m ρ, fun m ρ _ => Cert.FfnActKernelIdeal.Gen.frame m ρ, FfnAct.frame_reference,
  fun m ρ _ => Cert.FfnActBwdKernel.Gen.frame m ρ, fun m ρ _ => Cert.FfnActBwdKernelIdeal.Gen.frame m ρ,
  fun m ρ _ => Cert.FfnActBwdKernelIdeal.Gen.frame m ρ, FfnActBwd.frame_reference, fun m ρ _ => FfnActBwd.frame_reference m ρ trivial,
  trivial, algebraic, trivial, UpDx.algebraic, trivial, UpDw.algebraic, trivial, InDx.algebraic, trivial, InDw.algebraic,
  trivial, DownDx.algebraic, trivial, DownDw.algebraic, trivial, OutDx.algebraic, trivial, OutDw.algebraic,
  trivial, In.algebraic, trivial, Up.algebraic, trivial, Down.algebraic,
  trivial, RmsBwd.algebraic, trivial, ConvFfn.algebraic, trivial, ConvQkv.algebraic,
  AdamIn.preserves, AdamIn.algebraic, AdamUp.preserves, AdamUp.algebraic, AdamOut.preserves, AdamOut.algebraic,
  AdamDown.preserves, AdamDown.algebraic, trivial, Final.algebraic,
  trivial, RmsFwd.algebraic, trivial, MixerPost.algebraic, trivial, PoolT.algebraic, trivial, FfnAct.algebraic,
  trivial, FfnActBwd.algebraic⟩

end Cert.Proof

end
